-- ==== Defs.lean ====
def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_finite [hPre_finite : Cert.Pre_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).1 = (fun _ => 1#1)
    ∧ (Cert.Pre_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).2.1 = (fun _ => 1#1)
    ∧ (Cert.Pre_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).2.2.1 = (fun _ => 1#1)
    ∧ (Cert.Pre_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).1 = (fun _ => 1#1)
    ∧ (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.1 = (fun _ => 1#1)
    ∧ (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.1 = (fun _ => 1#1)
    ∧ (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.2 = (fun _ => 1#1)

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WQ (m : (ℓ : Loc Cert.WQ.nD Cert.WQ.τ Cert.WQ.sig) → Buf (Elt Bits) ℓ) : Prop :=
  True

def Pre_WQIdeal (m : (ℓ : Loc Cert.WQIdeal.nD Cert.WQIdeal.τ Cert.WQIdeal.sig) → Buf (Elt Ideal) ℓ) : Prop :=
  True

def Pre_WQRefIdeal (m : (ℓ : Loc Cert.WQRefIdeal.nD Cert.WQRefIdeal.τ Cert.WQRefIdeal.sig) → Buf (Elt Ideal) ℓ) : Prop :=
  True

def Pre_WMl (m : (ℓ : Loc Cert.WMl.nD Cert.WMl.τ Cert.WMl.sig) → Buf (Elt Bits) ℓ) : Prop :=
  True

def Pre_WMlIdeal (m : (ℓ : Loc Cert.WMlIdeal.nD Cert.WMlIdeal.τ Cert.WMlIdeal.sig) → Buf (Elt Ideal) ℓ) : Prop :=
  True

def Pre_WMlRefIdeal (m : (ℓ : Loc Cert.WMlRefIdeal.nD Cert.WMlRefIdeal.τ Cert.WMlRefIdeal.sig) → Buf (Elt Ideal) ℓ) : Prop :=
  True

def Pre_WSw (m : (ℓ : Loc Cert.WSw.nD Cert.WSw.τ Cert.WSw.sig) → Buf (Elt Bits) ℓ) : Prop :=
  True

def Pre_WSwIdeal (m : (ℓ : Loc Cert.WSwIdeal.nD Cert.WSwIdeal.τ Cert.WSwIdeal.sig) → Buf (Elt Ideal) ℓ) : Prop :=
  True

def Pre_WSwRefIdeal (m : (ℓ : Loc Cert.WSwRefIdeal.nD Cert.WSwRefIdeal.τ Cert.WSwRefIdeal.sig) → Buf (Elt Ideal) ℓ) : Prop :=
  True

def Pre_WWo (m : (ℓ : Loc Cert.WWo.nD Cert.WWo.τ Cert.WWo.sig) → Buf (Elt Bits) ℓ) : Prop :=
  True

def Pre_WWoIdeal (m : (ℓ : Loc Cert.WWoIdeal.nD Cert.WWoIdeal.τ Cert.WWoIdeal.sig) → Buf (Elt Ideal) ℓ) : Prop :=
  True

def Pre_WWoRefIdeal (m : (ℓ : Loc Cert.WWoRefIdeal.nD Cert.WWoRefIdeal.τ Cert.WWoRefIdeal.sig) → Buf (Elt Ideal) ℓ) : Prop :=
  True

def Pre_WHalf (m : (ℓ : Loc Cert.WHalf.nD Cert.WHalf.τ Cert.WHalf.sig) → Buf (Elt Bits) ℓ) : Prop :=
  True

def Pre_WHalfIdeal (m : (ℓ : Loc Cert.WHalfIdeal.nD Cert.WHalfIdeal.τ Cert.WHalfIdeal.sig) → Buf (Elt Ideal) ℓ) : Prop :=
  True

def Pre_WHalfRefIdeal (m : (ℓ : Loc Cert.WHalfRefIdeal.nD Cert.WHalfRefIdeal.τ Cert.WHalfRefIdeal.sig) → Buf (Elt Ideal) ℓ) : Prop :=
  True

def Pre_WKv (m : (ℓ : Loc Cert.WKv.nD Cert.WKv.τ Cert.WKv.sig) → Buf (Elt Bits) ℓ) : Prop :=
  True

def Pre_WKvIdeal (m : (ℓ : Loc Cert.WKvIdeal.nD Cert.WKvIdeal.τ Cert.WKvIdeal.sig) → Buf (Elt Ideal) ℓ) : Prop :=
  True

def Pre_WKvRefIdeal (m : (ℓ : Loc Cert.WKvRefIdeal.nD Cert.WKvRefIdeal.τ Cert.WKvRefIdeal.sig) → Buf (Elt Ideal) ℓ) : Prop :=
  True

def Pre_DHcat (m : (ℓ : Loc Cert.DHcat.nD Cert.DHcat.τ Cert.DHcat.sig) → Buf (Elt Bits) ℓ) : Prop :=
  True

def Pre_DHcatIdeal (m : (ℓ : Loc Cert.DHcatIdeal.nD Cert.DHcatIdeal.τ Cert.DHcatIdeal.sig) → Buf (Elt Ideal) ℓ) : Prop :=
  True

def Pre_DHcatRefIdeal (m : (ℓ : Loc Cert.DHcatRefIdeal.nD Cert.DHcatRefIdeal.τ Cert.DHcatRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_XaOut (m : (ℓ : Loc Cert.XaOut.nD Cert.XaOut.τ Cert.XaOut.sig) → Buf (Elt Bits) ℓ) : Prop :=
  True

def Pre_XaOutIdeal (m : (ℓ : Loc Cert.XaOutIdeal.nD Cert.XaOutIdeal.τ Cert.XaOutIdeal.sig) → Buf (Elt Ideal) ℓ) : Prop :=
  True

def Pre_XaOutRefIdeal (m : (ℓ : Loc Cert.XaOutRefIdeal.nD Cert.XaOutRefIdeal.τ Cert.XaOutRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendRefIdeal (m : (ℓ : Loc Cert.AttendRefIdeal.nD Cert.AttendRefIdeal.τ Cert.AttendRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradIdeal_finite_up [hPre_finite_up : Cert.Pre_finite_up.Facts] (m : (ℓ : Loc Cert.UpGradIdeal.nD Cert.UpGradIdeal.τ Cert.UpGradIdeal.sig) → Buf (Elt Ideal) ℓ) : Prop :=
  ∀ c : Dev Cert.UpGradIdeal.nD,
    (Cert.Pre_finite_up.fn (F := Ideal) (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg2)) (m ((c.tc : Thread Cert.UpGradIdeal.nD Cert.UpGradIdeal.τ).loc Cert.UpGradIdeal.main_arg3)) (m ((c.tc : Thread Cert.UpGradIdeal.nD Cert.UpGradIdeal.τ).loc Cert.UpGradIdeal.main_arg4)) (m ((c.tc : Thread Cert.UpGradIdeal.nD Cert.UpGradIdeal.τ).loc Cert.UpGradIdeal.main_arg5))).1 = (fun _ => 1#1)
    ∧ (Cert.Pre_finite_up.fn (F := Ideal) (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg2)) (m ((c.tc : Thread Cert.UpGradIdeal.nD Cert.UpGradIdeal.τ).loc Cert.UpGradIdeal.main_arg3)) (m ((c.tc : Thread Cert.UpGradIdeal.nD Cert.UpGradIdeal.τ).loc Cert.UpGradIdeal.main_arg4)) (m ((c.tc : Thread Cert.UpGradIdeal.nD Cert.UpGradIdeal.τ).loc Cert.UpGradIdeal.main_arg5))).2.1 = (fun _ => 1#1)
    ∧ (Cert.Pre_finite_up.fn (F := Ideal) (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg2)) (m ((c.tc : Thread Cert.UpGradIdeal.nD Cert.UpGradIdeal.τ).loc Cert.UpGradIdeal.main_arg3)) (m ((c.tc : Thread Cert.UpGradIdeal.nD Cert.UpGradIdeal.τ).loc Cert.UpGradIdeal.main_arg4)) (m ((c.tc : Thread Cert.UpGradIdeal.nD Cert.UpGradIdeal.τ).loc Cert.UpGradIdeal.main_arg5))).2.2.1 = (fun _ => 1#1)
    ∧ (Cert.Pre_finite_up.fn (F := Ideal) (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg2)) (m ((c.tc : Thread Cert.UpGradIdeal.nD Cert.UpGradIdeal.τ).loc Cert.UpGradIdeal.main_arg3)) (m ((c.tc : Thread Cert.UpGradIdeal.nD Cert.UpGradIdeal.τ).loc Cert.UpGradIdeal.main_arg4)) (m ((c.tc : Thread Cert.UpGradIdeal.nD Cert.UpGradIdeal.τ).loc Cert.UpGradIdeal.main_arg5))).2.2.2.1 = (fun _ => 1#1)
    ∧ (Cert.Pre_finite_up.fn (F := Ideal) (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg2)) (m ((c.tc : Thread Cert.UpGradIdeal.nD Cert.UpGradIdeal.τ).loc Cert.UpGradIdeal.main_arg3)) (m ((c.tc : Thread Cert.UpGradIdeal.nD Cert.UpGradIdeal.τ).loc Cert.UpGradIdeal.main_arg4)) (m ((c.tc : Thread Cert.UpGradIdeal.nD Cert.UpGradIdeal.τ).loc Cert.UpGradIdeal.main_arg5))).2.2.2.2 = (fun _ => 1#1)

def Pre_UpGradRefIdeal (m : (ℓ : Loc Cert.UpGradRefIdeal.nD Cert.UpGradRefIdeal.τ Cert.UpGradRefIdeal.sig) → Buf (Elt Ideal) ℓ) : Prop :=
  True

def Pre_UpGradRefIdeal_finite_up [hPre_finite_up : Cert.Pre_finite_up.Facts] (m : (ℓ : Loc Cert.UpGradRefIdeal.nD Cert.UpGradRefIdeal.τ Cert.UpGradRefIdeal.sig) → Buf (Elt Ideal) ℓ) : Prop :=
  ∀ c : Dev Cert.UpGradRefIdeal.nD,
    (Cert.Pre_finite_up.fn (F := Ideal) (m ((c.tc : Thread Cert.UpGradRefIdeal.nD Cert.UpGradRefIdeal.τ).loc Cert.UpGradRefIdeal.main_arg0)) (m ((c.tc : Thread Cert.UpGradRefIdeal.nD Cert.UpGradRefIdeal.τ).loc Cert.UpGradRefIdeal.main_arg1)) (m ((c.tc : Thread Cert.UpGradRefIdeal.nD Cert.UpGradRefIdeal.τ).loc Cert.UpGradRefIdeal.main_arg2)) (m ((c.tc : Thread Cert.UpGradRefIdeal.nD Cert.UpGradRefIdeal.τ).loc Cert.UpGradRefIdeal.main_arg3)) (m ((c.tc : Thread Cert.UpGradRefIdeal.nD Cert.UpGradRefIdeal.τ).loc Cert.UpGradRefIdeal.main_arg4)) (m ((c.tc : Thread Cert.UpGradRefIdeal.nD Cert.UpGradRefIdeal.τ).loc Cert.UpGradRefIdeal.main_arg5))).1 = (fun _ => 1#1)
    ∧ (Cert.Pre_finite_up.fn (F := Ideal) (m ((c.tc : Thread Cert.UpGradRefIdeal.nD Cert.UpGradRefIdeal.τ).loc Cert.UpGradRefIdeal.main_arg0)) (m ((c.tc : Thread Cert.UpGradRefIdeal.nD Cert.UpGradRefIdeal.τ).loc Cert.UpGradRefIdeal.main_arg1)) (m ((c.tc : Thread Cert.UpGradRefIdeal.nD Cert.UpGradRefIdeal.τ).loc Cert.UpGradRefIdeal.main_arg2)) (m ((c.tc : Thread Cert.UpGradRefIdeal.nD Cert.UpGradRefIdeal.τ).loc Cert.UpGradRefIdeal.main_arg3)) (m ((c.tc : Thread Cert.UpGradRefIdeal.nD Cert.UpGradRefIdeal.τ).loc Cert.UpGradRefIdeal.main_arg4)) (m ((c.tc : Thread Cert.UpGradRefIdeal.nD Cert.UpGradRefIdeal.τ).loc Cert.UpGradRefIdeal.main_arg5))).2.1 = (fun _ => 1#1)
    ∧ (Cert.Pre_finite_up.fn (F := Ideal) (m ((c.tc : Thread Cert.UpGradRefIdeal.nD Cert.UpGradRefIdeal.τ).loc Cert.UpGradRefIdeal.main_arg0)) (m ((c.tc : Thread Cert.UpGradRefIdeal.nD Cert.UpGradRefIdeal.τ).loc Cert.UpGradRefIdeal.main_arg1)) (m ((c.tc : Thread Cert.UpGradRefIdeal.nD Cert.UpGradRefIdeal.τ).loc Cert.UpGradRefIdeal.main_arg2)) (m ((c.tc : Thread Cert.UpGradRefIdeal.nD Cert.UpGradRefIdeal.τ).loc Cert.UpGradRefIdeal.main_arg3)) (m ((c.tc : Thread Cert.UpGradRefIdeal.nD Cert.UpGradRefIdeal.τ).loc Cert.UpGradRefIdeal.main_arg4)) (m ((c.tc : Thread Cert.UpGradRefIdeal.nD Cert.UpGradRefIdeal.τ).loc Cert.UpGradRefIdeal.main_arg5))).2.2.1 = (fun _ => 1#1)
    ∧ (Cert.Pre_finite_up.fn (F := Ideal) (m ((c.tc : Thread Cert.UpGradRefIdeal.nD Cert.UpGradRefIdeal.τ).loc Cert.UpGradRefIdeal.main_arg0)) (m ((c.tc : Thread Cert.UpGradRefIdeal.nD Cert.UpGradRefIdeal.τ).loc Cert.UpGradRefIdeal.main_arg1)) (m ((c.tc : Thread Cert.UpGradRefIdeal.nD Cert.UpGradRefIdeal.τ).loc Cert.UpGradRefIdeal.main_arg2)) (m ((c.tc : Thread Cert.UpGradRefIdeal.nD Cert.UpGradRefIdeal.τ).loc Cert.UpGradRefIdeal.main_arg3)) (m ((c.tc : Thread Cert.UpGradRefIdeal.nD Cert.UpGradRefIdeal.τ).loc Cert.UpGradRefIdeal.main_arg4)) (m ((c.tc : Thread Cert.UpGradRefIdeal.nD Cert.UpGradRefIdeal.τ).loc Cert.UpGradRefIdeal.main_arg5))).2.2.2.1 = (fun _ => 1#1)
    ∧ (Cert.Pre_finite_up.fn (F := Ideal) (m ((c.tc : Thread Cert.UpGradRefIdeal.nD Cert.UpGradRefIdeal.τ).loc Cert.UpGradRefIdeal.main_arg0)) (m ((c.tc : Thread Cert.UpGradRefIdeal.nD Cert.UpGradRefIdeal.τ).loc Cert.UpGradRefIdeal.main_arg1)) (m ((c.tc : Thread Cert.UpGradRefIdeal.nD Cert.UpGradRefIdeal.τ).loc Cert.UpGradRefIdeal.main_arg2)) (m ((c.tc : Thread Cert.UpGradRefIdeal.nD Cert.UpGradRefIdeal.τ).loc Cert.UpGradRefIdeal.main_arg3)) (m ((c.tc : Thread Cert.UpGradRefIdeal.nD Cert.UpGradRefIdeal.τ).loc Cert.UpGradRefIdeal.main_arg4)) (m ((c.tc : Thread Cert.UpGradRefIdeal.nD Cert.UpGradRefIdeal.τ).loc Cert.UpGradRefIdeal.main_arg5))).2.2.2.2 = (fun _ => 1#1)

def Pre_QueryGrad (m : (ℓ : Loc Cert.QueryGrad.nD Cert.QueryGrad.τ Cert.QueryGrad.sig) → Buf (Elt Bits) ℓ) : Prop :=
  True

def Pre_QueryGradIdeal (m : (ℓ : Loc Cert.QueryGradIdeal.nD Cert.QueryGradIdeal.τ Cert.QueryGradIdeal.sig) → Buf (Elt Ideal) ℓ) : Prop :=
  True

def Pre_QueryGradIdeal_finite_query [hPre_finite_query : Cert.Pre_finite_query.Facts] (m : (ℓ : Loc Cert.QueryGradIdeal.nD Cert.QueryGradIdeal.τ Cert.QueryGradIdeal.sig) → Buf (Elt Ideal) ℓ) : Prop :=
  ∀ c : Dev Cert.QueryGradIdeal.nD,
    (Cert.Pre_finite_query.fn (F := Ideal) (m ((c.tc : Thread Cert.QueryGradIdeal.nD Cert.QueryGradIdeal.τ).loc Cert.QueryGradIdeal.main_arg0)) (m ((c.tc : Thread Cert.QueryGradIdeal.nD Cert.QueryGradIdeal.τ).loc Cert.QueryGradIdeal.main_arg1)) (m ((c.tc : Thread Cert.QueryGradIdeal.nD Cert.QueryGradIdeal.τ).loc Cert.QueryGradIdeal.main_arg2)) (m ((c.tc : Thread Cert.QueryGradIdeal.nD Cert.QueryGradIdeal.τ).loc Cert.QueryGradIdeal.main_arg3)) (m ((c.tc : Thread Cert.QueryGradIdeal.nD Cert.QueryGradIdeal.τ).loc Cert.QueryGradIdeal.main_arg4))).1 = (fun _ => 1#1)
    ∧ (Cert.Pre_finite_query.fn (F := Ideal) (m ((c.tc : Thread Cert.QueryGradIdeal.nD Cert.QueryGradIdeal.τ).loc Cert.QueryGradIdeal.main_arg0)) (m ((c.tc : Thread Cert.QueryGradIdeal.nD Cert.QueryGradIdeal.τ).loc Cert.QueryGradIdeal.main_arg1)) (m ((c.tc : Thread Cert.QueryGradIdeal.nD Cert.QueryGradIdeal.τ).loc Cert.QueryGradIdeal.main_arg2)) (m ((c.tc : Thread Cert.QueryGradIdeal.nD Cert.QueryGradIdeal.τ).loc Cert.QueryGradIdeal.main_arg3)) (m ((c.tc : Thread Cert.QueryGradIdeal.nD Cert.QueryGradIdeal.τ).loc Cert.QueryGradIdeal.main_arg4))).2.1 = (fun _ => 1#1)
    ∧ (Cert.Pre_finite_query.fn (F := Ideal) (m ((c.tc : Thread Cert.QueryGradIdeal.nD Cert.QueryGradIdeal.τ).loc Cert.QueryGradIdeal.main_arg0)) (m ((c.tc : Thread Cert.QueryGradIdeal.nD Cert.QueryGradIdeal.τ).loc Cert.QueryGradIdeal.main_arg1)) (m ((c.tc : Thread Cert.QueryGradIdeal.nD Cert.QueryGradIdeal.τ).loc Cert.QueryGradIdeal.main_arg2)) (m ((c.tc : Thread Cert.QueryGradIdeal.nD Cert.QueryGradIdeal.τ).loc Cert.QueryGradIdeal.main_arg3)) (m ((c.tc : Thread Cert.QueryGradIdeal.nD Cert.QueryGradIdeal.τ).loc Cert.QueryGradIdeal.main_arg4))).2.2.1 = (fun _ => 1#1)
    ∧ (Cert.Pre_finite_query.fn (F := Ideal) (m ((c.tc : Thread Cert.QueryGradIdeal.nD Cert.QueryGradIdeal.τ).loc Cert.QueryGradIdeal.main_arg0)) (m ((c.tc : Thread Cert.QueryGradIdeal.nD Cert.QueryGradIdeal.τ).loc Cert.QueryGradIdeal.main_arg1)) (m ((c.tc : Thread Cert.QueryGradIdeal.nD Cert.QueryGradIdeal.τ).loc Cert.QueryGradIdeal.main_arg2)) (m ((c.tc : Thread Cert.QueryGradIdeal.nD Cert.QueryGradIdeal.τ).loc Cert.QueryGradIdeal.main_arg3)) (m ((c.tc : Thread Cert.QueryGradIdeal.nD Cert.QueryGradIdeal.τ).loc Cert.QueryGradIdeal.main_arg4))).2.2.2 = (fun _ => 1#1)

def Pre_QueryGradRefIdeal (m : (ℓ : Loc Cert.QueryGradRefIdeal.nD Cert.QueryGradRefIdeal.τ Cert.QueryGradRefIdeal.sig) → Buf (Elt Ideal) ℓ) : Prop :=
  True

def Pre_QueryGradRefIdeal_finite_query [hPre_finite_query : Cert.Pre_finite_query.Facts] (m : (ℓ : Loc Cert.QueryGradRefIdeal.nD Cert.QueryGradRefIdeal.τ Cert.QueryGradRefIdeal.sig) → Buf (Elt Ideal) ℓ) : Prop :=
  ∀ c : Dev Cert.QueryGradRefIdeal.nD,
    (Cert.Pre_finite_query.fn (F := Ideal) (m ((c.tc : Thread Cert.QueryGradRefIdeal.nD Cert.QueryGradRefIdeal.τ).loc Cert.QueryGradRefIdeal.main_arg0)) (m ((c.tc : Thread Cert.QueryGradRefIdeal.nD Cert.QueryGradRefIdeal.τ).loc Cert.QueryGradRefIdeal.main_arg1)) (m ((c.tc : Thread Cert.QueryGradRefIdeal.nD Cert.QueryGradRefIdeal.τ).loc Cert.QueryGradRefIdeal.main_arg2)) (m ((c.tc : Thread Cert.QueryGradRefIdeal.nD Cert.QueryGradRefIdeal.τ).loc Cert.QueryGradRefIdeal.main_arg3)) (m ((c.tc : Thread Cert.QueryGradRefIdeal.nD Cert.QueryGradRefIdeal.τ).loc Cert.QueryGradRefIdeal.main_arg4))).1 = (fun _ => 1#1)
    ∧ (Cert.Pre_finite_query.fn (F := Ideal) (m ((c.tc : Thread Cert.QueryGradRefIdeal.nD Cert.QueryGradRefIdeal.τ).loc Cert.QueryGradRefIdeal.main_arg0)) (m ((c.tc : Thread Cert.QueryGradRefIdeal.nD Cert.QueryGradRefIdeal.τ).loc Cert.QueryGradRefIdeal.main_arg1)) (m ((c.tc : Thread Cert.QueryGradRefIdeal.nD Cert.QueryGradRefIdeal.τ).loc Cert.QueryGradRefIdeal.main_arg2)) (m ((c.tc : Thread Cert.QueryGradRefIdeal.nD Cert.QueryGradRefIdeal.τ).loc Cert.QueryGradRefIdeal.main_arg3)) (m ((c.tc : Thread Cert.QueryGradRefIdeal.nD Cert.QueryGradRefIdeal.τ).loc Cert.QueryGradRefIdeal.main_arg4))).2.1 = (fun _ => 1#1)
    ∧ (Cert.Pre_finite_query.fn (F := Ideal) (m ((c.tc : Thread Cert.QueryGradRefIdeal.nD Cert.QueryGradRefIdeal.τ).loc Cert.QueryGradRefIdeal.main_arg0)) (m ((c.tc : Thread Cert.QueryGradRefIdeal.nD Cert.QueryGradRefIdeal.τ).loc Cert.QueryGradRefIdeal.main_arg1)) (m ((c.tc : Thread Cert.QueryGradRefIdeal.nD Cert.QueryGradRefIdeal.τ).loc Cert.QueryGradRefIdeal.main_arg2)) (m ((c.tc : Thread Cert.QueryGradRefIdeal.nD Cert.QueryGradRefIdeal.τ).loc Cert.QueryGradRefIdeal.main_arg3)) (m ((c.tc : Thread Cert.QueryGradRefIdeal.nD Cert.QueryGradRefIdeal.τ).loc Cert.QueryGradRefIdeal.main_arg4))).2.2.1 = (fun _ => 1#1)
    ∧ (Cert.Pre_finite_query.fn (F := Ideal) (m ((c.tc : Thread Cert.QueryGradRefIdeal.nD Cert.QueryGradRefIdeal.τ).loc Cert.QueryGradRefIdeal.main_arg0)) (m ((c.tc : Thread Cert.QueryGradRefIdeal.nD Cert.QueryGradRefIdeal.τ).loc Cert.QueryGradRefIdeal.main_arg1)) (m ((c.tc : Thread Cert.QueryGradRefIdeal.nD Cert.QueryGradRefIdeal.τ).loc Cert.QueryGradRefIdeal.main_arg2)) (m ((c.tc : Thread Cert.QueryGradRefIdeal.nD Cert.QueryGradRefIdeal.τ).loc Cert.QueryGradRefIdeal.main_arg3)) (m ((c.tc : Thread Cert.QueryGradRefIdeal.nD Cert.QueryGradRefIdeal.τ).loc Cert.QueryGradRefIdeal.main_arg4))).2.2.2 = (fun _ => 1#1)

def Pre_LayerGrad (m : (ℓ : Loc Cert.LayerGrad.nD Cert.LayerGrad.τ Cert.LayerGrad.sig) → Buf (Elt Bits) ℓ) : Prop :=
  True

def Pre_LayerGradIdeal (m : (ℓ : Loc Cert.LayerGradIdeal.nD Cert.LayerGradIdeal.τ Cert.LayerGradIdeal.sig) → Buf (Elt Ideal) ℓ) : Prop :=
  True

def Pre_LayerGradIdeal_finite_layer [hPre_finite_layer : Cert.Pre_finite_layer.Facts] (m : (ℓ : Loc Cert.LayerGradIdeal.nD Cert.LayerGradIdeal.τ Cert.LayerGradIdeal.sig) → Buf (Elt Ideal) ℓ) : Prop :=
  ∀ c : Dev Cert.LayerGradIdeal.nD,
    (Cert.Pre_finite_layer.fn (F := Ideal) (m ((c.tc : Thread Cert.LayerGradIdeal.nD Cert.LayerGradIdeal.τ).loc Cert.LayerGradIdeal.main_arg0)) (m ((c.tc : Thread Cert.LayerGradIdeal.nD Cert.LayerGradIdeal.τ).loc Cert.LayerGradIdeal.main_arg1)) (m ((c.tc : Thread Cert.LayerGradIdeal.nD Cert.LayerGradIdeal.τ).loc Cert.LayerGradIdeal.main_arg2)) (m ((c.tc : Thread Cert.LayerGradIdeal.nD Cert.LayerGradIdeal.τ).loc Cert.LayerGradIdeal.main_arg3)) (m ((c.tc : Thread Cert.LayerGradIdeal.nD Cert.LayerGradIdeal.τ).loc Cert.LayerGradIdeal.main_arg4)) (m ((c.tc : Thread Cert.LayerGradIdeal.nD Cert.LayerGradIdeal.τ).loc Cert.LayerGradIdeal.main_arg5)) (m ((c.tc : Thread Cert.LayerGradIdeal.nD Cert.LayerGradIdeal.τ).loc Cert.LayerGradIdeal.main_arg6))).1 = (fun _ => 1#1)
    ∧ (Cert.Pre_finite_layer.fn (F := Ideal) (m ((c.tc : Thread Cert.LayerGradIdeal.nD Cert.LayerGradIdeal.τ).loc Cert.LayerGradIdeal.main_arg0)) (m ((c.tc : Thread Cert.LayerGradIdeal.nD Cert.LayerGradIdeal.τ).loc Cert.LayerGradIdeal.main_arg1)) (m ((c.tc : Thread Cert.LayerGradIdeal.nD Cert.LayerGradIdeal.τ).loc Cert.LayerGradIdeal.main_arg2)) (m ((c.tc : Thread Cert.LayerGradIdeal.nD Cert.LayerGradIdeal.τ).loc Cert.LayerGradIdeal.main_arg3)) (m ((c.tc : Thread Cert.LayerGradIdeal.nD Cert.LayerGradIdeal.τ).loc Cert.LayerGradIdeal.main_arg4)) (m ((c.tc : Thread Cert.LayerGradIdeal.nD Cert.LayerGradIdeal.τ).loc Cert.LayerGradIdeal.main_arg5)) (m ((c.tc : Thread Cert.LayerGradIdeal.nD Cert.LayerGradIdeal.τ).loc Cert.LayerGradIdeal.main_arg6))).2.1 = (fun _ => 1#1)
    ∧ (Cert.Pre_finite_layer.fn (F := Ideal) (m ((c.tc : Thread Cert.LayerGradIdeal.nD Cert.LayerGradIdeal.τ).loc Cert.LayerGradIdeal.main_arg0)) (m ((c.tc : Thread Cert.LayerGradIdeal.nD Cert.LayerGradIdeal.τ).loc Cert.LayerGradIdeal.main_arg1)) (m ((c.tc : Thread Cert.LayerGradIdeal.nD Cert.LayerGradIdeal.τ).loc Cert.LayerGradIdeal.main_arg2)) (m ((c.tc : Thread Cert.LayerGradIdeal.nD Cert.LayerGradIdeal.τ).loc Cert.LayerGradIdeal.main_arg3)) (m ((c.tc : Thread Cert.LayerGradIdeal.nD Cert.LayerGradIdeal.τ).loc Cert.LayerGradIdeal.main_arg4)) (m ((c.tc : Thread Cert.LayerGradIdeal.nD Cert.LayerGradIdeal.τ).loc Cert.LayerGradIdeal.main_arg5)) (m ((c.tc : Thread Cert.LayerGradIdeal.nD Cert.LayerGradIdeal.τ).loc Cert.LayerGradIdeal.main_arg6))).2.2.1 = (fun _ => 1#1)
    ∧ (Cert.Pre_finite_layer.fn (F := Ideal) (m ((c.tc : Thread Cert.LayerGradIdeal.nD Cert.LayerGradIdeal.τ).loc Cert.LayerGradIdeal.main_arg0)) (m ((c.tc : Thread Cert.LayerGradIdeal.nD Cert.LayerGradIdeal.τ).loc Cert.LayerGradIdeal.main_arg1)) (m ((c.tc : Thread Cert.LayerGradIdeal.nD Cert.LayerGradIdeal.τ).loc Cert.LayerGradIdeal.main_arg2)) (m ((c.tc : Thread Cert.LayerGradIdeal.nD Cert.LayerGradIdeal.τ).loc Cert.LayerGradIdeal.main_arg3)) (m ((c.tc : Thread Cert.LayerGradIdeal.nD Cert.LayerGradIdeal.τ).loc Cert.LayerGradIdeal.main_arg4)) (m ((c.tc : Thread Cert.LayerGradIdeal.nD Cert.LayerGradIdeal.τ).loc Cert.LayerGradIdeal.main_arg5)) (m ((c.tc : Thread Cert.LayerGradIdeal.nD Cert.LayerGradIdeal.τ).loc Cert.LayerGradIdeal.main_arg6))).2.2.2.1 = (fun _ => 1#1)
    ∧ (Cert.Pre_finite_layer.fn (F := Ideal) (m ((c.tc : Thread Cert.LayerGradIdeal.nD Cert.LayerGradIdeal.τ).loc Cert.LayerGradIdeal.main_arg0)) (m ((c.tc : Thread Cert.LayerGradIdeal.nD Cert.LayerGradIdeal.τ).loc Cert.LayerGradIdeal.main_arg1)) (m ((c.tc : Thread Cert.LayerGradIdeal.nD Cert.LayerGradIdeal.τ).loc Cert.LayerGradIdeal.main_arg2)) (m ((c.tc : Thread Cert.LayerGradIdeal.nD Cert.LayerGradIdeal.τ).loc Cert.LayerGradIdeal.main_arg3)) (m ((c.tc : Thread Cert.LayerGradIdeal.nD Cert.LayerGradIdeal.τ).loc Cert.LayerGradIdeal.main_arg4)) (m ((c.tc : Thread Cert.LayerGradIdeal.nD Cert.LayerGradIdeal.τ).loc Cert.LayerGradIdeal.main_arg5)) (m ((c.tc : Thread Cert.LayerGradIdeal.nD Cert.LayerGradIdeal.τ).loc Cert.LayerGradIdeal.main_arg6))).2.2.2.2.1 = (fun _ => 1#1)
    ∧ (Cert.Pre_finite_layer.fn (F := Ideal) (m ((c.tc : Thread Cert.LayerGradIdeal.nD Cert.LayerGradIdeal.τ).loc Cert.LayerGradIdeal.main_arg0)) (m ((c.tc : Thread Cert.LayerGradIdeal.nD Cert.LayerGradIdeal.τ).loc Cert.LayerGradIdeal.main_arg1)) (m ((c.tc : Thread Cert.LayerGradIdeal.nD Cert.LayerGradIdeal.τ).loc Cert.LayerGradIdeal.main_arg2)) (m ((c.tc : Thread Cert.LayerGradIdeal.nD Cert.LayerGradIdeal.τ).loc Cert.LayerGradIdeal.main_arg3)) (m ((c.tc : Thread Cert.LayerGradIdeal.nD Cert.LayerGradIdeal.τ).loc Cert.LayerGradIdeal.main_arg4)) (m ((c.tc : Thread Cert.LayerGradIdeal.nD Cert.LayerGradIdeal.τ).loc Cert.LayerGradIdeal.main_arg5)) (m ((c.tc : Thread Cert.LayerGradIdeal.nD Cert.LayerGradIdeal.τ).loc Cert.LayerGradIdeal.main_arg6))).2.2.2.2.2 = (fun _ => 1#1)

def Pre_LayerGradRefIdeal (m : (ℓ : Loc Cert.LayerGradRefIdeal.nD Cert.LayerGradRefIdeal.τ Cert.LayerGradRefIdeal.sig) → Buf (Elt Ideal) ℓ) : Prop :=
  True

def Pre_LayerGradRefIdeal_finite_layer [hPre_finite_layer : Cert.Pre_finite_layer.Facts] (m : (ℓ : Loc Cert.LayerGradRefIdeal.nD Cert.LayerGradRefIdeal.τ Cert.LayerGradRefIdeal.sig) → Buf (Elt Ideal) ℓ) : Prop :=
  ∀ c : Dev Cert.LayerGradRefIdeal.nD,
    (Cert.Pre_finite_layer.fn (F := Ideal) (m ((c.tc : Thread Cert.LayerGradRefIdeal.nD Cert.LayerGradRefIdeal.τ).loc Cert.LayerGradRefIdeal.main_arg0)) (m ((c.tc : Thread Cert.LayerGradRefIdeal.nD Cert.LayerGradRefIdeal.τ).loc Cert.LayerGradRefIdeal.main_arg1)) (m ((c.tc : Thread Cert.LayerGradRefIdeal.nD Cert.LayerGradRefIdeal.τ).loc Cert.LayerGradRefIdeal.main_arg2)) (m ((c.tc : Thread Cert.LayerGradRefIdeal.nD Cert.LayerGradRefIdeal.τ).loc Cert.LayerGradRefIdeal.main_arg3)) (m ((c.tc : Thread Cert.LayerGradRefIdeal.nD Cert.LayerGradRefIdeal.τ).loc Cert.LayerGradRefIdeal.main_arg4)) (m ((c.tc : Thread Cert.LayerGradRefIdeal.nD Cert.LayerGradRefIdeal.τ).loc Cert.LayerGradRefIdeal.main_arg5)) (m ((c.tc : Thread Cert.LayerGradRefIdeal.nD Cert.LayerGradRefIdeal.τ).loc Cert.LayerGradRefIdeal.main_arg6))).1 = (fun _ => 1#1)
    ∧ (Cert.Pre_finite_layer.fn (F := Ideal) (m ((c.tc : Thread Cert.LayerGradRefIdeal.nD Cert.LayerGradRefIdeal.τ).loc Cert.LayerGradRefIdeal.main_arg0)) (m ((c.tc : Thread Cert.LayerGradRefIdeal.nD Cert.LayerGradRefIdeal.τ).loc Cert.LayerGradRefIdeal.main_arg1)) (m ((c.tc : Thread Cert.LayerGradRefIdeal.nD Cert.LayerGradRefIdeal.τ).loc Cert.LayerGradRefIdeal.main_arg2)) (m ((c.tc : Thread Cert.LayerGradRefIdeal.nD Cert.LayerGradRefIdeal.τ).loc Cert.LayerGradRefIdeal.main_arg3)) (m ((c.tc : Thread Cert.LayerGradRefIdeal.nD Cert.LayerGradRefIdeal.τ).loc Cert.LayerGradRefIdeal.main_arg4)) (m ((c.tc : Thread Cert.LayerGradRefIdeal.nD Cert.LayerGradRefIdeal.τ).loc Cert.LayerGradRefIdeal.main_arg5)) (m ((c.tc : Thread Cert.LayerGradRefIdeal.nD Cert.LayerGradRefIdeal.τ).loc Cert.LayerGradRefIdeal.main_arg6))).2.1 = (fun _ => 1#1)
    ∧ (Cert.Pre_finite_layer.fn (F := Ideal) (m ((c.tc : Thread Cert.LayerGradRefIdeal.nD Cert.LayerGradRefIdeal.τ).loc Cert.LayerGradRefIdeal.main_arg0)) (m ((c.tc : Thread Cert.LayerGradRefIdeal.nD Cert.LayerGradRefIdeal.τ).loc Cert.LayerGradRefIdeal.main_arg1)) (m ((c.tc : Thread Cert.LayerGradRefIdeal.nD Cert.LayerGradRefIdeal.τ).loc Cert.LayerGradRefIdeal.main_arg2)) (m ((c.tc : Thread Cert.LayerGradRefIdeal.nD Cert.LayerGradRefIdeal.τ).loc Cert.LayerGradRefIdeal.main_arg3)) (m ((c.tc : Thread Cert.LayerGradRefIdeal.nD Cert.LayerGradRefIdeal.τ).loc Cert.LayerGradRefIdeal.main_arg4)) (m ((c.tc : Thread Cert.LayerGradRefIdeal.nD Cert.LayerGradRefIdeal.τ).loc Cert.LayerGradRefIdeal.main_arg5)) (m ((c.tc : Thread Cert.LayerGradRefIdeal.nD Cert.LayerGradRefIdeal.τ).loc Cert.LayerGradRefIdeal.main_arg6))).2.2.1 = (fun _ => 1#1)
    ∧ (Cert.Pre_finite_layer.fn (F := Ideal) (m ((c.tc : Thread Cert.LayerGradRefIdeal.nD Cert.LayerGradRefIdeal.τ).loc Cert.LayerGradRefIdeal.main_arg0)) (m ((c.tc : Thread Cert.LayerGradRefIdeal.nD Cert.LayerGradRefIdeal.τ).loc Cert.LayerGradRefIdeal.main_arg1)) (m ((c.tc : Thread Cert.LayerGradRefIdeal.nD Cert.LayerGradRefIdeal.τ).loc Cert.LayerGradRefIdeal.main_arg2)) (m ((c.tc : Thread Cert.LayerGradRefIdeal.nD Cert.LayerGradRefIdeal.τ).loc Cert.LayerGradRefIdeal.main_arg3)) (m ((c.tc : Thread Cert.LayerGradRefIdeal.nD Cert.LayerGradRefIdeal.τ).loc Cert.LayerGradRefIdeal.main_arg4)) (m ((c.tc : Thread Cert.LayerGradRefIdeal.nD Cert.LayerGradRefIdeal.τ).loc Cert.LayerGradRefIdeal.main_arg5)) (m ((c.tc : Thread Cert.LayerGradRefIdeal.nD Cert.LayerGradRefIdeal.τ).loc Cert.LayerGradRefIdeal.main_arg6))).2.2.2.1 = (fun _ => 1#1)
    ∧ (Cert.Pre_finite_layer.fn (F := Ideal) (m ((c.tc : Thread Cert.LayerGradRefIdeal.nD Cert.LayerGradRefIdeal.τ).loc Cert.LayerGradRefIdeal.main_arg0)) (m ((c.tc : Thread Cert.LayerGradRefIdeal.nD Cert.LayerGradRefIdeal.τ).loc Cert.LayerGradRefIdeal.main_arg1)) (m ((c.tc : Thread Cert.LayerGradRefIdeal.nD Cert.LayerGradRefIdeal.τ).loc Cert.LayerGradRefIdeal.main_arg2)) (m ((c.tc : Thread Cert.LayerGradRefIdeal.nD Cert.LayerGradRefIdeal.τ).loc Cert.LayerGradRefIdeal.main_arg3)) (m ((c.tc : Thread Cert.LayerGradRefIdeal.nD Cert.LayerGradRefIdeal.τ).loc Cert.LayerGradRefIdeal.main_arg4)) (m ((c.tc : Thread Cert.LayerGradRefIdeal.nD Cert.LayerGradRefIdeal.τ).loc Cert.LayerGradRefIdeal.main_arg5)) (m ((c.tc : Thread Cert.LayerGradRefIdeal.nD Cert.LayerGradRefIdeal.τ).loc Cert.LayerGradRefIdeal.main_arg6))).2.2.2.2.1 = (fun _ => 1#1)
    ∧ (Cert.Pre_finite_layer.fn (F := Ideal) (m ((c.tc : Thread Cert.LayerGradRefIdeal.nD Cert.LayerGradRefIdeal.τ).loc Cert.LayerGradRefIdeal.main_arg0)) (m ((c.tc : Thread Cert.LayerGradRefIdeal.nD Cert.LayerGradRefIdeal.τ).loc Cert.LayerGradRefIdeal.main_arg1)) (m ((c.tc : Thread Cert.LayerGradRefIdeal.nD Cert.LayerGradRefIdeal.τ).loc Cert.LayerGradRefIdeal.main_arg2)) (m ((c.tc : Thread Cert.LayerGradRefIdeal.nD Cert.LayerGradRefIdeal.τ).loc Cert.LayerGradRefIdeal.main_arg3)) (m ((c.tc : Thread Cert.LayerGradRefIdeal.nD Cert.LayerGradRefIdeal.τ).loc Cert.LayerGradRefIdeal.main_arg4)) (m ((c.tc : Thread Cert.LayerGradRefIdeal.nD Cert.LayerGradRefIdeal.τ).loc Cert.LayerGradRefIdeal.main_arg5)) (m ((c.tc : Thread Cert.LayerGradRefIdeal.nD Cert.LayerGradRefIdeal.τ).loc Cert.LayerGradRefIdeal.main_arg6))).2.2.2.2.2 = (fun _ => 1#1)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2)
      ∧ r.2.mem ((c.tc : Thread Cert.SwaBwd.nD Cert.SwaBwd.τ).loc Cert.SwaBwd.main_arg3) = m ((c.tc : Thread Cert.SwaBwd.nD Cert.SwaBwd.τ).loc Cert.SwaBwd.main_arg3))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ r.2.sem = fun _ => 0)

def quiescent_SwaBwdIdeal_pre_finite [hSwaBwdIdeal : Cert.SwaBwdIdeal.Facts] [hPre_finite : Cert.Pre_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WQ [hWQ : Cert.WQ.Facts] : Prop :=
  ∀ (m : (ℓ : Loc Cert.WQ.nD Cert.WQ.τ Cert.WQ.sig) → Buf (Elt Bits) ℓ) (g : Dev Cert.WQ.nD → PrngReg), Pre_WQ m →
    θ_run (Cert.WQ.defs (F := Bits)) (onTc (τ := Cert.WQ.τ) (Cert.WQ.main (F := Bits))) ⟨m, fun _ => 0, g⟩ (fun r => (∀ c : Dev Cert.WQ.nD,
      r.2.mem ((c.tc : Thread Cert.WQ.nD Cert.WQ.τ).loc Cert.WQ.main_arg0) = m ((c.tc : Thread Cert.WQ.nD Cert.WQ.τ).loc Cert.WQ.main_arg0)
      ∧ r.2.mem ((c.tc : Thread Cert.WQ.nD Cert.WQ.τ).loc Cert.WQ.main_arg1) = m ((c.tc : Thread Cert.WQ.nD Cert.WQ.τ).loc Cert.WQ.main_arg1))
      ∧ r.2.sem = fun _ => 0)

def quiescent_WQIdeal [hWQIdeal : Cert.WQIdeal.Facts] : Prop :=
  ∀ (m : (ℓ : Loc Cert.WQIdeal.nD Cert.WQIdeal.τ Cert.WQIdeal.sig) → Buf (Elt Ideal) ℓ) (g : Dev Cert.WQIdeal.nD → PrngReg), Pre_WQIdeal m →
    θ_run (Cert.WQIdeal.defs (F := Ideal)) (onTc (τ := Cert.WQIdeal.τ) (Cert.WQIdeal.main (F := Ideal))) ⟨m, fun _ => 0, g⟩ (fun r => (∀ c : Dev Cert.WQIdeal.nD,
      r.2.mem ((c.tc : Thread Cert.WQIdeal.nD Cert.WQIdeal.τ).loc Cert.WQIdeal.main_arg0) = m ((c.tc : Thread Cert.WQIdeal.nD Cert.WQIdeal.τ).loc Cert.WQIdeal.main_arg0)
      ∧ r.2.mem ((c.tc : Thread Cert.WQIdeal.nD Cert.WQIdeal.τ).loc Cert.WQIdeal.main_arg1) = m ((c.tc : Thread Cert.WQIdeal.nD Cert.WQIdeal.τ).loc Cert.WQIdeal.main_arg1))
      ∧ r.2.sem = fun _ => 0)

def quiescent_WQRefIdeal [hWQRefIdeal : Cert.WQRefIdeal.Facts] : Prop :=
  ∀ (m : (ℓ : Loc Cert.WQRefIdeal.nD Cert.WQRefIdeal.τ Cert.WQRefIdeal.sig) → Buf (Elt Ideal) ℓ) (g : Dev Cert.WQRefIdeal.nD → PrngReg), Pre_WQRefIdeal m →
    θ_run (Cert.WQRefIdeal.defs (F := Ideal)) (onTc (τ := Cert.WQRefIdeal.τ) (Cert.WQRefIdeal.main (F := Ideal))) ⟨m, fun _ => 0, g⟩ (fun r => (∀ c : Dev Cert.WQRefIdeal.nD,
      r.2.mem ((c.tc : Thread Cert.WQRefIdeal.nD Cert.WQRefIdeal.τ).loc Cert.WQRefIdeal.main_arg0) = m ((c.tc : Thread Cert.WQRefIdeal.nD Cert.WQRefIdeal.τ).loc Cert.WQRefIdeal.main_arg0)
      ∧ r.2.mem ((c.tc : Thread Cert.WQRefIdeal.nD Cert.WQRefIdeal.τ).loc Cert.WQRefIdeal.main_arg1) = m ((c.tc : Thread Cert.WQRefIdeal.nD Cert.WQRefIdeal.τ).loc Cert.WQRefIdeal.main_arg1))
      ∧ r.2.sem = fun _ => 0)

def quiescent_WMl [hWMl : Cert.WMl.Facts] : Prop :=
  ∀ (m : (ℓ : Loc Cert.WMl.nD Cert.WMl.τ Cert.WMl.sig) → Buf (Elt Bits) ℓ) (g : Dev Cert.WMl.nD → PrngReg), Pre_WMl m →
    θ_run (Cert.WMl.defs (F := Bits)) (onTc (τ := Cert.WMl.τ) (Cert.WMl.main (F := Bits))) ⟨m, fun _ => 0, g⟩ (fun r => (∀ c : Dev Cert.WMl.nD,
      r.2.mem ((c.tc : Thread Cert.WMl.nD Cert.WMl.τ).loc Cert.WMl.main_arg0) = m ((c.tc : Thread Cert.WMl.nD Cert.WMl.τ).loc Cert.WMl.main_arg0)
      ∧ r.2.mem ((c.tc : Thread Cert.WMl.nD Cert.WMl.τ).loc Cert.WMl.main_arg1) = m ((c.tc : Thread Cert.WMl.nD Cert.WMl.τ).loc Cert.WMl.main_arg1))
      ∧ r.2.sem = fun _ => 0)

def quiescent_WMlIdeal [hWMlIdeal : Cert.WMlIdeal.Facts] : Prop :=
  ∀ (m : (ℓ : Loc Cert.WMlIdeal.nD Cert.WMlIdeal.τ Cert.WMlIdeal.sig) → Buf (Elt Ideal) ℓ) (g : Dev Cert.WMlIdeal.nD → PrngReg), Pre_WMlIdeal m →
    θ_run (Cert.WMlIdeal.defs (F := Ideal)) (onTc (τ := Cert.WMlIdeal.τ) (Cert.WMlIdeal.main (F := Ideal))) ⟨m, fun _ => 0, g⟩ (fun r => (∀ c : Dev Cert.WMlIdeal.nD,
      r.2.mem ((c.tc : Thread Cert.WMlIdeal.nD Cert.WMlIdeal.τ).loc Cert.WMlIdeal.main_arg0) = m ((c.tc : Thread Cert.WMlIdeal.nD Cert.WMlIdeal.τ).loc Cert.WMlIdeal.main_arg0)
      ∧ r.2.mem ((c.tc : Thread Cert.WMlIdeal.nD Cert.WMlIdeal.τ).loc Cert.WMlIdeal.main_arg1) = m ((c.tc : Thread Cert.WMlIdeal.nD Cert.WMlIdeal.τ).loc Cert.WMlIdeal.main_arg1))
      ∧ r.2.sem = fun _ => 0)

def quiescent_WMlRefIdeal [hWMlRefIdeal : Cert.WMlRefIdeal.Facts] : Prop :=
  ∀ (m : (ℓ : Loc Cert.WMlRefIdeal.nD Cert.WMlRefIdeal.τ Cert.WMlRefIdeal.sig) → Buf (Elt Ideal) ℓ) (g : Dev Cert.WMlRefIdeal.nD → PrngReg), Pre_WMlRefIdeal m →
    θ_run (Cert.WMlRefIdeal.defs (F := Ideal)) (onTc (τ := Cert.WMlRefIdeal.τ) (Cert.WMlRefIdeal.main (F := Ideal))) ⟨m, fun _ => 0, g⟩ (fun r => (∀ c : Dev Cert.WMlRefIdeal.nD,
      r.2.mem ((c.tc : Thread Cert.WMlRefIdeal.nD Cert.WMlRefIdeal.τ).loc Cert.WMlRefIdeal.main_arg0) = m ((c.tc : Thread Cert.WMlRefIdeal.nD Cert.WMlRefIdeal.τ).loc Cert.WMlRefIdeal.main_arg0)
      ∧ r.2.mem ((c.tc : Thread Cert.WMlRefIdeal.nD Cert.WMlRefIdeal.τ).loc Cert.WMlRefIdeal.main_arg1) = m ((c.tc : Thread Cert.WMlRefIdeal.nD Cert.WMlRefIdeal.τ).loc Cert.WMlRefIdeal.main_arg1))
      ∧ r.2.sem = fun _ => 0)

def quiescent_WSw [hWSw : Cert.WSw.Facts] : Prop :=
  ∀ (m : (ℓ : Loc Cert.WSw.nD Cert.WSw.τ Cert.WSw.sig) → Buf (Elt Bits) ℓ) (g : Dev Cert.WSw.nD → PrngReg), Pre_WSw m →
    θ_run (Cert.WSw.defs (F := Bits)) (onTc (τ := Cert.WSw.τ) (Cert.WSw.main (F := Bits))) ⟨m, fun _ => 0, g⟩ (fun r => (∀ c : Dev Cert.WSw.nD,
      r.2.mem ((c.tc : Thread Cert.WSw.nD Cert.WSw.τ).loc Cert.WSw.main_arg0) = m ((c.tc : Thread Cert.WSw.nD Cert.WSw.τ).loc Cert.WSw.main_arg0)
      ∧ r.2.mem ((c.tc : Thread Cert.WSw.nD Cert.WSw.τ).loc Cert.WSw.main_arg1) = m ((c.tc : Thread Cert.WSw.nD Cert.WSw.τ).loc Cert.WSw.main_arg1))
      ∧ r.2.sem = fun _ => 0)

def quiescent_WSwIdeal [hWSwIdeal : Cert.WSwIdeal.Facts] : Prop :=
  ∀ (m : (ℓ : Loc Cert.WSwIdeal.nD Cert.WSwIdeal.τ Cert.WSwIdeal.sig) → Buf (Elt Ideal) ℓ) (g : Dev Cert.WSwIdeal.nD → PrngReg), Pre_WSwIdeal m →
    θ_run (Cert.WSwIdeal.defs (F := Ideal)) (onTc (τ := Cert.WSwIdeal.τ) (Cert.WSwIdeal.main (F := Ideal))) ⟨m, fun _ => 0, g⟩ (fun r => (∀ c : Dev Cert.WSwIdeal.nD,
      r.2.mem ((c.tc : Thread Cert.WSwIdeal.nD Cert.WSwIdeal.τ).loc Cert.WSwIdeal.main_arg0) = m ((c.tc : Thread Cert.WSwIdeal.nD Cert.WSwIdeal.τ).loc Cert.WSwIdeal.main_arg0)
      ∧ r.2.mem ((c.tc : Thread Cert.WSwIdeal.nD Cert.WSwIdeal.τ).loc Cert.WSwIdeal.main_arg1) = m ((c.tc : Thread Cert.WSwIdeal.nD Cert.WSwIdeal.τ).loc Cert.WSwIdeal.main_arg1))
      ∧ r.2.sem = fun _ => 0)

def quiescent_WSwRefIdeal [hWSwRefIdeal : Cert.WSwRefIdeal.Facts] : Prop :=
  ∀ (m : (ℓ : Loc Cert.WSwRefIdeal.nD Cert.WSwRefIdeal.τ Cert.WSwRefIdeal.sig) → Buf (Elt Ideal) ℓ) (g : Dev Cert.WSwRefIdeal.nD → PrngReg), Pre_WSwRefIdeal m →
    θ_run (Cert.WSwRefIdeal.defs (F := Ideal)) (onTc (τ := Cert.WSwRefIdeal.τ) (Cert.WSwRefIdeal.main (F := Ideal))) ⟨m, fun _ => 0, g⟩ (fun r => (∀ c : Dev Cert.WSwRefIdeal.nD,
      r.2.mem ((c.tc : Thread Cert.WSwRefIdeal.nD Cert.WSwRefIdeal.τ).loc Cert.WSwRefIdeal.main_arg0) = m ((c.tc : Thread Cert.WSwRefIdeal.nD Cert.WSwRefIdeal.τ).loc Cert.WSwRefIdeal.main_arg0)
      ∧ r.2.mem ((c.tc : Thread Cert.WSwRefIdeal.nD Cert.WSwRefIdeal.τ).loc Cert.WSwRefIdeal.main_arg1) = m ((c.tc : Thread Cert.WSwRefIdeal.nD Cert.WSwRefIdeal.τ).loc Cert.WSwRefIdeal.main_arg1))
      ∧ r.2.sem = fun _ => 0)

def quiescent_WWo [hWWo : Cert.WWo.Facts] : Prop :=
  ∀ (m : (ℓ : Loc Cert.WWo.nD Cert.WWo.τ Cert.WWo.sig) → Buf (Elt Bits) ℓ) (g : Dev Cert.WWo.nD → PrngReg), Pre_WWo m →
    θ_run (Cert.WWo.defs (F := Bits)) (onTc (τ := Cert.WWo.τ) (Cert.WWo.main (F := Bits))) ⟨m, fun _ => 0, g⟩ (fun r => (∀ c : Dev Cert.WWo.nD,
      r.2.mem ((c.tc : Thread Cert.WWo.nD Cert.WWo.τ).loc Cert.WWo.main_arg0) = m ((c.tc : Thread Cert.WWo.nD Cert.WWo.τ).loc Cert.WWo.main_arg0)
      ∧ r.2.mem ((c.tc : Thread Cert.WWo.nD Cert.WWo.τ).loc Cert.WWo.main_arg1) = m ((c.tc : Thread Cert.WWo.nD Cert.WWo.τ).loc Cert.WWo.main_arg1))
      ∧ r.2.sem = fun _ => 0)

def quiescent_WWoIdeal [hWWoIdeal : Cert.WWoIdeal.Facts] : Prop :=
  ∀ (m : (ℓ : Loc Cert.WWoIdeal.nD Cert.WWoIdeal.τ Cert.WWoIdeal.sig) → Buf (Elt Ideal) ℓ) (g : Dev Cert.WWoIdeal.nD → PrngReg), Pre_WWoIdeal m →
    θ_run (Cert.WWoIdeal.defs (F := Ideal)) (onTc (τ := Cert.WWoIdeal.τ) (Cert.WWoIdeal.main (F := Ideal))) ⟨m, fun _ => 0, g⟩ (fun r => (∀ c : Dev Cert.WWoIdeal.nD,
      r.2.mem ((c.tc : Thread Cert.WWoIdeal.nD Cert.WWoIdeal.τ).loc Cert.WWoIdeal.main_arg0) = m ((c.tc : Thread Cert.WWoIdeal.nD Cert.WWoIdeal.τ).loc Cert.WWoIdeal.main_arg0)
      ∧ r.2.mem ((c.tc : Thread Cert.WWoIdeal.nD Cert.WWoIdeal.τ).loc Cert.WWoIdeal.main_arg1) = m ((c.tc : Thread Cert.WWoIdeal.nD Cert.WWoIdeal.τ).loc Cert.WWoIdeal.main_arg1))
      ∧ r.2.sem = fun _ => 0)

def quiescent_WWoRefIdeal [hWWoRefIdeal : Cert.WWoRefIdeal.Facts] : Prop :=
  ∀ (m : (ℓ : Loc Cert.WWoRefIdeal.nD Cert.WWoRefIdeal.τ Cert.WWoRefIdeal.sig) → Buf (Elt Ideal) ℓ) (g : Dev Cert.WWoRefIdeal.nD → PrngReg), Pre_WWoRefIdeal m →
    θ_run (Cert.WWoRefIdeal.defs (F := Ideal)) (onTc (τ := Cert.WWoRefIdeal.τ) (Cert.WWoRefIdeal.main (F := Ideal))) ⟨m, fun _ => 0, g⟩ (fun r => (∀ c : Dev Cert.WWoRefIdeal.nD,
      r.2.mem ((c.tc : Thread Cert.WWoRefIdeal.nD Cert.WWoRefIdeal.τ).loc Cert.WWoRefIdeal.main_arg0) = m ((c.tc : Thread Cert.WWoRefIdeal.nD Cert.WWoRefIdeal.τ).loc Cert.WWoRefIdeal.main_arg0)
      ∧ r.2.mem ((c.tc : Thread Cert.WWoRefIdeal.nD Cert.WWoRefIdeal.τ).loc Cert.WWoRefIdeal.main_arg1) = m ((c.tc : Thread Cert.WWoRefIdeal.nD Cert.WWoRefIdeal.τ).loc Cert.WWoRefIdeal.main_arg1))
      ∧ r.2.sem = fun _ => 0)

def quiescent_WHalf [hWHalf : Cert.WHalf.Facts] : Prop :=
  ∀ (m : (ℓ : Loc Cert.WHalf.nD Cert.WHalf.τ Cert.WHalf.sig) → Buf (Elt Bits) ℓ) (g : Dev Cert.WHalf.nD → PrngReg), Pre_WHalf m →
    θ_run (Cert.WHalf.defs (F := Bits)) (onTc (τ := Cert.WHalf.τ) (Cert.WHalf.main (F := Bits))) ⟨m, fun _ => 0, g⟩ (fun r => (∀ c : Dev Cert.WHalf.nD,
      r.2.mem ((c.tc : Thread Cert.WHalf.nD Cert.WHalf.τ).loc Cert.WHalf.main_arg0) = m ((c.tc : Thread Cert.WHalf.nD Cert.WHalf.τ).loc Cert.WHalf.main_arg0)
      ∧ r.2.mem ((c.tc : Thread Cert.WHalf.nD Cert.WHalf.τ).loc Cert.WHalf.main_arg1) = m ((c.tc : Thread Cert.WHalf.nD Cert.WHalf.τ).loc Cert.WHalf.main_arg1))
      ∧ r.2.sem = fun _ => 0)

def quiescent_WHalfIdeal [hWHalfIdeal : Cert.WHalfIdeal.Facts] : Prop :=
  ∀ (m : (ℓ : Loc Cert.WHalfIdeal.nD Cert.WHalfIdeal.τ Cert.WHalfIdeal.sig) → Buf (Elt Ideal) ℓ) (g : Dev Cert.WHalfIdeal.nD → PrngReg), Pre_WHalfIdeal m →
    θ_run (Cert.WHalfIdeal.defs (F := Ideal)) (onTc (τ := Cert.WHalfIdeal.τ) (Cert.WHalfIdeal.main (F := Ideal))) ⟨m, fun _ => 0, g⟩ (fun r => (∀ c : Dev Cert.WHalfIdeal.nD,
      r.2.mem ((c.tc : Thread Cert.WHalfIdeal.nD Cert.WHalfIdeal.τ).loc Cert.WHalfIdeal.main_arg0) = m ((c.tc : Thread Cert.WHalfIdeal.nD Cert.WHalfIdeal.τ).loc Cert.WHalfIdeal.main_arg0)
      ∧ r.2.mem ((c.tc : Thread Cert.WHalfIdeal.nD Cert.WHalfIdeal.τ).loc Cert.WHalfIdeal.main_arg1) = m ((c.tc : Thread Cert.WHalfIdeal.nD Cert.WHalfIdeal.τ).loc Cert.WHalfIdeal.main_arg1))
      ∧ r.2.sem = fun _ => 0)

def quiescent_WHalfRefIdeal [hWHalfRefIdeal : Cert.WHalfRefIdeal.Facts] : Prop :=
  ∀ (m : (ℓ : Loc Cert.WHalfRefIdeal.nD Cert.WHalfRefIdeal.τ Cert.WHalfRefIdeal.sig) → Buf (Elt Ideal) ℓ) (g : Dev Cert.WHalfRefIdeal.nD → PrngReg), Pre_WHalfRefIdeal m →
    θ_run (Cert.WHalfRefIdeal.defs (F := Ideal)) (onTc (τ := Cert.WHalfRefIdeal.τ) (Cert.WHalfRefIdeal.main (F := Ideal))) ⟨m, fun _ => 0, g⟩ (fun r => (∀ c : Dev Cert.WHalfRefIdeal.nD,
      r.2.mem ((c.tc : Thread Cert.WHalfRefIdeal.nD Cert.WHalfRefIdeal.τ).loc Cert.WHalfRefIdeal.main_arg0) = m ((c.tc : Thread Cert.WHalfRefIdeal.nD Cert.WHalfRefIdeal.τ).loc Cert.WHalfRefIdeal.main_arg0)
      ∧ r.2.mem ((c.tc : Thread Cert.WHalfRefIdeal.nD Cert.WHalfRefIdeal.τ).loc Cert.WHalfRefIdeal.main_arg1) = m ((c.tc : Thread Cert.WHalfRefIdeal.nD Cert.WHalfRefIdeal.τ).loc Cert.WHalfRefIdeal.main_arg1))
      ∧ r.2.sem = fun _ => 0)

def quiescent_WKv [hWKv : Cert.WKv.Facts] : Prop :=
  ∀ (m : (ℓ : Loc Cert.WKv.nD Cert.WKv.τ Cert.WKv.sig) → Buf (Elt Bits) ℓ) (g : Dev Cert.WKv.nD → PrngReg), Pre_WKv m →
    θ_run (Cert.WKv.defs (F := Bits)) (onTc (τ := Cert.WKv.τ) (Cert.WKv.main (F := Bits))) ⟨m, fun _ => 0, g⟩ (fun r => (∀ c : Dev Cert.WKv.nD,
      r.2.mem ((c.tc : Thread Cert.WKv.nD Cert.WKv.τ).loc Cert.WKv.main_arg0) = m ((c.tc : Thread Cert.WKv.nD Cert.WKv.τ).loc Cert.WKv.main_arg0)
      ∧ r.2.mem ((c.tc : Thread Cert.WKv.nD Cert.WKv.τ).loc Cert.WKv.main_arg1) = m ((c.tc : Thread Cert.WKv.nD Cert.WKv.τ).loc Cert.WKv.main_arg1))
      ∧ r.2.sem = fun _ => 0)

def quiescent_WKvIdeal [hWKvIdeal : Cert.WKvIdeal.Facts] : Prop :=
  ∀ (m : (ℓ : Loc Cert.WKvIdeal.nD Cert.WKvIdeal.τ Cert.WKvIdeal.sig) → Buf (Elt Ideal) ℓ) (g : Dev Cert.WKvIdeal.nD → PrngReg), Pre_WKvIdeal m →
    θ_run (Cert.WKvIdeal.defs (F := Ideal)) (onTc (τ := Cert.WKvIdeal.τ) (Cert.WKvIdeal.main (F := Ideal))) ⟨m, fun _ => 0, g⟩ (fun r => (∀ c : Dev Cert.WKvIdeal.nD,
      r.2.mem ((c.tc : Thread Cert.WKvIdeal.nD Cert.WKvIdeal.τ).loc Cert.WKvIdeal.main_arg0) = m ((c.tc : Thread Cert.WKvIdeal.nD Cert.WKvIdeal.τ).loc Cert.WKvIdeal.main_arg0)
      ∧ r.2.mem ((c.tc : Thread Cert.WKvIdeal.nD Cert.WKvIdeal.τ).loc Cert.WKvIdeal.main_arg1) = m ((c.tc : Thread Cert.WKvIdeal.nD Cert.WKvIdeal.τ).loc Cert.WKvIdeal.main_arg1))
      ∧ r.2.sem = fun _ => 0)

def quiescent_WKvRefIdeal [hWKvRefIdeal : Cert.WKvRefIdeal.Facts] : Prop :=
  ∀ (m : (ℓ : Loc Cert.WKvRefIdeal.nD Cert.WKvRefIdeal.τ Cert.WKvRefIdeal.sig) → Buf (Elt Ideal) ℓ) (g : Dev Cert.WKvRefIdeal.nD → PrngReg), Pre_WKvRefIdeal m →
    θ_run (Cert.WKvRefIdeal.defs (F := Ideal)) (onTc (τ := Cert.WKvRefIdeal.τ) (Cert.WKvRefIdeal.main (F := Ideal))) ⟨m, fun _ => 0, g⟩ (fun r => (∀ c : Dev Cert.WKvRefIdeal.nD,
      r.2.mem ((c.tc : Thread Cert.WKvRefIdeal.nD Cert.WKvRefIdeal.τ).loc Cert.WKvRefIdeal.main_arg0) = m ((c.tc : Thread Cert.WKvRefIdeal.nD Cert.WKvRefIdeal.τ).loc Cert.WKvRefIdeal.main_arg0)
      ∧ r.2.mem ((c.tc : Thread Cert.WKvRefIdeal.nD Cert.WKvRefIdeal.τ).loc Cert.WKvRefIdeal.main_arg1) = m ((c.tc : Thread Cert.WKvRefIdeal.nD Cert.WKvRefIdeal.τ).loc Cert.WKvRefIdeal.main_arg1))
      ∧ r.2.sem = fun _ => 0)

def quiescent_DHcat [hDHcat : Cert.DHcat.Facts] : Prop :=
  ∀ (m : (ℓ : Loc Cert.DHcat.nD Cert.DHcat.τ Cert.DHcat.sig) → Buf (Elt Bits) ℓ) (g : Dev Cert.DHcat.nD → PrngReg), Pre_DHcat m →
    θ_run (Cert.DHcat.defs (F := Bits)) (onTc (τ := Cert.DHcat.τ) (Cert.DHcat.main (F := Bits))) ⟨m, fun _ => 0, g⟩ (fun r => (∀ c : Dev Cert.DHcat.nD,
      r.2.mem ((c.tc : Thread Cert.DHcat.nD Cert.DHcat.τ).loc Cert.DHcat.main_arg0) = m ((c.tc : Thread Cert.DHcat.nD Cert.DHcat.τ).loc Cert.DHcat.main_arg0)
      ∧ r.2.mem ((c.tc : Thread Cert.DHcat.nD Cert.DHcat.τ).loc Cert.DHcat.main_arg1) = m ((c.tc : Thread Cert.DHcat.nD Cert.DHcat.τ).loc Cert.DHcat.main_arg1))
      ∧ r.2.sem = fun _ => 0)

def quiescent_DHcatIdeal [hDHcatIdeal : Cert.DHcatIdeal.Facts] : Prop :=
  ∀ (m : (ℓ : Loc Cert.DHcatIdeal.nD Cert.DHcatIdeal.τ Cert.DHcatIdeal.sig) → Buf (Elt Ideal) ℓ) (g : Dev Cert.DHcatIdeal.nD → PrngReg), Pre_DHcatIdeal m →
    θ_run (Cert.DHcatIdeal.defs (F := Ideal)) (onTc (τ := Cert.DHcatIdeal.τ) (Cert.DHcatIdeal.main (F := Ideal))) ⟨m, fun _ => 0, g⟩ (fun r => (∀ c : Dev Cert.DHcatIdeal.nD,
      r.2.mem ((c.tc : Thread Cert.DHcatIdeal.nD Cert.DHcatIdeal.τ).loc Cert.DHcatIdeal.main_arg0) = m ((c.tc : Thread Cert.DHcatIdeal.nD Cert.DHcatIdeal.τ).loc Cert.DHcatIdeal.main_arg0)
      ∧ r.2.mem ((c.tc : Thread Cert.DHcatIdeal.nD Cert.DHcatIdeal.τ).loc Cert.DHcatIdeal.main_arg1) = m ((c.tc : Thread Cert.DHcatIdeal.nD Cert.DHcatIdeal.τ).loc Cert.DHcatIdeal.main_arg1))
      ∧ r.2.sem = fun _ => 0)

def quiescent_DHcatRefIdeal [hDHcatRefIdeal : Cert.DHcatRefIdeal.Facts] : Prop :=
  ∀ (m : (ℓ : Loc Cert.DHcatRefIdeal.nD Cert.DHcatRefIdeal.τ Cert.DHcatRefIdeal.sig) → Buf (Elt Ideal) ℓ) (g : Dev Cert.DHcatRefIdeal.nD → PrngReg), Pre_DHcatRefIdeal m →
    θ_run (Cert.DHcatRefIdeal.defs (F := Ideal)) (onTc (τ := Cert.DHcatRefIdeal.τ) (Cert.DHcatRefIdeal.main (F := Ideal))) ⟨m, fun _ => 0, g⟩ (fun r => (∀ c : Dev Cert.DHcatRefIdeal.nD,
      r.2.mem ((c.tc : Thread Cert.DHcatRefIdeal.nD Cert.DHcatRefIdeal.τ).loc Cert.DHcatRefIdeal.main_arg0) = m ((c.tc : Thread Cert.DHcatRefIdeal.nD Cert.DHcatRefIdeal.τ).loc Cert.DHcatRefIdeal.main_arg0)
      ∧ r.2.mem ((c.tc : Thread Cert.DHcatRefIdeal.nD Cert.DHcatRefIdeal.τ).loc Cert.DHcatRefIdeal.main_arg1) = m ((c.tc : Thread Cert.DHcatRefIdeal.nD Cert.DHcatRefIdeal.τ).loc Cert.DHcatRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_XaOut [hXaOut : Cert.XaOut.Facts] : Prop :=
  ∀ (m : (ℓ : Loc Cert.XaOut.nD Cert.XaOut.τ Cert.XaOut.sig) → Buf (Elt Bits) ℓ) (g : Dev Cert.XaOut.nD → PrngReg), Pre_XaOut m →
    θ_run (Cert.XaOut.defs (F := Bits)) (onTc (τ := Cert.XaOut.τ) (Cert.XaOut.main (F := Bits))) ⟨m, fun _ => 0, g⟩ (fun r => (∀ c : Dev Cert.XaOut.nD,
      r.2.mem ((c.tc : Thread Cert.XaOut.nD Cert.XaOut.τ).loc Cert.XaOut.main_arg0) = m ((c.tc : Thread Cert.XaOut.nD Cert.XaOut.τ).loc Cert.XaOut.main_arg0)
      ∧ r.2.mem ((c.tc : Thread Cert.XaOut.nD Cert.XaOut.τ).loc Cert.XaOut.main_arg1) = m ((c.tc : Thread Cert.XaOut.nD Cert.XaOut.τ).loc Cert.XaOut.main_arg1)
      ∧ r.2.mem ((c.tc : Thread Cert.XaOut.nD Cert.XaOut.τ).loc Cert.XaOut.main_arg2) = m ((c.tc : Thread Cert.XaOut.nD Cert.XaOut.τ).loc Cert.XaOut.main_arg2)
      ∧ r.2.mem ((c.tc : Thread Cert.XaOut.nD Cert.XaOut.τ).loc Cert.XaOut.main_arg3) = m ((c.tc : Thread Cert.XaOut.nD Cert.XaOut.τ).loc Cert.XaOut.main_arg3)
      ∧ r.2.mem ((c.tc : Thread Cert.XaOut.nD Cert.XaOut.τ).loc Cert.XaOut.main_arg4) = m ((c.tc : Thread Cert.XaOut.nD Cert.XaOut.τ).loc Cert.XaOut.main_arg4))
      ∧ r.2.sem = fun _ => 0)

def quiescent_XaOutIdeal [hXaOutIdeal : Cert.XaOutIdeal.Facts] : Prop :=
  ∀ (m : (ℓ : Loc Cert.XaOutIdeal.nD Cert.XaOutIdeal.τ Cert.XaOutIdeal.sig) → Buf (Elt Ideal) ℓ) (g : Dev Cert.XaOutIdeal.nD → PrngReg), Pre_XaOutIdeal m →
    θ_run (Cert.XaOutIdeal.defs (F := Ideal)) (onTc (τ := Cert.XaOutIdeal.τ) (Cert.XaOutIdeal.main (F := Ideal))) ⟨m, fun _ => 0, g⟩ (fun r => (∀ c : Dev Cert.XaOutIdeal.nD,
      r.2.mem ((c.tc : Thread Cert.XaOutIdeal.nD Cert.XaOutIdeal.τ).loc Cert.XaOutIdeal.main_arg0) = m ((c.tc : Thread Cert.XaOutIdeal.nD Cert.XaOutIdeal.τ).loc Cert.XaOutIdeal.main_arg0)
      ∧ r.2.mem ((c.tc : Thread Cert.XaOutIdeal.nD Cert.XaOutIdeal.τ).loc Cert.XaOutIdeal.main_arg1) = m ((c.tc : Thread Cert.XaOutIdeal.nD Cert.XaOutIdeal.τ).loc Cert.XaOutIdeal.main_arg1)
      ∧ r.2.mem ((c.tc : Thread Cert.XaOutIdeal.nD Cert.XaOutIdeal.τ).loc Cert.XaOutIdeal.main_arg2) = m ((c.tc : Thread Cert.XaOutIdeal.nD Cert.XaOutIdeal.τ).loc Cert.XaOutIdeal.main_arg2)
      ∧ r.2.mem ((c.tc : Thread Cert.XaOutIdeal.nD Cert.XaOutIdeal.τ).loc Cert.XaOutIdeal.main_arg3) = m ((c.tc : Thread Cert.XaOutIdeal.nD Cert.XaOutIdeal.τ).loc Cert.XaOutIdeal.main_arg3)
      ∧ r.2.mem ((c.tc : Thread Cert.XaOutIdeal.nD Cert.XaOutIdeal.τ).loc Cert.XaOutIdeal.main_arg4) = m ((c.tc : Thread Cert.XaOutIdeal.nD Cert.XaOutIdeal.τ).loc Cert.XaOutIdeal.main_arg4))
      ∧ r.2.sem = fun _ => 0)

def quiescent_XaOutRefIdeal [hXaOutRefIdeal : Cert.XaOutRefIdeal.Facts] : Prop :=
  ∀ (m : (ℓ : Loc Cert.XaOutRefIdeal.nD Cert.XaOutRefIdeal.τ Cert.XaOutRefIdeal.sig) → Buf (Elt Ideal) ℓ) (g : Dev Cert.XaOutRefIdeal.nD → PrngReg), Pre_XaOutRefIdeal m →
    θ_run (Cert.XaOutRefIdeal.defs (F := Ideal)) (onTc (τ := Cert.XaOutRefIdeal.τ) (Cert.XaOutRefIdeal.main (F := Ideal))) ⟨m, fun _ => 0, g⟩ (fun r => (∀ c : Dev Cert.XaOutRefIdeal.nD,
      r.2.mem ((c.tc : Thread Cert.XaOutRefIdeal.nD Cert.XaOutRefIdeal.τ).loc Cert.XaOutRefIdeal.main_arg0) = m ((c.tc : Thread Cert.XaOutRefIdeal.nD Cert.XaOutRefIdeal.τ).loc Cert.XaOutRefIdeal.main_arg0)
      ∧ r.2.mem ((c.tc : Thread Cert.XaOutRefIdeal.nD Cert.XaOutRefIdeal.τ).loc Cert.XaOutRefIdeal.main_arg1) = m ((c.tc : Thread Cert.XaOutRefIdeal.nD Cert.XaOutRefIdeal.τ).loc Cert.XaOutRefIdeal.main_arg1)
      ∧ r.2.mem ((c.tc : Thread Cert.XaOutRefIdeal.nD Cert.XaOutRefIdeal.τ).loc Cert.XaOutRefIdeal.main_arg2) = m ((c.tc : Thread Cert.XaOutRefIdeal.nD Cert.XaOutRefIdeal.τ).loc Cert.XaOutRefIdeal.main_arg2)
      ∧ r.2.mem ((c.tc : Thread Cert.XaOutRefIdeal.nD Cert.XaOutRefIdeal.τ).loc Cert.XaOutRefIdeal.main_arg3) = m ((c.tc : Thread Cert.XaOutRefIdeal.nD Cert.XaOutRefIdeal.τ).loc Cert.XaOutRefIdeal.main_arg3)
      ∧ r.2.mem ((c.tc : Thread Cert.XaOutRefIdeal.nD Cert.XaOutRefIdeal.τ).loc Cert.XaOutRefIdeal.main_arg4) = m ((c.tc : Thread Cert.XaOutRefIdeal.nD Cert.XaOutRefIdeal.τ).loc Cert.XaOutRefIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2)
      ∧ r.2.mem ((c.tc : Thread Cert.UpGrad.nD Cert.UpGrad.τ).loc Cert.UpGrad.main_arg3) = m ((c.tc : Thread Cert.UpGrad.nD Cert.UpGrad.τ).loc Cert.UpGrad.main_arg3)
      ∧ r.2.mem ((c.tc : Thread Cert.UpGrad.nD Cert.UpGrad.τ).loc Cert.UpGrad.main_arg4) = m ((c.tc : Thread Cert.UpGrad.nD Cert.UpGrad.τ).loc Cert.UpGrad.main_arg4)
      ∧ r.2.mem ((c.tc : Thread Cert.UpGrad.nD Cert.UpGrad.τ).loc Cert.UpGrad.main_arg5) = m ((c.tc : Thread Cert.UpGrad.nD Cert.UpGrad.τ).loc Cert.UpGrad.main_arg5))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
      ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
      ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4)
      ∧ r.2.mem ((c.tc : Thread Cert.UpGradIdeal.nD Cert.UpGradIdeal.τ).loc Cert.UpGradIdeal.main_arg5) = m ((c.tc : Thread Cert.UpGradIdeal.nD Cert.UpGradIdeal.τ).loc Cert.UpGradIdeal.main_arg5))
      ∧ r.2.sem = fun _ => 0)

def quiescent_UpGradIdeal_pre_finite_up [hUpGradIdeal : Cert.UpGradIdeal.Facts] [hPre_finite_up : Cert.Pre_finite_up.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal_finite_up m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
      ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
      ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4)
      ∧ r.2.mem ((c.tc : Thread Cert.UpGradIdeal.nD Cert.UpGradIdeal.τ).loc Cert.UpGradIdeal.main_arg5) = m ((c.tc : Thread Cert.UpGradIdeal.nD Cert.UpGradIdeal.τ).loc Cert.UpGradIdeal.main_arg5))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1)
      ∧ r.2.mem ((c.tc : Thread Cert.UpGradRefIdeal.nD Cert.UpGradRefIdeal.τ).loc Cert.UpGradRefIdeal.main_arg2) = m ((c.tc : Thread Cert.UpGradRefIdeal.nD Cert.UpGradRefIdeal.τ).loc Cert.UpGradRefIdeal.main_arg2)
      ∧ r.2.mem ((c.tc : Thread Cert.UpGradRefIdeal.nD Cert.UpGradRefIdeal.τ).loc Cert.UpGradRefIdeal.main_arg3) = m ((c.tc : Thread Cert.UpGradRefIdeal.nD Cert.UpGradRefIdeal.τ).loc Cert.UpGradRefIdeal.main_arg3)
      ∧ r.2.mem ((c.tc : Thread Cert.UpGradRefIdeal.nD Cert.UpGradRefIdeal.τ).loc Cert.UpGradRefIdeal.main_arg4) = m ((c.tc : Thread Cert.UpGradRefIdeal.nD Cert.UpGradRefIdeal.τ).loc Cert.UpGradRefIdeal.main_arg4)
      ∧ r.2.mem ((c.tc : Thread Cert.UpGradRefIdeal.nD Cert.UpGradRefIdeal.τ).loc Cert.UpGradRefIdeal.main_arg5) = m ((c.tc : Thread Cert.UpGradRefIdeal.nD Cert.UpGradRefIdeal.τ).loc Cert.UpGradRefIdeal.main_arg5))
      ∧ r.2.sem = fun _ => 0)

def quiescent_UpGradRefIdeal_pre_finite_up [hUpGradRefIdeal : Cert.UpGradRefIdeal.Facts] [hPre_finite_up : Cert.Pre_finite_up.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal_finite_up m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1)
      ∧ r.2.mem ((c.tc : Thread Cert.UpGradRefIdeal.nD Cert.UpGradRefIdeal.τ).loc Cert.UpGradRefIdeal.main_arg2) = m ((c.tc : Thread Cert.UpGradRefIdeal.nD Cert.UpGradRefIdeal.τ).loc Cert.UpGradRefIdeal.main_arg2)
      ∧ r.2.mem ((c.tc : Thread Cert.UpGradRefIdeal.nD Cert.UpGradRefIdeal.τ).loc Cert.UpGradRefIdeal.main_arg3) = m ((c.tc : Thread Cert.UpGradRefIdeal.nD Cert.UpGradRefIdeal.τ).loc Cert.UpGradRefIdeal.main_arg3)
      ∧ r.2.mem ((c.tc : Thread Cert.UpGradRefIdeal.nD Cert.UpGradRefIdeal.τ).loc Cert.UpGradRefIdeal.main_arg4) = m ((c.tc : Thread Cert.UpGradRefIdeal.nD Cert.UpGradRefIdeal.τ).loc Cert.UpGradRefIdeal.main_arg4)
      ∧ r.2.mem ((c.tc : Thread Cert.UpGradRefIdeal.nD Cert.UpGradRefIdeal.τ).loc Cert.UpGradRefIdeal.main_arg5) = m ((c.tc : Thread Cert.UpGradRefIdeal.nD Cert.UpGradRefIdeal.τ).loc Cert.UpGradRefIdeal.main_arg5))
      ∧ r.2.sem = fun _ => 0)

def quiescent_QueryGrad [hQueryGrad : Cert.QueryGrad.Facts] : Prop :=
  ∀ (m : (ℓ : Loc Cert.QueryGrad.nD Cert.QueryGrad.τ Cert.QueryGrad.sig) → Buf (Elt Bits) ℓ) (g : Dev Cert.QueryGrad.nD → PrngReg), Pre_QueryGrad m →
    θ_run (Cert.QueryGrad.defs (F := Bits)) (onTc (τ := Cert.QueryGrad.τ) (Cert.QueryGrad.main (F := Bits))) ⟨m, fun _ => 0, g⟩ (fun r => (∀ c : Dev Cert.QueryGrad.nD,
      r.2.mem ((c.tc : Thread Cert.QueryGrad.nD Cert.QueryGrad.τ).loc Cert.QueryGrad.main_arg0) = m ((c.tc : Thread Cert.QueryGrad.nD Cert.QueryGrad.τ).loc Cert.QueryGrad.main_arg0)
      ∧ r.2.mem ((c.tc : Thread Cert.QueryGrad.nD Cert.QueryGrad.τ).loc Cert.QueryGrad.main_arg1) = m ((c.tc : Thread Cert.QueryGrad.nD Cert.QueryGrad.τ).loc Cert.QueryGrad.main_arg1)
      ∧ r.2.mem ((c.tc : Thread Cert.QueryGrad.nD Cert.QueryGrad.τ).loc Cert.QueryGrad.main_arg2) = m ((c.tc : Thread Cert.QueryGrad.nD Cert.QueryGrad.τ).loc Cert.QueryGrad.main_arg2)
      ∧ r.2.mem ((c.tc : Thread Cert.QueryGrad.nD Cert.QueryGrad.τ).loc Cert.QueryGrad.main_arg3) = m ((c.tc : Thread Cert.QueryGrad.nD Cert.QueryGrad.τ).loc Cert.QueryGrad.main_arg3)
      ∧ r.2.mem ((c.tc : Thread Cert.QueryGrad.nD Cert.QueryGrad.τ).loc Cert.QueryGrad.main_arg4) = m ((c.tc : Thread Cert.QueryGrad.nD Cert.QueryGrad.τ).loc Cert.QueryGrad.main_arg4))
      ∧ r.2.sem = fun _ => 0)

def quiescent_QueryGradIdeal [hQueryGradIdeal : Cert.QueryGradIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg), Pre_QueryGradIdeal m →
    θ_run (Cert.QueryGradIdeal.defs (F := Ideal)) (onTc (τ := Cert.QueryGradIdeal.τ) (Cert.QueryGradIdeal.main (F := Ideal))) ⟨m, fun _ => 0, g⟩ (fun r => (∀ c : Dev Cert.QueryGradIdeal.nD,
      r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
      ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1)
      ∧ r.2.mem ((c.tc : Thread Cert.QueryGradIdeal.nD Cert.QueryGradIdeal.τ).loc Cert.QueryGradIdeal.main_arg2) = m ((c.tc : Thread Cert.QueryGradIdeal.nD Cert.QueryGradIdeal.τ).loc Cert.QueryGradIdeal.main_arg2)
      ∧ r.2.mem ((c.tc : Thread Cert.QueryGradIdeal.nD Cert.QueryGradIdeal.τ).loc Cert.QueryGradIdeal.main_arg3) = m ((c.tc : Thread Cert.QueryGradIdeal.nD Cert.QueryGradIdeal.τ).loc Cert.QueryGradIdeal.main_arg3)
      ∧ r.2.mem ((c.tc : Thread Cert.QueryGradIdeal.nD Cert.QueryGradIdeal.τ).loc Cert.QueryGradIdeal.main_arg4) = m ((c.tc : Thread Cert.QueryGradIdeal.nD Cert.QueryGradIdeal.τ).loc Cert.QueryGradIdeal.main_arg4))
      ∧ r.2.sem = fun _ => 0)

def quiescent_QueryGradIdeal_pre_finite_query [hQueryGradIdeal : Cert.QueryGradIdeal.Facts] [hPre_finite_query : Cert.Pre_finite_query.Facts] : Prop :=
  ∀ (m : (ℓ : Loc Cert.QueryGradIdeal.nD Cert.QueryGradIdeal.τ Cert.QueryGradIdeal.sig) → Buf (Elt Ideal) ℓ) (g : Dev Cert.QueryGradIdeal.nD → PrngReg), Pre_QueryGradIdeal_finite_query m →
    θ_run (Cert.QueryGradIdeal.defs (F := Ideal)) (onTc (τ := Cert.QueryGradIdeal.τ) (Cert.QueryGradIdeal.main (F := Ideal))) ⟨m, fun _ => 0, g⟩ (fun r => (∀ c : Dev Cert.QueryGradIdeal.nD,
      r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
      ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1)
      ∧ r.2.mem ((c.tc : Thread Cert.QueryGradIdeal.nD Cert.QueryGradIdeal.τ).loc Cert.QueryGradIdeal.main_arg2) = m ((c.tc : Thread Cert.QueryGradIdeal.nD Cert.QueryGradIdeal.τ).loc Cert.QueryGradIdeal.main_arg2)
      ∧ r.2.mem ((c.tc : Thread Cert.QueryGradIdeal.nD Cert.QueryGradIdeal.τ).loc Cert.QueryGradIdeal.main_arg3) = m ((c.tc : Thread Cert.QueryGradIdeal.nD Cert.QueryGradIdeal.τ).loc Cert.QueryGradIdeal.main_arg3)
      ∧ r.2.mem ((c.tc : Thread Cert.QueryGradIdeal.nD Cert.QueryGradIdeal.τ).loc Cert.QueryGradIdeal.main_arg4) = m ((c.tc : Thread Cert.QueryGradIdeal.nD Cert.QueryGradIdeal.τ).loc Cert.QueryGradIdeal.main_arg4))
      ∧ r.2.sem = fun _ => 0)

def quiescent_QueryGradRefIdeal [hQueryGradRefIdeal : Cert.QueryGradRefIdeal.Facts] : Prop :=
  ∀ (m : (ℓ : Loc Cert.QueryGradRefIdeal.nD Cert.QueryGradRefIdeal.τ Cert.QueryGradRefIdeal.sig) → Buf (Elt Ideal) ℓ) (g : Dev Cert.QueryGradRefIdeal.nD → PrngReg), Pre_QueryGradRefIdeal m →
    θ_run (Cert.QueryGradRefIdeal.defs (F := Ideal)) (onTc (τ := Cert.QueryGradRefIdeal.τ) (Cert.QueryGradRefIdeal.main (F := Ideal))) ⟨m, fun _ => 0, g⟩ (fun r => (∀ c : Dev Cert.QueryGradRefIdeal.nD,
      r.2.mem ((c.tc : Thread Cert.QueryGradRefIdeal.nD Cert.QueryGradRefIdeal.τ).loc Cert.QueryGradRefIdeal.main_arg0) = m ((c.tc : Thread Cert.QueryGradRefIdeal.nD Cert.QueryGradRefIdeal.τ).loc Cert.QueryGradRefIdeal.main_arg0)
      ∧ r.2.mem ((c.tc : Thread Cert.QueryGradRefIdeal.nD Cert.QueryGradRefIdeal.τ).loc Cert.QueryGradRefIdeal.main_arg1) = m ((c.tc : Thread Cert.QueryGradRefIdeal.nD Cert.QueryGradRefIdeal.τ).loc Cert.QueryGradRefIdeal.main_arg1)
      ∧ r.2.mem ((c.tc : Thread Cert.QueryGradRefIdeal.nD Cert.QueryGradRefIdeal.τ).loc Cert.QueryGradRefIdeal.main_arg2) = m ((c.tc : Thread Cert.QueryGradRefIdeal.nD Cert.QueryGradRefIdeal.τ).loc Cert.QueryGradRefIdeal.main_arg2)
      ∧ r.2.mem ((c.tc : Thread Cert.QueryGradRefIdeal.nD Cert.QueryGradRefIdeal.τ).loc Cert.QueryGradRefIdeal.main_arg3) = m ((c.tc : Thread Cert.QueryGradRefIdeal.nD Cert.QueryGradRefIdeal.τ).loc Cert.QueryGradRefIdeal.main_arg3)
      ∧ r.2.mem ((c.tc : Thread Cert.QueryGradRefIdeal.nD Cert.QueryGradRefIdeal.τ).loc Cert.QueryGradRefIdeal.main_arg4) = m ((c.tc : Thread Cert.QueryGradRefIdeal.nD Cert.QueryGradRefIdeal.τ).loc Cert.QueryGradRefIdeal.main_arg4))
      ∧ r.2.sem = fun _ => 0)

def quiescent_QueryGradRefIdeal_pre_finite_query [hQueryGradRefIdeal : Cert.QueryGradRefIdeal.Facts] [hPre_finite_query : Cert.Pre_finite_query.Facts] : Prop :=
  ∀ (m : (ℓ : Loc Cert.QueryGradRefIdeal.nD Cert.QueryGradRefIdeal.τ Cert.QueryGradRefIdeal.sig) → Buf (Elt Ideal) ℓ) (g : Dev Cert.QueryGradRefIdeal.nD → PrngReg), Pre_QueryGradRefIdeal_finite_query m →
    θ_run (Cert.QueryGradRefIdeal.defs (F := Ideal)) (onTc (τ := Cert.QueryGradRefIdeal.τ) (Cert.QueryGradRefIdeal.main (F := Ideal))) ⟨m, fun _ => 0, g⟩ (fun r => (∀ c : Dev Cert.QueryGradRefIdeal.nD,
      r.2.mem ((c.tc : Thread Cert.QueryGradRefIdeal.nD Cert.QueryGradRefIdeal.τ).loc Cert.QueryGradRefIdeal.main_arg0) = m ((c.tc : Thread Cert.QueryGradRefIdeal.nD Cert.QueryGradRefIdeal.τ).loc Cert.QueryGradRefIdeal.main_arg0)
      ∧ r.2.mem ((c.tc : Thread Cert.QueryGradRefIdeal.nD Cert.QueryGradRefIdeal.τ).loc Cert.QueryGradRefIdeal.main_arg1) = m ((c.tc : Thread Cert.QueryGradRefIdeal.nD Cert.QueryGradRefIdeal.τ).loc Cert.QueryGradRefIdeal.main_arg1)
      ∧ r.2.mem ((c.tc : Thread Cert.QueryGradRefIdeal.nD Cert.QueryGradRefIdeal.τ).loc Cert.QueryGradRefIdeal.main_arg2) = m ((c.tc : Thread Cert.QueryGradRefIdeal.nD Cert.QueryGradRefIdeal.τ).loc Cert.QueryGradRefIdeal.main_arg2)
      ∧ r.2.mem ((c.tc : Thread Cert.QueryGradRefIdeal.nD Cert.QueryGradRefIdeal.τ).loc Cert.QueryGradRefIdeal.main_arg3) = m ((c.tc : Thread Cert.QueryGradRefIdeal.nD Cert.QueryGradRefIdeal.τ).loc Cert.QueryGradRefIdeal.main_arg3)
      ∧ r.2.mem ((c.tc : Thread Cert.QueryGradRefIdeal.nD Cert.QueryGradRefIdeal.τ).loc Cert.QueryGradRefIdeal.main_arg4) = m ((c.tc : Thread Cert.QueryGradRefIdeal.nD Cert.QueryGradRefIdeal.τ).loc Cert.QueryGradRefIdeal.main_arg4))
      ∧ r.2.sem = fun _ => 0)

def quiescent_LayerGrad [hLayerGrad : Cert.LayerGrad.Facts] : Prop :=
  ∀ (m : (ℓ : Loc Cert.LayerGrad.nD Cert.LayerGrad.τ Cert.LayerGrad.sig) → Buf (Elt Bits) ℓ) (g : Dev Cert.LayerGrad.nD → PrngReg), Pre_LayerGrad m →
    θ_run (Cert.LayerGrad.defs (F := Bits)) (onTc (τ := Cert.LayerGrad.τ) (Cert.LayerGrad.main (F := Bits))) ⟨m, fun _ => 0, g⟩ (fun r => (∀ c : Dev Cert.LayerGrad.nD,
      r.2.mem ((c.tc : Thread Cert.LayerGrad.nD Cert.LayerGrad.τ).loc Cert.LayerGrad.main_arg0) = m ((c.tc : Thread Cert.LayerGrad.nD Cert.LayerGrad.τ).loc Cert.LayerGrad.main_arg0)
      ∧ r.2.mem ((c.tc : Thread Cert.LayerGrad.nD Cert.LayerGrad.τ).loc Cert.LayerGrad.main_arg1) = m ((c.tc : Thread Cert.LayerGrad.nD Cert.LayerGrad.τ).loc Cert.LayerGrad.main_arg1)
      ∧ r.2.mem ((c.tc : Thread Cert.LayerGrad.nD Cert.LayerGrad.τ).loc Cert.LayerGrad.main_arg2) = m ((c.tc : Thread Cert.LayerGrad.nD Cert.LayerGrad.τ).loc Cert.LayerGrad.main_arg2)
      ∧ r.2.mem ((c.tc : Thread Cert.LayerGrad.nD Cert.LayerGrad.τ).loc Cert.LayerGrad.main_arg3) = m ((c.tc : Thread Cert.LayerGrad.nD Cert.LayerGrad.τ).loc Cert.LayerGrad.main_arg3)
      ∧ r.2.mem ((c.tc : Thread Cert.LayerGrad.nD Cert.LayerGrad.τ).loc Cert.LayerGrad.main_arg4) = m ((c.tc : Thread Cert.LayerGrad.nD Cert.LayerGrad.τ).loc Cert.LayerGrad.main_arg4)
      ∧ r.2.mem ((c.tc : Thread Cert.LayerGrad.nD Cert.LayerGrad.τ).loc Cert.LayerGrad.main_arg5) = m ((c.tc : Thread Cert.LayerGrad.nD Cert.LayerGrad.τ).loc Cert.LayerGrad.main_arg5)
      ∧ r.2.mem ((c.tc : Thread Cert.LayerGrad.nD Cert.LayerGrad.τ).loc Cert.LayerGrad.main_arg6) = m ((c.tc : Thread Cert.LayerGrad.nD Cert.LayerGrad.τ).loc Cert.LayerGrad.main_arg6))
      ∧ r.2.sem = fun _ => 0)

def quiescent_LayerGradIdeal [hLayerGradIdeal : Cert.LayerGradIdeal.Facts] : Prop :=
  ∀ (m : (ℓ : Loc Cert.LayerGradIdeal.nD Cert.LayerGradIdeal.τ Cert.LayerGradIdeal.sig) → Buf (Elt Ideal) ℓ) (g : Dev Cert.LayerGradIdeal.nD → PrngReg), Pre_LayerGradIdeal m →
    θ_run (Cert.LayerGradIdeal.defs (F := Ideal)) (onTc (τ := Cert.LayerGradIdeal.τ) (Cert.LayerGradIdeal.main (F := Ideal))) ⟨m, fun _ => 0, g⟩ (fun r => (∀ c : Dev Cert.LayerGradIdeal.nD,
      r.2.mem ((c.tc : Thread Cert.LayerGradIdeal.nD Cert.LayerGradIdeal.τ).loc Cert.LayerGradIdeal.main_arg0) = m ((c.tc : Thread Cert.LayerGradIdeal.nD Cert.LayerGradIdeal.τ).loc Cert.LayerGradIdeal.main_arg0)
      ∧ r.2.mem ((c.tc : Thread Cert.LayerGradIdeal.nD Cert.LayerGradIdeal.τ).loc Cert.LayerGradIdeal.main_arg1) = m ((c.tc : Thread Cert.LayerGradIdeal.nD Cert.LayerGradIdeal.τ).loc Cert.LayerGradIdeal.main_arg1)
      ∧ r.2.mem ((c.tc : Thread Cert.LayerGradIdeal.nD Cert.LayerGradIdeal.τ).loc Cert.LayerGradIdeal.main_arg2) = m ((c.tc : Thread Cert.LayerGradIdeal.nD Cert.LayerGradIdeal.τ).loc Cert.LayerGradIdeal.main_arg2)
      ∧ r.2.mem ((c.tc : Thread Cert.LayerGradIdeal.nD Cert.LayerGradIdeal.τ).loc Cert.LayerGradIdeal.main_arg3) = m ((c.tc : Thread Cert.LayerGradIdeal.nD Cert.LayerGradIdeal.τ).loc Cert.LayerGradIdeal.main_arg3)
      ∧ r.2.mem ((c.tc : Thread Cert.LayerGradIdeal.nD Cert.LayerGradIdeal.τ).loc Cert.LayerGradIdeal.main_arg4) = m ((c.tc : Thread Cert.LayerGradIdeal.nD Cert.LayerGradIdeal.τ).loc Cert.LayerGradIdeal.main_arg4)
      ∧ r.2.mem ((c.tc : Thread Cert.LayerGradIdeal.nD Cert.LayerGradIdeal.τ).loc Cert.LayerGradIdeal.main_arg5) = m ((c.tc : Thread Cert.LayerGradIdeal.nD Cert.LayerGradIdeal.τ).loc Cert.LayerGradIdeal.main_arg5)
      ∧ r.2.mem ((c.tc : Thread Cert.LayerGradIdeal.nD Cert.LayerGradIdeal.τ).loc Cert.LayerGradIdeal.main_arg6) = m ((c.tc : Thread Cert.LayerGradIdeal.nD Cert.LayerGradIdeal.τ).loc Cert.LayerGradIdeal.main_arg6))
      ∧ r.2.sem = fun _ => 0)

def quiescent_LayerGradIdeal_pre_finite_layer [hLayerGradIdeal : Cert.LayerGradIdeal.Facts] [hPre_finite_layer : Cert.Pre_finite_layer.Facts] : Prop :=
  ∀ (m : (ℓ : Loc Cert.LayerGradIdeal.nD Cert.LayerGradIdeal.τ Cert.LayerGradIdeal.sig) → Buf (Elt Ideal) ℓ) (g : Dev Cert.LayerGradIdeal.nD → PrngReg), Pre_LayerGradIdeal_finite_layer m →
    θ_run (Cert.LayerGradIdeal.defs (F := Ideal)) (onTc (τ := Cert.LayerGradIdeal.τ) (Cert.LayerGradIdeal.main (F := Ideal))) ⟨m, fun _ => 0, g⟩ (fun r => (∀ c : Dev Cert.LayerGradIdeal.nD,
      r.2.mem ((c.tc : Thread Cert.LayerGradIdeal.nD Cert.LayerGradIdeal.τ).loc Cert.LayerGradIdeal.main_arg0) = m ((c.tc : Thread Cert.LayerGradIdeal.nD Cert.LayerGradIdeal.τ).loc Cert.LayerGradIdeal.main_arg0)
      ∧ r.2.mem ((c.tc : Thread Cert.LayerGradIdeal.nD Cert.LayerGradIdeal.τ).loc Cert.LayerGradIdeal.main_arg1) = m ((c.tc : Thread Cert.LayerGradIdeal.nD Cert.LayerGradIdeal.τ).loc Cert.LayerGradIdeal.main_arg1)
      ∧ r.2.mem ((c.tc : Thread Cert.LayerGradIdeal.nD Cert.LayerGradIdeal.τ).loc Cert.LayerGradIdeal.main_arg2) = m ((c.tc : Thread Cert.LayerGradIdeal.nD Cert.LayerGradIdeal.τ).loc Cert.LayerGradIdeal.main_arg2)
      ∧ r.2.mem ((c.tc : Thread Cert.LayerGradIdeal.nD Cert.LayerGradIdeal.τ).loc Cert.LayerGradIdeal.main_arg3) = m ((c.tc : Thread Cert.LayerGradIdeal.nD Cert.LayerGradIdeal.τ).loc Cert.LayerGradIdeal.main_arg3)
      ∧ r.2.mem ((c.tc : Thread Cert.LayerGradIdeal.nD Cert.LayerGradIdeal.τ).loc Cert.LayerGradIdeal.main_arg4) = m ((c.tc : Thread Cert.LayerGradIdeal.nD Cert.LayerGradIdeal.τ).loc Cert.LayerGradIdeal.main_arg4)
      ∧ r.2.mem ((c.tc : Thread Cert.LayerGradIdeal.nD Cert.LayerGradIdeal.τ).loc Cert.LayerGradIdeal.main_arg5) = m ((c.tc : Thread Cert.LayerGradIdeal.nD Cert.LayerGradIdeal.τ).loc Cert.LayerGradIdeal.main_arg5)
      ∧ r.2.mem ((c.tc : Thread Cert.LayerGradIdeal.nD Cert.LayerGradIdeal.τ).loc Cert.LayerGradIdeal.main_arg6) = m ((c.tc : Thread Cert.LayerGradIdeal.nD Cert.LayerGradIdeal.τ).loc Cert.LayerGradIdeal.main_arg6))
      ∧ r.2.sem = fun _ => 0)

def quiescent_LayerGradRefIdeal [hLayerGradRefIdeal : Cert.LayerGradRefIdeal.Facts] : Prop :=
  ∀ (m : (ℓ : Loc Cert.LayerGradRefIdeal.nD Cert.LayerGradRefIdeal.τ Cert.LayerGradRefIdeal.sig) → Buf (Elt Ideal) ℓ) (g : Dev Cert.LayerGradRefIdeal.nD → PrngReg), Pre_LayerGradRefIdeal m →
    θ_run (Cert.LayerGradRefIdeal.defs (F := Ideal)) (onTc (τ := Cert.LayerGradRefIdeal.τ) (Cert.LayerGradRefIdeal.main (F := Ideal))) ⟨m, fun _ => 0, g⟩ (fun r => (∀ c : Dev Cert.LayerGradRefIdeal.nD,
      r.2.mem ((c.tc : Thread Cert.LayerGradRefIdeal.nD Cert.LayerGradRefIdeal.τ).loc Cert.LayerGradRefIdeal.main_arg0) = m ((c.tc : Thread Cert.LayerGradRefIdeal.nD Cert.LayerGradRefIdeal.τ).loc Cert.LayerGradRefIdeal.main_arg0)
      ∧ r.2.mem ((c.tc : Thread Cert.LayerGradRefIdeal.nD Cert.LayerGradRefIdeal.τ).loc Cert.LayerGradRefIdeal.main_arg1) = m ((c.tc : Thread Cert.LayerGradRefIdeal.nD Cert.LayerGradRefIdeal.τ).loc Cert.LayerGradRefIdeal.main_arg1)
      ∧ r.2.mem ((c.tc : Thread Cert.LayerGradRefIdeal.nD Cert.LayerGradRefIdeal.τ).loc Cert.LayerGradRefIdeal.main_arg2) = m ((c.tc : Thread Cert.LayerGradRefIdeal.nD Cert.LayerGradRefIdeal.τ).loc Cert.LayerGradRefIdeal.main_arg2)
      ∧ r.2.mem ((c.tc : Thread Cert.LayerGradRefIdeal.nD Cert.LayerGradRefIdeal.τ).loc Cert.LayerGradRefIdeal.main_arg3) = m ((c.tc : Thread Cert.LayerGradRefIdeal.nD Cert.LayerGradRefIdeal.τ).loc Cert.LayerGradRefIdeal.main_arg3)
      ∧ r.2.mem ((c.tc : Thread Cert.LayerGradRefIdeal.nD Cert.LayerGradRefIdeal.τ).loc Cert.LayerGradRefIdeal.main_arg4) = m ((c.tc : Thread Cert.LayerGradRefIdeal.nD Cert.LayerGradRefIdeal.τ).loc Cert.LayerGradRefIdeal.main_arg4)
      ∧ r.2.mem ((c.tc : Thread Cert.LayerGradRefIdeal.nD Cert.LayerGradRefIdeal.τ).loc Cert.LayerGradRefIdeal.main_arg5) = m ((c.tc : Thread Cert.LayerGradRefIdeal.nD Cert.LayerGradRefIdeal.τ).loc Cert.LayerGradRefIdeal.main_arg5)
      ∧ r.2.mem ((c.tc : Thread Cert.LayerGradRefIdeal.nD Cert.LayerGradRefIdeal.τ).loc Cert.LayerGradRefIdeal.main_arg6) = m ((c.tc : Thread Cert.LayerGradRefIdeal.nD Cert.LayerGradRefIdeal.τ).loc Cert.LayerGradRefIdeal.main_arg6))
      ∧ r.2.sem = fun _ => 0)

def quiescent_LayerGradRefIdeal_pre_finite_layer [hLayerGradRefIdeal : Cert.LayerGradRefIdeal.Facts] [hPre_finite_layer : Cert.Pre_finite_layer.Facts] : Prop :=
  ∀ (m : (ℓ : Loc Cert.LayerGradRefIdeal.nD Cert.LayerGradRefIdeal.τ Cert.LayerGradRefIdeal.sig) → Buf (Elt Ideal) ℓ) (g : Dev Cert.LayerGradRefIdeal.nD → PrngReg), Pre_LayerGradRefIdeal_finite_layer m →
    θ_run (Cert.LayerGradRefIdeal.defs (F := Ideal)) (onTc (τ := Cert.LayerGradRefIdeal.τ) (Cert.LayerGradRefIdeal.main (F := Ideal))) ⟨m, fun _ => 0, g⟩ (fun r => (∀ c : Dev Cert.LayerGradRefIdeal.nD,
      r.2.mem ((c.tc : Thread Cert.LayerGradRefIdeal.nD Cert.LayerGradRefIdeal.τ).loc Cert.LayerGradRefIdeal.main_arg0) = m ((c.tc : Thread Cert.LayerGradRefIdeal.nD Cert.LayerGradRefIdeal.τ).loc Cert.LayerGradRefIdeal.main_arg0)
      ∧ r.2.mem ((c.tc : Thread Cert.LayerGradRefIdeal.nD Cert.LayerGradRefIdeal.τ).loc Cert.LayerGradRefIdeal.main_arg1) = m ((c.tc : Thread Cert.LayerGradRefIdeal.nD Cert.LayerGradRefIdeal.τ).loc Cert.LayerGradRefIdeal.main_arg1)
      ∧ r.2.mem ((c.tc : Thread Cert.LayerGradRefIdeal.nD Cert.LayerGradRefIdeal.τ).loc Cert.LayerGradRefIdeal.main_arg2) = m ((c.tc : Thread Cert.LayerGradRefIdeal.nD Cert.LayerGradRefIdeal.τ).loc Cert.LayerGradRefIdeal.main_arg2)
      ∧ r.2.mem ((c.tc : Thread Cert.LayerGradRefIdeal.nD Cert.LayerGradRefIdeal.τ).loc Cert.LayerGradRefIdeal.main_arg3) = m ((c.tc : Thread Cert.LayerGradRefIdeal.nD Cert.LayerGradRefIdeal.τ).loc Cert.LayerGradRefIdeal.main_arg3)
      ∧ r.2.mem ((c.tc : Thread Cert.LayerGradRefIdeal.nD Cert.LayerGradRefIdeal.τ).loc Cert.LayerGradRefIdeal.main_arg4) = m ((c.tc : Thread Cert.LayerGradRefIdeal.nD Cert.LayerGradRefIdeal.τ).loc Cert.LayerGradRefIdeal.main_arg4)
      ∧ r.2.mem ((c.tc : Thread Cert.LayerGradRefIdeal.nD Cert.LayerGradRefIdeal.τ).loc Cert.LayerGradRefIdeal.main_arg5) = m ((c.tc : Thread Cert.LayerGradRefIdeal.nD Cert.LayerGradRefIdeal.τ).loc Cert.LayerGradRefIdeal.main_arg5)
      ∧ r.2.mem ((c.tc : Thread Cert.LayerGradRefIdeal.nD Cert.LayerGradRefIdeal.τ).loc Cert.LayerGradRefIdeal.main_arg6) = m ((c.tc : Thread Cert.LayerGradRefIdeal.nD Cert.LayerGradRefIdeal.τ).loc Cert.LayerGradRefIdeal.main_arg6))
      ∧ r.2.sem = fun _ => 0)

def preserves_SwaBwd_SwaBwdIdeal : Prop :=
  True

def algebraic_SwaBwdIdeal_SwaRefIdeal_pre_finite [hSwaBwdIdeal : Cert.SwaBwdIdeal.Facts] [hSwaRefIdeal : Cert.SwaRefIdeal.Facts] [hPre_finite : Cert.Pre_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaBwdIdeal_finite m →
    (∀ c : Dev Cert.SwaBwdIdeal.nD,
      m' ((c.tc : Thread Cert.SwaRefIdeal.nD Cert.SwaRefIdeal.τ).loc Cert.SwaRefIdeal.main_arg0) = m ((c.tc : Thread Cert.SwaBwdIdeal.nD Cert.SwaBwdIdeal.τ).loc Cert.SwaBwdIdeal.main_arg0)
      ∧ m' ((c.tc : Thread Cert.SwaRefIdeal.nD Cert.SwaRefIdeal.τ).loc Cert.SwaRefIdeal.main_arg1) = m ((c.tc : Thread Cert.SwaBwdIdeal.nD Cert.SwaBwdIdeal.τ).loc Cert.SwaBwdIdeal.main_arg1)
      ∧ m' ((c.tc : Thread Cert.SwaRefIdeal.nD Cert.SwaRefIdeal.τ).loc Cert.SwaRefIdeal.main_arg2) = m ((c.tc : Thread Cert.SwaBwdIdeal.nD Cert.SwaBwdIdeal.τ).loc Cert.SwaBwdIdeal.main_arg2)
      ∧ m' ((c.tc : Thread Cert.SwaRefIdeal.nD Cert.SwaRefIdeal.τ).loc Cert.SwaRefIdeal.main_arg3) = m ((c.tc : Thread Cert.SwaBwdIdeal.nD Cert.SwaBwdIdeal.τ).loc Cert.SwaBwdIdeal.main_arg3)) →
    ∃ (v0 : (c : Dev Cert.SwaBwdIdeal.nD) → Buf (Elt Ideal) ((c.tc : Thread Cert.SwaBwdIdeal.nD Cert.SwaBwdIdeal.τ).loc Cert.SwaBwdIdeal.main_v2_0)) (v1 : (c : Dev Cert.SwaBwdIdeal.nD) → Buf (Elt Ideal) ((c.tc : Thread Cert.SwaBwdIdeal.nD Cert.SwaBwdIdeal.τ).loc Cert.SwaBwdIdeal.main_v2_1)) (v2 : (c : Dev Cert.SwaBwdIdeal.nD) → Buf (Elt Ideal) ((c.tc : Thread Cert.SwaBwdIdeal.nD Cert.SwaBwdIdeal.τ).loc Cert.SwaBwdIdeal.main_v2_2)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v2_0) = v0 c
          ∧ r.2.mem ((c.tc : Thread Cert.SwaBwdIdeal.nD Cert.SwaBwdIdeal.τ).loc Cert.SwaBwdIdeal.main_v2_1) = v1 c
          ∧ r.2.mem ((c.tc : Thread Cert.SwaBwdIdeal.nD Cert.SwaBwdIdeal.τ).loc Cert.SwaBwdIdeal.main_v2_2) = v2 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
          ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v168) = v0 c
          ∧ r.2.mem ((c.tc : Thread Cert.SwaRefIdeal.nD Cert.SwaRefIdeal.τ).loc Cert.SwaRefIdeal.main_v144) = v1 c
          ∧ r.2.mem ((c.tc : Thread Cert.SwaRefIdeal.nD Cert.SwaRefIdeal.τ).loc Cert.SwaRefIdeal.main_v170) = v2 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v1)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v1) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v5) = v0 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v1)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v1) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v5) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WQ_WQIdeal : Prop :=
  True

def algebraic_WQIdeal_WQRefIdeal [hWQIdeal : Cert.WQIdeal.Facts] [hWQRefIdeal : Cert.WQRefIdeal.Facts] : Prop :=
  ∀ (m : (ℓ : Loc Cert.WQIdeal.nD Cert.WQIdeal.τ Cert.WQIdeal.sig) → Buf (Elt Ideal) ℓ) (g : Dev Cert.WQIdeal.nD → PrngReg)
    (m' : (ℓ : Loc Cert.WQRefIdeal.nD Cert.WQRefIdeal.τ Cert.WQRefIdeal.sig) → Buf (Elt Ideal) ℓ) (g' : Dev Cert.WQRefIdeal.nD → PrngReg), Pre_WQIdeal m →
    (∀ c : Dev Cert.WQIdeal.nD,
      m' ((c.tc : Thread Cert.WQRefIdeal.nD Cert.WQRefIdeal.τ).loc Cert.WQRefIdeal.main_arg0) = m ((c.tc : Thread Cert.WQIdeal.nD Cert.WQIdeal.τ).loc Cert.WQIdeal.main_arg0)
      ∧ m' ((c.tc : Thread Cert.WQRefIdeal.nD Cert.WQRefIdeal.τ).loc Cert.WQRefIdeal.main_arg1) = m ((c.tc : Thread Cert.WQIdeal.nD Cert.WQIdeal.τ).loc Cert.WQIdeal.main_arg1)) →
    ∃ (v0 : (c : Dev Cert.WQIdeal.nD) → Buf (Elt Ideal) ((c.tc : Thread Cert.WQIdeal.nD Cert.WQIdeal.τ).loc Cert.WQIdeal.main_v1)),
      θ_run (Cert.WQIdeal.defs (F := Ideal)) (onTc (τ := Cert.WQIdeal.τ) (Cert.WQIdeal.main (F := Ideal))) ⟨m, fun _ => 0, g⟩ (fun r => ∀ c : Dev Cert.WQIdeal.nD,
          r.2.mem ((c.tc : Thread Cert.WQIdeal.nD Cert.WQIdeal.τ).loc Cert.WQIdeal.main_v1) = v0 c
          ∧ r.2.mem ((c.tc : Thread Cert.WQIdeal.nD Cert.WQIdeal.τ).loc Cert.WQIdeal.main_arg0) = m ((c.tc : Thread Cert.WQIdeal.nD Cert.WQIdeal.τ).loc Cert.WQIdeal.main_arg0)
          ∧ r.2.mem ((c.tc : Thread Cert.WQIdeal.nD Cert.WQIdeal.τ).loc Cert.WQIdeal.main_arg1) = m ((c.tc : Thread Cert.WQIdeal.nD Cert.WQIdeal.τ).loc Cert.WQIdeal.main_arg1))
      ∧ θ_run (Cert.WQRefIdeal.defs (F := Ideal)) (onTc (τ := Cert.WQRefIdeal.τ) (Cert.WQRefIdeal.main (F := Ideal))) ⟨m', fun _ => 0, g'⟩ (fun r => ∀ c : Dev Cert.WQRefIdeal.nD,
          r.2.mem ((c.tc : Thread Cert.WQRefIdeal.nD Cert.WQRefIdeal.τ).loc Cert.WQRefIdeal.main_v5) = v0 c
          ∧ r.2.mem ((c.tc : Thread Cert.WQRefIdeal.nD Cert.WQRefIdeal.τ).loc Cert.WQRefIdeal.main_arg0) = m' ((c.tc : Thread Cert.WQRefIdeal.nD Cert.WQRefIdeal.τ).loc Cert.WQRefIdeal.main_arg0)
          ∧ r.2.mem ((c.tc : Thread Cert.WQRefIdeal.nD Cert.WQRefIdeal.τ).loc Cert.WQRefIdeal.main_arg1) = m' ((c.tc : Thread Cert.WQRefIdeal.nD Cert.WQRefIdeal.τ).loc Cert.WQRefIdeal.main_arg1))

def preserves_WMl_WMlIdeal : Prop :=
  True

def algebraic_WMlIdeal_WMlRefIdeal [hWMlIdeal : Cert.WMlIdeal.Facts] [hWMlRefIdeal : Cert.WMlRefIdeal.Facts] : Prop :=
  ∀ (m : (ℓ : Loc Cert.WMlIdeal.nD Cert.WMlIdeal.τ Cert.WMlIdeal.sig) → Buf (Elt Ideal) ℓ) (g : Dev Cert.WMlIdeal.nD → PrngReg)
    (m' : (ℓ : Loc Cert.WMlRefIdeal.nD Cert.WMlRefIdeal.τ Cert.WMlRefIdeal.sig) → Buf (Elt Ideal) ℓ) (g' : Dev Cert.WMlRefIdeal.nD → PrngReg), Pre_WMlIdeal m →
    (∀ c : Dev Cert.WMlIdeal.nD,
      m' ((c.tc : Thread Cert.WMlRefIdeal.nD Cert.WMlRefIdeal.τ).loc Cert.WMlRefIdeal.main_arg0) = m ((c.tc : Thread Cert.WMlIdeal.nD Cert.WMlIdeal.τ).loc Cert.WMlIdeal.main_arg0)
      ∧ m' ((c.tc : Thread Cert.WMlRefIdeal.nD Cert.WMlRefIdeal.τ).loc Cert.WMlRefIdeal.main_arg1) = m ((c.tc : Thread Cert.WMlIdeal.nD Cert.WMlIdeal.τ).loc Cert.WMlIdeal.main_arg1)) →
    ∃ (v0 : (c : Dev Cert.WMlIdeal.nD) → Buf (Elt Ideal) ((c.tc : Thread Cert.WMlIdeal.nD Cert.WMlIdeal.τ).loc Cert.WMlIdeal.main_v1)),
      θ_run (Cert.WMlIdeal.defs (F := Ideal)) (onTc (τ := Cert.WMlIdeal.τ) (Cert.WMlIdeal.main (F := Ideal))) ⟨m, fun _ => 0, g⟩ (fun r => ∀ c : Dev Cert.WMlIdeal.nD,
          r.2.mem ((c.tc : Thread Cert.WMlIdeal.nD Cert.WMlIdeal.τ).loc Cert.WMlIdeal.main_v1) = v0 c
          ∧ r.2.mem ((c.tc : Thread Cert.WMlIdeal.nD Cert.WMlIdeal.τ).loc Cert.WMlIdeal.main_arg0) = m ((c.tc : Thread Cert.WMlIdeal.nD Cert.WMlIdeal.τ).loc Cert.WMlIdeal.main_arg0)
          ∧ r.2.mem ((c.tc : Thread Cert.WMlIdeal.nD Cert.WMlIdeal.τ).loc Cert.WMlIdeal.main_arg1) = m ((c.tc : Thread Cert.WMlIdeal.nD Cert.WMlIdeal.τ).loc Cert.WMlIdeal.main_arg1))
      ∧ θ_run (Cert.WMlRefIdeal.defs (F := Ideal)) (onTc (τ := Cert.WMlRefIdeal.τ) (Cert.WMlRefIdeal.main (F := Ideal))) ⟨m', fun _ => 0, g'⟩ (fun r => ∀ c : Dev Cert.WMlRefIdeal.nD,
          r.2.mem ((c.tc : Thread Cert.WMlRefIdeal.nD Cert.WMlRefIdeal.τ).loc Cert.WMlRefIdeal.main_v5) = v0 c
          ∧ r.2.mem ((c.tc : Thread Cert.WMlRefIdeal.nD Cert.WMlRefIdeal.τ).loc Cert.WMlRefIdeal.main_arg0) = m' ((c.tc : Thread Cert.WMlRefIdeal.nD Cert.WMlRefIdeal.τ).loc Cert.WMlRefIdeal.main_arg0)
          ∧ r.2.mem ((c.tc : Thread Cert.WMlRefIdeal.nD Cert.WMlRefIdeal.τ).loc Cert.WMlRefIdeal.main_arg1) = m' ((c.tc : Thread Cert.WMlRefIdeal.nD Cert.WMlRefIdeal.τ).loc Cert.WMlRefIdeal.main_arg1))

def preserves_WSw_WSwIdeal : Prop :=
  True

def algebraic_WSwIdeal_WSwRefIdeal [hWSwIdeal : Cert.WSwIdeal.Facts] [hWSwRefIdeal : Cert.WSwRefIdeal.Facts] : Prop :=
  ∀ (m : (ℓ : Loc Cert.WSwIdeal.nD Cert.WSwIdeal.τ Cert.WSwIdeal.sig) → Buf (Elt Ideal) ℓ) (g : Dev Cert.WSwIdeal.nD → PrngReg)
    (m' : (ℓ : Loc Cert.WSwRefIdeal.nD Cert.WSwRefIdeal.τ Cert.WSwRefIdeal.sig) → Buf (Elt Ideal) ℓ) (g' : Dev Cert.WSwRefIdeal.nD → PrngReg), Pre_WSwIdeal m →
    (∀ c : Dev Cert.WSwIdeal.nD,
      m' ((c.tc : Thread Cert.WSwRefIdeal.nD Cert.WSwRefIdeal.τ).loc Cert.WSwRefIdeal.main_arg0) = m ((c.tc : Thread Cert.WSwIdeal.nD Cert.WSwIdeal.τ).loc Cert.WSwIdeal.main_arg0)
      ∧ m' ((c.tc : Thread Cert.WSwRefIdeal.nD Cert.WSwRefIdeal.τ).loc Cert.WSwRefIdeal.main_arg1) = m ((c.tc : Thread Cert.WSwIdeal.nD Cert.WSwIdeal.τ).loc Cert.WSwIdeal.main_arg1)) →
    ∃ (v0 : (c : Dev Cert.WSwIdeal.nD) → Buf (Elt Ideal) ((c.tc : Thread Cert.WSwIdeal.nD Cert.WSwIdeal.τ).loc Cert.WSwIdeal.main_v1)),
      θ_run (Cert.WSwIdeal.defs (F := Ideal)) (onTc (τ := Cert.WSwIdeal.τ) (Cert.WSwIdeal.main (F := Ideal))) ⟨m, fun _ => 0, g⟩ (fun r => ∀ c : Dev Cert.WSwIdeal.nD,
          r.2.mem ((c.tc : Thread Cert.WSwIdeal.nD Cert.WSwIdeal.τ).loc Cert.WSwIdeal.main_v1) = v0 c
          ∧ r.2.mem ((c.tc : Thread Cert.WSwIdeal.nD Cert.WSwIdeal.τ).loc Cert.WSwIdeal.main_arg0) = m ((c.tc : Thread Cert.WSwIdeal.nD Cert.WSwIdeal.τ).loc Cert.WSwIdeal.main_arg0)
          ∧ r.2.mem ((c.tc : Thread Cert.WSwIdeal.nD Cert.WSwIdeal.τ).loc Cert.WSwIdeal.main_arg1) = m ((c.tc : Thread Cert.WSwIdeal.nD Cert.WSwIdeal.τ).loc Cert.WSwIdeal.main_arg1))
      ∧ θ_run (Cert.WSwRefIdeal.defs (F := Ideal)) (onTc (τ := Cert.WSwRefIdeal.τ) (Cert.WSwRefIdeal.main (F := Ideal))) ⟨m', fun _ => 0, g'⟩ (fun r => ∀ c : Dev Cert.WSwRefIdeal.nD,
          r.2.mem ((c.tc : Thread Cert.WSwRefIdeal.nD Cert.WSwRefIdeal.τ).loc Cert.WSwRefIdeal.main_v5) = v0 c
          ∧ r.2.mem ((c.tc : Thread Cert.WSwRefIdeal.nD Cert.WSwRefIdeal.τ).loc Cert.WSwRefIdeal.main_arg0) = m' ((c.tc : Thread Cert.WSwRefIdeal.nD Cert.WSwRefIdeal.τ).loc Cert.WSwRefIdeal.main_arg0)
          ∧ r.2.mem ((c.tc : Thread Cert.WSwRefIdeal.nD Cert.WSwRefIdeal.τ).loc Cert.WSwRefIdeal.main_arg1) = m' ((c.tc : Thread Cert.WSwRefIdeal.nD Cert.WSwRefIdeal.τ).loc Cert.WSwRefIdeal.main_arg1))

def preserves_WWo_WWoIdeal : Prop :=
  True

def algebraic_WWoIdeal_WWoRefIdeal [hWWoIdeal : Cert.WWoIdeal.Facts] [hWWoRefIdeal : Cert.WWoRefIdeal.Facts] : Prop :=
  ∀ (m : (ℓ : Loc Cert.WWoIdeal.nD Cert.WWoIdeal.τ Cert.WWoIdeal.sig) → Buf (Elt Ideal) ℓ) (g : Dev Cert.WWoIdeal.nD → PrngReg)
    (m' : (ℓ : Loc Cert.WWoRefIdeal.nD Cert.WWoRefIdeal.τ Cert.WWoRefIdeal.sig) → Buf (Elt Ideal) ℓ) (g' : Dev Cert.WWoRefIdeal.nD → PrngReg), Pre_WWoIdeal m →
    (∀ c : Dev Cert.WWoIdeal.nD,
      m' ((c.tc : Thread Cert.WWoRefIdeal.nD Cert.WWoRefIdeal.τ).loc Cert.WWoRefIdeal.main_arg0) = m ((c.tc : Thread Cert.WWoIdeal.nD Cert.WWoIdeal.τ).loc Cert.WWoIdeal.main_arg0)
      ∧ m' ((c.tc : Thread Cert.WWoRefIdeal.nD Cert.WWoRefIdeal.τ).loc Cert.WWoRefIdeal.main_arg1) = m ((c.tc : Thread Cert.WWoIdeal.nD Cert.WWoIdeal.τ).loc Cert.WWoIdeal.main_arg1)) →
    ∃ (v0 : (c : Dev Cert.WWoIdeal.nD) → Buf (Elt Ideal) ((c.tc : Thread Cert.WWoIdeal.nD Cert.WWoIdeal.τ).loc Cert.WWoIdeal.main_v0)),
      θ_run (Cert.WWoIdeal.defs (F := Ideal)) (onTc (τ := Cert.WWoIdeal.τ) (Cert.WWoIdeal.main (F := Ideal))) ⟨m, fun _ => 0, g⟩ (fun r => ∀ c : Dev Cert.WWoIdeal.nD,
          r.2.mem ((c.tc : Thread Cert.WWoIdeal.nD Cert.WWoIdeal.τ).loc Cert.WWoIdeal.main_v0) = v0 c
          ∧ r.2.mem ((c.tc : Thread Cert.WWoIdeal.nD Cert.WWoIdeal.τ).loc Cert.WWoIdeal.main_arg0) = m ((c.tc : Thread Cert.WWoIdeal.nD Cert.WWoIdeal.τ).loc Cert.WWoIdeal.main_arg0)
          ∧ r.2.mem ((c.tc : Thread Cert.WWoIdeal.nD Cert.WWoIdeal.τ).loc Cert.WWoIdeal.main_arg1) = m ((c.tc : Thread Cert.WWoIdeal.nD Cert.WWoIdeal.τ).loc Cert.WWoIdeal.main_arg1))
      ∧ θ_run (Cert.WWoRefIdeal.defs (F := Ideal)) (onTc (τ := Cert.WWoRefIdeal.τ) (Cert.WWoRefIdeal.main (F := Ideal))) ⟨m', fun _ => 0, g'⟩ (fun r => ∀ c : Dev Cert.WWoRefIdeal.nD,
          r.2.mem ((c.tc : Thread Cert.WWoRefIdeal.nD Cert.WWoRefIdeal.τ).loc Cert.WWoRefIdeal.main_v5) = v0 c
          ∧ r.2.mem ((c.tc : Thread Cert.WWoRefIdeal.nD Cert.WWoRefIdeal.τ).loc Cert.WWoRefIdeal.main_arg0) = m' ((c.tc : Thread Cert.WWoRefIdeal.nD Cert.WWoRefIdeal.τ).loc Cert.WWoRefIdeal.main_arg0)
          ∧ r.2.mem ((c.tc : Thread Cert.WWoRefIdeal.nD Cert.WWoRefIdeal.τ).loc Cert.WWoRefIdeal.main_arg1) = m' ((c.tc : Thread Cert.WWoRefIdeal.nD Cert.WWoRefIdeal.τ).loc Cert.WWoRefIdeal.main_arg1))

def preserves_WHalf_WHalfIdeal : Prop :=
  True

def algebraic_WHalfIdeal_WHalfRefIdeal [hWHalfIdeal : Cert.WHalfIdeal.Facts] [hWHalfRefIdeal : Cert.WHalfRefIdeal.Facts] : Prop :=
  ∀ (m : (ℓ : Loc Cert.WHalfIdeal.nD Cert.WHalfIdeal.τ Cert.WHalfIdeal.sig) → Buf (Elt Ideal) ℓ) (g : Dev Cert.WHalfIdeal.nD → PrngReg)
    (m' : (ℓ : Loc Cert.WHalfRefIdeal.nD Cert.WHalfRefIdeal.τ Cert.WHalfRefIdeal.sig) → Buf (Elt Ideal) ℓ) (g' : Dev Cert.WHalfRefIdeal.nD → PrngReg), Pre_WHalfIdeal m →
    (∀ c : Dev Cert.WHalfIdeal.nD,
      m' ((c.tc : Thread Cert.WHalfRefIdeal.nD Cert.WHalfRefIdeal.τ).loc Cert.WHalfRefIdeal.main_arg0) = m ((c.tc : Thread Cert.WHalfIdeal.nD Cert.WHalfIdeal.τ).loc Cert.WHalfIdeal.main_arg0)
      ∧ m' ((c.tc : Thread Cert.WHalfRefIdeal.nD Cert.WHalfRefIdeal.τ).loc Cert.WHalfRefIdeal.main_arg1) = m ((c.tc : Thread Cert.WHalfIdeal.nD Cert.WHalfIdeal.τ).loc Cert.WHalfIdeal.main_arg1)) →
    ∃ (v0 : (c : Dev Cert.WHalfIdeal.nD) → Buf (Elt Ideal) ((c.tc : Thread Cert.WHalfIdeal.nD Cert.WHalfIdeal.τ).loc Cert.WHalfIdeal.main_v0)),
      θ_run (Cert.WHalfIdeal.defs (F := Ideal)) (onTc (τ := Cert.WHalfIdeal.τ) (Cert.WHalfIdeal.main (F := Ideal))) ⟨m, fun _ => 0, g⟩ (fun r => ∀ c : Dev Cert.WHalfIdeal.nD,
          r.2.mem ((c.tc : Thread Cert.WHalfIdeal.nD Cert.WHalfIdeal.τ).loc Cert.WHalfIdeal.main_v0) = v0 c
          ∧ r.2.mem ((c.tc : Thread Cert.WHalfIdeal.nD Cert.WHalfIdeal.τ).loc Cert.WHalfIdeal.main_arg0) = m ((c.tc : Thread Cert.WHalfIdeal.nD Cert.WHalfIdeal.τ).loc Cert.WHalfIdeal.main_arg0)
          ∧ r.2.mem ((c.tc : Thread Cert.WHalfIdeal.nD Cert.WHalfIdeal.τ).loc Cert.WHalfIdeal.main_arg1) = m ((c.tc : Thread Cert.WHalfIdeal.nD Cert.WHalfIdeal.τ).loc Cert.WHalfIdeal.main_arg1))
      ∧ θ_run (Cert.WHalfRefIdeal.defs (F := Ideal)) (onTc (τ := Cert.WHalfRefIdeal.τ) (Cert.WHalfRefIdeal.main (F := Ideal))) ⟨m', fun _ => 0, g'⟩ (fun r => ∀ c : Dev Cert.WHalfRefIdeal.nD,
          r.2.mem ((c.tc : Thread Cert.WHalfRefIdeal.nD Cert.WHalfRefIdeal.τ).loc Cert.WHalfRefIdeal.main_v5) = v0 c
          ∧ r.2.mem ((c.tc : Thread Cert.WHalfRefIdeal.nD Cert.WHalfRefIdeal.τ).loc Cert.WHalfRefIdeal.main_arg0) = m' ((c.tc : Thread Cert.WHalfRefIdeal.nD Cert.WHalfRefIdeal.τ).loc Cert.WHalfRefIdeal.main_arg0)
          ∧ r.2.mem ((c.tc : Thread Cert.WHalfRefIdeal.nD Cert.WHalfRefIdeal.τ).loc Cert.WHalfRefIdeal.main_arg1) = m' ((c.tc : Thread Cert.WHalfRefIdeal.nD Cert.WHalfRefIdeal.τ).loc Cert.WHalfRefIdeal.main_arg1))

def preserves_WKv_WKvIdeal : Prop :=
  True

def algebraic_WKvIdeal_WKvRefIdeal [hWKvIdeal : Cert.WKvIdeal.Facts] [hWKvRefIdeal : Cert.WKvRefIdeal.Facts] : Prop :=
  ∀ (m : (ℓ : Loc Cert.WKvIdeal.nD Cert.WKvIdeal.τ Cert.WKvIdeal.sig) → Buf (Elt Ideal) ℓ) (g : Dev Cert.WKvIdeal.nD → PrngReg)
    (m' : (ℓ : Loc Cert.WKvRefIdeal.nD Cert.WKvRefIdeal.τ Cert.WKvRefIdeal.sig) → Buf (Elt Ideal) ℓ) (g' : Dev Cert.WKvRefIdeal.nD → PrngReg), Pre_WKvIdeal m →
    (∀ c : Dev Cert.WKvIdeal.nD,
      m' ((c.tc : Thread Cert.WKvRefIdeal.nD Cert.WKvRefIdeal.τ).loc Cert.WKvRefIdeal.main_arg0) = m ((c.tc : Thread Cert.WKvIdeal.nD Cert.WKvIdeal.τ).loc Cert.WKvIdeal.main_arg0)
      ∧ m' ((c.tc : Thread Cert.WKvRefIdeal.nD Cert.WKvRefIdeal.τ).loc Cert.WKvRefIdeal.main_arg1) = m ((c.tc : Thread Cert.WKvIdeal.nD Cert.WKvIdeal.τ).loc Cert.WKvIdeal.main_arg1)) →
    ∃ (v0 : (c : Dev Cert.WKvIdeal.nD) → Buf (Elt Ideal) ((c.tc : Thread Cert.WKvIdeal.nD Cert.WKvIdeal.τ).loc Cert.WKvIdeal.main_v0)),
      θ_run (Cert.WKvIdeal.defs (F := Ideal)) (onTc (τ := Cert.WKvIdeal.τ) (Cert.WKvIdeal.main (F := Ideal))) ⟨m, fun _ => 0, g⟩ (fun r => ∀ c : Dev Cert.WKvIdeal.nD,
          r.2.mem ((c.tc : Thread Cert.WKvIdeal.nD Cert.WKvIdeal.τ).loc Cert.WKvIdeal.main_v0) = v0 c
          ∧ r.2.mem ((c.tc : Thread Cert.WKvIdeal.nD Cert.WKvIdeal.τ).loc Cert.WKvIdeal.main_arg0) = m ((c.tc : Thread Cert.WKvIdeal.nD Cert.WKvIdeal.τ).loc Cert.WKvIdeal.main_arg0)
          ∧ r.2.mem ((c.tc : Thread Cert.WKvIdeal.nD Cert.WKvIdeal.τ).loc Cert.WKvIdeal.main_arg1) = m ((c.tc : Thread Cert.WKvIdeal.nD Cert.WKvIdeal.τ).loc Cert.WKvIdeal.main_arg1))
      ∧ θ_run (Cert.WKvRefIdeal.defs (F := Ideal)) (onTc (τ := Cert.WKvRefIdeal.τ) (Cert.WKvRefIdeal.main (F := Ideal))) ⟨m', fun _ => 0, g'⟩ (fun r => ∀ c : Dev Cert.WKvRefIdeal.nD,
          r.2.mem ((c.tc : Thread Cert.WKvRefIdeal.nD Cert.WKvRefIdeal.τ).loc Cert.WKvRefIdeal.main_v3) = v0 c
          ∧ r.2.mem ((c.tc : Thread Cert.WKvRefIdeal.nD Cert.WKvRefIdeal.τ).loc Cert.WKvRefIdeal.main_arg0) = m' ((c.tc : Thread Cert.WKvRefIdeal.nD Cert.WKvRefIdeal.τ).loc Cert.WKvRefIdeal.main_arg0)
          ∧ r.2.mem ((c.tc : Thread Cert.WKvRefIdeal.nD Cert.WKvRefIdeal.τ).loc Cert.WKvRefIdeal.main_arg1) = m' ((c.tc : Thread Cert.WKvRefIdeal.nD Cert.WKvRefIdeal.τ).loc Cert.WKvRefIdeal.main_arg1))

def preserves_DHcat_DHcatIdeal : Prop :=
  True

def algebraic_DHcatIdeal_DHcatRefIdeal [hDHcatIdeal : Cert.DHcatIdeal.Facts] [hDHcatRefIdeal : Cert.DHcatRefIdeal.Facts] : Prop :=
  ∀ (m : (ℓ : Loc Cert.DHcatIdeal.nD Cert.DHcatIdeal.τ Cert.DHcatIdeal.sig) → Buf (Elt Ideal) ℓ) (g : Dev Cert.DHcatIdeal.nD → PrngReg)
    (m' : (ℓ : Loc Cert.DHcatRefIdeal.nD Cert.DHcatRefIdeal.τ Cert.DHcatRefIdeal.sig) → Buf (Elt Ideal) ℓ) (g' : Dev Cert.DHcatRefIdeal.nD → PrngReg), Pre_DHcatIdeal m →
    (∀ c : Dev Cert.DHcatIdeal.nD,
      m' ((c.tc : Thread Cert.DHcatRefIdeal.nD Cert.DHcatRefIdeal.τ).loc Cert.DHcatRefIdeal.main_arg0) = m ((c.tc : Thread Cert.DHcatIdeal.nD Cert.DHcatIdeal.τ).loc Cert.DHcatIdeal.main_arg0)
      ∧ m' ((c.tc : Thread Cert.DHcatRefIdeal.nD Cert.DHcatRefIdeal.τ).loc Cert.DHcatRefIdeal.main_arg1) = m ((c.tc : Thread Cert.DHcatIdeal.nD Cert.DHcatIdeal.τ).loc Cert.DHcatIdeal.main_arg1)) →
    ∃ (v0 : (c : Dev Cert.DHcatIdeal.nD) → Buf (Elt Ideal) ((c.tc : Thread Cert.DHcatIdeal.nD Cert.DHcatIdeal.τ).loc Cert.DHcatIdeal.main_v0)),
      θ_run (Cert.DHcatIdeal.defs (F := Ideal)) (onTc (τ := Cert.DHcatIdeal.τ) (Cert.DHcatIdeal.main (F := Ideal))) ⟨m, fun _ => 0, g⟩ (fun r => ∀ c : Dev Cert.DHcatIdeal.nD,
          r.2.mem ((c.tc : Thread Cert.DHcatIdeal.nD Cert.DHcatIdeal.τ).loc Cert.DHcatIdeal.main_v0) = v0 c
          ∧ r.2.mem ((c.tc : Thread Cert.DHcatIdeal.nD Cert.DHcatIdeal.τ).loc Cert.DHcatIdeal.main_arg0) = m ((c.tc : Thread Cert.DHcatIdeal.nD Cert.DHcatIdeal.τ).loc Cert.DHcatIdeal.main_arg0)
          ∧ r.2.mem ((c.tc : Thread Cert.DHcatIdeal.nD Cert.DHcatIdeal.τ).loc Cert.DHcatIdeal.main_arg1) = m ((c.tc : Thread Cert.DHcatIdeal.nD Cert.DHcatIdeal.τ).loc Cert.DHcatIdeal.main_arg1))
      ∧ θ_run (Cert.DHcatRefIdeal.defs (F := Ideal)) (onTc (τ := Cert.DHcatRefIdeal.τ) (Cert.DHcatRefIdeal.main (F := Ideal))) ⟨m', fun _ => 0, g'⟩ (fun r => ∀ c : Dev Cert.DHcatRefIdeal.nD,
          r.2.mem ((c.tc : Thread Cert.DHcatRefIdeal.nD Cert.DHcatRefIdeal.τ).loc Cert.DHcatRefIdeal.main_v4) = v0 c
          ∧ r.2.mem ((c.tc : Thread Cert.DHcatRefIdeal.nD Cert.DHcatRefIdeal.τ).loc Cert.DHcatRefIdeal.main_arg0) = m' ((c.tc : Thread Cert.DHcatRefIdeal.nD Cert.DHcatRefIdeal.τ).loc Cert.DHcatRefIdeal.main_arg0)
          ∧ r.2.mem ((c.tc : Thread Cert.DHcatRefIdeal.nD Cert.DHcatRefIdeal.τ).loc Cert.DHcatRefIdeal.main_arg1) = m' ((c.tc : Thread Cert.DHcatRefIdeal.nD Cert.DHcatRefIdeal.τ).loc Cert.DHcatRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)) →
    ∃ (v0 : (c : Dev Cert.InGradIdeal.nD) → Buf (Elt Ideal) ((c.tc : Thread Cert.InGradIdeal.nD Cert.InGradIdeal.τ).loc Cert.InGradIdeal.main_v9)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v9) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v11) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)) (v3 : (c : Dev Cert.MixOutIdeal.nD) → Buf (Elt Ideal) ((c.tc : Thread Cert.MixOutIdeal.nD Cert.MixOutIdeal.τ).loc Cert.MixOutIdeal.main_v0_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_v0_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v32) = v0 c
          ∧ r.2.mem ((c.tc : Thread Cert.MixOutRefIdeal.nD Cert.MixOutRefIdeal.τ).loc Cert.MixOutRefIdeal.main_v33) = v1 c
          ∧ r.2.mem ((c.tc : Thread Cert.MixOutRefIdeal.nD Cert.MixOutRefIdeal.τ).loc Cert.MixOutRefIdeal.main_v35) = v2 c
          ∧ r.2.mem ((c.tc : Thread Cert.MixOutRefIdeal.nD Cert.MixOutRefIdeal.τ).loc Cert.MixOutRefIdeal.main_v6) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_XaOut_XaOutIdeal : Prop :=
  True

def algebraic_XaOutIdeal_XaOutRefIdeal [hXaOutIdeal : Cert.XaOutIdeal.Facts] [hXaOutRefIdeal : Cert.XaOutRefIdeal.Facts] : Prop :=
  ∀ (m : (ℓ : Loc Cert.XaOutIdeal.nD Cert.XaOutIdeal.τ Cert.XaOutIdeal.sig) → Buf (Elt Ideal) ℓ) (g : Dev Cert.XaOutIdeal.nD → PrngReg)
    (m' : (ℓ : Loc Cert.XaOutRefIdeal.nD Cert.XaOutRefIdeal.τ Cert.XaOutRefIdeal.sig) → Buf (Elt Ideal) ℓ) (g' : Dev Cert.XaOutRefIdeal.nD → PrngReg), Pre_XaOutIdeal m →
    (∀ c : Dev Cert.XaOutIdeal.nD,
      m' ((c.tc : Thread Cert.XaOutRefIdeal.nD Cert.XaOutRefIdeal.τ).loc Cert.XaOutRefIdeal.main_arg0) = m ((c.tc : Thread Cert.XaOutIdeal.nD Cert.XaOutIdeal.τ).loc Cert.XaOutIdeal.main_arg0)
      ∧ m' ((c.tc : Thread Cert.XaOutRefIdeal.nD Cert.XaOutRefIdeal.τ).loc Cert.XaOutRefIdeal.main_arg1) = m ((c.tc : Thread Cert.XaOutIdeal.nD Cert.XaOutIdeal.τ).loc Cert.XaOutIdeal.main_arg1)
      ∧ m' ((c.tc : Thread Cert.XaOutRefIdeal.nD Cert.XaOutRefIdeal.τ).loc Cert.XaOutRefIdeal.main_arg2) = m ((c.tc : Thread Cert.XaOutIdeal.nD Cert.XaOutIdeal.τ).loc Cert.XaOutIdeal.main_arg2)
      ∧ m' ((c.tc : Thread Cert.XaOutRefIdeal.nD Cert.XaOutRefIdeal.τ).loc Cert.XaOutRefIdeal.main_arg3) = m ((c.tc : Thread Cert.XaOutIdeal.nD Cert.XaOutIdeal.τ).loc Cert.XaOutIdeal.main_arg3)
      ∧ m' ((c.tc : Thread Cert.XaOutRefIdeal.nD Cert.XaOutRefIdeal.τ).loc Cert.XaOutRefIdeal.main_arg4) = m ((c.tc : Thread Cert.XaOutIdeal.nD Cert.XaOutIdeal.τ).loc Cert.XaOutIdeal.main_arg4)) →
    ∃ (v0 : (c : Dev Cert.XaOutIdeal.nD) → Buf (Elt Ideal) ((c.tc : Thread Cert.XaOutIdeal.nD Cert.XaOutIdeal.τ).loc Cert.XaOutIdeal.main_v0_0)) (v1 : (c : Dev Cert.XaOutIdeal.nD) → Buf (Elt Ideal) ((c.tc : Thread Cert.XaOutIdeal.nD Cert.XaOutIdeal.τ).loc Cert.XaOutIdeal.main_v0_1)) (v2 : (c : Dev Cert.XaOutIdeal.nD) → Buf (Elt Ideal) ((c.tc : Thread Cert.XaOutIdeal.nD Cert.XaOutIdeal.τ).loc Cert.XaOutIdeal.main_v0_2)) (v3 : (c : Dev Cert.XaOutIdeal.nD) → Buf (Elt Ideal) ((c.tc : Thread Cert.XaOutIdeal.nD Cert.XaOutIdeal.τ).loc Cert.XaOutIdeal.main_v0_3)),
      θ_run (Cert.XaOutIdeal.defs (F := Ideal)) (onTc (τ := Cert.XaOutIdeal.τ) (Cert.XaOutIdeal.main (F := Ideal))) ⟨m, fun _ => 0, g⟩ (fun r => ∀ c : Dev Cert.XaOutIdeal.nD,
          r.2.mem ((c.tc : Thread Cert.XaOutIdeal.nD Cert.XaOutIdeal.τ).loc Cert.XaOutIdeal.main_v0_0) = v0 c
          ∧ r.2.mem ((c.tc : Thread Cert.XaOutIdeal.nD Cert.XaOutIdeal.τ).loc Cert.XaOutIdeal.main_v0_1) = v1 c
          ∧ r.2.mem ((c.tc : Thread Cert.XaOutIdeal.nD Cert.XaOutIdeal.τ).loc Cert.XaOutIdeal.main_v0_2) = v2 c
          ∧ r.2.mem ((c.tc : Thread Cert.XaOutIdeal.nD Cert.XaOutIdeal.τ).loc Cert.XaOutIdeal.main_v0_3) = v3 c
          ∧ r.2.mem ((c.tc : Thread Cert.XaOutIdeal.nD Cert.XaOutIdeal.τ).loc Cert.XaOutIdeal.main_arg0) = m ((c.tc : Thread Cert.XaOutIdeal.nD Cert.XaOutIdeal.τ).loc Cert.XaOutIdeal.main_arg0)
          ∧ r.2.mem ((c.tc : Thread Cert.XaOutIdeal.nD Cert.XaOutIdeal.τ).loc Cert.XaOutIdeal.main_arg1) = m ((c.tc : Thread Cert.XaOutIdeal.nD Cert.XaOutIdeal.τ).loc Cert.XaOutIdeal.main_arg1)
          ∧ r.2.mem ((c.tc : Thread Cert.XaOutIdeal.nD Cert.XaOutIdeal.τ).loc Cert.XaOutIdeal.main_arg2) = m ((c.tc : Thread Cert.XaOutIdeal.nD Cert.XaOutIdeal.τ).loc Cert.XaOutIdeal.main_arg2)
          ∧ r.2.mem ((c.tc : Thread Cert.XaOutIdeal.nD Cert.XaOutIdeal.τ).loc Cert.XaOutIdeal.main_arg3) = m ((c.tc : Thread Cert.XaOutIdeal.nD Cert.XaOutIdeal.τ).loc Cert.XaOutIdeal.main_arg3)
          ∧ r.2.mem ((c.tc : Thread Cert.XaOutIdeal.nD Cert.XaOutIdeal.τ).loc Cert.XaOutIdeal.main_arg4) = m ((c.tc : Thread Cert.XaOutIdeal.nD Cert.XaOutIdeal.τ).loc Cert.XaOutIdeal.main_arg4))
      ∧ θ_run (Cert.XaOutRefIdeal.defs (F := Ideal)) (onTc (τ := Cert.XaOutRefIdeal.τ) (Cert.XaOutRefIdeal.main (F := Ideal))) ⟨m', fun _ => 0, g'⟩ (fun r => ∀ c : Dev Cert.XaOutRefIdeal.nD,
          r.2.mem ((c.tc : Thread Cert.XaOutRefIdeal.nD Cert.XaOutRefIdeal.τ).loc Cert.XaOutRefIdeal.main_v31) = v0 c
          ∧ r.2.mem ((c.tc : Thread Cert.XaOutRefIdeal.nD Cert.XaOutRefIdeal.τ).loc Cert.XaOutRefIdeal.main_v32) = v1 c
          ∧ r.2.mem ((c.tc : Thread Cert.XaOutRefIdeal.nD Cert.XaOutRefIdeal.τ).loc Cert.XaOutRefIdeal.main_v34) = v2 c
          ∧ r.2.mem ((c.tc : Thread Cert.XaOutRefIdeal.nD Cert.XaOutRefIdeal.τ).loc Cert.XaOutRefIdeal.main_v5) = v3 c
          ∧ r.2.mem ((c.tc : Thread Cert.XaOutRefIdeal.nD Cert.XaOutRefIdeal.τ).loc Cert.XaOutRefIdeal.main_arg0) = m' ((c.tc : Thread Cert.XaOutRefIdeal.nD Cert.XaOutRefIdeal.τ).loc Cert.XaOutRefIdeal.main_arg0)
          ∧ r.2.mem ((c.tc : Thread Cert.XaOutRefIdeal.nD Cert.XaOutRefIdeal.τ).loc Cert.XaOutRefIdeal.main_arg1) = m' ((c.tc : Thread Cert.XaOutRefIdeal.nD Cert.XaOutRefIdeal.τ).loc Cert.XaOutRefIdeal.main_arg1)
          ∧ r.2.mem ((c.tc : Thread Cert.XaOutRefIdeal.nD Cert.XaOutRefIdeal.τ).loc Cert.XaOutRefIdeal.main_arg2) = m' ((c.tc : Thread Cert.XaOutRefIdeal.nD Cert.XaOutRefIdeal.τ).loc Cert.XaOutRefIdeal.main_arg2)
          ∧ r.2.mem ((c.tc : Thread Cert.XaOutRefIdeal.nD Cert.XaOutRefIdeal.τ).loc Cert.XaOutRefIdeal.main_arg3) = m' ((c.tc : Thread Cert.XaOutRefIdeal.nD Cert.XaOutRefIdeal.τ).loc Cert.XaOutRefIdeal.main_arg3)
          ∧ r.2.mem ((c.tc : Thread Cert.XaOutRefIdeal.nD Cert.XaOutRefIdeal.τ).loc Cert.XaOutRefIdeal.main_arg4) = m' ((c.tc : Thread Cert.XaOutRefIdeal.nD Cert.XaOutRefIdeal.τ).loc Cert.XaOutRefIdeal.main_arg4))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)) (v3 : (c : Dev Cert.FfnOutIdeal.nD) → Buf (Elt Ideal) ((c.tc : Thread Cert.FfnOutIdeal.nD Cert.FfnOutIdeal.τ).loc Cert.FfnOutIdeal.main_v0_3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_v0_3) = v3 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v31) = v0 c
          ∧ r.2.mem ((c.tc : Thread Cert.FfnOutRefIdeal.nD Cert.FfnOutRefIdeal.τ).loc Cert.FfnOutRefIdeal.main_v32) = v1 c
          ∧ r.2.mem ((c.tc : Thread Cert.FfnOutRefIdeal.nD Cert.FfnOutRefIdeal.τ).loc Cert.FfnOutRefIdeal.main_v34) = v2 c
          ∧ r.2.mem ((c.tc : Thread Cert.FfnOutRefIdeal.nD Cert.FfnOutRefIdeal.τ).loc Cert.FfnOutRefIdeal.main_v5) = v3 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v43) = v0 c
          ∧ r.2.mem ((c.tc : Thread Cert.GateRefIdeal.nD Cert.GateRefIdeal.τ).loc Cert.GateRefIdeal.main_v45) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Attend_AttendIdeal : Prop :=
  True

def algebraic_AttendIdeal_AttendRefIdeal [hAttendIdeal : Cert.AttendIdeal.Facts] [hAttendRefIdeal : Cert.AttendRefIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v25) = v0 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2))

def preserves_UpGrad_UpGradIdeal : Prop :=
  True

def algebraic_UpGradIdeal_UpGradRefIdeal_pre_finite_up [hUpGradIdeal : Cert.UpGradIdeal.Facts] [hUpGradRefIdeal : Cert.UpGradRefIdeal.Facts] [hPre_finite_up : Cert.Pre_finite_up.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal_finite_up m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)
      ∧ m' ((c.tc : Thread Cert.UpGradRefIdeal.nD Cert.UpGradRefIdeal.τ).loc Cert.UpGradRefIdeal.main_arg2) = m ((c.tc : Thread Cert.UpGradIdeal.nD Cert.UpGradIdeal.τ).loc Cert.UpGradIdeal.main_arg2)
      ∧ m' ((c.tc : Thread Cert.UpGradRefIdeal.nD Cert.UpGradRefIdeal.τ).loc Cert.UpGradRefIdeal.main_arg3) = m ((c.tc : Thread Cert.UpGradIdeal.nD Cert.UpGradIdeal.τ).loc Cert.UpGradIdeal.main_arg3)
      ∧ m' ((c.tc : Thread Cert.UpGradRefIdeal.nD Cert.UpGradRefIdeal.τ).loc Cert.UpGradRefIdeal.main_arg4) = m ((c.tc : Thread Cert.UpGradIdeal.nD Cert.UpGradIdeal.τ).loc Cert.UpGradIdeal.main_arg4)
      ∧ m' ((c.tc : Thread Cert.UpGradRefIdeal.nD Cert.UpGradRefIdeal.τ).loc Cert.UpGradRefIdeal.main_arg5) = m ((c.tc : Thread Cert.UpGradIdeal.nD Cert.UpGradIdeal.τ).loc Cert.UpGradIdeal.main_arg5)) →
    ∃ (v0 : (c : Dev Cert.UpGradIdeal.nD) → Buf (Elt Ideal) ((c.tc : Thread Cert.UpGradIdeal.nD Cert.UpGradIdeal.τ).loc Cert.UpGradIdeal.main_v0_0)) (v1 : (c : Dev Cert.UpGradIdeal.nD) → Buf (Elt Ideal) ((c.tc : Thread Cert.UpGradIdeal.nD Cert.UpGradIdeal.τ).loc Cert.UpGradIdeal.main_v0_1)) (v2 : (c : Dev Cert.UpGradIdeal.nD) → Buf (Elt Ideal) ((c.tc : Thread Cert.UpGradIdeal.nD Cert.UpGradIdeal.τ).loc Cert.UpGradIdeal.main_v0_2)) (v3 : (c : Dev Cert.UpGradIdeal.nD) → Buf (Elt Ideal) ((c.tc : Thread Cert.UpGradIdeal.nD Cert.UpGradIdeal.τ).loc Cert.UpGradIdeal.main_v0_3)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0_0) = v0 c
          ∧ r.2.mem ((c.tc : Thread Cert.UpGradIdeal.nD Cert.UpGradIdeal.τ).loc Cert.UpGradIdeal.main_v0_1) = v1 c
          ∧ r.2.mem ((c.tc : Thread Cert.UpGradIdeal.nD Cert.UpGradIdeal.τ).loc Cert.UpGradIdeal.main_v0_2) = v2 c
          ∧ r.2.mem ((c.tc : Thread Cert.UpGradIdeal.nD Cert.UpGradIdeal.τ).loc Cert.UpGradIdeal.main_v0_3) = v3 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
          ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
          ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4)
          ∧ r.2.mem ((c.tc : Thread Cert.UpGradIdeal.nD Cert.UpGradIdeal.τ).loc Cert.UpGradIdeal.main_arg5) = m ((c.tc : Thread Cert.UpGradIdeal.nD Cert.UpGradIdeal.τ).loc Cert.UpGradIdeal.main_arg5))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v73) = v0 c
          ∧ r.2.mem ((c.tc : Thread Cert.UpGradRefIdeal.nD Cert.UpGradRefIdeal.τ).loc Cert.UpGradRefIdeal.main_v74) = v1 c
          ∧ r.2.mem ((c.tc : Thread Cert.UpGradRefIdeal.nD Cert.UpGradRefIdeal.τ).loc Cert.UpGradRefIdeal.main_v75) = v2 c
          ∧ r.2.mem ((c.tc : Thread Cert.UpGradRefIdeal.nD Cert.UpGradRefIdeal.τ).loc Cert.UpGradRefIdeal.main_v76) = v3 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1)
          ∧ r.2.mem ((c.tc : Thread Cert.UpGradRefIdeal.nD Cert.UpGradRefIdeal.τ).loc Cert.UpGradRefIdeal.main_arg2) = m' ((c.tc : Thread Cert.UpGradRefIdeal.nD Cert.UpGradRefIdeal.τ).loc Cert.UpGradRefIdeal.main_arg2)
          ∧ r.2.mem ((c.tc : Thread Cert.UpGradRefIdeal.nD Cert.UpGradRefIdeal.τ).loc Cert.UpGradRefIdeal.main_arg3) = m' ((c.tc : Thread Cert.UpGradRefIdeal.nD Cert.UpGradRefIdeal.τ).loc Cert.UpGradRefIdeal.main_arg3)
          ∧ r.2.mem ((c.tc : Thread Cert.UpGradRefIdeal.nD Cert.UpGradRefIdeal.τ).loc Cert.UpGradRefIdeal.main_arg4) = m' ((c.tc : Thread Cert.UpGradRefIdeal.nD Cert.UpGradRefIdeal.τ).loc Cert.UpGradRefIdeal.main_arg4)
          ∧ r.2.mem ((c.tc : Thread Cert.UpGradRefIdeal.nD Cert.UpGradRefIdeal.τ).loc Cert.UpGradRefIdeal.main_arg5) = m' ((c.tc : Thread Cert.UpGradRefIdeal.nD Cert.UpGradRefIdeal.τ).loc Cert.UpGradRefIdeal.main_arg5))

def preserves_QueryGrad_QueryGradIdeal : Prop :=
  True

def algebraic_QueryGradIdeal_QueryGradRefIdeal_pre_finite_query [hQueryGradIdeal : Cert.QueryGradIdeal.Facts] [hQueryGradRefIdeal : Cert.QueryGradRefIdeal.Facts] [hPre_finite_query : Cert.Pre_finite_query.Facts] : Prop :=
  ∀ (m : (ℓ : Loc Cert.QueryGradIdeal.nD Cert.QueryGradIdeal.τ Cert.QueryGradIdeal.sig) → Buf (Elt Ideal) ℓ) (g : Dev Cert.QueryGradIdeal.nD → PrngReg)
    (m' : (ℓ : Loc Cert.QueryGradRefIdeal.nD Cert.QueryGradRefIdeal.τ Cert.QueryGradRefIdeal.sig) → Buf (Elt Ideal) ℓ) (g' : Dev Cert.QueryGradRefIdeal.nD → PrngReg), Pre_QueryGradIdeal_finite_query m →
    (∀ c : Dev Cert.QueryGradIdeal.nD,
      m' ((c.tc : Thread Cert.QueryGradRefIdeal.nD Cert.QueryGradRefIdeal.τ).loc Cert.QueryGradRefIdeal.main_arg0) = m ((c.tc : Thread Cert.QueryGradIdeal.nD Cert.QueryGradIdeal.τ).loc Cert.QueryGradIdeal.main_arg0)
      ∧ m' ((c.tc : Thread Cert.QueryGradRefIdeal.nD Cert.QueryGradRefIdeal.τ).loc Cert.QueryGradRefIdeal.main_arg1) = m ((c.tc : Thread Cert.QueryGradIdeal.nD Cert.QueryGradIdeal.τ).loc Cert.QueryGradIdeal.main_arg1)
      ∧ m' ((c.tc : Thread Cert.QueryGradRefIdeal.nD Cert.QueryGradRefIdeal.τ).loc Cert.QueryGradRefIdeal.main_arg2) = m ((c.tc : Thread Cert.QueryGradIdeal.nD Cert.QueryGradIdeal.τ).loc Cert.QueryGradIdeal.main_arg2)
      ∧ m' ((c.tc : Thread Cert.QueryGradRefIdeal.nD Cert.QueryGradRefIdeal.τ).loc Cert.QueryGradRefIdeal.main_arg3) = m ((c.tc : Thread Cert.QueryGradIdeal.nD Cert.QueryGradIdeal.τ).loc Cert.QueryGradIdeal.main_arg3)
      ∧ m' ((c.tc : Thread Cert.QueryGradRefIdeal.nD Cert.QueryGradRefIdeal.τ).loc Cert.QueryGradRefIdeal.main_arg4) = m ((c.tc : Thread Cert.QueryGradIdeal.nD Cert.QueryGradIdeal.τ).loc Cert.QueryGradIdeal.main_arg4)) →
    ∃ (v0 : (c : Dev Cert.QueryGradIdeal.nD) → Buf (Elt Ideal) ((c.tc : Thread Cert.QueryGradIdeal.nD Cert.QueryGradIdeal.τ).loc Cert.QueryGradIdeal.main_v0_0)) (v1 : (c : Dev Cert.QueryGradIdeal.nD) → Buf (Elt Ideal) ((c.tc : Thread Cert.QueryGradIdeal.nD Cert.QueryGradIdeal.τ).loc Cert.QueryGradIdeal.main_v0_1)) (v2 : (c : Dev Cert.QueryGradIdeal.nD) → Buf (Elt Ideal) ((c.tc : Thread Cert.QueryGradIdeal.nD Cert.QueryGradIdeal.τ).loc Cert.QueryGradIdeal.main_v0_2)) (v3 : (c : Dev Cert.QueryGradIdeal.nD) → Buf (Elt Ideal) ((c.tc : Thread Cert.QueryGradIdeal.nD Cert.QueryGradIdeal.τ).loc Cert.QueryGradIdeal.main_v0_3)),
      θ_run (Cert.QueryGradIdeal.defs (F := Ideal)) (onTc (τ := Cert.QueryGradIdeal.τ) (Cert.QueryGradIdeal.main (F := Ideal))) ⟨m, fun _ => 0, g⟩ (fun r => ∀ c : Dev Cert.QueryGradIdeal.nD,
          r.2.mem ((c.tc : Thread Cert.QueryGradIdeal.nD Cert.QueryGradIdeal.τ).loc Cert.QueryGradIdeal.main_v0_0) = v0 c
          ∧ r.2.mem ((c.tc : Thread Cert.QueryGradIdeal.nD Cert.QueryGradIdeal.τ).loc Cert.QueryGradIdeal.main_v0_1) = v1 c
          ∧ r.2.mem ((c.tc : Thread Cert.QueryGradIdeal.nD Cert.QueryGradIdeal.τ).loc Cert.QueryGradIdeal.main_v0_2) = v2 c
          ∧ r.2.mem ((c.tc : Thread Cert.QueryGradIdeal.nD Cert.QueryGradIdeal.τ).loc Cert.QueryGradIdeal.main_v0_3) = v3 c
          ∧ r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
          ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1)
          ∧ r.2.mem ((c.tc : Thread Cert.QueryGradIdeal.nD Cert.QueryGradIdeal.τ).loc Cert.QueryGradIdeal.main_arg2) = m ((c.tc : Thread Cert.QueryGradIdeal.nD Cert.QueryGradIdeal.τ).loc Cert.QueryGradIdeal.main_arg2)
          ∧ r.2.mem ((c.tc : Thread Cert.QueryGradIdeal.nD Cert.QueryGradIdeal.τ).loc Cert.QueryGradIdeal.main_arg3) = m ((c.tc : Thread Cert.QueryGradIdeal.nD Cert.QueryGradIdeal.τ).loc Cert.QueryGradIdeal.main_arg3)
          ∧ r.2.mem ((c.tc : Thread Cert.QueryGradIdeal.nD Cert.QueryGradIdeal.τ).loc Cert.QueryGradIdeal.main_arg4) = m ((c.tc : Thread Cert.QueryGradIdeal.nD Cert.QueryGradIdeal.τ).loc Cert.QueryGradIdeal.main_arg4))
      ∧ θ_run (Cert.QueryGradRefIdeal.defs (F := Ideal)) (onTc (τ := Cert.QueryGradRefIdeal.τ) (Cert.QueryGradRefIdeal.main (F := Ideal))) ⟨m', fun _ => 0, g'⟩ (fun r => ∀ c : Dev Cert.QueryGradRefIdeal.nD,
          r.2.mem ((c.tc : Thread Cert.QueryGradRefIdeal.nD Cert.QueryGradRefIdeal.τ).loc Cert.QueryGradRefIdeal.main_v72) = v0 c
          ∧ r.2.mem ((c.tc : Thread Cert.QueryGradRefIdeal.nD Cert.QueryGradRefIdeal.τ).loc Cert.QueryGradRefIdeal.main_v73) = v1 c
          ∧ r.2.mem ((c.tc : Thread Cert.QueryGradRefIdeal.nD Cert.QueryGradRefIdeal.τ).loc Cert.QueryGradRefIdeal.main_v74) = v2 c
          ∧ r.2.mem ((c.tc : Thread Cert.QueryGradRefIdeal.nD Cert.QueryGradRefIdeal.τ).loc Cert.QueryGradRefIdeal.main_v75) = v3 c
          ∧ r.2.mem ((c.tc : Thread Cert.QueryGradRefIdeal.nD Cert.QueryGradRefIdeal.τ).loc Cert.QueryGradRefIdeal.main_arg0) = m' ((c.tc : Thread Cert.QueryGradRefIdeal.nD Cert.QueryGradRefIdeal.τ).loc Cert.QueryGradRefIdeal.main_arg0)
          ∧ r.2.mem ((c.tc : Thread Cert.QueryGradRefIdeal.nD Cert.QueryGradRefIdeal.τ).loc Cert.QueryGradRefIdeal.main_arg1) = m' ((c.tc : Thread Cert.QueryGradRefIdeal.nD Cert.QueryGradRefIdeal.τ).loc Cert.QueryGradRefIdeal.main_arg1)
          ∧ r.2.mem ((c.tc : Thread Cert.QueryGradRefIdeal.nD Cert.QueryGradRefIdeal.τ).loc Cert.QueryGradRefIdeal.main_arg2) = m' ((c.tc : Thread Cert.QueryGradRefIdeal.nD Cert.QueryGradRefIdeal.τ).loc Cert.QueryGradRefIdeal.main_arg2)
          ∧ r.2.mem ((c.tc : Thread Cert.QueryGradRefIdeal.nD Cert.QueryGradRefIdeal.τ).loc Cert.QueryGradRefIdeal.main_arg3) = m' ((c.tc : Thread Cert.QueryGradRefIdeal.nD Cert.QueryGradRefIdeal.τ).loc Cert.QueryGradRefIdeal.main_arg3)
          ∧ r.2.mem ((c.tc : Thread Cert.QueryGradRefIdeal.nD Cert.QueryGradRefIdeal.τ).loc Cert.QueryGradRefIdeal.main_arg4) = m' ((c.tc : Thread Cert.QueryGradRefIdeal.nD Cert.QueryGradRefIdeal.τ).loc Cert.QueryGradRefIdeal.main_arg4))

def preserves_LayerGrad_LayerGradIdeal : Prop :=
  True

def algebraic_LayerGradIdeal_LayerGradRefIdeal_pre_finite_layer [hLayerGradIdeal : Cert.LayerGradIdeal.Facts] [hLayerGradRefIdeal : Cert.LayerGradRefIdeal.Facts] [hPre_finite_layer : Cert.Pre_finite_layer.Facts] : Prop :=
  ∀ (m : (ℓ : Loc Cert.LayerGradIdeal.nD Cert.LayerGradIdeal.τ Cert.LayerGradIdeal.sig) → Buf (Elt Ideal) ℓ) (g : Dev Cert.LayerGradIdeal.nD → PrngReg)
    (m' : (ℓ : Loc Cert.LayerGradRefIdeal.nD Cert.LayerGradRefIdeal.τ Cert.LayerGradRefIdeal.sig) → Buf (Elt Ideal) ℓ) (g' : Dev Cert.LayerGradRefIdeal.nD → PrngReg), Pre_LayerGradIdeal_finite_layer m →
    (∀ c : Dev Cert.LayerGradIdeal.nD,
      m' ((c.tc : Thread Cert.LayerGradRefIdeal.nD Cert.LayerGradRefIdeal.τ).loc Cert.LayerGradRefIdeal.main_arg0) = m ((c.tc : Thread Cert.LayerGradIdeal.nD Cert.LayerGradIdeal.τ).loc Cert.LayerGradIdeal.main_arg0)
      ∧ m' ((c.tc : Thread Cert.LayerGradRefIdeal.nD Cert.LayerGradRefIdeal.τ).loc Cert.LayerGradRefIdeal.main_arg1) = m ((c.tc : Thread Cert.LayerGradIdeal.nD Cert.LayerGradIdeal.τ).loc Cert.LayerGradIdeal.main_arg1)
      ∧ m' ((c.tc : Thread Cert.LayerGradRefIdeal.nD Cert.LayerGradRefIdeal.τ).loc Cert.LayerGradRefIdeal.main_arg2) = m ((c.tc : Thread Cert.LayerGradIdeal.nD Cert.LayerGradIdeal.τ).loc Cert.LayerGradIdeal.main_arg2)
      ∧ m' ((c.tc : Thread Cert.LayerGradRefIdeal.nD Cert.LayerGradRefIdeal.τ).loc Cert.LayerGradRefIdeal.main_arg3) = m ((c.tc : Thread Cert.LayerGradIdeal.nD Cert.LayerGradIdeal.τ).loc Cert.LayerGradIdeal.main_arg3)
      ∧ m' ((c.tc : Thread Cert.LayerGradRefIdeal.nD Cert.LayerGradRefIdeal.τ).loc Cert.LayerGradRefIdeal.main_arg4) = m ((c.tc : Thread Cert.LayerGradIdeal.nD Cert.LayerGradIdeal.τ).loc Cert.LayerGradIdeal.main_arg4)
      ∧ m' ((c.tc : Thread Cert.LayerGradRefIdeal.nD Cert.LayerGradRefIdeal.τ).loc Cert.LayerGradRefIdeal.main_arg5) = m ((c.tc : Thread Cert.LayerGradIdeal.nD Cert.LayerGradIdeal.τ).loc Cert.LayerGradIdeal.main_arg5)
      ∧ m' ((c.tc : Thread Cert.LayerGradRefIdeal.nD Cert.LayerGradRefIdeal.τ).loc Cert.LayerGradRefIdeal.main_arg6) = m ((c.tc : Thread Cert.LayerGradIdeal.nD Cert.LayerGradIdeal.τ).loc Cert.LayerGradIdeal.main_arg6)) →
    ∃ (v0 : (c : Dev Cert.LayerGradIdeal.nD) → Buf (Elt Ideal) ((c.tc : Thread Cert.LayerGradIdeal.nD Cert.LayerGradIdeal.τ).loc Cert.LayerGradIdeal.main_v9_0)) (v1 : (c : Dev Cert.LayerGradIdeal.nD) → Buf (Elt Ideal) ((c.tc : Thread Cert.LayerGradIdeal.nD Cert.LayerGradIdeal.τ).loc Cert.LayerGradIdeal.main_v9_1)) (v2 : (c : Dev Cert.LayerGradIdeal.nD) → Buf (Elt Ideal) ((c.tc : Thread Cert.LayerGradIdeal.nD Cert.LayerGradIdeal.τ).loc Cert.LayerGradIdeal.main_v9_2)) (v3 : (c : Dev Cert.LayerGradIdeal.nD) → Buf (Elt Ideal) ((c.tc : Thread Cert.LayerGradIdeal.nD Cert.LayerGradIdeal.τ).loc Cert.LayerGradIdeal.main_v9_3)),
      θ_run (Cert.LayerGradIdeal.defs (F := Ideal)) (onTc (τ := Cert.LayerGradIdeal.τ) (Cert.LayerGradIdeal.main (F := Ideal))) ⟨m, fun _ => 0, g⟩ (fun r => ∀ c : Dev Cert.LayerGradIdeal.nD,
          r.2.mem ((c.tc : Thread Cert.LayerGradIdeal.nD Cert.LayerGradIdeal.τ).loc Cert.LayerGradIdeal.main_v9_0) = v0 c
          ∧ r.2.mem ((c.tc : Thread Cert.LayerGradIdeal.nD Cert.LayerGradIdeal.τ).loc Cert.LayerGradIdeal.main_v9_1) = v1 c
          ∧ r.2.mem ((c.tc : Thread Cert.LayerGradIdeal.nD Cert.LayerGradIdeal.τ).loc Cert.LayerGradIdeal.main_v9_2) = v2 c
          ∧ r.2.mem ((c.tc : Thread Cert.LayerGradIdeal.nD Cert.LayerGradIdeal.τ).loc Cert.LayerGradIdeal.main_v9_3) = v3 c
          ∧ r.2.mem ((c.tc : Thread Cert.LayerGradIdeal.nD Cert.LayerGradIdeal.τ).loc Cert.LayerGradIdeal.main_arg0) = m ((c.tc : Thread Cert.LayerGradIdeal.nD Cert.LayerGradIdeal.τ).loc Cert.LayerGradIdeal.main_arg0)
          ∧ r.2.mem ((c.tc : Thread Cert.LayerGradIdeal.nD Cert.LayerGradIdeal.τ).loc Cert.LayerGradIdeal.main_arg1) = m ((c.tc : Thread Cert.LayerGradIdeal.nD Cert.LayerGradIdeal.τ).loc Cert.LayerGradIdeal.main_arg1)
          ∧ r.2.mem ((c.tc : Thread Cert.LayerGradIdeal.nD Cert.LayerGradIdeal.τ).loc Cert.LayerGradIdeal.main_arg2) = m ((c.tc : Thread Cert.LayerGradIdeal.nD Cert.LayerGradIdeal.τ).loc Cert.LayerGradIdeal.main_arg2)
          ∧ r.2.mem ((c.tc : Thread Cert.LayerGradIdeal.nD Cert.LayerGradIdeal.τ).loc Cert.LayerGradIdeal.main_arg3) = m ((c.tc : Thread Cert.LayerGradIdeal.nD Cert.LayerGradIdeal.τ).loc Cert.LayerGradIdeal.main_arg3)
          ∧ r.2.mem ((c.tc : Thread Cert.LayerGradIdeal.nD Cert.LayerGradIdeal.τ).loc Cert.LayerGradIdeal.main_arg4) = m ((c.tc : Thread Cert.LayerGradIdeal.nD Cert.LayerGradIdeal.τ).loc Cert.LayerGradIdeal.main_arg4)
          ∧ r.2.mem ((c.tc : Thread Cert.LayerGradIdeal.nD Cert.LayerGradIdeal.τ).loc Cert.LayerGradIdeal.main_arg5) = m ((c.tc : Thread Cert.LayerGradIdeal.nD Cert.LayerGradIdeal.τ).loc Cert.LayerGradIdeal.main_arg5)
          ∧ r.2.mem ((c.tc : Thread Cert.LayerGradIdeal.nD Cert.LayerGradIdeal.τ).loc Cert.LayerGradIdeal.main_arg6) = m ((c.tc : Thread Cert.LayerGradIdeal.nD Cert.LayerGradIdeal.τ).loc Cert.LayerGradIdeal.main_arg6))
      ∧ θ_run (Cert.LayerGradRefIdeal.defs (F := Ideal)) (onTc (τ := Cert.LayerGradRefIdeal.τ) (Cert.LayerGradRefIdeal.main (F := Ideal))) ⟨m', fun _ => 0, g'⟩ (fun r => ∀ c : Dev Cert.LayerGradRefIdeal.nD,
          r.2.mem ((c.tc : Thread Cert.LayerGradRefIdeal.nD Cert.LayerGradRefIdeal.τ).loc Cert.LayerGradRefIdeal.main_v74) = v0 c
          ∧ r.2.mem ((c.tc : Thread Cert.LayerGradRefIdeal.nD Cert.LayerGradRefIdeal.τ).loc Cert.LayerGradRefIdeal.main_v75) = v1 c
          ∧ r.2.mem ((c.tc : Thread Cert.LayerGradRefIdeal.nD Cert.LayerGradRefIdeal.τ).loc Cert.LayerGradRefIdeal.main_v76) = v2 c
          ∧ r.2.mem ((c.tc : Thread Cert.LayerGradRefIdeal.nD Cert.LayerGradRefIdeal.τ).loc Cert.LayerGradRefIdeal.main_v77) = v3 c
          ∧ r.2.mem ((c.tc : Thread Cert.LayerGradRefIdeal.nD Cert.LayerGradRefIdeal.τ).loc Cert.LayerGradRefIdeal.main_arg0) = m' ((c.tc : Thread Cert.LayerGradRefIdeal.nD Cert.LayerGradRefIdeal.τ).loc Cert.LayerGradRefIdeal.main_arg0)
          ∧ r.2.mem ((c.tc : Thread Cert.LayerGradRefIdeal.nD Cert.LayerGradRefIdeal.τ).loc Cert.LayerGradRefIdeal.main_arg1) = m' ((c.tc : Thread Cert.LayerGradRefIdeal.nD Cert.LayerGradRefIdeal.τ).loc Cert.LayerGradRefIdeal.main_arg1)
          ∧ r.2.mem ((c.tc : Thread Cert.LayerGradRefIdeal.nD Cert.LayerGradRefIdeal.τ).loc Cert.LayerGradRefIdeal.main_arg2) = m' ((c.tc : Thread Cert.LayerGradRefIdeal.nD Cert.LayerGradRefIdeal.τ).loc Cert.LayerGradRefIdeal.main_arg2)
          ∧ r.2.mem ((c.tc : Thread Cert.LayerGradRefIdeal.nD Cert.LayerGradRefIdeal.τ).loc Cert.LayerGradRefIdeal.main_arg3) = m' ((c.tc : Thread Cert.LayerGradRefIdeal.nD Cert.LayerGradRefIdeal.τ).loc Cert.LayerGradRefIdeal.main_arg3)
          ∧ r.2.mem ((c.tc : Thread Cert.LayerGradRefIdeal.nD Cert.LayerGradRefIdeal.τ).loc Cert.LayerGradRefIdeal.main_arg4) = m' ((c.tc : Thread Cert.LayerGradRefIdeal.nD Cert.LayerGradRefIdeal.τ).loc Cert.LayerGradRefIdeal.main_arg4)
          ∧ r.2.mem ((c.tc : Thread Cert.LayerGradRefIdeal.nD Cert.LayerGradRefIdeal.τ).loc Cert.LayerGradRefIdeal.main_arg5) = m' ((c.tc : Thread Cert.LayerGradRefIdeal.nD Cert.LayerGradRefIdeal.τ).loc Cert.LayerGradRefIdeal.main_arg5)
          ∧ r.2.mem ((c.tc : Thread Cert.LayerGradRefIdeal.nD Cert.LayerGradRefIdeal.τ).loc Cert.LayerGradRefIdeal.main_arg6) = m' ((c.tc : Thread Cert.LayerGradRefIdeal.nD Cert.LayerGradRefIdeal.τ).loc Cert.LayerGradRefIdeal.main_arg6))

def Claim : Prop :=
  ∃ (hSwaBwd : Cert.SwaBwd.Facts) (hSwaBwdIdeal : Cert.SwaBwdIdeal.Facts) (hSwaRefIdeal : Cert.SwaRefIdeal.Facts) (hWUp : Cert.WUp.Facts) (hWUpIdeal : Cert.WUpIdeal.Facts) (hWUpRefIdeal : Cert.WUpRefIdeal.Facts) (hWDown : Cert.WDown.Facts) (hWDownIdeal : Cert.WDownIdeal.Facts) (hWDownRefIdeal : Cert.WDownRefIdeal.Facts) (hWQ : Cert.WQ.Facts) (hWQIdeal : Cert.WQIdeal.Facts) (hWQRefIdeal : Cert.WQRefIdeal.Facts) (hWMl : Cert.WMl.Facts) (hWMlIdeal : Cert.WMlIdeal.Facts) (hWMlRefIdeal : Cert.WMlRefIdeal.Facts) (hWSw : Cert.WSw.Facts) (hWSwIdeal : Cert.WSwIdeal.Facts) (hWSwRefIdeal : Cert.WSwRefIdeal.Facts) (hWWo : Cert.WWo.Facts) (hWWoIdeal : Cert.WWoIdeal.Facts) (hWWoRefIdeal : Cert.WWoRefIdeal.Facts) (hWHalf : Cert.WHalf.Facts) (hWHalfIdeal : Cert.WHalfIdeal.Facts) (hWHalfRefIdeal : Cert.WHalfRefIdeal.Facts) (hWKv : Cert.WKv.Facts) (hWKvIdeal : Cert.WKvIdeal.Facts) (hWKvRefIdeal : Cert.WKvRefIdeal.Facts) (hDHcat : Cert.DHcat.Facts) (hDHcatIdeal : Cert.DHcatIdeal.Facts) (hDHcatRefIdeal : Cert.DHcatRefIdeal.Facts) (hInGrad : Cert.InGrad.Facts) (hInGradIdeal : Cert.InGradIdeal.Facts) (hInGradRefIdeal : Cert.InGradRefIdeal.Facts) (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hMixOut : Cert.MixOut.Facts) (hMixOutIdeal : Cert.MixOutIdeal.Facts) (hMixOutRefIdeal : Cert.MixOutRefIdeal.Facts) (hXaOut : Cert.XaOut.Facts) (hXaOutIdeal : Cert.XaOutIdeal.Facts) (hXaOutRefIdeal : Cert.XaOutRefIdeal.Facts) (hFfnOut : Cert.FfnOut.Facts) (hFfnOutIdeal : Cert.FfnOutIdeal.Facts) (hFfnOutRefIdeal : Cert.FfnOutRefIdeal.Facts) (hGate : Cert.Gate.Facts) (hGateIdeal : Cert.GateIdeal.Facts) (hGateRefIdeal : Cert.GateRefIdeal.Facts) (hAttend : Cert.Attend.Facts) (hAttendIdeal : Cert.AttendIdeal.Facts) (hAttendRefIdeal : Cert.AttendRefIdeal.Facts) (hUpGrad : Cert.UpGrad.Facts) (hUpGradIdeal : Cert.UpGradIdeal.Facts) (hUpGradRefIdeal : Cert.UpGradRefIdeal.Facts) (hQueryGrad : Cert.QueryGrad.Facts) (hQueryGradIdeal : Cert.QueryGradIdeal.Facts) (hQueryGradRefIdeal : Cert.QueryGradRefIdeal.Facts) (hLayerGrad : Cert.LayerGrad.Facts) (hLayerGradIdeal : Cert.LayerGradIdeal.Facts) (hLayerGradRefIdeal : Cert.LayerGradRefIdeal.Facts) (hPre_finite : Cert.Pre_finite.Facts) (hPre_finite_up : Cert.Pre_finite_up.Facts) (hPre_finite_query : Cert.Pre_finite_query.Facts) (hPre_finite_layer : Cert.Pre_finite_layer.Facts),
    quiescent_SwaBwd (hSwaBwd := hSwaBwd)
    ∧ quiescent_SwaBwdIdeal (hSwaBwdIdeal := hSwaBwdIdeal)
    ∧ quiescent_SwaBwdIdeal_pre_finite (hSwaBwdIdeal := hSwaBwdIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ quiescent_WUp (hWUp := hWUp)
    ∧ quiescent_WUpIdeal (hWUpIdeal := hWUpIdeal)
    ∧ quiescent_WUpRefIdeal (hWUpRefIdeal := hWUpRefIdeal)
    ∧ quiescent_WDown (hWDown := hWDown)
    ∧ quiescent_WDownIdeal (hWDownIdeal := hWDownIdeal)
    ∧ quiescent_WDownRefIdeal (hWDownRefIdeal := hWDownRefIdeal)
    ∧ quiescent_WQ (hWQ := hWQ)
    ∧ quiescent_WQIdeal (hWQIdeal := hWQIdeal)
    ∧ quiescent_WQRefIdeal (hWQRefIdeal := hWQRefIdeal)
    ∧ quiescent_WMl (hWMl := hWMl)
    ∧ quiescent_WMlIdeal (hWMlIdeal := hWMlIdeal)
    ∧ quiescent_WMlRefIdeal (hWMlRefIdeal := hWMlRefIdeal)
    ∧ quiescent_WSw (hWSw := hWSw)
    ∧ quiescent_WSwIdeal (hWSwIdeal := hWSwIdeal)
    ∧ quiescent_WSwRefIdeal (hWSwRefIdeal := hWSwRefIdeal)
    ∧ quiescent_WWo (hWWo := hWWo)
    ∧ quiescent_WWoIdeal (hWWoIdeal := hWWoIdeal)
    ∧ quiescent_WWoRefIdeal (hWWoRefIdeal := hWWoRefIdeal)
    ∧ quiescent_WHalf (hWHalf := hWHalf)
    ∧ quiescent_WHalfIdeal (hWHalfIdeal := hWHalfIdeal)
    ∧ quiescent_WHalfRefIdeal (hWHalfRefIdeal := hWHalfRefIdeal)
    ∧ quiescent_WKv (hWKv := hWKv)
    ∧ quiescent_WKvIdeal (hWKvIdeal := hWKvIdeal)
    ∧ quiescent_WKvRefIdeal (hWKvRefIdeal := hWKvRefIdeal)
    ∧ quiescent_DHcat (hDHcat := hDHcat)
    ∧ quiescent_DHcatIdeal (hDHcatIdeal := hDHcatIdeal)
    ∧ quiescent_DHcatRefIdeal (hDHcatRefIdeal := hDHcatRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_Proj (hProj := hProj)
    ∧ quiescent_ProjIdeal (hProjIdeal := hProjIdeal)
    ∧ quiescent_ProjRefIdeal (hProjRefIdeal := hProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_XaOut (hXaOut := hXaOut)
    ∧ quiescent_XaOutIdeal (hXaOutIdeal := hXaOutIdeal)
    ∧ quiescent_XaOutRefIdeal (hXaOutRefIdeal := hXaOutRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Gate (hGate := hGate)
    ∧ quiescent_GateIdeal (hGateIdeal := hGateIdeal)
    ∧ quiescent_GateRefIdeal (hGateRefIdeal := hGateRefIdeal)
    ∧ quiescent_Attend (hAttend := hAttend)
    ∧ quiescent_AttendIdeal (hAttendIdeal := hAttendIdeal)
    ∧ quiescent_AttendRefIdeal (hAttendRefIdeal := hAttendRefIdeal)
    ∧ quiescent_UpGrad (hUpGrad := hUpGrad)
    ∧ quiescent_UpGradIdeal (hUpGradIdeal := hUpGradIdeal)
    ∧ quiescent_UpGradIdeal_pre_finite_up (hUpGradIdeal := hUpGradIdeal) (hPre_finite_up := hPre_finite_up)
    ∧ quiescent_UpGradRefIdeal (hUpGradRefIdeal := hUpGradRefIdeal)
    ∧ quiescent_UpGradRefIdeal_pre_finite_up (hUpGradRefIdeal := hUpGradRefIdeal) (hPre_finite_up := hPre_finite_up)
    ∧ quiescent_QueryGrad (hQueryGrad := hQueryGrad)
    ∧ quiescent_QueryGradIdeal (hQueryGradIdeal := hQueryGradIdeal)
    ∧ quiescent_QueryGradIdeal_pre_finite_query (hQueryGradIdeal := hQueryGradIdeal) (hPre_finite_query := hPre_finite_query)
    ∧ quiescent_QueryGradRefIdeal (hQueryGradRefIdeal := hQueryGradRefIdeal)
    ∧ quiescent_QueryGradRefIdeal_pre_finite_query (hQueryGradRefIdeal := hQueryGradRefIdeal) (hPre_finite_query := hPre_finite_query)
    ∧ quiescent_LayerGrad (hLayerGrad := hLayerGrad)
    ∧ quiescent_LayerGradIdeal (hLayerGradIdeal := hLayerGradIdeal)
    ∧ quiescent_LayerGradIdeal_pre_finite_layer (hLayerGradIdeal := hLayerGradIdeal) (hPre_finite_layer := hPre_finite_layer)
    ∧ quiescent_LayerGradRefIdeal (hLayerGradRefIdeal := hLayerGradRefIdeal)
    ∧ quiescent_LayerGradRefIdeal_pre_finite_layer (hLayerGradRefIdeal := hLayerGradRefIdeal) (hPre_finite_layer := hPre_finite_layer)
    ∧ preserves_SwaBwd_SwaBwdIdeal
    ∧ algebraic_SwaBwdIdeal_SwaRefIdeal_pre_finite (hSwaBwdIdeal := hSwaBwdIdeal) (hSwaRefIdeal := hSwaRefIdeal) (hPre_finite := hPre_finite)
    ∧ preserves_WUp_WUpIdeal
    ∧ algebraic_WUpIdeal_WUpRefIdeal (hWUpIdeal := hWUpIdeal) (hWUpRefIdeal := hWUpRefIdeal)
    ∧ preserves_WDown_WDownIdeal
    ∧ algebraic_WDownIdeal_WDownRefIdeal (hWDownIdeal := hWDownIdeal) (hWDownRefIdeal := hWDownRefIdeal)
    ∧ preserves_WQ_WQIdeal
    ∧ algebraic_WQIdeal_WQRefIdeal (hWQIdeal := hWQIdeal) (hWQRefIdeal := hWQRefIdeal)
    ∧ preserves_WMl_WMlIdeal
    ∧ algebraic_WMlIdeal_WMlRefIdeal (hWMlIdeal := hWMlIdeal) (hWMlRefIdeal := hWMlRefIdeal)
    ∧ preserves_WSw_WSwIdeal
    ∧ algebraic_WSwIdeal_WSwRefIdeal (hWSwIdeal := hWSwIdeal) (hWSwRefIdeal := hWSwRefIdeal)
    ∧ preserves_WWo_WWoIdeal
    ∧ algebraic_WWoIdeal_WWoRefIdeal (hWWoIdeal := hWWoIdeal) (hWWoRefIdeal := hWWoRefIdeal)
    ∧ preserves_WHalf_WHalfIdeal
    ∧ algebraic_WHalfIdeal_WHalfRefIdeal (hWHalfIdeal := hWHalfIdeal) (hWHalfRefIdeal := hWHalfRefIdeal)
    ∧ preserves_WKv_WKvIdeal
    ∧ algebraic_WKvIdeal_WKvRefIdeal (hWKvIdeal := hWKvIdeal) (hWKvRefIdeal := hWKvRefIdeal)
    ∧ preserves_DHcat_DHcatIdeal
    ∧ algebraic_DHcatIdeal_DHcatRefIdeal (hDHcatIdeal := hDHcatIdeal) (hDHcatRefIdeal := hDHcatRefIdeal)
    ∧ preserves_InGrad_InGradIdeal
    ∧ algebraic_InGradIdeal_InGradRefIdeal (hInGradIdeal := hInGradIdeal) (hInGradRefIdeal := hInGradRefIdeal)
    ∧ preserves_Proj_ProjIdeal
    ∧ algebraic_ProjIdeal_ProjRefIdeal (hProjIdeal := hProjIdeal) (hProjRefIdeal := hProjRefIdeal)
    ∧ preserves_MemKv_MemKvIdeal
    ∧ algebraic_MemKvIdeal_MemKvRefIdeal (hMemKvIdeal := hMemKvIdeal) (hMemKvRefIdeal := hMemKvRefIdeal)
    ∧ preserves_MixOut_MixOutIdeal
    ∧ algebraic_MixOutIdeal_MixOutRefIdeal (hMixOutIdeal := hMixOutIdeal) (hMixOutRefIdeal := hMixOutRefIdeal)
    ∧ preserves_XaOut_XaOutIdeal
    ∧ algebraic_XaOutIdeal_XaOutRefIdeal (hXaOutIdeal := hXaOutIdeal) (hXaOutRefIdeal := hXaOutRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Gate_GateIdeal
    ∧ algebraic_GateIdeal_GateRefIdeal (hGateIdeal := hGateIdeal) (hGateRefIdeal := hGateRefIdeal)
    ∧ preserves_Attend_AttendIdeal
    ∧ algebraic_AttendIdeal_AttendRefIdeal (hAttendIdeal := hAttendIdeal) (hAttendRefIdeal := hAttendRefIdeal)
    ∧ preserves_UpGrad_UpGradIdeal
    ∧ algebraic_UpGradIdeal_UpGradRefIdeal_pre_finite_up (hUpGradIdeal := hUpGradIdeal) (hUpGradRefIdeal := hUpGradRefIdeal) (hPre_finite_up := hPre_finite_up)
    ∧ preserves_QueryGrad_QueryGradIdeal
    ∧ algebraic_QueryGradIdeal_QueryGradRefIdeal_pre_finite_query (hQueryGradIdeal := hQueryGradIdeal) (hQueryGradRefIdeal := hQueryGradRefIdeal) (hPre_finite_query := hPre_finite_query)
    ∧ preserves_LayerGrad_LayerGradIdeal
    ∧ algebraic_LayerGradIdeal_LayerGradRefIdeal_pre_finite_layer (hLayerGradIdeal := hLayerGradIdeal) (hLayerGradRefIdeal := hLayerGradRefIdeal) (hPre_finite_layer := hPre_finite_layer)
-- ==== Pre_finite.lean ====
abbrev S4096x1024 : Shape := ⟨2, ![4096, 1024]⟩
abbrev S4096x3072 : Shape := ⟨2, ![4096, 3072]⟩
abbrev S8x128x256 : Shape := ⟨3, ![8, 128, 256]⟩
abbrev S8 : Shape := ⟨1, ![8]⟩
abbrev S_ : Shape := ⟨0, ![]⟩

class Facts : Prop where
  bcast_S_S4096x1024 : S_.BroadcastsInDim S4096x1024 (![] : Fin 0 → Fin S4096x1024.rank)
  bcast_S_S4096x3072 : S_.BroadcastsInDim S4096x3072 (![] : Fin 0 → Fin S4096x3072.rank)
  bcast_S_S8x128x256 : S_.BroadcastsInDim S8x128x256 (![] : Fin 0 → Fin S8x128x256.rank)
  bcast_S_S8 : S_.BroadcastsInDim S8 (![] : Fin 0 → Fin S8.rank)

variable [Facts]

def fn {F : FTy → Type} [FloatOps F] (main_arg0 : FVec F S4096x1024 .f32) (main_arg1 : FVec F S4096x3072 .f32) (main_arg2 : FVec F S8x128x256 .f32) (main_arg3 : FVec F S8 .f32) : IVec S4096x1024 1 × IVec S4096x3072 1 × IVec S8x128x256 1 × IVec S8 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x3072 .f32 := Host.absf main_arg1
  let main_cst_0 : FVec F S_ .f32 := constant S_ .f32 0x7F800000#32
  let main_v4 : FVec F S4096x3072 .f32 := broadcastInDim S4096x3072 ![] bcast_S_S4096x3072 main_cst_0
  let main_v5 : IVec S4096x3072 1 := cmpf .olt main_v3 main_v4
  let main_v6 : FVec F S8x128x256 .f32 := Host.absf main_arg2
  let main_cst_1 : FVec F S_ .f32 := constant S_ .f32 0x7F800000#32
  let main_v7 : FVec F S8x128x256 .f32 := broadcastInDim S8x128x256 ![] bcast_S_S8x128x256 main_cst_1
  let main_v8 : IVec S8x128x256 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Pre_finite_layer.lean ====
abbrev S4096x1024 : Shape := ⟨2, ![4096, 1024]⟩
abbrev S4096x1152 : Shape := ⟨2, ![4096, 1152]⟩
abbrev S4096x768 : Shape := ⟨2, ![4096, 768]⟩
abbrev S1024x2824 : Shape := ⟨2, ![1024, 2824]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x1152 : S_.BroadcastsInDim S4096x1152 (![] : Fin 0 → Fin S4096x1152.rank)
  bcast_S_S4096x768 : S_.BroadcastsInDim S4096x768 (![] : Fin 0 → Fin S4096x768.rank)
  bcast_S_S1024x2824 : S_.BroadcastsInDim S1024x2824 (![] : Fin 0 → Fin S1024x2824.rank)
  bcast_S_S1x1024 : S_.BroadcastsInDim S1x1024 (![] : Fin 0 → Fin S1x1024.rank)

variable [Facts]

def fn_part1 {F : FTy → Type} [FloatOps F] (main_arg6 : FVec F S1x1024 .f32) (main_v3 : IVec S4096x1024 1) (main_v7 : IVec S4096x1152 1) (main_v11 : IVec S4096x768 1) (main_v15 : IVec S1024x2824 1) (main_v18 : IVec S4096x1024 1) : IVec S4096x1024 1 × IVec S4096x1152 1 × IVec S4096x768 1 × IVec S1024x2824 1 × IVec S4096x1024 1 × IVec S1x1024 1 :=
  let main_v19 : FVec F S1x1024 .f32 := Host.absf main_arg6
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  (main_v3, main_v7, main_v11, main_v15, main_v18, main_v21)

def fn {F : FTy → Type} [FloatOps F] (main_arg0 : FVec F S4096x1024 .bf16) (main_arg1 : FVec F S4096x1152 .bf16) (main_arg2 : FVec F S4096x768 .bf16) (main_arg3 : FVec F S1024x2824 .bf16) (main_arg4 : FVec F S4096x1024 .f32) (main_arg5 : FVec F S4096x1024 .f32) (main_arg6 : FVec F S1x1024 .f32) : IVec S4096x1024 1 × IVec S4096x1152 1 × IVec S4096x768 1 × IVec S1024x2824 1 × IVec S4096x1024 1 × IVec S1x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1152 .f32 := (extf .f32 · bitsLt_bf16_f32) main_arg1
  let main_v5 : FVec F S4096x1152 .f32 := Host.absf main_v4
  let main_cst_0 : FVec F S_ .f32 := constant S_ .f32 0x7F800000#32
  let main_v6 : FVec F S4096x1152 .f32 := broadcastInDim S4096x1152 ![] bcast_S_S4096x1152 main_cst_0
  let main_v7 : IVec S4096x1152 1 := cmpf .olt main_v5 main_v6
  let main_v8 : FVec F S4096x768 .f32 := (extf .f32 · bitsLt_bf16_f32) main_arg2
  let main_v9 : FVec F S4096x768 .f32 := Host.absf main_v8
  let main_cst_1 : FVec F S_ .f32 := constant S_ .f32 0x7F800000#32
  let main_v10 : FVec F S4096x768 .f32 := broadcastInDim S4096x768 ![] bcast_S_S4096x768 main_cst_1
  let main_v11 : IVec S4096x768 1 := cmpf .olt main_v9 main_v10
  let main_v12 : FVec F S1024x2824 .f32 := (extf .f32 · bitsLt_bf16_f32) main_arg3
  let main_v13 : FVec F S1024x2824 .f32 := Host.absf main_v12
  let main_cst_2 : FVec F S_ .f32 := constant S_ .f32 0x7F800000#32
  let main_v14 : FVec F S1024x2824 .f32 := broadcastInDim S1024x2824 ![] bcast_S_S1024x2824 main_cst_2
  let main_v15 : IVec S1024x2824 1 := cmpf .olt main_v13 main_v14
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg6 main_v3 main_v7 main_v11 main_v15 main_v18
-- ==== Pre_finite_query.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S4096x1024 .bf16) (main_arg1 : FVec F S1024x1024 .bf16) (main_arg2 : FVec F S4096x1024 .f32) (main_arg3 : FVec F S4096x1024 .f32) (main_arg4 : FVec F S1x1024 .f32) : IVec S4096x1024 1 × IVec S1024x1024 1 × IVec S4096x1024 1 × IVec S1x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Pre_finite_up.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S1024x5632 .bf16) (main_arg2 : FVec F S4096x2816 .bf16) (main_arg3 : FVec F S4096x1024 .f32) (main_arg4 : FVec F S4096x1024 .f32) (main_arg5 : FVec F S1x1024 .f32) : IVec S4096x2816 1 × IVec S1024x5632 1 × IVec S4096x2816 1 × IVec S4096x1024 1 × IVec S1x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S4096x2816 .f32 := (extf .f32 · bitsLt_bf16_f32) main_arg2
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  let main_v12 : FVec F S4096x1024 .f32 := Host.absf main_arg3
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_v15 : FVec F S1x1024 .f32 := Host.absf main_arg5
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  (main_v3, main_v7, main_v11, main_v14, main_v17)
-- ==== SwaBwd.lean ====
abbrev S4096x1024 : Shape := ⟨2, ![4096, 1024]⟩
abbrev S4096x3072 : Shape := ⟨2, ![4096, 3072]⟩
abbrev S8x128x256 : Shape := ⟨3, ![8, 128, 256]⟩
abbrev S8 : Shape := ⟨1, ![8]⟩
abbrev S_ : Shape := ⟨0, ![]⟩
abbrev S128 : Shape := ⟨1, ![128]⟩
abbrev S1x128 : Shape := ⟨2, ![1, 128]⟩
abbrev S4096x768 : Shape := ⟨2, ![4096, 768]⟩
abbrev S128x512 : Shape := ⟨2, ![128, 512]⟩
abbrev S128x128 : Shape := ⟨2, ![128, 128]⟩
abbrev S128x768 : Shape := ⟨2, ![128, 768]⟩
abbrev S128x64 : Shape := ⟨2, ![128, 64]⟩
abbrev S1x128x64 : Shape := ⟨3, ![1, 128, 64]⟩
abbrev S8x128x64 : Shape := ⟨3, ![8, 128, 64]⟩
abbrev S2x128x64 : Shape := ⟨3, ![2, 128, 64]⟩
abbrev S8x128x128 : Shape := ⟨3, ![8, 128, 128]⟩
abbrev S8x1x128 : Shape := ⟨3, ![8, 1, 128]⟩
abbrev S1x1x128 : Shape := ⟨3, ![1, 1, 128]⟩
abbrev S8x1 : Shape := ⟨2, ![8, 1]⟩
abbrev S8x1x1 : Shape := ⟨3, ![8, 1, 1]⟩
abbrev S8x128 : Shape := ⟨2, ![8, 128]⟩
abbrev S8x128x1 : Shape := ⟨3, ![8, 128, 1]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S8x128x256, .f32⟩
  | .hbm, ⟨3, _⟩ => ⟨S8, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S4096x768, .bf16⟩
  | .hbm, ⟨9, _⟩ => ⟨S8x128x256, .f32⟩
  | .hbm, ⟨10, _⟩ => ⟨S1x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x256, .f32⟩
  | .local _ .vmem, ⟨13, _⟩ => ⟨S1x128, .f32⟩
  | .local _ .vmem, ⟨14, _⟩ => ⟨S128x768, .bf16⟩
  | .local _ .vmem, ⟨15, _⟩ => ⟨S128x768, .bf16⟩
  | .local _ .vmem, ⟨16, _⟩ => ⟨S8x128x256, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c20_i32 : BitVec 32 := 20#32
  let c0_i32_0 : BitVec 32 := 0#32
  ![v1.toNat, c20_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c20_i32 : BitVec 32 := 20#32
  let c0_i32 : BitVec 32 := 0#32
  ![v0.toNat, c20_i32.toNat]

def cc0_transform_4 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c21_i32 : BitVec 32 := 21#32
  let c0_i32_0 : BitVec 32 := 0#32
  ![v1.toNat, c21_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c21_i32 : BitVec 32 := 21#32
  let c0_i32 : BitVec 32 := 0#32
  ![v0.toNat, c21_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SwaRefIdeal.lean ====
abbrev S4096x1024 : Shape := ⟨2, ![4096, 1024]⟩
abbrev S4096x3072 : Shape := ⟨2, ![4096, 3072]⟩
abbrev S8x128x256 : Shape := ⟨3, ![8, 128, 256]⟩
abbrev S8 : Shape := ⟨1, ![8]⟩
abbrev S4096x512 : Shape := ⟨2, ![4096, 512]⟩
abbrev S4096x128 : Shape := ⟨2, ![4096, 128]⟩
abbrev S32x128x2x4x64 : Shape := ⟨5, ![32, 128, 2, 4, 64]⟩
abbrev S32x128x2x64 : Shape := ⟨4, ![32, 128, 2, 64]⟩
abbrev S_ : Shape := ⟨0, ![]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x128x256 : Shape := ⟨4, ![2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x64x256 : Shape := ⟨4, ![32, 2, 64, 256]⟩
abbrev S2x4x1 : Shape := ⟨3, ![2, 4, 1]⟩
abbrev S32x2x128x4x64 : Shape := ⟨5, ![32, 2, 128, 4, 64]⟩
abbrev S32x2x256x64 : Shape := ⟨4, ![32, 2, 256, 64]⟩
abbrev S4096x768 : Shape := ⟨2, ![4096, 768]⟩
abbrev S1x128 : Shape := ⟨2, ![1, 128]⟩

abbrev nBuf : Space → Nat
  | .hbm => 218
  | .vmem => 0
  | .smem => 0
  | _ => 0

abbrev hbmTy0_0 (i : Nat) : BufTy := match i % 128 with
  | 0 => ⟨S4096x1024, .f32⟩
  | 1 => ⟨S4096x3072, .f32⟩
  | 2 => ⟨S8x128x256, .f32⟩
  | 3 => ⟨S8, .f32⟩
  | 4 => ⟨S4096x512, .f32⟩
  | 5 => ⟨S4096x128, .f32⟩
  | 6 => ⟨S4096x128, .f32⟩
  | 7 => ⟨S32x128x2x4x64, .f32⟩
  | 8 => ⟨S32x128x2x64, .f32⟩
  | 9 => ⟨S_, .f32⟩
  | 10 => ⟨S1x128x2x64, .f32⟩
  | 11 => ⟨S31x128x2x64, .f32⟩
  | 12 => ⟨S32x128x2x64, .f32⟩
  | 13 => ⟨S_, .f32⟩
  | 14 => ⟨S1x128x2x64, .f32⟩
  | 15 => ⟨S32x256x2x64, .f32⟩
  | 16 => ⟨S32x128x2x64, .f32⟩
  | 17 => ⟨S_, .f32⟩
  | 18 => ⟨S1x128x2x64, .f32⟩
  | 19 => ⟨S31x128x2x64, .f32⟩
  | 20 => ⟨S32x128x2x64, .f32⟩
  | 21 => ⟨S_, .f32⟩
  | 22 => ⟨S1x128x2x64, .f32⟩
  | 23 => ⟨S32x256x2x64, .f32⟩
  | 24 => ⟨S32x2x256x128x4, .f32⟩
  | 25 => ⟨S32x2x4x128x256, .f32⟩
  | 26 => ⟨S_, .f32⟩
  | 27 => ⟨S32x2x4x128x256, .f32⟩
  | 28 => ⟨S32x2x4x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S2x4x128x256, .f32⟩
  | 40 => ⟨S32, .i32⟩
  | 41 => ⟨S32x1x1, .i32⟩
  | 42 => ⟨S_, .i32⟩
  | 43 => ⟨S32x1x1, .i32⟩
  | 44 => ⟨S32x1x1, .i32⟩
  | 45 => ⟨S_, .i32⟩
  | 46 => ⟨S32x1x1, .i32⟩
  | 47 => ⟨S32x1x1, .i32⟩
  | 48 => ⟨S1x1x256, .i32⟩
  | 49 => ⟨S32x1x256, .i32⟩
  | 50 => ⟨S32x1x256, .i32⟩
  | 51 => ⟨S32x1x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S_, .i32⟩
  | 60 => ⟨S32x1x256, .i32⟩
  | 61 => ⟨S32x1x256, .i1⟩
  | 62 => ⟨S1x128x256, .i1⟩
  | 63 => ⟨S32x128x256, .i1⟩
  | 64 => ⟨S32x128x256, .i1⟩
  | 65 => ⟨S32x128x256, .i1⟩
  | 66 => ⟨S32x1x1x128x256, .i1⟩
  | 67 => ⟨S1x2x4x128x256, .f32⟩
  | 68 => ⟨S32x2x4x128x256, .f32⟩
  | 69 => ⟨S32x2x4x128x256, .f32⟩
  | 70 => ⟨S_, .f32⟩
  | 71 => ⟨S_, .f32⟩
  | 72 => ⟨S32x2x4x128x256, .i1⟩
  | 73 => ⟨S32x2x4x128x256, .f32⟩
  | 74 => ⟨S32x2x4x128x256, .f32⟩
  | 75 => ⟨S_, .f32⟩
  | 76 => ⟨S32x2x4x128x256, .f32⟩
  | 77 => ⟨S2x4, .f32⟩
  | 78 => ⟨S1x2x4x1x1, .f32⟩
  | 79 => ⟨S_, .f32⟩
  | 80 => ⟨S32x2x4x128, .f32⟩
  | 81 => ⟨S32x2x4x128x1, .f32⟩
  | 82 => ⟨S32x2x4x128x256, .f32⟩
  | 83 => ⟨S32x2x4x128x256, .i1⟩
  | 84 => ⟨S32x2x4x128x256, .f32⟩
  | 85 => ⟨S_, .f32⟩
  | 86 => ⟨S32x2x4x128, .f32⟩
  | 87 => ⟨S32x2x4x128x1, .f32⟩
  | 88 => ⟨S32x2x4x128x1, .f32⟩
  | 89 => ⟨S32x2x4x128x1, .f32⟩
  | 90 => ⟨S32x2x4x128x1, .f32⟩
  | 91 => ⟨S32x2x4x128x1, .i1⟩
  | 92 => ⟨S32x2x4x128x1, .f32⟩
  | 93 => ⟨S32x2x4x128x1, .i1⟩
  | 94 => ⟨S_, .f32⟩
  | 95 => ⟨S32x2x4x128x1, .f32⟩
  | 96 => ⟨S_, .f32⟩
  | 97 => ⟨S32x2x4x128x1, .f32⟩
  | 98 => ⟨S_, .f32⟩
  | 99 => ⟨S32x2x4x128x1, .f32⟩
  | 100 => ⟨S32x2x4x128x1, .f32⟩
  | 101 => ⟨S32x2x4x128x1, .f32⟩
  | 102 => ⟨S32x2x4x128x1, .f32⟩
  | 103 => ⟨S32x2x4x128x1, .i1⟩
  | 104 => ⟨S32x2x4x128x1, .f32⟩
  | 105 => ⟨S32x2x4x128x1, .i1⟩
  | 106 => ⟨S_, .f32⟩
  | 107 => ⟨S32x2x4x128x1, .f32⟩
  | 108 => ⟨S_, .f32⟩
  | 109 => ⟨S32x2x4x128x1, .f32⟩
  | 110 => ⟨S_, .f32⟩
  | 111 => ⟨S32x2x4x128x1, .f32⟩
  | 112 => ⟨S32x2x4x128x1, .f32⟩
  | 113 => ⟨S32x2x4x128x1, .f32⟩
  | 114 => ⟨S32x2x4x128x256, .f32⟩
  | 115 => ⟨S32x2x4x128x256, .f32⟩
  | 116 => ⟨S32x2x4x128x256, .f32⟩
  | 117 => ⟨S_, .f32⟩
  | 118 => ⟨S32x2x4x128, .f32⟩
  | 119 => ⟨S32x2x4x128x1, .f32⟩
  | 120 => ⟨S32x2x4x128x1, .f32⟩
  | 121 => ⟨S32x2x4x128x1, .f32⟩
  | 122 => ⟨S32x2x4x128x1, .f32⟩
  | 123 => ⟨S32x2x4x128x1, .f32⟩
  | 124 => ⟨S32x2x4x128x256, .f32⟩
  | 125 => ⟨S32x2x4x128x256, .f32⟩
  | 126 => ⟨S32x2x4x128x1, .f32⟩
  | 127 => ⟨S_, .f32⟩
  | _ => ⟨S4096x1024, .f32⟩

abbrev hbmTy0_1 (i : Nat) : BufTy := match i % 128 with
  | 0 => ⟨S32x2x4x128x1, .f32⟩
  | 1 => ⟨S32x2x4x128x1, .f32⟩
  | 2 => ⟨S32x2x64x4x128, .f32⟩
  | 3 => ⟨S32x128x2x4x64, .f32⟩
  | 4 => ⟨S4096x512, .f32⟩
  | 5 => ⟨S4096x512, .f32⟩
  | 6 => ⟨S32x128x2x4x64, .f32⟩
  | 7 => ⟨S32x2x64x4x128, .f32⟩
  | 8 => ⟨S32x2x4x128x256, .f32⟩
  | 9 => ⟨S32x2x64x256, .f32⟩
  | 10 => ⟨S32x256x2x64, .f32⟩
  | 11 => ⟨S32x2x4x128x256, .f32⟩
  | 12 => ⟨S32x2x4x128x256, .f32⟩
  | 13 => ⟨S32x2x4x128x256, .f32⟩
  | 14 => ⟨S_, .f32⟩
  | 15 => ⟨S32x2x4x128, .f32⟩
  | 16 => ⟨S32x2x4x128x1, .f32⟩
  | 17 => ⟨S32x2x4x128x1, .f32⟩
  | 18 => ⟨S32x2x4x128x256, .f32⟩
  | 19 => ⟨S32x2x4x128x256, .f32⟩
  | 20 => ⟨S32x2x4x128x1, .f32⟩
  | 21 => ⟨S_, .f32⟩
  | 22 => ⟨S2x4x1, .f32⟩
  | 23 => ⟨S1x2x4x1x1, .f32⟩
  | 24 => ⟨S32x2x4x128x1, .f32⟩
  | 25 => ⟨S_, .f32⟩
  | 26 => ⟨S32x2x4x128, .f32⟩
  | 27 => ⟨S32x2x4x128x256, .f32⟩
  | 28 => ⟨S32x2x4x128x256, .f32⟩
  | 29 => ⟨S32x2x4x128x256, .f32⟩
  | 30 => ⟨S32x2x4x128x256, .f32⟩
  | 31 => ⟨S_, .f32⟩
  | 32 => ⟨S32x2x4x128, .f32⟩
  | 33 => ⟨S32x2x4x128x1, .f32⟩
  | 34 => ⟨S32x2x4x128x1, .f32⟩
  | 35 => ⟨S32x2x4x128x1, .f32⟩
  | 36 => ⟨S_, .f32⟩
  | 37 => ⟨S2x4x1, .f32⟩
  | 38 => ⟨S1x2x4x1x1, .f32⟩
  | 39 => ⟨S1x2x4x1x1, .f32⟩
  | 40 => ⟨S32x2x4x128x1, .f32⟩
  | 41 => ⟨S_, .f32⟩
  | 42 => ⟨S32x2x4x128, .f32⟩
  | 43 => ⟨S32x2x4x128, .f32⟩
  | 44 => ⟨S32x2x4x128x256, .f32⟩
  | 45 => ⟨S32x2x4x128x256, .f32⟩
  | 46 => ⟨S32x2x4x128x256, .f32⟩
  | 47 => ⟨S_, .f32⟩
  | 48 => ⟨S2x4, .f32⟩
  | 49 => ⟨S8, .f32⟩
  | 50 => ⟨S_, .f32⟩
  | 51 => ⟨S32x2x4x128x256, .f32⟩
  | 52 => ⟨S32x2x4x128x256, .f32⟩
  | 53 => ⟨S_, .f32⟩
  | 54 => ⟨S2x4x128x256, .f32⟩
  | 55 => ⟨S1x2x4x128x256, .f32⟩
  | 56 => ⟨S_, .f32⟩
  | 57 => ⟨S2x4x128x256, .f32⟩
  | 58 => ⟨S8x128x256, .f32⟩
  | 59 => ⟨S_, .f32⟩
  | 60 => ⟨S32x2x4x128x256, .f32⟩
  | 61 => ⟨S32x2x4x128x256, .f32⟩
  | 62 => ⟨S32x2x256x128x4, .f32⟩
  | 63 => ⟨S32x2x128x4x64, .f32⟩
  | 64 => ⟨S32x128x2x4x64, .f32⟩
  | 65 => ⟨S32x2x256x64, .f32⟩
  | 66 => ⟨S32x256x2x64, .f32⟩
  | 67 => ⟨S32x128x2x64, .f32⟩
  | 68 => ⟨S32x128x2x64, .f32⟩
  | 69 => ⟨S1x128x2x64, .f32⟩
  | 70 => ⟨S31x128x2x64, .f32⟩
  | 71 => ⟨S_, .f32⟩
  | 72 => ⟨S32x128x2x64, .f32⟩
  | 73 => ⟨S32x128x2x64, .f32⟩
  | 74 => ⟨S4096x128, .f32⟩
  | 75 => ⟨S32x128x2x64, .f32⟩
  | 76 => ⟨S32x128x2x64, .f32⟩
  | 77 => ⟨S1x128x2x64, .f32⟩
  | 78 => ⟨S31x128x2x64, .f32⟩
  | 79 => ⟨S_, .f32⟩
  | 80 => ⟨S32x128x2x64, .f32⟩
  | 81 => ⟨S32x128x2x64, .f32⟩
  | 82 => ⟨S4096x128, .f32⟩
  | 83 => ⟨S4096x512, .f32⟩
  | 84 => ⟨S4096x768, .f32⟩
  | 85 => ⟨S4096x768, .bf16⟩
  | 86 => ⟨S_, .i32⟩
  | 87 => ⟨S_, .f32⟩
  | 88 => ⟨S128, .f32⟩
  | 89 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_call0_v0 : Ref sig .tc := ⟨.hbm, 71, rfl⟩
abbrev main_v55_1 : Ref sig .tc := ⟨.hbm, 72, rfl⟩
abbrev main_call0_v2 : Ref sig .tc := ⟨.hbm, 73, rfl⟩
abbrev main_v55_0 : Ref sig .tc := ⟨.hbm, 74, rfl⟩
abbrev main_call0_cst : Ref sig .tc := ⟨.hbm, 75, rfl⟩
abbrev main_v55_2 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_20 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_21 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_22 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_23 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_24 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_25 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_26 : Ref sig .tc := ⟨.hbm, 175, rfl⟩
abbrev main_v138 : Ref sig .tc := ⟨.hbm, 176, rfl⟩
abbrev main_v139 : Ref sig .tc := ⟨.hbm, 177, rfl⟩
abbrev main_call1_cst : Ref sig .tc := ⟨.hbm, 178, rfl⟩
abbrev main_call1_v0 : Ref sig .tc := ⟨.hbm, 179, rfl⟩
abbrev main_v140 : Ref sig .tc := ⟨.hbm, 180, rfl⟩
abbrev main_cst_27 : Ref sig .tc := ⟨.hbm, 181, rfl⟩
abbrev main_v141 : Ref sig .tc := ⟨.hbm, 182, rfl⟩
abbrev main_v142 : Ref sig .tc := ⟨.hbm, 183, rfl⟩
abbrev main_cst_28 : Ref sig .tc := ⟨.hbm, 184, rfl⟩
abbrev main_v143 : Ref sig .tc := ⟨.hbm, 185, rfl⟩
abbrev main_v144 : Ref sig .tc := ⟨.hbm, 186, rfl⟩
abbrev main_cst_29 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_30 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_31 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_c_32 : Ref sig .tc := ⟨.hbm, 214, rfl⟩
abbrev main_call2_v0 : Ref sig .tc := ⟨.hbm, 215, rfl⟩
abbrev main_v169 : Ref sig .tc := ⟨.hbm, 216, rfl⟩
abbrev main_v170 : Ref sig .tc := ⟨.hbm, 217, rfl⟩

abbrev nD : Nat := 1
abbrev τ : Topo := Topo.v7x

variable {F : FTy → Type} [FloatOps F]
-- ==== WUp.lean ====
abbrev S4096x1024 : Shape := ⟨2, ![4096, 1024]⟩
abbrev S4096x2816 : Shape := ⟨2, ![4096, 2816]⟩
abbrev S1024x4096 : Shape := ⟨2, ![1024, 4096]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x4096, .bf16⟩
  | .hbm, ⟨3, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpIdeal.lean ====
abbrev S4096x1024 : Shape := ⟨2, ![4096, 1024]⟩
abbrev S4096x2816 : Shape := ⟨2, ![4096, 2816]⟩
abbrev S1024x4096 : Shape := ⟨2, ![1024, 4096]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x4096, .bf16⟩
  | .hbm, ⟨3, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WDown.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x4096, .bf16⟩
  | .hbm, ⟨3, _⟩ => ⟨S2816x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x4096, .bf16⟩
  | .hbm, ⟨3, _⟩ => ⟨S2816x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WQ.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WQIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WQRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WMl.lean ====
abbrev S4096x1024 : Shape := ⟨2, ![4096, 1024]⟩
abbrev S4096x1152 : Shape := ⟨2, ![4096, 1152]⟩
abbrev S1024x4096 : Shape := ⟨2, ![1024, 4096]⟩
abbrev S1024x1152 : Shape := ⟨2, ![1024, 1152]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1152, .bf16⟩
  | .hbm, ⟨2, _⟩ => ⟨S1024x4096, .bf16⟩
  | .hbm, ⟨3, _⟩ => ⟨S1024x1152, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WMlIdeal.lean ====
abbrev S4096x1024 : Shape := ⟨2, ![4096, 1024]⟩
abbrev S4096x1152 : Shape := ⟨2, ![4096, 1152]⟩
abbrev S1024x4096 : Shape := ⟨2, ![1024, 4096]⟩
abbrev S1024x1152 : Shape := ⟨2, ![1024, 1152]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1152, .bf16⟩
  | .hbm, ⟨2, _⟩ => ⟨S1024x4096, .bf16⟩
  | .hbm, ⟨3, _⟩ => ⟨S1024x1152, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WMlRefIdeal.lean ====
abbrev S4096x1024 : Shape := ⟨2, ![4096, 1024]⟩
abbrev S4096x1152 : Shape := ⟨2, ![4096, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1152, .bf16⟩
  | .hbm, ⟨2, _⟩ => ⟨S4096x1024, .f32⟩
  | .hbm, ⟨3, _⟩ => ⟨S4096x1152, .f32⟩
  | .hbm, ⟨4, _⟩ => ⟨S_, .f32⟩
  | .hbm, ⟨5, _⟩ => ⟨S1024x1152, .f32⟩
  | .hbm, ⟨6, _⟩ => ⟨S4096x1152, .f32⟩
  | .hbm, ⟨7, _⟩ => ⟨S1152x1024, .f32⟩
  | .hbm, ⟨8, _⟩ => ⟨S1024x1152, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WSw.lean ====
abbrev S4096x1024 : Shape := ⟨2, ![4096, 1024]⟩
abbrev S4096x768 : Shape := ⟨2, ![4096, 768]⟩
abbrev S1024x4096 : Shape := ⟨2, ![1024, 4096]⟩
abbrev S1024x768 : Shape := ⟨2, ![1024, 768]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S1024x4096, .bf16⟩
  | .hbm, ⟨3, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WSwRefIdeal.lean ====
abbrev S4096x1024 : Shape := ⟨2, ![4096, 1024]⟩
abbrev S4096x768 : Shape := ⟨2, ![4096, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x1024, .f32⟩
  | .hbm, ⟨3, _⟩ => ⟨S4096x768, .f32⟩
  | .hbm, ⟨4, _⟩ => ⟨S_, .f32⟩
  | .hbm, ⟨5, _⟩ => ⟨S1024x768, .f32⟩
  | .hbm, ⟨6, _⟩ => ⟨S4096x768, .f32⟩
  | .hbm, ⟨7, _⟩ => ⟨S768x1024, .f32⟩
  | .hbm, ⟨8, _⟩ => ⟨S1024x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WWo.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WWoIdeal.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WWoRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WHalf.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WHalfIdeal.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WHalfRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WKv.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WKvRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DHcat.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHcatRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InGrad.lean ====
abbrev S4096x1024 : Shape := ⟨2, ![4096, 1024]⟩
abbrev S4096x1152 : Shape := ⟨2, ![4096, 1152]⟩
abbrev S4096x768 : Shape := ⟨2, ![4096, 768]⟩
abbrev S1024x2824 : Shape := ⟨2, ![1024, 2824]⟩
abbrev S_ : Shape := ⟨0, ![]⟩
abbrev S1024x248 : Shape := ⟨2, ![1024, 248]⟩
abbrev S1024x2048 : Shape := ⟨2, ![1024, 2048]⟩
abbrev S1024x768 : Shape := ⟨2, ![1024, 768]⟩
abbrev S1024x8 : Shape := ⟨2, ![1024, 8]⟩
abbrev S1024x3072 : Shape := ⟨2, ![1024, 3072]⟩
abbrev S1024x1024 : Shape := ⟨2, ![1024, 1024]⟩
abbrev S1024x128 : Shape := ⟨2, ![1024, 128]⟩
abbrev S1024x1152 : Shape := ⟨2, ![1024, 1152]⟩
abbrev S512x1024 : Shape := ⟨2, ![512, 1024]⟩
abbrev S512x1152 : Shape := ⟨2, ![512, 1152]⟩
abbrev S512x768 : Shape := ⟨2, ![512, 768]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1152, .bf16⟩
  | .hbm, ⟨2, _⟩ => ⟨S4096x768, .bf16⟩
  | .hbm, ⟨3, _⟩ => ⟨S1024x2824, .bf16⟩
  | .hbm, ⟨4, _⟩ => ⟨S4096x1024, .f32⟩
  | .hbm, ⟨5, _⟩ => ⟨S_, .bf16⟩
  | .hbm, ⟨6, _⟩ => ⟨S1024x248, .bf16⟩
  | .hbm, ⟨7, _⟩ => ⟨S1024x2048, .bf16⟩
  | .hbm, ⟨8, _⟩ => ⟨S1024x768, .bf16⟩
  | .hbm, ⟨9, _⟩ => ⟨S1024x8, .bf16⟩
  | .hbm, ⟨10, _⟩ => ⟨S1024x3072, .bf16⟩
  | .hbm, ⟨11, _⟩ => ⟨S1024x1024, .bf16⟩
  | .hbm, ⟨12, _⟩ => ⟨S1024x128, .bf16⟩
  | .hbm, ⟨13, _⟩ => ⟨S1024x1152, .bf16⟩
  | .hbm, ⟨14, _⟩ => ⟨S1024x768, .bf16⟩
  | .hbm, ⟨15, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1152, .bf16⟩
  | .local _ .vmem, ⟨4, _⟩ => ⟨S512x1152, .bf16⟩
  | .local _ .vmem, ⟨5, _⟩ => ⟨S1024x1152, .bf16⟩
  | .local _ .vmem, ⟨6, _⟩ => ⟨S512x768, .bf16⟩
  | .local _ .vmem, ⟨7, _⟩ => ⟨S512x768, .bf16⟩
  | .local _ .vmem, ⟨8, _⟩ => ⟨S1024x768, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InGradRefIdeal.lean ====
abbrev S4096x1024 : Shape := ⟨2, ![4096, 1024]⟩
abbrev S4096x1152 : Shape := ⟨2, ![4096, 1152]⟩
abbrev S4096x768 : Shape := ⟨2, ![4096, 768]⟩
abbrev S1024x2824 : Shape := ⟨2, ![1024, 2824]⟩
abbrev S4096x1032 : Shape := ⟨2, ![4096, 1032]⟩
abbrev S4096x2824 : Shape := ⟨2, ![4096, 2824]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1152, .bf16⟩
  | .hbm, ⟨2, _⟩ => ⟨S4096x768, .bf16⟩
  | .hbm, ⟨3, _⟩ => ⟨S1024x2824, .bf16⟩
  | .hbm, ⟨4, _⟩ => ⟨S4096x1024, .f32⟩
  | .hbm, ⟨5, _⟩ => ⟨S1024x2824, .f32⟩
  | .hbm, ⟨6, _⟩ => ⟨S4096x1032, .bf16⟩
  | .hbm, ⟨7, _⟩ => ⟨S4096x2824, .bf16⟩
  | .hbm, ⟨8, _⟩ => ⟨S4096x2824, .f32⟩
  | .hbm, ⟨9, _⟩ => ⟨S_, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x2824, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proj.lean ====
abbrev S4096x1024 : Shape := ⟨2, ![4096, 1024]⟩
abbrev S1024x2824 : Shape := ⟨2, ![1024, 2824]⟩
abbrev S_ : Shape := ⟨0, ![]⟩
abbrev S1024x248 : Shape := ⟨2, ![1024, 248]⟩
abbrev S1024x2048 : Shape := ⟨2, ![1024, 2048]⟩
abbrev S1024x768 : Shape := ⟨2, ![1024, 768]⟩
abbrev S1024x8 : Shape := ⟨2, ![1024, 8]⟩
abbrev S1024x3072 : Shape := ⟨2, ![1024, 3072]⟩
abbrev S4096x3072 : Shape := ⟨2, ![4096, 3072]⟩
abbrev S1024x1024 : Shape := ⟨2, ![1024, 1024]⟩
abbrev S8x128 : Shape := ⟨2, ![8, 128]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2824, .bf16⟩
  | .hbm, ⟨2, _⟩ => ⟨S_, .bf16⟩
  | .hbm, ⟨3, _⟩ => ⟨S1024x248, .bf16⟩
  | .hbm, ⟨4, _⟩ => ⟨S1024x2048, .bf16⟩
  | .hbm, ⟨5, _⟩ => ⟨S1024x768, .bf16⟩
  | .hbm, ⟨6, _⟩ => ⟨S1024x8, .bf16⟩
  | .hbm, ⟨7, _⟩ => ⟨S1024x3072, .bf16⟩
  | .hbm, ⟨8, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x2824 : Shape := ⟨2, ![1024, 2824]⟩
abbrev S4096x2824 : Shape := ⟨2, ![4096, 2824]⟩
abbrev S_ : Shape := ⟨0, ![]⟩
abbrev S4096x248 : Shape := ⟨2, ![4096, 248]⟩
abbrev S4096x2048 : Shape := ⟨2, ![4096, 2048]⟩
abbrev S4096x768 : Shape := ⟨2, ![4096, 768]⟩
abbrev S4096x8 : Shape := ⟨2, ![4096, 8]⟩
abbrev S4096x3072 : Shape := ⟨2, ![4096, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2824, .bf16⟩
  | .hbm, ⟨2, _⟩ => ⟨S4096x1024, .f32⟩
  | .hbm, ⟨3, _⟩ => ⟨S1024x2824, .f32⟩
  | .hbm, ⟨4, _⟩ => ⟨S4096x2824, .f32⟩
  | .hbm, ⟨5, _⟩ => ⟨S_, .f32⟩
  | .hbm, ⟨6, _⟩ => ⟨S4096x248, .f32⟩
  | .hbm, ⟨7, _⟩ => ⟨S4096x2048, .f32⟩
  | .hbm, ⟨8, _⟩ => ⟨S4096x768, .f32⟩
  | .hbm, ⟨9, _⟩ => ⟨S4096x8, .f32⟩
  | .hbm, ⟨10, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MemKv.lean ====
abbrev S256x1024 : Shape := ⟨2, ![256, 1024]⟩
abbrev S1024x2048 : Shape := ⟨2, ![1024, 2048]⟩
abbrev S256x2048 : Shape := ⟨2, ![256, 2048]⟩
abbrev S1024x512 : Shape := ⟨2, ![1024, 512]⟩
abbrev S256x512 : Shape := ⟨2, ![256, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x2048, .bf16⟩
  | .hbm, ⟨2, _⟩ => ⟨S256x2048, .f32⟩
  | .local _ .vmem, ⟨0, _⟩ => ⟨S256x1024, .f32⟩
  | .local _ .vmem, ⟨1, _⟩ => ⟨S1024x512, .bf16⟩
  | .local _ .vmem, ⟨2, _⟩ => ⟨S1024x512, .bf16⟩
  | .local _ .vmem, ⟨3, _⟩ => ⟨S256x512, .f32⟩
  | .local _ .vmem, ⟨4, _⟩ => ⟨S256x512, .f32⟩
  | .local _ .vmem, ⟨5, _⟩ => ⟨S8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvRefIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .bf16⟩
  | .hbm, ⟨2, _⟩ => ⟨S1024x2048, .f32⟩
  | .hbm, ⟨3, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOut.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S1024x4096 : Shape := ⟨2, ![1024, 4096]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1024x4096, .bf16⟩
  | .hbm, ⟨9, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .f32⟩
  | .local _ .vmem, ⟨17, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOutRefIdeal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S1024x4096, .f32⟩
  | .hbm, ⟨47, _⟩ => ⟨S1024x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== XaOut.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1024x4096, .bf16⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .f32⟩
  | .local _ .vmem, ⟨14, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== XaOutIdeal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1024x4096, .bf16⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .f32⟩
  | .local _ .vmem, ⟨14, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== XaOutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S1024x4096, .f32⟩
  | .hbm, ⟨45, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x4096 : Shape := ⟨2, ![1024, 4096]⟩
abbrev S512x2816 : Shape := ⟨2, ![512, 2816]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1024x4096, .bf16⟩
  | .hbm, ⟨8, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S2816x1024, .f32⟩
  | .hbm, ⟨10, _⟩ => ⟨S4096x1024, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S1024x4096, .f32⟩
  | .hbm, ⟨45, _⟩ => ⟨S1024x4096, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Gate.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S4096x2816 : Shape := ⟨2, ![4096, 2816]⟩
abbrev S2816x4096 : Shape := ⟨2, ![2816, 4096]⟩
abbrev S1024x128 : Shape := ⟨2, ![1024, 128]⟩
abbrev S3x128 : Shape := ⟨2, ![3, 128]⟩
abbrev S1x128 : Shape := ⟨2, ![1, 128]⟩
abbrev S4096x128 : Shape := ⟨2, ![4096, 128]⟩
abbrev S128x4096 : Shape := ⟨2, ![128, 4096]⟩
abbrev S_ : Shape := ⟨0, ![]⟩
abbrev S1024x256 : Shape := ⟨2, ![1024, 256]⟩
abbrev S4096x256 : Shape := ⟨2, ![4096, 256]⟩

abbrev nBuf : Space → Nat
  | .hbm => 6
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S3x5632, .f32⟩
  | .hbm, ⟨3, _⟩ => ⟨S1x5632, .f32⟩
  | .hbm, ⟨4, _⟩ => ⟨S4096x2816, .bf16⟩
  | .hbm, ⟨5, _⟩ => ⟨S2816x4096, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S128x4096, .bf16⟩
  | .local _ .vmem, ⟨15, _⟩ => ⟨S128x4096, .bf16⟩
  | .local _ .vmem, ⟨16, _⟩ => ⟨S4096x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateRefIdeal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩
abbrev S2816x4096 : Shape := ⟨2, ![2816, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S3x5632, .f32⟩
  | .hbm, ⟨3, _⟩ => ⟨S1x5632, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S_, .f32⟩
  | .hbm, ⟨8, _⟩ => ⟨S2x5632, .f32⟩
  | .hbm, ⟨9, _⟩ => ⟨S4098x5632, .f32⟩
  | .hbm, ⟨10, _⟩ => ⟨S4096x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .bf16⟩
  | .hbm, ⟨53, _⟩ => ⟨S2816x4096, .f32⟩
  | .hbm, ⟨54, _⟩ => ⟨S2816x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Attend.lean ====
abbrev S4096x1024 : Shape := ⟨2, ![4096, 1024]⟩
abbrev S1024x1024 : Shape := ⟨2, ![1024, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S256x2048, .f32⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x2048, .f32⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttendRefIdeal.lean ====
abbrev S4096x1024 : Shape := ⟨2, ![4096, 1024]⟩
abbrev S1024x1024 : Shape := ⟨2, ![1024, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S256x2048, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x4x256, .f32⟩
  | .hbm, ⟨7, _⟩ => ⟨S256x1024, .f32⟩
  | .hbm, ⟨8, _⟩ => ⟨S256x4x256, .f32⟩
  | .hbm, ⟨9, _⟩ => ⟨S256x1024, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S_, .f32⟩
  | .hbm, ⟨18, _⟩ => ⟨S4x4096, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x256, .f32⟩
  | .hbm, ⟨28, _⟩ => ⟨S4x4096x256, .f32⟩
  | .hbm, ⟨29, _⟩ => ⟨S4x256x4096, .f32⟩
  | .hbm, ⟨30, _⟩ => ⟨S4096x4x256, .f32⟩
  | .hbm, ⟨31, _⟩ => ⟨S4096x1024, .f32⟩
  | .hbm, ⟨32, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== UpGrad.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x2816, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_30 : BitVec 32 := 0#32
  let v57 : BitVec 1 := Scalar.cmpi .ne v56 c0_i32_30
  v57

def k0_cond2 (i : grid0.Coords) : BitVec 1 :=
  let arg0 : BitVec 32 := BitVec.ofNat 32 (i 0).val
  let c0_i32_31 : BitVec 32 := 0#32
  let v58 : BitVec 1 := Scalar.cmpi .sgt arg0 c0_i32_31
  let v59 : BitVec 32 := Scalar.extui v58
  let c0_i32_32 : BitVec 32 := 0#32
  let v60 : BitVec 1 := Scalar.cmpi .ne v59 c0_i32_32
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== UpGradRefIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 104
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x2816, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1024x5632, .f32⟩
  | .hbm, ⟨7, _⟩ => ⟨S4096x5632, .bf16⟩
  | .hbm, ⟨8, _⟩ => ⟨S4096x5632, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x5632, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | .hbm, ⟨103, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== QueryGrad.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_25 : BitVec 32 := 0#32
  let v53 : BitVec 1 := Scalar.cmpi .ne v52 c0_i32_25
  v53

def k0_cond2 (i : grid0.Coords) : BitVec 1 :=
  let arg0 : BitVec 32 := BitVec.ofNat 32 (i 0).val
  let c0_i32_26 : BitVec 32 := 0#32
  let v54 : BitVec 1 := Scalar.cmpi .sgt arg0 c0_i32_26
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QueryGradRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S1x1024, .f32⟩
  | .hbm, ⟨101, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== LayerGrad.lean ====
abbrev S4096x1024 : Shape := ⟨2, ![4096, 1024]⟩
abbrev S4096x1152 : Shape := ⟨2, ![4096, 1152]⟩
abbrev S4096x768 : Shape := ⟨2, ![4096, 768]⟩
abbrev S1024x2824 : Shape := ⟨2, ![1024, 2824]⟩
abbrev S1x1024 : Shape := ⟨2, ![1, 1024]⟩
abbrev S_ : Shape := ⟨0, ![]⟩
abbrev S1024x248 : Shape := ⟨2, ![1024, 248]⟩
abbrev S1024x2048 : Shape := ⟨2, ![1024, 2048]⟩
abbrev S1024x768 : Shape := ⟨2, ![1024, 768]⟩
abbrev S1024x8 : Shape := ⟨2, ![1024, 8]⟩
abbrev S1024x3072 : Shape := ⟨2, ![1024, 3072]⟩
abbrev S1024x1024 : Shape := ⟨2, ![1024, 1024]⟩
abbrev S1024x128 : Shape := ⟨2, ![1024, 128]⟩
abbrev S1024x1152 : Shape := ⟨2, ![1024, 1152]⟩
abbrev S512x1024 : Shape := ⟨2, ![512, 1024]⟩
abbrev S512x1152 : Shape := ⟨2, ![512, 1152]⟩
abbrev S512x768 : Shape := ⟨2, ![512, 768]⟩
abbrev S512 : Shape := ⟨1, ![512]⟩
abbrev S512x1 : Shape := ⟨2, ![512, 1]⟩
abbrev S1024 : Shape := ⟨1, ![1024]⟩

abbrev nBuf : Space → Nat
  | .hbm => 21
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1152, .bf16⟩
  | .hbm, ⟨2, _⟩ => ⟨S4096x768, .bf16⟩
  | .hbm, ⟨3, _⟩ => ⟨S1024x2824, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S_, .bf16⟩
  | .hbm, ⟨8, _⟩ => ⟨S1024x248, .bf16⟩
  | .hbm, ⟨9, _⟩ => ⟨S1024x2048, .bf16⟩
  | .hbm, ⟨10, _⟩ => ⟨S1024x768, .bf16⟩
  | .hbm, ⟨11, _⟩ => ⟨S1024x8, .bf16⟩
  | .hbm, ⟨12, _⟩ => ⟨S1024x3072, .bf16⟩
  | .hbm, ⟨13, _⟩ => ⟨S1024x1024, .bf16⟩
  | .hbm, ⟨14, _⟩ => ⟨S1024x128, .bf16⟩
  | .hbm, ⟨15, _⟩ => ⟨S1024x1152, .bf16⟩
  | .hbm, ⟨16, _⟩ => ⟨S1024x768, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1152, .bf16⟩
  | .local _ .vmem, ⟨4, _⟩ => ⟨S512x1152, .bf16⟩
  | .local _ .vmem, ⟨5, _⟩ => ⟨S1024x1152, .bf16⟩
  | .local _ .vmem, ⟨6, _⟩ => ⟨S512x768, .bf16⟩
  | .local _ .vmem, ⟨7, _⟩ => ⟨S512x768, .bf16⟩
  | .local _ .vmem, ⟨8, _⟩ => ⟨S1024x768, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_35 : BitVec 32 := 0#32
  let v64 : BitVec 1 := Scalar.cmpi .ne v63 c0_i32_35
  v64

def k0_cond2 (i : grid0.Coords) : BitVec 1 :=
  let arg0 : BitVec 32 := BitVec.ofNat 32 (i 0).val
  let c0_i32_36 : BitVec 32 := 0#32
  let v65 : BitVec 1 := Scalar.cmpi .sgt arg0 c0_i32_36
  let v66 : BitVec 32 := Scalar.extui v65
  let c0_i32_37 : BitVec 32 := 0#32
  let v67 : BitVec 1 := Scalar.cmpi .ne v66 c0_i32_37
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LayerGradRefIdeal.lean ====
abbrev S4096x1024 : Shape := ⟨2, ![4096, 1024]⟩
abbrev S4096x1152 : Shape := ⟨2, ![4096, 1152]⟩
abbrev S4096x768 : Shape := ⟨2, ![4096, 768]⟩
abbrev S1024x2824 : Shape := ⟨2, ![1024, 2824]⟩
abbrev S1x1024 : Shape := ⟨2, ![1, 1024]⟩
abbrev S4096x1032 : Shape := ⟨2, ![4096, 1032]⟩
abbrev S4096x2824 : Shape := ⟨2, ![4096, 2824]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1152, .bf16⟩
  | .hbm, ⟨2, _⟩ => ⟨S4096x768, .bf16⟩
  | .hbm, ⟨3, _⟩ => ⟨S1024x2824, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x2824, .f32⟩
  | .hbm, ⟨8, _⟩ => ⟨S4096x1032, .bf16⟩
  | .hbm, ⟨9, _⟩ => ⟨S4096x2824, .bf16⟩
  | .hbm, ⟨10, _⟩ => ⟨S4096x2824, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x2824, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .bf16⟩
  | .hbm, ⟨104, _⟩ => ⟨S1x1024, .f32⟩
  | .hbm, ⟨105, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Proof.Swa.Coe.lean ====
/-
  Small facts about extended reals used on both sides of the equation: finite sums and quotients of real numbers, the
  three float literals the programs write, and comparisons of small positions.
-/
module

public import Idealize.ShloMosaic.Lib.Pointwise

@[expose] public section

noncomputable section

open Idealize.ShloMosaic

namespace Cert.Swa

/-- A finite sum of real numbers, taken in the extended reals, is the real sum. -/
theorem sum_coe {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A real number over a nonzero real number is the real quotient. -/
theorem div_coe_coe (x : ℝ) {y : ℝ} (h : y ≠ 0) : Ideal.div (x : EReal) (y : EReal) = ((x / y : ℝ) : EReal) := by
  rw [Ideal.div_coe h, ← EReal.coe_mul, mul_one_div]

/-- One over a nonzero real number is the real quotient. -/
theorem one_div_coe {y : ℝ} (h : y ≠ 0) : Ideal.div (1 : EReal) (y : EReal) = ((1 / y : ℝ) : EReal) := by
  rw [← EReal.coe_one, div_coe_coe 1 h]

/-- The word `0x3E000000` reads as one eighth. -/
theorem lit_eighth : Ideal.ofBits .f32 0x3E000000#32 = ((1 / 8 : ℝ) : EReal) := by
  simp [Ideal.ofBits, Ideal.ieee, -EReal.coe_mul]; norm_num

/-- The word `0x3F800000` reads as one. -/
theorem lit_one : Ideal.ofBits .f32 0x3F800000#32 = ((1 : ℝ) : EReal) := by
  simp [Ideal.ofBits, Ideal.ieee, -EReal.coe_mul]; norm_num

/-- The word `0xFF800000` reads as minus infinity. -/
theorem lit_bot : Ideal.ofBits .f32 0xFF800000#32 = (⊥ : EReal) := by
  simp [Ideal.ofBits, Ideal.ieee]

/-- A running maximum that starts below plus infinity over values below plus infinity stays below it. -/
theorem fold_max_ne_top {ι : Type*} (s : Finset ι) (f : ι → EReal) (b : EReal) (hb : b ≠ ⊤) (hf : ∀ x, f x ≠ ⊤) :
    s.fold max b f ≠ ⊤ := by
  classical
  induction s using Finset.induction_on with
  | empty => simpa using hb
  | insert a s ha ih =>
    rw [Finset.fold_insert ha]
    rcases max_choice (f a) (s.fold max b f) with h | h <;> rw [h]
    · exact hf a
    · exact ih

/-- The maximum of something below plus infinity and a real number is a real number. -/
theorem max_coe_real {x : EReal} (hx : x ≠ ⊤) (y : ℝ) : ∃ M : ℝ, max x (y : EReal) = (M : EReal) := by
  have h1 : max x (y : EReal) ≠ ⊤ := by
    rcases max_choice x (y : EReal) with h | h <;> rw [h]
    · exact hx
    · exact EReal.coe_ne_top y
  have h2 : max x (y : EReal) ≠ ⊥ := fun h => by
    have := le_max_right x (y : EReal)
    rw [h, le_bot_iff] at this
    exact EReal.coe_ne_bot y this
  exact ⟨(max x (y : EReal)).toReal, (EReal.coe_toReal h1 h2).symm⟩

/-- A position below `2^31` read as a signed word is itself. -/
theorem toInt_small (a : ℕ) (ha : a < 2147483648) : (BitVec.ofNat 32 a).toInt = (a : ℤ) := by
  rw [BitVec.toInt_eq_toNat_cond, BitVec.toNat_ofNat, Nat.mod_eq_of_lt (by omega), if_pos (by omega)]

/-- Positions below `2^31` compare as signed words the way they compare as numbers: greater. -/
theorem cmpi_sgt (a b : ℕ) (ha : a < 2147483648) (hb : b < 2147483648) :
    IntOp.cmpi .sgt (BitVec.ofNat 32 a) (BitVec.ofNat 32 b) = BitVec.ofBool (decide (b < a)) := by
  simp only [IntOp.cmpi, BitVec.slt, toInt_small a ha, toInt_small b hb]
  simp

/-- Positions below `2^31` compare as signed words the way they compare as numbers: less. -/
theorem cmpi_slt (a b : ℕ) (ha : a < 2147483648) (hb : b < 2147483648) :
    IntOp.cmpi .slt (BitVec.ofNat 32 a) (BitVec.ofNat 32 b) = BitVec.ofBool (decide (a < b)) := by
  simp only [IntOp.cmpi, BitVec.slt, toInt_small a ha, toInt_small b hb]
  simp

/-- Positions below `2^31` compare as signed words the way they compare as numbers: at most. -/
theorem cmpi_sle (a b : ℕ) (ha : a < 2147483648) (hb : b < 2147483648) :
    IntOp.cmpi .sle (BitVec.ofNat 32 a) (BitVec.ofNat 32 b) = BitVec.ofBool (decide (a ≤ b)) := by
  simp only [IntOp.cmpi, BitVec.sle, toInt_small a ha, toInt_small b hb]
  simp

/-- Positions below `2^32` are equal as words exactly when they are equal. -/
theorem cmpi_eq (a b : ℕ) (ha : a < 4294967296) (hb : b < 4294967296) :
    IntOp.cmpi .eq (BitVec.ofNat 32 a) (BitVec.ofNat 32 b) = BitVec.ofBool (decide (a = b)) := by
  simp only [IntOp.cmpi]
  congr 1
  rw [beq_eq_decide, decide_eq_decide, ← BitVec.toNat_inj, BitVec.toNat_ofNat, BitVec.toNat_ofNat, Nat.mod_eq_of_lt ha, Nat.mod_eq_of_lt hb]

end Cert.Swa
-- ==== Proof.Swa.Model.lean ====
/-
  The mathematics of one block of 128 rows of the windowed attention's backward pass, over the real numbers: each row
  looks at the 128 positions of the block before (`p`) and the 128 of its own block (`c`), through a band mask, with one
  extra "sink" term in the denominator that carries no value.
-/
module

public import proofs.«01_k».proof.Proof.Swa.Coe

@[expose] public section

noncomputable section

namespace Cert.Swa

/-- The key/value group a query head belongs to: four heads share one. -/
def grp (h : Fin 8) : Fin 2 := ⟨h.val / 4, by omega⟩

/-- The `j`-th head of group `g`. -/
def head (g : Fin 2) (j : Fin 4) : Fin 8 := ⟨4 * g.val + j.val, by omega⟩

/-- What one block reads: whether there is a block before it, the queries and the incoming cotangent of its rows, keys and
    values of the block before and of its own, the bias of the two halves of the band, and the sinks. -/
structure Blk where
  hp : Bool
  q : Fin 8 → Fin 128 → Fin 64 → ℝ
  g : Fin 8 → Fin 128 → Fin 64 → ℝ
  kp : Fin 2 → Fin 128 → Fin 64 → ℝ
  kc : Fin 2 → Fin 128 → Fin 64 → ℝ
  vp : Fin 2 → Fin 128 → Fin 64 → ℝ
  vc : Fin 2 → Fin 128 → Fin 64 → ℝ
  bp : Fin 8 → Fin 128 → Fin 128 → ℝ
  bc : Fin 8 → Fin 128 → Fin 128 → ℝ
  s : Fin 8 → ℝ

namespace Blk

variable (b : Blk)

/-- A logit against the block before. -/
def lp (h : Fin 8) (r c : Fin 128) : ℝ := (∑ d, b.q h r d * b.kp (grp h) c d) * (1 / 8) + b.bp h r c
/-- A logit against the block's own positions. -/
def lc (h : Fin 8) (r c : Fin 128) : ℝ := (∑ d, b.q h r d * b.kc (grp h) c d) * (1 / 8) + b.bc h r c
/-- The unnormalised weight of a position of the block before: seen only beyond the row's own offset. -/
def wp (h : Fin 8) (r c : Fin 128) : ℝ := if r.val < c.val ∧ b.hp = true then Real.exp (b.lp h r c) else 0
/-- The unnormalised weight of a position of the block itself: seen up to the row. -/
def wc (h : Fin 8) (r c : Fin 128) : ℝ := if c.val ≤ r.val then Real.exp (b.lc h r c) else 0
/-- The denominator: the weights and the sink. -/
def Z (h : Fin 8) (r : Fin 128) : ℝ := (∑ c, b.wp h r c) + (∑ c, b.wc h r c) + Real.exp (b.s h)
/-- The cotangent of a probability, block before. -/
def ap (h : Fin 8) (r c : Fin 128) : ℝ := ∑ d, b.g h r d * b.vp (grp h) c d
/-- The cotangent of a probability, own block. -/
def ac (h : Fin 8) (r c : Fin 128) : ℝ := ∑ d, b.g h r d * b.vc (grp h) c d
/-- The row's weighted sum of those cotangents. -/
def S (h : Fin 8) (r : Fin 128) : ℝ := (∑ c, b.ap h r c * b.wp h r c) + ∑ c, b.ac h r c * b.wc h r c
/-- The cotangent of a logit, block before. -/
def dlp (h : Fin 8) (r c : Fin 128) : ℝ := (b.ap h r c / b.Z h r - b.S h r / b.Z h r ^ 2) * b.wp h r c
/-- The cotangent of a logit, own block. -/
def dlc (h : Fin 8) (r c : Fin 128) : ℝ := (b.ac h r c / b.Z h r - b.S h r / b.Z h r ^ 2) * b.wc h r c
/-- The cotangent of a query. -/
def dq (h : Fin 8) (r : Fin 128) (d : Fin 64) : ℝ :=
  (∑ c, b.dlc h r c * (1 / 8) * b.kc (grp h) c d) + ∑ c, b.dlp h r c * (1 / 8) * b.kp (grp h) c d
/-- What the block adds to the cotangent of a key of the block before. -/
def dkp (g : Fin 2) (c : Fin 128) (d : Fin 64) : ℝ := ∑ j, ∑ r, b.dlp (head g j) r c * (1 / 8) * b.q (head g j) r d
/-- What the block adds to the cotangent of one of its own keys. -/
def dkc (g : Fin 2) (c : Fin 128) (d : Fin 64) : ℝ := ∑ j, ∑ r, b.dlc (head g j) r c * (1 / 8) * b.q (head g j) r d
/-- What the block adds to the cotangent of a value of the block before. -/
def dvp (g : Fin 2) (c : Fin 128) (d : Fin 64) : ℝ := ∑ j, ∑ r, b.wp (head g j) r c / b.Z (head g j) r * b.g (head g j) r d
/-- What the block adds to the cotangent of one of its own values. -/
def dvc (g : Fin 2) (c : Fin 128) (d : Fin 64) : ℝ := ∑ j, ∑ r, b.wc (head g j) r c / b.Z (head g j) r * b.g (head g j) r d
/-- What the block adds to the cotangent of a sink. -/
def ds (h : Fin 8) : ℝ := ∑ r, -(b.S h r / b.Z h r ^ 2) * Real.exp (b.s h)

theorem wp_nonneg (h : Fin 8) (r c : Fin 128) : 0 ≤ b.wp h r c := by
  unfold wp; split_ifs; exacts [(Real.exp_pos _).le, le_refl _]
theorem wc_nonneg (h : Fin 8) (r c : Fin 128) : 0 ≤ b.wc h r c := by
  unfold wc; split_ifs; exacts [(Real.exp_pos _).le, le_refl _]

/-- The denominator is positive: the sink's exponential is. -/
theorem Z_pos (h : Fin 8) (r : Fin 128) : 0 < b.Z h r :=
  add_pos_of_nonneg_of_pos (add_nonneg (Finset.sum_nonneg fun c _ => b.wp_nonneg h r c)
    (Finset.sum_nonneg fun c _ => b.wc_nonneg h r c)) (Real.exp_pos _)
theorem Z_ne (h : Fin 8) (r : Fin 128) : b.Z h r ≠ 0 := (b.Z_pos h r).ne'

end Blk

end Cert.Swa
-- ==== Proof.Swa.Arrays.lean ====
/-
  The four arrays the windowed attention's backward pass reads, over the reals, and the block of 128 rows taken from them.
-/
module

public import proofs.«01_k».proof.Proof.Swa.Model

@[expose] public section

noncomputable section

namespace Cert.Swa

open Idealize.ShloMosaic

/-- The real arrays: the cotangent of the two branches' results, the projections, the bias of each row's band of 256
    positions, and the sinks. -/
structure Arrays where
  D : ℕ → ℕ → ℝ
  X : ℕ → ℕ → ℝ
  B : Fin 8 → Fin 128 → ℕ → ℝ
  s : Fin 8 → ℝ

/-- Block `n` of the arrays: rows `128n` on, with the keys and values of the block before (of the same block at the first,
    where none is looked at). -/
def Arrays.blk (A : Arrays) (n : ℕ) : Blk where
  hp := decide (0 < n)
  q h r d := A.X (128 * n + r.val) (2048 + (64 * h.val + d.val))
  g h r d := A.D (128 * n + r.val) (512 + (64 * h.val + d.val))
  kp g c d := A.X (128 * (n - 1) + c.val) (2560 + (64 * g.val + d.val))
  kc g c d := A.X (128 * n + c.val) (2560 + (64 * g.val + d.val))
  vp g c d := A.X (128 * (n - 1) + c.val) (2688 + (64 * g.val + d.val))
  vc g c d := A.X (128 * n + c.val) (2688 + (64 * g.val + d.val))
  bp h r c := A.B h r c.val
  bc h r c := A.B h r (128 + c.val)
  s := A.s

/-- Arrays of extended reals that hold real numbers. -/
structure Arrays.Are (A : Arrays) (a0 : (⟨2, ![4096, 1024]⟩ : Shape).Idx → EReal) (a1 : (⟨2, ![4096, 3072]⟩ : Shape).Idx → EReal)
    (a2 : (⟨3, ![8, 128, 256]⟩ : Shape).Idx → EReal) (a3 : (⟨1, ![8]⟩ : Shape).Idx → EReal) : Prop where
  D : ∀ (r : Fin 4096) (c : Fin 1024), a0 (ix2 r c) = (A.D r.val c.val : EReal)
  X : ∀ (r : Fin 4096) (c : Fin 3072), a1 (ix2 r c) = (A.X r.val c.val : EReal)
  B : ∀ (h : Fin 8) (r : Fin 128) (c : Fin 256), a2 (ix3 h r c) = (A.B h r c.val : EReal)
  s : ∀ h : Fin 8, a3 (ix1 h) = (A.s h : EReal)

/-- What the block after `n` adds to the key cotangents of block `n`: nothing after the last. -/
def Arrays.nextK (A : Arrays) (n : ℕ) (g : Fin 2) (c : Fin 128) (d : Fin 64) : ℝ := if n < 31 then (A.blk (n + 1)).dkp g c d else 0
/-- The same for the value cotangents. -/
def Arrays.nextV (A : Arrays) (n : ℕ) (g : Fin 2) (c : Fin 128) (d : Fin 64) : ℝ := if n < 31 then (A.blk (n + 1)).dvp g c d else 0

/-- The three results of the backward pass, in terms of the blocks' cotangents: the cotangents of queries, keys and values
    side by side, that of the bias summed over the blocks, that of the sinks summed over the blocks and padded with zeros. -/
structure Arrays.Results (A : Arrays) (o0 : (⟨2, ![4096, 768]⟩ : Shape).Idx → EReal) (o1 : (⟨3, ![8, 128, 256]⟩ : Shape).Idx → EReal)
    (o2 : (⟨2, ![1, 128]⟩ : Shape).Idx → EReal) : Prop where
  dq : ∀ (n : Fin 32) (r : Fin 128) (h : Fin 8) (d : Fin 64),
    o0 (ix2 ⟨128 * n.val + r.val, by omega⟩ ⟨64 * h.val + d.val, by omega⟩) = ((A.blk n.val).dq h r d : EReal)
  dk : ∀ (n : Fin 32) (r : Fin 128) (g : Fin 2) (d : Fin 64),
    o0 (ix2 ⟨128 * n.val + r.val, by omega⟩ ⟨64 * (8 + g.val) + d.val, by omega⟩) = ((A.blk n.val).dkc g r d + A.nextK n.val g r d : ℝ)
  dv : ∀ (n : Fin 32) (r : Fin 128) (g : Fin 2) (d : Fin 64),
    o0 (ix2 ⟨128 * n.val + r.val, by omega⟩ ⟨64 * (10 + g.val) + d.val, by omega⟩) = ((A.blk n.val).dvc g r d + A.nextV n.val g r d : ℝ)
  dbp : ∀ (h : Fin 8) (r c : Fin 128), o1 (ix3 h r ⟨c.val, by omega⟩) = (∑ n ∈ Finset.range 32, (A.blk n).dlp h r c : ℝ)
  dbc : ∀ (h : Fin 8) (r c : Fin 128), o1 (ix3 h r ⟨128 + c.val, by omega⟩) = (∑ n ∈ Finset.range 32, (A.blk n).dlc h r c : ℝ)
  ds : ∀ l : Fin 128, o2 (ix2 0 l) = ((if h : l.val < 8 then ∑ n ∈ Finset.range 32, (A.blk n).ds ⟨l.val, h⟩ else 0 : ℝ) : EReal)

/-- Two arrays of rank two agree when they do at every row and column. -/
theorem ext2 {α : Type} {n0 n1 : ℕ} {f g : (⟨2, ![n0, n1]⟩ : Shape).Idx → α} (h : ∀ r c, f (ix2 r c) = g (ix2 r c)) : f = g :=
  funext fun i => (ix2_eta i) ▸ h _ _
/-- The same at rank three. -/
theorem ext3 {α : Type} {n0 n1 n2 : ℕ} {f g : (⟨3, ![n0, n1, n2]⟩ : Shape).Idx → α} (h : ∀ a b c, f (ix3 a b c) = g (ix3 a b c)) : f = g :=
  funext fun i => (ix3_eta i) ▸ h _ _ _

/-- These equations determine the three results. -/
theorem Arrays.Results.unique {A : Arrays} {o0 p0 : (⟨2, ![4096, 768]⟩ : Shape).Idx → EReal} {o1 p1 : (⟨3, ![8, 128, 256]⟩ : Shape).Idx → EReal}
    {o2 p2 : (⟨2, ![1, 128]⟩ : Shape).Idx → EReal} (H : A.Results o0 o1 o2) (K : A.Results p0 p1 p2) : o0 = p0 ∧ o1 = p1 ∧ o2 = p2 := by
  refine ⟨ext2 fun r c => ?_, ext3 fun h r c => ?_, ext2 fun z l => ?_⟩
  · have er : r = ⟨128 * (⟨r.val / 128, by omega⟩ : Fin 32).val + (⟨r.val % 128, by omega⟩ : Fin 128).val, by dsimp only; omega⟩ :=
      Fin.ext (by dsimp only; omega)
    by_cases h1 : c.val < 512
    · have ec : c = ⟨64 * (⟨c.val / 64, by omega⟩ : Fin 8).val + (⟨c.val % 64, by omega⟩ : Fin 64).val, by dsimp only; omega⟩ :=
        Fin.ext (by dsimp only; omega)
      rw [er, ec]
      exact (H.dq _ _ _ _).trans (K.dq _ _ _ _).symm
    · by_cases h2 : c.val < 640
      · have ec : c = ⟨64 * (8 + (⟨c.val / 64 - 8, by omega⟩ : Fin 2).val) + (⟨c.val % 64, by omega⟩ : Fin 64).val, by dsimp only; omega⟩ :=
          Fin.ext (by dsimp only; omega)
        rw [er, ec]
        exact (H.dk _ _ _ _).trans (K.dk _ _ _ _).symm
      · have ec : c = ⟨64 * (10 + (⟨c.val / 64 - 10, by omega⟩ : Fin 2).val) + (⟨c.val % 64, by omega⟩ : Fin 64).val, by dsimp only; omega⟩ :=
          Fin.ext (by dsimp only; omega)
        rw [er, ec]
        exact (H.dv _ _ _ _).trans (K.dv _ _ _ _).symm
  · by_cases h1 : c.val < 128
    · exact (H.dbp h r ⟨c.val, h1⟩).trans (K.dbp h r ⟨c.val, h1⟩).symm
    · have ec : c = ⟨128 + (⟨c.val - 128, by omega⟩ : Fin 128).val, by dsimp only; omega⟩ := Fin.ext (by dsimp only; omega)
      rw [ec]
      exact (H.dbc _ _ _).trans (K.dbc _ _ _).symm
  · obtain rfl : z = 0 := Subsingleton.elim _ _
    exact (H.ds l).trans (K.ds l).symm

end Cert.Swa
-- ==== Proof.Swa.PayHeads.lean ====
/-
  The kernel body's re-arrangements read at an index: eight column blocks stacked into heads, a group's keys or values
  repeated for its four heads, the heads of a group summed, and the products over one axis.
-/
module

public import proofs.«01_k».proof.Proof.Gen.SwaBwdIdeal.Value
public import proofs.«01_k».proof.Proof.Swa.Model
public import Idealize.ShloMosaic.Lib.Pointwise

@[expose] public section

set_option maxRecDepth 16384

noncomputable section

open Idealize.ShloMosaic Idealize.ShloMosaic.TcCoe Cert.Swa

namespace Cert.SwaBwdIdeal.Block

open Cert.SwaBwdIdeal Cert.SwaBwdIdeal.Gen

/-- Eight blocks of 64 columns, stacked: head `h` is the `h`-th block (the queries). -/
theorem pay6_apply (v : Fin 8 → Vec Ideal S128x64 .f32) (h : Fin 8) (r : Fin 128) (d : Fin 64) :
    k0_pay6 (F := Ideal) (v 0) (v 1) (v 2) (v 3) (v 4) (v 5) (v 6) (v 7) (ix3 h r d) = v h (ix2 r d) := by
  pointwise [k0_pay6]
  fin_cases h <;> rfl

/-- The same stacking of the incoming cotangent's columns. -/
theorem pay30_apply (v : Fin 8 → Vec Ideal S128x64 .f32) (h : Fin 8) (r : Fin 128) (d : Fin 64) :
    k0_pay30 (F := Ideal) (v 0) (v 1) (v 2) (v 3) (v 4) (v 5) (v 6) (v 7) (ix3 h r d) = v h (ix2 r d) := by
  pointwise [k0_pay30]
  fin_cases h <;> rfl

/-- The stacked cotangent after its cast, which over the reals is the identity. -/
theorem pay31_apply (v : Fin 8 → Vec Ideal S128x64 .f32) (h : Fin 8) (r : Fin 128) (d : Fin 64) :
    k0_pay31 (F := Ideal) (v 0) (v 1) (v 2) (v 3) (v 4) (v 5) (v 6) (v 7) (ix3 h r d) = v h (ix2 r d) := by
  pointwise [k0_pay31]
  exact pay30_apply v h r d

/-- Two blocks of 64 columns, stacked into the two groups: keys of the block before. -/
theorem pay7_apply (v : Fin 2 → Vec Ideal S128x64 .f32) (g : Fin 2) (r : Fin 128) (d : Fin 64) :
    k0_pay7 (F := Ideal) (v 0) (v 1) (ix3 g r d) = v g (ix2 r d) := by
  pointwise [k0_pay7]
  fin_cases g <;> rfl
/-- The block's own keys. -/
theorem pay8_apply (v : Fin 2 → Vec Ideal S128x64 .f32) (g : Fin 2) (r : Fin 128) (d : Fin 64) :
    k0_pay8 (F := Ideal) (v 0) (v 1) (ix3 g r d) = v g (ix2 r d) := by
  pointwise [k0_pay8]
  fin_cases g <;> rfl
/-- Values of the block before. -/
theorem pay9_apply (v : Fin 2 → Vec Ideal S128x64 .f32) (g : Fin 2) (r : Fin 128) (d : Fin 64) :
    k0_pay9 (F := Ideal) (v 0) (v 1) (ix3 g r d) = v g (ix2 r d) := by
  pointwise [k0_pay9]
  fin_cases g <;> rfl
/-- The block's own values. -/
theorem pay10_apply (v : Fin 2 → Vec Ideal S128x64 .f32) (g : Fin 2) (r : Fin 128) (d : Fin 64) :
    k0_pay10 (F := Ideal) (v 0) (v 1) (ix3 g r d) = v g (ix2 r d) := by
  pointwise [k0_pay10]
  fin_cases g <;> rfl

/-- Each group's keys of the block before, repeated for its four heads. -/
theorem pay14_apply (v : FVec Ideal S2x128x64 .f32) (h : Fin 8) (r : Fin 128) (d : Fin 64) :
    k0_pay14 (F := Ideal) v (ix3 h r d) = v (ix3 (grp h) r d) := by
  pointwise [k0_pay14]
  fin_cases h <;> rfl
/-- Each group's own keys, repeated for its four heads. -/
theorem pay18_apply (v : FVec Ideal S2x128x64 .f32) (h : Fin 8) (r : Fin 128) (d : Fin 64) :
    k0_pay18 (F := Ideal) v (ix3 h r d) = v (ix3 (grp h) r d) := by
  pointwise [k0_pay18]
  fin_cases h <;> rfl
/-- Each group's values of the block before, repeated for its four heads. -/
theorem pay27_apply (v : FVec Ideal S2x128x64 .f32) (h : Fin 8) (r : Fin 128) (d : Fin 64) :
    k0_pay27 (F := Ideal) v (ix3 h r d) = v (ix3 (grp h) r d) := by
  pointwise [k0_pay27]
  fin_cases h <;> rfl
/-- Each group's own values, repeated for its four heads. -/
theorem pay32_apply (v : FVec Ideal S2x128x64 .f32) (h : Fin 8) (r : Fin 128) (d : Fin 64) :
    k0_pay32 (F := Ideal) v (ix3 h r d) = v (ix3 (grp h) r d) := by
  pointwise [k0_pay32]
  fin_cases h <;> rfl

/-- The sinks' row read head by head: lane `h` of the row. -/
theorem pay12_apply (v : Vec Ideal S1x128 .f32) (h : Fin 8) :
    k0_pay12 (F := Ideal) v (ix3 h 0 0) = v (ix2 0 ⟨h.val, by omega⟩) := by
  pointwise [k0_pay12, k0_pay11]
  rw [Finset.sum_eq_single (⟨h.val, by omega⟩ : Fin 128)]
  · rw [cmpi_eq _ _ (by simp; omega) (by omega), Scalar.select_decide, if_pos rfl]
  · intro x _ hx
    rw [cmpi_eq _ _ (by omega) (by omega), Scalar.select_decide, if_neg (fun e => hx (Fin.ext e))]
  · intro hx; exact absurd (Finset.mem_univ _) hx

/-- Four heads of a group, added from the last to the first over zeros: the sum over the group's heads. -/
theorem sum_heads (f : Fin 8 → EReal) (g : Fin 2) :
    ((((((((if g.val < 1 then 0 else f 7) + (if g.val < 1 then 0 else f 6)) + (if g.val < 1 then 0 else f 5)) +
      (if g.val < 1 then 0 else f 4)) + (if g.val < 1 then f 3 else 0)) + (if g.val < 1 then f 2 else 0)) +
      (if g.val < 1 then f 1 else 0)) + (if g.val < 1 then f 0 else 0)) = ∑ j : Fin 4, f (head g j) := by
  rw [Fin.sum_univ_four]
  fin_cases g
  · show 0 + 0 + 0 + 0 + f 3 + f 2 + f 1 + f 0 = f 0 + f 1 + f 2 + f 3
    simp only [zero_add, add_zero]; abel
  · show f 7 + f 6 + f 5 + f 4 + 0 + 0 + 0 + 0 = f 4 + f 5 + f 6 + f 7
    simp only [zero_add, add_zero]; abel

/-- The product over the rows, summed over a group's heads: the cotangent of the block's own values. -/
theorem pay34_apply (p : FVec Ideal S8x128x128 .f32) (u : FVec Ideal S8x128x64 .f32) (g : Fin 2) (c : Fin 128) (d : Fin 64) :
    k0_pay34 (F := Ideal) p u (ix3 g c d) = ∑ j : Fin 4, ∑ r : Fin 128, p (ix3 (head g j) r c) * u (ix3 (head g j) r d) := by
  pointwise [k0_pay34]
  rw [← sum_heads (fun h => ∑ r : Fin 128, p (ix3 h r c) * u (ix3 h r d)) g]
  fin_cases g <;> rfl
/-- The same for the values of the block before. -/
theorem pay39_apply (u : FVec Ideal S8x128x64 .f32) (p : FVec Ideal S8x128x128 .bf16) (g : Fin 2) (c : Fin 128) (d : Fin 64) :
    k0_pay39 (F := Ideal) u p (ix3 g c d) = ∑ j : Fin 4, ∑ r : Fin 128, p (ix3 (head g j) r c) * u (ix3 (head g j) r d) := by
  pointwise [k0_pay39]
  rw [← sum_heads (fun h => ∑ r : Fin 128, p (ix3 h r c) * u (ix3 h r d)) g]
  fin_cases g <;> rfl

end Cert.SwaBwdIdeal.Block
-- ==== Proof.Swa.PayWeights.lean ====
/-
  The kernel body's softmax part read at an index, over the real numbers: the masked logits, the row maximum it shifts
  them by (all that matters is that it is a real number), the shifted exponentials, the denominator and its reciprocal
  square.
-/
module

public import proofs.«01_k».proof.Proof.Swa.PayHeads

@[expose] public section

set_option maxRecDepth 16384

noncomputable section

open Idealize.ShloMosaic Idealize.ShloMosaic.TcCoe Cert.Swa

namespace Cert.SwaBwdIdeal.Block

open Cert.SwaBwdIdeal Cert.SwaBwdIdeal.Gen

variable (b : Blk)

/-- The row and column positions of a square of logits. -/
abbrev rowPos : IVec S8x128x128 32 := iota .tc S8x128x128 32 [1] iota_S8x128x128_d1_w32
abbrev colPos : IVec S8x128x128 32 := iota .tc S8x128x128 32 [2] iota_S8x128x128_d2_w32

/-- The mask of the block before: beyond the row's own offset, and only if there is a block before. -/
theorem pay13_apply (p : Bool) (h : Fin 8) (r c : Fin 128) :
    k0_pay13 (BitVec.ofBool p) (ix3 h r c) = BitVec.ofBool (decide (r.val < c.val ∧ p = true)) := by
  pointwise [k0_pay13]
  rw [cmpi_sgt _ _ (by omega) (by omega)]
  by_cases hc : r.val < c.val <;> cases p <;> simp [hc, IntOp.andi]

/-- The mask of the block itself: up to the row. -/
theorem pay17_apply (h : Fin 8) (r c : Fin 128) :
    k0_pay17 rowPos colPos (ix3 h r c) = BitVec.ofBool (decide (c.val ≤ r.val)) := by
  pointwise [k0_pay17]
  exact cmpi_sle _ _ (by omega) (by omega)

/-- The products of queries with the keys of the block before. -/
theorem pay15_apply (q : FVec Ideal S8x128x64 .f32) (k : FVec Ideal S2x128x64 .f32)
    (hq : ∀ h r d, q (ix3 h r d) = (b.q h r d : EReal)) (hk : ∀ g r d, k (ix3 g r d) = (b.kp g r d : EReal))
    (h : Fin 8) (r c : Fin 128) :
    k0_pay15 (F := Ideal) q k (ix3 h r c) = ((∑ d, b.q h r d * b.kp (grp h) c d : ℝ) : EReal) := by
  pointwise [k0_pay15]
  simp only [pay14_apply, hq, hk, ← EReal.coe_mul, sum_coe]

/-- The masked logits against the block before. -/
theorem pay16_apply (m : FVec Ideal S8x128x128 .f32) (w : IVec S8x128x128 1) (x : FVec Ideal S8x128x128 .f32)
    (hm : ∀ h r c, m (ix3 h r c) = (b.bp h r c : EReal))
    (hw : ∀ h r c, w (ix3 h r c) = BitVec.ofBool (decide (r.val < c.val ∧ b.hp = true)))
    (hx : ∀ h r c, x (ix3 h r c) = ((∑ d, b.q h r d * b.kp (grp h) c d : ℝ) : EReal)) (h : Fin 8) (r c : Fin 128) :
    k0_pay16 (F := Ideal) m w x (ix3 h r c) = if r.val < c.val ∧ b.hp = true then (b.lp h r c : EReal) else ⊥ := by
  pointwise [k0_pay16]
  rw [hm, hw, hx, Scalar.select_decide, lit_eighth, lit_bot, ← EReal.coe_mul, ← EReal.coe_add]
  rfl

/-- The masked logits against the block itself. -/
theorem pay19_apply (q : FVec Ideal S8x128x64 .f32) (k : FVec Ideal S2x128x64 .f32) (m : FVec Ideal S8x128x128 .f32)
    (hq : ∀ h r d, q (ix3 h r d) = (b.q h r d : EReal)) (hk : ∀ g r d, k (ix3 g r d) = (b.kc g r d : EReal))
    (hm : ∀ h r c, m (ix3 h r c) = (b.bc h r c : EReal)) (h : Fin 8) (r c : Fin 128) :
    k0_pay19 (F := Ideal) q k m rowPos colPos (ix3 h r c) = if c.val ≤ r.val then (b.lc h r c : EReal) else ⊥ := by
  pointwise [k0_pay19]
  simp only [pay18_apply, hq, hk, hm, ← EReal.coe_mul, sum_coe]
  rw [pay17_apply, Scalar.select_decide, lit_eighth, lit_bot, ← EReal.coe_mul, ← EReal.coe_add]
  rfl

/-- What the softmax part of the body reads: queries, own keys, the two halves of the bias, the sinks, the mask of the
    block before and the products with its keys, each the real numbers of the block. -/
structure Reads (q : FVec Ideal S8x128x64 .f32) (k : FVec Ideal S2x128x64 .f32) (mp mc : FVec Ideal S8x128x128 .f32)
    (s : FVec Ideal S8x1x1 .f32) (w : IVec S8x128x128 1) (x : FVec Ideal S8x128x128 .f32) : Prop where
  q : ∀ h r d, q (ix3 h r d) = (b.q h r d : EReal)
  k : ∀ g r d, k (ix3 g r d) = (b.kc g r d : EReal)
  mp : ∀ h r c, mp (ix3 h r c) = (b.bp h r c : EReal)
  mc : ∀ h r c, mc (ix3 h r c) = (b.bc h r c : EReal)
  s : ∀ h, s (ix3 h 0 0) = (b.s h : EReal)
  w : ∀ h r c, w (ix3 h r c) = BitVec.ofBool (decide (r.val < c.val ∧ b.hp = true))
  x : ∀ h r c, x (ix3 h r c) = ((∑ d, b.q h r d * b.kp (grp h) c d : ℝ) : EReal)

section

variable {b} {q : FVec Ideal S8x128x64 .f32} {k : FVec Ideal S2x128x64 .f32} {mp mc : FVec Ideal S8x128x128 .f32}
  {s : FVec Ideal S8x1x1 .f32} {w : IVec S8x128x128 1} {x : FVec Ideal S8x128x128 .f32} (H : Reads b q k mp mc s w x)

include H

/-- The row maximum is a real number: the sink's logit is one of the values it is over, and none is plus infinity. -/
theorem pay20_real : ∃ M : Fin 8 → Fin 128 → ℝ, ∀ h r,
    k0_pay20 (F := Ideal) q k mp mc rowPos colPos s w x (ix3 h r 0) = (M h r : EReal) := by
  have key : ∀ h r, ∃ M : ℝ, k0_pay20 (F := Ideal) q k mp mc rowPos colPos s w x (ix3 h r 0) = (M : EReal) := by
    intro h r
    pointwise [k0_pay20]
    rw [H.s]
    refine max_coe_real ?_ _
    have hb : Ideal.ofBits .f32 0xFF800000#32 ≠ ⊤ := by rw [lit_bot]; exact bot_ne_top
    have h1 : Finset.fold max (Ideal.ofBits .f32 0xFF800000#32) (fun c => k0_pay16 mp w x (ix3 h r c)) Finset.univ ≠ ⊤ :=
      fold_max_ne_top _ _ _ hb fun c => by
        rw [pay16_apply b mp w x H.mp H.w H.x]
        split_ifs
        exacts [EReal.coe_ne_top _, bot_ne_top]
    have h2 : Finset.fold max (Ideal.ofBits .f32 0xFF800000#32) (fun c => k0_pay19 q k mc rowPos colPos (ix3 h r c)) Finset.univ ≠ ⊤ :=
      fold_max_ne_top _ _ _ hb fun c => by
        rw [pay19_apply b q k mc H.q H.k H.mc]
        split_ifs
        exacts [EReal.coe_ne_top _, bot_ne_top]
    rcases max_choice (Finset.fold max (Ideal.ofBits .f32 0xFF800000#32) (fun c => k0_pay16 mp w x (ix3 h r c)) Finset.univ)
      (Finset.fold max (Ideal.ofBits .f32 0xFF800000#32) (fun c => k0_pay19 q k mc rowPos colPos (ix3 h r c)) Finset.univ) with e | e
    · exact fun t => h1 (e ▸ t)
    · exact fun t => h2 (e ▸ t)
  choose M hM using key
  exact ⟨M, hM⟩

variable {M : Fin 8 → Fin 128 → ℝ}
  (hM : ∀ h r, k0_pay20 (F := Ideal) q k mp mc rowPos colPos s w x (ix3 h r 0) = (M h r : EReal))

include hM

/-- The shifted weights of the block before. -/
theorem pay21_apply (h : Fin 8) (r c : Fin 128) :
    k0_pay21 (F := Ideal) q k mp mc rowPos colPos s w x (ix3 h r c) = ((b.wp h r c * Real.exp (-M h r) : ℝ) : EReal) := by
  pointwise [k0_pay21]
  rw [hM, pay16_apply b mp w x H.mp H.w H.x, Blk.wp]
  split_ifs
  · rw [← EReal.coe_sub, Ideal.exp_coe, ← Real.exp_add, sub_eq_add_neg]
  · rw [EReal.bot_sub, zero_mul]; rfl

/-- The shifted weights of the block itself. -/
theorem pay22_apply (h : Fin 8) (r c : Fin 128) :
    k0_pay22 (F := Ideal) q k mp mc rowPos colPos s w x (ix3 h r c) = ((b.wc h r c * Real.exp (-M h r) : ℝ) : EReal) := by
  pointwise [k0_pay22]
  rw [hM, pay19_apply b q k mc H.q H.k H.mc, Blk.wc]
  split_ifs
  · rw [← EReal.coe_sub, Ideal.exp_coe, ← Real.exp_add, sub_eq_add_neg]
  · rw [EReal.bot_sub, zero_mul]; rfl

/-- The shifted sink. -/
theorem pay23_apply (h : Fin 8) (r : Fin 128) :
    k0_pay23 (F := Ideal) q k mp mc rowPos colPos s w x (ix3 h r 0) = ((Real.exp (b.s h) * Real.exp (-M h r) : ℝ) : EReal) := by
  pointwise [k0_pay23]
  rw [hM, H.s, ← EReal.coe_sub, Ideal.exp_coe, ← Real.exp_add, sub_eq_add_neg]

/-- The shifted denominator. -/
theorem pay24_apply (h : Fin 8) (r : Fin 128) :
    k0_pay24 (F := Ideal) q k mp mc rowPos colPos s w x (ix3 h r 0) = ((b.Z h r * Real.exp (-M h r) : ℝ) : EReal) := by
  pointwise [k0_pay24]
  simp only [pay21_apply H hM, pay22_apply H hM, pay23_apply H hM, sum_coe, ← EReal.coe_add, ← Finset.sum_mul, ← add_mul]
  rfl

/-- The probabilities of the block before: the shift cancels. -/
theorem pay25_apply (h : Fin 8) (r c : Fin 128) :
    k0_pay25 (F := Ideal) q k mp mc rowPos colPos s w x (ix3 h r c) = ((b.wp h r c / b.Z h r : ℝ) : EReal) := by
  pointwise [k0_pay25]
  rw [pay21_apply H hM, pay24_apply H hM, div_coe_coe _ (mul_ne_zero (b.Z_ne h r) (Real.exp_pos _).ne'),
    mul_div_mul_right _ _ (Real.exp_pos _).ne']

/-- The reciprocal of the squared denominator. -/
theorem pay26_apply (h : Fin 8) (r : Fin 128) :
    k0_pay26 (F := Ideal) q k mp mc rowPos colPos s w x (ix3 h r 0) =
      ((1 / ((b.Z h r * Real.exp (-M h r)) * (b.Z h r * Real.exp (-M h r))) : ℝ) : EReal) := by
  have hz := mul_ne_zero (b.Z_ne h r) (Real.exp_pos (-M h r)).ne'
  pointwise [k0_pay26]
  rw [pay24_apply H hM, ← EReal.coe_mul, one_div_coe (mul_ne_zero hz hz)]

end

end Cert.SwaBwdIdeal.Block
-- ==== Proof.Swa.Axes.lean ====
/-
  Sums over several axes at once, read at an index: the axes the kernel and the reference sum together.
-/
module

public import proofs.«01_k».proof.Proof.Swa.Coe

@[expose] public section

noncomputable section

open Idealize.ShloMosaic

namespace Cert.Swa

/-- The indices of a rank-3 array over one position of the last axis. -/
theorem fiber_first_two {n0 n1 n2 : ℕ} (h : (⟨3, ![n0, n1, n2]⟩ : Shape).Reduces [0, 1] ⟨1, ![n2]⟩) (l : Fin n2)
    (i : (⟨3, ![n0, n1, n2]⟩ : Shape).Idx) : h.drop i = ix1 l ↔ ∃ k : Fin n0 × Fin n1, ix3 k.1 k.2 l = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

/-- A sum over the first two axes of a rank-3 array. -/
theorem reduceAdd_first_two {n0 n1 n2 : ℕ} (h : (⟨3, ![n0, n1, n2]⟩ : Shape).Reduces [0, 1] ⟨1, ![n2]⟩)
    (v : (⟨3, ![n0, n1, n2]⟩ : Shape).Idx → EReal) (l : Fin n2) :
    Ideal.reduceAdd h v (ix1 l) = ∑ x : Fin n0, ∑ y : Fin n1, v (ix3 x y l) := by
  refine (Finset.sum_filter_eq_sum_of_fiber _ (fun k : Fin n0 × Fin n1 => ix3 k.1 k.2 l)
    (fun _ _ e => Prod.ext (congrFun e 0) (congrFun e 1)) (fiber_first_two h l) v).trans ?_
  simp only [Fintype.sum_prod_type]

/-- The indices of a rank-5 array over one position of its axes 1, 2 and 4. -/
theorem fiber_axes_0_3 {n0 n1 n2 n3 n4 : ℕ} (h : (⟨5, ![n0, n1, n2, n3, n4]⟩ : Shape).ReducesTo [0, 3] ⟨3, ![n1, n2, n4]⟩)
    (a : Fin n1) (b : Fin n2) (c : Fin n4) (i : (⟨5, ![n0, n1, n2, n3, n4]⟩ : Shape).Idx) :
    h.drop i = ix3 a b c ↔ ∃ k : Fin n0 × Fin n3, ix5 k.1 a b k.2 c = i := by
  constructor
  · intro e
    refine ⟨(i 0, i 3), ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext y; apply Fin.ext
    match y with
    | ⟨0, _⟩ => rfl
    | ⟨1, _⟩ => rfl
    | ⟨2, _⟩ => rfl

/-- The reference's sum over the first and fourth axis of a rank-5 array. -/
theorem hostReduceAdd_axes_0_3 {n0 n1 n2 n3 n4 : ℕ}
    (h : (⟨5, ![n0, n1, n2, n3, n4]⟩ : Shape).ReducesTo [0, 3] ⟨3, ![n1, n2, n4]⟩)
    (v : (⟨5, ![n0, n1, n2, n3, n4]⟩ : Shape).Idx → EReal) (init : EReal) (a : Fin n1) (b : Fin n2) (c : Fin n4) :
    Ideal.hostReduceAdd h v init (ix3 a b c) = init + ∑ x : Fin n0, ∑ y : Fin n3, v (ix5 x a b y c) := by
  refine congrArg (init + ·) ((Finset.sum_filter_eq_sum_of_fiber _ (fun k : Fin n0 × Fin n3 => ix5 k.1 a b k.2 c)
    (fun _ _ e => Prod.ext (congrFun e 0) (congrFun e 3)) (fiber_axes_0_3 h a b c) v).trans ?_)
  simp only [Fintype.sum_prod_type]

/-- The indices of a rank-5 array over one position of its axes 1 and 2. -/
theorem fiber_axes_0_3_4 {n0 n1 n2 n3 n4 : ℕ} (h : (⟨5, ![n0, n1, n2, n3, n4]⟩ : Shape).ReducesTo [0, 3, 4] ⟨2, ![n1, n2]⟩)
    (a : Fin n1) (b : Fin n2) (i : (⟨5, ![n0, n1, n2, n3, n4]⟩ : Shape).Idx) :
    h.drop i = ix2 a b ↔ ∃ k : Fin n0 × Fin n3 × Fin n4, ix5 k.1 a b k.2.1 k.2.2 = i := by
  constructor
  · intro e
    refine ⟨(i 0, i 3, i 4), ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => rfl
  · rintro ⟨k, rfl⟩
    funext y; apply Fin.ext
    match y with
    | ⟨0, _⟩ => rfl
    | ⟨1, _⟩ => rfl

/-- The reference's sum over the first, fourth and fifth axis of a rank-5 array. -/
theorem hostReduceAdd_axes_0_3_4 {n0 n1 n2 n3 n4 : ℕ}
    (h : (⟨5, ![n0, n1, n2, n3, n4]⟩ : Shape).ReducesTo [0, 3, 4] ⟨2, ![n1, n2]⟩)
    (v : (⟨5, ![n0, n1, n2, n3, n4]⟩ : Shape).Idx → EReal) (init : EReal) (a : Fin n1) (b : Fin n2) :
    Ideal.hostReduceAdd h v init (ix2 a b) = init + ∑ x : Fin n0, ∑ y : Fin n3, ∑ z : Fin n4, v (ix5 x a b y z) := by
  refine congrArg (init + ·) ((Finset.sum_filter_eq_sum_of_fiber _ (fun k : Fin n0 × Fin n3 × Fin n4 => ix5 k.1 a b k.2.1 k.2.2)
    (fun _ _ e => Prod.ext (congrFun e 0) (Prod.ext (congrFun e 3) (congrFun e 4))) (fiber_axes_0_3_4 h a b) v).trans ?_)
  simp only [Fintype.sum_prod_type]

end Cert.Swa
-- ==== Proof.Swa.PayGrad.lean ====
/-
  The kernel body's gradient part read at an index, over the real numbers: the cotangents of the probabilities, of the
  denominator and of the logits, and the sums they make for queries, keys, values and sinks.  The shift `M` of the
  exponentials cancels in each of them.
-/
module

public import proofs.«01_k».proof.Proof.Swa.PayWeights
public import proofs.«01_k».proof.Proof.Swa.Axes

@[expose] public section

set_option maxRecDepth 16384

noncomputable section

open Idealize.ShloMosaic Idealize.ShloMosaic.TcCoe Cert.Swa

namespace Cert.SwaBwdIdeal.Block

open Cert.SwaBwdIdeal Cert.SwaBwdIdeal.Gen

variable (b : Blk) (E : Fin 8 → Fin 128 → ℝ) (hE : ∀ h r, E h r ≠ 0)

/-- A square of zeros. -/
abbrev zeroSq : FVec Ideal S8x128x128 .f32 := constant S8x128x128 .f32 0x00000000#32

/-- The cotangent of a probability, own block: the incoming cotangent against the values. -/
theorem pay33_apply (u v : FVec Ideal S8x128x64 .bf16) (hu : ∀ h r d, u (ix3 h r d) = (b.g h r d : EReal))
    (hv : ∀ h r d, v (ix3 h r d) = (b.vc (grp h) r d : EReal)) (h : Fin 8) (r c : Fin 128) :
    k0_pay33 (F := Ideal) u v zeroSq (ix3 h r c) = (b.ac h r c : EReal) := by
  pointwise [k0_pay33]
  simp only [hu, hv, ← EReal.coe_mul, sum_coe]
  rfl

/-- The cotangent of a probability, block before. -/
theorem pay37_apply (v u : FVec Ideal S8x128x64 .f32) (hu : ∀ h r d, u (ix3 h r d) = (b.g h r d : EReal))
    (hv : ∀ h r d, v (ix3 h r d) = (b.vp (grp h) r d : EReal)) (h : Fin 8) (r c : Fin 128) :
    k0_pay37 (F := Ideal) v u (ix3 h r c) = (b.ap h r c : EReal) := by
  pointwise [k0_pay37]
  simp only [hu, hv, ← EReal.coe_mul, sum_coe]
  rfl

/-- The shifted denominator squared, inverted. -/
def inv2 (h : Fin 8) (r : Fin 128) : ℝ := 1 / ((b.Z h r * E h r) * (b.Z h r * E h r))

section
variable (den : FVec Ideal S8x128x1 .f32) (hden : ∀ h r, den (ix3 h r 0) = ((b.Z h r * E h r : ℝ) : EReal))
include hE hden

/-- The probabilities of the block itself. -/
theorem pay28_apply (p : FVec Ideal S8x128x128 .f32) (hp : ∀ h r c, p (ix3 h r c) = ((b.wc h r c * E h r : ℝ) : EReal))
    (h : Fin 8) (r c : Fin 128) : k0_pay28 (F := Ideal) p den (ix3 h r c) = ((b.wc h r c / b.Z h r : ℝ) : EReal) := by
  pointwise [k0_pay28]
  rw [hp, hden, div_coe_coe _ (mul_ne_zero (b.Z_ne h r) (hE h r)), mul_div_mul_right _ _ (hE h r)]

theorem pay29_apply (h : Fin 8) (r : Fin 128) : k0_pay29 (F := Ideal) den (ix3 h r 0) = (inv2 b E h r : EReal) := by
  have hz := mul_ne_zero (b.Z_ne h r) (hE h r)
  pointwise [k0_pay29]
  rw [hden, ← EReal.coe_mul, one_div_coe (mul_ne_zero hz hz)]
  rfl

/-- The cotangent of a probability over the shifted denominator, own block. -/
theorem pay36_apply (u v : FVec Ideal S8x128x64 .bf16) (hu : ∀ h r d, u (ix3 h r d) = (b.g h r d : EReal))
    (hv : ∀ h r d, v (ix3 h r d) = (b.vc (grp h) r d : EReal)) (h : Fin 8) (r c : Fin 128) :
    k0_pay36 (F := Ideal) den u v zeroSq (ix3 h r c) = ((b.ac h r c / (b.Z h r * E h r) : ℝ) : EReal) := by
  pointwise [k0_pay36]
  rw [pay33_apply b u v hu hv, hden, div_coe_coe _ (mul_ne_zero (b.Z_ne h r) (hE h r))]

/-- The cotangent of a probability over the shifted denominator, block before. -/
theorem pay41_apply (a : FVec Ideal S8x128x128 .f32) (ha : ∀ h r c, a (ix3 h r c) = (b.ap h r c : EReal))
    (h : Fin 8) (r c : Fin 128) :
    k0_pay41 (F := Ideal) den a (ix3 h r c) = ((b.ap h r c / (b.Z h r * E h r) : ℝ) : EReal) := by
  pointwise [k0_pay41]
  rw [ha, hden, div_coe_coe _ (mul_ne_zero (b.Z_ne h r) (hE h r))]

end

/-- The own block's part of the cotangent of the denominator. -/
theorem pay35_apply (p : FVec Ideal S8x128x128 .f32) (i2 : FVec Ideal S8x128x1 .f32) (u v : FVec Ideal S8x128x64 .bf16)
    (hp : ∀ h r c, p (ix3 h r c) = ((b.wc h r c * E h r : ℝ) : EReal)) (hi : ∀ h r, i2 (ix3 h r 0) = (inv2 b E h r : EReal))
    (hu : ∀ h r d, u (ix3 h r d) = (b.g h r d : EReal)) (hv : ∀ h r d, v (ix3 h r d) = (b.vc (grp h) r d : EReal))
    (h : Fin 8) (r : Fin 128) :
    k0_pay35 (F := Ideal) p i2 u v zeroSq (ix3 h r 0) =
      ((0 - ∑ c, b.ac h r c * inv2 b E h r * (b.wc h r c * E h r) : ℝ) : EReal) := by
  pointwise [k0_pay35]
  simp only [pay33_apply b u v hu hv, hp, hi, ← EReal.coe_mul, sum_coe, ← EReal.coe_zero, ← EReal.coe_sub]

/-- The cotangent of the denominator, as the body computes it. -/
def tden (h : Fin 8) (r : Fin 128) : ℝ :=
  (0 - ∑ c, b.ac h r c * inv2 b E h r * (b.wc h r c * E h r)) + (0 - ∑ c, b.ap h r c * inv2 b E h r * (b.wp h r c * E h r))

include hE in
/-- The same, with the shift carried outside. -/
theorem tden_eq (h : Fin 8) (r : Fin 128) : tden b E h r = -(b.S h r / b.Z h r ^ 2) / E h r := by
  have hz := b.Z_ne h r
  have he := hE h r
  have e1 : ∀ x y : ℝ, x * inv2 b E h r * (y * E h r) = (x * y) * (inv2 b E h r * E h r) := fun x y => by ring
  have e2 : inv2 b E h r * E h r = 1 / b.Z h r ^ 2 / E h r := by unfold inv2; field_simp
  unfold tden Blk.S
  simp only [e1, e2, ← Finset.sum_mul]
  ring

section
variable (pp ap : FVec Ideal S8x128x128 .f32) (i2 t : FVec Ideal S8x128x1 .f32)
  (hpp : ∀ h r c, pp (ix3 h r c) = ((b.wp h r c * E h r : ℝ) : EReal))
  (hi : ∀ h r, i2 (ix3 h r 0) = (inv2 b E h r : EReal))
  (ht : ∀ h r, t (ix3 h r 0) = ((0 - ∑ c, b.ac h r c * inv2 b E h r * (b.wc h r c * E h r) : ℝ) : EReal))
  (ha : ∀ h r c, ap (ix3 h r c) = (b.ap h r c : EReal))
include hpp hi ht ha

/-- Both blocks' parts of the cotangent of the denominator. -/
theorem pay40_apply (h : Fin 8) (r : Fin 128) :
    k0_pay40 (F := Ideal) pp i2 t ap (ix3 h r 0) = (tden b E h r : EReal) := by
  pointwise [k0_pay40]
  simp only [ha, hpp, hi, ht, ← EReal.coe_mul, sum_coe, ← EReal.coe_zero, ← EReal.coe_sub, ← EReal.coe_add]
  rfl

include hE in
/-- The cotangent of a sink, summed over the block's rows. -/
theorem pay42_apply (es : FVec Ideal S8x128x1 .f32) (hes : ∀ h r, es (ix3 h r 0) = ((Real.exp (b.s h) * E h r : ℝ) : EReal))
    (h : Fin 8) : k0_pay42 (F := Ideal) pp es i2 t ap (ix3 h 0 0) = (b.ds h : EReal) := by
  pointwise [k0_pay42]
  simp only [pay40_apply b E pp ap i2 t hpp hi ht ha, hes, ← EReal.coe_mul, sum_coe, Fin.sum_univ_one]
  congr 1
  unfold Blk.ds
  refine Finset.sum_congr rfl fun r _ => ?_
  rw [tden_eq b E hE]
  have := hE h r
  field_simp

end

section
variable (t : FVec Ideal S8x128x1 .f32) (ht : ∀ h r, t (ix3 h r 0) = (tden b E h r : EReal))
include hE ht

/-- The cotangent of a logit, block before. -/
theorem pay43_apply (pp a : FVec Ideal S8x128x128 .f32) (hpp : ∀ h r c, pp (ix3 h r c) = ((b.wp h r c * E h r : ℝ) : EReal))
    (ha : ∀ h r c, a (ix3 h r c) = ((b.ap h r c / (b.Z h r * E h r) : ℝ) : EReal)) (h : Fin 8) (r c : Fin 128) :
    k0_pay43 (F := Ideal) pp t a (ix3 h r c) = (b.dlp h r c : EReal) := by
  pointwise [k0_pay43]
  simp only [hpp, ha, ht, Fin.sum_univ_one, ← EReal.coe_add, ← EReal.coe_mul]
  congr 1
  rw [tden_eq b E hE]
  unfold Blk.dlp
  have := hE h r
  have := b.Z_ne h r
  field_simp
  ring

/-- The cotangent of a logit, own block; where the mask hides a position the weight is zero already. -/
theorem pay44_apply (pc a : FVec Ideal S8x128x128 .f32) (hpc : ∀ h r c, pc (ix3 h r c) = ((b.wc h r c * E h r : ℝ) : EReal))
    (ha : ∀ h r c, a (ix3 h r c) = ((b.ac h r c / (b.Z h r * E h r) : ℝ) : EReal)) (h : Fin 8) (r c : Fin 128) :
    k0_pay44 (F := Ideal) (k0_pay17 rowPos colPos) pc a t (ix3 h r c) = (b.dlc h r c : EReal) := by
  pointwise [k0_pay44]
  rw [pay17_apply, Scalar.select_decide]
  split_ifs with hc
  · simp only [hpc, ha, ht, Fin.sum_univ_one, ← EReal.coe_add, ← EReal.coe_mul]
    congr 1
    rw [tden_eq b E hE]
    unfold Blk.dlc
    have := hE h r
    have := b.Z_ne h r
    field_simp
    ring
  · simp [Blk.dlc, Blk.wc, hc]

/-- The same, scaled. -/
theorem pay45_apply (pc a : FVec Ideal S8x128x128 .f32) (hpc : ∀ h r c, pc (ix3 h r c) = ((b.wc h r c * E h r : ℝ) : EReal))
    (ha : ∀ h r c, a (ix3 h r c) = ((b.ac h r c / (b.Z h r * E h r) : ℝ) : EReal)) (h : Fin 8) (r c : Fin 128) :
    k0_pay45 (F := Ideal) (k0_pay17 rowPos colPos) pc a t (ix3 h r c) = ((b.dlc h r c * (1 / 8) : ℝ) : EReal) := by
  pointwise [k0_pay45]
  rw [pay44_apply b E hE t ht pc a hpc ha, lit_eighth, ← EReal.coe_mul]

/-- The own block's part of the cotangent of a query. -/
theorem pay46_apply (k : FVec Ideal S8x128x64 .f32) (pc a : FVec Ideal S8x128x128 .f32)
    (hk : ∀ h r d, k (ix3 h r d) = (b.kc (grp h) r d : EReal))
    (hpc : ∀ h r c, pc (ix3 h r c) = ((b.wc h r c * E h r : ℝ) : EReal))
    (ha : ∀ h r c, a (ix3 h r c) = ((b.ac h r c / (b.Z h r * E h r) : ℝ) : EReal)) (h : Fin 8) (r : Fin 128) (d : Fin 64) :
    k0_pay46 (F := Ideal) (k0_pay17 rowPos colPos) k pc a t (ix3 h r d) =
      ((∑ c, b.dlc h r c * (1 / 8) * b.kc (grp h) c d : ℝ) : EReal) := by
  pointwise [k0_pay46]
  simp only [pay45_apply b E hE t ht pc a hpc ha, hk, ← EReal.coe_mul, sum_coe]

/-- The own block's part of the cotangent of a key, head by head. -/
theorem pay47_apply (q : FVec Ideal S8x128x64 .f32) (pc a : FVec Ideal S8x128x128 .f32)
    (hq : ∀ h r d, q (ix3 h r d) = (b.q h r d : EReal))
    (hpc : ∀ h r c, pc (ix3 h r c) = ((b.wc h r c * E h r : ℝ) : EReal))
    (ha : ∀ h r c, a (ix3 h r c) = ((b.ac h r c / (b.Z h r * E h r) : ℝ) : EReal)) (h : Fin 8) (c : Fin 128) (d : Fin 64) :
    k0_pay47 (F := Ideal) q (k0_pay17 rowPos colPos) pc a t (ix3 h c d) =
      ((∑ r, b.dlc h r c * (1 / 8) * b.q h r d : ℝ) : EReal) := by
  pointwise [k0_pay47]
  simp only [pay45_apply b E hE t ht pc a hpc ha, hq, ← EReal.coe_mul, sum_coe]

/-- The own block's part of the cotangent of a key, summed over the group's heads. -/
theorem pay50_apply (q : FVec Ideal S8x128x64 .f32) (pc a : FVec Ideal S8x128x128 .f32)
    (hq : ∀ h r d, q (ix3 h r d) = (b.q h r d : EReal))
    (hpc : ∀ h r c, pc (ix3 h r c) = ((b.wc h r c * E h r : ℝ) : EReal))
    (ha : ∀ h r c, a (ix3 h r c) = ((b.ac h r c / (b.Z h r * E h r) : ℝ) : EReal)) (g : Fin 2) (c : Fin 128) (d : Fin 64) :
    k0_pay50 (F := Ideal) (k0_pay48 q (k0_pay17 rowPos colPos) pc a t) (k0_pay49 q (k0_pay17 rowPos colPos) pc a t)
      (ix3 g c d) = (b.dkc g c d : EReal) := by
  pointwise [k0_pay50, k0_pay48, k0_pay49]
  have e := sum_heads (fun h => k0_pay47 (F := Ideal) q (k0_pay17 rowPos colPos) pc a t (ix3 h c d)) g
  have e' : (∑ j : Fin 4, k0_pay47 (F := Ideal) q (k0_pay17 rowPos colPos) pc a t (ix3 (head g j) c d)) = (b.dkc g c d : EReal) := by
    simp only [pay47_apply b E hE t ht q pc a hq hpc ha, sum_coe]
    rfl
  rw [← e', ← e]
  fin_cases g <;> rfl

end

/-- The masked cotangent of a logit of the block before; where the mask hides a position it is zero already. -/
theorem pay51_apply (w : IVec S8x128x128 1) (l : FVec Ideal S8x128x128 .f32)
    (hw : ∀ h r c, w (ix3 h r c) = BitVec.ofBool (decide (r.val < c.val ∧ b.hp = true)))
    (hl : ∀ h r c, l (ix3 h r c) = (b.dlp h r c : EReal)) (h : Fin 8) (r c : Fin 128) :
    k0_pay51 (F := Ideal) w l (ix3 h r c) = (b.dlp h r c : EReal) := by
  pointwise [k0_pay51]
  rw [hw, hl, Scalar.select_decide]
  split_ifs with hc
  · rfl
  · unfold Blk.dlp Blk.wp
    rw [if_neg hc, mul_zero, EReal.coe_zero]

section
variable (w : IVec S8x128x128 1) (l : FVec Ideal S8x128x128 .f32)
  (hw : ∀ h r c, w (ix3 h r c) = BitVec.ofBool (decide (r.val < c.val ∧ b.hp = true)))
  (hl : ∀ h r c, l (ix3 h r c) = (b.dlp h r c : EReal))
include hw hl

theorem pay52_apply (h : Fin 8) (r c : Fin 128) :
    k0_pay52 (F := Ideal) w l (ix3 h r c) = ((b.dlp h r c * (1 / 8) : ℝ) : EReal) := by
  pointwise [k0_pay52]
  rw [pay51_apply b w l hw hl, lit_eighth, ← EReal.coe_mul]

/-- The cotangent of a query: both blocks' parts. -/
theorem pay53_apply (k qc : FVec Ideal S8x128x64 .f32) (hk : ∀ h r d, k (ix3 h r d) = (b.kp (grp h) r d : EReal))
    (hqc : ∀ h r d, qc (ix3 h r d) = ((∑ c, b.dlc h r c * (1 / 8) * b.kc (grp h) c d : ℝ) : EReal))
    (h : Fin 8) (r : Fin 128) (d : Fin 64) :
    k0_pay53 (F := Ideal) w k l qc (ix3 h r d) = (b.dq h r d : EReal) := by
  pointwise [k0_pay53]
  simp only [pay52_apply b w l hw hl, hk, hqc, ← EReal.coe_mul, sum_coe, ← EReal.coe_add]
  rfl

/-- The part of the cotangent of a key of the block before, summed over the group's heads. -/
theorem pay54_apply (q : FVec Ideal S8x128x64 .f32) (hq : ∀ h r d, q (ix3 h r d) = (b.q h r d : EReal))
    (g : Fin 2) (c : Fin 128) (d : Fin 64) :
    k0_pay54 (F := Ideal) q w l (ix3 g c d) = (b.dkp g c d : EReal) := by
  pointwise [k0_pay54]
  simp only [pay52_apply b w l hw hl, hq, ← EReal.coe_mul, sum_coe]
  have e := sum_heads (fun h => ((∑ r, b.dlp h r c * (1 / 8) * b.q h r d : ℝ) : EReal)) g
  rw [sum_coe] at e
  refine Eq.trans ?_ (e.trans rfl)
  fin_cases g <;> rfl

end

/-- The sinks' cotangents laid out on the first eight lanes of a row. -/
theorem pay56_apply (s : FVec Ideal S8x1x1 .f32) (f : Fin 8 → ℝ) (hs : ∀ h, s (ix3 h 0 0) = (f h : EReal)) (l : Fin 128) :
    k0_pay56 (F := Ideal) k0_pay11 (k0_pay55 s) (ix2 0 l) = ((if h : l.val < 8 then f ⟨l.val, h⟩ else 0 : ℝ) : EReal) := by
  pointwise [k0_pay56, k0_pay55, k0_pay11]
  rw [reduceAdd_first_two, Fin.sum_univ_one, Fin.sum_univ_one]
  pointwise
  rw [reduceAdd_first_two]
  simp only [Fin.sum_univ_one]
  pointwise
  have key : ∀ x : Fin 8, Scalar.select (IntOp.cmpi CmpIPredicate.eq (BitVec.ofNat 32 l.val) (BitVec.ofNat 32 x.val))
      (∑ y : Fin 1, ∑ z : Fin 1, s (ix3 x y z)) (0 : EReal) = ((if l.val = x.val then f x else 0 : ℝ) : EReal) := by
    intro x
    rw [cmpi_eq _ _ (by omega) (by omega), Scalar.select_decide]
    simp only [Fin.sum_univ_one, hs]
    split <;> simp
  refine (Finset.sum_congr rfl fun x _ => key x).trans ?_
  rw [sum_coe]
  congr 1
  split
  · next h =>
    rw [Finset.sum_eq_single (⟨l.val, h⟩ : Fin 8) (fun x _ hx => if_neg fun e => hx (Fin.ext e.symm))
      (fun hx => absurd (Finset.mem_univ _) hx), if_pos rfl]
  · next h => exact Finset.sum_eq_zero fun x _ => if_neg fun e => h (by omega)

end Cert.SwaBwdIdeal.Block
-- ==== Proof.Swa.Block.lean ====
/-
  One grid point of the kernel, over the real numbers: from what the point's windows hold to the block's cotangents.
-/
module

public import proofs.«01_k».proof.Proof.Swa.PayGrad

@[expose] public section

set_option maxRecDepth 16384

noncomputable section

open Idealize.ShloMosaic Idealize.ShloMosaic.TcCoe Cert.Swa

namespace Cert.SwaBwdIdeal.Block

open Cert.SwaBwdIdeal Cert.SwaBwdIdeal.Gen

/-- The windows of a point hold the numbers of block `b`. -/
structure Point (b : Blk) (v3 : BitVec 1) (x0 x1 : Vec Ideal S128x512 .f32) (x2 x3 x4 x5 : Vec Ideal S128x128 .f32)
    (x6 : Vec Ideal S8x128x256 .f32) (x7 : Vec Ideal S1x128 .f32) : Prop where
  hp : v3 = BitVec.ofBool b.hp
  g : ∀ (h : Fin 8) (r : Fin 128) (d : Fin 64), x0 (ix2 r ⟨64 * h.val + d.val, by omega⟩) = (b.g h r d : EReal)
  q : ∀ (h : Fin 8) (r : Fin 128) (d : Fin 64), x1 (ix2 r ⟨64 * h.val + d.val, by omega⟩) = (b.q h r d : EReal)
  kp : ∀ (g : Fin 2) (c : Fin 128) (d : Fin 64), x2 (ix2 c ⟨64 * g.val + d.val, by omega⟩) = (b.kp g c d : EReal)
  kc : ∀ (g : Fin 2) (c : Fin 128) (d : Fin 64), x3 (ix2 c ⟨64 * g.val + d.val, by omega⟩) = (b.kc g c d : EReal)
  vp : ∀ (g : Fin 2) (c : Fin 128) (d : Fin 64), x4 (ix2 c ⟨64 * g.val + d.val, by omega⟩) = (b.vp g c d : EReal)
  vc : ∀ (g : Fin 2) (c : Fin 128) (d : Fin 64), x5 (ix2 c ⟨64 * g.val + d.val, by omega⟩) = (b.vc g c d : EReal)
  bp : ∀ (h : Fin 8) (r c : Fin 128), x6 (ix3 h r ⟨c.val, by omega⟩) = (b.bp h r c : EReal)
  bc : ∀ (h : Fin 8) (r c : Fin 128), x6 (ix3 h r ⟨128 + c.val, by omega⟩) = (b.bc h r c : EReal)
  s : ∀ h : Fin 8, x7 (ix2 0 ⟨h.val, by omega⟩) = (b.s h : EReal)

/-- The vectors a point computes are the cotangents of block `b`. -/
structure Facts (b : Blk) (dq : FVec Ideal S8x128x64 .f32) (dkc dvc dkp dvp : FVec Ideal S2x128x64 .f32)
    (dlp dlc : FVec Ideal S8x128x128 .f32) (ds : FVec Ideal S1x128 .f32) : Prop where
  dq : ∀ h r d, dq (ix3 h r d) = (b.dq h r d : EReal)
  dkc : ∀ g c d, dkc (ix3 g c d) = (b.dkc g c d : EReal)
  dvc : ∀ g c d, dvc (ix3 g c d) = (b.dvc g c d : EReal)
  dkp : ∀ g c d, dkp (ix3 g c d) = (b.dkp g c d : EReal)
  dvp : ∀ g c d, dvp (ix3 g c d) = (b.dvp g c d : EReal)
  dlp : ∀ h r c, dlp (ix3 h r c) = (b.dlp h r c : EReal)
  dlc : ∀ h r c, dlc (ix3 h r c) = (b.dlc h r c : EReal)
  ds : ∀ l : Fin 128, ds (ix2 0 l) = ((if h : l.val < 8 then b.ds ⟨l.val, h⟩ else 0 : ℝ) : EReal)

variable {b : Blk} {v3 : BitVec 1} {x0 x1 : Vec Ideal S128x512 .f32} {x2 x3 x4 x5 : Vec Ideal S128x128 .f32}
  {x6 : Vec Ideal S8x128x256 .f32} {x7 : Vec Ideal S1x128 .f32}

/-- The body's values of a point, step by step from its loads, give the block's cotangents. -/
theorem facts (H : Point b v3 x0 x1 x2 x3 x4 x5 x6 x7)
    {r r9 r11 r18 r21 r35 r40 : FVec Ideal S8x128x64 .f32} {r1 r2 r3 r4 r24 r29 r37 r38 r41 : FVec Ideal S2x128x64 .f32} {r36 : FVec Ideal S1x128x64 .f32}
    {r5 r6 r10 r12 r13 r16 r19 r26 r27 r31 r33 r34 r39 : FVec Ideal S8x128x128 .f32} {r28 : FVec Ideal S8x128x128 .bf16}
    {r7 r32 : FVec Ideal S8x1x1 .f32} {r42 : FVec Ideal S8 .f32} {r8 : IVec S8x128x128 1}
    {r14 r15 r17 r20 r25 r30 : FVec Ideal S8x128x1 .f32} {r22 r23 : FVec Ideal S8x128x64 .bf16} {r43 : FVec Ideal S1x128 .f32}
    (e43 : r43 = k0_pay56 k0_pay11 r42) (e42 : r42 = k0_pay55 r32) (e41 : r41 = k0_pay54 r r8 r33)
    (e40 : r40 = k0_pay53 r8 r9 r33 r35) (e39 : r39 = k0_pay51 r8 r33) (e38 : r38 = k0_pay50 r36 r37)
    (e37 : r37 = k0_pay49 r (k0_pay17 rowPos colPos) r13 r26 r30) (e36 : r36 = k0_pay48 r (k0_pay17 rowPos colPos) r13 r26 r30)
    (e35 : r35 = k0_pay46 (k0_pay17 rowPos colPos) r11 r13 r26 r30) (e34 : r34 = k0_pay44 (k0_pay17 rowPos colPos) r13 r26 r30)
    (e33 : r33 = k0_pay43 r12 r30 r31) (e32 : r32 = k0_pay42 r12 r14 r17 r25 r27) (e31 : r31 = k0_pay41 r15 r27)
    (e30 : r30 = k0_pay40 r12 r17 r25 r27) (e29 : r29 = k0_pay39 r21 r28) (e28 : r28 = k0_pay38 r16) (e27 : r27 = k0_pay37 r18 r21)
    (e26 : r26 = k0_pay36 r15 r22 r23 zeroSq) (e25 : r25 = k0_pay35 r13 r20 r22 r23 zeroSq) (e24 : r24 = k0_pay34 r19 r21)
    (e23 : r23 = k0_pay32 r4) (e20 : r20 = k0_pay29 r15) (e19 : r19 = k0_pay28 r13 r15) (e18 : r18 = k0_pay27 r3)
    (e17 : r17 = k0_pay26 r r2 r5 r6 rowPos colPos r7 r8 r10) (e16 : r16 = k0_pay25 r r2 r5 r6 rowPos colPos r7 r8 r10)
    (e15 : r15 = k0_pay24 r r2 r5 r6 rowPos colPos r7 r8 r10) (e14 : r14 = k0_pay23 r r2 r5 r6 rowPos colPos r7 r8 r10)
    (e13 : r13 = k0_pay22 r r2 r5 r6 rowPos colPos r7 r8 r10) (e12 : r12 = k0_pay21 r r2 r5 r6 rowPos colPos r7 r8 r10)
    (e11 : r11 = k0_pay18 r2) (e10 : r10 = k0_pay15 r r1) (e9 : r9 = k0_pay14 r1) (e8 : r8 = k0_pay13 v3)
    (e22 : ∀ h k d, r22 (ix3 h k d) = x0 (ix2 k ⟨64 * h.val + d.val, by omega⟩))
    (e21 : ∀ h k d, r21 (ix3 h k d) = x0 (ix2 k ⟨64 * h.val + d.val, by omega⟩))
    (e7 : ∀ h, r7 (ix3 h 0 0) = x7 (ix2 0 ⟨h.val, by omega⟩))
    (e6 : ∀ h k c, r6 (ix3 h k c) = x6 (ix3 h k ⟨128 + c.val, by omega⟩))
    (e5 : ∀ h k c, r5 (ix3 h k c) = x6 (ix3 h k ⟨c.val, by omega⟩))
    (e4 : ∀ g c d, r4 (ix3 g c d) = x5 (ix2 c ⟨64 * g.val + d.val, by omega⟩))
    (e3 : ∀ g c d, r3 (ix3 g c d) = x4 (ix2 c ⟨64 * g.val + d.val, by omega⟩))
    (e2 : ∀ g c d, r2 (ix3 g c d) = x3 (ix2 c ⟨64 * g.val + d.val, by omega⟩))
    (e1 : ∀ g c d, r1 (ix3 g c d) = x2 (ix2 c ⟨64 * g.val + d.val, by omega⟩))
    (e0 : ∀ h k d, r (ix3 h k d) = x1 (ix2 k ⟨64 * h.val + d.val, by omega⟩)) :
    Facts b r40 r38 r24 r41 r29 r39 r34 r43 := by
  have f0 : ∀ h k d, r (ix3 h k d) = (b.q h k d : EReal) := fun h k d => (e0 h k d).trans (H.q h k d)
  have f1 : ∀ g c d, r1 (ix3 g c d) = (b.kp g c d : EReal) := fun g c d => (e1 g c d).trans (H.kp g c d)
  have f2 : ∀ g c d, r2 (ix3 g c d) = (b.kc g c d : EReal) := fun g c d => (e2 g c d).trans (H.kc g c d)
  have f3 : ∀ g c d, r3 (ix3 g c d) = (b.vp g c d : EReal) := fun g c d => (e3 g c d).trans (H.vp g c d)
  have f4 : ∀ g c d, r4 (ix3 g c d) = (b.vc g c d : EReal) := fun g c d => (e4 g c d).trans (H.vc g c d)
  have f21 : ∀ h k d, r21 (ix3 h k d) = (b.g h k d : EReal) := fun h k d => (e21 h k d).trans (H.g h k d)
  have f22 : ∀ h k d, r22 (ix3 h k d) = (b.g h k d : EReal) := fun h k d => (e22 h k d).trans (H.g h k d)
  have f8 : ∀ h k c, r8 (ix3 h k c) = BitVec.ofBool (decide (k.val < c.val ∧ b.hp = true)) := fun h k c => by
    rw [e8, H.hp]; exact pay13_apply b.hp h k c
  have f9 : ∀ h k d, r9 (ix3 h k d) = (b.kp (grp h) k d : EReal) := fun h k d => by rw [e9, pay14_apply, f1]
  have f11 : ∀ h k d, r11 (ix3 h k d) = (b.kc (grp h) k d : EReal) := fun h k d => by rw [e11, pay18_apply, f2]
  have f18 : ∀ h k d, r18 (ix3 h k d) = (b.vp (grp h) k d : EReal) := fun h k d => by rw [e18, pay27_apply, f3]
  have f23 : ∀ h k d, r23 (ix3 h k d) = (b.vc (grp h) k d : EReal) := fun h k d => by rw [e23, pay32_apply, f4]
  have R : Reads b r r2 r5 r6 r7 r8 r10 :=
    ⟨f0, f2, fun h k c => (e5 h k c).trans (H.bp h k c), fun h k c => (e6 h k c).trans (H.bc h k c),
      fun h => (e7 h).trans (H.s h), f8, fun h k c => by rw [e10]; exact pay15_apply b r r1 f0 f1 h k c⟩
  obtain ⟨M, hM⟩ := pay20_real R
  let E : Fin 8 → Fin 128 → ℝ := fun h k => Real.exp (-M h k)
  have hE : ∀ h k, E h k ≠ 0 := fun h k => (Real.exp_pos _).ne'
  have f12 : ∀ h k c, r12 (ix3 h k c) = ((b.wp h k c * E h k : ℝ) : EReal) := fun h k c => by rw [e12]; exact pay21_apply R hM h k c
  have f13 : ∀ h k c, r13 (ix3 h k c) = ((b.wc h k c * E h k : ℝ) : EReal) := fun h k c => by rw [e13]; exact pay22_apply R hM h k c
  have f14 : ∀ h k, r14 (ix3 h k 0) = ((Real.exp (b.s h) * E h k : ℝ) : EReal) := fun h k => by rw [e14]; exact pay23_apply R hM h k
  have f15 : ∀ h k, r15 (ix3 h k 0) = ((b.Z h k * E h k : ℝ) : EReal) := fun h k => by rw [e15]; exact pay24_apply R hM h k
  have f16 : ∀ h k c, r16 (ix3 h k c) = ((b.wp h k c / b.Z h k : ℝ) : EReal) := fun h k c => by rw [e16]; exact pay25_apply R hM h k c
  have f17 : ∀ h k, r17 (ix3 h k 0) = (inv2 b E h k : EReal) := fun h k => by rw [e17]; exact pay26_apply R hM h k
  have f19 : ∀ h k c, r19 (ix3 h k c) = ((b.wc h k c / b.Z h k : ℝ) : EReal) := fun h k c => by
    rw [e19]; exact pay28_apply b E hE r15 f15 r13 f13 h k c
  have f20 : ∀ h k, r20 (ix3 h k 0) = (inv2 b E h k : EReal) := fun h k => by rw [e20]; exact pay29_apply b E hE r15 f15 h k
  have f25 := pay35_apply b E r13 r20 r22 r23 f13 f20 f22 f23
  rw [← e25] at f25
  have f26 := pay36_apply b E hE r15 f15 r22 r23 f22 f23
  rw [← e26] at f26
  have f27 := pay37_apply b r18 r21 f21 f18
  rw [← e27] at f27
  have f28 : ∀ h k c, r28 (ix3 h k c) = ((b.wp h k c / b.Z h k : ℝ) : EReal) := fun h k c => by
    rw [e28]; exact f16 h k c
  have f30 := pay40_apply b E r12 r27 r17 r25 f12 f17 f25 f27
  rw [← e30] at f30
  have f31 := pay41_apply b E hE r15 f15 r27 f27
  rw [← e31] at f31
  have f32 := pay42_apply b E hE r12 r27 r17 r25 f12 f17 f25 f27 r14 f14
  rw [← e32] at f32
  have f33 := pay43_apply b E hE r30 f30 r12 r31 f12 f31
  rw [← e33] at f33
  have f34 := pay44_apply b E hE r30 f30 r13 r26 f13 f26
  have f35 := pay46_apply b E hE r30 f30 r11 r13 r26 f11 f13 f26
  rw [← e35] at f35
  refine ⟨?_, ?_, ?_, ?_, ?_, ?_, ?_, ?_⟩
  · rw [e40]; exact pay53_apply b r8 r33 f8 f33 r9 r35 f9 f35
  · rw [e38, e36, e37]; exact pay50_apply b E hE r30 f30 r r13 r26 f0 f13 f26
  · intro g c d
    rw [e24, pay34_apply]
    simp only [f19, f21, ← EReal.coe_mul, sum_coe]
    rfl
  · rw [e41]; exact pay54_apply b r8 r33 f8 f33 r f0
  · intro g c d
    rw [e29, pay39_apply]
    simp only [f28, f21, ← EReal.coe_mul, sum_coe]
    rfl
  · rw [e39]; exact pay51_apply b r8 r33 f8 f33
  · rw [e34]; exact f34
  · rw [e43, e42]; exact pay56_apply r32 b.ds f32

end Cert.SwaBwdIdeal.Block
-- ==== Proof.Swa.Windows.lean ====
/-
  What the eight input windows hold at a grid point: point `t` works on block `31 - t` of the arrays.
-/
module

public import proofs.«01_k».proof.Proof.Swa.Arrays
public import proofs.«01_k».proof.Proof.Swa.Block
public import proofs.«01_k».proof.Proof.Gen.SwaBwdIdeal.Value
public import Idealize.ShloMosaic.Lib.Pointwise

@[expose] public section

set_option maxRecDepth 16384

noncomputable section

namespace Cert.SwaBwdIdeal.Block

open Idealize.ShloMosaic Idealize.ShloMosaic.TcCoe
open Cert.SwaBwdIdeal Cert.SwaBwdIdeal.Gen Cert.Swa

variable (m : (ℓ : Loc nD τ sig) → Buf (Elt Ideal) ℓ)

/-- The padded row of sinks the kernel reads. -/
theorem sinks_row (c : Dev nD) : V m c main_v1 =
    shapeCast S1x128 (pad S128 ![0] ![120] ![0] (m ((c : Thread nD τ).loc main_arg3)) (sitofp (F := Ideal) .f32 (constantI S_ 32 0#32)) pads_S8_S128_01200 h_S_) shapeCasts_S128_S1x128 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

theorem index0 : ∀ t : Fin cfg0.N, win0_0.index t 0 = 31 - t.val ∧ win0_0.index t 1 = 1 := by decide +kernel
theorem index1 : ∀ t : Fin cfg0.N, win0_1.index t 0 = 31 - t.val ∧ win0_1.index t 1 = 4 := by decide +kernel
theorem index2 : ∀ t : Fin cfg0.N, win0_2.index t 0 = 31 - t.val - 1 ∧ win0_2.index t 1 = 20 := by decide +kernel
theorem index3 : ∀ t : Fin cfg0.N, win0_3.index t 0 = 31 - t.val ∧ win0_3.index t 1 = 20 := by decide +kernel
theorem index4 : ∀ t : Fin cfg0.N, win0_4.index t 0 = 31 - t.val - 1 ∧ win0_4.index t 1 = 21 := by decide +kernel
theorem index5 : ∀ t : Fin cfg0.N, win0_5.index t 0 = 31 - t.val ∧ win0_5.index t 1 = 21 := by decide +kernel
theorem index6 : ∀ t : Fin cfg0.N, win0_6.index t 0 = 0 ∧ win0_6.index t 1 = 0 ∧ win0_6.index t 2 = 0 := by decide +kernel
theorem index7 : ∀ t : Fin cfg0.N, win0_7.index t 0 = 0 ∧ win0_7.index t 1 = 0 := by decide +kernel

/-- There is a block before at every point but the last. -/
theorem before_iff : ∀ t : Fin cfg0.N, kernelRun0_B.sl.v3 (grid0.coords t) = BitVec.ofBool (decide (0 < 31 - t.val)) := by decide +kernel

/-- The incoming cotangent: the second half of its columns. -/
theorem iblk0 (c : Dev nD) (t : Fin cfg0.N) (r : Fin 128) (k : Fin 512) :
    (iblk m c 0 t : Vec Ideal S128x512 .f32) (ix2 r k) =
      m ((c : Thread nD τ).loc main_arg0) (ix2 (n0 := 4096) (n1 := 1024) ⟨128 * (31 - t.val) + r.val, by omega⟩ ⟨512 + k.val, by omega⟩) := by
  unfold iblk
  rw [View.read_apply]
  show V m c main_arg0 _ = _
  rw [V_main_arg0]
  congr 1
  funext a
  apply Fin.ext
  match a with
  | ⟨0, _⟩ => show win0_0.index t 0 * 128 + 1 * r.val = _; rw [(index0 t).1]; show _ = 128 * (31 - t.val) + r.val; omega
  | ⟨1, _⟩ => show win0_0.index t 1 * 512 + 1 * k.val = _; rw [(index0 t).2]; show _ = 512 + k.val; omega

/-- The queries. -/
theorem iblk1 (c : Dev nD) (t : Fin cfg0.N) (r : Fin 128) (k : Fin 512) :
    (iblk m c 1 t : Vec Ideal S128x512 .f32) (ix2 r k) =
      m ((c : Thread nD τ).loc main_arg1) (ix2 (n0 := 4096) (n1 := 3072) ⟨128 * (31 - t.val) + r.val, by omega⟩ ⟨2048 + k.val, by omega⟩) := by
  unfold iblk
  rw [View.read_apply]
  show V m c main_arg1 _ = _
  rw [V_main_arg1]
  congr 1
  funext a
  apply Fin.ext
  match a with
  | ⟨0, _⟩ => show win0_1.index t 0 * 128 + 1 * r.val = _; rw [(index1 t).1]; show _ = 128 * (31 - t.val) + r.val; omega
  | ⟨1, _⟩ => show win0_1.index t 1 * 512 + 1 * k.val = _; rw [(index1 t).2]; show _ = 2048 + k.val; omega

/-- The keys of the block before. -/
theorem iblk2 (c : Dev nD) (t : Fin cfg0.N) (r : Fin 128) (k : Fin 128) :
    (iblk m c 2 t : Vec Ideal S128x128 .f32) (ix2 r k) =
      m ((c : Thread nD τ).loc main_arg1) (ix2 (n0 := 4096) (n1 := 3072) ⟨128 * (31 - t.val - 1) + r.val, by omega⟩ ⟨2560 + k.val, by omega⟩) := by
  unfold iblk
  rw [View.read_apply]
  show V m c main_arg1 _ = _
  rw [V_main_arg1]
  congr 1
  funext a
  apply Fin.ext
  match a with
  | ⟨0, _⟩ => show win0_2.index t 0 * 128 + 1 * r.val = _; rw [(index2 t).1]; show _ = 128 * (31 - t.val - 1) + r.val; omega
  | ⟨1, _⟩ => show win0_2.index t 1 * 128 + 1 * k.val = _; rw [(index2 t).2]; show _ = 2560 + k.val; omega

/-- The keys. -/
theorem iblk3 (c : Dev nD) (t : Fin cfg0.N) (r : Fin 128) (k : Fin 128) :
    (iblk m c 3 t : Vec Ideal S128x128 .f32) (ix2 r k) =
      m ((c : Thread nD τ).loc main_arg1) (ix2 (n0 := 4096) (n1 := 3072) ⟨128 * (31 - t.val) + r.val, by omega⟩ ⟨2560 + k.val, by omega⟩) := by
  unfold iblk
  rw [View.read_apply]
  show V m c main_arg1 _ = _
  rw [V_main_arg1]
  congr 1
  funext a
  apply Fin.ext
  match a with
  | ⟨0, _⟩ => show win0_3.index t 0 * 128 + 1 * r.val = _; rw [(index3 t).1]; show _ = 128 * (31 - t.val) + r.val; omega
  | ⟨1, _⟩ => show win0_3.index t 1 * 128 + 1 * k.val = _; rw [(index3 t).2]; show _ = 2560 + k.val; omega

/-- The values of the block before. -/
theorem iblk4 (c : Dev nD) (t : Fin cfg0.N) (r : Fin 128) (k : Fin 128) :
    (iblk m c 4 t : Vec Ideal S128x128 .f32) (ix2 r k) =
      m ((c : Thread nD τ).loc main_arg1) (ix2 (n0 := 4096) (n1 := 3072) ⟨128 * (31 - t.val - 1) + r.val, by omega⟩ ⟨2688 + k.val, by omega⟩) := by
  unfold iblk
  rw [View.read_apply]
  show V m c main_arg1 _ = _
  rw [V_main_arg1]
  congr 1
  funext a
  apply Fin.ext
  match a with
  | ⟨0, _⟩ => show win0_4.index t 0 * 128 + 1 * r.val = _; rw [(index4 t).1]; show _ = 128 * (31 - t.val - 1) + r.val; omega
  | ⟨1, _⟩ => show win0_4.index t 1 * 128 + 1 * k.val = _; rw [(index4 t).2]; show _ = 2688 + k.val; omega

/-- The values. -/
theorem iblk5 (c : Dev nD) (t : Fin cfg0.N) (r : Fin 128) (k : Fin 128) :
    (iblk m c 5 t : Vec Ideal S128x128 .f32) (ix2 r k) =
      m ((c : Thread nD τ).loc main_arg1) (ix2 (n0 := 4096) (n1 := 3072) ⟨128 * (31 - t.val) + r.val, by omega⟩ ⟨2688 + k.val, by omega⟩) := by
  unfold iblk
  rw [View.read_apply]
  show V m c main_arg1 _ = _
  rw [V_main_arg1]
  congr 1
  funext a
  apply Fin.ext
  match a with
  | ⟨0, _⟩ => show win0_5.index t 0 * 128 + 1 * r.val = _; rw [(index5 t).1]; show _ = 128 * (31 - t.val) + r.val; omega
  | ⟨1, _⟩ => show win0_5.index t 1 * 128 + 1 * k.val = _; rw [(index5 t).2]; show _ = 2688 + k.val; omega

/-- The bias, whole at every point. -/
theorem iblk6 (c : Dev nD) (t : Fin cfg0.N) (h : Fin 8) (r : Fin 128) (k : Fin 256) :
    (iblk m c 6 t : Vec Ideal S8x128x256 .f32) (ix3 h r k) = m ((c : Thread nD τ).loc main_arg2) (ix3 (n0 := 8) (n1 := 128) (n2 := 256) h r k) := by
  unfold iblk
  rw [View.read_apply]
  show V m c main_arg2 _ = _
  rw [V_main_arg2]
  congr 1
  funext a
  apply Fin.ext
  match a with
  | ⟨0, _⟩ => show win0_6.index t 0 * 8 + 1 * h.val = _; rw [(index6 t).1]; show _ = h.val; omega
  | ⟨1, _⟩ => show win0_6.index t 1 * 128 + 1 * r.val = _; rw [(index6 t).2.1]; show _ = r.val; omega
  | ⟨2, _⟩ => show win0_6.index t 2 * 256 + 1 * k.val = _; rw [(index6 t).2.2]; show _ = k.val; omega

/-- The row of sinks, whole at every point: the sinks on its first eight lanes. -/
theorem iblk7 (c : Dev nD) (t : Fin cfg0.N) (h : Fin 8) :
    (iblk m c 7 t : Vec Ideal S1x128 .f32) (ix2 0 ⟨h.val, by omega⟩) = m ((c : Thread nD τ).loc main_arg3) (ix1 (n0 := 8) h) := by
  unfold iblk
  rw [View.read_apply]
  show V m c main_v1 _ = _
  refine (congrArg (V m c main_v1) (?_ : _ = ix2 (n0 := 1) (n1 := 128) 0 ⟨h.val, by omega⟩)).trans ?_
  · funext a
    apply Fin.ext
    match a with
    | ⟨0, _⟩ => show win0_7.index t 0 * 1 + 1 * 0 = _; rw [(index7 t).1]; rfl
    | ⟨1, _⟩ => show win0_7.index t 1 * 128 + 1 * h.val = _; rw [(index7 t).2]; show _ = h.val; omega
  · rw [sinks_row]
    pointwise
    exact dif_pos fun a => by
      match a with
      | ⟨0, _⟩ => exact h.isLt

/-- At point `t` the kernel works on block `31 - t`. -/
theorem point (A : Arrays) (c : Dev nD) (t : Fin cfg0.N)
    (H : A.Are (m ((c : Thread nD τ).loc main_arg0)) (m ((c : Thread nD τ).loc main_arg1)) (m ((c : Thread nD τ).loc main_arg2)) (m ((c : Thread nD τ).loc main_arg3))) :
    Point (A.blk (31 - t.val)) (kernelRun0_B.sl.v3 (grid0.coords t)) (iblk m c 0 t) (iblk m c 1 t) (iblk m c 2 t) (iblk m c 3 t) (iblk m c 4 t)
      (iblk m c 5 t) (iblk m c 6 t) (iblk m c 7 t) where
  hp := before_iff t
  g h r d := (iblk0 m c t r _).trans (H.D _ _)
  q h r d := (iblk1 m c t r _).trans (H.X _ _)
  kp g k d := (iblk2 m c t k _).trans (H.X _ _)
  kc g k d := (iblk3 m c t k _).trans (H.X _ _)
  vp g k d := (iblk4 m c t k _).trans (H.X _ _)
  vc g k d := (iblk5 m c t k _).trans (H.X _ _)
  bp h r k := (iblk6 m c t h r _).trans (H.B _ _ _)
  bc h r k := (iblk6 m c t h r _).trans (H.B _ _ _)
  s h := (iblk7 m c t h).trans (H.s _)

end Cert.SwaBwdIdeal.Block
-- ==== Proof.Swa.Strips.lean ====
/-
  Loads and stores of parts of a buffer, read at an index: strips of 64 columns of a matrix, halves of the last axis of the
  bias, whole rows.
-/
module

public import proofs.«01_k».proof.Proof.Swa.Block
public import Idealize.ShloMosaic.Lib.WritesUnit
public import Idealize.ShloMosaic.Lib.Pipeline.ValueKit

@[expose] public section

set_option maxRecDepth 16384

noncomputable section

open Idealize.ShloMosaic Idealize.ShloMosaic.TcCoe Cert.Swa

namespace Cert.SwaBwdIdeal.Block

open Cert.SwaBwdIdeal Cert.SwaBwdIdeal.Gen

variable {n : ℕ} {κ : Kind} {sp : Space} {e : EltTy}

/-- The eight strips of 64 columns lie in a matrix of 512, -/
theorem strip512 (h : Fin 8) : ∀ a, (![0, 64 * h.val] : Fin 2 → ℕ) a + S128x64.size a ≤ S128x512.size a :=
  Fin.forall_fin_two.mpr ⟨le_refl _, (by omega : 64 * h.val + 64 ≤ 512)⟩

/-- and the two in a matrix of 128. -/
theorem strip128 (g : Fin 2) : ∀ a, (![0, 64 * g.val] : Fin 2 → ℕ) a + S128x64.size a ≤ S128x128.size a :=
  Fin.forall_fin_two.mpr ⟨le_refl _, (by omega : 64 * g.val + 64 ≤ 128)⟩

/-- A load of a strip of 64 columns. -/
theorem load_strip {n o : ℕ} (arg : Memref sig .tc .vmem ⟨2, ![128, n]⟩ .f32) (harg : arg.IsWhole) (x : Vec Ideal ⟨2, ![128, n]⟩ .f32)
    (inb : ∀ a, (![0, o] : Fin 2 → ℕ) a + S128x64.size a ≤ (⟨2, ![128, n]⟩ : Shape).size a) (r : Fin 128) (d : Fin 64) (ho : o + d.val < n) :
    View.readAt (Elt Ideal) arg.view (Rect.unit (s := ⟨2, ![128, n]⟩) ![0, o] S128x64.size inb).toLoadRect (harg.unread x) (ix2 r d) =
      x (ix2 r ⟨o + d.val, ho⟩) := by
  rw [View.readAt_eq_ld, harg.read_unread]
  exact View.ld_unit_apply_of x ![0, o] S128x64.size inb _ _ (Fin.forall_fin_two.mpr ⟨(Nat.zero_add _).symm, rfl⟩)

/-- A strip of a matrix of 512 columns, as loaded. -/
abbrev strip8 (arg : Memref sig .tc .vmem S128x512 .f32) (harg : arg.IsWhole) (x : Vec Ideal S128x512 .f32) (h : Fin 8) : Vec Ideal S128x64 .f32 :=
  View.readAt (Elt Ideal) arg.view (Rect.unit (s := S128x512) ![0, 64 * h.val] S128x64.size (strip512 h)).toLoadRect (harg.unread x)

/-- A strip of a matrix of 128 columns, as loaded. -/
abbrev strip2 (arg : Memref sig .tc .vmem S128x128 .f32) (harg : arg.IsWhole) (x : Vec Ideal S128x128 .f32) (g : Fin 2) : Vec Ideal S128x64 .f32 :=
  View.readAt (Elt Ideal) arg.view (Rect.unit (s := S128x128) ![0, 64 * g.val] S128x64.size (strip128 g)).toLoadRect (harg.unread x)

theorem strip2_apply (arg : Memref sig .tc .vmem S128x128 .f32) (harg : arg.IsWhole) (x : Vec Ideal S128x128 .f32) (g : Fin 2)
    (r : Fin 128) (d : Fin 64) : strip2 arg harg x g (ix2 r d) = x (ix2 r ⟨64 * g.val + d.val, by omega⟩) :=
  load_strip arg harg x _ r d (by omega)

/-- A load of half of the bias. -/
theorem load_half {o : ℕ} (arg : Memref sig .tc .vmem S8x128x256 .f32) (harg : arg.IsWhole) (x : Vec Ideal S8x128x256 .f32)
    (inb : ∀ a, (![0, 0, o] : Fin 3 → ℕ) a + S8x128x128.size a ≤ S8x128x256.size a) (ho : o + 128 ≤ 256) (h : Fin 8) (r c : Fin 128) :
    View.readAt (Elt Ideal) arg.view (Rect.unit (s := S8x128x256) ![0, 0, o] S8x128x128.size inb).toLoadRect (harg.unread x) (ix3 h r c) =
      x (ix3 h r ⟨o + c.val, by omega⟩) := by
  rw [View.readAt_eq_ld, harg.read_unread]
  refine View.ld_unit_apply_of x ![0, 0, o] S8x128x128.size inb _ _ ?_
  intro a
  match a with
  | ⟨0, _⟩ => exact (Nat.zero_add _).symm
  | ⟨1, _⟩ => exact (Nat.zero_add _).symm
  | ⟨2, _⟩ => rfl

/-- A load of a whole row. -/
theorem load_row (arg : Memref sig .tc .vmem S1x128 .f32) (harg : arg.IsWhole) (x : Vec Ideal S1x128 .f32)
    (inb : ∀ a, (![0, 0] : Fin 2 → ℕ) a + S1x128.size a ≤ S1x128.size a) :
    View.readAt (Elt Ideal) arg.view (Rect.unit ![0, 0] S1x128.size inb).toLoadRect (harg.unread x) = x := by
  rw [View.readAt_eq_ld, harg.read_unread]
  exact View.ld_unit_zero (by funext a; match a with | ⟨0, _⟩ => rfl | ⟨1, _⟩ => rfl) inb x

section
variable (v : View sig κ sp ⟨2, ![128, n]⟩ e) (f : v.ty.Contents (Elt Ideal))

/-- The strip stored last, at its own columns. -/
theorem strip_hit {o : ℕ} (inb : ∀ a, (![0, o] : Fin 2 → ℕ) a + S128x64.size a ≤ (⟨2, ![128, n]⟩ : Shape).size a)
    (w : (Rect.unit (s := ⟨2, ![128, n]⟩) ![0, o] S128x64.size inb).shape.Idx → Elt Ideal e)
    (L : List (View.Piece (Elt Ideal) ⟨2, ![128, n]⟩ e)) (r : Fin 128) (c : Fin n) (d : Fin 64) (hc : c.val = o + d.val) :
    v.read (Elt Ideal) (v.writes (Elt Ideal) f (⟨Rect.unit ![0, o] S128x64.size inb, w⟩ :: L)) (ix2 r c) = w (ix2 r d) :=
  View.read_writes_cons_unit_of_mem v f inb w L (ix2 r c) (ix2 r d) rfl
    (Fin.forall_fin_two.mpr ⟨(Nat.zero_add _).symm, hc⟩)

/-- The strip stored last, at other columns: what the stores before it left. -/
theorem strip_miss {o : ℕ} (inb : ∀ a, (![0, o] : Fin 2 → ℕ) a + S128x64.size a ≤ (⟨2, ![128, n]⟩ : Shape).size a)
    (w : (Rect.unit (s := ⟨2, ![128, n]⟩) ![0, o] S128x64.size inb).shape.Idx → Elt Ideal e)
    (L : List (View.Piece (Elt Ideal) ⟨2, ![128, n]⟩ e)) (r : Fin 128) (c : Fin n) (hc : c.val < o ∨ o + 64 ≤ c.val) :
    v.read (Elt Ideal) (v.writes (Elt Ideal) f (⟨Rect.unit ![0, o] S128x64.size inb, w⟩ :: L)) (ix2 r c) =
      v.read (Elt Ideal) (v.writes (Elt Ideal) f L) (ix2 r c) :=
  View.read_writes_cons_unit_of_not_mem v f inb w L (ix2 r c) rfl (1 : Fin 2) hc

end

section
variable (v : View sig κ sp S8x128x256 .f32) (f : v.ty.Contents (Elt Ideal))

/-- The half of the bias stored last, at its own columns. -/
theorem half_hit {o : ℕ} (inb : ∀ a, (![0, 0, o] : Fin 3 → ℕ) a + S8x128x128.size a ≤ S8x128x256.size a)
    (w : (Rect.unit (s := S8x128x256) ![0, 0, o] S8x128x128.size inb).shape.Idx → Elt Ideal .f32)
    (L : List (View.Piece (Elt Ideal) S8x128x256 .f32)) (h : Fin 8) (r c : Fin 128) (k : Fin 256) (hc : k.val = o + c.val) :
    v.read (Elt Ideal) (v.writes (Elt Ideal) f (⟨Rect.unit ![0, 0, o] S8x128x128.size inb, w⟩ :: L)) (ix3 h r k) = w (ix3 h r c) :=
  View.read_writes_cons_unit_of_mem v f inb w L (ix3 h r k) (ix3 h r c) rfl fun a => by
    match a with
    | ⟨0, _⟩ => exact (Nat.zero_add _).symm
    | ⟨1, _⟩ => exact (Nat.zero_add _).symm
    | ⟨2, _⟩ => exact hc

/-- The half of the bias stored last, at the other half. -/
theorem half_miss {o : ℕ} (inb : ∀ a, (![0, 0, o] : Fin 3 → ℕ) a + S8x128x128.size a ≤ S8x128x256.size a)
    (w : (Rect.unit (s := S8x128x256) ![0, 0, o] S8x128x128.size inb).shape.Idx → Elt Ideal .f32)
    (L : List (View.Piece (Elt Ideal) S8x128x256 .f32)) (h : Fin 8) (r : Fin 128) (k : Fin 256) (hc : k.val < o ∨ o + 128 ≤ k.val) :
    v.read (Elt Ideal) (v.writes (Elt Ideal) f (⟨Rect.unit ![0, 0, o] S8x128x128.size inb, w⟩ :: L)) (ix3 h r k) =
      v.read (Elt Ideal) (v.writes (Elt Ideal) f L) (ix3 h r k) :=
  View.read_writes_cons_unit_of_not_mem v f inb w L (ix3 h r k) rfl (2 : Fin 3) hc

end

/-- A strip loaded after stores: what the stores left there. -/
theorem cov_strip (v : View sig κ sp S128x128 .f32) {o : ℕ}
    (inb : ∀ a, (![0, o] : Fin 2 → ℕ) a + S128x64.size a ≤ S128x128.size a) (L : List (View.Piece (Elt Ideal) S128x128 .f32))
    (r : Fin 128) (d : Fin 64) (ho : o + d.val < 128) :
    v.readCov L (Rect.unit (s := S128x128) ![0, o] S128x64.size inb).toLoadRect (ix2 r d) =
      v.read (Elt Ideal) (v.writes (Elt Ideal) v.junk L) (ix2 r ⟨o + d.val, ho⟩) :=
  View.ld_unit_apply_of (v.read (Elt Ideal) (v.writes (Elt Ideal) v.junk L)) ![0, o] S128x64.size inb (ix2 r d) (ix2 r ⟨o + d.val, ho⟩)
    (Fin.forall_fin_two.mpr ⟨(Nat.zero_add _).symm, rfl⟩)

/-- Half of the bias loaded after stores: what the stores left there. -/
theorem cov_half (v : View sig κ sp S8x128x256 .f32) {o : ℕ}
    (inb : ∀ a, (![0, 0, o] : Fin 3 → ℕ) a + S8x128x128.size a ≤ S8x128x256.size a) (L : List (View.Piece (Elt Ideal) S8x128x256 .f32))
    (h : Fin 8) (r c : Fin 128) (ho : o + c.val < 256) :
    v.readCov L (Rect.unit (s := S8x128x256) ![0, 0, o] S8x128x128.size inb).toLoadRect (ix3 h r c) =
      v.read (Elt Ideal) (v.writes (Elt Ideal) v.junk L) (ix3 h r ⟨o + c.val, ho⟩) :=
  View.ld_unit_apply_of (v.read (Elt Ideal) (v.writes (Elt Ideal) v.junk L)) ![0, 0, o] S8x128x128.size inb (ix3 h r c)
    (ix3 h r ⟨o + c.val, ho⟩) fun a => by
      match a with
      | ⟨0, _⟩ => exact (Nat.zero_add _).symm
      | ⟨1, _⟩ => exact (Nat.zero_add _).symm
      | ⟨2, _⟩ => rfl

/-- A whole square stored last. -/
theorem square_hit (v : View sig κ sp S128x128 .f32) (f : v.ty.Contents (Elt Ideal))
    (inb : ∀ a, (![0, 0] : Fin 2 → ℕ) a + S128x128.size a ≤ S128x128.size a)
    (w : (Rect.unit (s := S128x128) ![0, 0] S128x128.size inb).shape.Idx → Elt Ideal .f32)
    (L : List (View.Piece (Elt Ideal) S128x128 .f32)) (r c : Fin 128) :
    v.read (Elt Ideal) (v.writes (Elt Ideal) f (⟨Rect.unit ![0, 0] S128x128.size inb, w⟩ :: L)) (ix2 r c) = w (ix2 r c) :=
  View.read_writes_cons_unit_of_mem v f inb w L (ix2 r c) (ix2 r c) rfl
    (Fin.forall_fin_two.mpr ⟨(Nat.zero_add _).symm, (Nat.zero_add _).symm⟩)

/-- The whole bias stored last. -/
theorem bias_hit (v : View sig κ sp S8x128x256 .f32) (f : v.ty.Contents (Elt Ideal))
    (inb : ∀ a, (![0, 0, 0] : Fin 3 → ℕ) a + S8x128x256.size a ≤ S8x128x256.size a)
    (w : (Rect.unit (s := S8x128x256) ![0, 0, 0] S8x128x256.size inb).shape.Idx → Elt Ideal .f32)
    (L : List (View.Piece (Elt Ideal) S8x128x256 .f32)) (h : Fin 8) (r : Fin 128) (c : Fin 256) :
    v.read (Elt Ideal) (v.writes (Elt Ideal) f (⟨Rect.unit ![0, 0, 0] S8x128x256.size inb, w⟩ :: L)) (ix3 h r c) = w (ix3 h r c) :=
  View.read_writes_cons_unit_of_mem v f inb w L (ix3 h r c) (ix3 h r c) rfl fun a => by
    match a with
    | ⟨0, _⟩ => exact (Nat.zero_add _).symm
    | ⟨1, _⟩ => exact (Nat.zero_add _).symm
    | ⟨2, _⟩ => exact (Nat.zero_add _).symm

/-- A whole row stored last. -/
theorem row_hit (v : View sig κ sp S1x128 .f32) (f : v.ty.Contents (Elt Ideal))
    (inb : ∀ a, (![0, 0] : Fin 2 → ℕ) a + S1x128.size a ≤ S1x128.size a)
    (w : (Rect.unit (s := S1x128) ![0, 0] S1x128.size inb).shape.Idx → Elt Ideal .f32)
    (L : List (View.Piece (Elt Ideal) S1x128 .f32)) (l : Fin 128) :
    v.read (Elt Ideal) (v.writes (Elt Ideal) f (⟨Rect.unit ![0, 0] S1x128.size inb, w⟩ :: L)) (ix2 0 l) = w (ix2 0 l) :=
  View.read_writes_cons_unit_of_mem v f inb w L (ix2 0 l) (ix2 0 l) rfl
    (Fin.forall_fin_two.mpr ⟨(Nat.zero_add _).symm, (Nat.zero_add _).symm⟩)

/-- The twelve strips a point stores into its window of the result, in the order it stores them (last first): strip `j` is
    found at columns `64 j` to `64 j + 63`. -/
theorem read_strips (v : View sig κ sp S128x768 e) (f : v.ty.Contents (Elt Ideal)) (w : Fin 12 → S128x64.Idx → Elt Ideal e)
    (j : Fin 12) (r : Fin 128) (d : Fin 64) :
    v.read (Elt Ideal) (v.writes (Elt Ideal) f [
      ⟨Rect.unit (s := S128x768) ![0, 704] S128x64.size inb_S128x768_S128x64_0_704, w 11⟩,
      ⟨Rect.unit (s := S128x768) ![0, 576] S128x64.size inb_S128x768_S128x64_0_576, w 9⟩,
      ⟨Rect.unit (s := S128x768) ![0, 640] S128x64.size inb_S128x768_S128x64_0_640, w 10⟩,
      ⟨Rect.unit (s := S128x768) ![0, 512] S128x64.size inb_S128x768_S128x64_0_512, w 8⟩,
      ⟨Rect.unit (s := S128x768) ![0, 448] S128x64.size inb_S128x768_S128x64_0_448, w 7⟩,
      ⟨Rect.unit (s := S128x768) ![0, 384] S128x64.size inb_S128x768_S128x64_0_384, w 6⟩,
      ⟨Rect.unit (s := S128x768) ![0, 320] S128x64.size inb_S128x768_S128x64_0_320, w 5⟩,
      ⟨Rect.unit (s := S128x768) ![0, 256] S128x64.size inb_S128x768_S128x64_0_256, w 4⟩,
      ⟨Rect.unit (s := S128x768) ![0, 192] S128x64.size inb_S128x768_S128x64_0_192, w 3⟩,
      ⟨Rect.unit (s := S128x768) ![0, 128] S128x64.size inb_S128x768_S128x64_0_128, w 2⟩,
      ⟨Rect.unit (s := S128x768) ![0, 64] S128x64.size inb_S128x768_S128x64_0_64, w 1⟩,
      ⟨Rect.unit (s := S128x768) ![0, 0] S128x64.size inb_S128x768_S128x64_0_0, w 0⟩]) (ix2 r ⟨64 * j.val + d.val, by omega⟩) =
      w j (ix2 r d) := by
  obtain ⟨j, hj⟩ := j
  interval_cases j <;>
  · repeat refine (strip_miss v f _ _ _ r _ (by dsimp only; omega)).trans ?_
    exact strip_hit v f _ _ _ r _ d (by dsimp only)

/-- The two strips a point stores into a buffer it carries on. -/
theorem read_two_strips (v : View sig κ sp S128x128 e) (f : v.ty.Contents (Elt Ideal)) (w : Fin 2 → S128x64.Idx → Elt Ideal e)
    (L : List (View.Piece (Elt Ideal) S128x128 e)) (j : Fin 2) (r : Fin 128) (d : Fin 64) :
    v.read (Elt Ideal) (v.writes (Elt Ideal) f (
      ⟨Rect.unit (s := S128x128) ![0, 64] S128x64.size inb_S128x128_S128x64_0_64, w 1⟩ ::
      ⟨Rect.unit (s := S128x128) ![0, 0] S128x64.size inb_S128x128_S128x64_0_0, w 0⟩ :: L)) (ix2 r ⟨64 * j.val + d.val, by omega⟩) =
      w j (ix2 r d) := by
  obtain ⟨j, hj⟩ := j
  interval_cases j <;>
  · repeat refine (strip_miss v f _ _ _ r _ (by dsimp only; omega)).trans ?_
    exact strip_hit v f _ _ _ r _ d (by dsimp only)

/-- A load of a whole row just stored. -/
theorem cov_row (v : View sig κ sp S1x128 .f32) (inb : ∀ a, (![0, 0] : Fin 2 → ℕ) a + S1x128.size a ≤ S1x128.size a)
    (w : (Rect.unit (s := S1x128) ![0, 0] S1x128.size inb).shape.Idx → Elt Ideal .f32)
    (L : List (View.Piece (Elt Ideal) S1x128 .f32)) (l : Fin 128) :
    v.readCov (⟨Rect.unit ![0, 0] S1x128.size inb, w⟩ :: L) (Rect.unit (s := S1x128) ![0, 0] S1x128.size inb).toLoadRect (ix2 0 l) =
      w (ix2 0 l) :=
  (View.ld_unit_apply_of (v.read (Elt Ideal) (v.writes (Elt Ideal) v.junk (⟨Rect.unit ![0, 0] S1x128.size inb, w⟩ :: L))) ![0, 0]
    S1x128.size inb (ix2 0 l) (ix2 0 l) (Fin.forall_fin_two.mpr
    ⟨(Nat.zero_add _).symm, (Nat.zero_add _).symm⟩)).trans (row_hit v v.junk inb w L l)

/-- What a point finds in the buffers it carries and leaves there: the running bias cotangents (both halves), the running
    sink cotangents on the first eight lanes of a row, and the parts of the key and value cotangents for the block before. -/
structure Held (Bp Bc : Fin 8 → Fin 128 → Fin 128 → ℝ) (S : Fin 8 → ℝ) (K V : Fin 2 → Fin 128 → Fin 64 → ℝ)
    (y9 : Vec Ideal S8x128x256 .f32) (y10 : Vec Ideal S1x128 .f32) (k v : Vec Ideal S128x128 .f32) : Prop where
  bp : ∀ (h : Fin 8) (r c : Fin 128), y9 (ix3 h r ⟨0 + c.val, by omega⟩) = (Bp h r c : EReal)
  bc : ∀ (h : Fin 8) (r c : Fin 128), y9 (ix3 h r ⟨128 + c.val, by omega⟩) = (Bc h r c : EReal)
  s : ∀ l : Fin 128, y10 (ix2 0 l) = ((if h : l.val < 8 then S ⟨l.val, h⟩ else 0 : ℝ) : EReal)
  k : ∀ (g : Fin 2) (c : Fin 128) (d : Fin 64), k (ix2 c ⟨64 * g.val + d.val, by omega⟩) = (K g c d : EReal)
  v : ∀ (g : Fin 2) (c : Fin 128) (d : Fin 64), v (ix2 c ⟨64 * g.val + d.val, by omega⟩) = (V g c d : EReal)

/-- The twelve strips' contents: the heads of the query cotangent, then the groups of the key and of the value cotangent,
    each with what was carried over. -/
abbrev stripVals (dq : FVec Ideal S8x128x64 .f32) (dk dv : FVec Ideal S2x128x64 .f32) (k0 k1 v0 v1 : Vec Ideal S128x64 .f32) :
    Fin 12 → S128x64.Idx → Elt Ideal .bf16 :=
  ![k0_pay57 (F := Ideal) dq, k0_pay58 (F := Ideal) dq, k0_pay59 (F := Ideal) dq, k0_pay60 (F := Ideal) dq, k0_pay61 (F := Ideal) dq,
    k0_pay62 (F := Ideal) dq, k0_pay63 (F := Ideal) dq, k0_pay64 (F := Ideal) dq, k0_pay65 (F := Ideal) dk k0, k0_pay69 (F := Ideal) dk k1,
    k0_pay66 (F := Ideal) dv v0, k0_pay71 (F := Ideal) (k0_pay70 dv) v1]

section
variable (dq : FVec Ideal S8x128x64 .f32) (dk dv : FVec Ideal S2x128x64 .f32) (k v : Fin 2 → Vec Ideal S128x64 .f32)

theorem stripVals_q (h : Fin 8) (r : Fin 128) (d : Fin 64) :
    stripVals dq dk dv (k 0) (k 1) (v 0) (v 1) ⟨h.val, by omega⟩ (ix2 r d) = dq (ix3 h r d) := by
  obtain ⟨h, hh⟩ := h
  interval_cases h
  · show k0_pay57 (F := Ideal) dq (ix2 r d) = _
    pointwise [k0_pay57]
  · show k0_pay58 (F := Ideal) dq (ix2 r d) = _
    pointwise [k0_pay58]
  · show k0_pay59 (F := Ideal) dq (ix2 r d) = _
    pointwise [k0_pay59]
  · show k0_pay60 (F := Ideal) dq (ix2 r d) = _
    pointwise [k0_pay60]
  · show k0_pay61 (F := Ideal) dq (ix2 r d) = _
    pointwise [k0_pay61]
  · show k0_pay62 (F := Ideal) dq (ix2 r d) = _
    pointwise [k0_pay62]
  · show k0_pay63 (F := Ideal) dq (ix2 r d) = _
    pointwise [k0_pay63]
  · show k0_pay64 (F := Ideal) dq (ix2 r d) = _
    pointwise [k0_pay64]

theorem stripVals_k (g : Fin 2) (r : Fin 128) (d : Fin 64) :
    stripVals dq dk dv (k 0) (k 1) (v 0) (v 1) ⟨8 + g.val, by omega⟩ (ix2 r d) = dk (ix3 g r d) + k g (ix2 r d) := by
  obtain ⟨g, hg⟩ := g
  interval_cases g
  · show k0_pay65 (F := Ideal) dk (k 0) (ix2 r d) = _
    pointwise [k0_pay65]
  · show k0_pay69 (F := Ideal) dk (k 1) (ix2 r d) = _
    pointwise [k0_pay69]

theorem stripVals_v (g : Fin 2) (r : Fin 128) (d : Fin 64) :
    stripVals dq dk dv (k 0) (k 1) (v 0) (v 1) ⟨10 + g.val, by omega⟩ (ix2 r d) = dv (ix3 g r d) + v g (ix2 r d) := by
  obtain ⟨g, hg⟩ := g
  interval_cases g
  · show k0_pay66 (F := Ideal) dv (v 0) (ix2 r d) = _
    pointwise [k0_pay66]
  · show k0_pay71 (F := Ideal) (k0_pay70 dv) (v 1) (ix2 r d) = _
    pointwise [k0_pay71, k0_pay70]

/-- The two strips of a carried buffer. -/
abbrev carryKs : Fin 2 → S128x64.Idx → Elt Ideal .f32 := ![k0_pay67 (F := Ideal) dk, k0_pay72 (F := Ideal) dk]
abbrev carryVs : Fin 2 → S128x64.Idx → Elt Ideal .f32 := ![k0_pay68 (F := Ideal) dv, k0_pay73 (F := Ideal) dv]

theorem carryK (g : Fin 2) (r : Fin 128) (d : Fin 64) :
    carryKs dk g (ix2 r d) = dk (ix3 g r d) := by
  obtain ⟨g, hg⟩ := g
  interval_cases g
  · show k0_pay67 (F := Ideal) dk (ix2 r d) = _
    pointwise [k0_pay67]
  · show k0_pay72 (F := Ideal) dk (ix2 r d) = _
    pointwise [k0_pay72]

theorem carryV (g : Fin 2) (r : Fin 128) (d : Fin 64) :
    carryVs dv g (ix2 r d) = dv (ix3 g r d) := by
  obtain ⟨g, hg⟩ := g
  interval_cases g
  · show k0_pay68 (F := Ideal) dv (ix2 r d) = _
    pointwise [k0_pay68]
  · show k0_pay73 (F := Ideal) dv (ix2 r d) = _
    pointwise [k0_pay73]

end

/-- A window of the result: the cotangents of the block's queries, of its keys and of its values, each of the latter two with
    the part `K`, `V` the block after it left. -/
structure Window (b : Blk) (K V : Fin 2 → Fin 128 → Fin 64 → ℝ) (y8 : Vec Ideal S128x768 .bf16) : Prop where
  dq : ∀ (h : Fin 8) (r : Fin 128) (d : Fin 64), y8 (ix2 r ⟨64 * h.val + d.val, by omega⟩) = (b.dq h r d : EReal)
  dk : ∀ (g : Fin 2) (r : Fin 128) (d : Fin 64),
    y8 (ix2 r ⟨64 * (8 + g.val) + d.val, by omega⟩) = ((b.dkc g r d + K g r d : ℝ) : EReal)
  dv : ∀ (g : Fin 2) (r : Fin 128) (d : Fin 64),
    y8 (ix2 r ⟨64 * (10 + g.val) + d.val, by omega⟩) = ((b.dvc g r d + V g r d : ℝ) : EReal)

end Cert.SwaBwdIdeal.Block
-- ==== Proof.Swa.CaseA.lean ====
/-
  The first grid point, which clears the accumulators and the carried buffers: what it leaves in its output windows and in the two buffers it carries on, read at an index.
-/
module

public import proofs.«01_k».proof.Proof.Swa.Strips
public import proofs.«01_k».proof.Proof.Gen.SwaBwdIdeal.Frame

@[expose] public section

set_option maxRecDepth 16384

noncomputable section

open Idealize.ShloMosaic Idealize.ShloMosaic.TcCoe Cert.Swa

namespace Cert.SwaBwdIdeal.Block

open Cert.SwaBwdIdeal Cert.SwaBwdIdeal.Gen

variable (c : Dev nD) (i : grid0.Coords) (arg1 : Memref sig .tc .vmem S128x512 .f32) (harg1 : arg1.IsWhole)
  (arg2 : Memref sig .tc .vmem S128x512 .f32) (harg2 : arg2.IsWhole) (arg3 : Memref sig .tc .vmem S128x128 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S8x128x256 .f32) (harg7 : arg7.IsWhole)
  (arg8 : Memref sig .tc .vmem S1x128 .f32) (harg8 : arg8.IsWhole)
  (x0 x1 : Vec Ideal S128x512 .f32) (x2 x3 x4 x5 : Vec Ideal S128x128 .f32) (x6 : Vec Ideal S8x128x256 .f32) (x7 : Vec Ideal S1x128 .f32)
  {b : Blk}

/-- The values the body computes are the block's cotangents. -/
theorem factsA (H : Point b (kernelRun0_A.sl.v3 i) x0 x1 x2 x3 x4 x5 x6 x7) :
    Facts b (kernelRun0_A.sl.r_40 c i arg1 harg1 arg2 harg2 arg3 harg3 arg4 harg4 arg5 harg5 arg6 harg6 arg7 harg7 arg8 harg8 x0 x1 x2 x3 x4 x5 x6 x7)
      (kernelRun0_A.sl.r_38 c i arg1 harg1 arg2 harg2 arg3 harg3 arg4 harg4 arg5 harg5 arg6 harg6 arg7 harg7 arg8 harg8 x0 x1 x2 x3 x4 x5 x6 x7)
      (kernelRun0_A.sl.r_24 c i arg1 harg1 arg2 harg2 arg3 harg3 arg4 harg4 arg7 harg7 arg8 harg8 x0 x1 x2 x3 x6 x7)
      (kernelRun0_A.sl.r_41 c i arg1 harg1 arg2 harg2 arg3 harg3 arg4 harg4 arg5 harg5 arg6 harg6 arg7 harg7 arg8 harg8 x0 x1 x2 x3 x4 x5 x6 x7)
      (kernelRun0_A.sl.r_29 c i arg1 harg1 arg2 harg2 arg3 harg3 arg4 harg4 arg7 harg7 arg8 harg8 x0 x1 x2 x3 x6 x7)
      (kernelRun0_A.sl.r_39 c i arg1 harg1 arg2 harg2 arg3 harg3 arg4 harg4 arg5 harg5 arg6 harg6 arg7 harg7 arg8 harg8 x0 x1 x2 x3 x4 x5 x6 x7)
      (kernelRun0_A.sl.r_34 c i arg1 harg1 arg2 harg2 arg3 harg3 arg4 harg4 arg5 harg5 arg6 harg6 arg7 harg7 arg8 harg8 x0 x1 x2 x3 x4 x5 x6 x7)
      (kernelRun0_A.sl.r_43 c i arg1 harg1 arg2 harg2 arg3 harg3 arg4 harg4 arg5 harg5 arg6 harg6 arg7 harg7 arg8 harg8 x0 x1 x2 x3 x4 x5 x6 x7) := by
  refine facts H rfl rfl rfl rfl rfl rfl rfl rfl rfl rfl rfl rfl rfl rfl rfl rfl rfl rfl rfl rfl rfl rfl rfl rfl rfl rfl
    rfl rfl rfl rfl rfl rfl rfl rfl ?_ ?_ ?_ ?_ ?_ ?_ ?_ ?_ ?_ ?_
  · exact fun h k d => (pay31_apply (strip8 arg1 harg1 x0) h k d).trans (load_strip arg1 harg1 x0 _ k d (by omega))
  · exact fun h k d => (pay30_apply (strip8 arg1 harg1 x0) h k d).trans (load_strip arg1 harg1 x0 _ k d (by omega))
  · exact fun h => (pay12_apply _ h).trans (congrFun (load_row arg8 harg8 x7 _) _)
  · exact load_half arg7 harg7 x6 _ (by omega)
  · intro h k d
    refine (load_half arg7 harg7 x6 _ (by omega) h k d).trans ?_
    simp only [Nat.zero_add]
  · exact fun g k d => (pay10_apply (strip2 arg6 harg6 x5) g k d).trans (load_strip arg6 harg6 x5 _ k d (by omega))
  · exact fun g k d => (pay9_apply (strip2 arg5 harg5 x4) g k d).trans (load_strip arg5 harg5 x4 _ k d (by omega))
  · exact fun g k d => (pay8_apply (strip2 arg4 harg4 x3) g k d).trans (load_strip arg4 harg4 x3 _ k d (by omega))
  · exact fun g k d => (pay7_apply (strip2 arg3 harg3 x2) g k d).trans (load_strip arg3 harg3 x2 _ k d (by omega))
  · exact fun h k d => (pay6_apply (strip8 arg2 harg2 x1) h k d).trans (load_strip arg2 harg2 x1 _ k d (by omega))

variable (arg9 : Memref sig .tc .vmem S128x768 .bf16) (harg9 : arg9.IsWhole) (arg10 : Memref sig .tc .vmem S8x128x256 .f32) (harg10 : arg10.IsWhole)
  (arg11 : Memref sig .tc .vmem S1x128 .f32) (harg11 : arg11.IsWhole) (arg12 : Memref sig .tc .vmem S128x128 .f32) (harg12 : arg12.IsWhole)
  (arg13 : Memref sig .tc .vmem S128x128 .f32) (harg13 : arg13.IsWhole) (hc0 : cond0_0 i)

/-- The carried key cotangents are read back as zero: the left strip. -/
theorem keyA0 (r : Fin 128) (d : Fin 64) : (kernelRun0_A.sl.v396 (F := Ideal) c arg12) (ix2 r d) = 0 := by
  unfold kernelRun0_A.sl.v396 kernelRun0_A.sl.HS0_1
  refine (cov_strip _ _ _ r d (by omega)).trans ((square_hit _ _ _ _ _ _ _).trans ?_)
  pointwise [k0_pay2]

/-- The right strip. -/
theorem keyA1 (r : Fin 128) (d : Fin 64) : (kernelRun0_A.sl.v418 c i arg1 harg1 arg2 harg2 arg3 harg3 arg4 harg4 arg5 harg5 arg6 harg6 arg7 harg7 arg8 harg8 arg12 x0 x1 x2 x3 x4 x5 x6 x7) (ix2 r d) = 0 := by
  unfold kernelRun0_A.sl.v418 kernelRun0_A.sl.HS0_2
  refine (cov_strip _ _ _ r d (by omega)).trans ((strip_miss _ _ _ _ _ r _ (by dsimp only; omega)).trans ?_)
  unfold kernelRun0_A.sl.HS0_1
  refine (square_hit _ _ _ _ _ _ _).trans ?_
  pointwise [k0_pay2]

/-- The carried value cotangents are read back as zero: the left strip. -/
theorem valueA0 (r : Fin 128) (d : Fin 64) : (kernelRun0_A.sl.v402 (F := Ideal) c arg13) (ix2 r d) = 0 := by
  unfold kernelRun0_A.sl.v402 kernelRun0_A.sl.HS1_1
  refine (cov_strip _ _ _ r d (by omega)).trans ((square_hit _ _ _ _ _ _ _).trans ?_)
  pointwise [k0_pay3]

/-- The right strip. -/
theorem valueA1 (r : Fin 128) (d : Fin 64) : (kernelRun0_A.sl.v424 c i arg1 harg1 arg2 harg2 arg3 harg3 arg4 harg4 arg7 harg7 arg8 harg8 arg13 x0 x1 x2 x3 x6 x7) (ix2 r d) = 0 := by
  unfold kernelRun0_A.sl.v424 kernelRun0_A.sl.HS1_2
  refine (cov_strip _ _ _ r d (by omega)).trans ((strip_miss _ _ _ _ _ r _ (by dsimp only; omega)).trans ?_)
  unfold kernelRun0_A.sl.HS1_1
  refine (square_hit _ _ _ _ _ _ _).trans ?_
  pointwise [k0_pay3]

/-- The bias accumulator is read back as zero: the half for the block before. -/
theorem biasA0 (h : Fin 8) (r k : Fin 128) : kernelRun0_A.sl.v438 (F := Ideal) c arg10 (ix3 h r k) = 0 := by
  unfold kernelRun0_A.sl.v438 kernelRun0_A.sl.H9_1
  refine (cov_half _ _ _ h r k (by omega)).trans ((bias_hit _ _ _ _ _ _ _ _).trans ?_)
  pointwise [k0_pay4]

/-- The half for the block itself. -/
theorem biasA1 (h : Fin 8) (r k : Fin 128) :
    kernelRun0_A.sl.v442 c i arg1 harg1 arg2 harg2 arg3 harg3 arg4 harg4 arg5 harg5 arg6 harg6 arg7 harg7 arg8 harg8 arg10 x0 x1 x2 x3 x4 x5 x6 x7 (ix3 h r k) = 0 := by
  unfold kernelRun0_A.sl.v442 kernelRun0_A.sl.H9_2
  refine (cov_half _ _ _ h r k (by omega)).trans ((half_miss _ _ _ _ _ h r _ (by dsimp only; omega)).trans ?_)
  unfold kernelRun0_A.sl.H9_1
  refine (bias_hit _ _ _ _ _ _ _ _).trans ?_
  pointwise [k0_pay4]

/-- The sink accumulator is read back as zero. -/
theorem sinkA (l : Fin 128) : kernelRun0_A.sl.v446 (F := Ideal) c arg11 (ix2 0 l) = 0 := by
  unfold kernelRun0_A.sl.v446 kernelRun0_A.sl.H10_1
  refine (cov_row _ _ _ _ l).trans ?_
  pointwise [k0_pay5]

/-- The window of the result: the block's cotangents, with nothing carried over. -/
theorem windowA (H : Point b (kernelRun0_A.sl.v3 i) x0 x1 x2 x3 x4 x5 x6 x7) :
    Window b (fun _ _ _ => 0) (fun _ _ _ => 0) (out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) := by
  have T := factsA c i arg1 harg1 arg2 harg2 arg3 harg3 arg4 harg4 arg5 harg5 arg6 harg6 arg7 harg7 arg8 harg8 x0 x1 x2 x3 x4 x5 x6 x7 H
  unfold out0_A_8 kernelRun0_A
  dsimp only
  have key := fun j r d => read_strips VO0_8 VO0_8.junk (stripVals (kernelRun0_A.sl.r_40 c i arg1 harg1 arg2 harg2 arg3 harg3 arg4 harg4 arg5 harg5 arg6 harg6 arg7 harg7 arg8 harg8 x0 x1 x2 x3 x4 x5 x6 x7)
    (kernelRun0_A.sl.r_38 c i arg1 harg1 arg2 harg2 arg3 harg3 arg4 harg4 arg5 harg5 arg6 harg6 arg7 harg7 arg8 harg8 x0 x1 x2 x3 x4 x5 x6 x7) (kernelRun0_A.sl.r_24 c i arg1 harg1 arg2 harg2 arg3 harg3 arg4 harg4 arg7 harg7 arg8 harg8 x0 x1 x2 x3 x6 x7)
    (kernelRun0_A.sl.v396 (F := Ideal) c arg12) (kernelRun0_A.sl.v418 c i arg1 harg1 arg2 harg2 arg3 harg3 arg4 harg4 arg5 harg5 arg6 harg6 arg7 harg7 arg8 harg8 arg12 x0 x1 x2 x3 x4 x5 x6 x7) (kernelRun0_A.sl.v402 (F := Ideal) c arg13) (kernelRun0_A.sl.v424 c i arg1 harg1 arg2 harg2 arg3 harg3 arg4 harg4 arg7 harg7 arg8 harg8 arg13 x0 x1 x2 x3 x6 x7)) j r d
  refine ⟨fun h r d => ?_, fun g r d => ?_, fun g r d => ?_⟩
  · refine (key ⟨h.val, by omega⟩ r d).trans ?_
    exact (stripVals_q _ _ _ ![(kernelRun0_A.sl.v396 (F := Ideal) c arg12), (kernelRun0_A.sl.v418 c i arg1 harg1 arg2 harg2 arg3 harg3 arg4 harg4 arg5 harg5 arg6 harg6 arg7 harg7 arg8 harg8 arg12 x0 x1 x2 x3 x4 x5 x6 x7)] ![(kernelRun0_A.sl.v402 (F := Ideal) c arg13), (kernelRun0_A.sl.v424 c i arg1 harg1 arg2 harg2 arg3 harg3 arg4 harg4 arg7 harg7 arg8 harg8 arg13 x0 x1 x2 x3 x6 x7)] h r d).trans (T.dq h r d)
  · refine (key ⟨8 + g.val, by omega⟩ r d).trans ?_
    refine (stripVals_k _ _ _ ![(kernelRun0_A.sl.v396 (F := Ideal) c arg12), (kernelRun0_A.sl.v418 c i arg1 harg1 arg2 harg2 arg3 harg3 arg4 harg4 arg5 harg5 arg6 harg6 arg7 harg7 arg8 harg8 arg12 x0 x1 x2 x3 x4 x5 x6 x7)] ![(kernelRun0_A.sl.v402 (F := Ideal) c arg13), (kernelRun0_A.sl.v424 c i arg1 harg1 arg2 harg2 arg3 harg3 arg4 harg4 arg7 harg7 arg8 harg8 arg13 x0 x1 x2 x3 x6 x7)] g r d).trans ?_
    clear key
    rw [T.dkc, EReal.coe_add]
    refine congrArg _ ?_
    match g with
    | ⟨0, _⟩ => exact keyA0 c arg12 r d
    | ⟨1, _⟩ => exact keyA1 c i arg1 harg1 arg2 harg2 arg3 harg3 arg4 harg4 arg5 harg5 arg6 harg6 arg7 harg7 arg8 harg8 x0 x1 x2 x3 x4 x5 x6 x7 arg12 r d
  · refine (key ⟨10 + g.val, by omega⟩ r d).trans ?_
    refine (stripVals_v _ _ _ ![(kernelRun0_A.sl.v396 (F := Ideal) c arg12), (kernelRun0_A.sl.v418 c i arg1 harg1 arg2 harg2 arg3 harg3 arg4 harg4 arg5 harg5 arg6 harg6 arg7 harg7 arg8 harg8 arg12 x0 x1 x2 x3 x4 x5 x6 x7)] ![(kernelRun0_A.sl.v402 (F := Ideal) c arg13), (kernelRun0_A.sl.v424 c i arg1 harg1 arg2 harg2 arg3 harg3 arg4 harg4 arg7 harg7 arg8 harg8 arg13 x0 x1 x2 x3 x6 x7)] g r d).trans ?_
    clear key
    rw [T.dvc, EReal.coe_add]
    refine congrArg _ ?_
    match g with
    | ⟨0, _⟩ => exact valueA0 c arg13 r d
    | ⟨1, _⟩ => exact valueA1 c i arg1 harg1 arg2 harg2 arg3 harg3 arg4 harg4 arg7 harg7 arg8 harg8 x0 x1 x2 x3 x6 x7 arg13 r d

/-- The accumulators hold the block's part, and the carried buffers the parts for the block before. -/
theorem heldA (H : Point b (kernelRun0_A.sl.v3 i) x0 x1 x2 x3 x4 x5 x6 x7) :
    Held b.dlp b.dlc b.ds b.dkp b.dvp
      (out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)
      (out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)
      (sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)
      (sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) := by
  have T := factsA c i arg1 harg1 arg2 harg2 arg3 harg3 arg4 harg4 arg5 harg5 arg6 harg6 arg7 harg7 arg8 harg8 x0 x1 x2 x3 x4 x5 x6 x7 H
  refine ⟨fun h r c => ?_, fun h r c => ?_, fun l => ?_, fun g r d => ?_, fun g r d => ?_⟩
  · unfold out0_A_9 kernelRun0_A
    dsimp only
    refine (half_miss _ _ _ _ _ h r _ (by dsimp only; omega)).trans ((half_hit _ _ _ _ _ h r c _ rfl).trans ?_)
    pointwise [k0_pay74]
    rw [T.dlp, biasA0, zero_add]
  · unfold out0_A_9 kernelRun0_A
    dsimp only
    refine (half_hit _ _ _ _ _ h r c _ rfl).trans ?_
    pointwise [k0_pay75]
    rw [T.dlc, biasA1, zero_add]
  · unfold out0_A_10 kernelRun0_A
    dsimp only
    refine (row_hit _ _ _ _ _ l).trans ?_
    pointwise [k0_pay1]
    rw [T.ds]
    unfold kernelRun0_A.sl.r_46
    pointwise [k0_pay76]
    rw [sinkA, zero_add]
  · unfold sout0_A_0 kernelRun0_A
    dsimp only
    refine (read_two_strips (e := .f32) _ _ (carryKs (kernelRun0_A.sl.r_41 c i arg1 harg1 arg2 harg2 arg3 harg3 arg4 harg4 arg5 harg5 arg6 harg6 arg7 harg7 arg8 harg8 x0 x1 x2 x3 x4 x5 x6 x7)) _ g r d).trans ?_
    rw [carryK, T.dkp]
  · unfold sout0_A_1 kernelRun0_A
    dsimp only
    refine (read_two_strips (e := .f32) _ _ (carryVs (kernelRun0_A.sl.r_29 c i arg1 harg1 arg2 harg2 arg3 harg3 arg4 harg4 arg7 harg7 arg8 harg8 x0 x1 x2 x3 x6 x7)) _ g r d).trans ?_
    rw [carryV, T.dvp]

end Cert.SwaBwdIdeal.Block
-- ==== Proof.Swa.CaseB.lean ====
/-
  A grid point after the first: what it leaves in its output windows and in the two buffers it carries on, read at an index.
-/
module

public import proofs.«01_k».proof.Proof.Swa.Strips
public import proofs.«01_k».proof.Proof.Gen.SwaBwdIdeal.Frame

@[expose] public section

set_option maxRecDepth 16384

noncomputable section

open Idealize.ShloMosaic Idealize.ShloMosaic.TcCoe Cert.Swa

namespace Cert.SwaBwdIdeal.Block

open Cert.SwaBwdIdeal Cert.SwaBwdIdeal.Gen

variable (c : Dev nD) (i : grid0.Coords) (arg1 : Memref sig .tc .vmem S128x512 .f32) (harg1 : arg1.IsWhole)
  (arg2 : Memref sig .tc .vmem S128x512 .f32) (harg2 : arg2.IsWhole) (arg3 : Memref sig .tc .vmem S128x128 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S8x128x256 .f32) (harg7 : arg7.IsWhole)
  (arg8 : Memref sig .tc .vmem S1x128 .f32) (harg8 : arg8.IsWhole)
  (x0 x1 : Vec Ideal S128x512 .f32) (x2 x3 x4 x5 : Vec Ideal S128x128 .f32) (x6 : Vec Ideal S8x128x256 .f32) (x7 : Vec Ideal S1x128 .f32)
  {b : Blk}

/-- The values the body computes are the block's cotangents. -/
theorem factsB (H : Point b (kernelRun0_B.sl.v3 i) x0 x1 x2 x3 x4 x5 x6 x7) :
    Facts b (kernelRun0_B.sl.r_40 c i arg1 harg1 arg2 harg2 arg3 harg3 arg4 harg4 arg5 harg5 arg6 harg6 arg7 harg7 arg8 harg8 x0 x1 x2 x3 x4 x5 x6 x7)
      (kernelRun0_B.sl.r_38 c i arg1 harg1 arg2 harg2 arg3 harg3 arg4 harg4 arg5 harg5 arg6 harg6 arg7 harg7 arg8 harg8 x0 x1 x2 x3 x4 x5 x6 x7)
      (kernelRun0_B.sl.r_24 c i arg1 harg1 arg2 harg2 arg3 harg3 arg4 harg4 arg7 harg7 arg8 harg8 x0 x1 x2 x3 x6 x7)
      (kernelRun0_B.sl.r_41 c i arg1 harg1 arg2 harg2 arg3 harg3 arg4 harg4 arg5 harg5 arg6 harg6 arg7 harg7 arg8 harg8 x0 x1 x2 x3 x4 x5 x6 x7)
      (kernelRun0_B.sl.r_29 c i arg1 harg1 arg2 harg2 arg3 harg3 arg4 harg4 arg7 harg7 arg8 harg8 x0 x1 x2 x3 x6 x7)
      (kernelRun0_B.sl.r_39 c i arg1 harg1 arg2 harg2 arg3 harg3 arg4 harg4 arg5 harg5 arg6 harg6 arg7 harg7 arg8 harg8 x0 x1 x2 x3 x4 x5 x6 x7)
      (kernelRun0_B.sl.r_34 c i arg1 harg1 arg2 harg2 arg3 harg3 arg4 harg4 arg5 harg5 arg6 harg6 arg7 harg7 arg8 harg8 x0 x1 x2 x3 x4 x5 x6 x7)
      (kernelRun0_B.sl.r_43 c i arg1 harg1 arg2 harg2 arg3 harg3 arg4 harg4 arg5 harg5 arg6 harg6 arg7 harg7 arg8 harg8 x0 x1 x2 x3 x4 x5 x6 x7) := by
  refine facts H rfl rfl rfl rfl rfl rfl rfl rfl rfl rfl rfl rfl rfl rfl rfl rfl rfl rfl rfl rfl rfl rfl rfl rfl rfl rfl
    rfl rfl rfl rfl rfl rfl rfl rfl ?_ ?_ ?_ ?_ ?_ ?_ ?_ ?_ ?_ ?_
  · exact fun h k d => (pay31_apply (strip8 arg1 harg1 x0) h k d).trans (load_strip arg1 harg1 x0 _ k d (by omega))
  · exact fun h k d => (pay30_apply (strip8 arg1 harg1 x0) h k d).trans (load_strip arg1 harg1 x0 _ k d (by omega))
  · exact fun h => (pay12_apply _ h).trans (congrFun (load_row arg8 harg8 x7 _) _)
  · exact load_half arg7 harg7 x6 _ (by omega)
  · intro h k d
    refine (load_half arg7 harg7 x6 _ (by omega) h k d).trans ?_
    simp only [Nat.zero_add]
  · exact fun g k d => (pay10_apply (strip2 arg6 harg6 x5) g k d).trans (load_strip arg6 harg6 x5 _ k d (by omega))
  · exact fun g k d => (pay9_apply (strip2 arg5 harg5 x4) g k d).trans (load_strip arg5 harg5 x4 _ k d (by omega))
  · exact fun g k d => (pay8_apply (strip2 arg4 harg4 x3) g k d).trans (load_strip arg4 harg4 x3 _ k d (by omega))
  · exact fun g k d => (pay7_apply (strip2 arg3 harg3 x2) g k d).trans (load_strip arg3 harg3 x2 _ k d (by omega))
  · exact fun h k d => (pay6_apply (strip8 arg2 harg2 x1) h k d).trans (load_strip arg2 harg2 x1 _ k d (by omega))

variable (arg9 : Memref sig .tc .vmem S128x768 .bf16) (harg9 : arg9.IsWhole) (arg10 : Memref sig .tc .vmem S8x128x256 .f32) (harg10 : arg10.IsWhole)
  (arg11 : Memref sig .tc .vmem S1x128 .f32) (harg11 : arg11.IsWhole) (arg12 : Memref sig .tc .vmem S128x128 .f32) (harg12 : arg12.IsWhole)
  (arg13 : Memref sig .tc .vmem S128x128 .f32) (harg13 : arg13.IsWhole) (hc0 : ¬cond0_0 i)
  (xo9 : Vec Ideal S8x128x256 .f32) (xo10 : Vec Ideal S1x128 .f32) (xs0 xs1 : Vec Ideal S128x128 .f32)
  {Bp Bc : Fin 8 → Fin 128 → Fin 128 → ℝ} {S : Fin 8 → ℝ} {K V : Fin 2 → Fin 128 → Fin 64 → ℝ}

/-- The window of the result: the block's cotangents, with what the point before carried over. -/
theorem windowB (H : Point b (kernelRun0_B.sl.v3 i) x0 x1 x2 x3 x4 x5 x6 x7) (P : Held Bp Bc S K V xo9 xo10 xs0 xs1) :
    Window b K V (out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 xs1) := by
  have T := factsB c i arg1 harg1 arg2 harg2 arg3 harg3 arg4 harg4 arg5 harg5 arg6 harg6 arg7 harg7 arg8 harg8 x0 x1 x2 x3 x4 x5 x6 x7 H
  unfold out0_B_8 kernelRun0_B
  dsimp only
  have key := fun j r d => read_strips VO0_8 VO0_8.junk (stripVals (kernelRun0_B.sl.r_40 c i arg1 harg1 arg2 harg2 arg3 harg3 arg4 harg4 arg5 harg5 arg6 harg6 arg7 harg7 arg8 harg8 x0 x1 x2 x3 x4 x5 x6 x7)
    (kernelRun0_B.sl.r_38 c i arg1 harg1 arg2 harg2 arg3 harg3 arg4 harg4 arg5 harg5 arg6 harg6 arg7 harg7 arg8 harg8 x0 x1 x2 x3 x4 x5 x6 x7) (kernelRun0_B.sl.r_24 c i arg1 harg1 arg2 harg2 arg3 harg3 arg4 harg4 arg7 harg7 arg8 harg8 x0 x1 x2 x3 x6 x7)
    (strip2 arg12 harg12 xs0 0) (strip2 arg12 harg12 xs0 1) (strip2 arg13 harg13 xs1 0) (strip2 arg13 harg13 xs1 1)) j r d
  refine ⟨fun h r d => ?_, fun g r d => ?_, fun g r d => ?_⟩
  · refine (key ⟨h.val, by omega⟩ r d).trans ?_
    rw [stripVals_q, T.dq]
  · refine (key ⟨8 + g.val, by omega⟩ r d).trans ?_
    rw [stripVals_k, T.dkc, strip2_apply, P.k, EReal.coe_add]
  · refine (key ⟨10 + g.val, by omega⟩ r d).trans ?_
    rw [stripVals_v, T.dvc, strip2_apply, P.v, EReal.coe_add]

/-- The accumulators with the block's part added, and the parts for the block before. -/
theorem heldB (H : Point b (kernelRun0_B.sl.v3 i) x0 x1 x2 x3 x4 x5 x6 x7) (P : Held Bp Bc S K V xo9 xo10 xs0 xs1) :
    Held (fun h r c => Bp h r c + b.dlp h r c) (fun h r c => Bc h r c + b.dlc h r c) (fun h => S h + b.ds h) b.dkp b.dvp
      (out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 xs1)
      (out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 xs1)
      (sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 xs1)
      (sout0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 xs1) := by
  have T := factsB c i arg1 harg1 arg2 harg2 arg3 harg3 arg4 harg4 arg5 harg5 arg6 harg6 arg7 harg7 arg8 harg8 x0 x1 x2 x3 x4 x5 x6 x7 H
  refine ⟨fun h r c => ?_, fun h r c => ?_, fun l => ?_, fun g r d => ?_, fun g r d => ?_⟩
  · unfold out0_B_9 kernelRun0_B
    dsimp only
    refine (half_miss _ _ _ _ _ h r _ (by dsimp only; omega)).trans ((half_hit _ _ _ _ _ h r c _ rfl).trans ?_)
    pointwise [k0_pay74]
    rw [T.dlp, load_half _ _ _ _ (by omega), P.bp, EReal.coe_add]
  · unfold out0_B_9 kernelRun0_B
    dsimp only
    refine (half_hit _ _ _ _ _ h r c _ rfl).trans ?_
    unfold kernelRun0_B.sl.v442
    pointwise [k0_pay75]
    rw [T.dlc, load_half _ _ _ _ (by omega), P.bc, EReal.coe_add]
  · unfold out0_B_10 kernelRun0_B
    dsimp only
    refine (row_hit _ _ _ _ _ l).trans ?_
    pointwise [k0_pay1]
    rw [T.ds]
    unfold kernelRun0_B.sl.r_46
    pointwise [k0_pay76]
    rw [load_row, P.s, ← EReal.coe_add]
    split_ifs <;> simp
  · unfold sout0_B_0 kernelRun0_B
    dsimp only
    refine (read_two_strips (e := .f32) _ _ (carryKs (kernelRun0_B.sl.r_41 c i arg1 harg1 arg2 harg2 arg3 harg3 arg4 harg4 arg5 harg5 arg6 harg6 arg7 harg7 arg8 harg8 x0 x1 x2 x3 x4 x5 x6 x7)) [] g r d).trans ?_
    rw [carryK, T.dkp]
  · unfold sout0_B_1 kernelRun0_B
    dsimp only
    refine (read_two_strips (e := .f32) _ _ (carryVs (kernelRun0_B.sl.r_29 c i arg1 harg1 arg2 harg2 arg3 harg3 arg4 harg4 arg7 harg7 arg8 harg8 x0 x1 x2 x3 x6 x7)) [] g r d).trans ?_
    rw [carryV, T.dvp]

end Cert.SwaBwdIdeal.Block
-- ==== Proof.Swa.Points.lean ====
/-
  The grid's points in order, and the arrays they leave: by induction the accumulators hold the sums over the blocks done so
  far, and each point adds to its block what the point before left over for it.
-/
module

public import proofs.«01_k».proof.Proof.Swa.Windows
public import proofs.«01_k».proof.Proof.Swa.CaseA
public import proofs.«01_k».proof.Proof.Swa.CaseB

@[expose] public section

set_option maxRecDepth 16384

noncomputable section

namespace Cert.SwaBwdIdeal.Block

open Idealize.ShloMosaic Idealize.ShloMosaic.TcCoe
open Cert.SwaBwdIdeal Cert.SwaBwdIdeal.Gen Cert.Swa

variable (m : (ℓ : Loc nD τ sig) → Buf (Elt Ideal) ℓ) (A : Arrays) (c : Dev nD)

/-- The launched arguments hold the real arrays. -/
abbrev Launched : Prop :=
  A.Are (m ((c : Thread nD τ).loc main_arg0)) (m ((c : Thread nD τ).loc main_arg1)) (m ((c : Thread nD τ).loc main_arg2)) (m ((c : Thread nD τ).loc main_arg3))

variable {m A c}

/-- What is held after point `n`: the sums over the blocks `31` down to `31 - n`, and what is left for the block before. -/
abbrev HeldAt (A : Arrays) (n : ℕ) := Held (fun h r k => ∑ i ∈ Finset.range (n + 1), (A.blk (31 - i)).dlp h r k)
  (fun h r k => ∑ i ∈ Finset.range (n + 1), (A.blk (31 - i)).dlc h r k) (fun h => ∑ i ∈ Finset.range (n + 1), (A.blk (31 - i)).ds h)
  (A.blk (31 - n)).dkp (A.blk (31 - n)).dvp

/-- The first point. -/
theorem first_held (H : Launched m A c) (t : Fin cfg0.N) (h0 : t.val = 0) :
    HeldAt A t.val (outsAt0 m c t.val t.isLt).2.1 (outsAt0 m c t.val t.isLt).2.2.1 (outsAt0 m c t.val t.isLt).2.2.2.1
      (outsAt0 m c t.val t.isLt).2.2.2.2 := by
  have h32 : t.val % 32 = 0 := by omega
  have P := heldA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (ms0_8 t) (hs0_8 t) (ms0_9 t) (hs0_9 t) (ms0_10 t) (hs0_10 t) scM0_0 (Memref.isWhole_whole _) scM0_1 (Memref.isWhole_whole _) ((hcond0_0 t).mpr h32) (point m A c t H)
  rw [outsAt0_A m c t h32]
  simpa only [HeldAt, h0, Nat.zero_add, Finset.sum_range_one, Nat.sub_zero] using P

/-- A later point. -/
theorem next_held (H : Launched m A c) (t : Fin cfg0.N) (n : ℕ) (hn : n < cfg0.N) (ht : t.val = n + 1)
    (P : HeldAt A n (outsAt0 m c n hn).2.1 (outsAt0 m c n hn).2.2.1 (outsAt0 m c n hn).2.2.2.1 (outsAt0 m c n hn).2.2.2.2) :
    HeldAt A t.val (outsAt0 m c t.val t.isLt).2.1 (outsAt0 m c t.val t.isLt).2.2.1 (outsAt0 m c t.val t.isLt).2.2.2.1
      (outsAt0 m c t.val t.isLt).2.2.2.2 := by
  have h32 : ¬t.val % 32 = 0 := by have := t.isLt; have : cfg0.N = 32 := N_0; omega
  obtain rfl : n = t.val - 1 := by omega
  have Q := heldB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (ms0_8 t) (hs0_8 t) (ms0_9 t) (hs0_9 t) (ms0_10 t) (hs0_10 t) scM0_0 (Memref.isWhole_whole _) scM0_1 (Memref.isWhole_whole _) (fun h => h32 ((hcond0_0 t).mp h)) _ _ _ _ (point m A c t H) P
  rw [outsAt0_B m c t h32]
  have e : t.val - 1 + 1 = t.val := by omega
  simpa only [HeldAt, e, Finset.sum_range_succ _ t.val] using Q

/-- By induction, every point. -/
theorem held_at (H : Launched m A c) : ∀ (n : ℕ) (hn : n < cfg0.N),
    HeldAt A n (outsAt0 m c n hn).2.1 (outsAt0 m c n hn).2.2.1 (outsAt0 m c n hn).2.2.2.1 (outsAt0 m c n hn).2.2.2.2
  | 0, hn => first_held H ⟨0, hn⟩ rfl
  | n + 1, hn => next_held H ⟨n + 1, hn⟩ n (Nat.lt_of_succ_lt hn) rfl (held_at H n (Nat.lt_of_succ_lt hn))

/-- The window of results each point leaves: its block's cotangents and what the block after adds to them. -/
theorem window_at (H : Launched m A c) (t : Fin cfg0.N) :
    Window (A.blk (31 - t.val)) (A.nextK (31 - t.val)) (A.nextV (31 - t.val)) (outsAt0 m c t.val t.isLt).1 := by
  have hN := t.isLt
  have h32' : cfg0.N = 32 := N_0
  by_cases h0 : t.val = 0
  · have h32 : t.val % 32 = 0 := by omega
    have P := windowA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (ms0_8 t) (hs0_8 t) (ms0_9 t) (hs0_9 t) (ms0_10 t) (hs0_10 t) scM0_0 (Memref.isWhole_whole _) scM0_1 (Memref.isWhole_whole _) ((hcond0_0 t).mpr h32) (point m A c t H)
    rw [outsAt0_A m c t h32]
    have ek : A.nextK (31 - t.val) = fun _ _ _ => 0 := by funext g r d; exact if_neg (by omega)
    have ev : A.nextV (31 - t.val) = fun _ _ _ => 0 := by funext g r d; exact if_neg (by omega)
    rw [ek, ev]
    exact P
  · have h32 : ¬t.val % 32 = 0 := by omega
    have Q := windowB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (ms0_8 t) (hs0_8 t) (ms0_9 t) (hs0_9 t) (ms0_10 t) (hs0_10 t) scM0_0 (Memref.isWhole_whole _) scM0_1 (Memref.isWhole_whole _) (fun h => h32 ((hcond0_0 t).mp h)) _ _ _ _ (point m A c t H)
      (held_at H (t.val - 1) (Nat.lt_of_le_of_lt (Nat.sub_le _ _) t.isLt))
    rw [outsAt0_B m c t h32]
    have e : 31 - (t.val - 1) = 31 - t.val + 1 := by omega
    have ek : A.nextK (31 - t.val) = (A.blk (31 - (t.val - 1))).dkp := by funext g r d; rw [e]; exact if_pos (by omega)
    have ev : A.nextV (31 - t.val) = (A.blk (31 - (t.val - 1))).dvp := by funext g r d; rw [e]; exact if_pos (by omega)
    rw [ek, ev]
    exact Q

end Cert.SwaBwdIdeal.Block
-- ==== Proof.Swa.Final.lean ====
/-
  The kernel's three results: every block's window in the first, the accumulators after the last point in the other two.
-/
module

public import proofs.«01_k».proof.Proof.Swa.Points

@[expose] public section

set_option maxRecDepth 16384

noncomputable section

namespace Cert.SwaBwdIdeal.Block

open Idealize.ShloMosaic Idealize.ShloMosaic.TcCoe Idealize.SL.Sem
open Cert.SwaBwdIdeal Cert.SwaBwdIdeal.Gen Cert.Swa

variable {m : (ℓ : Loc nD τ sig) → Buf (Elt Ideal) ℓ} {A : Arrays} {c : Dev nD}

/-- The last point. -/
abbrev lastPoint : Fin cfg0.N := ⟨31, by rw [show cfg0.N = 32 from N_0]; decide⟩

theorem index8 : ∀ t : Fin cfg0.N, win0_8.index t 0 = 31 - t.val ∧ win0_8.index t 1 = 0 := by decide +kernel

/-- An entry of the first result is one of the window its block's point left. -/
theorem entry_window (t : Fin cfg0.N) (r : Fin 128) (k : Fin 768) :
    (dats m 0 c).arrAt 8 cfg0.N (ix2 (n0 := 4096) (n1 := 768) ⟨128 * (31 - t.val) + r.val, by omega⟩ k) = (outsAt0 m c t.val t.isLt).1 (ix2 r k) := by
  have P := congrFun (Value.blocks8 m c t (flush0_8 t)) (ix2 (n0 := 128) (n1 := 768) r k)
  rw [Value.flushed8] at P
  refine Eq.trans ?_ (P.trans ?_)
  · rw [View.read_apply]
    show _ = (dats m 0 c).arrAt 8 cfg0.N _
    congr 1
    funext a
    apply Fin.ext
    match a with
    | ⟨0, _⟩ => show 128 * (31 - t.val) + r.val = win0_8.index t 0 * 128 + 1 * r.val; rw [(index8 t).1]; omega
    | ⟨1, _⟩ => show k.val = win0_8.index t 1 * 768 + 1 * k.val; rw [(index8 t).2]; omega
  · rfl

/-- The second result is what the last point left in its window. -/
theorem final9 : (dats m 0 c).arrAt 9 cfg0.N = (outsAt0 m c lastPoint.val lastPoint.isLt).2.1 :=
  (dats m 0 c).arrAt_eq_of_cover 9 (outsAt0 m c lastPoint.val lastPoint.isLt).2.1 (fun t hf => by
    have hN : cfg0.N = 32 := N_0
    have h3 : t.val = 31 := by have := (flush0_9 t).mp hf; have := t.isLt; omega
    obtain rfl : t = lastPoint := Fin.ext h3
    show (cfg0.win 9).cut (grid0.coords lastPoint) ((dats m 0 c).after 9 lastPoint) = _
    rw [after0_9]
    have hz' : (fun a => win0_9.index lastPoint a * main_v2_1.ty.shape.size a) = fun _ => 0 := funext fun a => by fin_cases a <;> decide
    exact (Memref.read_access_unit_zero (Elt Ideal) main_v2_1 hz' (fun a => by rw [congrFun hz' a]; simp) (outsAt0 m c lastPoint.val lastPoint.isLt).2.1).symm) fun i =>
    ⟨lastPoint, (flush0_9 lastPoint).mpr rfl, by
      show i ∈ ((View.whole main_v2_1).slice (win0_9.rect lastPoint)).set
      rw [View.set_slice_whole, Rect.mem_set_unit]
      intro a
      have h0 := (i 0).isLt
      have h1 := (i 1).isLt
      have h2 := (i 2).isLt
      match a with
      | ⟨0, _⟩ => exact ⟨Nat.zero_le _, h0⟩
      | ⟨1, _⟩ => exact ⟨Nat.zero_le _, h1⟩
      | ⟨2, _⟩ => exact ⟨Nat.zero_le _, h2⟩⟩

/-- So is the third. -/
theorem final10 : (dats m 0 c).arrAt 10 cfg0.N = (outsAt0 m c lastPoint.val lastPoint.isLt).2.2.1 :=
  (dats m 0 c).arrAt_eq_of_cover 10 (outsAt0 m c lastPoint.val lastPoint.isLt).2.2.1 (fun t hf => by
    have hN : cfg0.N = 32 := N_0
    have h3 : t.val = 31 := by have := (flush0_10 t).mp hf; have := t.isLt; omega
    obtain rfl : t = lastPoint := Fin.ext h3
    show (cfg0.win 10).cut (grid0.coords lastPoint) ((dats m 0 c).after 10 lastPoint) = _
    rw [after0_10]
    have hz' : (fun a => win0_10.index lastPoint a * main_v2_2.ty.shape.size a) = fun _ => 0 := funext fun a => by fin_cases a <;> decide
    exact (Memref.read_access_unit_zero (Elt Ideal) main_v2_2 hz' (fun a => by rw [congrFun hz' a]; simp) (outsAt0 m c lastPoint.val lastPoint.isLt).2.2.1).symm) fun i =>
    ⟨lastPoint, (flush0_10 lastPoint).mpr rfl, by
      show i ∈ ((View.whole main_v2_2).slice (win0_10.rect lastPoint)).set
      rw [View.set_slice_whole, Rect.mem_set_unit]
      intro a
      have h0 := (i 0).isLt
      have h1 := (i 1).isLt
      match a with
      | ⟨0, _⟩ => exact ⟨Nat.zero_le _, h0⟩
      | ⟨1, _⟩ => exact ⟨Nat.zero_le _, h1⟩⟩

/-- The three results of the kernel. -/
theorem results (H : Launched m A c) :
    A.Results ((dats m 0 c).arrAt 8 cfg0.N) ((dats m 0 c).arrAt 9 cfg0.N) ((dats m 0 c).arrAt 10 cfg0.N) := by
  have hN : cfg0.N = 32 := N_0
  have L := held_at H lastPoint.val lastPoint.isLt
  have refl : ∀ f : ℕ → ℝ, (∑ i ∈ Finset.range (31 + 1), f (31 - i)) = ∑ n ∈ Finset.range 32, f n := fun f => Finset.sum_range_reflect f 32
  have W : ∀ n : Fin 32, ∃ t : Fin cfg0.N, 31 - t.val = n.val := fun n => ⟨⟨31 - n.val, by omega⟩, by dsimp only; omega⟩
  refine ⟨fun n r h d => ?_, fun n r g d => ?_, fun n r g d => ?_, fun h r k => ?_, fun h r k => ?_, fun l => ?_⟩
  · obtain ⟨t, ht⟩ := W n
    have P := (window_at H t).dq h r d
    have E := entry_window (m := m) (c := c) t r ⟨64 * h.val + d.val, by omega⟩
    simp only [ht] at P E
    exact E.trans P
  · obtain ⟨t, ht⟩ := W n
    have P := (window_at H t).dk g r d
    have E := entry_window (m := m) (c := c) t r ⟨64 * (8 + g.val) + d.val, by omega⟩
    simp only [ht] at P E
    exact E.trans P
  · obtain ⟨t, ht⟩ := W n
    have P := (window_at H t).dv g r d
    have E := entry_window (m := m) (c := c) t r ⟨64 * (10 + g.val) + d.val, by omega⟩
    simp only [ht] at P E
    exact E.trans P
  · rw [final9, ← refl fun n => (A.blk n).dlp h r k]
    exact (congrArg _ (congrArg (ix3 h r) (Fin.ext (Nat.zero_add k.val).symm))).trans (L.bp h r k)
  · rw [final9, ← refl fun n => (A.blk n).dlc h r k]
    exact L.bc h r k
  · rw [final10]
    refine (L.s l).trans ?_
    split_ifs with h
    · rw [← refl fun n => (A.blk n).ds ⟨l.val, h⟩]
    · rfl

end Cert.SwaBwdIdeal.Block
-- ==== Proof.Swa.Half.lean ====
/-
  A band of 256 positions is the block before (128 positions) and the block itself (128 positions); the weights of a row of
  such a band under a shift of the logits.
-/
module

public import proofs.«01_k».proof.Proof.Swa.Arrays
public import proofs.«01_k».proof.Proof.Swa.Coe

@[expose] public section

noncomputable section

namespace Cert.Swa

open Idealize.ShloMosaic

/-- The band whose first half is `p` and whose second is `c`. -/
def half {α : Type} (p c : Fin 128 → α) (k : Fin 256) : α := if h : k.val < 128 then p ⟨k.val, h⟩ else c ⟨k.val - 128, by omega⟩

theorem half_prev {α : Type} (p c : Fin 128 → α) (k : Fin 128) : half p c ⟨k.val, by omega⟩ = p k := dif_pos k.isLt
theorem half_cur {α : Type} (p c : Fin 128 → α) (k : Fin 128) : half p c ⟨128 + k.val, by omega⟩ = c k :=
  (dif_neg (by dsimp only; omega)).trans (congrArg c (Fin.ext (by dsimp only; omega)))

/-- A sum over the band is the sums over its two halves. -/
theorem sum_half (p c : Fin 128 → ℝ) : ∑ k, half p c k = (∑ k, p k) + ∑ k, c k := by
  refine (Fin.sum_univ_add (a := 128) (b := 128) (half p c)).trans ?_
  exact congrArg₂ (· + ·) (Finset.sum_congr rfl fun k _ => half_prev p c k) (Finset.sum_congr rfl fun k _ => half_cur p c k)

/-- A statement holds of two bands at every position when it holds of their halves. -/
theorem half_ind {α : Type} {P : α → Fin 256 → Prop} {p c : Fin 128 → α} (hp : ∀ k, P (p k) ⟨k.val, by omega⟩)
    (hc : ∀ k, P (c k) ⟨128 + k.val, by omega⟩) (k : Fin 256) : P (half p c k) k := by
  by_cases h : k.val < 128
  · have e : k = ⟨(⟨k.val, h⟩ : Fin 128).val, by dsimp only; omega⟩ := rfl
    rw [e, half_prev]
    exact hp _
  · have e : k = ⟨128 + (⟨k.val - 128, by omega⟩ : Fin 128).val, by dsimp only; omega⟩ := Fin.ext (by dsimp only; omega)
    rw [e, half_cur]
    exact hc _

/-- The block with zeros for the keys and values before the first block. -/
def Arrays.edge (A : Arrays) (n : ℕ) : Blk :=
  { A.blk n with
    kp := fun g c d => if n < 1 then 0 else (A.blk n).kp g c d
    vp := fun g c d => if n < 1 then 0 else (A.blk n).vp g c d }

section edge

variable (A : Arrays) (n : ℕ)

theorem edge_wp (h : Fin 8) (r c : Fin 128) : (A.edge n).wp h r c = (A.blk n).wp h r c := by
  by_cases hn : n < 1
  · have e : ¬ 0 < n := by omega
    simp [Blk.wp, Arrays.edge, Arrays.blk, e]
  · simp [Blk.wp, Blk.lp, Arrays.edge, hn]
theorem edge_wc (h : Fin 8) (r c : Fin 128) : (A.edge n).wc h r c = (A.blk n).wc h r c := rfl
theorem edge_Z (h : Fin 8) (r : Fin 128) : (A.edge n).Z h r = (A.blk n).Z h r := by
  unfold Blk.Z
  simp only [edge_wp, edge_wc]
  rfl
/-- Where there is no block before, its positions weigh nothing, whatever they hold. -/
theorem edge_ap_wp (h : Fin 8) (r c : Fin 128) : (A.edge n).ap h r c * (A.edge n).wp h r c = (A.blk n).ap h r c * (A.blk n).wp h r c := by
  rw [edge_wp]
  by_cases hn : n < 1
  · have e : ¬ 0 < n := by omega
    simp [Blk.wp, Arrays.blk, e]
  · simp [Blk.ap, Arrays.edge, hn]
theorem edge_S (h : Fin 8) (r : Fin 128) : (A.edge n).S h r = (A.blk n).S h r := by
  unfold Blk.S
  simp only [edge_ap_wp, edge_wc]
  rfl
theorem edge_dlp (h : Fin 8) (r c : Fin 128) : (A.edge n).dlp h r c = (A.blk n).dlp h r c := by
  have e := edge_ap_wp A n h r c
  unfold Blk.dlp
  rw [edge_S, edge_Z, sub_mul, div_mul_eq_mul_div, e, edge_wp]
  ring
theorem edge_dlc (h : Fin 8) (r c : Fin 128) : (A.edge n).dlc h r c = (A.blk n).dlc h r c := by
  unfold Blk.dlc
  rw [edge_S, edge_Z, edge_wc]
  rfl
theorem edge_dq (h : Fin 8) (r : Fin 128) (d : Fin 64) : (A.edge n).dq h r d = (A.blk n).dq h r d := by
  unfold Blk.dq
  simp only [edge_dlp, edge_dlc]
  refine congrArg₂ (· + ·) rfl (Finset.sum_congr rfl fun c _ => ?_)
  by_cases hn : n < 1
  · have e : ¬ 0 < n := by omega
    simp [Blk.dlp, Blk.wp, Arrays.blk, e]
  · simp [Arrays.edge, hn]
theorem edge_dkp (g : Fin 2) (c : Fin 128) (d : Fin 64) : (A.edge n).dkp g c d = (A.blk n).dkp g c d := by
  unfold Blk.dkp; simp only [edge_dlp]; rfl
theorem edge_dkc (g : Fin 2) (c : Fin 128) (d : Fin 64) : (A.edge n).dkc g c d = (A.blk n).dkc g c d := by
  unfold Blk.dkc; simp only [edge_dlc]; rfl
theorem edge_dvp (g : Fin 2) (c : Fin 128) (d : Fin 64) : (A.edge n).dvp g c d = (A.blk n).dvp g c d := by
  unfold Blk.dvp; simp only [edge_wp, edge_Z]; rfl
theorem edge_dvc (g : Fin 2) (c : Fin 128) (d : Fin 64) : (A.edge n).dvc g c d = (A.blk n).dvc g c d := by
  unfold Blk.dvc; simp only [edge_wc, edge_Z]; rfl
theorem edge_ds (h : Fin 8) : (A.edge n).ds h = (A.blk n).ds h := by
  unfold Blk.ds; simp only [edge_S, edge_Z]; rfl

end edge

namespace Blk

variable (b : Blk)

/-- Which positions of the band a row sees. -/
def seen (r : Fin 128) : Fin 256 → Bool := half (fun c => decide (r.val < c.val) && b.hp) (fun c => decide (c.val ≤ r.val))
/-- A row's logits over the band. -/
def l (h : Fin 8) (r : Fin 128) : Fin 256 → ℝ := half (b.lp h r) (b.lc h r)
/-- A row's unnormalised weights over the band. -/
def w (h : Fin 8) (r : Fin 128) : Fin 256 → ℝ := half (b.wp h r) (b.wc h r)
/-- The cotangents of a row's probabilities over the band. -/
def a (h : Fin 8) (r : Fin 128) : Fin 256 → ℝ := half (b.ap h r) (b.ac h r)
/-- The cotangents of a row's logits over the band. -/
def dl (h : Fin 8) (r : Fin 128) : Fin 256 → ℝ := half (b.dlp h r) (b.dlc h r)

theorem w_eq (h : Fin 8) (r : Fin 128) (k : Fin 256) : b.w h r k = if b.seen r k then Real.exp (b.l h r k) else 0 := by
  unfold w l seen
  by_cases hk : k.val < 128
  · simp [half, hk, wp]
  · simp [half, hk, wc]
theorem Z_eq (h : Fin 8) (r : Fin 128) : b.Z h r = (∑ k, b.w h r k) + Real.exp (b.s h) := by
  unfold Z w; rw [sum_half]
theorem S_eq (h : Fin 8) (r : Fin 128) : b.S h r = ∑ k, b.a h r k * b.w h r k := by
  have e : ∀ k, b.a h r k * b.w h r k = half (fun c => b.ap h r c * b.wp h r c) (fun c => b.ac h r c * b.wc h r c) k := fun k => by
    unfold a w half; split_ifs <;> rfl
  rw [Finset.sum_congr rfl fun k _ => e k, sum_half, S]
theorem dl_eq (h : Fin 8) (r : Fin 128) (k : Fin 256) : b.dl h r k = (b.a h r k / b.Z h r - b.S h r / b.Z h r ^ 2) * b.w h r k := by
  unfold dl a w half; split_ifs <;> rfl
theorem dl_unseen (h : Fin 8) (r : Fin 128) (k : Fin 256) (u : b.seen r k = false) : b.dl h r k = 0 := by
  rw [dl_eq, w_eq, u]; simp
/-- The cotangents of a row's logits and of its sink sum to zero. -/
theorem sum_dl (h : Fin 8) (r : Fin 128) : (∑ k, b.dl h r k) + -(b.S h r / b.Z h r ^ 2) * Real.exp (b.s h) = 0 := by
  have hz := b.Z_ne h r
  have e : ∀ k, b.dl h r k = b.a h r k * b.w h r k / b.Z h r - b.S h r / b.Z h r ^ 2 * b.w h r k := fun k => by rw [dl_eq]; ring
  rw [Finset.sum_congr rfl fun k _ => e k, Finset.sum_sub_distrib, ← Finset.sum_div, ← Finset.mul_sum, ← S_eq]
  have e2 : (∑ k, b.w h r k) = b.Z h r - Real.exp (b.s h) := by rw [Z_eq]; ring
  rw [e2]; field_simp; ring

end Blk

/-- A logit less a real shift, exponentiated: the weight scaled, and nothing where nothing is seen. -/
theorem exp_shift (u : Bool) (l M : ℝ) :
    Ideal.exp ((if u then (l : EReal) else ⊥) - (M : EReal)) = ((Real.exp (-M) * (if u then Real.exp l else 0) : ℝ) : EReal) := by
  cases u
  · simp only [Bool.false_eq_true, if_false, mul_zero, EReal.bot_sub, EReal.coe_zero]
    rfl
  · simp only [if_true]
    rw [← EReal.coe_sub, Ideal.exp_coe, ← Real.exp_add, sub_eq_add_neg, add_comm]

end Cert.Swa
-- ==== Proof.Swa.RefBand.lean ====
/-
  The reference's first steps: the blocks of queries, the bands of keys and values, the logits and which of them are seen.
-/
module

public import proofs.«01_k».proof.Proof.Swa.Half
public import proofs.«01_k».proof.Proof.Gen.SwaRefIdeal.Read
public import Idealize.ShloMosaic.Lib.Pointwise

@[expose] public section

set_option maxRecDepth 16384

noncomputable section

open Idealize.ShloMosaic Cert.Swa

namespace Cert.SwaRefIdeal.Chain

open Cert.SwaRefIdeal Cert.SwaRefIdeal.Gen Cert.SwaRefIdeal.Read

variable {x0 : (⟨S4096x1024, .f32⟩ : BufTy).Contents (Elt Ideal)} {x1 : (⟨S4096x3072, .f32⟩ : BufTy).Contents (Elt Ideal)}
  {x2 : (⟨S8x128x256, .f32⟩ : BufTy).Contents (Elt Ideal)} {x3 : (⟨S8, .f32⟩ : BufTy).Contents (Elt Ideal)}
variable {A : Arrays} (H : A.Are x0 x1 x2 x3)

theorem grp_head (g : Fin 2) (j : Fin 4) : grp (head g j) = g := Fin.ext (by simp only [grp, head]; omega)

/-- A difference of small positions as words is the difference. -/
theorem word_sub (a b : ℕ) : BitVec.ofNat 32 a - BitVec.ofNat 32 b = BitVec.ofInt 32 ((a : ℤ) - b) := by
  apply BitVec.eq_of_toInt_eq
  rw [BitVec.toInt_sub, BitVec.toInt_ofInt, BitVec.toInt_ofNat', BitVec.toInt_ofNat']
  simp only [Int.bmod_sub_bmod, Int.sub_bmod_bmod]

/-- A small integer read back from its word. -/
theorem toInt_word (z : ℤ) (h1 : -2147483648 ≤ z) (h2 : z < 2147483648) : (BitVec.ofInt 32 z).toInt = z := by
  rw [BitVec.toInt_ofInt]
  exact Int.bmod_eq_of_le (by norm_num; omega) (by norm_num; omega)

/-- Which positions of the band a row sees, as the reference's words say it. -/
theorem seen_word (n : Fin 32) (r : Fin 128) (k : Fin 256) :
    IntOp.andi
      (IntOp.andi
        (IntOp.cmpi .sge (IntOp.subi (IntOp.addi (128#32) (BitVec.ofNat 32 r.val)) (BitVec.ofNat 32 k.val)) 0#32)
        (IntOp.cmpi .slt (IntOp.subi (IntOp.addi (128#32) (BitVec.ofNat 32 r.val)) (BitVec.ofNat 32 k.val)) 128#32))
      (IntOp.cmpi .sge (IntOp.addi (IntOp.subi (IntOp.muli (BitVec.ofNat 32 n.val) 128#32) 128#32) (BitVec.ofNat 32 k.val)) 0#32)
      = BitVec.ofBool ((A.edge n.val).seen r k) := by
  have e1 : IntOp.subi (IntOp.addi (128#32) (BitVec.ofNat 32 r.val)) (BitVec.ofNat 32 k.val) = BitVec.ofInt 32 (((128 + r.val : ℕ) : ℤ) - (k.val : ℤ)) := by
    rw [← word_sub, BitVec.ofNat_add]; rfl
  have e2 : IntOp.addi (IntOp.subi (IntOp.muli (BitVec.ofNat 32 n.val) 128#32) 128#32) (BitVec.ofNat 32 k.val)
      = BitVec.ofInt 32 (((n.val * 128 + k.val : ℕ) : ℤ) - ((128 : ℕ) : ℤ)) := by
    rw [← word_sub, BitVec.ofNat_add, BitVec.ofNat_mul]
    show BitVec.ofNat 32 n.val * 128#32 - 128#32 + BitVec.ofNat 32 k.val = _
    rw [BitVec.sub_add_comm]
  rw [e1, e2]
  simp only [IntOp.cmpi, IntOp.andi, BitVec.sle, BitVec.slt]
  rw [toInt_word _ (by omega) (by omega), toInt_word _ (by omega) (by omega)]
  have hr := r.isLt
  have hk := k.isLt
  have hn := n.isLt
  simp only [show (0#32).toInt = 0 from rfl, show (128#32).toInt = 128 from rfl]
  rw [BitVec.ofBool_and_ofBool, BitVec.ofBool_and_ofBool]
  congr 1
  unfold Blk.seen half
  by_cases h : k.val < 128
  · rw [dif_pos h]
    show _ = (decide _ && decide _)
    rw [Bool.eq_iff_iff]
    simp only [Bool.and_eq_true, decide_eq_true_eq]
    omega
  · rw [dif_neg h, Bool.eq_iff_iff]
    simp only [Bool.and_eq_true, decide_eq_true_eq]
    omega

theorem mask (n : Fin 32) (r : Fin 128) (k : Fin 256) (g : Fin 2) (j : Fin 4) :
    val_main_v55_1 (F := Ideal) (ix5 n g j r k) = BitVec.ofBool ((A.edge n.val).seen r k) := by
  refine Eq.trans ?_ (seen_word (A := A) n r k)
  pointwise [val_main_v55_1, val_main_v51, val_main_v50, val_main_v49, val_main_v48, val_main_v47, val_main_v46, val_main_v45, val_main_c_8,
    val_main_v44, val_main_v43, val_main_v42, val_main_c_7, val_main_v41, val_main_v40, val_main_c_6, val_main_v39, val_main_v38, val_main_v37,
    val_main_v36, val_main_v35, val_main_v34, val_main_c_5, val_main_v33, val_main_v32, val_main_c_4, val_main_v31, val_main_v30, val_main_v28,
    val_main_v27, val_main_v26, val_main_v25, val_main_v24, val_main_c, val_main_v23, val_main_v22, val_main_v21, val_main_v20]

include H

theorem queries (n : Fin 32) (r : Fin 128) (g : Fin 2) (j : Fin 4) (d : Fin 64) :
    val_main_v3 x1 (ix5 n r g j d) = ((A.edge n.val).q (head g j) r d : EReal) := by
  pointwise [val_main_v3, val_main_v0]
  refine (H.X _ _).trans (congrArg _ ?_)
  show A.X _ _ = A.X _ _
  congr 1
  · dsimp only; omega
  · simp only [head]; omega

theorem cotangent (n : Fin 32) (r : Fin 128) (g : Fin 2) (j : Fin 4) (d : Fin 64) :
    val_main_v104 x0 (ix5 n g d j r) = ((A.edge n.val).g (head g j) r d : EReal) := by
  pointwise [val_main_v104, val_main_v103, val_main_v102]
  refine (H.D _ _).trans (congrArg _ ?_)
  show A.D _ _ = A.D _ _
  congr 1
  · dsimp only; omega
  · simp only [head]; omega

theorem keys (n : Fin 32) (k : Fin 256) (g : Fin 2) (d : Fin 64) :
    val_main_v9 x1 (ix4 n k g d) = ((half (fun c => (A.edge n.val).kp g c d) (fun c => (A.edge n.val).kc g c d) k : ℝ) : EReal) := by
  pointwise [val_main_v9, val_main_v7, val_main_v6, val_main_v5, val_main_v4, val_main_v1, val_main_cst]
  have hk := k.isLt
  have hn := n.isLt
  by_cases h : k.val < 128
  · rw [dif_pos h, half, dif_pos h]
    by_cases h0 : n.val < 1
    · rw [dif_pos h0]; simp [Arrays.edge, h0]
    · rw [dif_neg h0]
      refine (H.X _ _).trans (congrArg _ ?_)
      show _ = if n.val < 1 then 0 else A.X _ _
      rw [if_neg h0]
      congr 1 <;> · dsimp only; omega
  · rw [dif_neg h, half, dif_neg h]
    refine (H.X _ _).trans (congrArg _ ?_)
    show A.X _ _ = A.X _ _
    congr 1 <;> · dsimp only; omega

theorem values (n : Fin 32) (k : Fin 256) (g : Fin 2) (d : Fin 64) :
    val_main_v15 x1 (ix4 n k g d) = ((half (fun c => (A.edge n.val).vp g c d) (fun c => (A.edge n.val).vc g c d) k : ℝ) : EReal) := by
  pointwise [val_main_v15, val_main_v13, val_main_v12, val_main_v11, val_main_v10, val_main_v2, val_main_cst_1]
  have hk := k.isLt
  have hn := n.isLt
  by_cases h : k.val < 128
  · rw [dif_pos h, half, dif_pos h]
    by_cases h0 : n.val < 1
    · rw [dif_pos h0]; simp [Arrays.edge, h0]
    · rw [dif_neg h0]
      refine (H.X _ _).trans (congrArg _ ?_)
      show _ = if n.val < 1 then 0 else A.X _ _
      rw [if_neg h0]
      congr 1 <;> · dsimp only; omega
  · rw [dif_neg h, half, dif_neg h]
    refine (H.X _ _).trans (congrArg _ ?_)
    show A.X _ _ = A.X _ _
    congr 1 <;> · dsimp only; omega

/-- The logits: where a position is seen the block's, minus infinity elsewhere. -/
theorem logits (n : Fin 32) (r : Fin 128) (k : Fin 256) (g : Fin 2) (j : Fin 4) :
    val_main_v55_0 x1 x2 (ix5 n g j r k)
      = if (A.edge n.val).seen r k then ((A.edge n.val).l (head g j) r k : EReal) else ⊥ := by
  have hb : x2 (ix3 ⟨g.val * 4 + j.val, by omega⟩ r k) = ((half ((A.edge n.val).bp (head g j) r) ((A.edge n.val).bc (head g j) r) k : ℝ) : EReal) := by
    refine (H.B _ _ _).trans (congrArg _ ?_)
    have e : (⟨g.val * 4 + j.val, by omega⟩ : Fin 8) = head g j := Fin.ext (by simp only [head]; omega)
    rw [e]
    unfold half
    split_ifs with h
    · rfl
    · show A.B _ _ _ = A.B _ _ _
      congr 1 <;> · dsimp only; omega
  have hm := mask (A := A) n r k g j
  pointwise [val_main_v55_0, val_main_call0_v2, val_main_call0_v0, val_main_cst_9, val_main_v54, val_main_v53, val_main_v52, val_main_v29,
    val_main_v19, val_main_v18, val_main_cst_3, val_main_v17, val_main_v16]
  rw [hm, hb]
  have hs : ∑ x, val_main_v9 x1 (ix4 n k g x) * val_main_v3 x1 (ix5 n r g j x)
      = ((half (fun c => ∑ d, (A.edge n.val).q (head g j) r d * (A.edge n.val).kp g c d)
          (fun c => ∑ d, (A.edge n.val).q (head g j) r d * (A.edge n.val).kc g c d) k : ℝ) : EReal) := by
    simp only [keys H, queries H, ← EReal.coe_mul, sum_coe]
    refine congrArg _ ?_
    unfold half
    split_ifs <;> exact Finset.sum_congr rfl fun d _ => mul_comm _ _
  rw [hs, lit_eighth, ← EReal.coe_mul, ← EReal.coe_add]
  have hl : half (fun c => ∑ d, (A.edge n.val).q (head g j) r d * (A.edge n.val).kp g c d)
          (fun c => ∑ d, (A.edge n.val).q (head g j) r d * (A.edge n.val).kc g c d) k * (1 / 8)
        + half ((A.edge n.val).bp (head g j) r) ((A.edge n.val).bc (head g j) r) k = (A.edge n.val).l (head g j) r k := by
    unfold Blk.l Blk.lp Blk.lc half
    rw [grp_head]
    split_ifs <;> rfl
  rw [hl]
  cases (A.edge n.val).seen r k
  · exact lit_bot
  · rfl

/-- The cotangents of the probabilities. -/
theorem probCot (n : Fin 32) (r : Fin 128) (k : Fin 256) (g : Fin 2) (j : Fin 4) :
    val_main_v105 x0 x1 (ix5 n g j r k) = ((A.edge n.val).a (head g j) r k : EReal) := by
  pointwise [val_main_v105]
  simp only [values H, cotangent H, ← EReal.coe_mul, sum_coe]
  refine congrArg _ ?_
  unfold Blk.a Blk.ap Blk.ac half
  rw [grp_head]
  split_ifs <;> rfl

end Cert.SwaRefIdeal.Chain
-- ==== Proof.Swa.RefSoftmax.lean ====
/-
  The reference's softmax: the maximum it shifts by is a real number, and the shifted weights, their sum and the sink's term
  are the block's, scaled by one factor.
-/
module

public import proofs.«01_k».proof.Proof.Swa.RefBand

@[expose] public section

set_option maxRecDepth 16384

noncomputable section

open Idealize.ShloMosaic Cert.Swa

namespace Cert.SwaRefIdeal.Chain

open Cert.SwaRefIdeal Cert.SwaRefIdeal.Gen Cert.SwaRefIdeal.Read

variable {x0 : (⟨S4096x1024, .f32⟩ : BufTy).Contents (Elt Ideal)} {x1 : (⟨S4096x3072, .f32⟩ : BufTy).Contents (Elt Ideal)}
  {x2 : (⟨S8x128x256, .f32⟩ : BufTy).Contents (Elt Ideal)} {x3 : (⟨S8, .f32⟩ : BufTy).Contents (Elt Ideal)}
variable {A : Arrays} (H : A.Are x0 x1 x2 x3)

/-- A running maximum from minus infinity over values that are not all minus infinity is one of them. -/
theorem fold_max_mem {ι : Type*} (s : Finset ι) (f : ι → EReal) : s.fold max ⊥ f = ⊥ ∨ ∃ x ∈ s, s.fold max ⊥ f = f x := by
  classical
  induction s using Finset.induction_on with
  | empty => exact .inl rfl
  | insert a s ha ih =>
    rw [Finset.fold_insert ha]
    rcases max_choice (f a) (s.fold max ⊥ f) with h | h
    · exact .inr ⟨a, Finset.mem_insert_self _ _, h⟩
    · rcases ih with e | ⟨x, hx, e⟩
      · exact .inl (h.trans e)
      · exact .inr ⟨x, Finset.mem_insert_of_mem hx, h.trans e⟩

include H

theorem sinks (n : Fin 1) (g : Fin 2) (j : Fin 4) (y z : Fin 1) :
    val_main_v57 x3 (ix5 n g j y z) = ((A.blk 0).s (head g j) : EReal) := by
  pointwise [val_main_v57, val_main_v56]
  refine (H.s _).trans (congrArg (fun h => ((A.s h : ℝ) : EReal)) ?_)
  exact Fin.ext (by simp only [head]; omega)

/-- The largest logit. -/
theorem maxLogit (n : Fin 32) (r : Fin 128) (g : Fin 2) (j : Fin 4) :
    val_main_v58 x1 x2 (ix4 n g j r)
      = Finset.univ.fold max ⊥ fun k : Fin 256 => if (A.edge n.val).seen r k then ((A.edge n.val).l (head g j) r k : EReal) else ⊥ := by
  pointwise [val_main_v58, val_main_cst_10]
  simp only [logits H, lit_bot]

theorem maxLogit_ne_top (n : Fin 32) (r : Fin 128) (g : Fin 2) (j : Fin 4) : val_main_v58 x1 x2 (ix4 n g j r) ≠ ⊤ := by
  rw [maxLogit H]
  refine fold_max_ne_top _ _ _ bot_ne_top fun k => ?_
  split_ifs
  exacts [EReal.coe_ne_top _, bot_ne_top]

/-- Some logit is the largest. -/
theorem maxLogit_mem (n : Fin 32) (r : Fin 128) (g : Fin 2) (j : Fin 4) :
    ∃ k, val_main_v55_0 x1 x2 (ix5 n g j r k) = val_main_v58 x1 x2 (ix4 n g j r) := by
  have e := maxLogit H n r g j
  rcases fold_max_mem Finset.univ (fun k : Fin 256 => if (A.edge n.val).seen r k then ((A.edge n.val).l (head g j) r k : EReal) else ⊥) with h | ⟨k, _, h⟩
  · refine ⟨⟨128 + r.val, by omega⟩, ?_⟩
    exfalso
    have h1 : ((A.edge n.val).l (head g j) r ⟨128 + r.val, by omega⟩ : EReal) ≤ ⊥ := by
      rw [← h, Finset.le_fold_max]
      refine .inr ⟨⟨128 + r.val, by omega⟩, Finset.mem_univ _, ?_⟩
      rw [if_pos (by unfold Blk.seen; rw [half_cur]; simp)]
    exact EReal.coe_ne_bot _ (le_bot_iff.1 h1)
  · exact ⟨k, (logits H n r k g j).trans (h.symm.trans e.symm)⟩

/-- The number the softmax shifts by. -/
def shift (x1 : (⟨S4096x3072, .f32⟩ : BufTy).Contents (Elt Ideal)) (x2 : (⟨S8x128x256, .f32⟩ : BufTy).Contents (Elt Ideal))
    (x3 : (⟨S8, .f32⟩ : BufTy).Contents (Elt Ideal)) (n : Fin 32) (g : Fin 2) (j : Fin 4) (r : Fin 128) : ℝ :=
  (val_main_v66 x1 x2 x3 (ix5 n g j r 0)).toReal

theorem shift_eq (n : Fin 32) (r : Fin 128) (g : Fin 2) (j : Fin 4) :
    val_main_v66 x1 x2 x3 (ix5 n g j r 0) = (shift x1 x2 x3 n g j r : EReal) := by
  obtain ⟨M, hM⟩ := max_coe_real (maxLogit_ne_top H n r g j) ((A.blk 0).s (head g j))
  have e : val_main_v66 x1 x2 x3 (ix5 n g j r 0) = (M : EReal) := by
    rw [val_main_v66_apply, val_main_v64_apply, val_main_v65_apply]
    have e4 : idx_main_v64 (ix5 n g j r 0) = ix4 n g j r := by
      funext a
      match a with
      | ⟨0, _⟩ => rfl
      | ⟨1, _⟩ => rfl
      | ⟨2, _⟩ => rfl
      | ⟨3, _⟩ => rfl
    have e5 : idx_main_v65 (ix5 n g j r 0) = ix5 0 g j 0 0 := by
      funext a
      match a with
      | ⟨0, _⟩ => rfl
      | ⟨1, _⟩ => rfl
      | ⟨2, _⟩ => rfl
      | ⟨3, _⟩ => rfl
      | ⟨4, _⟩ => rfl
    rw [e4, e5, sinks H 0 g j 0 0]
    exact hM
  rw [shift, e, EReal.toReal_coe]

/-- The shifted weights. -/
theorem weights (n : Fin 32) (r : Fin 128) (k : Fin 256) (g : Fin 2) (j : Fin 4) :
    val_main_v87 x1 x2 x3 (ix5 n g j r k) = ((Real.exp (-shift x1 x2 x3 n g j r) * (A.edge n.val).w (head g j) r k : ℝ) : EReal) := by
  rw [Blk.w_eq, ← exp_shift, ← shift_eq H, ← logits H]
  pointwise [val_main_v87, val_main_v86, val_main_v85]

/-- The sink's shifted term. -/
theorem sinkWeight (n : Fin 32) (r : Fin 128) (g : Fin 2) (j : Fin 4) :
    val_main_v92 x1 x2 x3 (ix5 n g j r 0) = ((Real.exp (-shift x1 x2 x3 n g j r) * Real.exp ((A.edge n.val).s (head g j)) : ℝ) : EReal) := by
  have e := exp_shift true ((A.edge n.val).s (head g j)) (shift x1 x2 x3 n g j r)
  rw [if_pos rfl, if_pos rfl] at e
  rw [← e, ← shift_eq H]
  refine Eq.trans ?_ (congrArg (fun y => Ideal.exp (y - _)) (sinks H 0 g j 0 0))
  pointwise [val_main_v92, val_main_v91, val_main_v90]

/-- The denominator. -/
theorem denominator (n : Fin 32) (r : Fin 128) (g : Fin 2) (j : Fin 4) :
    val_main_v93 x1 x2 x3 (ix5 n g j r 0) = ((Real.exp (-shift x1 x2 x3 n g j r) * (A.edge n.val).Z (head g j) r : ℝ) : EReal) := by
  have e : val_main_v93 x1 x2 x3 (ix5 n g j r 0)
      = (∑ k, val_main_v87 x1 x2 x3 (ix5 n g j r k)) + val_main_v92 x1 x2 x3 (ix5 n g j r 0) := by
    pointwise [val_main_v93, val_main_v89, val_main_v88, val_main_cst_18]
  rw [e, sinkWeight H]
  simp only [weights H, sum_coe]
  rw [← EReal.coe_add, ← Finset.mul_sum, ← mul_add, ← Blk.Z_eq]

theorem scaled_ne (n : Fin 32) (r : Fin 128) (g : Fin 2) (j : Fin 4) :
    Real.exp (-shift x1 x2 x3 n g j r) * (A.edge n.val).Z (head g j) r ≠ 0 :=
  mul_ne_zero (Real.exp_pos _).ne' (Blk.Z_ne _ _ _)

/-- The probabilities. -/
theorem probs (n : Fin 32) (r : Fin 128) (k : Fin 256) (g : Fin 2) (j : Fin 4) :
    val_main_v95 x1 x2 x3 (ix5 n g j r k) = (((A.edge n.val).w (head g j) r k / (A.edge n.val).Z (head g j) r : ℝ) : EReal) := by
  have e : val_main_v95 x1 x2 x3 (ix5 n g j r k) = Ideal.div (val_main_v87 x1 x2 x3 (ix5 n g j r k)) (val_main_v93 x1 x2 x3 (ix5 n g j r 0)) := by
    pointwise [val_main_v95, val_main_v94]
  rw [e, weights H, denominator H, div_coe_coe _ (mul_ne_zero (Real.exp_pos _).ne' (Blk.Z_ne _ _ _)), mul_div_mul_left _ _ (Real.exp_pos _).ne']

/-- The row's weighted sum of cotangents, less its sign. -/
theorem denCot (n : Fin 32) (r : Fin 128) (g : Fin 2) (j : Fin 4) :
    val_main_v113 x0 x1 x2 x3 (ix5 n g j r 0)
      = ((-((A.edge n.val).S (head g j) r / (A.edge n.val).Z (head g j) r ^ 2) / Real.exp (-shift x1 x2 x3 n g j r) : ℝ) : EReal) := by
  have e : val_main_v113 x0 x1 x2 x3 (ix5 n g j r 0)
      = -∑ k, val_main_v105 x0 x1 (ix5 n g j r k)
          * Ideal.div 1 (val_main_v93 x1 x2 x3 (ix5 n g j r 0) * val_main_v93 x1 x2 x3 (ix5 n g j r 0)) * val_main_v87 x1 x2 x3 (ix5 n g j r k) := by
    pointwise [val_main_v113, val_main_v112, val_main_v111, val_main_cst_20, val_main_v110, val_main_v109, val_main_v108, val_main_v98, val_main_v97,
      val_main_cst_19, val_main_v96]
  have hE := (Real.exp_pos (-shift x1 x2 x3 n g j r)).ne'
  have hz := (A.edge n.val).Z_ne (head g j) r
  rw [e, denominator H, ← EReal.coe_mul, one_div_coe (mul_ne_zero (mul_ne_zero hE hz) (mul_ne_zero hE hz))]
  simp only [weights H, probCot H, ← EReal.coe_mul, sum_coe]
  rw [← EReal.coe_neg, EReal.coe_eq_coe_iff, Blk.S_eq, Finset.sum_div, neg_div, Finset.sum_div]
  refine congrArg _ (Finset.sum_congr rfl fun k _ => ?_)
  field_simp

/-- The cotangents of the shifted logits. -/
theorem shiftedCot (n : Fin 32) (r : Fin 128) (k : Fin 256) (g : Fin 2) (j : Fin 4) :
    val_main_v123 x0 x1 x2 x3 (ix5 n g j r k) = ((A.edge n.val).dl (head g j) r k : EReal) := by
  have e : val_main_v123 x0 x1 x2 x3 (ix5 n g j r k)
      = (Ideal.div (val_main_v105 x0 x1 (ix5 n g j r k)) (val_main_v93 x1 x2 x3 (ix5 n g j r 0)) + ∑ z : Fin 1, val_main_v113 x0 x1 x2 x3 (ix5 n g j r z))
          * val_main_v87 x1 x2 x3 (ix5 n g j r k) := by
    pointwise [val_main_v123, val_main_v122, val_main_v121, val_main_v120, val_main_cst_22, val_main_v115, val_main_v114]
  have hE := (Real.exp_pos (-shift x1 x2 x3 n g j r)).ne'
  have hz := (A.edge n.val).Z_ne (head g j) r
  rw [e, Fin.sum_univ_one, probCot H, denominator H, denCot H, weights H, div_coe_coe _ (mul_ne_zero hE hz), ← EReal.coe_add, ← EReal.coe_mul,
    EReal.coe_eq_coe_iff, Blk.dl_eq]
  field_simp
  ring

/-- The cotangent of the sink's shifted logit. -/
theorem sinkCot (n : Fin 32) (r : Fin 128) (g : Fin 2) (j : Fin 4) :
    val_main_v116 x0 x1 x2 x3 (ix5 n g j r 0)
      = ((-((A.edge n.val).S (head g j) r / (A.edge n.val).Z (head g j) r ^ 2) * Real.exp ((A.edge n.val).s (head g j)) : ℝ) : EReal) := by
  have e : val_main_v116 x0 x1 x2 x3 (ix5 n g j r 0) = val_main_v113 x0 x1 x2 x3 (ix5 n g j r 0) * val_main_v92 x1 x2 x3 (ix5 n g j r 0) := by
    pointwise [val_main_v116]
  have hE := (Real.exp_pos (-shift x1 x2 x3 n g j r)).ne'
  rw [e, denCot H, sinkWeight H, ← EReal.coe_mul, EReal.coe_eq_coe_iff]
  field_simp

/-- The cotangent of the shift is zero. -/
theorem shiftCot (n : Fin 32) (r : Fin 128) (g : Fin 2) (j : Fin 4) : val_main_v127 x0 x1 x2 x3 (ix5 n g j r 0) = 0 := by
  have e : val_main_v127 x0 x1 x2 x3 (ix5 n g j r 0)
      = -val_main_v116 x0 x1 x2 x3 (ix5 n g j r 0) + ∑ k, -val_main_v123 x0 x1 x2 x3 (ix5 n g j r k) := by
    pointwise [val_main_v127, val_main_v126, val_main_v119, val_main_v125, val_main_v124, val_main_cst_23]
  rw [e, sinkCot H]
  simp only [shiftedCot H, ← EReal.coe_neg, sum_coe]
  rw [← EReal.coe_add, ← EReal.coe_zero, EReal.coe_eq_coe_iff, Finset.sum_neg_distrib, ← neg_add, neg_eq_zero, add_comm]
  exact Blk.sum_dl _ _ _

/-- So what passes to the logits through their maximum is zero. -/
theorem throughMax (n : Fin 32) (r : Fin 128) (g : Fin 2) (j : Fin 4) : val_main_v134 x0 x1 x2 x3 (ix4 n g j r) = 0 := by
  have e : val_main_v134 x0 x1 x2 x3 (ix4 n g j r)
      = Ideal.div (val_main_v133 x0 x1 x2 x3 (ix4 n g j r)) (val_main_v63 x1 x2 (ix4 n g j r)) := by
    pointwise [val_main_v134]
  have z : val_main_v132 x0 x1 x2 x3 = fun _ => (0 : EReal) := by
    funext i
    rw [val_main_v132_apply]
    have : i = ix5 (i 0) (i 1) (i 2) (i 3) 0 := by
      funext a
      match a with
      | ⟨0, _⟩ => rfl
      | ⟨1, _⟩ => rfl
      | ⟨2, _⟩ => rfl
      | ⟨3, _⟩ => rfl
      | ⟨4, _⟩ => exact Subsingleton.elim (α := Fin 1) _ _
    have c : val_main_v127 x0 x1 x2 x3 i = 0 := by rw [this]; exact shiftCot H _ _ _ _
    rw [c]
    exact zero_mul _
  have t : val_main_v133 x0 x1 x2 x3 (ix4 n g j r) = 0 := by
    unfold val_main_v133
    rw [z]
    show Ideal.hostReduceAdd _ (fun _ => (0 : EReal)) _ _ = 0
    unfold Ideal.hostReduceAdd
    rw [Finset.sum_const_zero, add_zero]
    exact Ideal.ofBits_zero .f32
  obtain ⟨k, hk⟩ := maxLogit_mem H n r g j
  have c : val_main_v63 x1 x2 (ix4 n g j r) ≠ (0 : EReal) := by
    have e : val_main_v63 x1 x2 (ix4 n g j r)
        = ∑ x, FloatOps.uitofp (F := Ideal) .f32 (BitVec.ofBool (decide (val_main_v55_0 x1 x2 (ix5 n g j r x) = val_main_v58 x1 x2 (ix4 n g j r)))) := by
      pointwise [val_main_v63, val_main_cst_11, val_main_v62, val_main_v61, val_main_v60, val_main_v59]
    have h0 : ∀ b : Bool, (0 : EReal) ≤ FloatOps.uitofp (F := Ideal) .f32 (BitVec.ofBool b) := fun b => by
      cases b <;> simp [FloatOps.uitofp]
    have h1 : FloatOps.uitofp (F := Ideal) .f32 (BitVec.ofBool true) = (1 : EReal) := by simp [FloatOps.uitofp]
    rw [e]
    have h2 := Finset.single_le_sum (f := fun x : Fin 256 => (FloatOps.uitofp (F := Ideal) .f32
      (BitVec.ofBool (decide (val_main_v55_0 x1 x2 (ix5 n g j r x) = val_main_v58 x1 x2 (ix4 n g j r)))) : EReal)) (fun x _ => h0 _) (Finset.mem_univ k)
    dsimp only at h2
    rw [decide_eq_true hk, h1] at h2
    exact (lt_of_lt_of_le zero_lt_one h2).ne'
  rw [e, t, Ideal.div, if_neg c, zero_mul]

/-- The cotangents of the logits. -/
theorem logitCot (n : Fin 32) (r : Fin 128) (k : Fin 256) (g : Fin 2) (j : Fin 4) :
    val_main_v140 x0 x1 x2 x3 (ix5 n g j r k) = ((A.edge n.val).dl (head g j) r k : EReal) := by
  have e : val_main_v137 x0 x1 x2 x3 (ix5 n g j r k)
      = val_main_v123 x0 x1 x2 x3 (ix5 n g j r k) + val_main_v134 x0 x1 x2 x3 (ix4 n g j r) * val_main_v62 x1 x2 (ix5 n g j r k) := by
    pointwise [val_main_v137, val_main_v136, val_main_v135]
  rw [throughMax H, zero_mul, add_zero, shiftedCot H] at e
  have hm := mask (A := A) n r k g j
  have e2 : val_main_v140 x0 x1 x2 x3 (ix5 n g j r k)
      = Scalar.select (val_main_v55_1 (F := Ideal) (ix5 n g j r k)) (val_main_v137 x0 x1 x2 x3 (ix5 n g j r k)) (0 : EReal) := by
    pointwise [val_main_v140, val_main_call1_v0, val_main_call1_cst]
  rw [e2, e, hm]
  cases hs : (A.edge n.val).seen r k
  · rw [Blk.dl_unseen _ _ _ _ hs]
    rfl
  · rfl

end Cert.SwaRefIdeal.Chain
-- ==== Proof.Swa.Reference.lean ====
/-
  What the reference returns: the blocks' cotangents, each put where the results hold it.
-/
module

public import proofs.«01_k».proof.Proof.Swa.RefSoftmax
public import proofs.«01_k».proof.Proof.Swa.Axes

@[expose] public section

set_option maxRecDepth 16384

noncomputable section

open Idealize.ShloMosaic Cert.Swa

namespace Cert.SwaRefIdeal.Chain

open Cert.SwaRefIdeal Cert.SwaRefIdeal.Gen Cert.SwaRefIdeal.Read

variable {x0 : (⟨S4096x1024, .f32⟩ : BufTy).Contents (Elt Ideal)} {x1 : (⟨S4096x3072, .f32⟩ : BufTy).Contents (Elt Ideal)}
  {x2 : (⟨S8x128x256, .f32⟩ : BufTy).Contents (Elt Ideal)} {x3 : (⟨S8, .f32⟩ : BufTy).Contents (Elt Ideal)}
variable {A : Arrays} (H : A.Are x0 x1 x2 x3)

include H

/-- The cotangents of the queries. -/
theorem queryCot (n : Fin 32) (r : Fin 128) (g : Fin 2) (j : Fin 4) (d : Fin 64) :
    val_main_v148 x0 x1 x2 x3 (ix5 n g r j d) = ((A.blk n.val).dq (head g j) r d : EReal) := by
  have e : val_main_v148 x0 x1 x2 x3 (ix5 n g r j d)
      = ∑ k, val_main_v140 x0 x1 x2 x3 (ix5 n g j r k) * Ideal.ofBits .f32 0x3E000000#32 * val_main_v9 x1 (ix4 n k g d) := by
    pointwise [val_main_v148, val_main_v147, val_main_v146, val_main_v145, val_main_cst_29]
  rw [e, lit_eighth]
  simp only [logitCot H, keys H, ← EReal.coe_mul, sum_coe]
  rw [EReal.coe_eq_coe_iff, ← edge_dq]
  have s : ∀ k, (A.edge n.val).dl (head g j) r k * (1 / 8) * half (fun c => (A.edge n.val).kp g c d) (fun c => (A.edge n.val).kc g c d) k
      = half (fun c => (A.edge n.val).dlp (head g j) r c * (1 / 8) * (A.edge n.val).kp g c d)
          (fun c => (A.edge n.val).dlc (head g j) r c * (1 / 8) * (A.edge n.val).kc g c d) k := fun k => by
    unfold Blk.dl half; split_ifs <;> rfl
  rw [Finset.sum_congr rfl fun k _ => s k, sum_half, Blk.dq, grp_head, add_comm]

/-- The cotangents of a band of keys. -/
theorem keyCot (n : Fin 32) (k : Fin 256) (g : Fin 2) (d : Fin 64) :
    val_main_v151 x0 x1 x2 x3 (ix4 n k g d)
      = ((half (fun c => (A.blk n.val).dkp g c d) (fun c => (A.blk n.val).dkc g c d) k : ℝ) : EReal) := by
  have e : val_main_v151 x0 x1 x2 x3 (ix4 n k g d)
      = ∑ r : Fin 128, ∑ j : Fin 4, val_main_v140 x0 x1 x2 x3 (ix5 n g j r k) * Ideal.ofBits .f32 0x3E000000#32 * val_main_v3 x1 (ix5 n r g j d) := by
    pointwise [val_main_v151, val_main_v150, val_main_v147, val_main_v146, val_main_v145, val_main_cst_29]
  rw [e, lit_eighth]
  simp only [logitCot H, queries H, ← EReal.coe_mul, sum_coe]
  rw [EReal.coe_eq_coe_iff, Finset.sum_comm]
  simp only [← edge_dkp, ← edge_dkc]
  unfold Blk.dl Blk.dkp Blk.dkc half
  split_ifs <;> rfl

/-- The cotangents of a band of values. -/
theorem valueCot (n : Fin 32) (k : Fin 256) (g : Fin 2) (d : Fin 64) :
    val_main_v107 x0 x1 x2 x3 (ix4 n k g d)
      = ((half (fun c => (A.blk n.val).dvp g c d) (fun c => (A.blk n.val).dvc g c d) k : ℝ) : EReal) := by
  have e : val_main_v107 x0 x1 x2 x3 (ix4 n k g d)
      = ∑ j : Fin 4, ∑ r : Fin 128, val_main_v104 x0 (ix5 n g d j r) * val_main_v95 x1 x2 x3 (ix5 n g j r k) := by
    pointwise [val_main_v107, val_main_v106]
  rw [e]
  simp only [cotangent H, probs H, ← EReal.coe_mul, sum_coe]
  rw [EReal.coe_eq_coe_iff]
  simp only [← edge_dvp, ← edge_dvc]
  unfold Blk.w Blk.dvp Blk.dvc half
  split_ifs <;> exact Finset.sum_congr rfl fun j _ => Finset.sum_congr rfl fun r _ => mul_comm _ _

/-- The keys' cotangents: a block's own and what the next block adds. -/
theorem keySum (n : Fin 32) (c : Fin 128) (g : Fin 2) (d : Fin 64) :
    val_main_v164 x0 x1 x2 x3 (ix4 n c g d) = (((A.blk n.val).dkc g c d + A.nextK n.val g c d : ℝ) : EReal) := by
  have e : val_main_v164 x0 x1 x2 x3 (ix4 n c g d) = val_main_v151 x0 x1 x2 x3 (ix4 n ⟨128 + c.val, by omega⟩ g d)
      + if h : n.val < 31 then val_main_v151 x0 x1 x2 x3 (ix4 ⟨1 + n.val, by omega⟩ ⟨c.val, by omega⟩ g d) else (0 : EReal) := by
    pointwise [val_main_v164, val_main_v163, val_main_v162, val_main_cst_31, val_main_v160, val_main_v159]
  rw [e, keyCot H, half_cur, EReal.coe_add, Arrays.nextK]
  refine congrArg _ ?_
  split_ifs with h
  · rw [keyCot H, half_prev]
    simp only [Nat.add_comm 1]
  · exact EReal.coe_zero.symm

/-- The values' cotangents likewise. -/
theorem valueSum (n : Fin 32) (c : Fin 128) (g : Fin 2) (d : Fin 64) :
    val_main_v157 x0 x1 x2 x3 (ix4 n c g d) = (((A.blk n.val).dvc g c d + A.nextV n.val g c d : ℝ) : EReal) := by
  have e : val_main_v157 x0 x1 x2 x3 (ix4 n c g d) = val_main_v107 x0 x1 x2 x3 (ix4 n ⟨128 + c.val, by omega⟩ g d)
      + if h : n.val < 31 then val_main_v107 x0 x1 x2 x3 (ix4 ⟨1 + n.val, by omega⟩ ⟨c.val, by omega⟩ g d) else (0 : EReal) := by
    pointwise [val_main_v157, val_main_v156, val_main_v155, val_main_cst_30, val_main_v153, val_main_v152]
  rw [e, valueCot H, half_cur, EReal.coe_add, Arrays.nextV]
  refine congrArg _ ?_
  split_ifs with h
  · rw [valueCot H, half_prev]
    simp only [Nat.add_comm 1]
  · exact EReal.coe_zero.symm

/-- The bias's cotangent, summed over the blocks. -/
theorem biasSum (h : Fin 8) (r : Fin 128) (k : Fin 256) :
    val_main_v144 x0 x1 x2 x3 (ix3 h r k) = ((∑ n ∈ Finset.range 32, (A.edge n).dl h r k : ℝ) : EReal) := by
  have e : val_main_v144 x0 x1 x2 x3 (ix3 h r k)
      = ∑ _y : Fin 1, ∑ n : Fin 32, val_main_v140 x0 x1 x2 x3 (ix5 n ⟨h.val / 4, by omega⟩ ⟨h.val % 4, by omega⟩ r k) := by
    pointwise [val_main_v144, val_main_v143, val_main_cst_28, val_main_v142, val_main_v141, val_main_cst_27]
  have hh : head ⟨h.val / 4, by omega⟩ ⟨h.val % 4, by omega⟩ = h := Fin.ext (by simp only [head]; omega)
  rw [e, Fin.sum_univ_one]
  simp only [logitCot H, hh, sum_coe]
  rw [Finset.sum_range]

/-- The sinks' cotangent, summed over the blocks. -/
theorem sinkSum (g : Fin 2) (j : Fin 4) :
    val_main_v138 x0 x1 x2 x3 (ix2 g j) = ((∑ n ∈ Finset.range 32, (A.blk n).ds (head g j) : ℝ) : EReal) := by
  have z : val_main_v128 x0 x1 x2 x3 = fun _ => (0 : EReal) := by
    funext i
    rw [val_main_v128_apply]
    have : i = ix5 (i 0) (i 1) (i 2) (i 3) 0 := by
      funext a
      match a with
      | ⟨0, _⟩ => rfl
      | ⟨1, _⟩ => rfl
      | ⟨2, _⟩ => rfl
      | ⟨3, _⟩ => rfl
      | ⟨4, _⟩ => exact Subsingleton.elim (α := Fin 1) _ _
    have c : val_main_v127 x0 x1 x2 x3 i = 0 := by rw [this]; exact shiftCot H _ _ _ _
    rw [c]
    exact zero_mul _
  have t : val_main_v129 x0 x1 x2 x3 (ix3 g j 0) = 0 := by
    unfold val_main_v129
    rw [z]
    show Ideal.hostReduceAdd _ (fun _ => (0 : EReal)) _ _ = 0
    unfold Ideal.hostReduceAdd
    rw [Finset.sum_const_zero, add_zero]
    exact Ideal.ofBits_zero .f32
  have u : val_main_v117 x0 x1 x2 x3 (ix3 g j 0) = ∑ n : Fin 32, ∑ r : Fin 128, val_main_v116 x0 x1 x2 x3 (ix5 n g j r 0) := by
    unfold val_main_v117
    refine (hostReduceAdd_axes_0_3 _ _ _ _ _ _).trans ?_
    exact (congrArg (· + _) (Ideal.ofBits_zero .f32)).trans (zero_add _)
  have e131 : val_main_v131 x0 x1 x2 x3 (ix5 0 g j 0 0) = val_main_v117 x0 x1 x2 x3 (ix3 g j 0) + val_main_v129 x0 x1 x2 x3 (ix3 g j 0) := by
    pointwise [val_main_v131, val_main_v130, val_main_v118]
  have e : val_main_v138 x0 x1 x2 x3 (ix2 g j) = val_main_v131 x0 x1 x2 x3 (ix5 0 g j 0 0) := by
    unfold val_main_v138
    refine (hostReduceAdd_axes_0_3_4 _ _ _ _ _).trans ?_
    refine (congrArg (· + _) (Ideal.ofBits_zero .f32)).trans ((zero_add _).trans ?_)
    simp only [Fin.sum_univ_one]
  rw [e, e131, t, add_zero, u]
  simp only [sinkCot H, sum_coe]
  rw [Finset.sum_range, EReal.coe_eq_coe_iff]
  exact Finset.sum_congr rfl fun n _ => edge_ds A n.val (head g j)

/-- The reference's results are the blocks' cotangents. -/
theorem results : A.Results (val_main_v168 x0 x1 x2 x3) (val_main_v144 x0 x1 x2 x3) (val_main_v170 x0 x1 x2 x3) := by
  have e : ∀ (c : Fin 4096) (f : Fin 768), val_main_v168 x0 x1 x2 x3 (ix2 c f)
      = if h : f.val < 512 then
          val_main_v148 x0 x1 x2 x3 (ix5 ⟨c.val / 128, by omega⟩ ⟨f.val / 256, by omega⟩ ⟨c.val % 128, by omega⟩ ⟨f.val / 64 % 4, by omega⟩ ⟨f.val % 64, by omega⟩)
        else if h : f.val - 512 < 128 then
          val_main_v164 x0 x1 x2 x3 (ix4 ⟨c.val / 128, by omega⟩ ⟨c.val % 128, by omega⟩ ⟨(f.val - 512) / 64, by omega⟩ ⟨(f.val - 512) % 64, by omega⟩)
        else
          val_main_v157 x0 x1 x2 x3 (ix4 ⟨c.val / 128, by omega⟩ ⟨c.val % 128, by omega⟩ ⟨(f.val - 512 - 128) / 64, by omega⟩ ⟨(f.val - 512 - 128) % 64, by omega⟩) := fun c f => by
    pointwise [val_main_v168, val_main_v167, val_main_v166, val_main_v165, val_main_v158, val_main_v149]
  have row : ∀ (n : Fin 32) (r : Fin 128), (⟨(128 * n.val + r.val) / 128, by omega⟩ : Fin 32) = n := fun n r => Fin.ext (by dsimp only; omega)
  have off : ∀ (n : Fin 32) (r : Fin 128), (⟨(128 * n.val + r.val) % 128, by omega⟩ : Fin 128) = r := fun n r => Fin.ext (by dsimp only; omega)
  refine ⟨fun n r h d => ?_, fun n r g d => ?_, fun n r g d => ?_, fun h r c => ?_, fun h r c => ?_, fun l => ?_⟩
  · have hh : head ⟨(64 * h.val + d.val) / 256, by omega⟩ ⟨(64 * h.val + d.val) / 64 % 4, by omega⟩ = h := Fin.ext (by simp only [head]; omega)
    have hd : (⟨(64 * h.val + d.val) % 64, by omega⟩ : Fin 64) = d := Fin.ext (by dsimp only; omega)
    rw [e, dif_pos (by dsimp only; omega), queryCot H]
    dsimp only
    rw [hh, hd, off]
    simp only [row n r, show (128 * n.val + r.val) / 128 = n.val by omega]
  · have hg : (⟨(64 * (8 + g.val) + d.val - 512) / 64, by omega⟩ : Fin 2) = g := Fin.ext (by dsimp only; omega)
    have hd : (⟨(64 * (8 + g.val) + d.val - 512) % 64, by omega⟩ : Fin 64) = d := Fin.ext (by dsimp only; omega)
    rw [e, dif_neg (by dsimp only; omega), dif_pos (by dsimp only; omega), keySum H]
    dsimp only
    rw [hg, hd, off]
    simp only [show (128 * n.val + r.val) / 128 = n.val by omega]
  · have hg : (⟨(64 * (10 + g.val) + d.val - 512 - 128) / 64, by omega⟩ : Fin 2) = g := Fin.ext (by dsimp only; omega)
    have hd : (⟨(64 * (10 + g.val) + d.val - 512 - 128) % 64, by omega⟩ : Fin 64) = d := Fin.ext (by dsimp only; omega)
    rw [e, dif_neg (by dsimp only; omega), dif_neg (by dsimp only; omega), valueSum H]
    dsimp only
    rw [hg, hd, off]
    simp only [show (128 * n.val + r.val) / 128 = n.val by omega]
  · rw [biasSum H, EReal.coe_eq_coe_iff]
    exact Finset.sum_congr rfl fun n _ => (half_prev _ _ c).trans (edge_dlp A n h r c)
  · rw [biasSum H, EReal.coe_eq_coe_iff]
    exact Finset.sum_congr rfl fun n _ => (half_cur _ _ c).trans (edge_dlc A n h r c)
  · have p : val_main_v170 x0 x1 x2 x3 (ix2 0 l)
        = if h : l.val < 8 then val_main_v139 x0 x1 x2 x3 (ix1 ⟨l.val, by omega⟩) else val_main_call2_v0 (F := Ideal) (Shape.Idx.first h_S_) := by
      pointwise [val_main_v170, val_main_v169]
    rw [p]
    split_ifs with h
    · have q : val_main_v139 x0 x1 x2 x3 (ix1 ⟨l.val, by omega⟩) = val_main_v138 x0 x1 x2 x3 (ix2 ⟨l.val / 4, by omega⟩ ⟨l.val % 4, by omega⟩) := by
        pointwise [val_main_v139]
      have hh : head ⟨l.val / 4, by omega⟩ ⟨l.val % 4, by omega⟩ = ⟨l.val, h⟩ := Fin.ext (by simp only [head]; omega)
      rw [q, sinkSum H, hh]
    · show FloatOps.sitofp (F := Ideal) .f32 (0#32) = _
      simp [FloatOps.sitofp]

end Cert.SwaRefIdeal.Chain
-- ==== Proof.Swa.Finite.lean ====
/-
  Arrays of finite extended reals hold real numbers.
-/
module

public import proofs.«01_k».proof.Proof.Swa.Arrays
public import proofs.«01_k».proof.Pre_finite
public import Idealize.ShloMosaic.Lib.Pointwise

@[expose] public section

noncomputable section

namespace Cert.Swa

open Idealize.ShloMosaic

/-- A number whose absolute value compares below the word of infinity is real. -/
theorem real_of_lt (x : EReal) (h : FloatOps.cmpf (F := Ideal) (φ := .f32) .olt (max x (-x)) (Ideal.ofBits .f32 0x7F800000#32) = 1#1) :
    x = (x.toReal : EReal) := by
  have t : Ideal.ofBits .f32 0x7F800000#32 = (⊤ : EReal) := by simp [Ideal.ofBits, Ideal.ieee]
  rw [t] at h
  induction x with
  | bot => simp [FloatOps.cmpf, Ideal.cmp] at h
  | top => simp [FloatOps.cmpf, Ideal.cmp] at h
  | coe r => rfl

/-- An array whose absolute values all compare below infinity holds real numbers. -/
theorem real_of_finite {s : Shape} (x : FVec Ideal s .f32) (hb : (⟨0, ![]⟩ : Shape).BroadcastsInDim s (![] : Fin 0 → Fin s.rank))
    (e : cmpf .olt (Host.absf x) (broadcastInDim s ![] hb (constant (F := Ideal) (⟨0, ![]⟩ : Shape) .f32 0x7F800000#32)) = fun _ => 1#1)
    (i : s.Idx) : x i = ((x i).toReal : EReal) :=
  real_of_lt (x i) (congrFun e i)

/-- The real arrays held by arrays of extended reals. -/
def Arrays.of (a0 : (⟨2, ![4096, 1024]⟩ : Shape).Idx → EReal) (a1 : (⟨2, ![4096, 3072]⟩ : Shape).Idx → EReal)
    (a2 : (⟨3, ![8, 128, 256]⟩ : Shape).Idx → EReal) (a3 : (⟨1, ![8]⟩ : Shape).Idx → EReal) : Arrays where
  D r c := if h : r < 4096 ∧ c < 1024 then (a0 (ix2 ⟨r, h.1⟩ ⟨c, h.2⟩)).toReal else 0
  X r c := if h : r < 4096 ∧ c < 3072 then (a1 (ix2 ⟨r, h.1⟩ ⟨c, h.2⟩)).toReal else 0
  B h r c := if k : c < 256 then (a2 (ix3 h r ⟨c, k⟩)).toReal else 0
  s h := (a3 (ix1 h)).toReal

/-- Finite arrays are the real arrays they hold. -/
theorem Arrays.of_are [Cert.Pre_finite.Facts] (a0 : (⟨2, ![4096, 1024]⟩ : Shape).Idx → EReal) (a1 : (⟨2, ![4096, 3072]⟩ : Shape).Idx → EReal)
    (a2 : (⟨3, ![8, 128, 256]⟩ : Shape).Idx → EReal) (a3 : (⟨1, ![8]⟩ : Shape).Idx → EReal)
    (h0 : (Cert.Pre_finite.fn (F := Ideal) a0 a1 a2 a3).1 = fun _ => 1#1)
    (h1 : (Cert.Pre_finite.fn (F := Ideal) a0 a1 a2 a3).2.1 = fun _ => 1#1)
    (h2 : (Cert.Pre_finite.fn (F := Ideal) a0 a1 a2 a3).2.2.1 = fun _ => 1#1)
    (h3 : (Cert.Pre_finite.fn (F := Ideal) a0 a1 a2 a3).2.2.2 = fun _ => 1#1) :
    (Arrays.of a0 a1 a2 a3).Are a0 a1 a2 a3 where
  D r c := (real_of_finite a0 _ h0 _).trans (congrArg Real.toEReal (by simp only [Arrays.of]; rw [dif_pos ⟨r.isLt, c.isLt⟩]))
  X r c := (real_of_finite a1 _ h1 _).trans (congrArg Real.toEReal (by simp only [Arrays.of]; rw [dif_pos ⟨r.isLt, c.isLt⟩]))
  B h r c := (real_of_finite a2 _ h2 _).trans (congrArg Real.toEReal (by simp only [Arrays.of]; rw [dif_pos c.isLt]))
  s h := real_of_finite a3 _ h3 _

end Cert.Swa
-- ==== Proof.Products.Sum.lean ====
/-
  Sums of products over the rows of two arrays, taken a block of rows at a time.
-/
module

public import Idealize.ShloMosaic.Lib.Pointwise
public import Idealize.ShloMosaic.Init

@[expose] public section

noncomputable section

namespace Cert

open Idealize.ShloMosaic

/-- The arrays of `a` rows and `b` columns. -/
abbrev Arr (a b : ℕ) := (⟨2, ![a, b]⟩ : Shape).Idx → EReal

/-- Two positions of an array are one when their rows and their columns are. -/
theorem ext2 {a b : ℕ} {i j : (⟨2, ![a, b]⟩ : Shape).Idx} (h0 : (i 0).val = (j 0).val) (h1 : (i 1).val = (j 1).val) : i = j :=
  funext fun c => Fin.ext (match c with
    | ⟨0, _⟩ => h0
    | ⟨1, _⟩ => h1)

theorem pairs {a b : ℕ} (i : (⟨2, ![a, b]⟩ : Shape).Idx) : ∃ (r : Fin a) (q : Fin b), i = ix2 r q := ⟨i 0, i 1, ext2 rfl rfl⟩

end Cert

namespace Cert.Products

open Idealize.ShloMosaic

/-- An array's entry at a pair of numbers: zero outside the array. -/
def at2 {a b : ℕ} (x : Arr a b) (i j : ℕ) : EReal :=
  if h : i < a ∧ j < b then x (ix2 ⟨i, h.1⟩ ⟨j, h.2⟩) else 0

theorem at2_of_lt {a b : ℕ} (x : Arr a b) {i j : ℕ} (hi : i < a) (hj : j < b) :
    at2 x i j = x (ix2 ⟨i, hi⟩ ⟨j, hj⟩) := dif_pos ⟨hi, hj⟩

/-- Entry `(i, j)` of the product of the transpose of `x` by `y`, over the first `n` rows. -/
def dotTo {s a b : ℕ} (x : Arr s a) (y : Arr s b) (n i j : ℕ) : EReal :=
  ∑ k ∈ Finset.range n, at2 x k i * at2 y k j

/-- A further block of rows adds its products. -/
theorem dotTo_add {s a b : ℕ} (x : Arr s a) (y : Arr s b) (n w i j : ℕ) :
    dotTo x y (n + w) i j = dotTo x y n i j + ∑ k : Fin w, at2 x (n + k.val) i * at2 y (n + k.val) j := by
  unfold dotTo
  rw [Finset.sum_range_add, Finset.sum_range (n := w)]

/-- The first block of rows. -/
theorem dotTo_first {s a b : ℕ} (x : Arr s a) (y : Arr s b) (w i j : ℕ) :
    dotTo x y w i j = ∑ k : Fin w, at2 x (0 + k.val) i * at2 y (0 + k.val) j := by
  simp only [dotTo, Finset.sum_range, Nat.zero_add]

/-- Over all the rows. -/
theorem dotTo_all {s a b : ℕ} (x : Arr s a) (y : Arr s b) (i : Fin a) (j : Fin b) :
    dotTo x y s i.val j.val = ∑ k : Fin s, x (ix2 k i) * y (ix2 k j) := by
  rw [dotTo, Finset.sum_range]
  exact Finset.sum_congr rfl fun k _ => by rw [at2_of_lt x k.isLt i.isLt, at2_of_lt y k.isLt j.isLt]

/-- The product of the transpose of `x` by `y`. -/
def product {s a b : ℕ} (x : Arr s a) (y : Arr s b) : Arr a b :=
  fun i => ∑ k : Fin s, x (ix2 k (i 0)) * y (ix2 k (i 1))

end Cert.Products
-- ==== Proof.Products.Up.lean ====
/-
  The gradient of the product by one half of the feed-forward layer's first weight.
  The rows are taken 1024 at a time: each grid point adds a block's products to what the points before it summed, and the last
  of the 4 points of a block of results writes the sum.
-/
module

public import proofs.«01_k».proof.Proof.Products.Sum
public import proofs.«01_k».proof.Proof.Gen.WUpIdeal.Value

@[expose] public section

set_option maxRecDepth 16384

noncomputable section

namespace Cert.WUpIdeal.Sums

open Idealize.ShloMosaic Idealize.ShloMosaic.TcCoe
open Cert.WUpIdeal Cert.WUpIdeal.Gen Cert.Products

theorem origin : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1024x1408 .f32) (h5 : a5.IsWhole)
  (a6 : Memref sig .tc .vmem S1024x1408 .f32) (h6 : a6.IsWhole) (x0 : Vec Ideal S1024x1024 .bf16) (x1 : Vec Ideal S1024x1408 .bf16) (acc : Vec Ideal S1024x1408 .f32)

/-- The products of one block of rows. -/
theorem block_apply (r : Fin 1024) (q : Fin 1408) : (k0_pay1 x0 x1 : FVec Ideal S1024x1408 .f32) (ix2 r q) = ∑ k : Fin 1024, x0 (ix2 r k) * x1 (ix2 k q) := by
  pointwise [k0_pay1]

/-- The first point keeps its block's products. -/
theorem first (hc0 : cond0_0 i) (hc1 : ¬cond0_1 i) (hc2 : ¬cond0_2 i) : sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero origin]
  simp only [View.readAt_eq_ld, h3.read_unread, h4.read_unread, View.ld_unit_zero (S := S1024x1024) origin, View.ld_unit_zero (S := S1024x1408) origin]

/-- The next points add theirs. -/
theorem next (hc0 : ¬cond0_0 i) (hc1 : cond0_1 i) (hc2 : ¬cond0_2 i) : sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero origin]
  simp only [View.readAt_eq_ld, h3.read_unread, h4.read_unread, h6.read_unread, View.ld_unit_zero (S := S1024x1024) origin,
    View.ld_unit_zero (S := S1024x1408) origin, View.ld_unit_zero (S := S1024x1408) origin]

/-- The last point writes the sum. -/
theorem last (hc0 : ¬cond0_0 i) (hc1 : ¬cond0_1 i) (hc2 : cond0_2 i) : out0_C_2 c i a3 h3 a4 h4 a5 h5 a6 h6 hc0 hc1 hc2 x0 x1 acc = k0_pay4 x0 x1 acc := by
  unfold out0_C_2
  rw [View.read_writes_eq_canon _ _ _ (cover0_C_2 c i a3 h3 a4 h4 a5 h5 a6 h6 hc0 hc1 hc2 x0 x1 acc)]
  unfold kernelRun0_C
  dsimp only
  rw [View.canon_unit_zero origin]
  simp only [View.readAt_eq_ld, h3.read_unread, h4.read_unread, h6.read_unread, View.ld_unit_zero (S := S1024x1024) origin,
    View.ld_unit_zero (S := S1024x1408) origin, View.ld_unit_zero (S := S1024x1408) origin]

theorem pay2_apply (r : Fin 1024) (q : Fin 1408) : (k0_pay2 x0 x1 : FVec Ideal S1024x1408 .f32) (ix2 r q) = ∑ k : Fin 1024, x0 (ix2 r k) * x1 (ix2 k q) := by
  refine Eq.trans ?_ (block_apply x0 x1 r q)
  pointwise [k0_pay2]

theorem pay3_apply (r : Fin 1024) (q : Fin 1408) : (k0_pay3 x0 x1 acc : FVec Ideal S1024x1408 .f32) (ix2 r q) = acc (ix2 r q) + ∑ k : Fin 1024, x0 (ix2 r k) * x1 (ix2 k q) := by
  refine Eq.trans ?_ (congrArg (acc (ix2 r q) + ·) (block_apply x0 x1 r q))
  pointwise [k0_pay3]

theorem pay4_apply (r : Fin 1024) (q : Fin 1408) : (k0_pay4 x0 x1 acc : FVec Ideal S1024x1408 .f32) (ix2 r q) = acc (ix2 r q) + ∑ k : Fin 1024, x0 (ix2 r k) * x1 (ix2 k q) := by
  refine Eq.trans ?_ (congrArg (acc (ix2 r q) + ·) (block_apply x0 x1 r q))
  pointwise [k0_pay4]

variable (m : (ℓ : Loc nD τ sig) → Buf (Elt Ideal) ℓ)

/-- The two arrays. -/
abbrev left (c : Dev nD) : Arr 4096 1024 := m ((c : Thread nD τ).loc main_arg0)
abbrev right (c : Dev nD) : Arr 4096 2816 := m ((c : Thread nD τ).loc main_arg1)

/-- The host turns the first array over. -/
theorem turned (c : Dev nD) : V m c main_v0 = transpose S1024x4096 [1, 0] (m ((c : Thread nD τ).loc main_arg0)) transposes_S4096x1024_S1024x4096_1_0 := by
  show StableHlo.after hostOps0 _ (Proc.devRef .tc main_v0) = _
  simp only [hostOps0]
  after_results

theorem index0 : ∀ t : Fin cfg0.N, win0_0.index t 0 = t.val / 4 / 2 ∧ win0_0.index t 1 = t.val % 4 := by decide +kernel
theorem index1 : ∀ t : Fin cfg0.N, win0_1.index t 0 = t.val % 4 ∧ win0_1.index t 1 = t.val / 4 % 2 := by decide +kernel
theorem index2 : ∀ t : Fin cfg0.N, win0_2.index t 0 = t.val / 4 / 2 ∧ win0_2.index t 1 = t.val / 4 % 2 := by decide +kernel

/-- A block of the first array. -/
theorem iblk0 (t : Fin cfg0.N) (r : Fin 1024) (k : Fin 1024) :
    (iblk m c 0 t : Vec Ideal S1024x1024 .bf16) (ix2 r k) = at2 (left m c) (1024 * (t.val % 4) + k.val) (1024 * (t.val / 4 / 2) + r.val) := by
  have hN : t.val < 8 := lt_of_lt_of_eq t.isLt N_0
  rw [at2_of_lt _ (by omega) (by omega)]
  unfold iblk
  rw [View.read_apply]
  show V m c main_v0 _ = _
  refine (congrArg (V m c main_v0) (?_ : _ = ix2 (n0 := 1024) (n1 := 4096) ⟨1024 * (t.val / 4 / 2) + r.val, by omega⟩ ⟨1024 * (t.val % 4) + k.val, by omega⟩)).trans ?_
  · funext a
    apply Fin.ext
    match a with
    | ⟨0, _⟩ => show win0_0.index t 0 * 1024 + 1 * r.val = _; rw [(index0 t).1]; show _ = 1024 * (t.val / 4 / 2) + r.val; omega
    | ⟨1, _⟩ => show win0_0.index t 1 * 1024 + 1 * k.val = _; rw [(index0 t).2]; show _ = 1024 * (t.val % 4) + k.val; omega
  · rw [turned]
    pointwise

/-- A block of the second. -/
theorem iblk1 (t : Fin cfg0.N) (k : Fin 1024) (q : Fin 1408) :
    (iblk m c 1 t : Vec Ideal S1024x1408 .bf16) (ix2 k q) = at2 (right m c) (1024 * (t.val % 4) + k.val) (1408 * (t.val / 4 % 2) + q.val) := by
  have hN : t.val < 8 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 1024 + 1 * k.val = _; rw [(index1 t).1]; show _ = 1024 * (t.val % 4) + k.val; omega) (by show win0_1.index t 1 * 1408 + 1 * q.val = _; rw [(index1 t).2]; show _ = 1408 * (t.val / 4 % 2) + q.val; omega)

/-- What is summed after a point that is not the last of its 4: the products of the rows up to its block. -/
theorem summed : ∀ (n : ℕ) (hn : n < cfg0.N), n % 4 < 3 → ∀ (r : Fin 1024) (q : Fin 1408),
    (outsAt0 m c n hn).2 (ix2 r q) = dotTo (left m c) (right m c) (1024 * (n % 4) + 1024) (1024 * (n / 4 / 2) + r.val) (1408 * (n / 4 % 2) + q.val) := by
  have start : ∀ (n : ℕ) (hn : n < cfg0.N), n % 4 = 0 → ∀ (r : Fin 1024) (q : Fin 1408),
      (outsAt0 m c n hn).2 (ix2 r q) = dotTo (left m c) (right m c) (1024 * (n % 4) + 1024) (1024 * (n / 4 / 2) + r.val) (1408 * (n / 4 % 2) + q.val) := by
    intro n hn h0 r q
    rw [outsAt0_A m c ⟨n, hn⟩ h0 (by dsimp only; omega) (by dsimp only; omega)]
    dsimp only
    rw [first, pay2_apply, dotTo_add, h0]
    refine (Finset.sum_congr rfl fun k _ => by rw [iblk0, iblk1]; dsimp only; rw [h0]).trans (zero_add _).symm
  intro n
  induction n with
  | zero => exact fun hn _ => start 0 hn rfl
  | succ n ih =>
    intro hn h3 r q
    by_cases h0 : (n + 1) % 4 = 0
    · exact start (n + 1) hn h0 r q
    have hm : n % 4 + 1 = (n + 1) % 4 := by omega
    have hd : n / 4 = (n + 1) / 4 := by omega
    rw [outsAt0_B m c ⟨n + 1, hn⟩ h0 (by dsimp only; omega) (by dsimp only; omega)]
    dsimp only
    rw [next, pay3_apply, dotTo_add]
    refine congr (congrArg HAdd.hAdd ?_) (Finset.sum_congr rfl fun k _ => by rw [iblk0, iblk1])
    refine (ih (Nat.lt_of_succ_lt hn) (by omega) r q).trans ?_
    rw [hd, ← hm]
    rfl

/-- What the last of the 4 points writes: the products of all the rows. -/
theorem written (t : Fin cfg0.N) (h3 : t.val % 4 = 3) (r : Fin 1024) (q : Fin 1408) :
    (outsAt0 m c t.val t.isLt).1 (ix2 r q) = dotTo (left m c) (right m c) 4096 (1024 * (t.val / 4 / 2) + r.val) (1408 * (t.val / 4 % 2) + q.val) := by
  rw [outsAt0_C m c t (by omega) (by omega) h3]
  dsimp only
  rw [last, pay4_apply]
  refine Eq.trans ?_ (dotTo_add (left m c) (right m c) 3072 1024 _ _).symm
  refine congr (congrArg HAdd.hAdd ?_) (Finset.sum_congr rfl fun k _ => by rw [iblk0, iblk1, h3])
  have hm : (t.val - 1) % 4 = 2 := by omega
  have hd : (t.val - 1) / 4 = t.val / 4 := by omega
  refine (summed c m (t.val - 1) (Nat.lt_of_le_of_lt (Nat.sub_le _ _) t.isLt) (by omega) r q).trans ?_
  rw [hd, hm]

/-- The result: the product of the first array's transpose by the second. -/
theorem result : (dats m 0 c).arrAt 2 cfg0.N = product (left m c) (right m c) :=
  (dats m 0 c).arrAt_eq_of_cover 2 (product (left m c) (right m c)) (fun t hf => by
    have hN : t.val < 8 := lt_of_lt_of_eq t.isLt N_0
    rw [Value.flushed2]
    funext y
    obtain ⟨r, q, rfl⟩ : ∃ (r : Fin 1024) (q : Fin 1408), y = ix2 r q := pairs y
    refine Eq.trans (show _ = (outsAt0 m c t.val t.isLt).1 (ix2 r q) from rfl) ?_
    rw [written c m t ((flush0_2 t).mp hf) r q, View.read_apply]
    refine (dotTo_all (left m c) (right m c) ⟨1024 * (t.val / 4 / 2) + r.val, by omega⟩ ⟨1408 * (t.val / 4 % 2) + q.val, by omega⟩).trans ?_
    show product (left m c) (right m c) (ix2 ⟨1024 * (t.val / 4 / 2) + r.val, by omega⟩ ⟨1408 * (t.val / 4 % 2) + q.val, by omega⟩) = product (left m c) (right m c) _
    congr 1
    exact ext2 (by show 1024 * (t.val / 4 / 2) + r.val = win0_2.index t 0 * 1024 + 1 * r.val; rw [(index2 t).1]; omega) (by show 1408 * (t.val / 4 % 2) + q.val = win0_2.index t 1 * 1408 + 1 * q.val; rw [(index2 t).2]; omega)) fun i => by
    have h0 : (i 0).val < 1024 := (i 0).isLt
    have h1 : (i 1).val < 2816 := (i 1).isLt
    have ht : (2 * ((i 0).val / 1024) + (i 1).val / 1408) * 4 + 3 < cfg0.N := by rw [show cfg0.N = 8 from N_0]; omega
    obtain ⟨t, e⟩ : ∃ t : Fin cfg0.N, t.val = (2 * ((i 0).val / 1024) + (i 1).val / 1408) * 4 + 3 := ⟨⟨_, ht⟩, rfl⟩
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 1408 ≤ (i 1).val ∧ (i 1).val < win0_2.index t 1 * 1408 + 1408
      rw [(index2 t).2]; omega

end Cert.WUpIdeal.Sums
-- ==== Proof.Products.UpReference.lean ====
/-
  The reference's gradient is the product the kernel sums.
-/
module

public import proofs.«01_k».proof.Defs
public import proofs.«01_k».proof.Proof.Products.Up
public import proofs.«01_k».proof.Proof.Gen.WUpIdeal
public import proofs.«01_k».proof.Proof.Gen.WUpRefIdeal
public import proofs.«01_k».proof.Proof.Gen.WUpRefIdeal.Run
public import proofs.«01_k».proof.Proof.Gen.WUpRefIdeal.Read
public import Idealize.ShloMosaic.Adequacy

@[expose] public section

set_option maxRecDepth 16384

noncomputable section

namespace Cert.WUpRefIdeal.Sums

open Idealize.ShloMosaic Idealize.SL.Sem Cert.Products

/-- The reference's result, an entry at a time. -/
theorem value (x0 : Arr 4096 1024) (x1 : Arr 4096 2816) :
    Read.val_main_v5 (F := Ideal) x0 x1 = product x0 x1 := by
  funext i
  rw [Read.val_main_v5_apply, Read.val_main_v4_apply]
  refine Finset.sum_congr rfl fun k _ => (mul_comm _ _).trans ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WUpRefIdeal (hWUpRefIdeal := Gen.facts) := fun m ρ _ =>
  (θ_run Cert.WUpRefIdeal.defs _ _).mono (fun r h => ⟨fun c => (h c).2, sem_eq_zero_of_no_sems (by decide) r.2⟩) (Value.run m ρ)

/-- From arrays that agree, the two results are one. -/
theorem agreeing (a0 : Arr 4096 1024) (a1 : Arr 4096 2816) (b0 : Arr 4096 1024) (b1 : Arr 4096 2816)
    (e0 : b0 = a0) (e1 : b1 = a1) : Read.val_main_v5 (F := Ideal) b0 b1 = product a0 a1 := by
  subst e0 e1
  exact value b0 b1

/-- The kernel's result is the reference's. -/
theorem equation : Cert.algebraic_WUpIdeal_WUpRefIdeal (hWUpIdeal := Cert.WUpIdeal.Gen.facts) (hWUpRefIdeal := Gen.facts) := by
  intro m ρ m' ρ' _ agree
  refine ⟨fun c => (Cert.WUpIdeal.Gen.dats m 0 c).arrAt 2 Cert.WUpIdeal.cfg0.N, Cert.WUpIdeal.Value.run_blocks m ρ, ?_⟩
  refine (θ_run Cert.WUpRefIdeal.defs _ _).mono (fun r h c => ?_) (Value.run m' ρ')
  exact ⟨(((h c).1.trans (Read.val_main_v5_eq (m' ((c.tc : Thread nD τ).loc main_arg0)) (m' ((c.tc : Thread nD τ).loc main_arg1)))).trans (agreeing _ _ _ _ (agree c).1 (agree c).2)).trans
    (Cert.WUpIdeal.Sums.result c m).symm, (h c).2⟩

end Cert.WUpRefIdeal.Sums
-- ==== Proof.Products.Down.lean ====
/-
  The gradient of the feed-forward layer's second weight.
  The rows are taken 1024 at a time: each grid point adds a block's products to what the points before it summed, and the last
  of the 4 points of a block of results writes the sum.
-/
module

public import proofs.«01_k».proof.Proof.Products.Sum
public import proofs.«01_k».proof.Proof.Gen.WDownIdeal.Value

@[expose] public section

set_option maxRecDepth 16384

noncomputable section

namespace Cert.WDownIdeal.Sums

open Idealize.ShloMosaic Idealize.ShloMosaic.TcCoe
open Cert.WDownIdeal Cert.WDownIdeal.Gen Cert.Products

theorem origin : (![0, 0] : Fin 2 → Nat) = fun _ => 0 := funext fun a => by fin_cases a <;> rfl

variable (c : Dev nD) (i : grid0.Coords) (a3 : Memref sig .tc .vmem S1408x1024 .bf16) (h3 : a3.IsWhole)
  (a4 : Memref sig .tc .vmem S1024x1024 .bf16) (h4 : a4.IsWhole) (a5 : Memref sig .tc .vmem S1408x1024 .f32) (h5 : a5.IsWhole)
  (a6 : Memref sig .tc .vmem S1408x1024 .f32) (h6 : a6.IsWhole) (x0 : Vec Ideal S1408x1024 .bf16) (x1 : Vec Ideal S1024x1024 .bf16) (acc : Vec Ideal S1408x1024 .f32)

/-- The products of one block of rows. -/
theorem block_apply (r : Fin 1408) (q : Fin 1024) : (k0_pay1 x0 x1 : FVec Ideal S1408x1024 .f32) (ix2 r q) = ∑ k : Fin 1024, x0 (ix2 r k) * x1 (ix2 k q) := by
  pointwise [k0_pay1]

/-- The first point keeps its block's products. -/
theorem first (hc0 : cond0_0 i) (hc1 : ¬cond0_1 i) (hc2 : ¬cond0_2 i) : sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero origin]
  simp only [View.readAt_eq_ld, h3.read_unread, h4.read_unread, View.ld_unit_zero (S := S1408x1024) origin, View.ld_unit_zero (S := S1024x1024) origin]

/-- The next points add theirs. -/
theorem next (hc0 : ¬cond0_0 i) (hc1 : cond0_1 i) (hc2 : ¬cond0_2 i) : sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero origin]
  simp only [View.readAt_eq_ld, h3.read_unread, h4.read_unread, h6.read_unread, View.ld_unit_zero (S := S1408x1024) origin,
    View.ld_unit_zero (S := S1024x1024) origin, View.ld_unit_zero (S := S1408x1024) origin]

/-- The last point writes the sum. -/
theorem last (hc0 : ¬cond0_0 i) (hc1 : ¬cond0_1 i) (hc2 : cond0_2 i) : out0_C_2 c i a3 h3 a4 h4 a5 h5 a6 h6 hc0 hc1 hc2 x0 x1 acc = k0_pay4 x0 x1 acc := by
  unfold out0_C_2
  rw [View.read_writes_eq_canon _ _ _ (cover0_C_2 c i a3 h3 a4 h4 a5 h5 a6 h6 hc0 hc1 hc2 x0 x1 acc)]
  unfold kernelRun0_C
  dsimp only
  rw [View.canon_unit_zero origin]
  simp only [View.readAt_eq_ld, h3.read_unread, h4.read_unread, h6.read_unread, View.ld_unit_zero (S := S1408x1024) origin,
    View.ld_unit_zero (S := S1024x1024) origin, View.ld_unit_zero (S := S1408x1024) origin]

theorem pay2_apply (r : Fin 1408) (q : Fin 1024) : (k0_pay2 x0 x1 : FVec Ideal S1408x1024 .f32) (ix2 r q) = ∑ k : Fin 1024, x0 (ix2 r k) * x1 (ix2 k q) := by
  refine Eq.trans ?_ (block_apply x0 x1 r q)
  pointwise [k0_pay2]

theorem pay3_apply (r : Fin 1408) (q : Fin 1024) : (k0_pay3 x0 x1 acc : FVec Ideal S1408x1024 .f32) (ix2 r q) = acc (ix2 r q) + ∑ k : Fin 1024, x0 (ix2 r k) * x1 (ix2 k q) := by
  refine Eq.trans ?_ (congrArg (acc (ix2 r q) + ·) (block_apply x0 x1 r q))
  pointwise [k0_pay3]

theorem pay4_apply (r : Fin 1408) (q : Fin 1024) : (k0_pay4 x0 x1 acc : FVec Ideal S1408x1024 .f32) (ix2 r q) = acc (ix2 r q) + ∑ k : Fin 1024, x0 (ix2 r k) * x1 (ix2 k q) := by
  refine Eq.trans ?_ (congrArg (acc (ix2 r q) + ·) (block_apply x0 x1 r q))
  pointwise [k0_pay4]

variable (m : (ℓ : Loc nD τ sig) → Buf (Elt Ideal) ℓ)

/-- The two arrays. -/
abbrev left (c : Dev nD) : Arr 4096 2816 := m ((c : Thread nD τ).loc main_arg0)
abbrev right (c : Dev nD) : Arr 4096 1024 := m ((c : Thread nD τ).loc main_arg1)

/-- The host turns the first array over. -/
theorem turned (c : Dev nD) : V m c main_v0 = transpose S2816x4096 [1, 0] (m ((c : Thread nD τ).loc main_arg0)) transposes_S4096x2816_S2816x4096_1_0 := by
  show StableHlo.after hostOps0 _ (Proc.devRef .tc main_v0) = _
  simp only [hostOps0]
  after_results

theorem index0 : ∀ t : Fin cfg0.N, win0_0.index t 0 = t.val / 4 / 1 ∧ win0_0.index t 1 = t.val % 4 := by decide +kernel
theorem index1 : ∀ t : Fin cfg0.N, win0_1.index t 0 = t.val % 4 ∧ win0_1.index t 1 = t.val / 4 % 1 := by decide +kernel
theorem index2 : ∀ t : Fin cfg0.N, win0_2.index t 0 = t.val / 4 / 1 ∧ win0_2.index t 1 = t.val / 4 % 1 := by decide +kernel

/-- A block of the first array. -/
theorem iblk0 (t : Fin cfg0.N) (r : Fin 1408) (k : Fin 1024) :
    (iblk m c 0 t : Vec Ideal S1408x1024 .bf16) (ix2 r k) = at2 (left m c) (1024 * (t.val % 4) + k.val) (1408 * (t.val / 4 / 1) + r.val) := by
  have hN : t.val < 8 := lt_of_lt_of_eq t.isLt N_0
  rw [at2_of_lt _ (by omega) (by omega)]
  unfold iblk
  rw [View.read_apply]
  show V m c main_v0 _ = _
  refine (congrArg (V m c main_v0) (?_ : _ = ix2 (n0 := 2816) (n1 := 4096) ⟨1408 * (t.val / 4 / 1) + r.val, by omega⟩ ⟨1024 * (t.val % 4) + k.val, by omega⟩)).trans ?_
  · funext a
    apply Fin.ext
    match a with
    | ⟨0, _⟩ => show win0_0.index t 0 * 1408 + 1 * r.val = _; rw [(index0 t).1]; show _ = 1408 * (t.val / 4 / 1) + r.val; omega
    | ⟨1, _⟩ => show win0_0.index t 1 * 1024 + 1 * k.val = _; rw [(index0 t).2]; show _ = 1024 * (t.val % 4) + k.val; omega
  · rw [turned]
    pointwise

/-- A block of the second. -/
theorem iblk1 (t : Fin cfg0.N) (k : Fin 1024) (q : Fin 1024) :
    (iblk m c 1 t : Vec Ideal S1024x1024 .bf16) (ix2 k q) = at2 (right m c) (1024 * (t.val % 4) + k.val) (1024 * (t.val / 4 % 1) + q.val) := by
  have hN : t.val < 8 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 1024 + 1 * k.val = _; rw [(index1 t).1]; show _ = 1024 * (t.val % 4) + k.val; omega) (by show win0_1.index t 1 * 1024 + 1 * q.val = _; rw [(index1 t).2]; show _ = 1024 * (t.val / 4 % 1) + q.val; omega)

/-- What is summed after a point that is not the last of its 4: the products of the rows up to its block. -/
theorem summed : ∀ (n : ℕ) (hn : n < cfg0.N), n % 4 < 3 → ∀ (r : Fin 1408) (q : Fin 1024),
    (outsAt0 m c n hn).2 (ix2 r q) = dotTo (left m c) (right m c) (1024 * (n % 4) + 1024) (1408 * (n / 4 / 1) + r.val) (1024 * (n / 4 % 1) + q.val) := by
  have start : ∀ (n : ℕ) (hn : n < cfg0.N), n % 4 = 0 → ∀ (r : Fin 1408) (q : Fin 1024),
      (outsAt0 m c n hn).2 (ix2 r q) = dotTo (left m c) (right m c) (1024 * (n % 4) + 1024) (1408 * (n / 4 / 1) + r.val) (1024 * (n / 4 % 1) + q.val) := by
    intro n hn h0 r q
    rw [outsAt0_A m c ⟨n, hn⟩ h0 (by dsimp only; omega) (by dsimp only; omega)]
    dsimp only
    rw [first, pay2_apply, dotTo_add, h0]
    refine (Finset.sum_congr rfl fun k _ => by rw [iblk0, iblk1]; dsimp only; rw [h0]).trans (zero_add _).symm
  intro n
  induction n with
  | zero => exact fun hn _ => start 0 hn rfl
  | succ n ih =>
    intro hn h3 r q
    by_cases h0 : (n + 1) % 4 = 0
    · exact start (n + 1) hn h0 r q
    have hm : n % 4 + 1 = (n + 1) % 4 := by omega
    have hd : n / 4 = (n + 1) / 4 := by omega
    rw [outsAt0_B m c ⟨n + 1, hn⟩ h0 (by dsimp only; omega) (by dsimp only; omega)]
    dsimp only
    rw [next, pay3_apply, dotTo_add]
    refine congr (congrArg HAdd.hAdd ?_) (Finset.sum_congr rfl fun k _ => by rw [iblk0, iblk1])
    refine (ih (Nat.lt_of_succ_lt hn) (by omega) r q).trans ?_
    rw [hd, ← hm]
    rfl

/-- What the last of the 4 points writes: the products of all the rows. -/
theorem written (t : Fin cfg0.N) (h3 : t.val % 4 = 3) (r : Fin 1408) (q : Fin 1024) :
    (outsAt0 m c t.val t.isLt).1 (ix2 r q) = dotTo (left m c) (right m c) 4096 (1408 * (t.val / 4 / 1) + r.val) (1024 * (t.val / 4 % 1) + q.val) := by
  rw [outsAt0_C m c t (by omega) (by omega) h3]
  dsimp only
  rw [last, pay4_apply]
  refine Eq.trans ?_ (dotTo_add (left m c) (right m c) 3072 1024 _ _).symm
  refine congr (congrArg HAdd.hAdd ?_) (Finset.sum_congr rfl fun k _ => by rw [iblk0, iblk1, h3])
  have hm : (t.val - 1) % 4 = 2 := by omega
  have hd : (t.val - 1) / 4 = t.val / 4 := by omega
  refine (summed c m (t.val - 1) (Nat.lt_of_le_of_lt (Nat.sub_le _ _) t.isLt) (by omega) r q).trans ?_
  rw [hd, hm]

/-- The result: the product of the first array's transpose by the second. -/
theorem result : (dats m 0 c).arrAt 2 cfg0.N = product (left m c) (right m c) :=
  (dats m 0 c).arrAt_eq_of_cover 2 (product (left m c) (right m c)) (fun t hf => by
    have hN : t.val < 8 := lt_of_lt_of_eq t.isLt N_0
    rw [Value.flushed2]
    funext y
    obtain ⟨r, q, rfl⟩ : ∃ (r : Fin 1408) (q : Fin 1024), y = ix2 r q := pairs y
    refine Eq.trans (show _ = (outsAt0 m c t.val t.isLt).1 (ix2 r q) from rfl) ?_
    rw [written c m t ((flush0_2 t).mp hf) r q, View.read_apply]
    refine (dotTo_all (left m c) (right m c) ⟨1408 * (t.val / 4 / 1) + r.val, by omega⟩ ⟨1024 * (t.val / 4 % 1) + q.val, by omega⟩).trans ?_
    show product (left m c) (right m c) (ix2 ⟨1408 * (t.val / 4 / 1) + r.val, by omega⟩ ⟨1024 * (t.val / 4 % 1) + q.val, by omega⟩) = product (left m c) (right m c) _
    congr 1
    exact ext2 (by show 1408 * (t.val / 4 / 1) + r.val = win0_2.index t 0 * 1408 + 1 * r.val; rw [(index2 t).1]; omega) (by show 1024 * (t.val / 4 % 1) + q.val = win0_2.index t 1 * 1024 + 1 * q.val; rw [(index2 t).2]; omega)) fun i => by
    have h0 : (i 0).val < 2816 := (i 0).isLt
    have h1 : (i 1).val < 1024 := (i 1).isLt
    have ht : (1 * ((i 0).val / 1408) + (i 1).val / 1024) * 4 + 3 < cfg0.N := by rw [show cfg0.N = 8 from N_0]; omega
    obtain ⟨t, e⟩ : ∃ t : Fin cfg0.N, t.val = (1 * ((i 0).val / 1408) + (i 1).val / 1024) * 4 + 3 := ⟨⟨_, ht⟩, rfl⟩
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1408 ≤ (i 0).val ∧ (i 0).val < win0_2.index t 0 * 1408 + 1408
      rw [(index2 t).1]; omega
    | ⟨1, _⟩ =>
      show win0_2.index t 1 * 1024 ≤ (i 1).val ∧ (i 1).val < win0_2.index t 1 * 1024 + 1024
      rw [(index2 t).2]; omega

end Cert.WDownIdeal.Sums
-- ==== Proof.Products.DownReference.lean ====
/-
  The reference's gradient is the product the kernel sums.
-/
module

public import proofs.«01_k».proof.Defs
public import proofs.«01_k».proof.Proof.Products.Down
public import proofs.«01_k».proof.Proof.Gen.WDownIdeal
public import proofs.«01_k».proof.Proof.Gen.WDownRefIdeal
public import proofs.«01_k».proof.Proof.Gen.WDownRefIdeal.Run
public import proofs.«01_k».proof.Proof.Gen.WDownRefIdeal.Read
public import Idealize.ShloMosaic.Adequacy

@[expose] public section

set_option maxRecDepth 16384

noncomputable section

namespace Cert.WDownRefIdeal.Sums

open Idealize.ShloMosaic Idealize.SL.Sem Cert.Products

/-- The reference's result, an entry at a time. -/
theorem value (x0 : Arr 4096 2816) (x1 : Arr 4096 1024) :
    Read.val_main_v5 (F := Ideal) x0 x1 = product x0 x1 := by
  funext i
  rw [Read.val_main_v5_apply, Read.val_main_v4_apply]
  refine Finset.sum_congr rfl fun k _ => (mul_comm _ _).trans ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WDownRefIdeal (hWDownRefIdeal := Gen.facts) := fun m ρ _ =>
  (θ_run Cert.WDownRefIdeal.defs _ _).mono (fun r h => ⟨fun c => (h c).2, sem_eq_zero_of_no_sems (by decide) r.2⟩) (Value.run m ρ)

/-- From arrays that agree, the two results are one. -/
theorem agreeing (a0 : Arr 4096 2816) (a1 : Arr 4096 1024) (b0 : Arr 4096 2816) (b1 : Arr 4096 1024)
    (e0 : b0 = a0) (e1 : b1 = a1) : Read.val_main_v5 (F := Ideal) b0 b1 = product a0 a1 := by
  subst e0 e1
  exact value b0 b1

/-- The kernel's result is the reference's. -/
theorem equation : Cert.algebraic_WDownIdeal_WDownRefIdeal (hWDownIdeal := Cert.WDownIdeal.Gen.facts) (hWDownRefIdeal := Gen.facts) := by
  intro m ρ m' ρ' _ agree
  refine ⟨fun c => (Cert.WDownIdeal.Gen.dats m 0 c).arrAt 2 Cert.WDownIdeal.cfg0.N, Cert.WDownIdeal.Value.run_blocks m ρ, ?_⟩
  refine (θ_run Cert.WDownRefIdeal.defs _ _).mono (fun r h c => ?_) (Value.run m' ρ')
  exact ⟨(((h c).1.trans (Read.val_main_v5_eq (m' ((c.tc : Thread nD τ).loc main_arg0)) (m' ((c.tc : Thread nD τ).loc main_arg1)))).trans (agreeing _ _ _ _ (agree c).1 (agree c).2)).trans
    (Cert.WDownIdeal.Sums.result c m).symm, (h c).2⟩

end Cert.WDownRefIdeal.Sums
-- ==== Proof.Products.Query.lean ====
/-
  The gradient of the attention's query weight, and of the recurrence's queries and keys in the input projection.
  The rows are taken 1024 at a time: each grid point adds a block's products to what the points before it summed, and the last
  of the 4 points of a block of results writes the sum.
-/
module

public import proofs.«01_k».proof.Proof.Products.Sum
public import proofs.«01_k».proof.Proof.Gen.WQIdeal.Value

@[expose] public section

set_option maxRecDepth 16384

noncomputable section

namespace Cert.WQIdeal.Sums

open Idealize.ShloMosaic Idealize.ShloMosaic.TcCoe
open Cert.WQIdeal Cert.WQIdeal.Gen Cert.Products

theorem origin : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 : Vec Ideal S1024x1024 .bf16) (x1 : Vec Ideal S1024x1024 .bf16) (acc : Vec Ideal S1024x1024 .f32)

/-- The products of one block of rows. -/
theorem block_apply (r : Fin 1024) (q : Fin 1024) : (k0_pay1 x0 x1 : FVec Ideal S1024x1024 .f32) (ix2 r q) = ∑ k : Fin 1024, x0 (ix2 r k) * x1 (ix2 k q) := by
  pointwise [k0_pay1]

/-- The first point keeps its block's products. -/
theorem first (hc0 : cond0_0 i) (hc1 : ¬cond0_1 i) (hc2 : ¬cond0_2 i) : sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero origin]
  simp only [View.readAt_eq_ld, h3.read_unread, h4.read_unread, View.ld_unit_zero (S := S1024x1024) origin, View.ld_unit_zero (S := S1024x1024) origin]

/-- The next points add theirs. -/
theorem next (hc0 : ¬cond0_0 i) (hc1 : cond0_1 i) (hc2 : ¬cond0_2 i) : sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero origin]
  simp only [View.readAt_eq_ld, h3.read_unread, h4.read_unread, h6.read_unread, View.ld_unit_zero (S := S1024x1024) origin,
    View.ld_unit_zero (S := S1024x1024) origin, View.ld_unit_zero (S := S1024x1024) origin]

/-- The last point writes the sum. -/
theorem last (hc0 : ¬cond0_0 i) (hc1 : ¬cond0_1 i) (hc2 : cond0_2 i) : out0_C_2 c i a3 h3 a4 h4 a5 h5 a6 h6 hc0 hc1 hc2 x0 x1 acc = k0_pay4 x0 x1 acc := by
  unfold out0_C_2
  rw [View.read_writes_eq_canon _ _ _ (cover0_C_2 c i a3 h3 a4 h4 a5 h5 a6 h6 hc0 hc1 hc2 x0 x1 acc)]
  unfold kernelRun0_C
  dsimp only
  rw [View.canon_unit_zero origin]
  simp only [View.readAt_eq_ld, h3.read_unread, h4.read_unread, h6.read_unread, View.ld_unit_zero (S := S1024x1024) origin,
    View.ld_unit_zero (S := S1024x1024) origin, View.ld_unit_zero (S := S1024x1024) origin]

theorem pay2_apply (r : Fin 1024) (q : Fin 1024) : (k0_pay2 x0 x1 : FVec Ideal S1024x1024 .f32) (ix2 r q) = ∑ k : Fin 1024, x0 (ix2 r k) * x1 (ix2 k q) := by
  refine Eq.trans ?_ (block_apply x0 x1 r q)
  pointwise [k0_pay2]

theorem pay3_apply (r : Fin 1024) (q : Fin 1024) : (k0_pay3 x0 x1 acc : FVec Ideal S1024x1024 .f32) (ix2 r q) = acc (ix2 r q) + ∑ k : Fin 1024, x0 (ix2 r k) * x1 (ix2 k q) := by
  refine Eq.trans ?_ (congrArg (acc (ix2 r q) + ·) (block_apply x0 x1 r q))
  pointwise [k0_pay3]

theorem pay4_apply (r : Fin 1024) (q : Fin 1024) : (k0_pay4 x0 x1 acc : FVec Ideal S1024x1024 .f32) (ix2 r q) = acc (ix2 r q) + ∑ k : Fin 1024, x0 (ix2 r k) * x1 (ix2 k q) := by
  refine Eq.trans ?_ (congrArg (acc (ix2 r q) + ·) (block_apply x0 x1 r q))
  pointwise [k0_pay4]

variable (m : (ℓ : Loc nD τ sig) → Buf (Elt Ideal) ℓ)

/-- The two arrays. -/
abbrev left (c : Dev nD) : Arr 4096 1024 := m ((c : Thread nD τ).loc main_arg0)
abbrev right (c : Dev nD) : Arr 4096 1024 := m ((c : Thread nD τ).loc main_arg1)

/-- The host turns the first array over. -/
theorem turned (c : Dev nD) : V m c main_v0 = transpose S1024x4096 [1, 0] (m ((c : Thread nD τ).loc main_arg0)) transposes_S4096x1024_S1024x4096_1_0 := by
  show StableHlo.after hostOps0 _ (Proc.devRef .tc main_v0) = _
  simp only [hostOps0]
  after_results

theorem index0 : ∀ t : Fin cfg0.N, win0_0.index t 0 = t.val / 4 / 1 ∧ win0_0.index t 1 = t.val % 4 := by decide +kernel
theorem index1 : ∀ t : Fin cfg0.N, win0_1.index t 0 = t.val % 4 ∧ win0_1.index t 1 = t.val / 4 % 1 := by decide +kernel
theorem index2 : ∀ t : Fin cfg0.N, win0_2.index t 0 = t.val / 4 / 1 ∧ win0_2.index t 1 = t.val / 4 % 1 := by decide +kernel

/-- A block of the first array. -/
theorem iblk0 (t : Fin cfg0.N) (r : Fin 1024) (k : Fin 1024) :
    (iblk m c 0 t : Vec Ideal S1024x1024 .bf16) (ix2 r k) = at2 (left m c) (1024 * (t.val % 4) + k.val) (1024 * (t.val / 4 / 1) + r.val) := by
  have hN : t.val < 4 := lt_of_lt_of_eq t.isLt N_0
  rw [at2_of_lt _ (by omega) (by omega)]
  unfold iblk
  rw [View.read_apply]
  show V m c main_v0 _ = _
  refine (congrArg (V m c main_v0) (?_ : _ = ix2 (n0 := 1024) (n1 := 4096) ⟨1024 * (t.val / 4 / 1) + r.val, by omega⟩ ⟨1024 * (t.val % 4) + k.val, by omega⟩)).trans ?_
  · funext a
    apply Fin.ext
    match a with
    | ⟨0, _⟩ => show win0_0.index t 0 * 1024 + 1 * r.val = _; rw [(index0 t).1]; show _ = 1024 * (t.val / 4 / 1) + r.val; omega
    | ⟨1, _⟩ => show win0_0.index t 1 * 1024 + 1 * k.val = _; rw [(index0 t).2]; show _ = 1024 * (t.val % 4) + k.val; omega
  · rw [turned]
    pointwise

/-- A block of the second. -/
theorem iblk1 (t : Fin cfg0.N) (k : Fin 1024) (q : Fin 1024) :
    (iblk m c 1 t : Vec Ideal S1024x1024 .bf16) (ix2 k q) = at2 (right m c) (1024 * (t.val % 4) + k.val) (1024 * (t.val / 4 % 1) + q.val) := by
  have hN : t.val < 4 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 1024 + 1 * k.val = _; rw [(index1 t).1]; show _ = 1024 * (t.val % 4) + k.val; omega) (by show win0_1.index t 1 * 1024 + 1 * q.val = _; rw [(index1 t).2]; show _ = 1024 * (t.val / 4 % 1) + q.val; omega)

/-- What is summed after a point that is not the last of its 4: the products of the rows up to its block. -/
theorem summed : ∀ (n : ℕ) (hn : n < cfg0.N), n % 4 < 3 → ∀ (r : Fin 1024) (q : Fin 1024),
    (outsAt0 m c n hn).2 (ix2 r q) = dotTo (left m c) (right m c) (1024 * (n % 4) + 1024) (1024 * (n / 4 / 1) + r.val) (1024 * (n / 4 % 1) + q.val) := by
  have start : ∀ (n : ℕ) (hn : n < cfg0.N), n % 4 = 0 → ∀ (r : Fin 1024) (q : Fin 1024),
      (outsAt0 m c n hn).2 (ix2 r q) = dotTo (left m c) (right m c) (1024 * (n % 4) + 1024) (1024 * (n / 4 / 1) + r.val) (1024 * (n / 4 % 1) + q.val) := by
    intro n hn h0 r q
    rw [outsAt0_A m c ⟨n, hn⟩ h0 (by dsimp only; omega) (by dsimp only; omega)]
    dsimp only
    rw [first, pay2_apply, dotTo_add, h0]
    refine (Finset.sum_congr rfl fun k _ => by rw [iblk0, iblk1]; dsimp only; rw [h0]).trans (zero_add _).symm
  intro n
  induction n with
  | zero => exact fun hn _ => start 0 hn rfl
  | succ n ih =>
    intro hn h3 r q
    by_cases h0 : (n + 1) % 4 = 0
    · exact start (n + 1) hn h0 r q
    have hm : n % 4 + 1 = (n + 1) % 4 := by omega
    have hd : n / 4 = (n + 1) / 4 := by omega
    rw [outsAt0_B m c ⟨n + 1, hn⟩ h0 (by dsimp only; omega) (by dsimp only; omega)]
    dsimp only
    rw [next, pay3_apply, dotTo_add]
    refine congr (congrArg HAdd.hAdd ?_) (Finset.sum_congr rfl fun k _ => by rw [iblk0, iblk1])
    refine (ih (Nat.lt_of_succ_lt hn) (by omega) r q).trans ?_
    rw [hd, ← hm]
    rfl

/-- What the last of the 4 points writes: the products of all the rows. -/
theorem written (t : Fin cfg0.N) (h3 : t.val % 4 = 3) (r : Fin 1024) (q : Fin 1024) :
    (outsAt0 m c t.val t.isLt).1 (ix2 r q) = dotTo (left m c) (right m c) 4096 (1024 * (t.val / 4 / 1) + r.val) (1024 * (t.val / 4 % 1) + q.val) := by
  rw [outsAt0_C m c t (by omega) (by omega) h3]
  dsimp only
  rw [last, pay4_apply]
  refine Eq.trans ?_ (dotTo_add (left m c) (right m c) 3072 1024 _ _).symm
  refine congr (congrArg HAdd.hAdd ?_) (Finset.sum_congr rfl fun k _ => by rw [iblk0, iblk1, h3])
  have hm : (t.val - 1) % 4 = 2 := by omega
  have hd : (t.val - 1) / 4 = t.val / 4 := by omega
  refine (summed c m (t.val - 1) (Nat.lt_of_le_of_lt (Nat.sub_le _ _) t.isLt) (by omega) r q).trans ?_
  rw [hd, hm]

/-- The result: the product of the first array's transpose by the second. -/
theorem result : (dats m 0 c).arrAt 2 cfg0.N = product (left m c) (right m c) :=
  (dats m 0 c).arrAt_eq_of_cover 2 (product (left m c) (right m c)) (fun t hf => by
    have hN : t.val < 4 := lt_of_lt_of_eq t.isLt N_0
    rw [Value.flushed2]
    funext y
    obtain ⟨r, q, rfl⟩ : ∃ (r : Fin 1024) (q : Fin 1024), y = ix2 r q := pairs y
    refine Eq.trans (show _ = (outsAt0 m c t.val t.isLt).1 (ix2 r q) from rfl) ?_
    rw [written c m t ((flush0_2 t).mp hf) r q, View.read_apply]
    refine (dotTo_all (left m c) (right m c) ⟨1024 * (t.val / 4 / 1) + r.val, by omega⟩ ⟨1024 * (t.val / 4 % 1) + q.val, by omega⟩).trans ?_
    show product (left m c) (right m c) (ix2 ⟨1024 * (t.val / 4 / 1) + r.val, by omega⟩ ⟨1024 * (t.val / 4 % 1) + q.val, by omega⟩) = product (left m c) (right m c) _
    congr 1
    exact ext2 (by show 1024 * (t.val / 4 / 1) + r.val = win0_2.index t 0 * 1024 + 1 * r.val; rw [(index2 t).1]; omega) (by show 1024 * (t.val / 4 % 1) + q.val = win0_2.index t 1 * 1024 + 1 * q.val; rw [(index2 t).2]; omega)) fun i => by
    have h0 : (i 0).val < 1024 := (i 0).isLt
    have h1 : (i 1).val < 1024 := (i 1).isLt
    have ht : (1 * ((i 0).val / 1024) + (i 1).val / 1024) * 4 + 3 < cfg0.N := by rw [show cfg0.N = 4 from N_0]; omega
    obtain ⟨t, e⟩ : ∃ t : Fin cfg0.N, t.val = (1 * ((i 0).val / 1024) + (i 1).val / 1024) * 4 + 3 := ⟨⟨_, ht⟩, rfl⟩
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 1024 ≤ (i 1).val ∧ (i 1).val < win0_2.index t 1 * 1024 + 1024
      rw [(index2 t).2]; omega

end Cert.WQIdeal.Sums
-- ==== Proof.Products.QueryReference.lean ====
/-
  The reference's gradient is the product the kernel sums.
-/
module

public import proofs.«01_k».proof.Defs
public import proofs.«01_k».proof.Proof.Products.Query
public import proofs.«01_k».proof.Proof.Gen.WQIdeal
public import proofs.«01_k».proof.Proof.Gen.WQRefIdeal
public import proofs.«01_k».proof.Proof.Gen.WQRefIdeal.Run
public import proofs.«01_k».proof.Proof.Gen.WQRefIdeal.Read
public import Idealize.ShloMosaic.Adequacy

@[expose] public section

set_option maxRecDepth 16384

noncomputable section

namespace Cert.WQRefIdeal.Sums

open Idealize.ShloMosaic Idealize.SL.Sem Cert.Products

/-- The reference's result, an entry at a time. -/
theorem value (x0 : Arr 4096 1024) (x1 : Arr 4096 1024) :
    Read.val_main_v5 (F := Ideal) x0 x1 = product x0 x1 := by
  funext i
  rw [Read.val_main_v5_apply, Read.val_main_v4_apply]
  refine Finset.sum_congr rfl fun k _ => (mul_comm _ _).trans ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WQRefIdeal (hWQRefIdeal := Gen.facts) := fun m ρ _ =>
  (θ_run Cert.WQRefIdeal.defs _ _).mono (fun r h => ⟨fun c => (h c).2, sem_eq_zero_of_no_sems (by decide) r.2⟩) (Value.run m ρ)

/-- From arrays that agree, the two results are one. -/
theorem agreeing (a0 : Arr 4096 1024) (a1 : Arr 4096 1024) (b0 : Arr 4096 1024) (b1 : Arr 4096 1024)
    (e0 : b0 = a0) (e1 : b1 = a1) : Read.val_main_v5 (F := Ideal) b0 b1 = product a0 a1 := by
  subst e0 e1
  exact value b0 b1

/-- The kernel's result is the reference's. -/
theorem equation : Cert.algebraic_WQIdeal_WQRefIdeal (hWQIdeal := Cert.WQIdeal.Gen.facts) (hWQRefIdeal := Gen.facts) := by
  intro m ρ m' ρ' _ agree
  refine ⟨fun c => (Cert.WQIdeal.Gen.dats m 0 c).arrAt 2 Cert.WQIdeal.cfg0.N, Cert.WQIdeal.Value.run_blocks m ρ, ?_⟩
  refine (θ_run Cert.WQRefIdeal.defs _ _).mono (fun r h c => ?_) (Value.run m' ρ')
  exact ⟨(((h c).1.trans (Read.val_main_v5_eq (m' ((c.tc : Thread nD τ).loc main_arg0)) (m' ((c.tc : Thread nD τ).loc main_arg1)))).trans (agreeing _ _ _ _ (agree c).1 (agree c).2)).trans
    (Cert.WQIdeal.Sums.result c m).symm, (h c).2⟩

end Cert.WQRefIdeal.Sums
-- ==== Proof.Products.Recurrence.lean ====
/-
  The gradient of the recurrence's other columns of the input projection.
  The rows are taken 1024 at a time: each grid point adds a block's products to what the points before it summed, and the last
  of the 4 points of a block of results writes the sum.
-/
module

public import proofs.«01_k».proof.Proof.Products.Sum
public import proofs.«01_k».proof.Proof.Gen.WMlIdeal.Value

@[expose] public section

set_option maxRecDepth 16384

noncomputable section

namespace Cert.WMlIdeal.Sums

open Idealize.ShloMosaic Idealize.ShloMosaic.TcCoe
open Cert.WMlIdeal Cert.WMlIdeal.Gen Cert.Products

theorem origin : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x1152 .bf16) (h4 : a4.IsWhole) (a5 : Memref sig .tc .vmem S1024x1152 .f32) (h5 : a5.IsWhole)
  (a6 : Memref sig .tc .vmem S1024x1152 .f32) (h6 : a6.IsWhole) (x0 : Vec Ideal S1024x1024 .bf16) (x1 : Vec Ideal S1024x1152 .bf16) (acc : Vec Ideal S1024x1152 .f32)

/-- The products of one block of rows. -/
theorem block_apply (r : Fin 1024) (q : Fin 1152) : (k0_pay1 x0 x1 : FVec Ideal S1024x1152 .f32) (ix2 r q) = ∑ k : Fin 1024, x0 (ix2 r k) * x1 (ix2 k q) := by
  pointwise [k0_pay1]

/-- The first point keeps its block's products. -/
theorem first (hc0 : cond0_0 i) (hc1 : ¬cond0_1 i) (hc2 : ¬cond0_2 i) : sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero origin]
  simp only [View.readAt_eq_ld, h3.read_unread, h4.read_unread, View.ld_unit_zero (S := S1024x1024) origin, View.ld_unit_zero (S := S1024x1152) origin]

/-- The next points add theirs. -/
theorem next (hc0 : ¬cond0_0 i) (hc1 : cond0_1 i) (hc2 : ¬cond0_2 i) : sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero origin]
  simp only [View.readAt_eq_ld, h3.read_unread, h4.read_unread, h6.read_unread, View.ld_unit_zero (S := S1024x1024) origin,
    View.ld_unit_zero (S := S1024x1152) origin, View.ld_unit_zero (S := S1024x1152) origin]

/-- The last point writes the sum. -/
theorem last (hc0 : ¬cond0_0 i) (hc1 : ¬cond0_1 i) (hc2 : cond0_2 i) : out0_C_2 c i a3 h3 a4 h4 a5 h5 a6 h6 hc0 hc1 hc2 x0 x1 acc = k0_pay4 x0 x1 acc := by
  unfold out0_C_2
  rw [View.read_writes_eq_canon _ _ _ (cover0_C_2 c i a3 h3 a4 h4 a5 h5 a6 h6 hc0 hc1 hc2 x0 x1 acc)]
  unfold kernelRun0_C
  dsimp only
  rw [View.canon_unit_zero origin]
  simp only [View.readAt_eq_ld, h3.read_unread, h4.read_unread, h6.read_unread, View.ld_unit_zero (S := S1024x1024) origin,
    View.ld_unit_zero (S := S1024x1152) origin, View.ld_unit_zero (S := S1024x1152) origin]

theorem pay2_apply (r : Fin 1024) (q : Fin 1152) : (k0_pay2 x0 x1 : FVec Ideal S1024x1152 .f32) (ix2 r q) = ∑ k : Fin 1024, x0 (ix2 r k) * x1 (ix2 k q) := by
  refine Eq.trans ?_ (block_apply x0 x1 r q)
  pointwise [k0_pay2]

theorem pay3_apply (r : Fin 1024) (q : Fin 1152) : (k0_pay3 x0 x1 acc : FVec Ideal S1024x1152 .f32) (ix2 r q) = acc (ix2 r q) + ∑ k : Fin 1024, x0 (ix2 r k) * x1 (ix2 k q) := by
  refine Eq.trans ?_ (congrArg (acc (ix2 r q) + ·) (block_apply x0 x1 r q))
  pointwise [k0_pay3]

theorem pay4_apply (r : Fin 1024) (q : Fin 1152) : (k0_pay4 x0 x1 acc : FVec Ideal S1024x1152 .f32) (ix2 r q) = acc (ix2 r q) + ∑ k : Fin 1024, x0 (ix2 r k) * x1 (ix2 k q) := by
  refine Eq.trans ?_ (congrArg (acc (ix2 r q) + ·) (block_apply x0 x1 r q))
  pointwise [k0_pay4]

variable (m : (ℓ : Loc nD τ sig) → Buf (Elt Ideal) ℓ)

/-- The two arrays. -/
abbrev left (c : Dev nD) : Arr 4096 1024 := m ((c : Thread nD τ).loc main_arg0)
abbrev right (c : Dev nD) : Arr 4096 1152 := m ((c : Thread nD τ).loc main_arg1)

/-- The host turns the first array over. -/
theorem turned (c : Dev nD) : V m c main_v0 = transpose S1024x4096 [1, 0] (m ((c : Thread nD τ).loc main_arg0)) transposes_S4096x1024_S1024x4096_1_0 := by
  show StableHlo.after hostOps0 _ (Proc.devRef .tc main_v0) = _
  simp only [hostOps0]
  after_results

theorem index0 : ∀ t : Fin cfg0.N, win0_0.index t 0 = t.val / 4 / 1 ∧ win0_0.index t 1 = t.val % 4 := by decide +kernel
theorem index1 : ∀ t : Fin cfg0.N, win0_1.index t 0 = t.val % 4 ∧ win0_1.index t 1 = t.val / 4 % 1 := by decide +kernel
theorem index2 : ∀ t : Fin cfg0.N, win0_2.index t 0 = t.val / 4 / 1 ∧ win0_2.index t 1 = t.val / 4 % 1 := by decide +kernel

/-- A block of the first array. -/
theorem iblk0 (t : Fin cfg0.N) (r : Fin 1024) (k : Fin 1024) :
    (iblk m c 0 t : Vec Ideal S1024x1024 .bf16) (ix2 r k) = at2 (left m c) (1024 * (t.val % 4) + k.val) (1024 * (t.val / 4 / 1) + r.val) := by
  have hN : t.val < 4 := lt_of_lt_of_eq t.isLt N_0
  rw [at2_of_lt _ (by omega) (by omega)]
  unfold iblk
  rw [View.read_apply]
  show V m c main_v0 _ = _
  refine (congrArg (V m c main_v0) (?_ : _ = ix2 (n0 := 1024) (n1 := 4096) ⟨1024 * (t.val / 4 / 1) + r.val, by omega⟩ ⟨1024 * (t.val % 4) + k.val, by omega⟩)).trans ?_
  · funext a
    apply Fin.ext
    match a with
    | ⟨0, _⟩ => show win0_0.index t 0 * 1024 + 1 * r.val = _; rw [(index0 t).1]; show _ = 1024 * (t.val / 4 / 1) + r.val; omega
    | ⟨1, _⟩ => show win0_0.index t 1 * 1024 + 1 * k.val = _; rw [(index0 t).2]; show _ = 1024 * (t.val % 4) + k.val; omega
  · rw [turned]
    pointwise

/-- A block of the second. -/
theorem iblk1 (t : Fin cfg0.N) (k : Fin 1024) (q : Fin 1152) :
    (iblk m c 1 t : Vec Ideal S1024x1152 .bf16) (ix2 k q) = at2 (right m c) (1024 * (t.val % 4) + k.val) (1152 * (t.val / 4 % 1) + q.val) := by
  have hN : t.val < 4 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 1024 + 1 * k.val = _; rw [(index1 t).1]; show _ = 1024 * (t.val % 4) + k.val; omega) (by show win0_1.index t 1 * 1152 + 1 * q.val = _; rw [(index1 t).2]; show _ = 1152 * (t.val / 4 % 1) + q.val; omega)

/-- What is summed after a point that is not the last of its 4: the products of the rows up to its block. -/
theorem summed : ∀ (n : ℕ) (hn : n < cfg0.N), n % 4 < 3 → ∀ (r : Fin 1024) (q : Fin 1152),
    (outsAt0 m c n hn).2 (ix2 r q) = dotTo (left m c) (right m c) (1024 * (n % 4) + 1024) (1024 * (n / 4 / 1) + r.val) (1152 * (n / 4 % 1) + q.val) := by
  have start : ∀ (n : ℕ) (hn : n < cfg0.N), n % 4 = 0 → ∀ (r : Fin 1024) (q : Fin 1152),
      (outsAt0 m c n hn).2 (ix2 r q) = dotTo (left m c) (right m c) (1024 * (n % 4) + 1024) (1024 * (n / 4 / 1) + r.val) (1152 * (n / 4 % 1) + q.val) := by
    intro n hn h0 r q
    rw [outsAt0_A m c ⟨n, hn⟩ h0 (by dsimp only; omega) (by dsimp only; omega)]
    dsimp only
    rw [first, pay2_apply, dotTo_add, h0]
    refine (Finset.sum_congr rfl fun k _ => by rw [iblk0, iblk1]; dsimp only; rw [h0]).trans (zero_add _).symm
  intro n
  induction n with
  | zero => exact fun hn _ => start 0 hn rfl
  | succ n ih =>
    intro hn h3 r q
    by_cases h0 : (n + 1) % 4 = 0
    · exact start (n + 1) hn h0 r q
    have hm : n % 4 + 1 = (n + 1) % 4 := by omega
    have hd : n / 4 = (n + 1) / 4 := by omega
    rw [outsAt0_B m c ⟨n + 1, hn⟩ h0 (by dsimp only; omega) (by dsimp only; omega)]
    dsimp only
    rw [next, pay3_apply, dotTo_add]
    refine congr (congrArg HAdd.hAdd ?_) (Finset.sum_congr rfl fun k _ => by rw [iblk0, iblk1])
    refine (ih (Nat.lt_of_succ_lt hn) (by omega) r q).trans ?_
    rw [hd, ← hm]
    rfl

/-- What the last of the 4 points writes: the products of all the rows. -/
theorem written (t : Fin cfg0.N) (h3 : t.val % 4 = 3) (r : Fin 1024) (q : Fin 1152) :
    (outsAt0 m c t.val t.isLt).1 (ix2 r q) = dotTo (left m c) (right m c) 4096 (1024 * (t.val / 4 / 1) + r.val) (1152 * (t.val / 4 % 1) + q.val) := by
  rw [outsAt0_C m c t (by omega) (by omega) h3]
  dsimp only
  rw [last, pay4_apply]
  refine Eq.trans ?_ (dotTo_add (left m c) (right m c) 3072 1024 _ _).symm
  refine congr (congrArg HAdd.hAdd ?_) (Finset.sum_congr rfl fun k _ => by rw [iblk0, iblk1, h3])
  have hm : (t.val - 1) % 4 = 2 := by omega
  have hd : (t.val - 1) / 4 = t.val / 4 := by omega
  refine (summed c m (t.val - 1) (Nat.lt_of_le_of_lt (Nat.sub_le _ _) t.isLt) (by omega) r q).trans ?_
  rw [hd, hm]

/-- The result: the product of the first array's transpose by the second. -/
theorem result : (dats m 0 c).arrAt 2 cfg0.N = product (left m c) (right m c) :=
  (dats m 0 c).arrAt_eq_of_cover 2 (product (left m c) (right m c)) (fun t hf => by
    have hN : t.val < 4 := lt_of_lt_of_eq t.isLt N_0
    rw [Value.flushed2]
    funext y
    obtain ⟨r, q, rfl⟩ : ∃ (r : Fin 1024) (q : Fin 1152), y = ix2 r q := pairs y
    refine Eq.trans (show _ = (outsAt0 m c t.val t.isLt).1 (ix2 r q) from rfl) ?_
    rw [written c m t ((flush0_2 t).mp hf) r q, View.read_apply]
    refine (dotTo_all (left m c) (right m c) ⟨1024 * (t.val / 4 / 1) + r.val, by omega⟩ ⟨1152 * (t.val / 4 % 1) + q.val, by omega⟩).trans ?_
    show product (left m c) (right m c) (ix2 ⟨1024 * (t.val / 4 / 1) + r.val, by omega⟩ ⟨1152 * (t.val / 4 % 1) + q.val, by omega⟩) = product (left m c) (right m c) _
    congr 1
    exact ext2 (by show 1024 * (t.val / 4 / 1) + r.val = win0_2.index t 0 * 1024 + 1 * r.val; rw [(index2 t).1]; omega) (by show 1152 * (t.val / 4 % 1) + q.val = win0_2.index t 1 * 1152 + 1 * q.val; rw [(index2 t).2]; omega)) fun i => by
    have h0 : (i 0).val < 1024 := (i 0).isLt
    have h1 : (i 1).val < 1152 := (i 1).isLt
    have ht : (1 * ((i 0).val / 1024) + (i 1).val / 1152) * 4 + 3 < cfg0.N := by rw [show cfg0.N = 4 from N_0]; omega
    obtain ⟨t, e⟩ : ∃ t : Fin cfg0.N, t.val = (1 * ((i 0).val / 1024) + (i 1).val / 1152) * 4 + 3 := ⟨⟨_, ht⟩, rfl⟩
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 1152 ≤ (i 1).val ∧ (i 1).val < win0_2.index t 1 * 1152 + 1152
      rw [(index2 t).2]; omega

end Cert.WMlIdeal.Sums
-- ==== Proof.Products.RecurrenceReference.lean ====
/-
  The reference's gradient is the product the kernel sums.
-/
module

public import proofs.«01_k».proof.Defs
public import proofs.«01_k».proof.Proof.Products.Recurrence
public import proofs.«01_k».proof.Proof.Gen.WMlIdeal
public import proofs.«01_k».proof.Proof.Gen.WMlRefIdeal
public import proofs.«01_k».proof.Proof.Gen.WMlRefIdeal.Run
public import proofs.«01_k».proof.Proof.Gen.WMlRefIdeal.Read
public import Idealize.ShloMosaic.Adequacy

@[expose] public section

set_option maxRecDepth 16384

noncomputable section

namespace Cert.WMlRefIdeal.Sums

open Idealize.ShloMosaic Idealize.SL.Sem Cert.Products

/-- The reference's result, an entry at a time. -/
theorem value (x0 : Arr 4096 1024) (x1 : Arr 4096 1152) :
    Read.val_main_v5 (F := Ideal) x0 x1 = product x0 x1 := by
  funext i
  rw [Read.val_main_v5_apply, Read.val_main_v4_apply]
  refine Finset.sum_congr rfl fun k _ => (mul_comm _ _).trans ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WMlRefIdeal (hWMlRefIdeal := Gen.facts) := fun m ρ _ =>
  (θ_run Cert.WMlRefIdeal.defs _ _).mono (fun r h => ⟨fun c => (h c).2, sem_eq_zero_of_no_sems (by decide) r.2⟩) (Value.run m ρ)

/-- From arrays that agree, the two results are one. -/
theorem agreeing (a0 : Arr 4096 1024) (a1 : Arr 4096 1152) (b0 : Arr 4096 1024) (b1 : Arr 4096 1152)
    (e0 : b0 = a0) (e1 : b1 = a1) : Read.val_main_v5 (F := Ideal) b0 b1 = product a0 a1 := by
  subst e0 e1
  exact value b0 b1

/-- The kernel's result is the reference's. -/
theorem equation : Cert.algebraic_WMlIdeal_WMlRefIdeal (hWMlIdeal := Cert.WMlIdeal.Gen.facts) (hWMlRefIdeal := Gen.facts) := by
  intro m ρ m' ρ' _ agree
  refine ⟨fun c => (Cert.WMlIdeal.Gen.dats m 0 c).arrAt 2 Cert.WMlIdeal.cfg0.N, Cert.WMlIdeal.Value.run_blocks m ρ, ?_⟩
  refine (θ_run Cert.WMlRefIdeal.defs _ _).mono (fun r h c => ?_) (Value.run m' ρ')
  exact ⟨(((h c).1.trans (Read.val_main_v5_eq (m' ((c.tc : Thread nD τ).loc main_arg0)) (m' ((c.tc : Thread nD τ).loc main_arg1)))).trans (agreeing _ _ _ _ (agree c).1 (agree c).2)).trans
    (Cert.WMlIdeal.Sums.result c m).symm, (h c).2⟩

end Cert.WMlRefIdeal.Sums
-- ==== Proof.Products.Window.lean ====
/-
  The gradient of the window attention's columns of the input projection.
  The rows are taken 1024 at a time: each grid point adds a block's products to what the points before it summed, and the last
  of the 4 points of a block of results writes the sum.
-/
module

public import proofs.«01_k».proof.Proof.Products.Sum
public import proofs.«01_k».proof.Proof.Gen.WSwIdeal.Value

@[expose] public section

set_option maxRecDepth 16384

noncomputable section

namespace Cert.WSwIdeal.Sums

open Idealize.ShloMosaic Idealize.ShloMosaic.TcCoe
open Cert.WSwIdeal Cert.WSwIdeal.Gen Cert.Products

theorem origin : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x768 .bf16) (h4 : a4.IsWhole) (a5 : Memref sig .tc .vmem S1024x768 .f32) (h5 : a5.IsWhole)
  (a6 : Memref sig .tc .vmem S1024x768 .f32) (h6 : a6.IsWhole) (x0 : Vec Ideal S1024x1024 .bf16) (x1 : Vec Ideal S1024x768 .bf16) (acc : Vec Ideal S1024x768 .f32)

/-- The products of one block of rows. -/
theorem block_apply (r : Fin 1024) (q : Fin 768) : (k0_pay1 x0 x1 : FVec Ideal S1024x768 .f32) (ix2 r q) = ∑ k : Fin 1024, x0 (ix2 r k) * x1 (ix2 k q) := by
  pointwise [k0_pay1]

/-- The first point keeps its block's products. -/
theorem first (hc0 : cond0_0 i) (hc1 : ¬cond0_1 i) (hc2 : ¬cond0_2 i) : sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero origin]
  simp only [View.readAt_eq_ld, h3.read_unread, h4.read_unread, View.ld_unit_zero (S := S1024x1024) origin, View.ld_unit_zero (S := S1024x768) origin]

/-- The next points add theirs. -/
theorem next (hc0 : ¬cond0_0 i) (hc1 : cond0_1 i) (hc2 : ¬cond0_2 i) : sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero origin]
  simp only [View.readAt_eq_ld, h3.read_unread, h4.read_unread, h6.read_unread, View.ld_unit_zero (S := S1024x1024) origin,
    View.ld_unit_zero (S := S1024x768) origin, View.ld_unit_zero (S := S1024x768) origin]

/-- The last point writes the sum. -/
theorem last (hc0 : ¬cond0_0 i) (hc1 : ¬cond0_1 i) (hc2 : cond0_2 i) : out0_C_2 c i a3 h3 a4 h4 a5 h5 a6 h6 hc0 hc1 hc2 x0 x1 acc = k0_pay4 x0 x1 acc := by
  unfold out0_C_2
  rw [View.read_writes_eq_canon _ _ _ (cover0_C_2 c i a3 h3 a4 h4 a5 h5 a6 h6 hc0 hc1 hc2 x0 x1 acc)]
  unfold kernelRun0_C
  dsimp only
  rw [View.canon_unit_zero origin]
  simp only [View.readAt_eq_ld, h3.read_unread, h4.read_unread, h6.read_unread, View.ld_unit_zero (S := S1024x1024) origin,
    View.ld_unit_zero (S := S1024x768) origin, View.ld_unit_zero (S := S1024x768) origin]

theorem pay2_apply (r : Fin 1024) (q : Fin 768) : (k0_pay2 x0 x1 : FVec Ideal S1024x768 .f32) (ix2 r q) = ∑ k : Fin 1024, x0 (ix2 r k) * x1 (ix2 k q) := by
  refine Eq.trans ?_ (block_apply x0 x1 r q)
  pointwise [k0_pay2]

theorem pay3_apply (r : Fin 1024) (q : Fin 768) : (k0_pay3 x0 x1 acc : FVec Ideal S1024x768 .f32) (ix2 r q) = acc (ix2 r q) + ∑ k : Fin 1024, x0 (ix2 r k) * x1 (ix2 k q) := by
  refine Eq.trans ?_ (congrArg (acc (ix2 r q) + ·) (block_apply x0 x1 r q))
  pointwise [k0_pay3]

theorem pay4_apply (r : Fin 1024) (q : Fin 768) : (k0_pay4 x0 x1 acc : FVec Ideal S1024x768 .f32) (ix2 r q) = acc (ix2 r q) + ∑ k : Fin 1024, x0 (ix2 r k) * x1 (ix2 k q) := by
  refine Eq.trans ?_ (congrArg (acc (ix2 r q) + ·) (block_apply x0 x1 r q))
  pointwise [k0_pay4]

variable (m : (ℓ : Loc nD τ sig) → Buf (Elt Ideal) ℓ)

/-- The two arrays. -/
abbrev left (c : Dev nD) : Arr 4096 1024 := m ((c : Thread nD τ).loc main_arg0)
abbrev right (c : Dev nD) : Arr 4096 768 := m ((c : Thread nD τ).loc main_arg1)

/-- The host turns the first array over. -/
theorem turned (c : Dev nD) : V m c main_v0 = transpose S1024x4096 [1, 0] (m ((c : Thread nD τ).loc main_arg0)) transposes_S4096x1024_S1024x4096_1_0 := by
  show StableHlo.after hostOps0 _ (Proc.devRef .tc main_v0) = _
  simp only [hostOps0]
  after_results

theorem index0 : ∀ t : Fin cfg0.N, win0_0.index t 0 = t.val / 4 / 1 ∧ win0_0.index t 1 = t.val % 4 := by decide +kernel
theorem index1 : ∀ t : Fin cfg0.N, win0_1.index t 0 = t.val % 4 ∧ win0_1.index t 1 = t.val / 4 % 1 := by decide +kernel
theorem index2 : ∀ t : Fin cfg0.N, win0_2.index t 0 = t.val / 4 / 1 ∧ win0_2.index t 1 = t.val / 4 % 1 := by decide +kernel

/-- A block of the first array. -/
theorem iblk0 (t : Fin cfg0.N) (r : Fin 1024) (k : Fin 1024) :
    (iblk m c 0 t : Vec Ideal S1024x1024 .bf16) (ix2 r k) = at2 (left m c) (1024 * (t.val % 4) + k.val) (1024 * (t.val / 4 / 1) + r.val) := by
  have hN : t.val < 4 := lt_of_lt_of_eq t.isLt N_0
  rw [at2_of_lt _ (by omega) (by omega)]
  unfold iblk
  rw [View.read_apply]
  show V m c main_v0 _ = _
  refine (congrArg (V m c main_v0) (?_ : _ = ix2 (n0 := 1024) (n1 := 4096) ⟨1024 * (t.val / 4 / 1) + r.val, by omega⟩ ⟨1024 * (t.val % 4) + k.val, by omega⟩)).trans ?_
  · funext a
    apply Fin.ext
    match a with
    | ⟨0, _⟩ => show win0_0.index t 0 * 1024 + 1 * r.val = _; rw [(index0 t).1]; show _ = 1024 * (t.val / 4 / 1) + r.val; omega
    | ⟨1, _⟩ => show win0_0.index t 1 * 1024 + 1 * k.val = _; rw [(index0 t).2]; show _ = 1024 * (t.val % 4) + k.val; omega
  · rw [turned]
    pointwise

/-- A block of the second. -/
theorem iblk1 (t : Fin cfg0.N) (k : Fin 1024) (q : Fin 768) :
    (iblk m c 1 t : Vec Ideal S1024x768 .bf16) (ix2 k q) = at2 (right m c) (1024 * (t.val % 4) + k.val) (768 * (t.val / 4 % 1) + q.val) := by
  have hN : t.val < 4 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 1024 + 1 * k.val = _; rw [(index1 t).1]; show _ = 1024 * (t.val % 4) + k.val; omega) (by show win0_1.index t 1 * 768 + 1 * q.val = _; rw [(index1 t).2]; show _ = 768 * (t.val / 4 % 1) + q.val; omega)

/-- What is summed after a point that is not the last of its 4: the products of the rows up to its block. -/
theorem summed : ∀ (n : ℕ) (hn : n < cfg0.N), n % 4 < 3 → ∀ (r : Fin 1024) (q : Fin 768),
    (outsAt0 m c n hn).2 (ix2 r q) = dotTo (left m c) (right m c) (1024 * (n % 4) + 1024) (1024 * (n / 4 / 1) + r.val) (768 * (n / 4 % 1) + q.val) := by
  have start : ∀ (n : ℕ) (hn : n < cfg0.N), n % 4 = 0 → ∀ (r : Fin 1024) (q : Fin 768),
      (outsAt0 m c n hn).2 (ix2 r q) = dotTo (left m c) (right m c) (1024 * (n % 4) + 1024) (1024 * (n / 4 / 1) + r.val) (768 * (n / 4 % 1) + q.val) := by
    intro n hn h0 r q
    rw [outsAt0_A m c ⟨n, hn⟩ h0 (by dsimp only; omega) (by dsimp only; omega)]
    dsimp only
    rw [first, pay2_apply, dotTo_add, h0]
    refine (Finset.sum_congr rfl fun k _ => by rw [iblk0, iblk1]; dsimp only; rw [h0]).trans (zero_add _).symm
  intro n
  induction n with
  | zero => exact fun hn _ => start 0 hn rfl
  | succ n ih =>
    intro hn h3 r q
    by_cases h0 : (n + 1) % 4 = 0
    · exact start (n + 1) hn h0 r q
    have hm : n % 4 + 1 = (n + 1) % 4 := by omega
    have hd : n / 4 = (n + 1) / 4 := by omega
    rw [outsAt0_B m c ⟨n + 1, hn⟩ h0 (by dsimp only; omega) (by dsimp only; omega)]
    dsimp only
    rw [next, pay3_apply, dotTo_add]
    refine congr (congrArg HAdd.hAdd ?_) (Finset.sum_congr rfl fun k _ => by rw [iblk0, iblk1])
    refine (ih (Nat.lt_of_succ_lt hn) (by omega) r q).trans ?_
    rw [hd, ← hm]
    rfl

/-- What the last of the 4 points writes: the products of all the rows. -/
theorem written (t : Fin cfg0.N) (h3 : t.val % 4 = 3) (r : Fin 1024) (q : Fin 768) :
    (outsAt0 m c t.val t.isLt).1 (ix2 r q) = dotTo (left m c) (right m c) 4096 (1024 * (t.val / 4 / 1) + r.val) (768 * (t.val / 4 % 1) + q.val) := by
  rw [outsAt0_C m c t (by omega) (by omega) h3]
  dsimp only
  rw [last, pay4_apply]
  refine Eq.trans ?_ (dotTo_add (left m c) (right m c) 3072 1024 _ _).symm
  refine congr (congrArg HAdd.hAdd ?_) (Finset.sum_congr rfl fun k _ => by rw [iblk0, iblk1, h3])
  have hm : (t.val - 1) % 4 = 2 := by omega
  have hd : (t.val - 1) / 4 = t.val / 4 := by omega
  refine (summed c m (t.val - 1) (Nat.lt_of_le_of_lt (Nat.sub_le _ _) t.isLt) (by omega) r q).trans ?_
  rw [hd, hm]

/-- The result: the product of the first array's transpose by the second. -/
theorem result : (dats m 0 c).arrAt 2 cfg0.N = product (left m c) (right m c) :=
  (dats m 0 c).arrAt_eq_of_cover 2 (product (left m c) (right m c)) (fun t hf => by
    have hN : t.val < 4 := lt_of_lt_of_eq t.isLt N_0
    rw [Value.flushed2]
    funext y
    obtain ⟨r, q, rfl⟩ : ∃ (r : Fin 1024) (q : Fin 768), y = ix2 r q := pairs y
    refine Eq.trans (show _ = (outsAt0 m c t.val t.isLt).1 (ix2 r q) from rfl) ?_
    rw [written c m t ((flush0_2 t).mp hf) r q, View.read_apply]
    refine (dotTo_all (left m c) (right m c) ⟨1024 * (t.val / 4 / 1) + r.val, by omega⟩ ⟨768 * (t.val / 4 % 1) + q.val, by omega⟩).trans ?_
    show product (left m c) (right m c) (ix2 ⟨1024 * (t.val / 4 / 1) + r.val, by omega⟩ ⟨768 * (t.val / 4 % 1) + q.val, by omega⟩) = product (left m c) (right m c) _
    congr 1
    exact ext2 (by show 1024 * (t.val / 4 / 1) + r.val = win0_2.index t 0 * 1024 + 1 * r.val; rw [(index2 t).1]; omega) (by show 768 * (t.val / 4 % 1) + q.val = win0_2.index t 1 * 768 + 1 * q.val; rw [(index2 t).2]; omega)) fun i => by
    have h0 : (i 0).val < 1024 := (i 0).isLt
    have h1 : (i 1).val < 768 := (i 1).isLt
    have ht : (1 * ((i 0).val / 1024) + (i 1).val / 768) * 4 + 3 < cfg0.N := by rw [show cfg0.N = 4 from N_0]; omega
    obtain ⟨t, e⟩ : ∃ t : Fin cfg0.N, t.val = (1 * ((i 0).val / 1024) + (i 1).val / 768) * 4 + 3 := ⟨⟨_, ht⟩, rfl⟩
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 768 ≤ (i 1).val ∧ (i 1).val < win0_2.index t 1 * 768 + 768
      rw [(index2 t).2]; omega

end Cert.WSwIdeal.Sums
-- ==== Proof.Products.WindowReference.lean ====
/-
  The reference's gradient is the product the kernel sums.
-/
module

public import proofs.«01_k».proof.Defs
public import proofs.«01_k».proof.Proof.Products.Window
public import proofs.«01_k».proof.Proof.Gen.WSwIdeal
public import proofs.«01_k».proof.Proof.Gen.WSwRefIdeal
public import proofs.«01_k».proof.Proof.Gen.WSwRefIdeal.Run
public import proofs.«01_k».proof.Proof.Gen.WSwRefIdeal.Read
public import Idealize.ShloMosaic.Adequacy

@[expose] public section

set_option maxRecDepth 16384

noncomputable section

namespace Cert.WSwRefIdeal.Sums

open Idealize.ShloMosaic Idealize.SL.Sem Cert.Products

/-- The reference's result, an entry at a time. -/
theorem value (x0 : Arr 4096 1024) (x1 : Arr 4096 768) :
    Read.val_main_v5 (F := Ideal) x0 x1 = product x0 x1 := by
  funext i
  rw [Read.val_main_v5_apply, Read.val_main_v4_apply]
  refine Finset.sum_congr rfl fun k _ => (mul_comm _ _).trans ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WSwRefIdeal (hWSwRefIdeal := Gen.facts) := fun m ρ _ =>
  (θ_run Cert.WSwRefIdeal.defs _ _).mono (fun r h => ⟨fun c => (h c).2, sem_eq_zero_of_no_sems (by decide) r.2⟩) (Value.run m ρ)

/-- From arrays that agree, the two results are one. -/
theorem agreeing (a0 : Arr 4096 1024) (a1 : Arr 4096 768) (b0 : Arr 4096 1024) (b1 : Arr 4096 768)
    (e0 : b0 = a0) (e1 : b1 = a1) : Read.val_main_v5 (F := Ideal) b0 b1 = product a0 a1 := by
  subst e0 e1
  exact value b0 b1

/-- The kernel's result is the reference's. -/
theorem equation : Cert.algebraic_WSwIdeal_WSwRefIdeal (hWSwIdeal := Cert.WSwIdeal.Gen.facts) (hWSwRefIdeal := Gen.facts) := by
  intro m ρ m' ρ' _ agree
  refine ⟨fun c => (Cert.WSwIdeal.Gen.dats m 0 c).arrAt 2 Cert.WSwIdeal.cfg0.N, Cert.WSwIdeal.Value.run_blocks m ρ, ?_⟩
  refine (θ_run Cert.WSwRefIdeal.defs _ _).mono (fun r h c => ?_) (Value.run m' ρ')
  exact ⟨(((h c).1.trans (Read.val_main_v5_eq (m' ((c.tc : Thread nD τ).loc main_arg0)) (m' ((c.tc : Thread nD τ).loc main_arg1)))).trans (agreeing _ _ _ _ (agree c).1 (agree c).2)).trans
    (Cert.WSwIdeal.Sums.result c m).symm, (h c).2⟩

end Cert.WSwRefIdeal.Sums
-- ==== Proof.Products.Out.lean ====
/-
  The gradient of the attention's output weight.
  The rows are taken 512 at a time; each grid point after the first adds its block's products to the result.
-/
module

public import proofs.«01_k».proof.Proof.Products.Sum
public import proofs.«01_k».proof.Proof.Gen.WWoIdeal.Value

@[expose] public section

set_option maxRecDepth 16384

noncomputable section

namespace Cert.WWoIdeal.Sums

open Idealize.ShloMosaic Idealize.ShloMosaic.TcCoe
open Cert.WWoIdeal Cert.WWoIdeal.Gen Cert.Products

theorem origin : (![0, 0] : Fin 2 → Nat) = fun _ => 0 := funext fun a => by fin_cases a <;> rfl

variable (c : Dev nD) (i : grid0.Coords) (a3 : Memref sig .tc .vmem S512x1024 .bf16) (h3 : a3.IsWhole)
  (a4 : Memref sig .tc .vmem S512x1024 .bf16) (h4 : a4.IsWhole) (a5 : Memref sig .tc .vmem S1024x1024 .f32) (h5 : a5.IsWhole)
  (x0 : Vec Ideal S512x1024 .bf16) (x1 : Vec Ideal S512x1024 .bf16) (acc : Vec Ideal S1024x1024 .f32)

/-- The first point writes its block's products. -/
theorem first (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero origin]
  simp only [View.readAt_eq_ld, h3.read_unread, h4.read_unread, View.ld_unit_zero (S := S512x1024) origin, View.ld_unit_zero (S := S512x1024) origin]

/-- The next points add theirs. -/
theorem next (hc0 : ¬cond0_0 i) (hc1 : cond0_1 i) : out0_B_2 c i a3 h3 a4 h4 a5 h5 hc0 hc1 x0 x1 acc = k0_pay2 x0 x1 acc := by
  unfold out0_B_2
  rw [View.read_writes_eq_canon _ _ _ (cover0_B_2 c i a3 h3 a4 h4 a5 h5 hc0 hc1 x0 x1 acc)]
  unfold kernelRun0_B
  dsimp only
  rw [View.canon_unit_zero origin]
  simp only [View.readAt_eq_ld, h3.read_unread, h4.read_unread, h5.read_unread, View.ld_unit_zero (S := S512x1024) origin,
    View.ld_unit_zero (S := S512x1024) origin, View.ld_unit_zero (S := S1024x1024) origin]

theorem pay1_apply (r : Fin 1024) (q : Fin 1024) : (k0_pay1 x0 x1 : FVec Ideal S1024x1024 .f32) (ix2 r q) = ∑ k : Fin 512, x0 (ix2 k r) * x1 (ix2 k q) := by
  pointwise [k0_pay1]

theorem pay2_apply (r : Fin 1024) (q : Fin 1024) : (k0_pay2 x0 x1 acc : FVec Ideal S1024x1024 .f32) (ix2 r q) = acc (ix2 r q) + ∑ k : Fin 512, x0 (ix2 k r) * x1 (ix2 k q) := by
  refine Eq.trans ?_ (congrArg (acc (ix2 r q) + ·) (pay1_apply x0 x1 r q))
  pointwise [k0_pay2]

variable (m : (ℓ : Loc nD τ sig) → Buf (Elt Ideal) ℓ)

/-- The two arrays. -/
abbrev left (c : Dev nD) : Arr 4096 1024 := m ((c : Thread nD τ).loc main_arg0)
abbrev right (c : Dev nD) : Arr 4096 1024 := m ((c : Thread nD τ).loc main_arg1)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel

/-- A block of rows of the first array. -/
theorem iblk0 (t : Fin cfg0.N) (r : Fin 512) (k : Fin 1024) :
    (iblk m c 0 t : Vec Ideal S512x1024 .bf16) (ix2 r k) = at2 (left m c) (512 * (t.val) + r.val) (1024 * (0) + k.val) := by
  have hN : t.val < 8 := lt_of_lt_of_eq t.isLt N_0
  rw [at2_of_lt _ (by omega) (by omega)]
  unfold iblk
  rw [View.read_apply]
  show V m c main_arg0 _ = _
  rw [V_main_arg0]
  congr 1
  exact ext2 (by show win0_0.index t 0 * 512 + 1 * r.val = _; rw [(index0 t).1]; show _ = 512 * (t.val) + r.val; omega) (by show win0_0.index t 1 * 1024 + 1 * k.val = _; rw [(index0 t).2]; show _ = 1024 * (0) + k.val; omega)

/-- A block of rows of the second. -/
theorem iblk1 (t : Fin cfg0.N) (r : Fin 512) (k : Fin 1024) :
    (iblk m c 1 t : Vec Ideal S512x1024 .bf16) (ix2 r k) = at2 (right m c) (512 * (t.val) + r.val) (1024 * (0) + k.val) := by
  have hN : t.val < 8 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 512 + 1 * r.val = _; rw [(index1 t).1]; show _ = 512 * (t.val) + r.val; omega) (by show win0_1.index t 1 * 1024 + 1 * k.val = _; rw [(index1 t).2]; show _ = 1024 * (0) + k.val; omega)

/-- What the result holds after a point: the products of the rows up to its block. -/
theorem summed : ∀ (n : ℕ) (hn : n < cfg0.N) (r : Fin 1024) (q : Fin 1024),
    (outsAt0 m c n hn) (ix2 r q) = dotTo (left m c) (right m c) (512 * n + 512) (1024 * 0 + r.val) (1024 * 0 + q.val) := by
  intro n
  induction n with
  | zero =>
    intro hn r q
    rw [outsAt0_A m c ⟨0, hn⟩ rfl (by dsimp only; omega), first, pay1_apply, dotTo_add]
    refine (Finset.sum_congr rfl fun k _ => by rw [iblk0, iblk1]).trans (zero_add _).symm
  | succ n ih =>
    intro hn r q
    have hN : n + 1 < 8 := lt_of_lt_of_eq hn N_0
    rw [outsAt0_B m c ⟨n + 1, hn⟩ (by dsimp only; omega) (by dsimp only; omega), next, pay2_apply, dotTo_add]
    refine congr (congrArg HAdd.hAdd ?_) (Finset.sum_congr rfl fun k _ => by rw [iblk0, iblk1])
    exact ih (Nat.lt_of_succ_lt hn) r q

/-- The last point leaves the products of all the rows. -/
theorem written (t : Fin cfg0.N) (h7 : t.val % 8 = 7) (r : Fin 1024) (q : Fin 1024) :
    (outsAt0 m c t.val t.isLt) (ix2 r q) = product (left m c) (right m c) (ix2 ⟨1024 * 0 + r.val, by omega⟩ ⟨1024 * 0 + q.val, by omega⟩) := by
  have hN : t.val < 8 := lt_of_lt_of_eq t.isLt N_0
  have e : 512 * t.val + 512 = 4096 := by omega
  rw [summed, e]
  exact dotTo_all (left m c) (right m c) ⟨1024 * 0 + r.val, by omega⟩ ⟨1024 * 0 + q.val, by omega⟩

/-- The result: the product of the first array's transpose by the second. -/
theorem result : (dats m 0 c).arrAt 2 cfg0.N = product (left m c) (right m c) :=
  (dats m 0 c).arrAt_eq_of_cover 2 (product (left m c) (right m c)) (fun t hf => by
    have hN : t.val < 8 := lt_of_lt_of_eq t.isLt N_0
    rw [Value.flushed2]
    funext y
    obtain ⟨r, q, rfl⟩ : ∃ (r : Fin 1024) (q : Fin 1024), y = ix2 r q := pairs y
    refine Eq.trans (show _ = (outsAt0 m c t.val t.isLt) (ix2 r q) from rfl) ?_
    rw [written c m t ((flush0_2 t).mp hf) r q, View.read_apply]
    show product (left m c) (right m c) (ix2 ⟨1024 * (0) + r.val, by omega⟩ ⟨1024 * (0) + q.val, by omega⟩) = product (left m c) (right m c) _
    congr 1
    exact ext2 (by show 1024 * (0) + r.val = win0_2.index t 0 * 1024 + 1 * r.val; rw [(index2 t).1]; omega) (by show 1024 * (0) + q.val = win0_2.index t 1 * 1024 + 1 * q.val; rw [(index2 t).2]; omega)) fun i => by
    have h0 : (i 0).val < 1024 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 1024 ≤ (i 1).val ∧ (i 1).val < win0_2.index t 1 * 1024 + 1024
      rw [(index2 t).2]; omega

end Cert.WWoIdeal.Sums
-- ==== Proof.Products.OutReference.lean ====
/-
  The reference's gradient is the product the kernel sums.
-/
module

public import proofs.«01_k».proof.Defs
public import proofs.«01_k».proof.Proof.Products.Out
public import proofs.«01_k».proof.Proof.Gen.WWoIdeal
public import proofs.«01_k».proof.Proof.Gen.WWoRefIdeal
public import proofs.«01_k».proof.Proof.Gen.WWoRefIdeal.Run
public import proofs.«01_k».proof.Proof.Gen.WWoRefIdeal.Read
public import Idealize.ShloMosaic.Adequacy

@[expose] public section

set_option maxRecDepth 16384

noncomputable section

namespace Cert.WWoRefIdeal.Sums

open Idealize.ShloMosaic Idealize.SL.Sem Cert.Products

/-- The reference's result, an entry at a time. -/
theorem value (x0 : Arr 4096 1024) (x1 : Arr 4096 1024) :
    Read.val_main_v5 (F := Ideal) x0 x1 = product x0 x1 := by
  funext i
  rw [Read.val_main_v5_apply, Read.val_main_v4_apply]
  refine Finset.sum_congr rfl fun k _ => (mul_comm _ _).trans ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WWoRefIdeal (hWWoRefIdeal := Gen.facts) := fun m ρ _ =>
  (θ_run Cert.WWoRefIdeal.defs _ _).mono (fun r h => ⟨fun c => (h c).2, sem_eq_zero_of_no_sems (by decide) r.2⟩) (Value.run m ρ)

/-- From arrays that agree, the two results are one. -/
theorem agreeing (a0 : Arr 4096 1024) (a1 : Arr 4096 1024) (b0 : Arr 4096 1024) (b1 : Arr 4096 1024)
    (e0 : b0 = a0) (e1 : b1 = a1) : Read.val_main_v5 (F := Ideal) b0 b1 = product a0 a1 := by
  subst e0 e1
  exact value b0 b1

/-- The kernel's result is the reference's. -/
theorem equation : Cert.algebraic_WWoIdeal_WWoRefIdeal (hWWoIdeal := Cert.WWoIdeal.Gen.facts) (hWWoRefIdeal := Gen.facts) := by
  intro m ρ m' ρ' _ agree
  refine ⟨fun c => (Cert.WWoIdeal.Gen.dats m 0 c).arrAt 2 Cert.WWoIdeal.cfg0.N, Cert.WWoIdeal.Value.run_blocks m ρ, ?_⟩
  refine (θ_run Cert.WWoRefIdeal.defs _ _).mono (fun r h c => ?_) (Value.run m' ρ')
  exact ⟨(((h c).1.trans (Read.val_main_v5_eq (m' ((c.tc : Thread nD τ).loc main_arg0)) (m' ((c.tc : Thread nD τ).loc main_arg1)))).trans (agreeing _ _ _ _ (agree c).1 (agree c).2)).trans
    (Cert.WWoIdeal.Sums.result c m).symm, (h c).2⟩

end Cert.WWoRefIdeal.Sums
-- ==== Proof.Products.Half.lean ====
/-
  The gradient of one half of the mixer's output weight.
  The rows are taken 512 at a time; each grid point after the first adds its block's products to the result.
-/
module

public import proofs.«01_k».proof.Proof.Products.Sum
public import proofs.«01_k».proof.Proof.Gen.WHalfIdeal.Value

@[expose] public section

set_option maxRecDepth 16384

noncomputable section

namespace Cert.WHalfIdeal.Sums

open Idealize.ShloMosaic Idealize.ShloMosaic.TcCoe
open Cert.WHalfIdeal Cert.WHalfIdeal.Gen Cert.Products

theorem origin : (![0, 0] : Fin 2 → Nat) = fun _ => 0 := funext fun a => by fin_cases a <;> rfl

variable (c : Dev nD) (i : grid0.Coords) (a3 : Memref sig .tc .vmem S512x512 .bf16) (h3 : a3.IsWhole)
  (a4 : Memref sig .tc .vmem S512x1024 .bf16) (h4 : a4.IsWhole) (a5 : Memref sig .tc .vmem S512x1024 .f32) (h5 : a5.IsWhole)
  (x0 : Vec Ideal S512x512 .bf16) (x1 : Vec Ideal S512x1024 .bf16) (acc : Vec Ideal S512x1024 .f32)

/-- The first point writes its block's products. -/
theorem first (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero origin]
  simp only [View.readAt_eq_ld, h3.read_unread, h4.read_unread, View.ld_unit_zero (S := S512x512) origin, View.ld_unit_zero (S := S512x1024) origin]

/-- The next points add theirs. -/
theorem next (hc0 : ¬cond0_0 i) (hc1 : cond0_1 i) : out0_B_2 c i a3 h3 a4 h4 a5 h5 hc0 hc1 x0 x1 acc = k0_pay2 x0 x1 acc := by
  unfold out0_B_2
  rw [View.read_writes_eq_canon _ _ _ (cover0_B_2 c i a3 h3 a4 h4 a5 h5 hc0 hc1 x0 x1 acc)]
  unfold kernelRun0_B
  dsimp only
  rw [View.canon_unit_zero origin]
  simp only [View.readAt_eq_ld, h3.read_unread, h4.read_unread, h5.read_unread, View.ld_unit_zero (S := S512x512) origin,
    View.ld_unit_zero (S := S512x1024) origin, View.ld_unit_zero (S := S512x1024) origin]

theorem pay1_apply (r : Fin 512) (q : Fin 1024) : (k0_pay1 x0 x1 : FVec Ideal S512x1024 .f32) (ix2 r q) = ∑ k : Fin 512, x0 (ix2 k r) * x1 (ix2 k q) := by
  pointwise [k0_pay1]

theorem pay2_apply (r : Fin 512) (q : Fin 1024) : (k0_pay2 x0 x1 acc : FVec Ideal S512x1024 .f32) (ix2 r q) = acc (ix2 r q) + ∑ k : Fin 512, x0 (ix2 k r) * x1 (ix2 k q) := by
  refine Eq.trans ?_ (congrArg (acc (ix2 r q) + ·) (pay1_apply x0 x1 r q))
  pointwise [k0_pay2]

variable (m : (ℓ : Loc nD τ sig) → Buf (Elt Ideal) ℓ)

/-- The two arrays. -/
abbrev left (c : Dev nD) : Arr 4096 512 := m ((c : Thread nD τ).loc main_arg0)
abbrev right (c : Dev nD) : Arr 4096 1024 := m ((c : Thread nD τ).loc main_arg1)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel

/-- A block of rows of the first array. -/
theorem iblk0 (t : Fin cfg0.N) (r : Fin 512) (k : Fin 512) :
    (iblk m c 0 t : Vec Ideal S512x512 .bf16) (ix2 r k) = at2 (left m c) (512 * (t.val) + r.val) (512 * (0) + k.val) := by
  have hN : t.val < 8 := lt_of_lt_of_eq t.isLt N_0
  rw [at2_of_lt _ (by omega) (by omega)]
  unfold iblk
  rw [View.read_apply]
  show V m c main_arg0 _ = _
  rw [V_main_arg0]
  congr 1
  exact ext2 (by show win0_0.index t 0 * 512 + 1 * r.val = _; rw [(index0 t).1]; show _ = 512 * (t.val) + r.val; omega) (by show win0_0.index t 1 * 512 + 1 * k.val = _; rw [(index0 t).2]; show _ = 512 * (0) + k.val; omega)

/-- A block of rows of the second. -/
theorem iblk1 (t : Fin cfg0.N) (r : Fin 512) (k : Fin 1024) :
    (iblk m c 1 t : Vec Ideal S512x1024 .bf16) (ix2 r k) = at2 (right m c) (512 * (t.val) + r.val) (1024 * (0) + k.val) := by
  have hN : t.val < 8 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 512 + 1 * r.val = _; rw [(index1 t).1]; show _ = 512 * (t.val) + r.val; omega) (by show win0_1.index t 1 * 1024 + 1 * k.val = _; rw [(index1 t).2]; show _ = 1024 * (0) + k.val; omega)

/-- What the result holds after a point: the products of the rows up to its block. -/
theorem summed : ∀ (n : ℕ) (hn : n < cfg0.N) (r : Fin 512) (q : Fin 1024),
    (outsAt0 m c n hn) (ix2 r q) = dotTo (left m c) (right m c) (512 * n + 512) (512 * 0 + r.val) (1024 * 0 + q.val) := by
  intro n
  induction n with
  | zero =>
    intro hn r q
    rw [outsAt0_A m c ⟨0, hn⟩ rfl (by dsimp only; omega), first, pay1_apply, dotTo_add]
    refine (Finset.sum_congr rfl fun k _ => by rw [iblk0, iblk1]).trans (zero_add _).symm
  | succ n ih =>
    intro hn r q
    have hN : n + 1 < 8 := lt_of_lt_of_eq hn N_0
    rw [outsAt0_B m c ⟨n + 1, hn⟩ (by dsimp only; omega) (by dsimp only; omega), next, pay2_apply, dotTo_add]
    refine congr (congrArg HAdd.hAdd ?_) (Finset.sum_congr rfl fun k _ => by rw [iblk0, iblk1])
    exact ih (Nat.lt_of_succ_lt hn) r q

/-- The last point leaves the products of all the rows. -/
theorem written (t : Fin cfg0.N) (h7 : t.val % 8 = 7) (r : Fin 512) (q : Fin 1024) :
    (outsAt0 m c t.val t.isLt) (ix2 r q) = product (left m c) (right m c) (ix2 ⟨512 * 0 + r.val, by omega⟩ ⟨1024 * 0 + q.val, by omega⟩) := by
  have hN : t.val < 8 := lt_of_lt_of_eq t.isLt N_0
  have e : 512 * t.val + 512 = 4096 := by omega
  rw [summed, e]
  exact dotTo_all (left m c) (right m c) ⟨512 * 0 + r.val, by omega⟩ ⟨1024 * 0 + q.val, by omega⟩

/-- The result: the product of the first array's transpose by the second. -/
theorem result : (dats m 0 c).arrAt 2 cfg0.N = product (left m c) (right m c) :=
  (dats m 0 c).arrAt_eq_of_cover 2 (product (left m c) (right m c)) (fun t hf => by
    have hN : t.val < 8 := lt_of_lt_of_eq t.isLt N_0
    rw [Value.flushed2]
    funext y
    obtain ⟨r, q, rfl⟩ : ∃ (r : Fin 512) (q : Fin 1024), y = ix2 r q := pairs y
    refine Eq.trans (show _ = (outsAt0 m c t.val t.isLt) (ix2 r q) from rfl) ?_
    rw [written c m t ((flush0_2 t).mp hf) r q, View.read_apply]
    show product (left m c) (right m c) (ix2 ⟨512 * (0) + r.val, by omega⟩ ⟨1024 * (0) + q.val, by omega⟩) = product (left m c) (right m c) _
    congr 1
    exact ext2 (by show 512 * (0) + r.val = win0_2.index t 0 * 512 + 1 * r.val; rw [(index2 t).1]; omega) (by show 1024 * (0) + q.val = win0_2.index t 1 * 1024 + 1 * q.val; rw [(index2 t).2]; omega)) fun i => by
    have h0 : (i 0).val < 512 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 512 ≤ (i 0).val ∧ (i 0).val < win0_2.index t 0 * 512 + 512
      rw [(index2 t).1]; omega
    | ⟨1, _⟩ =>
      show win0_2.index t 1 * 1024 ≤ (i 1).val ∧ (i 1).val < win0_2.index t 1 * 1024 + 1024
      rw [(index2 t).2]; omega

end Cert.WHalfIdeal.Sums
-- ==== Proof.Products.HalfReference.lean ====
/-
  The reference's gradient is the product the kernel sums.
-/
module

public import proofs.«01_k».proof.Defs
public import proofs.«01_k».proof.Proof.Products.Half
public import proofs.«01_k».proof.Proof.Gen.WHalfIdeal
public import proofs.«01_k».proof.Proof.Gen.WHalfRefIdeal
public import proofs.«01_k».proof.Proof.Gen.WHalfRefIdeal.Run
public import proofs.«01_k».proof.Proof.Gen.WHalfRefIdeal.Read
public import Idealize.ShloMosaic.Adequacy

@[expose] public section

set_option maxRecDepth 16384

noncomputable section

namespace Cert.WHalfRefIdeal.Sums

open Idealize.ShloMosaic Idealize.SL.Sem Cert.Products

/-- The reference's result, an entry at a time. -/
theorem value (x0 : Arr 4096 512) (x1 : Arr 4096 1024) :
    Read.val_main_v5 (F := Ideal) x0 x1 = product x0 x1 := by
  funext i
  rw [Read.val_main_v5_apply, Read.val_main_v4_apply]
  refine Finset.sum_congr rfl fun k _ => (mul_comm _ _).trans ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WHalfRefIdeal (hWHalfRefIdeal := Gen.facts) := fun m ρ _ =>
  (θ_run Cert.WHalfRefIdeal.defs _ _).mono (fun r h => ⟨fun c => (h c).2, sem_eq_zero_of_no_sems (by decide) r.2⟩) (Value.run m ρ)

/-- From arrays that agree, the two results are one. -/
theorem agreeing (a0 : Arr 4096 512) (a1 : Arr 4096 1024) (b0 : Arr 4096 512) (b1 : Arr 4096 1024)
    (e0 : b0 = a0) (e1 : b1 = a1) : Read.val_main_v5 (F := Ideal) b0 b1 = product a0 a1 := by
  subst e0 e1
  exact value b0 b1

/-- The kernel's result is the reference's. -/
theorem equation : Cert.algebraic_WHalfIdeal_WHalfRefIdeal (hWHalfIdeal := Cert.WHalfIdeal.Gen.facts) (hWHalfRefIdeal := Gen.facts) := by
  intro m ρ m' ρ' _ agree
  refine ⟨fun c => (Cert.WHalfIdeal.Gen.dats m 0 c).arrAt 2 Cert.WHalfIdeal.cfg0.N, Cert.WHalfIdeal.Value.run_blocks m ρ, ?_⟩
  refine (θ_run Cert.WHalfRefIdeal.defs _ _).mono (fun r h c => ?_) (Value.run m' ρ')
  exact ⟨(((h c).1.trans (Read.val_main_v5_eq (m' ((c.tc : Thread nD τ).loc main_arg0)) (m' ((c.tc : Thread nD τ).loc main_arg1)))).trans (agreeing _ _ _ _ (agree c).1 (agree c).2)).trans
    (Cert.WHalfIdeal.Sums.result c m).symm, (h c).2⟩

end Cert.WHalfRefIdeal.Sums
-- ==== Proof.Products.Memory.lean ====
/-
  The gradient of the attention's key and value weight: the product over the memory's rows, half of the columns at a time.
-/
module

public import proofs.«01_k».proof.Proof.Products.Sum
public import proofs.«01_k».proof.Proof.Gen.WKvIdeal.Value

@[expose] public section

set_option maxRecDepth 16384

noncomputable section

namespace Cert.WKvIdeal.Sums

open Idealize.ShloMosaic Idealize.ShloMosaic.TcCoe
open Cert.WKvIdeal Cert.WKvIdeal.Gen Cert.Products

theorem origin : (![0, 0] : Fin 2 → Nat) = fun _ => 0 := funext fun a => by fin_cases a <;> rfl

variable (c : Dev nD) (i : grid0.Coords) (a3 : Memref sig .tc .vmem S256x1024 .f32) (h3 : a3.IsWhole)
  (a4 : Memref sig .tc .vmem S256x1024 .f32) (h4 : a4.IsWhole) (a5 : Memref sig .tc .vmem S1024x1024 .f32) (h5 : a5.IsWhole)
  (x0 : Vec Ideal S256x1024 .f32) (x1 : Vec Ideal S256x1024 .f32)

/-- A point writes its block of products. -/
theorem block (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero origin]
  simp only [View.readAt_eq_ld, h3.read_unread, h4.read_unread, View.ld_unit_zero (S := S256x1024) origin]

theorem pay1_apply (r : Fin 1024) (q : Fin 1024) : (k0_pay1 x0 x1 : FVec Ideal S1024x1024 .f32) (ix2 r q) = ∑ k : Fin 256, x0 (ix2 k r) * x1 (ix2 k q) := by
  pointwise [k0_pay1]

variable (m : (ℓ : Loc nD τ sig) → Buf (Elt Ideal) ℓ)

/-- The memory and the gradient. -/
abbrev left (c : Dev nD) : Arr 256 1024 := m ((c : Thread nD τ).loc main_arg0)
abbrev right (c : Dev nD) : Arr 256 2048 := m ((c : Thread nD τ).loc main_arg1)

theorem index0 : ∀ t : Fin cfg0.N, win0_0.index t 0 = 0 ∧ win0_0.index t 1 = 0 := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = t.val := by decide +kernel

/-- The memory. -/
theorem iblk0 (t : Fin cfg0.N) (r : Fin 256) (k : Fin 1024) :
    (iblk m c 0 t : Vec Ideal S256x1024 .f32) (ix2 r k) = at2 (left m c) (256 * (0) + r.val) (1024 * (0) + k.val) := by
  have hN : t.val < 2 := lt_of_lt_of_eq t.isLt N_0
  rw [at2_of_lt _ (by omega) (by omega)]
  unfold iblk
  rw [View.read_apply]
  show V m c main_arg0 _ = _
  rw [V_main_arg0]
  congr 1
  exact ext2 (by show win0_0.index t 0 * 256 + 1 * r.val = _; rw [(index0 t).1]; show _ = 256 * (0) + r.val; omega) (by show win0_0.index t 1 * 1024 + 1 * k.val = _; rw [(index0 t).2]; show _ = 1024 * (0) + k.val; omega)

/-- A half of the gradient. -/
theorem iblk1 (t : Fin cfg0.N) (r : Fin 256) (k : Fin 1024) :
    (iblk m c 1 t : Vec Ideal S256x1024 .f32) (ix2 r k) = at2 (right m c) (256 * (0) + r.val) (1024 * (t.val) + k.val) := by
  have hN : t.val < 2 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 256 + 1 * r.val = _; rw [(index1 t).1]; show _ = 256 * (0) + r.val; omega) (by show win0_1.index t 1 * 1024 + 1 * k.val = _; rw [(index1 t).2]; show _ = 1024 * (t.val) + k.val; omega)

/-- What a point writes. -/
theorem written (t : Fin cfg0.N) (r : Fin 1024) (q : Fin 1024) (h0 : 1024 * 0 + r.val < 1024) (h1 : 1024 * t.val + q.val < 2048) :
    outsAt0 m c t (ix2 r q) = product (left m c) (right m c) (ix2 ⟨1024 * 0 + r.val, h0⟩ ⟨1024 * t.val + q.val, h1⟩) := by
  unfold outsAt0
  rw [block, pay1_apply]
  refine Finset.sum_congr rfl fun k _ => ?_
  rw [iblk0, iblk1, at2_of_lt _ (by omega) h0, at2_of_lt _ (by omega) h1]
  simp only [Nat.mul_zero, Nat.zero_add]
  rfl

/-- The whole result. -/
theorem result : (dats m 0 c).arrAt 2 cfg0.N = product (left m c) (right m c) :=
  (dats m 0 c).arrAt_eq_of_cover 2 (product (left m c) (right m c)) (fun t hf => by
    have hN : t.val < 2 := lt_of_lt_of_eq t.isLt N_0
    rw [Value.flushed2]
    funext y
    obtain ⟨r, q, rfl⟩ : ∃ (r : Fin 1024) (q : Fin 1024), y = ix2 r q := pairs y
    refine Eq.trans (show _ = (outsAt0 m c t) (ix2 r q) from rfl) ?_
    rw [written c m t r q (by omega) (by omega), View.read_apply]
    show product (left m c) (right m c) (ix2 ⟨1024 * (0) + r.val, by omega⟩ ⟨1024 * (t.val) + q.val, by omega⟩) = product (left m c) (right m c) _
    congr 1
    exact ext2 (by show 1024 * (0) + r.val = win0_2.index t 0 * 1024 + 1 * r.val; rw [(index2 t).1]; omega) (by show 1024 * (t.val) + q.val = win0_2.index t 1 * 1024 + 1 * q.val; rw [(index2 t).2]; omega)) fun i => by
    have h0 : (i 0).val < 1024 := (i 0).isLt
    have h1 : (i 1).val < 2048 := (i 1).isLt
    have ht : (i 1).val / 1024 < cfg0.N := by rw [show cfg0.N = 2 from N_0]; omega
    obtain ⟨t, e⟩ : ∃ t : Fin cfg0.N, t.val = (i 1).val / 1024 := ⟨⟨_, ht⟩, rfl⟩
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 1024 ≤ (i 1).val ∧ (i 1).val < win0_2.index t 1 * 1024 + 1024
      rw [(index2 t).2]; omega

end Cert.WKvIdeal.Sums
-- ==== Proof.Products.MemoryReference.lean ====
/-
  The reference's gradient is the product the kernel sums.
-/
module

public import proofs.«01_k».proof.Defs
public import proofs.«01_k».proof.Proof.Products.Memory
public import proofs.«01_k».proof.Proof.Gen.WKvIdeal
public import proofs.«01_k».proof.Proof.Gen.WKvRefIdeal
public import proofs.«01_k».proof.Proof.Gen.WKvRefIdeal.Run
public import proofs.«01_k».proof.Proof.Gen.WKvRefIdeal.Read
public import Idealize.ShloMosaic.Adequacy

@[expose] public section

set_option maxRecDepth 16384

noncomputable section

namespace Cert.WKvRefIdeal.Sums

open Idealize.ShloMosaic Idealize.SL.Sem Cert.Products

/-- The reference's result, an entry at a time. -/
theorem value (x0 : Arr 256 1024) (x1 : Arr 256 2048) :
    Read.val_main_v3 (F := Ideal) x0 x1 = product x0 x1 := by
  funext i
  rw [Read.val_main_v3_apply, Read.val_main_v2_apply]
  refine Finset.sum_congr rfl fun k _ => (mul_comm _ _).trans ?_
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_WKvRefIdeal (hWKvRefIdeal := Gen.facts) := fun m ρ _ =>
  (θ_run Cert.WKvRefIdeal.defs _ _).mono (fun r h => ⟨fun c => (h c).2, sem_eq_zero_of_no_sems (by decide) r.2⟩) (Value.run m ρ)

/-- From arrays that agree, the two results are one. -/
theorem agreeing (a0 : Arr 256 1024) (a1 : Arr 256 2048) (b0 : Arr 256 1024) (b1 : Arr 256 2048)
    (e0 : b0 = a0) (e1 : b1 = a1) : Read.val_main_v3 (F := Ideal) b0 b1 = product a0 a1 := by
  subst e0 e1
  exact value b0 b1

/-- The kernel's result is the reference's. -/
theorem equation : Cert.algebraic_WKvIdeal_WKvRefIdeal (hWKvIdeal := Cert.WKvIdeal.Gen.facts) (hWKvRefIdeal := Gen.facts) := by
  intro m ρ m' ρ' _ agree
  refine ⟨fun c => (Cert.WKvIdeal.Gen.dats m 0 c).arrAt 2 Cert.WKvIdeal.cfg0.N, Cert.WKvIdeal.Value.run_blocks m ρ, ?_⟩
  refine (θ_run Cert.WKvRefIdeal.defs _ _).mono (fun r h c => ?_) (Value.run m' ρ')
  exact ⟨(((h c).1.trans (Read.val_main_v3_eq (m' ((c.tc : Thread nD τ).loc main_arg0)) (m' ((c.tc : Thread nD τ).loc main_arg1)))).trans (agreeing _ _ _ _ (agree c).1 (agree c).2)).trans
    (Cert.WKvIdeal.Sums.result c m).symm, (h c).2⟩

end Cert.WKvRefIdeal.Sums
-- ==== Proof.Products.Heads.lean ====
/-
  The gradient that reaches the mixer's heads: the product of the gradient by the transpose of the output weight, a block at a time.
-/
module

public import proofs.«01_k».proof.Proof.Products.Sum
public import proofs.«01_k».proof.Proof.Gen.DHcatIdeal.Value

@[expose] public section

set_option maxRecDepth 16384

noncomputable section

namespace Cert.DHcatIdeal.Sums

open Idealize.ShloMosaic Idealize.ShloMosaic.TcCoe
open Cert.DHcatIdeal Cert.DHcatIdeal.Gen Cert.Products

theorem origin : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S512x1024 .bf16) (h4 : a4.IsWhole) (a5 : Memref sig .tc .vmem S1024x512 .f32) (h5 : a5.IsWhole)
  (a6 : Memref sig .tc .vmem S8x128 .f32) (h6 : a6.IsWhole) (x0 : Vec Ideal S1024x1024 .bf16) (x1 : Vec Ideal S512x1024 .bf16)

/-- A point writes its block of products. -/
theorem block : out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero origin]
  simp only [View.readAt_eq_ld, h3.read_unread, h4.read_unread, View.ld_unit_zero (S := S1024x1024) origin, View.ld_unit_zero (S := S512x1024) origin]

theorem pay1_apply (r : Fin 1024) (q : Fin 512) : (k0_pay1 x0 x1 : FVec Ideal S1024x512 .f32) (ix2 r q) = ∑ k : Fin 1024, x0 (ix2 r k) * x1 (ix2 q k) := by
  pointwise [k0_pay1]

variable (m : (ℓ : Loc nD τ sig) → Buf (Elt Ideal) ℓ)

/-- The gradient and the weight. -/
abbrev left (c : Dev nD) : Arr 4096 1024 := m ((c : Thread nD τ).loc main_arg0)
abbrev right (c : Dev nD) : Arr 1024 1024 := m ((c : Thread nD τ).loc main_arg1)

/-- Their product, the weight turned over. -/
def turnedProduct (x : Arr 4096 1024) (y : Arr 1024 1024) : Arr 4096 1024 :=
  fun i => ∑ k : Fin 1024, x (ix2 (i 0) k) * y (ix2 (i 1) k)

theorem index0 : ∀ t : Fin cfg0.N, win0_0.index t 0 = t.val / 2 ∧ win0_0.index t 1 = 0 := by decide +kernel
theorem index1 : ∀ t : Fin cfg0.N, win0_1.index t 0 = t.val % 2 ∧ win0_1.index t 1 = 0 := by decide +kernel
theorem index2 : ∀ t : Fin cfg0.N, win0_2.index t 0 = t.val / 2 ∧ win0_2.index t 1 = t.val % 2 := by decide +kernel

/-- A block of rows of the gradient. -/
theorem iblk0 (t : Fin cfg0.N) (r : Fin 1024) (k : Fin 1024) :
    (iblk m c 0 t : Vec Ideal S1024x1024 .bf16) (ix2 r k) = at2 (left m c) (1024 * (t.val / 2) + r.val) (1024 * (0) + k.val) := by
  have hN : t.val < 8 := lt_of_lt_of_eq t.isLt N_0
  rw [at2_of_lt _ (by omega) (by omega)]
  unfold iblk
  rw [View.read_apply]
  show V m c main_arg0 _ = _
  rw [V_main_arg0]
  congr 1
  exact ext2 (by show win0_0.index t 0 * 1024 + 1 * r.val = _; rw [(index0 t).1]; show _ = 1024 * (t.val / 2) + r.val; omega) (by show win0_0.index t 1 * 1024 + 1 * k.val = _; rw [(index0 t).2]; show _ = 1024 * (0) + k.val; omega)

/-- A block of rows of the weight. -/
theorem iblk1 (t : Fin cfg0.N) (r : Fin 512) (k : Fin 1024) :
    (iblk m c 1 t : Vec Ideal S512x1024 .bf16) (ix2 r k) = at2 (right m c) (512 * (t.val % 2) + r.val) (1024 * (0) + k.val) := by
  have hN : t.val < 8 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 512 + 1 * r.val = _; rw [(index1 t).1]; show _ = 512 * (t.val % 2) + r.val; omega) (by show win0_1.index t 1 * 1024 + 1 * k.val = _; rw [(index1 t).2]; show _ = 1024 * (0) + k.val; omega)

/-- What a point writes. -/
theorem written (t : Fin cfg0.N) (r : Fin 1024) (q : Fin 512) (h0 : 1024 * (t.val / 2) + r.val < 4096) (h1 : 512 * (t.val % 2) + q.val < 1024) :
    outsAt0 m c t (ix2 r q) = turnedProduct (left m c) (right m c) (ix2 ⟨1024 * (t.val / 2) + r.val, h0⟩ ⟨512 * (t.val % 2) + q.val, h1⟩) := by
  unfold outsAt0
  rw [block, pay1_apply]
  refine Finset.sum_congr rfl fun k _ => ?_
  rw [iblk0, iblk1, at2_of_lt _ h0 (by omega), at2_of_lt _ h1 (by omega)]
  simp only [Nat.mul_zero, Nat.zero_add]
  rfl

/-- The whole result. -/
theorem result : (dats m 0 c).arrAt 2 cfg0.N = turnedProduct (left m c) (right m c) :=
  (dats m 0 c).arrAt_eq_of_cover 2 (turnedProduct (left m c) (right m c)) (fun t hf => by
    have hN : t.val < 8 := lt_of_lt_of_eq t.isLt N_0
    rw [Value.flushed2]
    funext y
    obtain ⟨r, q, rfl⟩ : ∃ (r : Fin 1024) (q : Fin 512), y = ix2 r q := pairs y
    refine Eq.trans (show _ = (outsAt0 m c t) (ix2 r q) from rfl) ?_
    rw [written c m t r q (by omega) (by omega), View.read_apply]
    show turnedProduct (left m c) (right m c) (ix2 ⟨1024 * (t.val / 2) + r.val, by omega⟩ ⟨512 * (t.val % 2) + q.val, by omega⟩) = turnedProduct (left m c) (right m c) _
    congr 1
    exact ext2 (by show 1024 * (t.val / 2) + r.val = win0_2.index t 0 * 1024 + 1 * r.val; rw [(index2 t).1]; omega) (by show 512 * (t.val % 2) + q.val = win0_2.index t 1 * 512 + 1 * q.val; rw [(index2 t).2]; omega)) fun i => by
    have h0 : (i 0).val < 4096 := (i 0).isLt
    have h1 : (i 1).val < 1024 := (i 1).isLt
    have ht : 2 * ((i 0).val / 1024) + (i 1).val / 512 < cfg0.N := by rw [show cfg0.N = 8 from N_0]; omega
    obtain ⟨t, e⟩ : ∃ t : Fin cfg0.N, t.val = 2 * ((i 0).val / 1024) + (i 1).val / 512 := ⟨⟨_, ht⟩, rfl⟩
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 512 ≤ (i 1).val ∧ (i 1).val < win0_2.index t 1 * 512 + 512
      rw [(index2 t).2]; omega

end Cert.DHcatIdeal.Sums
-- ==== Proof.Products.HeadsReference.lean ====
/-
  The reference's gradient is the product the kernel sums.
-/
module

public import proofs.«01_k».proof.Defs
public import proofs.«01_k».proof.Proof.Products.Heads
public import proofs.«01_k».proof.Proof.Gen.DHcatIdeal
public import proofs.«01_k».proof.Proof.Gen.DHcatRefIdeal
public import proofs.«01_k».proof.Proof.Gen.DHcatRefIdeal.Run
public import proofs.«01_k».proof.Proof.Gen.DHcatRefIdeal.Read
public import Idealize.ShloMosaic.Adequacy

@[expose] public section

set_option maxRecDepth 16384

noncomputable section

namespace Cert.DHcatRefIdeal.Sums

open Idealize.ShloMosaic Idealize.SL.Sem Cert.Products

/-- The reference's result, an entry at a time. -/
theorem value (x0 : Arr 4096 1024) (x1 : Arr 1024 1024) :
    Read.val_main_v4 (F := Ideal) x0 x1 = Cert.DHcatIdeal.Sums.turnedProduct x0 x1 := by
  funext i
  rw [Read.val_main_v4_apply]
  refine Finset.sum_congr rfl fun k _ => ?_
  rw [Read.val_main_v0_apply, Read.val_main_v1_apply]
  refine congr (congrArg HMul.hMul (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The reference ends with its arguments unchanged and, having no semaphore, with every counter at zero. -/
theorem frame : Cert.quiescent_DHcatRefIdeal (hDHcatRefIdeal := Gen.facts) := fun m ρ _ =>
  (θ_run Cert.DHcatRefIdeal.defs _ _).mono (fun r h => ⟨fun c => (h c).2, sem_eq_zero_of_no_sems (by decide) r.2⟩) (Value.run m ρ)

/-- From arrays that agree, the two results are one. -/
theorem agreeing (a0 : Arr 4096 1024) (a1 : Arr 1024 1024) (b0 : Arr 4096 1024) (b1 : Arr 1024 1024)
    (e0 : b0 = a0) (e1 : b1 = a1) : Read.val_main_v4 (F := Ideal) b0 b1 = Cert.DHcatIdeal.Sums.turnedProduct a0 a1 := by
  subst e0 e1
  exact value b0 b1

/-- The kernel's result is the reference's. -/
theorem equation : Cert.algebraic_DHcatIdeal_DHcatRefIdeal (hDHcatIdeal := Cert.DHcatIdeal.Gen.facts) (hDHcatRefIdeal := Gen.facts) := by
  intro m ρ m' ρ' _ agree
  refine ⟨fun c => (Cert.DHcatIdeal.Gen.dats m 0 c).arrAt 2 Cert.DHcatIdeal.cfg0.N, Cert.DHcatIdeal.Value.run_blocks m ρ, ?_⟩
  refine (θ_run Cert.DHcatRefIdeal.defs _ _).mono (fun r h c => ?_) (Value.run m' ρ')
  exact ⟨(((h c).1.trans (Read.val_main_v4_eq (m' ((c.tc : Thread nD τ).loc main_arg0)) (m' ((c.tc : Thread nD τ).loc main_arg1)))).trans (agreeing _ _ _ _ (agree c).1 (agree c).2)).trans
    (Cert.DHcatIdeal.Sums.result c m).symm, (h c).2⟩

end Cert.DHcatRefIdeal.Sums
-- ==== Proof.Products.Input.lean ====
/-
  The gradient that reaches the first layer's input: the residual's, scaled, and the products of the three parts of the projection's
  gradient by the transposes of their columns of the input weight.
-/
module

public import proofs.«01_k».proof.Proof.Products.Sum
public import proofs.«01_k».proof.Proof.Gen.InGradIdeal.Value

@[expose] public section

set_option maxRecDepth 16384

noncomputable section

namespace Cert.InGradIdeal.Sums

open Idealize.ShloMosaic Idealize.ShloMosaic.TcCoe
open Cert.InGradIdeal Cert.InGradIdeal.Gen Cert.Products

theorem origin : (![0, 0] : Fin 2 → Nat) = fun _ => 0 := funext fun a => by fin_cases a <;> rfl

variable (m : (ℓ : Loc nD τ sig) → Buf (Elt Ideal) ℓ) (c : Dev nD)

/-- The five arrays. -/
abbrev dqk (c : Dev nD) : Arr 4096 1024 := m ((c : Thread nD τ).loc main_arg0)
abbrev dml (c : Dev nD) : Arr 4096 1152 := m ((c : Thread nD τ).loc main_arg1)
abbrev dsw (c : Dev nD) : Arr 4096 768 := m ((c : Thread nD τ).loc main_arg2)
abbrev weight (c : Dev nD) : Arr 1024 2824 := m ((c : Thread nD τ).loc main_arg3)
abbrev dres (c : Dev nD) : Arr 4096 1024 := m ((c : Thread nD τ).loc main_arg4)

/-- The weight with the gates' columns moved to its end and padded with zeros. -/
def padded (w : Vec Ideal S1024x2824 .bf16) : Vec Ideal S1024x3072 .bf16 :=
  concatenate S1024x3072 1 [⟨S1024x2048, extractStridedSlice S1024x2048 ![0, 0] w slices_S1024x2824_S1024x2048_0_0⟩,
    ⟨S1024x768, extractStridedSlice S1024x768 ![0, 2056] w slices_S1024x2824_S1024x768_0_2056⟩,
    ⟨S1024x8, extractStridedSlice S1024x8 ![0, 2048] w slices_S1024x2824_S1024x8_0_2048⟩,
    ⟨S1024x248, broadcastInDim S1024x248 ![] bcast_S_S1024x248 (constant (F := Ideal) S_ .bf16 0x0000#16)⟩]
    concatenates_S1024x2048_S1024x768_S1024x8_S1024x248_S1024x3072_d1

/-- Its columns for the recurrence's part, and for the last part. -/
def middle (w : Vec Ideal S1024x2824 .bf16) : Vec Ideal S1024x1152 .bf16 :=
  concatenate S1024x1152 1 [⟨S1024x1024, extractStridedSlice S1024x1024 ![0, 1024] (padded w) slices_S1024x3072_S1024x1024_0_1024⟩,
    ⟨S1024x128, extractStridedSlice S1024x128 ![0, 2816] (padded w) slices_S1024x3072_S1024x128_0_2816⟩] concatenates_S1024x1024_S1024x128_S1024x1152_d1

def ending (w : Vec Ideal S1024x2824 .bf16) : Vec Ideal S1024x768 .bf16 := extractStridedSlice S1024x768 ![0, 2048] (padded w) slices_S1024x3072_S1024x768_0_2048

theorem V_v4 : V m c main_v4 = padded (weight m c) := by
  show StableHlo.after hostOps0 _ (Proc.devRef .tc main_v4) = _
  simp only [hostOps0]
  after_results
  rfl

theorem V_v7 : V m c main_v7 = middle (weight m c) := by
  show StableHlo.after hostOps0 _ (Proc.devRef .tc main_v7) = _
  simp only [hostOps0]
  after_results
  rfl

theorem V_v8 : V m c main_v8 = ending (weight m c) := by
  show StableHlo.after hostOps0 _ (Proc.devRef .tc main_v8) = _
  simp only [hostOps0]
  after_results
  rfl

/-- An entry of the padded weight. -/
theorem padded_apply (w : Vec Ideal S1024x2824 .bf16) (q : Fin 1024) (k : Fin 3072) : padded w (ix2 q k)
    = if k.val < 2048 then at2 (w) q.val k.val else if k.val < 2816 then at2 (w) q.val (8 + k.val)
      else if k.val < 2824 then at2 (w) q.val (k.val - 768) else 0 := by
  have hk := k.isLt
  pointwise [padded]
  by_cases h1 : k.val < 2048
  · rw [dif_pos h1, if_pos h1, at2_of_lt _ q.isLt (by omega)]
  rw [dif_neg h1, if_neg h1]
  by_cases h2 : k.val < 2816
  · rw [dif_pos (by show k.val - 2048 < 768; omega), if_pos h2, at2_of_lt _ q.isLt (by omega)]
    exact congrArg (fun j => w (ix2 q j)) (Fin.ext (by show 2056 + (k.val - 2048) = 8 + k.val; omega))
  rw [dif_neg (by show ¬k.val - 2048 < 768; omega), if_neg h2]
  by_cases h3 : k.val < 2824
  · rw [dif_pos (by show k.val - 2048 - 768 < 8; omega), if_pos h3, at2_of_lt _ q.isLt (by omega)]
    exact congrArg (fun j => w (ix2 q j)) (Fin.ext (by show 2048 + (k.val - 2048 - 768) = k.val - 768; omega))
  rw [dif_neg (by show ¬k.val - 2048 - 768 < 8; omega), if_neg h3]

/-- Columns 1024 up of the weight, for the recurrence's part, then zeros. -/
theorem middle_apply (w : Vec Ideal S1024x2824 .bf16) (q : Fin 1024) (k : Fin 1152) : middle w (ix2 q k)
    = if k.val < 1032 then at2 (w) q.val (1024 + k.val) else 0 := by
  have hk := k.isLt
  pointwise [middle]
  simp only [padded_apply]
  split_ifs <;> first
    | omega
    | rfl
    | exact congrArg (at2 (w) q.val) (by omega)

/-- Columns 2056 up. -/
theorem end_apply (w : Vec Ideal S1024x2824 .bf16) (q : Fin 1024) (k : Fin 768) : ending w (ix2 q k) = at2 (w) q.val (2056 + k.val) := by
  have hk := k.isLt
  pointwise [ending]
  simp only [padded_apply]
  split_ifs <;> first
    | omega
    | exact congrArg (at2 (w) q.val) (by omega)

/-- What a point computes from its blocks. -/
theorem pay1_apply (x6 : Vec Ideal S512x1024 .f32) (x0 : Vec Ideal S512x1024 .bf16) (x1 : Vec Ideal S1024x1024 .bf16) (x2 : Vec Ideal S512x1152 .bf16)
    (x3 : Vec Ideal S1024x1152 .bf16) (x4 : Vec Ideal S512x768 .bf16) (x5 : Vec Ideal S1024x768 .bf16) (r : Fin 512) (q : Fin 1024) :
    (k0_pay1 x6 x0 x1 x2 x3 x4 x5 : FVec Ideal S512x1024 .f32) (ix2 r q)
      = (Ideal.ofBits .f32 0x3FB504F3#32 : EReal) * x6 (ix2 r q) + (∑ k : Fin 1024, x0 (ix2 r k) * x1 (ix2 q k)) + (∑ k : Fin 1152, x2 (ix2 r k) * x3 (ix2 q k))
        + ∑ k : Fin 768, x4 (ix2 r k) * x5 (ix2 q k) := by
  pointwise [k0_pay1]

theorem block (x0 : Vec Ideal S512x1024 .bf16) (x1 : Vec Ideal S1024x1024 .bf16) (x2 : Vec Ideal S512x1152 .bf16)
    (x3 : Vec Ideal S1024x1152 .bf16) (x4 : Vec Ideal S512x768 .bf16) (x5 : Vec Ideal S1024x768 .bf16) (x6 : Vec Ideal S512x1024 .f32) :
    out0_7 x0 x1 x2 x3 x4 x5 x6 = k0_pay1 x6 x0 x1 x2 x3 x4 x5 := by
  unfold out0_7
  rw [View.canon_unit_zero origin]
  simp only [View.ld_unit_zero (S := S512x1024) origin, View.ld_unit_zero (S := S1024x1024) origin, View.ld_unit_zero (S := S512x1152) origin,
    View.ld_unit_zero (S := S1024x1152) origin, View.ld_unit_zero (S := S512x768) origin, View.ld_unit_zero (S := S1024x768) origin]

theorem index0 : ∀ t : Fin cfg0.N, win0_0.index t 0 = t.val ∧ win0_0.index t 1 = 0 := by decide +kernel
theorem index2 : ∀ t : Fin cfg0.N, win0_2.index t 0 = t.val ∧ win0_2.index t 1 = 0 := by decide +kernel
theorem index4 : ∀ t : Fin cfg0.N, win0_4.index t 0 = t.val ∧ win0_4.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index1 : ∀ t : Fin cfg0.N, win0_1.index t 0 = 0 ∧ win0_1.index t 1 = 0 := by decide +kernel
theorem index3 : ∀ t : Fin cfg0.N, win0_3.index t 0 = 0 ∧ win0_3.index t 1 = 0 := by decide +kernel
theorem index5 : ∀ t : Fin cfg0.N, win0_5.index t 0 = 0 ∧ win0_5.index t 1 = 0 := by decide +kernel

/-- A block of rows of the first part. -/
theorem iblk0 (t : Fin cfg0.N) (r : Fin 512) (k : Fin 1024) :
    (iblk m c 0 t : Vec Ideal S512x1024 .bf16) (ix2 r k) = at2 (dqk m c) (512 * (t.val) + r.val) (1024 * (0) + k.val) := by
  have hN : t.val < 8 := lt_of_lt_of_eq t.isLt N_0
  rw [at2_of_lt _ (by omega) (by omega)]
  unfold iblk
  rw [View.read_apply]
  show V m c main_arg0 _ = _
  rw [V_main_arg0]
  congr 1
  exact ext2 (by show win0_0.index t 0 * 512 + 1 * r.val = _; rw [(index0 t).1]; show _ = 512 * (t.val) + r.val; omega) (by show win0_0.index t 1 * 1024 + 1 * k.val = _; rw [(index0 t).2]; show _ = 1024 * (0) + k.val; omega)

/-- Of the second. -/
theorem iblk2 (t : Fin cfg0.N) (r : Fin 512) (k : Fin 1152) :
    (iblk m c 2 t : Vec Ideal S512x1152 .bf16) (ix2 r k) = at2 (dml m c) (512 * (t.val) + r.val) (1152 * (0) + k.val) := by
  have hN : t.val < 8 := lt_of_lt_of_eq t.isLt N_0
  rw [at2_of_lt _ (by omega) (by omega)]
  unfold iblk
  rw [View.read_apply]
  show V m c main_arg1 _ = _
  rw [V_main_arg1]
  congr 1
  exact ext2 (by show win0_2.index t 0 * 512 + 1 * r.val = _; rw [(index2 t).1]; show _ = 512 * (t.val) + r.val; omega) (by show win0_2.index t 1 * 1152 + 1 * k.val = _; rw [(index2 t).2]; show _ = 1152 * (0) + k.val; omega)

/-- Of the third. -/
theorem iblk4 (t : Fin cfg0.N) (r : Fin 512) (k : Fin 768) :
    (iblk m c 4 t : Vec Ideal S512x768 .bf16) (ix2 r k) = at2 (dsw m c) (512 * (t.val) + r.val) (768 * (0) + k.val) := by
  have hN : t.val < 8 := lt_of_lt_of_eq t.isLt N_0
  rw [at2_of_lt _ (by omega) (by omega)]
  unfold iblk
  rw [View.read_apply]
  show V m c main_arg2 _ = _
  rw [V_main_arg2]
  congr 1
  exact ext2 (by show win0_4.index t 0 * 512 + 1 * r.val = _; rw [(index4 t).1]; show _ = 512 * (t.val) + r.val; omega) (by show win0_4.index t 1 * 768 + 1 * k.val = _; rw [(index4 t).2]; show _ = 768 * (0) + k.val; omega)

/-- Of the residual's gradient. -/
theorem iblk6 (t : Fin cfg0.N) (r : Fin 512) (k : Fin 1024) :
    (iblk m c 6 t : Vec Ideal S512x1024 .f32) (ix2 r k) = at2 (dres m c) (512 * (t.val) + r.val) (1024 * (0) + k.val) := by
  have hN : t.val < 8 := lt_of_lt_of_eq t.isLt N_0
  rw [at2_of_lt _ (by omega) (by omega)]
  unfold iblk
  rw [View.read_apply]
  show V m c main_arg4 _ = _
  rw [V_main_arg4]
  congr 1
  exact ext2 (by show win0_6.index t 0 * 512 + 1 * r.val = _; rw [(index6 t).1]; show _ = 512 * (t.val) + r.val; omega) (by show win0_6.index t 1 * 1024 + 1 * k.val = _; rw [(index6 t).2]; show _ = 1024 * (0) + k.val; omega)

/-- The columns of the weight a part multiplies. -/
theorem iblk1 (t : Fin cfg0.N) (q : Fin 1024) (k : Fin 1024) :
    (iblk m c 1 t : Vec Ideal S1024x1024 .bf16) (ix2 q k) = padded (weight m c) (ix2 q (⟨k.val, by omega⟩ : Fin 3072)) := by
  unfold iblk
  rw [View.read_apply]
  show V m c main_v4 _ = _
  rw [V_v4]
  congr 1
  exact ext2 (by show win0_1.index t 0 * 1024 + 1 * q.val = _; rw [(index1 t).1]; show _ = q.val; omega) (by show win0_1.index t 1 * 1024 + 1 * k.val = _; rw [(index1 t).2]; show _ = k.val; omega)

/-- The columns of the weight a part multiplies. -/
theorem iblk3 (t : Fin cfg0.N) (q : Fin 1024) (k : Fin 1152) :
    (iblk m c 3 t : Vec Ideal S1024x1152 .bf16) (ix2 q k) = middle (weight m c) (ix2 q k) := by
  unfold iblk
  rw [View.read_apply]
  show V m c main_v7 _ = _
  rw [V_v7]
  congr 1
  exact ext2 (by show win0_3.index t 0 * 1024 + 1 * q.val = _; rw [(index3 t).1]; show _ = q.val; omega) (by show win0_3.index t 1 * 1152 + 1 * k.val = _; rw [(index3 t).2]; show _ = k.val; omega)

/-- The columns of the weight a part multiplies. -/
theorem iblk5 (t : Fin cfg0.N) (q : Fin 1024) (k : Fin 768) :
    (iblk m c 5 t : Vec Ideal S1024x768 .bf16) (ix2 q k) = ending (weight m c) (ix2 q k) := by
  unfold iblk
  rw [View.read_apply]
  show V m c main_v8 _ = _
  rw [V_v8]
  congr 1
  exact ext2 (by show win0_5.index t 0 * 1024 + 1 * q.val = _; rw [(index5 t).1]; show _ = q.val; omega) (by show win0_5.index t 1 * 768 + 1 * k.val = _; rw [(index5 t).2]; show _ = k.val; omega)

/-- An entry of the three parts side by side, the second cut to its 1032 columns. -/
def joined (x0 : Arr 4096 1024) (x1 : Arr 4096 1152) (x2 : Arr 4096 768)
    (r k : ℕ) : EReal :=
  if k < 1024 then at2 x0 r k else if k < 2056 then at2 x1 r (k - 1024) else at2 x2 r (k - 2056)

/-- The gradient: the scaled residual's, and the product over the weight's columns. -/
def gradient (x0 : Arr 4096 1024) (x1 : Arr 4096 1152) (x2 : Arr 4096 768)
    (x3 : Arr 1024 2824) (x4 : Arr 4096 1024) : Arr 4096 1024 :=
  fun i => (Ideal.ofBits .f32 0x3FB504F3#32 : EReal) * x4 i + ∑ k ∈ Finset.range 2824, joined x0 x1 x2 (i 0).val k * at2 x3 (i 1).val k

/-- The three parts' products are the one product. -/
theorem parts (x0 : Arr 4096 1024) (x1 : Arr 4096 1152) (x2 : Arr 4096 768)
    (x3 : Arr 1024 2824) (a : EReal) (r q : ℕ) :
    a + (∑ k ∈ Finset.range 1024, at2 x0 r k * at2 x3 q k) + (∑ k ∈ Finset.range 1152, at2 x1 r k * if k < 1032 then at2 x3 q (1024 + k) else 0)
      + (∑ k ∈ Finset.range 768, at2 x2 r k * at2 x3 q (2056 + k)) = a + ∑ k ∈ Finset.range 2824, joined x0 x1 x2 r k * at2 x3 q k := by
  have two : ∀ f : ℕ → EReal, ∑ k ∈ Finset.range 1152, f k = (∑ k ∈ Finset.range 1032, f k) + ∑ k ∈ Finset.range 120, f (1032 + k) :=
    fun f => Finset.sum_range_add f 1032 120
  have three : ∀ f : ℕ → EReal, ∑ k ∈ Finset.range 2824, f k
      = (∑ k ∈ Finset.range 1024, f k) + (∑ k ∈ Finset.range 1032, f (1024 + k)) + ∑ k ∈ Finset.range 768, f (2056 + k) :=
    fun f => (Finset.sum_range_add f 2056 768).trans (congrArg (· + _) (Finset.sum_range_add f 1024 1032))
  rw [two, three]
  have z : (∑ k ∈ Finset.range 120, at2 x1 r (1032 + k) * if 1032 + k < 1032 then at2 x3 q (1024 + (1032 + k)) else 0) = 0 :=
    Finset.sum_eq_zero fun k _ => by rw [if_neg (by omega), mul_zero]
  rw [z, add_zero, add_assoc, add_assoc, add_assoc]
  refine congrArg (a + ·) (congr (congrArg HAdd.hAdd (Finset.sum_congr rfl fun k hk => ?_)) (congr (congrArg HAdd.hAdd (Finset.sum_congr rfl fun k hk => ?_))
    (Finset.sum_congr rfl fun k hk => ?_)))
  · rw [joined, if_pos (Finset.mem_range.mp hk)]
  · have := Finset.mem_range.mp hk
    rw [if_pos this, joined, if_neg (show ¬1024 + k < 1024 by omega), if_pos (show 1024 + k < 2056 by omega), Nat.add_sub_cancel_left]
  · rw [joined, if_neg (show ¬2056 + k < 1024 by omega), if_neg (show ¬2056 + k < 2056 by omega), Nat.add_sub_cancel_left]

/-- What a point writes. -/
theorem written (t : Fin cfg0.N) (r : Fin 512) (q : Fin 1024) (h0 : 512 * t.val + r.val < 4096) (h1 : 1024 * 0 + q.val < 1024) :
    out0_7 (iblk m c 0 t) (iblk m c 1 t) (iblk m c 2 t) (iblk m c 3 t) (iblk m c 4 t) (iblk m c 5 t) (iblk m c 6 t) (ix2 r q)
      = gradient (dqk m c) (dml m c) (dsw m c) (weight m c) (dres m c) (ix2 ⟨512 * t.val + r.val, h0⟩ ⟨1024 * 0 + q.val, h1⟩) := by
  rw [block, pay1_apply]
  refine Eq.trans ?_ (parts (dqk m c) (dml m c) (dsw m c) (weight m c) _ (512 * t.val + r.val) (1024 * 0 + q.val))
  rw [iblk6, at2_of_lt _ h0 h1]
  simp only [Finset.sum_range]
  refine congr (congrArg HAdd.hAdd (congr (congrArg HAdd.hAdd (congrArg (_ + ·) (Finset.sum_congr rfl fun k _ => ?_))) (Finset.sum_congr rfl fun k _ => ?_)))
    (Finset.sum_congr rfl fun k _ => ?_)
  · rw [iblk0, iblk1, padded_apply, if_pos (by dsimp only; omega)]
    simp only [Nat.mul_zero, Nat.zero_add]
  · rw [iblk2, iblk3, middle_apply]
    simp only [Nat.mul_zero, Nat.zero_add]
  · rw [iblk4, iblk5, end_apply]
    simp only [Nat.mul_zero, Nat.zero_add]

/-- The whole result. -/
theorem result : (dats m 0 c).arrAt 7 cfg0.N = gradient (dqk m c) (dml m c) (dsw m c) (weight m c) (dres m c) :=
  (dats m 0 c).arrAt_eq_of_cover 7 (gradient (dqk m c) (dml m c) (dsw m c) (weight m c) (dres m c)) (fun t hf => by
    have hN : t.val < 8 := lt_of_lt_of_eq t.isLt N_0
    rw [Value.flushed7]
    funext y
    obtain ⟨r, q, rfl⟩ : ∃ (r : Fin 512) (q : Fin 1024), y = ix2 r q := pairs y
    refine Eq.trans (show _ = (out0_7 (iblk m c 0 t) (iblk m c 1 t) (iblk m c 2 t) (iblk m c 3 t) (iblk m c 4 t) (iblk m c 5 t) (iblk m c 6 t)) (ix2 r q) from rfl) ?_
    rw [written m c t r q (by omega) (by omega), View.read_apply]
    show gradient (dqk m c) (dml m c) (dsw m c) (weight m c) (dres m c) (ix2 ⟨512 * (t.val) + r.val, by omega⟩ ⟨1024 * (0) + q.val, by omega⟩) = gradient (dqk m c) (dml m c) (dsw m c) (weight m c) (dres m c) _
    congr 1
    exact ext2 (by show 512 * (t.val) + r.val = win0_7.index t 0 * 512 + 1 * r.val; rw [(index7 t).1]; omega) (by show 1024 * (0) + q.val = win0_7.index t 1 * 1024 + 1 * q.val; rw [(index7 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_7 t, ?_⟩
    show i ∈ ((View.whole main_v9).slice (win0_7.rect t)).set
    rw [View.set_slice_whole, Rect.mem_set_unit]
    intro a
    match a with
    | ⟨0, _⟩ =>
      show win0_7.index t 0 * 512 ≤ (i 0).val ∧ (i 0).val < win0_7.index t 0 * 512 + 512
      rw [(index7 t).1]; omega
    | ⟨1, _⟩ =>
      show win0_7.index t 1 * 1024 ≤ (i 1).val ∧ (i 1).val < win0_7.index t 1 * 1024 + 1024
      rw [(index7 t).2]; omega

end Cert.InGradIdeal.Sums
-- ==== Proof.Products.InputReference.lean ====
/-
  The reference's gradient is the sum the kernel computes.
-/
module

public import proofs.«01_k».proof.Defs
public import proofs.«01_k».proof.Proof.Products.Input
public import proofs.«01_k».proof.Proof.Gen.InGradIdeal
public import proofs.«01_k».proof.Proof.Gen.InGradRefIdeal
public import proofs.«01_k».proof.Proof.Gen.InGradRefIdeal.Run
public import proofs.«01_k».proof.Proof.Gen.InGradRefIdeal.Read
public import Idealize.ShloMosaic.Adequacy

@[expose] public section

set_option maxRecDepth 16384

noncomputable section

namespace Cert.InGradRefIdeal.Sums

open Idealize.ShloMosaic Idealize.SL.Sem Cert.Products

/-- The three parts side by side. -/
theorem joined_apply (x0 : Arr 4096 1024) (x1 : Arr 4096 1152) (x2 : Arr 4096 768)
    (r : Fin 4096) (k : Fin 2824) : Read.val_main_v3 (F := Ideal) x0 x1 x2 (ix2 r k) = Cert.InGradIdeal.Sums.joined x0 x1 x2 r.val k.val := by
  have hk := k.isLt
  pointwise [Read.val_main_v3, Read.val_main_v2, Read.val_main_v1]
  unfold Cert.InGradIdeal.Sums.joined
  by_cases h1 : k.val < 1024
  · rw [dif_pos h1, if_pos h1, at2_of_lt _ r.isLt (by omega)]
  rw [dif_neg h1, if_neg h1]
  by_cases h2 : k.val < 2056
  · rw [dif_pos (by show k.val - 1024 < 1032; omega), if_pos h2, at2_of_lt _ r.isLt (by omega)]
  rw [dif_neg (by show ¬k.val - 1024 < 1032; omega), if_neg h2, at2_of_lt _ r.isLt (by omega)]
  exact congrArg (fun j => x2 (ix2 r j)) (Fin.ext (by show k.val - 1024 - 1032 = k.val - 2056; omega))

/-- The reference's result, an entry at a time. -/
theorem value (x0 : Arr 4096 1024) (x1 : Arr 4096 1152) (x2 : Arr 4096 768) (x3 : Arr 1024 2824) (x4 : Arr 4096 1024) :
    Read.val_main_v11 (F := Ideal) x0 x1 x2 x3 x4 = Cert.InGradIdeal.Sums.gradient x0 x1 x2 x3 x4 := by
  funext i
  rw [Read.val_main_v11_apply, Read.val_main_v8_apply, Read.val_main_v10_apply, Read.val_main_v9_apply, Read.val_main_cst_1_apply]
  refine (add_comm _ _).trans (congrArg (fun z => (Ideal.ofBits .f32 0x3FB504F3#32 : EReal) * x4 i + z) ?_)
  rw [Finset.sum_range]
  refine Finset.sum_congr rfl fun k _ => ?_
  have e : Read.val_main_v3 (F := Ideal) x0 x1 x2 (Read.lidx_main_v8 i k) = Cert.InGradIdeal.Sums.joined x0 x1 x2 (i 0).val k.val :=
    Eq.trans (congrArg (Read.val_main_v3 (F := Ideal) x0 x1 x2) (show Read.lidx_main_v8 i k = ix2 (i 0) k from funext fun a => match a with
      | ⟨0, _⟩ => rfl
      | ⟨1, _⟩ => rfl)) (joined_apply x0 x1 x2 (i 0) k)
  rw [e, Read.val_main_v0_apply, at2_of_lt _ (show (i 1).val < 1024 from (i 1).isLt) k.isLt]
  refine congr rfl (congrArg x3 (funext fun a => ?_))
  match a with
  | ⟨0, _⟩ => rfl
  | ⟨1, _⟩ => rfl

/-- The reference ends with its arguments unchanged and, having no semaphore, with every counter at zero. -/
theorem frame : Cert.quiescent_InGradRefIdeal (hInGradRefIdeal := Gen.facts) := fun m ρ _ =>
  (θ_run Cert.InGradRefIdeal.defs _ _).mono (fun r h => ⟨fun c => (h c).2, sem_eq_zero_of_no_sems (by decide) r.2⟩) (Value.run m ρ)

/-- From arrays that agree, the two results are one. -/
theorem agreeing (a0 : Arr 4096 1024) (a1 : Arr 4096 1152) (a2 : Arr 4096 768) (a3 : Arr 1024 2824) (a4 : Arr 4096 1024) (b0 : Arr 4096 1024) (b1 : Arr 4096 1152) (b2 : Arr 4096 768) (b3 : Arr 1024 2824) (b4 : Arr 4096 1024)
    (e0 : b0 = a0) (e1 : b1 = a1) (e2 : b2 = a2) (e3 : b3 = a3) (e4 : b4 = a4) : Read.val_main_v11 (F := Ideal) b0 b1 b2 b3 b4 = Cert.InGradIdeal.Sums.gradient a0 a1 a2 a3 a4 := by
  subst e0 e1 e2 e3 e4
  exact value b0 b1 b2 b3 b4

/-- The kernel's result is the reference's. -/
theorem equation : Cert.algebraic_InGradIdeal_InGradRefIdeal (hInGradIdeal := Cert.InGradIdeal.Gen.facts) (hInGradRefIdeal := Gen.facts) := by
  intro m ρ m' ρ' _ agree
  refine ⟨fun c => (Cert.InGradIdeal.Gen.dats m 0 c).arrAt 7 Cert.InGradIdeal.cfg0.N, Cert.InGradIdeal.Value.run_blocks m ρ, ?_⟩
  refine (θ_run Cert.InGradRefIdeal.defs _ _).mono (fun r h c => ?_) (Value.run m' ρ')
  exact ⟨(((h c).1.trans (Read.val_main_v11_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))).trans (agreeing _ _ _ _ _ _ _ _ _ _ (agree c).1 (agree c).2.1 (agree c).2.2.1 (agree c).2.2.2.1 (agree c).2.2.2.2)).trans
    (Cert.InGradIdeal.Sums.result m c).symm, (h c).2⟩

end Cert.InGradRefIdeal.Sums
-- ==== Proof.Layers.Proj.lean ====
/-
  The input projection: the product of the rows by the input weight, its gates' columns moved to the end and padded with zeros.
-/
module

public import proofs.«01_k».proof.Proof.Products.Sum
public import proofs.«01_k».proof.Proof.Gen.ProjIdeal.Value

@[expose] public section

set_option maxRecDepth 16384

noncomputable section

namespace Cert.ProjIdeal.Sums

open Idealize.ShloMosaic Idealize.ShloMosaic.TcCoe
open Cert.ProjIdeal Cert.ProjIdeal.Gen Cert.Products

theorem origin : (![0, 0] : Fin 2 → Nat) = fun _ => 0 := funext fun a => by fin_cases a <;> rfl

variable (m : (ℓ : Loc nD τ sig) → Buf (Elt Ideal) ℓ) (c : Dev nD)

/-- The rows and the weight. -/
abbrev rows (c : Dev nD) : Arr 4096 1024 := m ((c : Thread nD τ).loc main_arg0)
abbrev weight (c : Dev nD) : Arr 1024 2824 := m ((c : Thread nD τ).loc main_arg1)

/-- The weight with the gates' columns moved to its end and padded with zeros. -/
def padded (c : Dev nD) : Vec Ideal S1024x3072 .bf16 :=
  concatenate S1024x3072 1 [⟨S1024x2048, extractStridedSlice S1024x2048 ![0, 0] (m ((c : Thread nD τ).loc main_arg1)) slices_S1024x2824_S1024x2048_0_0⟩,
    ⟨S1024x768, extractStridedSlice S1024x768 ![0, 2056] (m ((c : Thread nD τ).loc main_arg1)) slices_S1024x2824_S1024x768_0_2056⟩,
    ⟨S1024x8, extractStridedSlice S1024x8 ![0, 2048] (m ((c : Thread nD τ).loc main_arg1)) slices_S1024x2824_S1024x8_0_2048⟩,
    ⟨S1024x248, broadcastInDim S1024x248 ![] bcast_S_S1024x248 (constant (F := Ideal) S_ .bf16 0x0000#16)⟩]
    concatenates_S1024x2048_S1024x768_S1024x8_S1024x248_S1024x3072_d1

theorem V_v4 : V m c main_v4 = padded m c := by
  show StableHlo.after hostOps0 _ (Proc.devRef .tc main_v4) = _
  simp only [hostOps0]
  after_results
  rfl

/-- An entry of the padded weight. -/
theorem padded_apply (q : Fin 1024) (k : Fin 3072) : padded m c (ix2 q k)
    = if k.val < 2048 then at2 (weight m c) q.val k.val else if k.val < 2816 then at2 (weight m c) q.val (8 + k.val)
      else if k.val < 2824 then at2 (weight m c) q.val (k.val - 768) else 0 := by
  have hk := k.isLt
  pointwise [padded]
  by_cases h1 : k.val < 2048
  · rw [dif_pos h1, if_pos h1, at2_of_lt _ q.isLt (by omega)]
  rw [dif_neg h1, if_neg h1]
  by_cases h2 : k.val < 2816
  · rw [dif_pos (by show k.val - 2048 < 768; omega), if_pos h2, at2_of_lt _ q.isLt (by omega)]
    exact congrArg (fun j => weight m c (ix2 q j)) (Fin.ext (by show 2056 + (k.val - 2048) = 8 + k.val; omega))
  rw [dif_neg (by show ¬k.val - 2048 < 768; omega), if_neg h2]
  by_cases h3 : k.val < 2824
  · rw [dif_pos (by show k.val - 2048 - 768 < 8; omega), if_pos h3, at2_of_lt _ q.isLt (by omega)]
    exact congrArg (fun j => weight m c (ix2 q j)) (Fin.ext (by show 2048 + (k.val - 2048 - 768) = k.val - 768; omega))
  rw [dif_neg (by show ¬k.val - 2048 - 768 < 8; omega), if_neg h3]

/-- A row times a column of the weight. -/
def entry (x : Arr 4096 1024) (w : Arr 1024 2824) (r : Fin 4096) (j : ℕ) : EReal :=
  ∑ k : Fin 1024, x (ix2 r k) * at2 w k.val j

/-- The projection: the columns before the gates, those after them, the gates', and zeros. -/
def projected (x : Arr 4096 1024) (w : Arr 1024 2824) : Arr 4096 3072 :=
  fun i => if (i 1).val < 2048 then entry x w (i 0) (i 1).val else if (i 1).val < 2816 then entry x w (i 0) (8 + (i 1).val)
    else if (i 1).val < 2824 then entry x w (i 0) ((i 1).val - 768) else 0

/-- The product by the padded weight. -/
theorem by_padded (r : Fin 4096) (j : Fin 3072) : ∑ k : Fin 1024, rows m c (ix2 r k) * padded m c (ix2 k j) = projected (rows m c) (weight m c) (ix2 r j) := by
  show _ = if j.val < 2048 then entry _ _ r j.val else if j.val < 2816 then entry _ _ r (8 + j.val) else if j.val < 2824 then entry _ _ r (j.val - 768) else 0
  simp only [padded_apply, entry]
  split_ifs
  · rfl
  · rfl
  · rfl
  · exact Finset.sum_eq_zero fun k _ => mul_zero _

variable (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S8x128 .f32) (h6 : a6.IsWhole) (x0 : Vec Ideal S1024x1024 .bf16) (x1 : Vec Ideal S1024x1024 .bf16)

/-- A point writes its block of products. -/
theorem block : out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero origin]
  simp only [View.readAt_eq_ld, h3.read_unread, h4.read_unread, View.ld_unit_zero (S := S1024x1024) origin]

theorem pay1_apply (r : Fin 1024) (q : Fin 1024) : (k0_pay1 x0 x1 : FVec Ideal S1024x1024 .f32) (ix2 r q) = ∑ k : Fin 1024, x0 (ix2 r k) * x1 (ix2 k q) := by
  pointwise [k0_pay1]

theorem index0 : ∀ t : Fin cfg0.N, win0_0.index t 0 = t.val / 3 ∧ win0_0.index t 1 = 0 := by decide +kernel
theorem index1 : ∀ t : Fin cfg0.N, win0_1.index t 0 = 0 ∧ win0_1.index t 1 = t.val % 3 := by decide +kernel
theorem index2 : ∀ t : Fin cfg0.N, win0_2.index t 0 = t.val / 3 ∧ win0_2.index t 1 = t.val % 3 := by decide +kernel

/-- A block of rows. -/
theorem iblk0 (t : Fin cfg0.N) (r : Fin 1024) (k : Fin 1024) :
    (iblk m c 0 t : Vec Ideal S1024x1024 .bf16) (ix2 r k) = at2 (rows m c) (1024 * (t.val / 3) + r.val) (1024 * (0) + k.val) := by
  have hN : t.val < 12 := lt_of_lt_of_eq t.isLt N_0
  rw [at2_of_lt _ (by omega) (by omega)]
  unfold iblk
  rw [View.read_apply]
  show V m c main_arg0 _ = _
  rw [V_main_arg0]
  congr 1
  exact ext2 (by show win0_0.index t 0 * 1024 + 1 * r.val = _; rw [(index0 t).1]; show _ = 1024 * (t.val / 3) + r.val; omega) (by show win0_0.index t 1 * 1024 + 1 * k.val = _; rw [(index0 t).2]; show _ = 1024 * (0) + k.val; omega)

/-- A third of the padded weight's columns. -/
theorem iblk1 (t : Fin cfg0.N) (k : Fin 1024) (q : Fin 1024) (h1 : 1024 * (t.val % 3) + q.val < 3072) :
    (iblk m c 1 t : Vec Ideal S1024x1024 .bf16) (ix2 k q) = padded m c (ix2 k ⟨1024 * (t.val % 3) + q.val, h1⟩) := by
  unfold iblk
  rw [View.read_apply]
  show V m c main_v4 _ = _
  rw [V_v4]
  congr 1
  exact ext2 (by show win0_1.index t 0 * 1024 + 1 * k.val = k.val; rw [(index1 t).1]; omega) (by show win0_1.index t 1 * 1024 + 1 * q.val = 1024 * (t.val % 3) + q.val; rw [(index1 t).2]; omega)

/-- What a point writes. -/
theorem written (t : Fin cfg0.N) (r : Fin 1024) (q : Fin 1024) (h0 : 1024 * (t.val / 3) + r.val < 4096) (h1 : 1024 * (t.val % 3) + q.val < 3072) :
    outsAt0 m c t (ix2 r q) = projected (rows m c) (weight m c) (ix2 ⟨1024 * (t.val / 3) + r.val, h0⟩ ⟨1024 * (t.val % 3) + q.val, h1⟩) := by
  rw [← by_padded]
  unfold outsAt0
  rw [block, pay1_apply]
  refine Finset.sum_congr rfl fun k _ => ?_
  rw [iblk0, iblk1 m c t k q h1, at2_of_lt _ h0 (by omega)]
  simp only [Nat.mul_zero, Nat.zero_add]

/-- The whole result. -/
theorem result : (dats m 0 c).arrAt 2 cfg0.N = projected (rows m c) (weight m c) :=
  (dats m 0 c).arrAt_eq_of_cover 2 (projected (rows m c) (weight m c)) (fun t hf => by
    have hN : t.val < 12 := lt_of_lt_of_eq t.isLt N_0
    rw [Value.flushed2]
    funext y
    obtain ⟨r, q, rfl⟩ : ∃ (r : Fin 1024) (q : Fin 1024), y = ix2 r q := pairs y
    refine Eq.trans (show _ = (outsAt0 m c t) (ix2 r q) from rfl) ?_
    rw [written m c t r q (by omega) (by omega), View.read_apply]
    show projected (rows m c) (weight m c) (ix2 ⟨1024 * (t.val / 3) + r.val, by omega⟩ ⟨1024 * (t.val % 3) + q.val, by omega⟩) = projected (rows m c) (weight m c) _
    congr 1
    exact ext2 (by show 1024 * (t.val / 3) + r.val = win0_2.index t 0 * 1024 + 1 * r.val; rw [(index2 t).1]; omega) (by show 1024 * (t.val % 3) + q.val = win0_2.index t 1 * 1024 + 1 * q.val; rw [(index2 t).2]; omega)) fun i => by
    have h0 : (i 0).val < 4096 := (i 0).isLt
    have h1 : (i 1).val < 3072 := (i 1).isLt
    have ht : 3 * ((i 0).val / 1024) + (i 1).val / 1024 < cfg0.N := by rw [show cfg0.N = 12 from N_0]; omega
    obtain ⟨t, e⟩ : ∃ t : Fin cfg0.N, t.val = 3 * ((i 0).val / 1024) + (i 1).val / 1024 := ⟨⟨_, ht⟩, rfl⟩
    refine ⟨t, flush0_2 t, ?_⟩
    show i ∈ ((View.whole main_v5).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [(index2 t).1]; omega
    | ⟨1, _⟩ =>
      show win0_2.index t 1 * 1024 ≤ (i 1).val ∧ (i 1).val < win0_2.index t 1 * 1024 + 1024
      rw [(index2 t).2]; omega

end Cert.ProjIdeal.Sums
-- ==== Proof.Layers.ProjReference.lean ====
/-
  The reference's projection is the kernel's.
-/
module

public import proofs.«01_k».proof.Defs
public import proofs.«01_k».proof.Proof.Layers.Proj
public import proofs.«01_k».proof.Proof.Gen.ProjIdeal
public import proofs.«01_k».proof.Proof.Gen.ProjRefIdeal
public import proofs.«01_k».proof.Proof.Gen.ProjRefIdeal.Run
public import proofs.«01_k».proof.Proof.Gen.ProjRefIdeal.Read
public import Idealize.ShloMosaic.Adequacy

@[expose] public section

set_option maxRecDepth 16384

noncomputable section

namespace Cert.ProjRefIdeal.Sums

open Idealize.ShloMosaic Idealize.SL.Sem Cert.Products

/-- The reference's result, an entry at a time. -/
theorem value (x0 : Arr 4096 1024) (x1 : Arr 1024 2824) :
    Read.val_main_v7 (F := Ideal) x0 x1 = Cert.ProjIdeal.Sums.projected x0 x1 := by
  funext i
  obtain ⟨r, j, rfl⟩ : ∃ (r : Fin 4096) (j : Fin 3072), i = ix2 r j := pairs i
  have hj := j.isLt
  pointwise [Read.val_main_v7, Read.val_main_v6, Read.val_main_v5, Read.val_main_v4, Read.val_main_v3, Read.val_main_v2, Read.val_main_v1, Read.val_main_v0, Read.val_main_cst]
  show _ = if j.val < 2048 then Cert.ProjIdeal.Sums.entry _ _ r j.val else if j.val < 2816 then Cert.ProjIdeal.Sums.entry _ _ r (8 + j.val) else if j.val < 2824 then Cert.ProjIdeal.Sums.entry _ _ r (j.val - 768) else 0
  have e (n : ℕ) (h : n < 2824) : (∑ k : Fin 1024, x0 (ix2 r k) * x1 (ix2 k (⟨n, h⟩ : Fin 2824))) = Cert.ProjIdeal.Sums.entry x0 x1 r n :=
    Finset.sum_congr rfl fun k _ => by rw [at2_of_lt _ k.isLt h]
  by_cases h1 : j.val < 2048
  · rw [dif_pos h1, if_pos h1]
    exact e _ (by omega)
  rw [dif_neg h1, if_neg h1]
  by_cases h2 : j.val < 2816
  · rw [dif_pos (by show j.val - 2048 < 768; omega), if_pos h2, ← show 2056 + (j.val - 2048) = 8 + j.val by omega]
    exact e _ (by omega)
  rw [dif_neg (by show ¬j.val - 2048 < 768; omega), if_neg h2]
  by_cases h3 : j.val < 2824
  · rw [dif_pos (by show j.val - 2048 - 768 < 8; omega), if_pos h3, ← show 2048 + (j.val - 2048 - 768) = j.val - 768 by omega]
    exact e _ (by omega)
  rw [dif_neg (by show ¬j.val - 2048 - 768 < 8; omega), if_neg h3]

/-- The reference ends with its arguments unchanged and, having no semaphore, with every counter at zero. -/
theorem frame : Cert.quiescent_ProjRefIdeal (hProjRefIdeal := Gen.facts) := fun m ρ _ =>
  (θ_run Cert.ProjRefIdeal.defs _ _).mono (fun r h => ⟨fun c => (h c).2, sem_eq_zero_of_no_sems (by decide) r.2⟩) (Value.run m ρ)

/-- From arrays that agree, the two results are one. -/
theorem agreeing (a0 : Arr 4096 1024) (a1 : Arr 1024 2824) (b0 : Arr 4096 1024) (b1 : Arr 1024 2824)
    (e0 : b0 = a0) (e1 : b1 = a1) : Read.val_main_v7 (F := Ideal) b0 b1 = Cert.ProjIdeal.Sums.projected a0 a1 := by
  subst e0 e1
  exact value b0 b1

/-- The kernel's result is the reference's. -/
theorem equation : Cert.algebraic_ProjIdeal_ProjRefIdeal (hProjIdeal := Cert.ProjIdeal.Gen.facts) (hProjRefIdeal := Gen.facts) := by
  intro m ρ m' ρ' _ agree
  refine ⟨fun c => (Cert.ProjIdeal.Gen.dats m 0 c).arrAt 2 Cert.ProjIdeal.cfg0.N, Cert.ProjIdeal.Value.run_blocks m ρ, ?_⟩
  refine (θ_run Cert.ProjRefIdeal.defs _ _).mono (fun r h c => ?_) (Value.run m' ρ')
  exact ⟨(((h c).1.trans (Read.val_main_v7_eq (m' ((c.tc : Thread nD τ).loc main_arg0)) (m' ((c.tc : Thread nD τ).loc main_arg1)))).trans (agreeing _ _ _ _ (agree c).1 (agree c).2)).trans
    (Cert.ProjIdeal.Sums.result m c).symm, (h c).2⟩

end Cert.ProjRefIdeal.Sums
-- ==== Proof.Layers.MemKv.lean ====
/-
  The memory's keys and values: the product of the memory by their weight, a quarter of the columns at a time.
-/
module

public import proofs.«01_k».proof.Proof.Products.Sum
public import proofs.«01_k».proof.Proof.Gen.MemKvIdeal.Value

@[expose] public section

set_option maxRecDepth 16384

noncomputable section

namespace Cert.MemKvIdeal.Sums

open Idealize.ShloMosaic Idealize.ShloMosaic.TcCoe
open Cert.MemKvIdeal Cert.MemKvIdeal.Gen Cert.Products

theorem origin : (![0, 0] : Fin 2 → Nat) = fun _ => 0 := funext fun a => by fin_cases a <;> rfl

variable (c : Dev nD) (i : grid0.Coords) (a3 : Memref sig .tc .vmem S256x1024 .f32) (h3 : a3.IsWhole)
  (a4 : Memref sig .tc .vmem S1024x512 .bf16) (h4 : a4.IsWhole) (a5 : Memref sig .tc .vmem S256x512 .f32) (h5 : a5.IsWhole)
  (a6 : Memref sig .tc .vmem S8x128 .f32) (h6 : a6.IsWhole) (x0 : Vec Ideal S256x1024 .f32) (x1 : Vec Ideal S1024x512 .bf16)

/-- A point writes its block of products. -/
theorem block : out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero origin]
  simp only [View.readAt_eq_ld, h3.read_unread, h4.read_unread, View.ld_unit_zero (S := S256x1024) origin, View.ld_unit_zero (S := S1024x512) origin]

theorem pay1_apply (r : Fin 256) (q : Fin 512) : (k0_pay1 x0 x1 : FVec Ideal S256x512 .f32) (ix2 r q) = ∑ k : Fin 1024, x0 (ix2 r k) * x1 (ix2 k q) := by
  pointwise [k0_pay1]

variable (m : (ℓ : Loc nD τ sig) → Buf (Elt Ideal) ℓ)

/-- The memory and the weight. -/
abbrev left (c : Dev nD) : Arr 256 1024 := m ((c : Thread nD τ).loc main_arg0)
abbrev right (c : Dev nD) : Arr 1024 2048 := m ((c : Thread nD τ).loc main_arg1)

/-- Their product. -/
def times (x : Arr 256 1024) (y : Arr 1024 2048) : Arr 256 2048 :=
  fun i => ∑ k : Fin 1024, x (ix2 (i 0) k) * y (ix2 k (i 1))

theorem index0 : ∀ t : Fin cfg0.N, win0_0.index t 0 = 0 ∧ win0_0.index t 1 = 0 := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = t.val := by decide +kernel

/-- The memory. -/
theorem iblk0 (t : Fin cfg0.N) (r : Fin 256) (k : Fin 1024) :
    (iblk m c 0 t : Vec Ideal S256x1024 .f32) (ix2 r k) = at2 (left m c) (256 * (0) + r.val) (1024 * (0) + k.val) := by
  have hN : t.val < 4 := lt_of_lt_of_eq t.isLt N_0
  rw [at2_of_lt _ (by omega) (by omega)]
  unfold iblk
  rw [View.read_apply]
  show V m c main_arg0 _ = _
  rw [V_main_arg0]
  congr 1
  exact ext2 (by show win0_0.index t 0 * 256 + 1 * r.val = _; rw [(index0 t).1]; show _ = 256 * (0) + r.val; omega) (by show win0_0.index t 1 * 1024 + 1 * k.val = _; rw [(index0 t).2]; show _ = 1024 * (0) + k.val; omega)

/-- A quarter of the weight's columns. -/
theorem iblk1 (t : Fin cfg0.N) (r : Fin 1024) (k : Fin 512) :
    (iblk m c 1 t : Vec Ideal S1024x512 .bf16) (ix2 r k) = at2 (right m c) (1024 * (0) + r.val) (512 * (t.val) + k.val) := by
  have hN : t.val < 4 := lt_of_lt_of_eq t.isLt N_0
  rw [at2_of_lt _ (by omega) (by omega)]
  unfold iblk
  rw [View.read_apply]
  show V m c main_arg1 _ = _
  rw [V_main_arg1]
  congr 1
  exact ext2 (by show win0_1.index t 0 * 1024 + 1 * r.val = _; rw [(index1 t).1]; show _ = 1024 * (0) + r.val; omega) (by show win0_1.index t 1 * 512 + 1 * k.val = _; rw [(index1 t).2]; show _ = 512 * (t.val) + k.val; omega)

/-- What a point writes. -/
theorem written (t : Fin cfg0.N) (r : Fin 256) (q : Fin 512) (h1 : 512 * t.val + q.val < 2048) :
    outsAt0 m c t (ix2 r q) = times (left m c) (right m c) (ix2 r ⟨512 * t.val + q.val, h1⟩) := by
  unfold outsAt0
  rw [block, pay1_apply]
  refine Finset.sum_congr rfl fun k _ => ?_
  rw [iblk0, iblk1, at2_of_lt _ (by omega) (by omega), at2_of_lt _ (by omega) h1]
  simp only [Nat.mul_zero, Nat.zero_add]
  rfl

/-- The whole result. -/
theorem result : (dats m 0 c).arrAt 2 cfg0.N = times (left m c) (right m c) :=
  (dats m 0 c).arrAt_eq_of_cover 2 (times (left m c) (right m c)) (fun t hf => by
    have hN : t.val < 4 := lt_of_lt_of_eq t.isLt N_0
    rw [Value.flushed2]
    funext y
    obtain ⟨r, q, rfl⟩ : ∃ (r : Fin 256) (q : Fin 512), y = ix2 r q := pairs y
    refine Eq.trans (show _ = (outsAt0 m c t) (ix2 r q) from rfl) ?_
    rw [written c m t r q (by omega), View.read_apply]
    show times (left m c) (right m c) (ix2 r ⟨512 * t.val + q.val, by omega⟩) = times (left m c) (right m c) _
    congr 1
    exact ext2 (by show r.val = win0_2.index t 0 * 256 + 1 * r.val; rw [(index2 t).1]; omega) (by show 512 * t.val + q.val = win0_2.index t 1 * 512 + 1 * q.val; rw [(index2 t).2]; omega)) fun i => by
    have h0 : (i 0).val < 256 := (i 0).isLt
    have h1 : (i 1).val < 2048 := (i 1).isLt
    have ht : (i 1).val / 512 < cfg0.N := by rw [show cfg0.N = 4 from N_0]; omega
    obtain ⟨t, e⟩ : ∃ t : Fin cfg0.N, t.val = (i 1).val / 512 := ⟨⟨_, ht⟩, rfl⟩
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 256 ≤ (i 0).val ∧ (i 0).val < win0_2.index t 0 * 256 + 256
      rw [(index2 t).1]; omega
    | ⟨1, _⟩ =>
      show win0_2.index t 1 * 512 ≤ (i 1).val ∧ (i 1).val < win0_2.index t 1 * 512 + 512
      rw [(index2 t).2]; omega

end Cert.MemKvIdeal.Sums
-- ==== Proof.Layers.MemKvReference.lean ====
/-
  The reference's product is the kernel's.
-/
module

public import proofs.«01_k».proof.Defs
public import proofs.«01_k».proof.Proof.Layers.MemKv
public import proofs.«01_k».proof.Proof.Gen.MemKvIdeal
public import proofs.«01_k».proof.Proof.Gen.MemKvRefIdeal
public import proofs.«01_k».proof.Proof.Gen.MemKvRefIdeal.Run
public import proofs.«01_k».proof.Proof.Gen.MemKvRefIdeal.Read
public import Idealize.ShloMosaic.Adequacy

@[expose] public section

set_option maxRecDepth 16384

noncomputable section

namespace Cert.MemKvRefIdeal.Sums

open Idealize.ShloMosaic Idealize.SL.Sem Cert.Products

/-- The reference's result, an entry at a time. -/
theorem value (x0 : Arr 256 1024) (x1 : Arr 1024 2048) :
    Read.val_main_v1 (F := Ideal) x0 x1 = Cert.MemKvIdeal.Sums.times x0 x1 := by
  funext i
  obtain ⟨r, q, rfl⟩ : ∃ (r : Fin 256) (q : Fin 2048), i = ix2 r q := pairs i
  pointwise [Read.val_main_v1, Read.val_main_v0]
  rfl

/-- The reference ends with its arguments unchanged and, having no semaphore, with every counter at zero. -/
theorem frame : Cert.quiescent_MemKvRefIdeal (hMemKvRefIdeal := Gen.facts) := fun m ρ _ =>
  (θ_run Cert.MemKvRefIdeal.defs _ _).mono (fun r h => ⟨fun c => (h c).2, sem_eq_zero_of_no_sems (by decide) r.2⟩) (Value.run m ρ)

/-- From arrays that agree, the two results are one. -/
theorem agreeing (a0 : Arr 256 1024) (a1 : Arr 1024 2048) (b0 : Arr 256 1024) (b1 : Arr 1024 2048)
    (e0 : b0 = a0) (e1 : b1 = a1) : Read.val_main_v1 (F := Ideal) b0 b1 = Cert.MemKvIdeal.Sums.times a0 a1 := by
  subst e0 e1
  exact value b0 b1

/-- The kernel's result is the reference's. -/
theorem equation : Cert.algebraic_MemKvIdeal_MemKvRefIdeal (hMemKvIdeal := Cert.MemKvIdeal.Gen.facts) (hMemKvRefIdeal := Gen.facts) := by
  intro m ρ m' ρ' _ agree
  refine ⟨fun c => (Cert.MemKvIdeal.Gen.dats m 0 c).arrAt 2 Cert.MemKvIdeal.cfg0.N, Cert.MemKvIdeal.Value.run_blocks m ρ, ?_⟩
  refine (θ_run Cert.MemKvRefIdeal.defs _ _).mono (fun r h c => ?_) (Value.run m' ρ')
  exact ⟨(((h c).1.trans (Read.val_main_v1_eq (m' ((c.tc : Thread nD τ).loc main_arg0)) (m' ((c.tc : Thread nD τ).loc main_arg1)))).trans (agreeing _ _ _ _ (agree c).1 (agree c).2)).trans
    (Cert.MemKvIdeal.Sums.result c m).symm, (h c).2⟩

end Cert.MemKvRefIdeal.Sums
-- ==== Proof.Layers.Norm.lean ====
/-
  The layer norm of a row of 1024 numbers, as both programs compute it: the row less its mean, times the reciprocal root of its
  variance and a small constant, scaled and shifted.
-/
module

public import proofs.«01_k».proof.Proof.Products.Sum
public import Idealize.ShloMosaic.PureOps.Ideal.Laws

@[expose] public section

noncomputable section

namespace Cert.Layers

open Idealize.ShloMosaic

/-- The mean of a row. -/
def mean (f : Fin 1024 → EReal) : EReal := Ideal.div (∑ k, f k) (Ideal.ofBits .f32 0x44800000#32)

/-- The row less its mean. -/
def centred (f : Fin 1024 → EReal) (q : Fin 1024) : EReal := f q - mean f

/-- The row's normalised entry, scaled by `g` and shifted by `b`. -/
def normed (f : Fin 1024 → EReal) (g b : EReal) (q : Fin 1024) : EReal :=
  centred f q * Ideal.rsqrt (mean (fun k => centred f k * centred f k) + Ideal.ofBits .f32 0x3727C5AC#32) * g + b

/-- The scaled residual and the product. -/
def summed {n : ℕ} (h : Arr 4096 n) (w : Arr n 1024) (x : Arr 4096 1024) :
    Arr 4096 1024 :=
  fun i => (Ideal.ofBits .f32 0x3FB504F3#32 : EReal) * x i + ∑ k : Fin n, h (ix2 (i 0) k) * w (ix2 k (i 1))

/-- Each row normalised. -/
def normedRows (z : Arr 4096 1024) (g b : Arr 1 1024) : Arr 4096 1024 :=
  fun i => normed (fun k => z (ix2 (i 0) k)) (g (ix2 0 (i 1))) (b (ix2 0 (i 1))) (i 1)

/-- Rows and columns exchanged. -/
def turned (z : Arr 4096 1024) : Arr 1024 4096 := fun i => z (ix2 (i 1) (i 0))

end Cert.Layers
-- ==== Proof.Layers.MixOut.lean ====
/-
  The mixer's output layer: the scaled residual and the products of the two halves of the heads by the halves of the output weight, a block of rows at a time, and each row normalised.
-/
module

public import proofs.«01_k».proof.Proof.Layers.Norm
public import proofs.«01_k».proof.Proof.Gen.MixOutIdeal.Value

@[expose] public section

set_option maxRecDepth 16384

noncomputable section

namespace Cert.MixOutIdeal.Sums

open Idealize.ShloMosaic Idealize.ShloMosaic.TcCoe
open Cert.MixOutIdeal Cert.MixOutIdeal.Gen Cert.Layers

theorem origin : (![0, 0] : Fin 2 → Nat) = fun _ => 0 := funext fun a => by fin_cases a <;> rfl

theorem pay3_apply (x0 : Vec Ideal S512x512 .bf16) (x1 : Vec Ideal S512x512 .bf16) (x2 x3 : Vec Ideal S512x1024 .bf16) (x4 : Vec Ideal S512x1024 .f32) (r : Fin 512) (q : Fin 1024) :
    (k0_pay3 x4 x0 x2 x1 x3 : FVec Ideal S512x1024 .f32) (ix2 r q) = (Ideal.ofBits .f32 0x3FB504F3#32 : EReal) * x4 (ix2 r q)
      + (∑ k : Fin 512, x0 (ix2 r k) * x2 (ix2 k q)) + ∑ k : Fin 512, x1 (ix2 r k) * x3 (ix2 k q) := by
  pointwise [k0_pay3]

/-- The normalised rows are the sum's. -/
theorem pay4_apply (x0 : Vec Ideal S512x512 .bf16) (x1 : Vec Ideal S512x512 .bf16) (x2 x3 : Vec Ideal S512x1024 .bf16) (x4 : Vec Ideal S512x1024 .f32) (x5 x6 : Vec Ideal S1x1024 .f32) (r : Fin 512) (q : Fin 1024) :
    (k0_pay4 x4 x0 x2 x1 x3 x5 x6 : FVec Ideal S512x1024 .f32) (ix2 r q)
      = normed (fun k => (k0_pay3 x4 x0 x2 x1 x3 : FVec Ideal S512x1024 .f32) (ix2 r k)) (x5 (ix2 0 q)) (x6 (ix2 0 q)) q := by
  unfold k0_pay4
  generalize (k0_pay3 x4 x0 x2 x1 x3 : FVec Ideal S512x1024 .f32) = y
  pointwise
  rfl

theorem pay1_apply (y : FVec Ideal S512x1024 .f32) (r : Fin 512) (q : Fin 1024) : (k0_pay1 y : FVec Ideal S512x1024 .bf16) (ix2 r q) = y (ix2 r q) := by
  pointwise [k0_pay1]

theorem pay2_apply (y : FVec Ideal S512x1024 .f32) (r : Fin 512) (q : Fin 1024) : (k0_pay2 y : FVec Ideal S1024x512 .bf16) (ix2 q r) = y (ix2 r q) := by
  pointwise [k0_pay2]

theorem block7 (x0 : Vec Ideal S512x512 .bf16) (x1 : Vec Ideal S512x512 .bf16) (x2 x3 : Vec Ideal S512x1024 .bf16) (x4 : Vec Ideal S512x1024 .f32) (x5 x6 : Vec Ideal S1x1024 .f32) : out0_7 x0 x1 x2 x3 x4 x5 x6 = k0_pay4 x4 x0 x2 x1 x3 x5 x6 := by
  unfold out0_7
  rw [View.canon_unit_zero origin]
  simp only [View.ld_unit_zero (S := S512x1024) origin, View.ld_unit_zero (S := S512x512) origin, View.ld_unit_zero (S := S1x1024) origin]

theorem block8 (x0 : Vec Ideal S512x512 .bf16) (x1 : Vec Ideal S512x512 .bf16) (x2 x3 : Vec Ideal S512x1024 .bf16) (x4 : Vec Ideal S512x1024 .f32) (x5 x6 : Vec Ideal S1x1024 .f32) : out0_8 x0 x1 x2 x3 x4 x5 x6 = k0_pay1 (k0_pay4 x4 x0 x2 x1 x3 x5 x6) := by
  unfold out0_8 k0_pay5
  rw [View.canon_unit_zero origin]
  simp only [View.ld_unit_zero (S := S512x1024) origin, View.ld_unit_zero (S := S512x512) origin, View.ld_unit_zero (S := S1x1024) origin]

theorem block9 (x0 : Vec Ideal S512x512 .bf16) (x1 : Vec Ideal S512x512 .bf16) (x2 x3 : Vec Ideal S512x1024 .bf16) (x4 : Vec Ideal S512x1024 .f32) (x5 x6 : Vec Ideal S1x1024 .f32) : out0_9 x0 x1 x2 x3 x4 x5 x6 = k0_pay2 (k0_pay4 x4 x0 x2 x1 x3 x5 x6) := by
  unfold out0_9 k0_pay5
  rw [View.canon_unit_zero origin]
  simp only [View.ld_unit_zero (S := S512x1024) origin, View.ld_unit_zero (S := S512x512) origin, View.ld_unit_zero (S := S1x1024) origin]

theorem block10 (x0 : Vec Ideal S512x512 .bf16) (x1 : Vec Ideal S512x512 .bf16) (x2 x3 : Vec Ideal S512x1024 .bf16) (x4 : Vec Ideal S512x1024 .f32) (x5 x6 : Vec Ideal S1x1024 .f32) : out0_10 x0 x1 x2 x3 x4 x5 x6 = k0_pay3 x4 x0 x2 x1 x3 := by
  unfold out0_10
  rw [View.canon_unit_zero origin]
  simp only [View.ld_unit_zero (S := S512x1024) origin, View.ld_unit_zero (S := S512x512) origin, View.ld_unit_zero (S := S1x1024) origin]

variable (m : (ℓ : Loc nD τ sig) → Buf (Elt Ideal) ℓ) (c : Dev nD)

/-- The six arrays. -/
abbrev recurrent (c : Dev nD) : Arr 4096 512 := m ((c : Thread nD τ).loc main_arg0)
abbrev windowed (c : Dev nD) : Arr 4096 512 := m ((c : Thread nD τ).loc main_arg1)
abbrev weight (c : Dev nD) : Arr 1024 1024 := m ((c : Thread nD τ).loc main_arg2)
abbrev resid (c : Dev nD) : Arr 4096 1024 := m ((c : Thread nD τ).loc main_arg3)
abbrev scale (c : Dev nD) : Arr 1 1024 := m ((c : Thread nD τ).loc main_arg4)
abbrev shift (c : Dev nD) : Arr 1 1024 := m ((c : Thread nD τ).loc main_arg5)

/-- The two halves side by side. -/
def joined (x y : Arr 4096 512) : Arr 4096 1024 :=
  fun i => if h : (i 1).val < 512 then x (ix2 (i 0) ⟨(i 1).val, h⟩)
    else y (ix2 (i 0) ⟨(i 1).val - 512, by have h : (i 1).val < 1024 := (i 1).isLt; omega⟩)

theorem joined_left (x y : Arr 4096 512) (r : Fin 4096) (k : Fin 512) (h : k.val < 1024) :
    joined x y (ix2 r ⟨k.val, h⟩) = x (ix2 r k) := dif_pos k.isLt

theorem joined_right (x y : Arr 4096 512) (r : Fin 4096) (k : Fin 512) (h : 512 + k.val < 1024) :
    joined x y (ix2 r ⟨512 + k.val, h⟩) = y (ix2 r k) :=
  (dif_neg (show ¬512 + k.val < 512 by omega)).trans (congrArg (fun j => y (ix2 r j)) (Fin.ext (show 512 + k.val - 512 = k.val by omega)))

/-- A sum over 1024 columns in two halves. -/
theorem halves (f : Fin 1024 → EReal) : ∑ k, f k = (∑ k : Fin 512, f ⟨k.val, by omega⟩) + ∑ k : Fin 512, f ⟨512 + k.val, by omega⟩ :=
  Fin.sum_univ_add (a := 512) (b := 512) f

/-- The sum and the normalised rows. -/
abbrev total (c : Dev nD) : Arr 4096 1024 := summed (joined (recurrent m c) (windowed m c)) (weight m c) (resid m c)
abbrev output (c : Dev nD) : Arr 4096 1024 := normedRows (total m c) (scale m c) (shift m c)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index4 : ∀ t : Fin cfg0.N, win0_4.index t 0 = t.val ∧ win0_4.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index10 : ∀ t : Fin cfg0.N, win0_10.index t 0 = t.val ∧ win0_10.index t 1 = 0 := by decide +kernel
theorem index2 : ∀ t : Fin cfg0.N, win0_2.index t 0 = 0 ∧ win0_2.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index3 : ∀ t : Fin cfg0.N, win0_3.index t 0 = 1 ∧ win0_3.index t 1 = 0 := by decide +kernel
theorem index9 : ∀ t : Fin cfg0.N, win0_9.index t 0 = 0 ∧ win0_9.index t 1 = t.val := by decide +kernel

/-- A block of rows of the first half. -/
theorem iblk0 (t : Fin cfg0.N) (r : Fin 512) (k : Fin 512) (h0 : 512 * t.val + r.val < 4096) :
    (iblk m c 0 t : Vec Ideal S512x512 .bf16) (ix2 r k) = recurrent m c (ix2 ⟨512 * t.val + r.val, h0⟩ k) := by
  unfold iblk
  rw [View.read_apply]
  show V m c main_arg0 _ = _
  rw [V_main_arg0]
  congr 1
  exact ext2 (by show win0_0.index t 0 * 512 + 1 * r.val = 512 * t.val + r.val; rw [(index0 t).1]; omega) (by show win0_0.index t 1 * 512 + 1 * k.val = k.val; rw [(index0 t).2]; omega)

/-- Of the second. -/
theorem iblk1 (t : Fin cfg0.N) (r : Fin 512) (k : Fin 512) (h0 : 512 * t.val + r.val < 4096) :
    (iblk m c 1 t : Vec Ideal S512x512 .bf16) (ix2 r k) = windowed m c (ix2 ⟨512 * t.val + r.val, h0⟩ k) := by
  unfold iblk
  rw [View.read_apply]
  show V m c main_arg1 _ = _
  rw [V_main_arg1]
  congr 1
  exact ext2 (by show win0_1.index t 0 * 512 + 1 * r.val = 512 * t.val + r.val; rw [(index1 t).1]; omega) (by show win0_1.index t 1 * 512 + 1 * k.val = k.val; rw [(index1 t).2]; omega)

/-- The weight's upper half. -/
theorem iblk2 (t : Fin cfg0.N) (k : Fin 512) (q : Fin 1024) :
    (iblk m c 2 t : Vec Ideal S512x1024 .bf16) (ix2 k q) = weight m c (ix2 ⟨k.val, by omega⟩ q) := by
  unfold iblk
  rw [View.read_apply]
  show V m c main_arg2 _ = _
  rw [V_main_arg2]
  congr 1
  exact ext2 (by show win0_2.index t 0 * 512 + 1 * k.val = k.val; rw [(index2 t).1]; omega) (by show win0_2.index t 1 * 1024 + 1 * q.val = q.val; rw [(index2 t).2]; omega)

/-- Its lower half. -/
theorem iblk3 (t : Fin cfg0.N) (k : Fin 512) (q : Fin 1024) :
    (iblk m c 3 t : Vec Ideal S512x1024 .bf16) (ix2 k q) = weight m c (ix2 ⟨512 + k.val, by omega⟩ q) := by
  unfold iblk
  rw [View.read_apply]
  show V m c main_arg2 _ = _
  rw [V_main_arg2]
  congr 1
  exact ext2 (by show win0_3.index t 0 * 512 + 1 * k.val = 512 + k.val; rw [(index3 t).1]; omega) (by show win0_3.index t 1 * 1024 + 1 * q.val = q.val; rw [(index3 t).2]; omega)

/-- A block of rows of the residual. -/
theorem iblk4 (t : Fin cfg0.N) (r : Fin 512) (k : Fin 1024) (h0 : 512 * t.val + r.val < 4096) :
    (iblk m c 4 t : Vec Ideal S512x1024 .f32) (ix2 r k) = resid m c (ix2 ⟨512 * t.val + r.val, h0⟩ k) := by
  unfold iblk
  rw [View.read_apply]
  show V m c main_arg3 _ = _
  rw [V_main_arg3]
  congr 1
  exact ext2 (by show win0_4.index t 0 * 512 + 1 * r.val = 512 * t.val + r.val; rw [(index4 t).1]; omega) (by show win0_4.index t 1 * 1024 + 1 * k.val = k.val; rw [(index4 t).2]; omega)

/-- The scale. -/
theorem iblk5 (t : Fin cfg0.N) (r : Fin 1) (k : Fin 1024) :
    (iblk m c 5 t : Vec Ideal S1x1024 .f32) (ix2 r k) = scale m c (ix2 r k) := by
  unfold iblk
  rw [View.read_apply]
  show V m c main_arg4 _ = _
  rw [V_main_arg4]
  congr 1
  exact ext2 (by show win0_5.index t 0 * 1 + 1 * r.val = r.val; rw [(index5 t).1]; omega) (by show win0_5.index t 1 * 1024 + 1 * k.val = k.val; rw [(index5 t).2]; omega)

/-- The shift. -/
theorem iblk6 (t : Fin cfg0.N) (r : Fin 1) (k : Fin 1024) :
    (iblk m c 6 t : Vec Ideal S1x1024 .f32) (ix2 r k) = shift m c (ix2 r k) := by
  unfold iblk
  rw [View.read_apply]
  show V m c main_arg5 _ = _
  rw [V_main_arg5]
  congr 1
  exact ext2 (by show win0_6.index t 0 * 1 + 1 * r.val = r.val; rw [(index6 t).1]; omega) (by show win0_6.index t 1 * 1024 + 1 * k.val = k.val; rw [(index6 t).2]; omega)

/-- A block's sum. -/
theorem sum_written (t : Fin cfg0.N) (r : Fin 512) (q : Fin 1024) (h0 : 512 * t.val + r.val < 4096) :
    (k0_pay3 (iblk m c 4 t) (iblk m c 0 t) (iblk m c 2 t) (iblk m c 1 t) (iblk m c 3 t) : FVec Ideal S512x1024 .f32) (ix2 r q) = total m c (ix2 ⟨512 * t.val + r.val, h0⟩ q) := by
  rw [pay3_apply]
  refine (add_assoc _ _ _).trans ?_
  refine congr (congrArg HAdd.hAdd (congrArg (fun z => (Ideal.ofBits .f32 0x3FB504F3#32 : EReal) * z) (iblk4 m c t r q h0))) ?_
  refine Eq.trans ?_ (halves _).symm
  refine congr (congrArg HAdd.hAdd (Finset.sum_congr rfl fun k _ => ?_)) (Finset.sum_congr rfl fun k _ => ?_)
  · rw [iblk0 m c t r k h0, iblk2]
    exact congrArg (fun z => z * _) (joined_left _ _ _ k _).symm
  · rw [iblk1 m c t r k h0, iblk3]
    exact congrArg (fun z => z * _) (joined_right _ _ _ k _).symm

/-- A block's normalised rows. -/
theorem norm_written (t : Fin cfg0.N) (r : Fin 512) (q : Fin 1024) (h0 : 512 * t.val + r.val < 4096) :
    (k0_pay4 (iblk m c 4 t) (iblk m c 0 t) (iblk m c 2 t) (iblk m c 1 t) (iblk m c 3 t) (iblk m c 5 t) (iblk m c 6 t) : FVec Ideal S512x1024 .f32) (ix2 r q)
      = output m c (ix2 ⟨512 * t.val + r.val, h0⟩ q) := by
  rw [pay4_apply, iblk5, iblk6, funext fun k => sum_written m c t r k h0]
  rfl

/-- What a point writes of each result. -/
theorem written7 (t : Fin cfg0.N) (r : Fin 512) (q : Fin 1024) (h0 : 512 * t.val + r.val < 4096) :
    out0_7 (iblk m c 0 t) (iblk m c 1 t) (iblk m c 2 t) (iblk m c 3 t) (iblk m c 4 t) (iblk m c 5 t) (iblk m c 6 t) (ix2 r q) = output m c (ix2 ⟨512 * t.val + r.val, h0⟩ q) := by
  rw [block7, norm_written m c t r q h0]

theorem written8 (t : Fin cfg0.N) (r : Fin 512) (q : Fin 1024) (h0 : 512 * t.val + r.val < 4096) :
    out0_8 (iblk m c 0 t) (iblk m c 1 t) (iblk m c 2 t) (iblk m c 3 t) (iblk m c 4 t) (iblk m c 5 t) (iblk m c 6 t) (ix2 r q) = output m c (ix2 ⟨512 * t.val + r.val, h0⟩ q) := by
  rw [block8, pay1_apply, norm_written m c t r q h0]

theorem written9 (t : Fin cfg0.N) (r : Fin 512) (q : Fin 1024) (h0 : 512 * t.val + r.val < 4096) :
    out0_9 (iblk m c 0 t) (iblk m c 1 t) (iblk m c 2 t) (iblk m c 3 t) (iblk m c 4 t) (iblk m c 5 t) (iblk m c 6 t) (ix2 q r) = turned (output m c) (ix2 q ⟨512 * t.val + r.val, h0⟩) := by
  rw [block9, pay2_apply, norm_written m c t r q h0]
  rfl

theorem written10 (t : Fin cfg0.N) (r : Fin 512) (q : Fin 1024) (h0 : 512 * t.val + r.val < 4096) :
    out0_10 (iblk m c 0 t) (iblk m c 1 t) (iblk m c 2 t) (iblk m c 3 t) (iblk m c 4 t) (iblk m c 5 t) (iblk m c 6 t) (ix2 r q) = total m c (ix2 ⟨512 * t.val + r.val, h0⟩ q) := by
  rw [block10, sum_written m c t r q h0]

/-- The normalised rows. -/
theorem result7 : (dats m 0 c).arrAt 7 cfg0.N = output m c :=
  (dats m 0 c).arrAt_eq_of_cover 7 (output m c) (fun t hf => by
    have hN : t.val < 8 := lt_of_lt_of_eq t.isLt N_0
    rw [Value.flushed7]
    funext y
    obtain ⟨r, q, rfl⟩ : ∃ (r : Fin 512) (q : Fin 1024), y = ix2 r q := pairs y
    refine Eq.trans (show _ = (out0_7 (iblk m c 0 t) (iblk m c 1 t) (iblk m c 2 t) (iblk m c 3 t) (iblk m c 4 t) (iblk m c 5 t) (iblk m c 6 t)) (ix2 r q) from rfl) ?_
    rw [written7 m c t r q (by omega), View.read_apply]
    show output m c (ix2 ⟨512 * t.val + r.val, by omega⟩ q) = output m c _
    congr 1
    exact ext2 (by show 512 * t.val + r.val = win0_7.index t 0 * 512 + 1 * r.val; rw [(index7 t).1]; omega) (by show q.val = win0_7.index t 1 * 1024 + 1 * q.val; rw [(index7 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_7 t, ?_⟩
    show i ∈ ((View.whole main_v0_0).slice (win0_7.rect t)).set
    rw [View.set_slice_whole, Rect.mem_set_unit]
    intro a
    match a with
    | ⟨0, _⟩ =>
      show win0_7.index t 0 * 512 ≤ (i 0).val ∧ (i 0).val < win0_7.index t 0 * 512 + 512
      rw [(index7 t).1]; omega
    | ⟨1, _⟩ =>
      show win0_7.index t 1 * 1024 ≤ (i 1).val ∧ (i 1).val < win0_7.index t 1 * 1024 + 1024
      rw [(index7 t).2]; omega

/-- The same in the narrower format. -/
theorem result8 : (dats m 0 c).arrAt 8 cfg0.N = output m c :=
  (dats m 0 c).arrAt_eq_of_cover 8 (output m c) (fun t hf => by
    have hN : t.val < 8 := lt_of_lt_of_eq t.isLt N_0
    rw [Value.flushed8]
    funext y
    obtain ⟨r, q, rfl⟩ : ∃ (r : Fin 512) (q : Fin 1024), y = ix2 r q := pairs y
    refine Eq.trans (show _ = (out0_8 (iblk m c 0 t) (iblk m c 1 t) (iblk m c 2 t) (iblk m c 3 t) (iblk m c 4 t) (iblk m c 5 t) (iblk m c 6 t)) (ix2 r q) from rfl) ?_
    rw [written8 m c t r q (by omega), View.read_apply]
    show output m c (ix2 ⟨512 * t.val + r.val, by omega⟩ q) = output m c _
    congr 1
    exact ext2 (by show 512 * t.val + r.val = win0_8.index t 0 * 512 + 1 * r.val; rw [(index8 t).1]; omega) (by show q.val = win0_8.index t 1 * 1024 + 1 * q.val; rw [(index8 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_8 t, ?_⟩
    show i ∈ ((View.whole main_v0_1).slice (win0_8.rect t)).set
    rw [View.set_slice_whole, Rect.mem_set_unit]
    intro a
    match a with
    | ⟨0, _⟩ =>
      show win0_8.index t 0 * 512 ≤ (i 0).val ∧ (i 0).val < win0_8.index t 0 * 512 + 512
      rw [(index8 t).1]; omega
    | ⟨1, _⟩ =>
      show win0_8.index t 1 * 1024 ≤ (i 1).val ∧ (i 1).val < win0_8.index t 1 * 1024 + 1024
      rw [(index8 t).2]; omega

/-- The same with rows and columns exchanged. -/
theorem result9 : (dats m 0 c).arrAt 9 cfg0.N = turned (output m c) :=
  (dats m 0 c).arrAt_eq_of_cover 9 (turned (output m c)) (fun t hf => by
    have hN : t.val < 8 := lt_of_lt_of_eq t.isLt N_0
    rw [Value.flushed9]
    funext y
    obtain ⟨r, q, rfl⟩ : ∃ (r : Fin 1024) (q : Fin 512), y = ix2 r q := pairs y
    refine Eq.trans (show _ = (out0_9 (iblk m c 0 t) (iblk m c 1 t) (iblk m c 2 t) (iblk m c 3 t) (iblk m c 4 t) (iblk m c 5 t) (iblk m c 6 t)) (ix2 r q) from rfl) ?_
    rw [written9 m c t q r (by omega), View.read_apply]
    show turned (output m c) (ix2 r ⟨512 * t.val + q.val, by omega⟩) = turned (output m c) _
    congr 1
    exact ext2 (by show r.val = win0_9.index t 0 * 1024 + 1 * r.val; rw [(index9 t).1]; omega) (by show 512 * t.val + q.val = win0_9.index t 1 * 512 + 1 * q.val; rw [(index9 t).2]; omega)) fun i => by
    have h0 : (i 0).val < 1024 := (i 0).isLt
    have h1 : (i 1).val < 4096 := (i 1).isLt
    have ht : (i 1).val / 512 < cfg0.N := by rw [show cfg0.N = 8 from N_0]; omega
    obtain ⟨t, e⟩ : ∃ t : Fin cfg0.N, t.val = (i 1).val / 512 := ⟨⟨_, ht⟩, rfl⟩
    refine ⟨t, flush0_9 t, ?_⟩
    show i ∈ ((View.whole main_v0_2).slice (win0_9.rect t)).set
    rw [View.set_slice_whole, Rect.mem_set_unit]
    intro a
    match a with
    | ⟨0, _⟩ =>
      show win0_9.index t 0 * 1024 ≤ (i 0).val ∧ (i 0).val < win0_9.index t 0 * 1024 + 1024
      rw [(index9 t).1]; omega
    | ⟨1, _⟩ =>
      show win0_9.index t 1 * 512 ≤ (i 1).val ∧ (i 1).val < win0_9.index t 1 * 512 + 512
      rw [(index9 t).2]; omega

/-- The sum. -/
theorem result10 : (dats m 0 c).arrAt 10 cfg0.N = total m c :=
  (dats m 0 c).arrAt_eq_of_cover 10 (total m c) (fun t hf => by
    have hN : t.val < 8 := lt_of_lt_of_eq t.isLt N_0
    rw [Value.flushed10]
    funext y
    obtain ⟨r, q, rfl⟩ : ∃ (r : Fin 512) (q : Fin 1024), y = ix2 r q := pairs y
    refine Eq.trans (show _ = (out0_10 (iblk m c 0 t) (iblk m c 1 t) (iblk m c 2 t) (iblk m c 3 t) (iblk m c 4 t) (iblk m c 5 t) (iblk m c 6 t)) (ix2 r q) from rfl) ?_
    rw [written10 m c t r q (by omega), View.read_apply]
    show total m c (ix2 ⟨512 * t.val + r.val, by omega⟩ q) = total m c _
    congr 1
    exact ext2 (by show 512 * t.val + r.val = win0_10.index t 0 * 512 + 1 * r.val; rw [(index10 t).1]; omega) (by show q.val = win0_10.index t 1 * 1024 + 1 * q.val; rw [(index10 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_10 t, ?_⟩
    show i ∈ ((View.whole main_v0_3).slice (win0_10.rect t)).set
    rw [View.set_slice_whole, Rect.mem_set_unit]
    intro a
    match a with
    | ⟨0, _⟩ =>
      show win0_10.index t 0 * 512 ≤ (i 0).val ∧ (i 0).val < win0_10.index t 0 * 512 + 512
      rw [(index10 t).1]; omega
    | ⟨1, _⟩ =>
      show win0_10.index t 1 * 1024 ≤ (i 1).val ∧ (i 1).val < win0_10.index t 1 * 1024 + 1024
      rw [(index10 t).2]; omega

end Cert.MixOutIdeal.Sums
-- ==== Proof.Layers.MixOutReference.lean ====
/-
  The reference's results are those the kernel computes.
-/
module

public import proofs.«01_k».proof.Defs
public import proofs.«01_k».proof.Proof.Layers.MixOut
public import proofs.«01_k».proof.Proof.Gen.MixOutIdeal
public import proofs.«01_k».proof.Proof.Gen.MixOutRefIdeal
public import proofs.«01_k».proof.Proof.Gen.MixOutRefIdeal.Run
public import proofs.«01_k».proof.Proof.Gen.MixOutRefIdeal.Read
public import Idealize.ShloMosaic.Adequacy

@[expose] public section

set_option maxRecDepth 16384

noncomputable section

namespace Cert.MixOutRefIdeal.Sums

open Idealize.ShloMosaic Idealize.SL.Sem Cert.Layers Cert.MixOutIdeal.Sums

theorem pair (i : (⟨2, ![4096, 1024]⟩ : Shape).Idx) : ∃ (r : Fin 4096) (q : Fin 1024), i = ix2 r q := ⟨i 0, i 1, funext fun a => match a with
  | ⟨0, _⟩ => rfl
  | ⟨1, _⟩ => rfl⟩

theorem joined_value (x0 x1 : Arr 4096 512) : Read.val_main_v0 (F := Ideal) x0 x1 = joined x0 x1 := by
  funext i
  obtain ⟨r, q, rfl⟩ := pair i
  pointwise [Read.val_main_v0]
  rfl

theorem sum_apply (x0 x1 : Arr 4096 512) (x2 : Arr 1024 1024) (x3 : Arr 4096 1024) (r : Fin 4096) (q : Fin 1024) : Read.val_main_v6 (F := Ideal) x0 x1 x2 x3 (ix2 r q)
    = (Ideal.ofBits .f32 0x3FB504F3#32 : EReal) * x3 (ix2 r q) + ∑ k : Fin 1024, Read.val_main_v0 (F := Ideal) x0 x1 (ix2 r k) * x2 (ix2 k q) := by
  pointwise [Read.val_main_v6, Read.val_main_v5, Read.val_main_v4, Read.val_main_v3, Read.val_main_v2, Read.val_main_v1, Read.val_main_cst]

/-- The reference's sum. -/
theorem sum_value (x0 x1 : Arr 4096 512) (x2 : Arr 1024 1024) (x3 : Arr 4096 1024) : Read.val_main_v6 (F := Ideal) x0 x1 x2 x3 = summed (joined x0 x1) x2 x3 := by
  funext i
  obtain ⟨r, q, rfl⟩ := pair i
  rw [sum_apply, joined_value]
  rfl

theorem norm_apply (x0 x1 : Arr 4096 512) (x2 : Arr 1024 1024) (x3 : Arr 4096 1024) (x4 x5 : Arr 1 1024) (r : Fin 4096) (q : Fin 1024) : Read.val_main_v32 (F := Ideal) x0 x1 x2 x3 x4 x5 (ix2 r q)
    = normed (fun k => Read.val_main_v6 (F := Ideal) x0 x1 x2 x3 (ix2 r k)) (x4 (ix2 0 q)) (x5 (ix2 0 q)) q := by
  pointwise [Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_cst_0, Read.val_main_cst_1, Read.val_main_cst_2, Read.val_main_cst_3, Read.val_main_cst_4]
  rfl

/-- The reference's normalised rows. -/
theorem norm_value (x0 x1 : Arr 4096 512) (x2 : Arr 1024 1024) (x3 : Arr 4096 1024) (x4 x5 : Arr 1 1024) : Read.val_main_v32 (F := Ideal) x0 x1 x2 x3 x4 x5 = normedRows (summed (joined x0 x1) x2 x3) x4 x5 := by
  funext i
  obtain ⟨r, q, rfl⟩ := pair i
  rw [norm_apply, sum_value]
  rfl

/-- The same in the narrower format. -/
theorem narrow_value (x0 x1 : Arr 4096 512) (x2 : Arr 1024 1024) (x3 : Arr 4096 1024) (x4 x5 : Arr 1 1024) : Read.val_main_v33 (F := Ideal) x0 x1 x2 x3 x4 x5 = normedRows (summed (joined x0 x1) x2 x3) x4 x5 := by
  rw [← norm_value]
  funext i
  obtain ⟨r, q, rfl⟩ := pair i
  pointwise [Read.val_main_v33]

/-- The same with rows and columns exchanged. -/
theorem turned_value (x0 x1 : Arr 4096 512) (x2 : Arr 1024 1024) (x3 : Arr 4096 1024) (x4 x5 : Arr 1 1024) : Read.val_main_v35 (F := Ideal) x0 x1 x2 x3 x4 x5 = turned (normedRows (summed (joined x0 x1) x2 x3) x4 x5) := by
  rw [← norm_value]
  funext i
  obtain ⟨q, r, rfl⟩ : ∃ (q : Fin 1024) (r : Fin 4096), i = ix2 q r := pairs i
  pointwise [Read.val_main_v35, Read.val_main_v34]
  rfl

/-- The reference ends with its arguments unchanged and, having no semaphore, with every counter at zero. -/
theorem frame : Cert.quiescent_MixOutRefIdeal (hMixOutRefIdeal := Gen.facts) := fun m ρ _ =>
  (θ_run Cert.MixOutRefIdeal.defs _ _).mono (fun r h => ⟨fun c => (h c).2.2.2.2, sem_eq_zero_of_no_sems (by decide) r.2⟩) (Value.run m ρ)

/-- From arrays that agree, the results are one. -/
theorem agreeing (a0 a1 : Arr 4096 512) (a2 : Arr 1024 1024) (a3 : Arr 4096 1024) (a4 a5 : Arr 1 1024) (b0 b1 : Arr 4096 512) (b2 : Arr 1024 1024) (b3 : Arr 4096 1024) (b4 b5 : Arr 1 1024)
    (e : b0 = a0 ∧ b1 = a1 ∧ b2 = a2 ∧ b3 = a3 ∧ b4 = a4 ∧ b5 = a5) :
    Read.val_main_v32 (F := Ideal) b0 b1 b2 b3 b4 b5 = normedRows (summed (joined a0 a1) a2 a3) a4 a5
      ∧ Read.val_main_v33 (F := Ideal) b0 b1 b2 b3 b4 b5 = normedRows (summed (joined a0 a1) a2 a3) a4 a5
      ∧ Read.val_main_v35 (F := Ideal) b0 b1 b2 b3 b4 b5 = turned (normedRows (summed (joined a0 a1) a2 a3) a4 a5)
      ∧ Read.val_main_v6 (F := Ideal) b0 b1 b2 b3 = summed (joined a0 a1) a2 a3 := by
  obtain ⟨e0, e1, e2, e3, e4, e5⟩ := e
  subst e0 e1 e2 e3 e4 e5
  exact ⟨norm_value _ _ _ _ _ _, narrow_value _ _ _ _ _ _, turned_value _ _ _ _ _ _, sum_value _ _ _ _⟩

/-- The kernel's results are the reference's. -/
theorem equation : Cert.algebraic_MixOutIdeal_MixOutRefIdeal (hMixOutIdeal := Cert.MixOutIdeal.Gen.facts) (hMixOutRefIdeal := Gen.facts) := by
  intro m ρ m' ρ' _ agree
  refine ⟨fun c => (Cert.MixOutIdeal.Gen.dats m 0 c).arrAt 7 Cert.MixOutIdeal.cfg0.N, fun c => (Cert.MixOutIdeal.Gen.dats m 0 c).arrAt 8 Cert.MixOutIdeal.cfg0.N,
    fun c => (Cert.MixOutIdeal.Gen.dats m 0 c).arrAt 9 Cert.MixOutIdeal.cfg0.N, fun c => (Cert.MixOutIdeal.Gen.dats m 0 c).arrAt 10 Cert.MixOutIdeal.cfg0.N,
    Cert.MixOutIdeal.Value.run_blocks m ρ, ?_⟩
  refine (θ_run Cert.MixOutRefIdeal.defs _ _).mono (fun r h c => ?_) (Value.run m' ρ')
  have e := agreeing _ _ _ _ _ _ _ _ _ _ _ _ (agree c)
  obtain ⟨h0, h1, h2, h3, hargs⟩ := h c
  exact ⟨((h0.trans (Read.val_main_v32_eq _ _)).trans e.1).trans (Cert.MixOutIdeal.Sums.result7 m c).symm,
    ((h1.trans (Read.val_main_v33_eq _ _)).trans e.2.1).trans (Cert.MixOutIdeal.Sums.result8 m c).symm,
    ((h2.trans (Read.val_main_v35_eq _ _)).trans e.2.2.1).trans (Cert.MixOutIdeal.Sums.result9 m c).symm,
    ((h3.trans (Read.val_main_v6_eq _ _ _ _)).trans e.2.2.2).trans (Cert.MixOutIdeal.Sums.result10 m c).symm, hargs⟩

end Cert.MixOutRefIdeal.Sums
-- ==== Proof.Layers.XaOut.lean ====
/-
  The attention's output layer: the scaled residual and the product by the output weight, a block of rows at a time, and each row normalised.
-/
module

public import proofs.«01_k».proof.Proof.Layers.Norm
public import proofs.«01_k».proof.Proof.Gen.XaOutIdeal.Value

@[expose] public section

set_option maxRecDepth 16384

noncomputable section

namespace Cert.XaOutIdeal.Sums

open Idealize.ShloMosaic Idealize.ShloMosaic.TcCoe
open Cert.XaOutIdeal Cert.XaOutIdeal.Gen Cert.Layers

theorem origin : (![0, 0] : Fin 2 → Nat) = fun _ => 0 := funext fun a => by fin_cases a <;> rfl

theorem pay1_apply (x0 : Vec Ideal S512x1024 .bf16) (x1 : Vec Ideal S1024x1024 .bf16) (x2 : Vec Ideal S512x1024 .f32) (r : Fin 512) (q : Fin 1024) :
    (k0_pay1 x2 x0 x1 : FVec Ideal S512x1024 .f32) (ix2 r q) = (Ideal.ofBits .f32 0x3FB504F3#32 : EReal) * x2 (ix2 r q) + ∑ k : Fin 1024, x0 (ix2 r k) * x1 (ix2 k q) := by
  pointwise [k0_pay1]

/-- The second result is the first's rows normalised. -/
theorem pay2_apply (x0 : Vec Ideal S512x1024 .bf16) (x1 : Vec Ideal S1024x1024 .bf16) (x2 : Vec Ideal S512x1024 .f32) (x3 x4 : Vec Ideal S1x1024 .f32) (r : Fin 512) (q : Fin 1024) :
    (k0_pay2 x2 x0 x1 x3 x4 : FVec Ideal S512x1024 .f32) (ix2 r q)
      = normed (fun k => (k0_pay1 x2 x0 x1 : FVec Ideal S512x1024 .f32) (ix2 r k)) (x3 (ix2 0 q)) (x4 (ix2 0 q)) q := by
  unfold k0_pay2
  generalize (k0_pay1 x2 x0 x1 : FVec Ideal S512x1024 .f32) = y
  pointwise
  rfl

theorem pay3_apply (x0 : Vec Ideal S512x1024 .bf16) (x1 : Vec Ideal S1024x1024 .bf16) (x2 : Vec Ideal S512x1024 .f32) (x3 x4 : Vec Ideal S1x1024 .f32) (r : Fin 512) (q : Fin 1024) :
    (k0_pay3 x2 x0 x1 x3 x4 : FVec Ideal S512x1024 .bf16) (ix2 r q) = (k0_pay2 x2 x0 x1 x3 x4 : FVec Ideal S512x1024 .f32) (ix2 r q) := by
  pointwise [k0_pay3]

theorem pay4_apply (x0 : Vec Ideal S512x1024 .bf16) (x1 : Vec Ideal S1024x1024 .bf16) (x2 : Vec Ideal S512x1024 .f32) (x3 x4 : Vec Ideal S1x1024 .f32) (r : Fin 512) (q : Fin 1024) :
    (k0_pay4 x2 x0 x1 x3 x4 : FVec Ideal S1024x512 .bf16) (ix2 q r) = (k0_pay2 x2 x0 x1 x3 x4 : FVec Ideal S512x1024 .f32) (ix2 r q) := by
  pointwise [k0_pay4, k0_pay3]

theorem block5 (x0 : Vec Ideal S512x1024 .bf16) (x1 : Vec Ideal S1024x1024 .bf16) (x2 : Vec Ideal S512x1024 .f32) (x3 x4 : Vec Ideal S1x1024 .f32) : out0_5 x0 x1 x2 x3 x4 = k0_pay2 x2 x0 x1 x3 x4 := by
  unfold out0_5
  rw [View.canon_unit_zero origin]
  simp only [View.ld_unit_zero (S := S512x1024) origin, View.ld_unit_zero (S := S1024x1024) origin, View.ld_unit_zero (S := S1x1024) origin]

theorem block6 (x0 : Vec Ideal S512x1024 .bf16) (x1 : Vec Ideal S1024x1024 .bf16) (x2 : Vec Ideal S512x1024 .f32) (x3 x4 : Vec Ideal S1x1024 .f32) : out0_6 x0 x1 x2 x3 x4 = k0_pay3 x2 x0 x1 x3 x4 := by
  unfold out0_6
  rw [View.canon_unit_zero origin]
  simp only [View.ld_unit_zero (S := S512x1024) origin, View.ld_unit_zero (S := S1024x1024) origin, View.ld_unit_zero (S := S1x1024) origin]

theorem block7 (x0 : Vec Ideal S512x1024 .bf16) (x1 : Vec Ideal S1024x1024 .bf16) (x2 : Vec Ideal S512x1024 .f32) (x3 x4 : Vec Ideal S1x1024 .f32) : out0_7 x0 x1 x2 x3 x4 = k0_pay4 x2 x0 x1 x3 x4 := by
  unfold out0_7
  rw [View.canon_unit_zero origin]
  simp only [View.ld_unit_zero (S := S512x1024) origin, View.ld_unit_zero (S := S1024x1024) origin, View.ld_unit_zero (S := S1x1024) origin]

theorem block8 (x0 : Vec Ideal S512x1024 .bf16) (x1 : Vec Ideal S1024x1024 .bf16) (x2 : Vec Ideal S512x1024 .f32) (x3 x4 : Vec Ideal S1x1024 .f32) : out0_8 x0 x1 x2 x3 x4 = k0_pay1 x2 x0 x1 := by
  unfold out0_8
  rw [View.canon_unit_zero origin]
  simp only [View.ld_unit_zero (S := S512x1024) origin, View.ld_unit_zero (S := S1024x1024) origin, View.ld_unit_zero (S := S1x1024) origin]

variable (m : (ℓ : Loc nD τ sig) → Buf (Elt Ideal) ℓ) (c : Dev nD)

/-- The five arrays. -/
abbrev heads (c : Dev nD) : Arr 4096 1024 := m ((c : Thread nD τ).loc main_arg0)
abbrev weight (c : Dev nD) : Arr 1024 1024 := m ((c : Thread nD τ).loc main_arg1)
abbrev resid (c : Dev nD) : Arr 4096 1024 := m ((c : Thread nD τ).loc main_arg2)
abbrev scale (c : Dev nD) : Arr 1 1024 := m ((c : Thread nD τ).loc main_arg3)
abbrev shift (c : Dev nD) : Arr 1 1024 := m ((c : Thread nD τ).loc main_arg4)

/-- The sum and the normalised rows. -/
abbrev total (c : Dev nD) : Arr 4096 1024 := summed (heads m c) (weight m c) (resid m c)
abbrev output (c : Dev nD) : Arr 4096 1024 := normedRows (total m c) (scale m c) (shift m c)

theorem index0 : ∀ t : Fin cfg0.N, win0_0.index t 0 = t.val ∧ win0_0.index t 1 = 0 := by decide +kernel
theorem index2 : ∀ t : Fin cfg0.N, win0_2.index t 0 = t.val ∧ win0_2.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index8 : ∀ t : Fin cfg0.N, win0_8.index t 0 = t.val ∧ win0_8.index t 1 = 0 := by decide +kernel
theorem index1 : ∀ t : Fin cfg0.N, win0_1.index t 0 = 0 ∧ win0_1.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index7 : ∀ t : Fin cfg0.N, win0_7.index t 0 = 0 ∧ win0_7.index t 1 = t.val := by decide +kernel

/-- A block of rows. -/
theorem iblk0 (t : Fin cfg0.N) (r : Fin 512) (k : Fin 1024) (h0 : 512 * t.val + r.val < 4096) :
    (iblk m c 0 t : Vec Ideal S512x1024 .bf16) (ix2 r k) = heads m c (ix2 ⟨512 * t.val + r.val, h0⟩ k) := by
  unfold iblk
  rw [View.read_apply]
  show V m c main_arg0 _ = _
  rw [V_main_arg0]
  congr 1
  exact ext2 (by show win0_0.index t 0 * 512 + 1 * r.val = 512 * t.val + r.val; rw [(index0 t).1]; omega) (by show win0_0.index t 1 * 1024 + 1 * k.val = k.val; rw [(index0 t).2]; omega)

/-- The weight. -/
theorem iblk1 (t : Fin cfg0.N) (r : Fin 1024) (k : Fin 1024) :
    (iblk m c 1 t : Vec Ideal S1024x1024 .bf16) (ix2 r k) = weight m c (ix2 r k) := by
  unfold iblk
  rw [View.read_apply]
  show V m c main_arg1 _ = _
  rw [V_main_arg1]
  congr 1
  exact ext2 (by show win0_1.index t 0 * 1024 + 1 * r.val = r.val; rw [(index1 t).1]; omega) (by show win0_1.index t 1 * 1024 + 1 * k.val = k.val; rw [(index1 t).2]; omega)

/-- A block of rows of the residual. -/
theorem iblk2 (t : Fin cfg0.N) (r : Fin 512) (k : Fin 1024) (h0 : 512 * t.val + r.val < 4096) :
    (iblk m c 2 t : Vec Ideal S512x1024 .f32) (ix2 r k) = resid m c (ix2 ⟨512 * t.val + r.val, h0⟩ k) := by
  unfold iblk
  rw [View.read_apply]
  show V m c main_arg2 _ = _
  rw [V_main_arg2]
  congr 1
  exact ext2 (by show win0_2.index t 0 * 512 + 1 * r.val = 512 * t.val + r.val; rw [(index2 t).1]; omega) (by show win0_2.index t 1 * 1024 + 1 * k.val = k.val; rw [(index2 t).2]; omega)

/-- The scale. -/
theorem iblk3 (t : Fin cfg0.N) (r : Fin 1) (k : Fin 1024) :
    (iblk m c 3 t : Vec Ideal S1x1024 .f32) (ix2 r k) = scale m c (ix2 r k) := by
  unfold iblk
  rw [View.read_apply]
  show V m c main_arg3 _ = _
  rw [V_main_arg3]
  congr 1
  exact ext2 (by show win0_3.index t 0 * 1 + 1 * r.val = r.val; rw [(index3 t).1]; omega) (by show win0_3.index t 1 * 1024 + 1 * k.val = k.val; rw [(index3 t).2]; omega)

/-- The shift. -/
theorem iblk4 (t : Fin cfg0.N) (r : Fin 1) (k : Fin 1024) :
    (iblk m c 4 t : Vec Ideal S1x1024 .f32) (ix2 r k) = shift m c (ix2 r k) := by
  unfold iblk
  rw [View.read_apply]
  show V m c main_arg4 _ = _
  rw [V_main_arg4]
  congr 1
  exact ext2 (by show win0_4.index t 0 * 1 + 1 * r.val = r.val; rw [(index4 t).1]; omega) (by show win0_4.index t 1 * 1024 + 1 * k.val = k.val; rw [(index4 t).2]; omega)

/-- A block's sum. -/
theorem sum_written (t : Fin cfg0.N) (r : Fin 512) (q : Fin 1024) (h0 : 512 * t.val + r.val < 4096) :
    (k0_pay1 (iblk m c 2 t) (iblk m c 0 t) (iblk m c 1 t) : FVec Ideal S512x1024 .f32) (ix2 r q) = total m c (ix2 ⟨512 * t.val + r.val, h0⟩ q) := by
  rw [pay1_apply]
  refine congr (congrArg HAdd.hAdd (congrArg (fun z => (Ideal.ofBits .f32 0x3FB504F3#32 : EReal) * z) (iblk2 m c t r q h0))) (Finset.sum_congr rfl fun k _ => ?_)
  rw [iblk0 m c t r k h0, iblk1]
  rfl

/-- A block's normalised rows. -/
theorem norm_written (t : Fin cfg0.N) (r : Fin 512) (q : Fin 1024) (h0 : 512 * t.val + r.val < 4096) :
    (k0_pay2 (iblk m c 2 t) (iblk m c 0 t) (iblk m c 1 t) (iblk m c 3 t) (iblk m c 4 t) : FVec Ideal S512x1024 .f32) (ix2 r q)
      = output m c (ix2 ⟨512 * t.val + r.val, h0⟩ q) := by
  rw [pay2_apply, iblk3, iblk4, funext fun k => sum_written m c t r k h0]
  rfl

/-- What a point writes of each result. -/
theorem written5 (t : Fin cfg0.N) (r : Fin 512) (q : Fin 1024) (h0 : 512 * t.val + r.val < 4096) :
    out0_5 (iblk m c 0 t) (iblk m c 1 t) (iblk m c 2 t) (iblk m c 3 t) (iblk m c 4 t) (ix2 r q) = output m c (ix2 ⟨512 * t.val + r.val, h0⟩ q) := by
  rw [block5, norm_written m c t r q h0]

theorem written6 (t : Fin cfg0.N) (r : Fin 512) (q : Fin 1024) (h0 : 512 * t.val + r.val < 4096) :
    out0_6 (iblk m c 0 t) (iblk m c 1 t) (iblk m c 2 t) (iblk m c 3 t) (iblk m c 4 t) (ix2 r q) = output m c (ix2 ⟨512 * t.val + r.val, h0⟩ q) := by
  rw [block6, pay3_apply, norm_written m c t r q h0]

theorem written7 (t : Fin cfg0.N) (r : Fin 512) (q : Fin 1024) (h0 : 512 * t.val + r.val < 4096) :
    out0_7 (iblk m c 0 t) (iblk m c 1 t) (iblk m c 2 t) (iblk m c 3 t) (iblk m c 4 t) (ix2 q r) = turned (output m c) (ix2 q ⟨512 * t.val + r.val, h0⟩) := by
  rw [block7, pay4_apply, norm_written m c t r q h0]
  rfl

theorem written8 (t : Fin cfg0.N) (r : Fin 512) (q : Fin 1024) (h0 : 512 * t.val + r.val < 4096) :
    out0_8 (iblk m c 0 t) (iblk m c 1 t) (iblk m c 2 t) (iblk m c 3 t) (iblk m c 4 t) (ix2 r q) = total m c (ix2 ⟨512 * t.val + r.val, h0⟩ q) := by
  rw [block8, sum_written m c t r q h0]

/-- The normalised rows. -/
theorem result5 : (dats m 0 c).arrAt 5 cfg0.N = output m c :=
  (dats m 0 c).arrAt_eq_of_cover 5 (output m c) (fun t hf => by
    have hN : t.val < 8 := lt_of_lt_of_eq t.isLt N_0
    rw [Value.flushed5]
    funext y
    obtain ⟨r, q, rfl⟩ : ∃ (r : Fin 512) (q : Fin 1024), y = ix2 r q := pairs y
    refine Eq.trans (show _ = (out0_5 (iblk m c 0 t) (iblk m c 1 t) (iblk m c 2 t) (iblk m c 3 t) (iblk m c 4 t)) (ix2 r q) from rfl) ?_
    rw [written5 m c t r q (by omega), View.read_apply]
    show output m c (ix2 ⟨512 * t.val + r.val, by omega⟩ q) = output m c _
    congr 1
    exact ext2 (by show 512 * t.val + r.val = win0_5.index t 0 * 512 + 1 * r.val; rw [(index5 t).1]; omega) (by show q.val = win0_5.index t 1 * 1024 + 1 * q.val; rw [(index5 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_5 t, ?_⟩
    show i ∈ ((View.whole main_v0_0).slice (win0_5.rect t)).set
    rw [View.set_slice_whole, Rect.mem_set_unit]
    intro a
    match a with
    | ⟨0, _⟩ =>
      show win0_5.index t 0 * 512 ≤ (i 0).val ∧ (i 0).val < win0_5.index t 0 * 512 + 512
      rw [(index5 t).1]; omega
    | ⟨1, _⟩ =>
      show win0_5.index t 1 * 1024 ≤ (i 1).val ∧ (i 1).val < win0_5.index t 1 * 1024 + 1024
      rw [(index5 t).2]; omega

/-- The same in the narrower format. -/
theorem result6 : (dats m 0 c).arrAt 6 cfg0.N = output m c :=
  (dats m 0 c).arrAt_eq_of_cover 6 (output m c) (fun t hf => by
    have hN : t.val < 8 := lt_of_lt_of_eq t.isLt N_0
    rw [Value.flushed6]
    funext y
    obtain ⟨r, q, rfl⟩ : ∃ (r : Fin 512) (q : Fin 1024), y = ix2 r q := pairs y
    refine Eq.trans (show _ = (out0_6 (iblk m c 0 t) (iblk m c 1 t) (iblk m c 2 t) (iblk m c 3 t) (iblk m c 4 t)) (ix2 r q) from rfl) ?_
    rw [written6 m c t r q (by omega), View.read_apply]
    show output m c (ix2 ⟨512 * t.val + r.val, by omega⟩ q) = output m c _
    congr 1
    exact ext2 (by show 512 * t.val + r.val = win0_6.index t 0 * 512 + 1 * r.val; rw [(index6 t).1]; omega) (by show q.val = win0_6.index t 1 * 1024 + 1 * q.val; rw [(index6 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_6 t, ?_⟩
    show i ∈ ((View.whole main_v0_1).slice (win0_6.rect t)).set
    rw [View.set_slice_whole, Rect.mem_set_unit]
    intro a
    match a with
    | ⟨0, _⟩ =>
      show win0_6.index t 0 * 512 ≤ (i 0).val ∧ (i 0).val < win0_6.index t 0 * 512 + 512
      rw [(index6 t).1]; omega
    | ⟨1, _⟩ =>
      show win0_6.index t 1 * 1024 ≤ (i 1).val ∧ (i 1).val < win0_6.index t 1 * 1024 + 1024
      rw [(index6 t).2]; omega

/-- The same with rows and columns exchanged. -/
theorem result7 : (dats m 0 c).arrAt 7 cfg0.N = turned (output m c) :=
  (dats m 0 c).arrAt_eq_of_cover 7 (turned (output m c)) (fun t hf => by
    have hN : t.val < 8 := lt_of_lt_of_eq t.isLt N_0
    rw [Value.flushed7]
    funext y
    obtain ⟨r, q, rfl⟩ : ∃ (r : Fin 1024) (q : Fin 512), y = ix2 r q := pairs y
    refine Eq.trans (show _ = (out0_7 (iblk m c 0 t) (iblk m c 1 t) (iblk m c 2 t) (iblk m c 3 t) (iblk m c 4 t)) (ix2 r q) from rfl) ?_
    rw [written7 m c t q r (by omega), View.read_apply]
    show turned (output m c) (ix2 r ⟨512 * t.val + q.val, by omega⟩) = turned (output m c) _
    congr 1
    exact ext2 (by show r.val = win0_7.index t 0 * 1024 + 1 * r.val; rw [(index7 t).1]; omega) (by show 512 * t.val + q.val = win0_7.index t 1 * 512 + 1 * q.val; rw [(index7 t).2]; omega)) fun i => by
    have h0 : (i 0).val < 1024 := (i 0).isLt
    have h1 : (i 1).val < 4096 := (i 1).isLt
    have ht : (i 1).val / 512 < cfg0.N := by rw [show cfg0.N = 8 from N_0]; omega
    obtain ⟨t, e⟩ : ∃ t : Fin cfg0.N, t.val = (i 1).val / 512 := ⟨⟨_, ht⟩, rfl⟩
    refine ⟨t, flush0_7 t, ?_⟩
    show i ∈ ((View.whole main_v0_2).slice (win0_7.rect t)).set
    rw [View.set_slice_whole, Rect.mem_set_unit]
    intro a
    match a with
    | ⟨0, _⟩ =>
      show win0_7.index t 0 * 1024 ≤ (i 0).val ∧ (i 0).val < win0_7.index t 0 * 1024 + 1024
      rw [(index7 t).1]; omega
    | ⟨1, _⟩ =>
      show win0_7.index t 1 * 512 ≤ (i 1).val ∧ (i 1).val < win0_7.index t 1 * 512 + 512
      rw [(index7 t).2]; omega

/-- The sum. -/
theorem result8 : (dats m 0 c).arrAt 8 cfg0.N = total m c :=
  (dats m 0 c).arrAt_eq_of_cover 8 (total m c) (fun t hf => by
    have hN : t.val < 8 := lt_of_lt_of_eq t.isLt N_0
    rw [Value.flushed8]
    funext y
    obtain ⟨r, q, rfl⟩ : ∃ (r : Fin 512) (q : Fin 1024), y = ix2 r q := pairs y
    refine Eq.trans (show _ = (out0_8 (iblk m c 0 t) (iblk m c 1 t) (iblk m c 2 t) (iblk m c 3 t) (iblk m c 4 t)) (ix2 r q) from rfl) ?_
    rw [written8 m c t r q (by omega), View.read_apply]
    show total m c (ix2 ⟨512 * t.val + r.val, by omega⟩ q) = total m c _
    congr 1
    exact ext2 (by show 512 * t.val + r.val = win0_8.index t 0 * 512 + 1 * r.val; rw [(index8 t).1]; omega) (by show q.val = win0_8.index t 1 * 1024 + 1 * q.val; rw [(index8 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_8 t, ?_⟩
    show i ∈ ((View.whole main_v0_3).slice (win0_8.rect t)).set
    rw [View.set_slice_whole, Rect.mem_set_unit]
    intro a
    match a with
    | ⟨0, _⟩ =>
      show win0_8.index t 0 * 512 ≤ (i 0).val ∧ (i 0).val < win0_8.index t 0 * 512 + 512
      rw [(index8 t).1]; omega
    | ⟨1, _⟩ =>
      show win0_8.index t 1 * 1024 ≤ (i 1).val ∧ (i 1).val < win0_8.index t 1 * 1024 + 1024
      rw [(index8 t).2]; omega

end Cert.XaOutIdeal.Sums
-- ==== Proof.Layers.XaOutReference.lean ====
/-
  The reference's results are those the kernel computes.
-/
module

public import proofs.«01_k».proof.Defs
public import proofs.«01_k».proof.Proof.Layers.XaOut
public import proofs.«01_k».proof.Proof.Gen.XaOutIdeal
public import proofs.«01_k».proof.Proof.Gen.XaOutRefIdeal
public import proofs.«01_k».proof.Proof.Gen.XaOutRefIdeal.Run
public import proofs.«01_k».proof.Proof.Gen.XaOutRefIdeal.Read
public import Idealize.ShloMosaic.Adequacy

@[expose] public section

set_option maxRecDepth 16384

noncomputable section

namespace Cert.XaOutRefIdeal.Sums

open Idealize.ShloMosaic Idealize.SL.Sem Cert.Layers

theorem pair (i : (⟨2, ![4096, 1024]⟩ : Shape).Idx) : ∃ (r : Fin 4096) (q : Fin 1024), i = ix2 r q := ⟨i 0, i 1, funext fun a => match a with
  | ⟨0, _⟩ => rfl
  | ⟨1, _⟩ => rfl⟩

theorem sum_apply (x0 : Arr 4096 1024) (x1 : Arr 1024 1024) (x2 : Arr 4096 1024) (r : Fin 4096) (q : Fin 1024) : Read.val_main_v5 (F := Ideal) x0 x1 x2 (ix2 r q)
    = (Ideal.ofBits .f32 0x3FB504F3#32 : EReal) * x2 (ix2 r q) + ∑ k : Fin 1024, x0 (ix2 r k) * x1 (ix2 k q) := by
  pointwise [Read.val_main_v5, Read.val_main_v4, Read.val_main_v3, Read.val_main_v2, Read.val_main_v1, Read.val_main_v0, Read.val_main_cst]

/-- The reference's sum. -/
theorem sum_value (x0 : Arr 4096 1024) (x1 : Arr 1024 1024) (x2 : Arr 4096 1024) : Read.val_main_v5 (F := Ideal) x0 x1 x2 = summed x0 x1 x2 := by
  funext i
  obtain ⟨r, q, rfl⟩ := pair i
  exact sum_apply x0 x1 x2 r q

theorem norm_apply (x0 : Arr 4096 1024) (x1 : Arr 1024 1024) (x2 : Arr 4096 1024) (x3 x4 : Arr 1 1024) (r : Fin 4096) (q : Fin 1024) : Read.val_main_v31 (F := Ideal) x0 x1 x2 x3 x4 (ix2 r q)
    = normed (fun k => Read.val_main_v5 (F := Ideal) x0 x1 x2 (ix2 r k)) (x3 (ix2 0 q)) (x4 (ix2 0 q)) q := by
  pointwise [Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_cst_0, Read.val_main_cst_1, Read.val_main_cst_2, Read.val_main_cst_3, Read.val_main_cst_4]
  rfl

/-- The reference's normalised rows. -/
theorem norm_value (x0 : Arr 4096 1024) (x1 : Arr 1024 1024) (x2 : Arr 4096 1024) (x3 x4 : Arr 1 1024) : Read.val_main_v31 (F := Ideal) x0 x1 x2 x3 x4 = normedRows (summed x0 x1 x2) x3 x4 := by
  funext i
  obtain ⟨r, q, rfl⟩ := pair i
  rw [norm_apply, sum_value]
  rfl

/-- The same in the narrower format. -/
theorem narrow_value (x0 : Arr 4096 1024) (x1 : Arr 1024 1024) (x2 : Arr 4096 1024) (x3 x4 : Arr 1 1024) : Read.val_main_v32 (F := Ideal) x0 x1 x2 x3 x4 = normedRows (summed x0 x1 x2) x3 x4 := by
  rw [← norm_value]
  funext i
  obtain ⟨r, q, rfl⟩ := pair i
  pointwise [Read.val_main_v32]

/-- The same with rows and columns exchanged. -/
theorem turned_value (x0 : Arr 4096 1024) (x1 : Arr 1024 1024) (x2 : Arr 4096 1024) (x3 x4 : Arr 1 1024) : Read.val_main_v34 (F := Ideal) x0 x1 x2 x3 x4 = turned (normedRows (summed x0 x1 x2) x3 x4) := by
  rw [← norm_value]
  funext i
  obtain ⟨q, r, rfl⟩ : ∃ (q : Fin 1024) (r : Fin 4096), i = ix2 q r := pairs i
  pointwise [Read.val_main_v34, Read.val_main_v33]
  rfl

/-- The reference ends with its arguments unchanged and, having no semaphore, with every counter at zero. -/
theorem frame : Cert.quiescent_XaOutRefIdeal (hXaOutRefIdeal := Gen.facts) := fun m ρ _ =>
  (θ_run Cert.XaOutRefIdeal.defs _ _).mono (fun r h => ⟨fun c => (h c).2.2.2.2, sem_eq_zero_of_no_sems (by decide) r.2⟩) (Value.run m ρ)

/-- From arrays that agree, the results are one. -/
theorem agreeing (a0 : Arr 4096 1024) (a1 : Arr 1024 1024) (a2 : Arr 4096 1024) (a3 a4 : Arr 1 1024) (b0 : Arr 4096 1024) (b1 : Arr 1024 1024) (b2 : Arr 4096 1024) (b3 b4 : Arr 1 1024)
    (e : b0 = a0 ∧ b1 = a1 ∧ b2 = a2 ∧ b3 = a3 ∧ b4 = a4) :
    Read.val_main_v31 (F := Ideal) b0 b1 b2 b3 b4 = normedRows (summed a0 a1 a2) a3 a4
      ∧ Read.val_main_v32 (F := Ideal) b0 b1 b2 b3 b4 = normedRows (summed a0 a1 a2) a3 a4
      ∧ Read.val_main_v34 (F := Ideal) b0 b1 b2 b3 b4 = turned (normedRows (summed a0 a1 a2) a3 a4)
      ∧ Read.val_main_v5 (F := Ideal) b0 b1 b2 = summed a0 a1 a2 := by
  obtain ⟨e0, e1, e2, e3, e4⟩ := e
  subst e0 e1 e2 e3 e4
  exact ⟨norm_value _ _ _ _ _, narrow_value _ _ _ _ _, turned_value _ _ _ _ _, sum_value _ _ _⟩

/-- The kernel's results are the reference's. -/
theorem equation : Cert.algebraic_XaOutIdeal_XaOutRefIdeal (hXaOutIdeal := Cert.XaOutIdeal.Gen.facts) (hXaOutRefIdeal := Gen.facts) := by
  intro m ρ m' ρ' _ agree
  refine ⟨fun c => (Cert.XaOutIdeal.Gen.dats m 0 c).arrAt 5 Cert.XaOutIdeal.cfg0.N, fun c => (Cert.XaOutIdeal.Gen.dats m 0 c).arrAt 6 Cert.XaOutIdeal.cfg0.N,
    fun c => (Cert.XaOutIdeal.Gen.dats m 0 c).arrAt 7 Cert.XaOutIdeal.cfg0.N, fun c => (Cert.XaOutIdeal.Gen.dats m 0 c).arrAt 8 Cert.XaOutIdeal.cfg0.N,
    Cert.XaOutIdeal.Value.run_blocks m ρ, ?_⟩
  refine (θ_run Cert.XaOutRefIdeal.defs _ _).mono (fun r h c => ?_) (Value.run m' ρ')
  have e := agreeing _ _ _ _ _ _ _ _ _ _ (agree c)
  obtain ⟨h0, h1, h2, h3, hargs⟩ := h c
  exact ⟨((h0.trans (Read.val_main_v31_eq _ _ _ _ _)).trans e.1).trans (Cert.XaOutIdeal.Sums.result5 m c).symm,
    ((h1.trans (Read.val_main_v32_eq _ _ _ _ _)).trans e.2.1).trans (Cert.XaOutIdeal.Sums.result6 m c).symm,
    ((h2.trans (Read.val_main_v34_eq _ _ _ _ _)).trans e.2.2.1).trans (Cert.XaOutIdeal.Sums.result7 m c).symm,
    ((h3.trans (Read.val_main_v5_eq _ _ _)).trans e.2.2.2).trans (Cert.XaOutIdeal.Sums.result8 m c).symm, hargs⟩

end Cert.XaOutRefIdeal.Sums
-- ==== Proof.Layers.FfnOut.lean ====
/-
  The feed-forward block's output layer: the scaled residual and the product by the output weight, a block of rows at a time, and each row normalised.
-/
module

public import proofs.«01_k».proof.Proof.Layers.Norm
public import proofs.«01_k».proof.Proof.Gen.FfnOutIdeal.Value

@[expose] public section

set_option maxRecDepth 16384

noncomputable section

namespace Cert.FfnOutIdeal.Sums

open Idealize.ShloMosaic Idealize.ShloMosaic.TcCoe
open Cert.FfnOutIdeal Cert.FfnOutIdeal.Gen Cert.Layers

theorem origin : (![0, 0] : Fin 2 → Nat) = fun _ => 0 := funext fun a => by fin_cases a <;> rfl

theorem pay1_apply (x0 : Vec Ideal S512x2816 .bf16) (x1 : Vec Ideal S2816x1024 .bf16) (x2 : Vec Ideal S512x1024 .f32) (r : Fin 512) (q : Fin 1024) :
    (k0_pay1 x2 x0 x1 : FVec Ideal S512x1024 .f32) (ix2 r q) = (Ideal.ofBits .f32 0x3FB504F3#32 : EReal) * x2 (ix2 r q) + ∑ k : Fin 2816, x0 (ix2 r k) * x1 (ix2 k q) := by
  pointwise [k0_pay1]

/-- The second result is the first's rows normalised. -/
theorem pay2_apply (x0 : Vec Ideal S512x2816 .bf16) (x1 : Vec Ideal S2816x1024 .bf16) (x2 : Vec Ideal S512x1024 .f32) (x3 x4 : Vec Ideal S1x1024 .f32) (r : Fin 512) (q : Fin 1024) :
    (k0_pay2 x2 x0 x1 x3 x4 : FVec Ideal S512x1024 .f32) (ix2 r q)
      = normed (fun k => (k0_pay1 x2 x0 x1 : FVec Ideal S512x1024 .f32) (ix2 r k)) (x3 (ix2 0 q)) (x4 (ix2 0 q)) q := by
  unfold k0_pay2
  generalize (k0_pay1 x2 x0 x1 : FVec Ideal S512x1024 .f32) = y
  pointwise
  rfl

theorem pay3_apply (x0 : Vec Ideal S512x2816 .bf16) (x1 : Vec Ideal S2816x1024 .bf16) (x2 : Vec Ideal S512x1024 .f32) (x3 x4 : Vec Ideal S1x1024 .f32) (r : Fin 512) (q : Fin 1024) :
    (k0_pay3 x2 x0 x1 x3 x4 : FVec Ideal S512x1024 .bf16) (ix2 r q) = (k0_pay2 x2 x0 x1 x3 x4 : FVec Ideal S512x1024 .f32) (ix2 r q) := by
  pointwise [k0_pay3]

theorem pay4_apply (x0 : Vec Ideal S512x2816 .bf16) (x1 : Vec Ideal S2816x1024 .bf16) (x2 : Vec Ideal S512x1024 .f32) (x3 x4 : Vec Ideal S1x1024 .f32) (r : Fin 512) (q : Fin 1024) :
    (k0_pay4 x2 x0 x1 x3 x4 : FVec Ideal S1024x512 .bf16) (ix2 q r) = (k0_pay2 x2 x0 x1 x3 x4 : FVec Ideal S512x1024 .f32) (ix2 r q) := by
  pointwise [k0_pay4, k0_pay3]

theorem block5 (x0 : Vec Ideal S512x2816 .bf16) (x1 : Vec Ideal S2816x1024 .bf16) (x2 : Vec Ideal S512x1024 .f32) (x3 x4 : Vec Ideal S1x1024 .f32) : out0_5 x0 x1 x2 x3 x4 = k0_pay2 x2 x0 x1 x3 x4 := by
  unfold out0_5
  rw [View.canon_unit_zero origin]
  simp only [View.ld_unit_zero (S := S512x1024) origin, View.ld_unit_zero (S := S512x2816) origin, View.ld_unit_zero (S := S2816x1024) origin, View.ld_unit_zero (S := S1x1024) origin]

theorem block6 (x0 : Vec Ideal S512x2816 .bf16) (x1 : Vec Ideal S2816x1024 .bf16) (x2 : Vec Ideal S512x1024 .f32) (x3 x4 : Vec Ideal S1x1024 .f32) : out0_6 x0 x1 x2 x3 x4 = k0_pay3 x2 x0 x1 x3 x4 := by
  unfold out0_6
  rw [View.canon_unit_zero origin]
  simp only [View.ld_unit_zero (S := S512x1024) origin, View.ld_unit_zero (S := S512x2816) origin, View.ld_unit_zero (S := S2816x1024) origin, View.ld_unit_zero (S := S1x1024) origin]

theorem block7 (x0 : Vec Ideal S512x2816 .bf16) (x1 : Vec Ideal S2816x1024 .bf16) (x2 : Vec Ideal S512x1024 .f32) (x3 x4 : Vec Ideal S1x1024 .f32) : out0_7 x0 x1 x2 x3 x4 = k0_pay4 x2 x0 x1 x3 x4 := by
  unfold out0_7
  rw [View.canon_unit_zero origin]
  simp only [View.ld_unit_zero (S := S512x1024) origin, View.ld_unit_zero (S := S512x2816) origin, View.ld_unit_zero (S := S2816x1024) origin, View.ld_unit_zero (S := S1x1024) origin]

theorem block8 (x0 : Vec Ideal S512x2816 .bf16) (x1 : Vec Ideal S2816x1024 .bf16) (x2 : Vec Ideal S512x1024 .f32) (x3 x4 : Vec Ideal S1x1024 .f32) : out0_8 x0 x1 x2 x3 x4 = k0_pay1 x2 x0 x1 := by
  unfold out0_8
  rw [View.canon_unit_zero origin]
  simp only [View.ld_unit_zero (S := S512x1024) origin, View.ld_unit_zero (S := S512x2816) origin, View.ld_unit_zero (S := S2816x1024) origin, View.ld_unit_zero (S := S1x1024) origin]

variable (m : (ℓ : Loc nD τ sig) → Buf (Elt Ideal) ℓ) (c : Dev nD)

/-- The five arrays. -/
abbrev heads (c : Dev nD) : Arr 4096 2816 := m ((c : Thread nD τ).loc main_arg0)
abbrev weight (c : Dev nD) : Arr 2816 1024 := m ((c : Thread nD τ).loc main_arg1)
abbrev resid (c : Dev nD) : Arr 4096 1024 := m ((c : Thread nD τ).loc main_arg2)
abbrev scale (c : Dev nD) : Arr 1 1024 := m ((c : Thread nD τ).loc main_arg3)
abbrev shift (c : Dev nD) : Arr 1 1024 := m ((c : Thread nD τ).loc main_arg4)

/-- The sum and the normalised rows. -/
abbrev total (c : Dev nD) : Arr 4096 1024 := summed (heads m c) (weight m c) (resid m c)
abbrev output (c : Dev nD) : Arr 4096 1024 := normedRows (total m c) (scale m c) (shift m c)

theorem index0 : ∀ t : Fin cfg0.N, win0_0.index t 0 = t.val ∧ win0_0.index t 1 = 0 := by decide +kernel
theorem index2 : ∀ t : Fin cfg0.N, win0_2.index t 0 = t.val ∧ win0_2.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index8 : ∀ t : Fin cfg0.N, win0_8.index t 0 = t.val ∧ win0_8.index t 1 = 0 := by decide +kernel
theorem index1 : ∀ t : Fin cfg0.N, win0_1.index t 0 = 0 ∧ win0_1.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index7 : ∀ t : Fin cfg0.N, win0_7.index t 0 = 0 ∧ win0_7.index t 1 = t.val := by decide +kernel

/-- A block of rows. -/
theorem iblk0 (t : Fin cfg0.N) (r : Fin 512) (k : Fin 2816) (h0 : 512 * t.val + r.val < 4096) :
    (iblk m c 0 t : Vec Ideal S512x2816 .bf16) (ix2 r k) = heads m c (ix2 ⟨512 * t.val + r.val, h0⟩ k) := by
  unfold iblk
  rw [View.read_apply]
  show V m c main_arg0 _ = _
  rw [V_main_arg0]
  congr 1
  exact ext2 (by show win0_0.index t 0 * 512 + 1 * r.val = 512 * t.val + r.val; rw [(index0 t).1]; omega) (by show win0_0.index t 1 * 2816 + 1 * k.val = k.val; rw [(index0 t).2]; omega)

/-- The weight. -/
theorem iblk1 (t : Fin cfg0.N) (r : Fin 2816) (k : Fin 1024) :
    (iblk m c 1 t : Vec Ideal S2816x1024 .bf16) (ix2 r k) = weight m c (ix2 r k) := by
  unfold iblk
  rw [View.read_apply]
  show V m c main_arg1 _ = _
  rw [V_main_arg1]
  congr 1
  exact ext2 (by show win0_1.index t 0 * 2816 + 1 * r.val = r.val; rw [(index1 t).1]; omega) (by show win0_1.index t 1 * 1024 + 1 * k.val = k.val; rw [(index1 t).2]; omega)

/-- A block of rows of the residual. -/
theorem iblk2 (t : Fin cfg0.N) (r : Fin 512) (k : Fin 1024) (h0 : 512 * t.val + r.val < 4096) :
    (iblk m c 2 t : Vec Ideal S512x1024 .f32) (ix2 r k) = resid m c (ix2 ⟨512 * t.val + r.val, h0⟩ k) := by
  unfold iblk
  rw [View.read_apply]
  show V m c main_arg2 _ = _
  rw [V_main_arg2]
  congr 1
  exact ext2 (by show win0_2.index t 0 * 512 + 1 * r.val = 512 * t.val + r.val; rw [(index2 t).1]; omega) (by show win0_2.index t 1 * 1024 + 1 * k.val = k.val; rw [(index2 t).2]; omega)

/-- The scale. -/
theorem iblk3 (t : Fin cfg0.N) (r : Fin 1) (k : Fin 1024) :
    (iblk m c 3 t : Vec Ideal S1x1024 .f32) (ix2 r k) = scale m c (ix2 r k) := by
  unfold iblk
  rw [View.read_apply]
  show V m c main_arg3 _ = _
  rw [V_main_arg3]
  congr 1
  exact ext2 (by show win0_3.index t 0 * 1 + 1 * r.val = r.val; rw [(index3 t).1]; omega) (by show win0_3.index t 1 * 1024 + 1 * k.val = k.val; rw [(index3 t).2]; omega)

/-- The shift. -/
theorem iblk4 (t : Fin cfg0.N) (r : Fin 1) (k : Fin 1024) :
    (iblk m c 4 t : Vec Ideal S1x1024 .f32) (ix2 r k) = shift m c (ix2 r k) := by
  unfold iblk
  rw [View.read_apply]
  show V m c main_arg4 _ = _
  rw [V_main_arg4]
  congr 1
  exact ext2 (by show win0_4.index t 0 * 1 + 1 * r.val = r.val; rw [(index4 t).1]; omega) (by show win0_4.index t 1 * 1024 + 1 * k.val = k.val; rw [(index4 t).2]; omega)

/-- A block's sum. -/
theorem sum_written (t : Fin cfg0.N) (r : Fin 512) (q : Fin 1024) (h0 : 512 * t.val + r.val < 4096) :
    (k0_pay1 (iblk m c 2 t) (iblk m c 0 t) (iblk m c 1 t) : FVec Ideal S512x1024 .f32) (ix2 r q) = total m c (ix2 ⟨512 * t.val + r.val, h0⟩ q) := by
  rw [pay1_apply]
  refine congr (congrArg HAdd.hAdd (congrArg (fun z => (Ideal.ofBits .f32 0x3FB504F3#32 : EReal) * z) (iblk2 m c t r q h0))) (Finset.sum_congr rfl fun k _ => ?_)
  rw [iblk0 m c t r k h0, iblk1]
  rfl

/-- A block's normalised rows. -/
theorem norm_written (t : Fin cfg0.N) (r : Fin 512) (q : Fin 1024) (h0 : 512 * t.val + r.val < 4096) :
    (k0_pay2 (iblk m c 2 t) (iblk m c 0 t) (iblk m c 1 t) (iblk m c 3 t) (iblk m c 4 t) : FVec Ideal S512x1024 .f32) (ix2 r q)
      = output m c (ix2 ⟨512 * t.val + r.val, h0⟩ q) := by
  rw [pay2_apply, iblk3, iblk4, funext fun k => sum_written m c t r k h0]
  rfl

/-- What a point writes of each result. -/
theorem written5 (t : Fin cfg0.N) (r : Fin 512) (q : Fin 1024) (h0 : 512 * t.val + r.val < 4096) :
    out0_5 (iblk m c 0 t) (iblk m c 1 t) (iblk m c 2 t) (iblk m c 3 t) (iblk m c 4 t) (ix2 r q) = output m c (ix2 ⟨512 * t.val + r.val, h0⟩ q) := by
  rw [block5, norm_written m c t r q h0]

theorem written6 (t : Fin cfg0.N) (r : Fin 512) (q : Fin 1024) (h0 : 512 * t.val + r.val < 4096) :
    out0_6 (iblk m c 0 t) (iblk m c 1 t) (iblk m c 2 t) (iblk m c 3 t) (iblk m c 4 t) (ix2 r q) = output m c (ix2 ⟨512 * t.val + r.val, h0⟩ q) := by
  rw [block6, pay3_apply, norm_written m c t r q h0]

theorem written7 (t : Fin cfg0.N) (r : Fin 512) (q : Fin 1024) (h0 : 512 * t.val + r.val < 4096) :
    out0_7 (iblk m c 0 t) (iblk m c 1 t) (iblk m c 2 t) (iblk m c 3 t) (iblk m c 4 t) (ix2 q r) = turned (output m c) (ix2 q ⟨512 * t.val + r.val, h0⟩) := by
  rw [block7, pay4_apply, norm_written m c t r q h0]
  rfl

theorem written8 (t : Fin cfg0.N) (r : Fin 512) (q : Fin 1024) (h0 : 512 * t.val + r.val < 4096) :
    out0_8 (iblk m c 0 t) (iblk m c 1 t) (iblk m c 2 t) (iblk m c 3 t) (iblk m c 4 t) (ix2 r q) = total m c (ix2 ⟨512 * t.val + r.val, h0⟩ q) := by
  rw [block8, sum_written m c t r q h0]

/-- The normalised rows. -/
theorem result5 : (dats m 0 c).arrAt 5 cfg0.N = output m c :=
  (dats m 0 c).arrAt_eq_of_cover 5 (output m c) (fun t hf => by
    have hN : t.val < 8 := lt_of_lt_of_eq t.isLt N_0
    rw [Value.flushed5]
    funext y
    obtain ⟨r, q, rfl⟩ : ∃ (r : Fin 512) (q : Fin 1024), y = ix2 r q := pairs y
    refine Eq.trans (show _ = (out0_5 (iblk m c 0 t) (iblk m c 1 t) (iblk m c 2 t) (iblk m c 3 t) (iblk m c 4 t)) (ix2 r q) from rfl) ?_
    rw [written5 m c t r q (by omega), View.read_apply]
    show output m c (ix2 ⟨512 * t.val + r.val, by omega⟩ q) = output m c _
    congr 1
    exact ext2 (by show 512 * t.val + r.val = win0_5.index t 0 * 512 + 1 * r.val; rw [(index5 t).1]; omega) (by show q.val = win0_5.index t 1 * 1024 + 1 * q.val; rw [(index5 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_5 t, ?_⟩
    show i ∈ ((View.whole main_v0_0).slice (win0_5.rect t)).set
    rw [View.set_slice_whole, Rect.mem_set_unit]
    intro a
    match a with
    | ⟨0, _⟩ =>
      show win0_5.index t 0 * 512 ≤ (i 0).val ∧ (i 0).val < win0_5.index t 0 * 512 + 512
      rw [(index5 t).1]; omega
    | ⟨1, _⟩ =>
      show win0_5.index t 1 * 1024 ≤ (i 1).val ∧ (i 1).val < win0_5.index t 1 * 1024 + 1024
      rw [(index5 t).2]; omega

/-- The same in the narrower format. -/
theorem result6 : (dats m 0 c).arrAt 6 cfg0.N = output m c :=
  (dats m 0 c).arrAt_eq_of_cover 6 (output m c) (fun t hf => by
    have hN : t.val < 8 := lt_of_lt_of_eq t.isLt N_0
    rw [Value.flushed6]
    funext y
    obtain ⟨r, q, rfl⟩ : ∃ (r : Fin 512) (q : Fin 1024), y = ix2 r q := pairs y
    refine Eq.trans (show _ = (out0_6 (iblk m c 0 t) (iblk m c 1 t) (iblk m c 2 t) (iblk m c 3 t) (iblk m c 4 t)) (ix2 r q) from rfl) ?_
    rw [written6 m c t r q (by omega), View.read_apply]
    show output m c (ix2 ⟨512 * t.val + r.val, by omega⟩ q) = output m c _
    congr 1
    exact ext2 (by show 512 * t.val + r.val = win0_6.index t 0 * 512 + 1 * r.val; rw [(index6 t).1]; omega) (by show q.val = win0_6.index t 1 * 1024 + 1 * q.val; rw [(index6 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_6 t, ?_⟩
    show i ∈ ((View.whole main_v0_1).slice (win0_6.rect t)).set
    rw [View.set_slice_whole, Rect.mem_set_unit]
    intro a
    match a with
    | ⟨0, _⟩ =>
      show win0_6.index t 0 * 512 ≤ (i 0).val ∧ (i 0).val < win0_6.index t 0 * 512 + 512
      rw [(index6 t).1]; omega
    | ⟨1, _⟩ =>
      show win0_6.index t 1 * 1024 ≤ (i 1).val ∧ (i 1).val < win0_6.index t 1 * 1024 + 1024
      rw [(index6 t).2]; omega

/-- The same with rows and columns exchanged. -/
theorem result7 : (dats m 0 c).arrAt 7 cfg0.N = turned (output m c) :=
  (dats m 0 c).arrAt_eq_of_cover 7 (turned (output m c)) (fun t hf => by
    have hN : t.val < 8 := lt_of_lt_of_eq t.isLt N_0
    rw [Value.flushed7]
    funext y
    obtain ⟨r, q, rfl⟩ : ∃ (r : Fin 1024) (q : Fin 512), y = ix2 r q := pairs y
    refine Eq.trans (show _ = (out0_7 (iblk m c 0 t) (iblk m c 1 t) (iblk m c 2 t) (iblk m c 3 t) (iblk m c 4 t)) (ix2 r q) from rfl) ?_
    rw [written7 m c t q r (by omega), View.read_apply]
    show turned (output m c) (ix2 r ⟨512 * t.val + q.val, by omega⟩) = turned (output m c) _
    congr 1
    exact ext2 (by show r.val = win0_7.index t 0 * 1024 + 1 * r.val; rw [(index7 t).1]; omega) (by show 512 * t.val + q.val = win0_7.index t 1 * 512 + 1 * q.val; rw [(index7 t).2]; omega)) fun i => by
    have h0 : (i 0).val < 1024 := (i 0).isLt
    have h1 : (i 1).val < 4096 := (i 1).isLt
    have ht : (i 1).val / 512 < cfg0.N := by rw [show cfg0.N = 8 from N_0]; omega
    obtain ⟨t, e⟩ : ∃ t : Fin cfg0.N, t.val = (i 1).val / 512 := ⟨⟨_, ht⟩, rfl⟩
    refine ⟨t, flush0_7 t, ?_⟩
    show i ∈ ((View.whole main_v0_2).slice (win0_7.rect t)).set
    rw [View.set_slice_whole, Rect.mem_set_unit]
    intro a
    match a with
    | ⟨0, _⟩ =>
      show win0_7.index t 0 * 1024 ≤ (i 0).val ∧ (i 0).val < win0_7.index t 0 * 1024 + 1024
      rw [(index7 t).1]; omega
    | ⟨1, _⟩ =>
      show win0_7.index t 1 * 512 ≤ (i 1).val ∧ (i 1).val < win0_7.index t 1 * 512 + 512
      rw [(index7 t).2]; omega

/-- The sum. -/
theorem result8 : (dats m 0 c).arrAt 8 cfg0.N = total m c :=
  (dats m 0 c).arrAt_eq_of_cover 8 (total m c) (fun t hf => by
    have hN : t.val < 8 := lt_of_lt_of_eq t.isLt N_0
    rw [Value.flushed8]
    funext y
    obtain ⟨r, q, rfl⟩ : ∃ (r : Fin 512) (q : Fin 1024), y = ix2 r q := pairs y
    refine Eq.trans (show _ = (out0_8 (iblk m c 0 t) (iblk m c 1 t) (iblk m c 2 t) (iblk m c 3 t) (iblk m c 4 t)) (ix2 r q) from rfl) ?_
    rw [written8 m c t r q (by omega), View.read_apply]
    show total m c (ix2 ⟨512 * t.val + r.val, by omega⟩ q) = total m c _
    congr 1
    exact ext2 (by show 512 * t.val + r.val = win0_8.index t 0 * 512 + 1 * r.val; rw [(index8 t).1]; omega) (by show q.val = win0_8.index t 1 * 1024 + 1 * q.val; rw [(index8 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_8 t, ?_⟩
    show i ∈ ((View.whole main_v0_3).slice (win0_8.rect t)).set
    rw [View.set_slice_whole, Rect.mem_set_unit]
    intro a
    match a with
    | ⟨0, _⟩ =>
      show win0_8.index t 0 * 512 ≤ (i 0).val ∧ (i 0).val < win0_8.index t 0 * 512 + 512
      rw [(index8 t).1]; omega
    | ⟨1, _⟩ =>
      show win0_8.index t 1 * 1024 ≤ (i 1).val ∧ (i 1).val < win0_8.index t 1 * 1024 + 1024
      rw [(index8 t).2]; omega

end Cert.FfnOutIdeal.Sums
-- ==== Proof.Layers.FfnOutReference.lean ====
/-
  The reference's results are those the kernel computes.
-/
module

public import proofs.«01_k».proof.Defs
public import proofs.«01_k».proof.Proof.Layers.FfnOut
public import proofs.«01_k».proof.Proof.Gen.FfnOutIdeal
public import proofs.«01_k».proof.Proof.Gen.FfnOutRefIdeal
public import proofs.«01_k».proof.Proof.Gen.FfnOutRefIdeal.Run
public import proofs.«01_k».proof.Proof.Gen.FfnOutRefIdeal.Read
public import Idealize.ShloMosaic.Adequacy

@[expose] public section

set_option maxRecDepth 16384

noncomputable section

namespace Cert.FfnOutRefIdeal.Sums

open Idealize.ShloMosaic Idealize.SL.Sem Cert.Layers

theorem pair (i : (⟨2, ![4096, 1024]⟩ : Shape).Idx) : ∃ (r : Fin 4096) (q : Fin 1024), i = ix2 r q := ⟨i 0, i 1, funext fun a => match a with
  | ⟨0, _⟩ => rfl
  | ⟨1, _⟩ => rfl⟩

theorem sum_apply (x0 : Arr 4096 2816) (x1 : Arr 2816 1024) (x2 : Arr 4096 1024) (r : Fin 4096) (q : Fin 1024) : Read.val_main_v5 (F := Ideal) x0 x1 x2 (ix2 r q)
    = (Ideal.ofBits .f32 0x3FB504F3#32 : EReal) * x2 (ix2 r q) + ∑ k : Fin 2816, x0 (ix2 r k) * x1 (ix2 k q) := by
  pointwise [Read.val_main_v5, Read.val_main_v4, Read.val_main_v3, Read.val_main_v2, Read.val_main_v1, Read.val_main_v0, Read.val_main_cst]

/-- The reference's sum. -/
theorem sum_value (x0 : Arr 4096 2816) (x1 : Arr 2816 1024) (x2 : Arr 4096 1024) : Read.val_main_v5 (F := Ideal) x0 x1 x2 = summed x0 x1 x2 := by
  funext i
  obtain ⟨r, q, rfl⟩ := pair i
  exact sum_apply x0 x1 x2 r q

theorem norm_apply (x0 : Arr 4096 2816) (x1 : Arr 2816 1024) (x2 : Arr 4096 1024) (x3 x4 : Arr 1 1024) (r : Fin 4096) (q : Fin 1024) : Read.val_main_v31 (F := Ideal) x0 x1 x2 x3 x4 (ix2 r q)
    = normed (fun k => Read.val_main_v5 (F := Ideal) x0 x1 x2 (ix2 r k)) (x3 (ix2 0 q)) (x4 (ix2 0 q)) q := by
  pointwise [Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_cst_0, Read.val_main_cst_1, Read.val_main_cst_2, Read.val_main_cst_3, Read.val_main_cst_4]
  rfl

/-- The reference's normalised rows. -/
theorem norm_value (x0 : Arr 4096 2816) (x1 : Arr 2816 1024) (x2 : Arr 4096 1024) (x3 x4 : Arr 1 1024) : Read.val_main_v31 (F := Ideal) x0 x1 x2 x3 x4 = normedRows (summed x0 x1 x2) x3 x4 := by
  funext i
  obtain ⟨r, q, rfl⟩ := pair i
  rw [norm_apply, sum_value]
  rfl

/-- The same in the narrower format. -/
theorem narrow_value (x0 : Arr 4096 2816) (x1 : Arr 2816 1024) (x2 : Arr 4096 1024) (x3 x4 : Arr 1 1024) : Read.val_main_v32 (F := Ideal) x0 x1 x2 x3 x4 = normedRows (summed x0 x1 x2) x3 x4 := by
  rw [← norm_value]
  funext i
  obtain ⟨r, q, rfl⟩ := pair i
  pointwise [Read.val_main_v32]

/-- The same with rows and columns exchanged. -/
theorem turned_value (x0 : Arr 4096 2816) (x1 : Arr 2816 1024) (x2 : Arr 4096 1024) (x3 x4 : Arr 1 1024) : Read.val_main_v34 (F := Ideal) x0 x1 x2 x3 x4 = turned (normedRows (summed x0 x1 x2) x3 x4) := by
  rw [← norm_value]
  funext i
  obtain ⟨q, r, rfl⟩ : ∃ (q : Fin 1024) (r : Fin 4096), i = ix2 q r := pairs i
  pointwise [Read.val_main_v34, Read.val_main_v33]
  rfl

/-- The reference ends with its arguments unchanged and, having no semaphore, with every counter at zero. -/
theorem frame : Cert.quiescent_FfnOutRefIdeal (hFfnOutRefIdeal := Gen.facts) := fun m ρ _ =>
  (θ_run Cert.FfnOutRefIdeal.defs _ _).mono (fun r h => ⟨fun c => (h c).2.2.2.2, sem_eq_zero_of_no_sems (by decide) r.2⟩) (Value.run m ρ)

/-- From arrays that agree, the results are one. -/
theorem agreeing (a0 : Arr 4096 2816) (a1 : Arr 2816 1024) (a2 : Arr 4096 1024) (a3 a4 : Arr 1 1024) (b0 : Arr 4096 2816) (b1 : Arr 2816 1024) (b2 : Arr 4096 1024) (b3 b4 : Arr 1 1024)
    (e : b0 = a0 ∧ b1 = a1 ∧ b2 = a2 ∧ b3 = a3 ∧ b4 = a4) :
    Read.val_main_v31 (F := Ideal) b0 b1 b2 b3 b4 = normedRows (summed a0 a1 a2) a3 a4
      ∧ Read.val_main_v32 (F := Ideal) b0 b1 b2 b3 b4 = normedRows (summed a0 a1 a2) a3 a4
      ∧ Read.val_main_v34 (F := Ideal) b0 b1 b2 b3 b4 = turned (normedRows (summed a0 a1 a2) a3 a4)
      ∧ Read.val_main_v5 (F := Ideal) b0 b1 b2 = summed a0 a1 a2 := by
  obtain ⟨e0, e1, e2, e3, e4⟩ := e
  subst e0 e1 e2 e3 e4
  exact ⟨norm_value _ _ _ _ _, narrow_value _ _ _ _ _, turned_value _ _ _ _ _, sum_value _ _ _⟩

/-- The kernel's results are the reference's. -/
theorem equation : Cert.algebraic_FfnOutIdeal_FfnOutRefIdeal (hFfnOutIdeal := Cert.FfnOutIdeal.Gen.facts) (hFfnOutRefIdeal := Gen.facts) := by
  intro m ρ m' ρ' _ agree
  refine ⟨fun c => (Cert.FfnOutIdeal.Gen.dats m 0 c).arrAt 5 Cert.FfnOutIdeal.cfg0.N, fun c => (Cert.FfnOutIdeal.Gen.dats m 0 c).arrAt 6 Cert.FfnOutIdeal.cfg0.N,
    fun c => (Cert.FfnOutIdeal.Gen.dats m 0 c).arrAt 7 Cert.FfnOutIdeal.cfg0.N, fun c => (Cert.FfnOutIdeal.Gen.dats m 0 c).arrAt 8 Cert.FfnOutIdeal.cfg0.N,
    Cert.FfnOutIdeal.Value.run_blocks m ρ, ?_⟩
  refine (θ_run Cert.FfnOutRefIdeal.defs _ _).mono (fun r h c => ?_) (Value.run m' ρ')
  have e := agreeing _ _ _ _ _ _ _ _ _ _ (agree c)
  obtain ⟨h0, h1, h2, h3, hargs⟩ := h c
  exact ⟨((h0.trans (Read.val_main_v31_eq _ _ _ _ _)).trans e.1).trans (Cert.FfnOutIdeal.Sums.result5 m c).symm,
    ((h1.trans (Read.val_main_v32_eq _ _ _ _ _)).trans e.2.1).trans (Cert.FfnOutIdeal.Sums.result6 m c).symm,
    ((h2.trans (Read.val_main_v34_eq _ _ _ _ _)).trans e.2.2.1).trans (Cert.FfnOutIdeal.Sums.result7 m c).symm,
    ((h3.trans (Read.val_main_v5_eq _ _ _)).trans e.2.2.2).trans (Cert.FfnOutIdeal.Sums.result8 m c).symm, hargs⟩

end Cert.FfnOutRefIdeal.Sums
-- ==== Proof.Layers.Gated.lean ====
/-
  The feed-forward block's gate, as both programs compute it: the rows times the up weight, each column convolved down the rows
  with three taps, and the first half's activation times the second half.
-/
module

public import proofs.«01_k».proof.Proof.Layers.Norm

@[expose] public section

noncomputable section

namespace Cert.Layers

open Idealize.ShloMosaic

/-- A column moved down by `d` rows, zeros above. -/
def shifted (d : ℕ) (f : Fin 4096 → EReal) (r : Fin 4096) : EReal := if d ≤ r.val then f ⟨r.val - d, by omega⟩ else 0

/-- A column convolved with three taps, and a bias. -/
def convolved (f : Fin 4096 → EReal) (w0 w1 w2 b : EReal) (r : Fin 4096) : EReal := b + shifted 2 f r * w0 + shifted 1 f r * w1 + f r * w2

/-- The activation. -/
def activated (u : EReal) : EReal :=
  u * (Ideal.ofBits .f32 0x3F000000#32 * (1 + Ideal.tanh (Ideal.ofBits .f32 0x3F4C422A#32 * (u + Ideal.ofBits .f32 0x3D372713#32 * (u * (u * u))))))

/-- An up-projected column. -/
def upColumn (h : Arr 4096 1024) (w : Arr 1024 5632) (j : Fin 5632) (r : Fin 4096) : EReal :=
  ∑ k : Fin 1024, h (ix2 r k) * w (ix2 k j)

/-- The same convolved. -/
def branch (h : Arr 4096 1024) (w : Arr 1024 5632) (cw : Arr 3 5632)
    (cb : Arr 1 5632) (j : Fin 5632) (r : Fin 4096) : EReal :=
  convolved (upColumn h w j) (cw (ix2 0 j)) (cw (ix2 1 j)) (cw (ix2 2 j)) (cb (ix2 0 j)) r

/-- The gated columns. -/
def gated (h : Arr 4096 1024) (w : Arr 1024 5632) (cw : Arr 3 5632)
    (cb : Arr 1 5632) : Arr 4096 2816 :=
  fun i => activated (branch h w cw cb ⟨(i 1).val, by have h1 : (i 1).val < 2816 := (i 1).isLt; omega⟩ (i 0))
    * branch h w cw cb ⟨2816 + (i 1).val, by have h1 : (i 1).val < 2816 := (i 1).isLt; omega⟩ (i 0)

/-- The same with rows and columns exchanged. -/
def gatedTurned (h : Arr 4096 1024) (w : Arr 1024 5632) (cw : Arr 3 5632)
    (cb : Arr 1 5632) : Arr 2816 4096 :=
  fun i => gated h w cw cb (ix2 (i 1) (i 0))

/-- A rotation down by `d` whose first `d` rows are replaced by zeros. -/
theorem select_shifted (f : Fin 4096 → EReal) (w : EReal) (d : ℕ) (hd : d < 4096) (r : Fin 4096) (hr : (r.val + 4096 - d) % 4096 < 4096) :
    Scalar.select (IntOp.cmpi .sge (BitVec.ofNat 32 r.val) (BitVec.ofNat 32 d)) (f ⟨(r.val + 4096 - d) % 4096, hr⟩ * w) 0 = shifted d f r * w := by
  have e : ∀ n : ℕ, n < 4096 → (BitVec.ofNat 32 n).toInt = n := fun n hn => by
    rw [BitVec.toInt_eq_toNat_of_lt (by rw [BitVec.toNat_ofNat]; omega), BitVec.toNat_ofNat]
    congr 1
    omega
  unfold Scalar.select IntOp.cmpi shifted
  simp only [BitVec.sle, e d hd, e r.val r.isLt]
  by_cases h : d ≤ r.val
  · have hm : (r.val + 4096 - d) % 4096 = r.val - d := by omega
    simp [h, hm]
  · simp [h]

end Cert.Layers
-- ==== Proof.Layers.Gate.lean ====
/-
  The feed-forward block's gate: the rows times a block of columns of the up weight, each half convolved down the rows, the first half's activation times the second.
-/
module

public import proofs.«01_k».proof.Proof.Layers.Gated
public import proofs.«01_k».proof.Proof.Gen.GateIdeal.Value

@[expose] public section

set_option maxRecDepth 16384

noncomputable section

namespace Cert.GateIdeal.Sums

open Idealize.ShloMosaic Idealize.ShloMosaic.TcCoe
open Cert.GateIdeal Cert.GateIdeal.Gen Cert.Layers

theorem origin : (![0, 0] : Fin 2 → Nat) = fun _ => 0 := funext fun a => by fin_cases a <;> rfl

variable (c : Dev nD) (i : grid0.Coords)
  (a2 : Memref sig .tc .vmem S1024x128 .bf16) (h2 : a2.IsWhole)
  (a3 : Memref sig .tc .vmem S1024x128 .bf16) (h3 : a3.IsWhole)
  (a4 : Memref sig .tc .vmem S3x128 .f32) (h4 : a4.IsWhole)
  (a5 : Memref sig .tc .vmem S3x128 .f32) (h5 : a5.IsWhole)
  (a6 : Memref sig .tc .vmem S1x128 .f32) (h6 : a6.IsWhole)
  (a7 : Memref sig .tc .vmem S1x128 .f32) (h7 : a7.IsWhole)
  (a8 : Memref sig .tc .vmem S4096x128 .bf16) (h8 : a8.IsWhole)
  (a9 : Memref sig .tc .vmem S128x4096 .bf16) (h9 : a9.IsWhole)
  (a10 : Memref sig .tc .vmem S4096x1024 .bf16) (h10 : a10.IsWhole)
  (x0 x1 : Vec Ideal S1024x128 .bf16) (x2 x3 : Vec Ideal S3x128 .f32) (x4 x5 : Vec Ideal S1x128 .f32)

/-- What a point computes from the rows and its blocks. -/
def act (h : Vec Ideal S4096x1024 .bf16) (x0 x1 : Vec Ideal S1024x128 .bf16) (x2 x3 : Vec Ideal S3x128 .f32) (x4 x5 : Vec Ideal S1x128 .f32) : FVec Ideal S4096x128 .f32 :=
  k0_pay4 (k0_pay2 h x0 x1) (k0_pay3 h x0 x1 x4 (View.ld x2 (Rect.unit (s := S3x128) ![0, 0] S1x128.size inb_S3x128_S1x128_0_0))
    (View.ld x2 (Rect.unit (s := S3x128) ![1, 0] S1x128.size inb_S3x128_S1x128_1_0)) (View.ld x2 (Rect.unit (s := S3x128) ![2, 0] S1x128.size inb_S3x128_S1x128_2_0)))
    x5 (View.ld x3 (Rect.unit (s := S3x128) ![0, 0] S1x128.size inb_S3x128_S1x128_0_0)) (View.ld x3 (Rect.unit (s := S3x128) ![1, 0] S1x128.size inb_S3x128_S1x128_1_0))
    (View.ld x3 (Rect.unit (s := S3x128) ![2, 0] S1x128.size inb_S3x128_S1x128_2_0))

/-- The rows copied in at the first point are the argument. -/
theorem copied (fh : HbBuf0 (F := Ideal) c hbM0_0) : kernelRun0_A.sl.dma0 c fh = fh := by
  unfold kernelRun0_A.sl.dma0
  funext y
  rfl

/-- One store over the whole of a buffer leaves what was stored. -/
theorem stored (w : Vec Ideal S4096x1024 .bf16) : View.canon [(⟨Rect.whole S4096x1024, w⟩ : View.Piece (Elt Ideal) S4096x1024 .bf16)] = w :=
  View.canon_unit_zero (S := S4096x1024) (off := fun _ => 0) rfl _ w

theorem rows (a : Memref sig .tc .vmem S4096x1024 .bf16) (fh : HbBuf0 (F := Ideal) c hbM0_0) : kernelRun0_A.sl.v3 c a fh = fh := by
  unfold kernelRun0_A.sl.v3
  rw [copied]
  rw [View.readCov_eq_canon', stored]
  exact View.ld_unit_zero (S := S4096x1024) origin _ fh

theorem blockB6 (hc : ¬cond0_0 i) (y : Vec Ideal S4096x1024 .bf16) (fh : HbBuf0 (F := Ideal) c hbM0_0) : out0_B_6 c i a2 h2 a3 h3 a4 h4 a5 h5 a6 h6 a7 h7 a8 h8 a9 h9 a10 h10 hc x0 x1 x2 x3 x4 x5 y fh = truncf .bf16 (act y x0 x1 x2 x3 x4 x5) bitsLt_bf16_f32 := by
  unfold out0_B_6
  rw [View.read_writes_eq_canon _ _ _ (cover0_B_6 c i a2 h2 a3 h3 a4 h4 a5 h5 a6 h6 a7 h7 a8 h8 a9 h9 a10 h10 hc x0 x1 x2 x3 x4 x5 y fh)]
  unfold kernelRun0_B
  dsimp only
  rw [View.canon_unit_zero origin]
  unfold kernelRun0_B.sl.r_3 kernelRun0_B.sl.r_1 kernelRun0_B.sl.r
  simp only [View.readAt_eq_ld, h2.read_unread, h3.read_unread, h4.read_unread, h5.read_unread, h6.read_unread, h7.read_unread, h10.read_unread, View.ld_unit_zero (S := S4096x1024) origin, View.ld_unit_zero (S := S1024x128) origin, View.ld_unit_zero (S := S1x128) origin]
  rfl

theorem blockB7 (hc : ¬cond0_0 i) (y : Vec Ideal S4096x1024 .bf16) (fh : HbBuf0 (F := Ideal) c hbM0_0) : out0_B_7 c i a2 h2 a3 h3 a4 h4 a5 h5 a6 h6 a7 h7 a8 h8 a9 h9 a10 h10 hc x0 x1 x2 x3 x4 x5 y fh = k0_pay1 (act y x0 x1 x2 x3 x4 x5) := by
  unfold out0_B_7
  rw [View.read_writes_eq_canon _ _ _ (cover0_B_7 c i a2 h2 a3 h3 a4 h4 a5 h5 a6 h6 a7 h7 a8 h8 a9 h9 a10 h10 hc x0 x1 x2 x3 x4 x5 y fh)]
  unfold kernelRun0_B
  dsimp only
  rw [View.canon_unit_zero origin]
  unfold  kernelRun0_B.sl.r_2 kernelRun0_B.sl.r_1 kernelRun0_B.sl.r
  simp only [View.readAt_eq_ld, h2.read_unread, h3.read_unread, h4.read_unread, h5.read_unread, h6.read_unread, h7.read_unread, h10.read_unread, View.ld_unit_zero (S := S4096x1024) origin, View.ld_unit_zero (S := S1024x128) origin, View.ld_unit_zero (S := S1x128) origin]
  rfl

theorem blockA6 (hc : cond0_0 i) (fh : HbBuf0 (F := Ideal) c hbM0_0) : out0_A_6 c i a2 h2 a3 h3 a4 h4 a5 h5 a6 h6 a7 h7 a8 h8 a9 h9 a10 h10 hc x0 x1 x2 x3 x4 x5 fh = truncf .bf16 (act fh x0 x1 x2 x3 x4 x5) bitsLt_bf16_f32 := by
  unfold out0_A_6
  rw [View.read_writes_eq_canon _ _ _ (cover0_A_6 c i a2 h2 a3 h3 a4 h4 a5 h5 a6 h6 a7 h7 a8 h8 a9 h9 a10 h10 hc x0 x1 x2 x3 x4 x5 fh)]
  unfold kernelRun0_A
  dsimp only
  rw [View.canon_unit_zero origin]
  unfold kernelRun0_A.sl.r_3 kernelRun0_A.sl.r_1 kernelRun0_A.sl.r
  simp only [View.readAt_eq_ld, h2.read_unread, h3.read_unread, h4.read_unread, h5.read_unread, h6.read_unread, h7.read_unread, h10.read_unread, View.ld_unit_zero (S := S4096x1024) origin, View.ld_unit_zero (S := S1024x128) origin, View.ld_unit_zero (S := S1x128) origin]
  rw [rows c a10 fh]
  rfl

theorem blockA7 (hc : cond0_0 i) (fh : HbBuf0 (F := Ideal) c hbM0_0) : out0_A_7 c i a2 h2 a3 h3 a4 h4 a5 h5 a6 h6 a7 h7 a8 h8 a9 h9 a10 h10 hc x0 x1 x2 x3 x4 x5 fh = k0_pay1 (act fh x0 x1 x2 x3 x4 x5) := by
  unfold out0_A_7
  rw [View.read_writes_eq_canon _ _ _ (cover0_A_7 c i a2 h2 a3 h3 a4 h4 a5 h5 a6 h6 a7 h7 a8 h8 a9 h9 a10 h10 hc x0 x1 x2 x3 x4 x5 fh)]
  unfold kernelRun0_A
  dsimp only
  rw [View.canon_unit_zero origin]
  unfold  kernelRun0_A.sl.r_2 kernelRun0_A.sl.r_1 kernelRun0_A.sl.r
  simp only [View.readAt_eq_ld, h2.read_unread, h3.read_unread, h4.read_unread, h5.read_unread, h6.read_unread, h7.read_unread, h10.read_unread, View.ld_unit_zero (S := S4096x1024) origin, View.ld_unit_zero (S := S1024x128) origin, View.ld_unit_zero (S := S1x128) origin]
  rw [rows c a10 fh]
  rfl

theorem scratchA (hc : cond0_0 i) (fh : HbBuf0 (F := Ideal) c hbM0_0) : sout0_A_0 c i a2 h2 a3 h3 a4 h4 a5 h5 a6 h6 a7 h7 a8 h8 a9 h9 a10 h10 hc x0 x1 x2 x3 x4 x5 fh = fh := by
  unfold sout0_A_0
  rw [View.read_writes_eq_canon _ _ _ (scover0_A_0 c i a2 h2 a3 h3 a4 h4 a5 h5 a6 h6 a7 h7 a8 h8 a9 h9 a10 h10 hc x0 x1 x2 x3 x4 x5 fh)]
  unfold kernelRun0_A
  dsimp only
  rw [copied]
  exact stored fh

theorem pay2_apply (h : Vec Ideal S4096x1024 .bf16) (r : Fin 4096) (q : Fin 256) :
    (k0_pay2 h x0 x1 : FVec Ideal S4096x256 .f32) (ix2 r q) = ∑ x : Fin 1024, h (ix2 r x) * if hq : q.val < 128 then x0 (ix2 x ⟨q.val, hq⟩) else x1 (ix2 x ⟨q.val - 128, by omega⟩) := by
  pointwise [k0_pay2]

/-- The left half, convolved. -/
theorem pay3_apply (h : Vec Ideal S4096x1024 .bf16) (b w0 w1 w2 : Vec Ideal S1x128 .f32) (r : Fin 4096) (q : Fin 128) :
    (k0_pay3 h x0 x1 b w0 w1 w2 : FVec Ideal S4096x128 .f32) (ix2 r q)
      = convolved (fun s => (k0_pay2 h x0 x1 : FVec Ideal S4096x256 .f32) (ix2 s ⟨q.val, by omega⟩)) (w0 (ix2 0 q)) (w1 (ix2 0 q)) (w2 (ix2 0 q)) (b (ix2 0 q)) r := by
  unfold k0_pay3
  generalize (k0_pay2 h x0 x1 : FVec Ideal S4096x256 .f32) = y
  unfold convolved
  rw [← select_shifted _ _ 2 (by decide) r (Nat.mod_lt _ (by decide)), ← select_shifted _ _ 1 (by decide) r (Nat.mod_lt _ (by decide))]
  pointwise

/-- The right half, convolved, times the left half's activation. -/
theorem pay4_apply (y : FVec Ideal S4096x256 .f32) (u : FVec Ideal S4096x128 .f32) (b w0 w1 w2 : Vec Ideal S1x128 .f32) (r : Fin 4096) (q : Fin 128) :
    (k0_pay4 y u b w0 w1 w2 : FVec Ideal S4096x128 .f32) (ix2 r q)
      = activated (u (ix2 r q)) * convolved (fun s => y (ix2 s ⟨128 + q.val, by omega⟩)) (w0 (ix2 0 q)) (w1 (ix2 0 q)) (w2 (ix2 0 q)) (b (ix2 0 q)) r := by
  unfold convolved
  rw [← select_shifted _ _ 2 (by decide) r (Nat.mod_lt _ (by decide)), ← select_shifted _ _ 1 (by decide) r (Nat.mod_lt _ (by decide))]
  unfold activated
  pointwise [k0_pay4]

theorem pay1_apply (z : FVec Ideal S4096x128 .f32) (r : Fin 4096) (q : Fin 128) : (k0_pay1 z : FVec Ideal S128x4096 .bf16) (ix2 q r) = z (ix2 r q) := by
  pointwise [k0_pay1]

theorem narrow_apply (z : FVec Ideal S4096x128 .f32) (r : Fin 4096) (q : Fin 128) : (truncf .bf16 z bitsLt_bf16_f32 : FVec Ideal S4096x128 .bf16) (ix2 r q) = z (ix2 r q) := by
  pointwise

/-- A tap's row, loaded from the three. -/
theorem tap (x : Vec Ideal S3x128 .f32) (o : ℕ) (ho : o < 3) (inb : ∀ a, (![o, 0] : Fin 2 → ℕ) a + S1x128.size a ≤ S3x128.size a) (q : Fin 128) :
    (View.ld x (Rect.unit (s := S3x128) ![o, 0] S1x128.size inb) : Vec Ideal S1x128 .f32) (ix2 0 q) = x (ix2 ⟨o, ho⟩ q) := by
  unfold View.ld
  congr 1
  exact ext2 (by show o + 1 * 0 = o; omega) (by show 0 + 1 * q.val = q.val; omega)

/-- What a point computes, entry by entry. -/
theorem act_apply (h : Vec Ideal S4096x1024 .bf16) (r : Fin 4096) (q : Fin 128) :
    act h x0 x1 x2 x3 x4 x5 (ix2 r q)
      = activated (convolved (fun s => ∑ x : Fin 1024, h (ix2 s x) * x0 (ix2 x q)) (x2 (ix2 0 q)) (x2 (ix2 1 q)) (x2 (ix2 2 q)) (x4 (ix2 0 q)) r)
        * convolved (fun s => ∑ x : Fin 1024, h (ix2 s x) * x1 (ix2 x q)) (x3 (ix2 0 q)) (x3 (ix2 1 q)) (x3 (ix2 2 q)) (x5 (ix2 0 q)) r := by
  have l : (fun s : Fin 4096 => (k0_pay2 h x0 x1 : FVec Ideal S4096x256 .f32) (ix2 s ⟨q.val, by omega⟩)) = fun s => ∑ x : Fin 1024, h (ix2 s x) * x0 (ix2 x q) := by
    funext s
    rw [pay2_apply]
    exact Finset.sum_congr rfl fun x _ => by rw [dif_pos q.isLt]
  have rr : (fun s : Fin 4096 => (k0_pay2 h x0 x1 : FVec Ideal S4096x256 .f32) (ix2 s ⟨128 + q.val, by omega⟩)) = fun s => ∑ x : Fin 1024, h (ix2 s x) * x1 (ix2 x q) := by
    funext s
    rw [pay2_apply]
    refine Finset.sum_congr rfl fun x _ => ?_
    rw [dif_neg (show ¬(128 + q.val) < 128 by omega)]
    congr 3
    apply Fin.ext
    show 128 + q.val - 128 = q.val
    omega
  unfold act
  rw [pay4_apply, pay3_apply, l, rr]
  exact congr (congrArg HMul.hMul (congrArg activated (by rw [tap x2 0 (by decide), tap x2 1 (by decide), tap x2 2 (by decide)]; rfl))) (by rw [tap x3 0 (by decide), tap x3 1 (by decide), tap x3 2 (by decide)]; rfl)

variable (m : (ℓ : Loc nD τ sig) → Buf (Elt Ideal) ℓ)

/-- The four arrays. -/
abbrev hidden (c : Dev nD) : Arr 4096 1024 := m ((c : Thread nD τ).loc main_arg0)
abbrev weight (c : Dev nD) : Arr 1024 5632 := m ((c : Thread nD τ).loc main_arg1)
abbrev taps (c : Dev nD) : Arr 3 5632 := m ((c : Thread nD τ).loc main_arg2)
abbrev biases (c : Dev nD) : Arr 1 5632 := m ((c : Thread nD τ).loc main_arg3)

theorem index0 : ∀ t : Fin cfg0.N, win0_0.index t 0 = 0 ∧ win0_0.index t 1 = t.val := by decide +kernel
theorem index1 : ∀ t : Fin cfg0.N, win0_1.index t 0 = 0 ∧ win0_1.index t 1 = 22 + t.val := by decide +kernel
theorem index2 : ∀ t : Fin cfg0.N, win0_2.index t 0 = 0 ∧ win0_2.index t 1 = t.val := by decide +kernel
theorem index3 : ∀ t : Fin cfg0.N, win0_3.index t 0 = 0 ∧ win0_3.index t 1 = 22 + t.val := by decide +kernel
theorem index4 : ∀ t : Fin cfg0.N, win0_4.index t 0 = 0 ∧ win0_4.index t 1 = t.val := by decide +kernel
theorem index5 : ∀ t : Fin cfg0.N, win0_5.index t 0 = 0 ∧ win0_5.index t 1 = 22 + t.val := by decide +kernel
theorem index6 : ∀ t : Fin cfg0.N, win0_6.index t 0 = 0 ∧ win0_6.index t 1 = t.val := by decide +kernel
theorem index7 : ∀ t : Fin cfg0.N, win0_7.index t 0 = t.val ∧ win0_7.index t 1 = 0 := by decide +kernel

/-- The weight's columns of the first half. -/
theorem iblk0 (t : Fin cfg0.N) (k : Fin 1024) (q : Fin 128) (hj : 128 * t.val + q.val < 5632) :
    (iblk m c 0 t : Vec Ideal S1024x128 .bf16) (ix2 k q) = weight m c (ix2 k ⟨128 * t.val + q.val, hj⟩) := by
  unfold iblk
  rw [View.read_apply]
  show V m c main_arg1 _ = _
  rw [V_main_arg1]
  congr 1
  exact ext2 (by show win0_0.index t 0 * 1024 + 1 * k.val = k.val; rw [(index0 t).1]; omega) (by show win0_0.index t 1 * 128 + 1 * q.val = 128 * t.val + q.val; rw [(index0 t).2]; omega)

/-- Those of the second. -/
theorem iblk1 (t : Fin cfg0.N) (k : Fin 1024) (q : Fin 128) (hj : 2816 + (128 * t.val + q.val) < 5632) :
    (iblk m c 1 t : Vec Ideal S1024x128 .bf16) (ix2 k q) = weight m c (ix2 k ⟨2816 + (128 * t.val + q.val), hj⟩) := by
  unfold iblk
  rw [View.read_apply]
  show V m c main_arg1 _ = _
  rw [V_main_arg1]
  congr 1
  exact ext2 (by show win0_1.index t 0 * 1024 + 1 * k.val = k.val; rw [(index1 t).1]; omega) (by show win0_1.index t 1 * 128 + 1 * q.val = 2816 + (128 * t.val + q.val); rw [(index1 t).2]; omega)

/-- The taps of the first half. -/
theorem iblk2 (t : Fin cfg0.N) (k : Fin 3) (q : Fin 128) (hj : 128 * t.val + q.val < 5632) :
    (iblk m c 2 t : Vec Ideal S3x128 .f32) (ix2 k q) = taps m c (ix2 k ⟨128 * t.val + q.val, hj⟩) := by
  unfold iblk
  rw [View.read_apply]
  show V m c main_arg2 _ = _
  rw [V_main_arg2]
  congr 1
  exact ext2 (by show win0_2.index t 0 * 3 + 1 * k.val = k.val; rw [(index2 t).1]; omega) (by show win0_2.index t 1 * 128 + 1 * q.val = 128 * t.val + q.val; rw [(index2 t).2]; omega)

/-- Those of the second. -/
theorem iblk3 (t : Fin cfg0.N) (k : Fin 3) (q : Fin 128) (hj : 2816 + (128 * t.val + q.val) < 5632) :
    (iblk m c 3 t : Vec Ideal S3x128 .f32) (ix2 k q) = taps m c (ix2 k ⟨2816 + (128 * t.val + q.val), hj⟩) := by
  unfold iblk
  rw [View.read_apply]
  show V m c main_arg2 _ = _
  rw [V_main_arg2]
  congr 1
  exact ext2 (by show win0_3.index t 0 * 3 + 1 * k.val = k.val; rw [(index3 t).1]; omega) (by show win0_3.index t 1 * 128 + 1 * q.val = 2816 + (128 * t.val + q.val); rw [(index3 t).2]; omega)

/-- The biases of the first half. -/
theorem iblk4 (t : Fin cfg0.N) (k : Fin 1) (q : Fin 128) (hj : 128 * t.val + q.val < 5632) :
    (iblk m c 4 t : Vec Ideal S1x128 .f32) (ix2 k q) = biases m c (ix2 k ⟨128 * t.val + q.val, hj⟩) := by
  unfold iblk
  rw [View.read_apply]
  show V m c main_arg3 _ = _
  rw [V_main_arg3]
  congr 1
  exact ext2 (by show win0_4.index t 0 * 1 + 1 * k.val = k.val; rw [(index4 t).1]; omega) (by show win0_4.index t 1 * 128 + 1 * q.val = 128 * t.val + q.val; rw [(index4 t).2]; omega)

/-- Those of the second. -/
theorem iblk5 (t : Fin cfg0.N) (k : Fin 1) (q : Fin 128) (hj : 2816 + (128 * t.val + q.val) < 5632) :
    (iblk m c 5 t : Vec Ideal S1x128 .f32) (ix2 k q) = biases m c (ix2 k ⟨2816 + (128 * t.val + q.val), hj⟩) := by
  unfold iblk
  rw [View.read_apply]
  show V m c main_arg3 _ = _
  rw [V_main_arg3]
  congr 1
  exact ext2 (by show win0_5.index t 0 * 1 + 1 * k.val = k.val; rw [(index5 t).1]; omega) (by show win0_5.index t 1 * 128 + 1 * q.val = 2816 + (128 * t.val + q.val); rw [(index5 t).2]; omega)

/-- The rows stay where the first point copied them. -/
theorem kept : ∀ (n : ℕ) (h : n < cfg0.N), (outsAt0 m c n h).2.2 = hidden m c
  | 0, h => by
    have e := outsAt0_A m c ⟨0, h⟩ rfl
    rw [show outsAt0 m c 0 h = _ from e]
    dsimp only
    rw [scratchA, V_main_arg0]
  | n + 1, h => by
    have hn : n + 1 < 22 := lt_of_lt_of_eq h N_0
    have h0 : ¬(n + 1) % 22 = 0 := by omega
    have e := outsAt0_B m c ⟨n + 1, h⟩ h0
    rw [show outsAt0 m c (n + 1) h = _ from e]
    dsimp only
    unfold sout0_B_0
    exact kept n (Nat.lt_of_succ_lt h)

/-- What a point computes of the arrays. -/
theorem act_written (t : Fin cfg0.N) (r : Fin 4096) (q : Fin 128) (h1 : 128 * t.val + q.val < 2816) :
    act (hidden m c) (iblk m c 0 t) (iblk m c 1 t) (iblk m c 2 t) (iblk m c 3 t) (iblk m c 4 t) (iblk m c 5 t) (ix2 r q)
      = gated (hidden m c) (weight m c) (taps m c) (biases m c) (ix2 r ⟨128 * t.val + q.val, h1⟩) := by
  rw [act_apply]
  simp only [iblk0 c m t _ q (by omega), iblk1 c m t _ q (by omega), iblk2 c m t _ q (by omega), iblk3 c m t _ q (by omega), iblk4 c m t _ q (by omega), iblk5 c m t _ q (by omega)]
  rfl

/-- What a point writes of each result. -/
theorem both (t : Fin cfg0.N) : (outsAt0 m c t.val t.isLt).1 = truncf .bf16 (act (hidden m c) (iblk m c 0 t) (iblk m c 1 t) (iblk m c 2 t) (iblk m c 3 t) (iblk m c 4 t) (iblk m c 5 t)) bitsLt_bf16_f32
    ∧ (outsAt0 m c t.val t.isLt).2.1 = k0_pay1 (act (hidden m c) (iblk m c 0 t) (iblk m c 1 t) (iblk m c 2 t) (iblk m c 3 t) (iblk m c 4 t) (iblk m c 5 t)) := by
  by_cases h0 : t.val % 22 = 0
  · rw [outsAt0_A m c t h0]
    dsimp only
    rw [blockA6, blockA7, V_main_arg0]
    exact ⟨rfl, rfl⟩
  · rw [outsAt0_B m c t h0]
    dsimp only
    rw [blockB6, blockB7, kept]
    exact ⟨rfl, rfl⟩

theorem written6 (t : Fin cfg0.N) (r : Fin 4096) (q : Fin 128) (h1 : 128 * t.val + q.val < 2816) :
    (outsAt0 m c t.val t.isLt).1 (ix2 r q) = gated (hidden m c) (weight m c) (taps m c) (biases m c) (ix2 r ⟨128 * t.val + q.val, h1⟩) := by
  rw [(both c m t).1, narrow_apply, act_written]

theorem written7 (t : Fin cfg0.N) (r : Fin 4096) (q : Fin 128) (h1 : 128 * t.val + q.val < 2816) :
    (outsAt0 m c t.val t.isLt).2.1 (ix2 q r) = gatedTurned (hidden m c) (weight m c) (taps m c) (biases m c) (ix2 ⟨128 * t.val + q.val, h1⟩ r) := by
  rw [(both c m t).2, pay1_apply, act_written]
  rfl

/-- The gated columns. -/
theorem result6 : (dats m 0 c).arrAt 6 cfg0.N = gated (hidden m c) (weight m c) (taps m c) (biases m c) :=
  (dats m 0 c).arrAt_eq_of_cover 6 (gated (hidden m c) (weight m c) (taps m c) (biases m c)) (fun t hf => by
    have hN : t.val < 22 := lt_of_lt_of_eq t.isLt N_0
    rw [Value.flushed6]
    funext y
    obtain ⟨r, q, rfl⟩ : ∃ (r : Fin 4096) (q : Fin 128), y = ix2 r q := pairs y
    refine Eq.trans (show _ = (outsAt0 m c t.val t.isLt).1 (ix2 r q) from rfl) ?_
    rw [written6 c m t r q (by omega), View.read_apply]
    show gated (hidden m c) (weight m c) (taps m c) (biases m c) (ix2 r ⟨128 * t.val + q.val, by omega⟩) = gated (hidden m c) (weight m c) (taps m c) (biases m c) _
    congr 1
    exact ext2 (by show r.val = win0_6.index t 0 * 4096 + 1 * r.val; rw [(index6 t).1]; omega) (by show 128 * t.val + q.val = win0_6.index t 1 * 128 + 1 * q.val; rw [(index6 t).2]; omega)) fun i => by
    have h0 : (i 0).val < 4096 := (i 0).isLt
    have h1 : (i 1).val < 2816 := (i 1).isLt
    have ht : (i 1).val / 128 < cfg0.N := by rw [show cfg0.N = 22 from N_0]; omega
    obtain ⟨t, e⟩ : ∃ t : Fin cfg0.N, t.val = (i 1).val / 128 := ⟨⟨_, ht⟩, rfl⟩
    refine ⟨t, flush0_6 t, ?_⟩
    show i ∈ ((View.whole main_v0_0).slice (win0_6.rect t)).set
    rw [View.set_slice_whole, Rect.mem_set_unit]
    intro a
    match a with
    | ⟨0, _⟩ =>
      show win0_6.index t 0 * 4096 ≤ (i 0).val ∧ (i 0).val < win0_6.index t 0 * 4096 + 4096
      rw [(index6 t).1]; omega
    | ⟨1, _⟩ =>
      show win0_6.index t 1 * 128 ≤ (i 1).val ∧ (i 1).val < win0_6.index t 1 * 128 + 128
      rw [(index6 t).2]; omega

/-- The same with rows and columns exchanged. -/
theorem result7 : (dats m 0 c).arrAt 7 cfg0.N = gatedTurned (hidden m c) (weight m c) (taps m c) (biases m c) :=
  (dats m 0 c).arrAt_eq_of_cover 7 (gatedTurned (hidden m c) (weight m c) (taps m c) (biases m c)) (fun t hf => by
    have hN : t.val < 22 := lt_of_lt_of_eq t.isLt N_0
    rw [Value.flushed7]
    funext y
    obtain ⟨r, q, rfl⟩ : ∃ (r : Fin 128) (q : Fin 4096), y = ix2 r q := pairs y
    refine Eq.trans (show _ = (outsAt0 m c t.val t.isLt).2.1 (ix2 r q) from rfl) ?_
    rw [written7 c m t q r (by omega), View.read_apply]
    show gatedTurned (hidden m c) (weight m c) (taps m c) (biases m c) (ix2 ⟨128 * t.val + r.val, by omega⟩ q) = gatedTurned (hidden m c) (weight m c) (taps m c) (biases m c) _
    congr 1
    exact ext2 (by show 128 * t.val + r.val = win0_7.index t 0 * 128 + 1 * r.val; rw [(index7 t).1]; omega) (by show q.val = win0_7.index t 1 * 4096 + 1 * q.val; rw [(index7 t).2]; omega)) fun i => by
    have h0 : (i 0).val < 2816 := (i 0).isLt
    have h1 : (i 1).val < 4096 := (i 1).isLt
    have ht : (i 0).val / 128 < cfg0.N := by rw [show cfg0.N = 22 from N_0]; omega
    obtain ⟨t, e⟩ : ∃ t : Fin cfg0.N, t.val = (i 0).val / 128 := ⟨⟨_, ht⟩, rfl⟩
    refine ⟨t, flush0_7 t, ?_⟩
    show i ∈ ((View.whole main_v0_1).slice (win0_7.rect t)).set
    rw [View.set_slice_whole, Rect.mem_set_unit]
    intro a
    match a with
    | ⟨0, _⟩ =>
      show win0_7.index t 0 * 128 ≤ (i 0).val ∧ (i 0).val < win0_7.index t 0 * 128 + 128
      rw [(index7 t).1]; omega
    | ⟨1, _⟩ =>
      show win0_7.index t 1 * 4096 ≤ (i 1).val ∧ (i 1).val < win0_7.index t 1 * 4096 + 4096
      rw [(index7 t).2]; omega

end Cert.GateIdeal.Sums
-- ==== Proof.Layers.GateReference.lean ====
/-
  The reference's gated columns are those the kernel computes.
-/
module

public import proofs.«01_k».proof.Defs
public import proofs.«01_k».proof.Proof.Layers.Gate
public import proofs.«01_k».proof.Proof.Gen.GateIdeal
public import proofs.«01_k».proof.Proof.Gen.GateRefIdeal
public import proofs.«01_k».proof.Proof.Gen.GateRefIdeal.Run
public import proofs.«01_k».proof.Proof.Gen.GateRefIdeal.Read
public import Idealize.ShloMosaic.Adequacy

@[expose] public section

set_option maxRecDepth 16384

noncomputable section

namespace Cert.GateRefIdeal.Sums

open Idealize.ShloMosaic Idealize.SL.Sem Cert.Layers

theorem product_apply (x0 : Arr 4096 1024) (x1 : Arr 1024 5632) (r : Fin 4096) (j : Fin 5632) : Read.val_main_v2 (F := Ideal) x0 x1 (ix2 r j) = upColumn x0 x1 j r := by
  unfold upColumn
  pointwise [Read.val_main_v2, Read.val_main_v1, Read.val_main_v0]

/-- The product under two rows of zeros. -/
theorem padded_apply (x0 : Arr 4096 1024) (x1 : Arr 1024 5632) (r : Fin 4098) (j : Fin 5632) : Read.val_main_v4 (F := Ideal) x0 x1 (ix2 r j)
    = if h : r.val < 2 then 0 else upColumn x0 x1 j ⟨r.val - 2, by omega⟩ := by
  split_ifs with h
  · pointwise [Read.val_main_v4, Read.val_main_v3, Read.val_main_cst]
    rw [dif_pos h]
  · rw [← product_apply]
    generalize hy : Read.val_main_v2 (F := Ideal) x0 x1 = y
    unfold Read.val_main_v4
    rw [hy]
    pointwise
    rw [dif_neg h]

theorem taken0 (x0 : Arr 4096 1024) (x1 : Arr 1024 5632) (r : Fin 4096) (j : Fin 5632) : Read.val_main_v5 (F := Ideal) x0 x1 (ix2 r j) = shifted 2 (upColumn x0 x1 j) r := by
  refine Eq.trans (?_ : _ = Read.val_main_v4 (F := Ideal) x0 x1 (ix2 ⟨r.val, by omega⟩ j)) ?_
  · unfold Read.val_main_v5
    generalize Read.val_main_v4 (F := Ideal) x0 x1 = y
    pointwise
  · rw [padded_apply]
    unfold shifted
    dsimp only
    split_ifs <;> first | rfl | omega

theorem taken1 (x0 : Arr 4096 1024) (x1 : Arr 1024 5632) (r : Fin 4096) (j : Fin 5632) : Read.val_main_v13 (F := Ideal) x0 x1 (ix2 r j) = shifted 1 (upColumn x0 x1 j) r := by
  refine Eq.trans (?_ : _ = Read.val_main_v4 (F := Ideal) x0 x1 (ix2 ⟨1 + r.val, by omega⟩ j)) ?_
  · unfold Read.val_main_v13
    generalize Read.val_main_v4 (F := Ideal) x0 x1 = y
    pointwise
  · rw [padded_apply]
    unfold shifted
    dsimp only
    split_ifs <;> first | rfl | omega | (congr 1; apply Fin.ext; show 1 + r.val - 2 = r.val - 1; omega)

theorem taken2 (x0 : Arr 4096 1024) (x1 : Arr 1024 5632) (r : Fin 4096) (j : Fin 5632) : Read.val_main_v20 (F := Ideal) x0 x1 (ix2 r j) = upColumn x0 x1 j r := by
  refine Eq.trans (?_ : _ = Read.val_main_v4 (F := Ideal) x0 x1 (ix2 ⟨2 + r.val, by omega⟩ j)) ?_
  · unfold Read.val_main_v20
    generalize Read.val_main_v4 (F := Ideal) x0 x1 = y
    pointwise
  · rw [padded_apply, dif_neg (by show ¬(2 + r.val < 2); omega)]
    congr 1
    apply Fin.ext
    show 2 + r.val - 2 = r.val
    omega

/-- Every column convolved. -/
theorem branch_apply (x0 : Arr 4096 1024) (x1 : Arr 1024 5632) (x2 : Arr 3 5632) (x3 : Arr 1 5632) (r : Fin 4096) (j : Fin 5632) : Read.val_main_v26 (F := Ideal) x0 x1 x2 x3 (ix2 r j) = branch x0 x1 x2 x3 j r := by
  unfold branch convolved
  rw [← taken0, ← taken1, ← taken2]
  unfold Read.val_main_v26 Read.val_main_v25 Read.val_main_v19 Read.val_main_v18 Read.val_main_v12 Read.val_main_v10
  generalize Read.val_main_v5 (F := Ideal) x0 x1 = y5
  generalize Read.val_main_v13 (F := Ideal) x0 x1 = y13
  generalize Read.val_main_v20 (F := Ideal) x0 x1 = y20
  pointwise [Read.val_main_v24, Read.val_main_v23, Read.val_main_v22, Read.val_main_v21, Read.val_main_v17, Read.val_main_v16, Read.val_main_v15, Read.val_main_v14, Read.val_main_v11, Read.val_main_v9, Read.val_main_v8, Read.val_main_v7, Read.val_main_v6]

/-- The gated columns. -/
theorem gated_apply (x0 : Arr 4096 1024) (x1 : Arr 1024 5632) (x2 : Arr 3 5632) (x3 : Arr 1 5632) (r : Fin 4096) (q : Fin 2816) : Read.val_main_v43 (F := Ideal) x0 x1 x2 x3 (ix2 r q) = gated x0 x1 x2 x3 (ix2 r q) := by
  have l : Read.val_main_v27 (F := Ideal) x0 x1 x2 x3 (ix2 r q) = branch x0 x1 x2 x3 ⟨q.val, by omega⟩ r := by
    rw [← branch_apply]
    unfold Read.val_main_v27
    generalize Read.val_main_v26 (F := Ideal) x0 x1 x2 x3 = y
    pointwise
  have rr : Read.val_main_v41 (F := Ideal) x0 x1 x2 x3 (ix2 r q) = branch x0 x1 x2 x3 ⟨2816 + q.val, by omega⟩ r := by
    rw [← branch_apply]
    unfold Read.val_main_v41
    generalize Read.val_main_v26 (F := Ideal) x0 x1 x2 x3 = y
    pointwise
  show _ = activated (branch x0 x1 x2 x3 ⟨q.val, by omega⟩ r) * branch x0 x1 x2 x3 ⟨2816 + q.val, by omega⟩ r
  rw [← l, ← rr]
  unfold activated Read.val_main_v43 Read.val_main_v42 Read.val_main_v40 Read.val_main_v39 Read.val_main_v37 Read.val_main_v35 Read.val_main_v34 Read.val_main_v32 Read.val_main_v31 Read.val_main_v29 Read.val_main_v28
  generalize Read.val_main_v27 (F := Ideal) x0 x1 x2 x3 = y
  generalize Read.val_main_v41 (F := Ideal) x0 x1 x2 x3 = z
  rw [mul_comm (y (ix2 r q)) (y (ix2 r q) * y (ix2 r q))]
  pointwise [Read.val_main_v38, Read.val_main_v36, Read.val_main_v33, Read.val_main_v30, Read.val_main_cst_0, Read.val_main_cst_1, Read.val_main_cst_2, Read.val_main_cst_3]

theorem value (x0 : Arr 4096 1024) (x1 : Arr 1024 5632) (x2 : Arr 3 5632) (x3 : Arr 1 5632) : Read.val_main_v43 (F := Ideal) x0 x1 x2 x3 = gated x0 x1 x2 x3 := by
  funext i
  obtain ⟨r, q, rfl⟩ : ∃ (r : Fin 4096) (q : Fin 2816), i = ix2 r q := pairs i
  exact gated_apply x0 x1 x2 x3 r q

theorem turned_value (x0 : Arr 4096 1024) (x1 : Arr 1024 5632) (x2 : Arr 3 5632) (x3 : Arr 1 5632) : Read.val_main_v45 (F := Ideal) x0 x1 x2 x3 = gatedTurned x0 x1 x2 x3 := by
  funext i
  obtain ⟨q, r, rfl⟩ : ∃ (q : Fin 2816) (r : Fin 4096), i = ix2 q r := pairs i
  show _ = gated x0 x1 x2 x3 (ix2 r q)
  rw [← gated_apply]
  unfold Read.val_main_v45 Read.val_main_v44 Read.val_main_v43
  generalize Read.val_main_v42 (F := Ideal) x0 x1 x2 x3 = y
  pointwise

/-- The reference ends with its arguments unchanged and, having no semaphore, with every counter at zero. -/
theorem frame : Cert.quiescent_GateRefIdeal (hGateRefIdeal := Gen.facts) := fun m ρ _ =>
  (θ_run Cert.GateRefIdeal.defs _ _).mono (fun r h => ⟨fun c => (h c).2.2, sem_eq_zero_of_no_sems (by decide) r.2⟩) (Value.run m ρ)

/-- From arrays that agree, the results are one. -/
theorem agreeing (a0 : Arr 4096 1024) (a1 : Arr 1024 5632) (a2 : Arr 3 5632) (a3 : Arr 1 5632) (b0 : Arr 4096 1024) (b1 : Arr 1024 5632) (b2 : Arr 3 5632) (b3 : Arr 1 5632)
    (e : b0 = a0 ∧ b1 = a1 ∧ b2 = a2 ∧ b3 = a3) :
    Read.val_main_v43 (F := Ideal) b0 b1 b2 b3 = gated a0 a1 a2 a3 ∧ Read.val_main_v45 (F := Ideal) b0 b1 b2 b3 = gatedTurned a0 a1 a2 a3 := by
  obtain ⟨e0, e1, e2, e3⟩ := e
  subst e0 e1 e2 e3
  exact ⟨value _ _ _ _, turned_value _ _ _ _⟩

/-- The kernel's results are the reference's. -/
theorem equation : Cert.algebraic_GateIdeal_GateRefIdeal (hGateIdeal := Cert.GateIdeal.Gen.facts) (hGateRefIdeal := Gen.facts) := by
  intro m ρ m' ρ' _ agree
  refine ⟨fun c => (Cert.GateIdeal.Gen.dats m 0 c).arrAt 6 Cert.GateIdeal.cfg0.N, fun c => (Cert.GateIdeal.Gen.dats m 0 c).arrAt 7 Cert.GateIdeal.cfg0.N,
    Cert.GateIdeal.Value.run_blocks m ρ, ?_⟩
  refine (θ_run Cert.GateRefIdeal.defs _ _).mono (fun r h c => ?_) (Value.run m' ρ')
  have e := agreeing _ _ _ _ _ _ _ _ (agree c)
  obtain ⟨h0, h1, hargs⟩ := h c
  exact ⟨((h0.trans (Read.val_main_v43_eq _ _)).trans e.1).trans (Cert.GateIdeal.Sums.result6 c m).symm,
    ((h1.trans (Read.val_main_v45_eq _ _)).trans e.2).trans (Cert.GateIdeal.Sums.result7 c m).symm, hargs⟩

end Cert.GateRefIdeal.Sums
-- ==== Proof.Layers.Attend.lean ====
/-
  The cross attention's forward pass: the queries' product, and for each of four heads the softmax of a row's logits over the memory and the sum of the memory's values it weighs.
-/
module

public import proofs.«01_k».proof.Proof.Products.Sum
public import proofs.«01_k».proof.Proof.Gen.AttendIdeal.Value

@[expose] public section

set_option maxRecDepth 16384

noncomputable section

namespace Cert.AttendIdeal.Sums

open Idealize.ShloMosaic Idealize.ShloMosaic.TcCoe
open Cert.AttendIdeal Cert.AttendIdeal.Gen Cert.Products

theorem origin : (![0, 0] : Fin 2 → Nat) = fun _ => 0 := funext fun a => by fin_cases a <;> rfl

/-- A row's greatest logit. -/
def top (f : Fin 256 → EReal) : EReal := Finset.fold max (Ideal.ofBits .f32 0xFF800000#32) f Finset.univ

/-- The softmax of a row. -/
def soft (f : Fin 256 → EReal) (m : Fin 256) : EReal := Ideal.div (Ideal.exp (f m - top f)) (∑ n, Ideal.exp (f n - top f))

/-- The scaled logit of a query and a key. -/
def logits (q : Fin 256 → EReal) (k : Fin 256 → Fin 256 → EReal) (m : Fin 256) : EReal := (∑ e, q e * k m e) * Ideal.ofBits .f32 0x3D800000#32

/-- The values weighed by the softmax of the logits. -/
def weighed (q : Fin 256 → EReal) (k : Fin 256 → Fin 256 → EReal) (v : Fin 256 → EReal) : EReal := ∑ m, soft (logits q k) m * v m

/-- A row times a column of the queries' weight. -/
def query {n : ℕ} (x : Arr n 1024) (w : Arr 1024 1024) (r : Fin n) (j : ℕ) : EReal :=
  ∑ k : Fin 1024, x (ix2 r k) * at2 w k.val j

/-- The attention: column `j` belongs to head `j / 256`; the keys are the memory's first 1024 columns, the values its last. -/
def entry {n : ℕ} (x : Arr n 1024) (w : Arr 1024 1024) (kv : Arr 256 2048)
    (r : Fin n) (j : ℕ) : EReal :=
  weighed (fun e => query x w r (256 * (j / 256) + e.val)) (fun m e => at2 kv m.val (256 * (j / 256) + e.val)) (fun m => at2 kv m.val (1024 + j))

def attended (x : Arr 4096 1024) (w : Arr 1024 1024) (kv : Arr 256 2048) :
    Arr 4096 1024 := fun i => entry x w kv (i 0) (i 1).val

theorem pay2_apply (x0 : Vec Ideal S512x1024 .bf16) (x1 : Vec Ideal S1024x1024 .bf16) (r : Fin 512) (j : Fin 1024) :
    (k0_pay2 x0 x1 : FVec Ideal S512x1024 .f32) (ix2 r j) = query x0 x1 r j.val := by
  unfold query
  simp only [at2_of_lt _ (Fin.isLt _) j.isLt]
  pointwise [k0_pay2]

/-- One head of a block. -/
theorem pay1_apply (v : Vec Ideal S256x256 .f32) (q : FVec Ideal S512x256 .bf16) (k : FVec Ideal S256x256 .bf16) (r : Fin 512) (d : Fin 256) :
    (k0_pay1 v q k : FVec Ideal S512x256 .bf16) (ix2 r d) = weighed (fun e => q (ix2 r e)) (fun m e => k (ix2 m e)) (fun m => v (ix2 m d)) := by
  pointwise [k0_pay1]
  rfl

theorem pay7_apply (q : FVec Ideal S512x1024 .f32) (k v : Vec Ideal S256x256 .f32) (r : Fin 512) (d : Fin 256) :
    (k0_pay7 q k v : FVec Ideal S512x256 .bf16) (ix2 r d)
      = weighed (fun e => q (ix2 r ⟨512 + e.val, by omega⟩)) (fun m e => k (ix2 m e)) (fun m => v (ix2 m d)) := by
  pointwise [k0_pay7]
  rfl

theorem pay3_apply (x0 : Vec Ideal S512x1024 .bf16) (x1 : Vec Ideal S1024x1024 .bf16) (k v : Vec Ideal S256x256 .f32) (r : Fin 512) (d : Fin 256) :
    (k0_pay3 x0 x1 k v : FVec Ideal S512x256 .bf16) (ix2 r d)
      = weighed (fun e => (k0_pay2 x0 x1 : FVec Ideal S512x1024 .f32) (ix2 r ⟨e.val, by omega⟩)) (fun m e => k (ix2 m e)) (fun m => v (ix2 m d)) := by
  unfold k0_pay3
  generalize (k0_pay2 x0 x1 : FVec Ideal S512x1024 .f32) = q
  pointwise
  rfl

theorem pay6_apply (x0 : Vec Ideal S512x1024 .bf16) (x1 : Vec Ideal S1024x1024 .bf16) (k v : Vec Ideal S256x256 .f32) (r : Fin 512) (d : Fin 256) :
    (k0_pay6 v (k0_pay4 x0 x1 k) (k0_pay5 x0 x1 k) : FVec Ideal S512x256 .bf16) (ix2 r d)
      = weighed (fun e => (k0_pay2 x0 x1 : FVec Ideal S512x1024 .f32) (ix2 r ⟨256 + e.val, by omega⟩)) (fun m e => k (ix2 m e)) (fun m => v (ix2 m d)) := by
  unfold k0_pay6 k0_pay5 k0_pay4
  generalize (k0_pay2 x0 x1 : FVec Ideal S512x1024 .f32) = q
  pointwise
  rfl

theorem pay8_apply (q : FVec Ideal S512x1024 .f32) (r : Fin 512) (e : Fin 256) :
    (k0_pay8 q : FVec Ideal S512x256 .bf16) (ix2 r e) = q (ix2 r ⟨768 + e.val, by omega⟩) := by
  pointwise [k0_pay8]

theorem pay9_apply (k : Vec Ideal S256x256 .f32) (m e : Fin 256) : (k0_pay9 k : FVec Ideal S256x256 .bf16) (ix2 m e) = k (ix2 m e) := by
  pointwise [k0_pay9]

/-! The heads' keys and values. -/

theorem cols0 (x : Vec Ideal S256x2048 .f32) (m e : Fin 256) : (View.ld x r0_2 : Vec Ideal S256x256 .f32) (ix2 m e) = at2 x m.val (0 + e.val) := by
  rw [at2_of_lt _ m.isLt (by omega)]
  unfold View.ld
  congr 1
  exact ext2 (by show 0 + 1 * m.val = m.val; omega) (by show 0 + 1 * e.val = 0 + e.val; omega)

theorem cols1024 (x : Vec Ideal S256x2048 .f32) (m e : Fin 256) : (View.ld x r0_3 : Vec Ideal S256x256 .f32) (ix2 m e) = at2 x m.val (1024 + e.val) := by
  rw [at2_of_lt _ m.isLt (by omega)]
  unfold View.ld
  congr 1
  exact ext2 (by show 0 + 1 * m.val = m.val; omega) (by show 1024 + 1 * e.val = 1024 + e.val; omega)

theorem cols256 (x : Vec Ideal S256x2048 .f32) (m e : Fin 256) : (View.ld x r0_5 : Vec Ideal S256x256 .f32) (ix2 m e) = at2 x m.val (256 + e.val) := by
  rw [at2_of_lt _ m.isLt (by omega)]
  unfold View.ld
  congr 1
  exact ext2 (by show 0 + 1 * m.val = m.val; omega) (by show 256 + 1 * e.val = 256 + e.val; omega)

theorem cols1280 (x : Vec Ideal S256x2048 .f32) (m e : Fin 256) : (View.ld x r0_6 : Vec Ideal S256x256 .f32) (ix2 m e) = at2 x m.val (1280 + e.val) := by
  rw [at2_of_lt _ m.isLt (by omega)]
  unfold View.ld
  congr 1
  exact ext2 (by show 0 + 1 * m.val = m.val; omega) (by show 1280 + 1 * e.val = 1280 + e.val; omega)

theorem cols512 (x : Vec Ideal S256x2048 .f32) (m e : Fin 256) : (View.ld x r0_8 : Vec Ideal S256x256 .f32) (ix2 m e) = at2 x m.val (512 + e.val) := by
  rw [at2_of_lt _ m.isLt (by omega)]
  unfold View.ld
  congr 1
  exact ext2 (by show 0 + 1 * m.val = m.val; omega) (by show 512 + 1 * e.val = 512 + e.val; omega)

theorem cols1536 (x : Vec Ideal S256x2048 .f32) (m e : Fin 256) : (View.ld x r0_9 : Vec Ideal S256x256 .f32) (ix2 m e) = at2 x m.val (1536 + e.val) := by
  rw [at2_of_lt _ m.isLt (by omega)]
  unfold View.ld
  congr 1
  exact ext2 (by show 0 + 1 * m.val = m.val; omega) (by show 1536 + 1 * e.val = 1536 + e.val; omega)

theorem cols768 (x : Vec Ideal S256x2048 .f32) (m e : Fin 256) : (View.ld x r0_11 : Vec Ideal S256x256 .f32) (ix2 m e) = at2 x m.val (768 + e.val) := by
  rw [at2_of_lt _ m.isLt (by omega)]
  unfold View.ld
  congr 1
  exact ext2 (by show 0 + 1 * m.val = m.val; omega) (by show 768 + 1 * e.val = 768 + e.val; omega)

theorem cols1792 (x : Vec Ideal S256x2048 .f32) (m e : Fin 256) : (View.ld x r0_12 : Vec Ideal S256x256 .f32) (ix2 m e) = at2 x m.val (1792 + e.val) := by
  rw [at2_of_lt _ m.isLt (by omega)]
  unfold View.ld
  congr 1
  exact ext2 (by show 0 + 1 * m.val = m.val; omega) (by show 1792 + 1 * e.val = 1792 + e.val; omega)

/-- A column of another head's strip. -/
theorem off_strip (o : ℕ) (h : ∀ a, ![0, o] a + S512x256.size a ≤ S512x1024.size a) (w : FVec Ideal S512x256 .bf16) (L : List (View.Piece (Elt Ideal) S512x1024 .bf16))
    (r : Fin 512) (j : Fin 1024) (hj : j.val < o ∨ o + 256 ≤ j.val) :
    View.canon (⟨Rect.unit (s := S512x1024) ![0, o] S512x256.size h, w⟩ :: L) (ix2 r j) = View.canon L (ix2 r j) := by
  refine View.canon_cons_of_not_mem _ _ ?_
  rw [Rect.mem_set_unit]
  intro hm
  have := hm ⟨1, by decide⟩
  have h1 : o ≤ j.val := this.1
  have h2 : j.val < o + 256 := this.2
  omega

/-- A column of the strip. -/
theorem on_strip (o : ℕ) (h : ∀ a, ![0, o] a + S512x256.size a ≤ S512x1024.size a) (w : FVec Ideal S512x256 .bf16) (L : List (View.Piece (Elt Ideal) S512x1024 .bf16))
    (r : Fin 512) (d : Fin 256) (hd : o + d.val < 1024) :
    View.canon (⟨Rect.unit (s := S512x1024) ![0, o] S512x256.size h, w⟩ :: L) (ix2 r ⟨o + d.val, hd⟩) = w (ix2 r d) := by
  refine Eq.trans ?_ (View.canon_cons_emb (Rect.unit (s := S512x1024) ![0, o] S512x256.size h) w L (ix2 r d))
  congr 1
  exact ext2 (by show r.val = 0 + 1 * r.val; omega) (by show o + d.val = o + 1 * d.val; omega)

theorem query_at (x0 : Vec Ideal S512x1024 .bf16) (x1 : Vec Ideal S1024x1024 .bf16) (r : Fin 512) (j n : ℕ) (h : j < 1024) (e : j = n) :
    (k0_pay2 x0 x1 : FVec Ideal S512x1024 .f32) (ix2 r ⟨j, h⟩) = query x0 x1 r n := by
  subst e
  exact pay2_apply x0 x1 r ⟨j, h⟩

/-- A point's block. -/
theorem block (x0 : Vec Ideal S512x1024 .bf16) (x1 : Vec Ideal S1024x1024 .bf16) (x2 : Vec Ideal S256x2048 .f32) (r : Fin 512) (j : Fin 1024) :
    out0_3 x0 x1 x2 (ix2 r j) = entry x0 x1 x2 r j.val := by
  have hj := j.isLt
  unfold out0_3 k0_pay10 entry
  simp only [View.ld_unit_zero (S := S512x1024) origin, View.ld_unit_zero (S := S1024x1024) origin]
  by_cases h768 : 768 ≤ j.val
  · obtain ⟨d, hd, rfl⟩ : ∃ (d : Fin 256) (hd : 768 + d.val < 1024), j = ⟨768 + d.val, hd⟩ := ⟨⟨j.val - 768, by omega⟩, by show 768 + (j.val - 768) < 1024; omega, Fin.ext (by show j.val = 768 + (j.val - 768); omega)⟩
    rw [on_strip 768]
    have hq : (768 + d.val) / 256 = 3 := by have := d.isLt; omega
    dsimp only
    rw [pay1_apply, hq]
    simp only [pay8_apply, pay9_apply]
    refine congr (congr (congrArg weighed (funext fun e => ?_)) (funext fun m => funext fun e => ?_)) (funext fun m => ?_)
    · exact query_at x0 x1 r _ _ _ (by omega)
    · exact cols768 x2 m e
    · exact (cols1792 x2 m d).trans (congrArg (at2 x2 m.val) (by omega))
  rw [off_strip 768 _ _ _ _ _ (by omega)]
  by_cases h512 : 512 ≤ j.val
  · obtain ⟨d, hd, rfl⟩ : ∃ (d : Fin 256) (hd : 512 + d.val < 1024), j = ⟨512 + d.val, hd⟩ := ⟨⟨j.val - 512, by omega⟩, by show 512 + (j.val - 512) < 1024; omega, Fin.ext (by show j.val = 512 + (j.val - 512); omega)⟩
    rw [on_strip 512]
    have hq : (512 + d.val) / 256 = 2 := by have := d.isLt; omega
    dsimp only
    rw [pay7_apply, hq]
    show weighed _ _ _ = weighed _ _ _
    refine congr (congr (congrArg weighed (funext fun e => ?_)) (funext fun m => funext fun e => ?_)) (funext fun m => ?_)
    · exact query_at x0 x1 r _ _ _ (by omega)
    · exact cols512 x2 m e
    · exact (cols1536 x2 m d).trans (congrArg (at2 x2 m.val) (by omega))
  rw [off_strip 512 _ _ _ _ _ (by omega)]
  by_cases h256 : 256 ≤ j.val
  · obtain ⟨d, hd, rfl⟩ : ∃ (d : Fin 256) (hd : 256 + d.val < 1024), j = ⟨256 + d.val, hd⟩ := ⟨⟨j.val - 256, by omega⟩, by show 256 + (j.val - 256) < 1024; omega, Fin.ext (by show j.val = 256 + (j.val - 256); omega)⟩
    rw [on_strip 256]
    have hq : (256 + d.val) / 256 = 1 := by have := d.isLt; omega
    dsimp only
    rw [pay6_apply, hq]
    show weighed _ _ _ = weighed _ _ _
    refine congr (congr (congrArg weighed (funext fun e => ?_)) (funext fun m => funext fun e => ?_)) (funext fun m => ?_)
    · exact query_at x0 x1 r _ _ _ (by omega)
    · exact cols256 x2 m e
    · exact (cols1280 x2 m d).trans (congrArg (at2 x2 m.val) (by omega))
  rw [off_strip 256 _ _ _ _ _ (by omega)]
  obtain ⟨d, hd, rfl⟩ : ∃ (d : Fin 256) (hd : 0 + d.val < 1024), j = ⟨0 + d.val, hd⟩ := ⟨⟨j.val - 0, by omega⟩, by show 0 + (j.val - 0) < 1024; omega, Fin.ext (by show j.val = 0 + (j.val - 0); omega)⟩
  rw [on_strip 0]
  have hq : (0 + d.val) / 256 = 0 := by have := d.isLt; omega
  dsimp only
  rw [pay3_apply, hq]
  show weighed _ _ _ = weighed _ _ _
  refine congr (congr (congrArg weighed (funext fun e => ?_)) (funext fun m => funext fun e => ?_)) (funext fun m => ?_)
  · exact query_at x0 x1 r _ _ _ (by omega)
  · exact cols0 x2 m e
  · exact (cols1024 x2 m d).trans (congrArg (at2 x2 m.val) (by omega))

variable (m : (ℓ : Loc nD τ sig) → Buf (Elt Ideal) ℓ) (c : Dev nD)

/-- The rows, the queries' weight and the memory's keys and values. -/
abbrev rows (c : Dev nD) : Arr 4096 1024 := m ((c : Thread nD τ).loc main_arg0)
abbrev weight (c : Dev nD) : Arr 1024 1024 := m ((c : Thread nD τ).loc main_arg1)
abbrev memory (c : Dev nD) : Arr 256 2048 := m ((c : Thread nD τ).loc main_arg2)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 := by decide +kernel

/-- A block of rows. -/
theorem iblk0 (t : Fin cfg0.N) (r : Fin 512) (k : Fin 1024) (h : 512 * t.val + r.val < 4096) :
    (iblk m c 0 t : Vec Ideal S512x1024 .bf16) (ix2 r k) = rows m c (ix2 ⟨512 * t.val + r.val, h⟩ k) := by
  unfold iblk
  rw [View.read_apply]
  show V m c main_arg0 _ = _
  rw [V_main_arg0]
  congr 1
  exact ext2 (by show win0_0.index t 0 * 512 + 1 * r.val = 512 * t.val + r.val; rw [(index0 t).1]; omega) (by show win0_0.index t 1 * 1024 + 1 * k.val = k.val; rw [(index0 t).2]; omega)

theorem iblk1 (t : Fin cfg0.N) : (iblk m c 1 t : Vec Ideal S1024x1024 .bf16) = weight m c := by
  funext y
  unfold iblk
  rw [View.read_apply]
  show V m c main_arg1 _ = _
  rw [V_main_arg1]
  congr 1
  exact ext2 (by show win0_1.index t 0 * 1024 + 1 * (y 0).val = (y 0).val; rw [(index1 t).1]; omega) (by show win0_1.index t 1 * 1024 + 1 * (y 1).val = (y 1).val; rw [(index1 t).2]; omega)

theorem iblk2 (t : Fin cfg0.N) : (iblk m c 2 t : Vec Ideal S256x2048 .f32) = memory m c := by
  funext y
  unfold iblk
  rw [View.read_apply]
  show V m c main_arg2 _ = _
  rw [V_main_arg2]
  congr 1
  exact ext2 (by show win0_2.index t 0 * 256 + 1 * (y 0).val = (y 0).val; rw [(index2 t).1]; omega) (by show win0_2.index t 1 * 2048 + 1 * (y 1).val = (y 1).val; rw [(index2 t).2]; omega)

/-- What a point writes. -/
theorem written (t : Fin cfg0.N) (r : Fin 512) (j : Fin 1024) (h : 512 * t.val + r.val < 4096) :
    out0_3 (iblk m c 0 t) (iblk m c 1 t) (iblk m c 2 t) (ix2 r j) = attended (rows m c) (weight m c) (memory m c) (ix2 ⟨512 * t.val + r.val, h⟩ j) := by
  rw [block, iblk1, iblk2]
  show _ = entry _ _ _ _ j.val
  unfold entry query
  simp only [iblk0 m c t _ _ h]
  rfl

/-- The whole result. -/
theorem result : (dats m 0 c).arrAt 3 cfg0.N = attended (rows m c) (weight m c) (memory m c) :=
  (dats m 0 c).arrAt_eq_of_cover 3 (attended (rows m c) (weight m c) (memory m c)) (fun t hf => by
    have hN : t.val < 8 := lt_of_lt_of_eq t.isLt N_0
    rw [Value.flushed3]
    funext y
    obtain ⟨r, q, rfl⟩ : ∃ (r : Fin 512) (q : Fin 1024), y = ix2 r q := pairs y
    refine Eq.trans (show _ = out0_3 (iblk m c 0 t) (iblk m c 1 t) (iblk m c 2 t) (ix2 r q) from rfl) ?_
    rw [written m c t r q (by omega), View.read_apply]
    show attended (rows m c) (weight m c) (memory m c) (ix2 ⟨512 * t.val + r.val, by omega⟩ q) = attended (rows m c) (weight m c) (memory m c) _
    congr 1
    exact ext2 (by show 512 * t.val + r.val = win0_3.index t 0 * 512 + 1 * r.val; rw [(index3 t).1]; omega) (by show q.val = win0_3.index t 1 * 1024 + 1 * q.val; rw [(index3 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 512 ≤ (i 0).val ∧ (i 0).val < win0_3.index t 0 * 512 + 512
      rw [(index3 t).1]; omega
    | ⟨1, _⟩ =>
      show win0_3.index t 1 * 1024 ≤ (i 1).val ∧ (i 1).val < win0_3.index t 1 * 1024 + 1024
      rw [(index3 t).2]; omega

end Cert.AttendIdeal.Sums
-- ==== Proof.Layers.AttendReference.lean ====
/-
  The reference's cross attention is the kernel's.
-/
module

public import proofs.«01_k».proof.Defs
public import proofs.«01_k».proof.Proof.Layers.Attend
public import proofs.«01_k».proof.Proof.Gen.AttendIdeal
public import proofs.«01_k».proof.Proof.Gen.AttendRefIdeal
public import proofs.«01_k».proof.Proof.Gen.AttendRefIdeal.Run
public import proofs.«01_k».proof.Proof.Gen.AttendRefIdeal.Read
public import Idealize.ShloMosaic.Adequacy

@[expose] public section

set_option maxRecDepth 16384

noncomputable section

namespace Cert.AttendRefIdeal.Sums

open Idealize.ShloMosaic Idealize.SL.Sem Cert.Products
open Cert.AttendRefIdeal.Read
open Cert.AttendIdeal.Sums (top soft logits weighed query entry attended)

section
variable (x0 : Arr 4096 1024) (x1 : Arr 1024 1024) (x2 : Arr 256 2048)
  (h : Fin 4) (r : Fin 4096)

/-- A row of one head's logits. -/
def row (m : Fin 256) : EReal := (val_main_v10 (F := Ideal) x0 x1 x2 : FVec Ideal S4x4096x256 .f32) (ix3 h r m)

theorem row_eq : row x0 x1 x2 h r = logits (fun e => query x0 x1 r (256 * h.val + e.val)) (fun m e => at2 x2 m.val (256 * h.val + e.val)) := by
  funext m
  unfold row
  pointwise [val_main_v10, val_main_v9, val_main_v8, val_main_v5, val_main_v4, val_main_v3, val_main_v2, val_main_v1, val_main_v0, val_main_cst]
  unfold logits query
  refine congrArg (· * _) (Finset.sum_congr rfl fun e _ => ?_)
  dsimp only
  have he : h.val * 256 + e.val = 256 * h.val + e.val := by omega
  have hl : 256 * h.val + e.val < 1024 := by omega
  rw [at2_of_lt _ m.isLt (show 256 * h.val + e.val < 2048 by omega)]
  simp only [at2_of_lt _ (Fin.isLt _) hl, he]

theorem greatest (y : (⟨3, ![4, 4096, 256]⟩ : Shape).Idx → EReal) :
    (Host.reduce FloatOps.maximumf y (val_main_cst_0 (F := Ideal)) Gen.facts.reducesTo_S4x4096x256_S4x4096_d2 Gen.facts.h_S_ : FVec Ideal S4x4096 .f32) (ix2 h r)
      = top fun m => y (ix3 h r m) := by
  unfold top
  pointwise [val_main_cst_0]

theorem v13_apply : (val_main_v13 (F := Ideal) x0 x1 x2 : FVec Ideal S4x4096 .f32) (ix2 h r) = top (row x0 x1 x2 h r) := by
  rw [val_main_v13_apply, val_main_v12_apply, val_main_cst_1_apply]
  unfold val_main_v11
  rw [greatest]
  exact max_eq_right ((Finset.le_fold_max _).2 (Or.inl le_rfl))

theorem v17_apply (m : Fin 256) : (val_main_v17 (F := Ideal) x0 x1 x2 : FVec Ideal S4x4096x256 .f32) (ix3 h r m)
    = Ideal.exp (row x0 x1 x2 h r m - top (row x0 x1 x2 h r)) := by
  rw [← v13_apply]
  unfold val_main_v17 val_main_v16 val_main_v15 val_main_v14 row
  generalize (val_main_v13 (F := Ideal) x0 x1 x2 : FVec Ideal S4x4096 .f32) = z
  generalize (val_main_v10 (F := Ideal) x0 x1 x2 : FVec Ideal S4x4096x256 .f32) = y
  pointwise

theorem v21_apply (m : Fin 256) : (val_main_v21 (F := Ideal) x0 x1 x2 : FVec Ideal S4x4096x256 .f32) (ix3 h r m) = soft (row x0 x1 x2 h r) m := by
  unfold soft
  simp only [← v17_apply]
  unfold val_main_v21 val_main_v20 val_main_v19 val_main_v18
  generalize (val_main_v17 (F := Ideal) x0 x1 x2 : FVec Ideal S4x4096x256 .f32) = y
  pointwise [val_main_cst_2]

end

/-- The reference's result, an entry at a time. -/
theorem value (x0 : Arr 4096 1024) (x1 : Arr 1024 1024) (x2 : Arr 256 2048) :
    val_main_v25 (F := Ideal) x0 x1 x2 = attended x0 x1 x2 := by
  funext i
  obtain ⟨r, j, rfl⟩ : ∃ (r : Fin 4096) (j : Fin 1024), i = ix2 r j := pairs i
  have hj := j.isLt
  show _ = entry x0 x1 x2 r j.val
  unfold val_main_v25 val_main_v24 val_main_v23 val_main_v22
  have e (m : Fin 256) := v21_apply x0 x1 x2 ⟨j.val / 256, by omega⟩ r m
  simp only [row_eq] at e
  unfold entry weighed
  simp only [← e]
  generalize (val_main_v21 (F := Ideal) x0 x1 x2 : FVec Ideal S4x4096x256 .f32) = y
  refine Eq.trans (b := ∑ m : Fin 256, x2 (ix2 m ⟨1024 + j.val, by omega⟩) * y (ix3 ⟨j.val / 256, by omega⟩ r m)) (by pointwise [val_main_v7, val_main_v6]) ?_
  refine Finset.sum_congr rfl fun m _ => ?_
  rw [mul_comm, at2_of_lt _ m.isLt (show 1024 + j.val < 2048 by omega)]

/-- The reference ends with its arguments unchanged and, having no semaphore, with every counter at zero. -/
theorem frame : Cert.quiescent_AttendRefIdeal (hAttendRefIdeal := Gen.facts) := fun m ρ _ =>
  (θ_run Cert.AttendRefIdeal.defs _ _).mono (fun r h => ⟨fun c => (h c).2, sem_eq_zero_of_no_sems (by decide) r.2⟩) (Value.run m ρ)

/-- From arrays that agree, the two results are one. -/
theorem agreeing (a0 : Arr 4096 1024) (a1 : Arr 1024 1024) (a2 : Arr 256 2048)
    (b0 : Arr 4096 1024) (b1 : Arr 1024 1024) (b2 : Arr 256 2048)
    (e0 : b0 = a0) (e1 : b1 = a1) (e2 : b2 = a2) : val_main_v25 (F := Ideal) b0 b1 b2 = attended a0 a1 a2 := by
  subst e0 e1 e2
  exact value b0 b1 b2

/-- The kernel's result is the reference's. -/
theorem equation : Cert.algebraic_AttendIdeal_AttendRefIdeal (hAttendIdeal := Cert.AttendIdeal.Gen.facts) (hAttendRefIdeal := Gen.facts) := by
  intro m ρ m' ρ' _ agree
  refine ⟨fun c => (Cert.AttendIdeal.Gen.dats m 0 c).arrAt 3 Cert.AttendIdeal.cfg0.N, Cert.AttendIdeal.Value.run_blocks m ρ, ?_⟩
  refine (θ_run Cert.AttendRefIdeal.defs _ _).mono (fun r h c => ?_) (Value.run m' ρ')
  exact ⟨(((h c).1.trans (val_main_v25_eq (m' ((c.tc : Thread nD τ).loc main_arg0)) (m' ((c.tc : Thread nD τ).loc main_arg1)) (m' ((c.tc : Thread nD τ).loc main_arg2)))).trans
    (agreeing _ _ _ _ _ _ (agree c).1 (agree c).2.1 (agree c).2.2)).trans (Cert.AttendIdeal.Sums.result m c).symm, (h c).2⟩

end Cert.AttendRefIdeal.Sums
-- ==== Proof.Layers.NormBack.lean ====
/-
  The gradient of the layer norm: of a row of real numbers, both programs' expressions are one. The reference passes a gradient
  through the variance's own mean, which is zero because a row less its mean sums to zero.
-/
module

public import proofs.«01_k».proof.Proof.Layers.Norm
public import proofs.«01_k».proof.Proof.Products.Sum

@[expose] public section

noncomputable section

namespace Cert.Layers

open Idealize.ShloMosaic

/-- The reciprocal root of a row's variance and the small constant. -/
def spread (f : Fin 1024 → EReal) : EReal := mean (fun k => centred f k * centred f k) + Ideal.ofBits .f32 0x3727C5AC#32
def scale (f : Fin 1024 → EReal) : EReal := Ideal.rsqrt (spread f)

/-- The row normalised. -/
def unitRow (f : Fin 1024 → EReal) (q : Fin 1024) : EReal := centred f q * scale f

/-- The gradient that reaches the row `f`, of the gradient `y` of its normalised entries. -/
def back (f y : Fin 1024 → EReal) (q : Fin 1024) : EReal :=
  scale f * (y q - mean y - unitRow f q * mean (fun k => y k * unitRow f k))

/-- The gradient of the variance, as the reference has it: twice the centred row is its other factor. -/
def slope (f y : Fin 1024 → EReal) : EReal :=
  Ideal.div ((∑ k, centred f k * y k) * (Ideal.ofBits .f32 0xBF000000#32 * Ideal.div (scale f) (spread f))) (Ideal.ofBits .f32 0x44800000#32)

/-- The same gradient, as the reference has it. -/
def backRef (f y : Fin 1024 → EReal) (q : Fin 1024) : EReal :=
  y q * scale f + slope f y * (Ideal.ofBits .f32 0x40000000#32 * centred f q)
    + Ideal.div ((∑ k, -(y k * scale f)) + ∑ k, -(slope f y * (Ideal.ofBits .f32 0x40000000#32 * centred f k))) (Ideal.ofBits .f32 0x44800000#32)

theorem word_width : Ideal.ofBits .f32 0x44800000#32 = ((1024 : ℝ) : EReal) := by
  simp [Ideal.ofBits, Ideal.ieee, -EReal.coe_mul]; norm_num

theorem word_half : Ideal.ofBits .f32 0xBF000000#32 = ((-1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_small : ∃ e : ℝ, 0 < e ∧ Ideal.ofBits .f32 0x3727C5AC#32 = (e : EReal) := by
  refine ⟨_, ?_, by simp only [Ideal.ofBits, Ideal.ieee]; rfl⟩
  rw [if_neg (by decide)]
  positivity

theorem word_scale : ∃ e : ℝ, Ideal.ofBits .f32 0x3FB504F3#32 = (e : EReal) := ⟨_, by simp only [Ideal.ofBits, Ideal.ieee]; rfl⟩

theorem coe_sum_rows {n : ℕ} (f : Fin n → ℝ) : ∑ k, (f k : EReal) = ((∑ k, f k : ℝ) : EReal) := by
  induction (Finset.univ : Finset (Fin n)) using Finset.induction_on with
  | empty => simp
  | insert a s h ih => rw [Finset.sum_insert h, Finset.sum_insert h, ih, EReal.coe_add]

theorem mean_coe (f : Fin 1024 → ℝ) : mean (fun k => (f k : EReal)) = (((∑ k, f k) / 1024 : ℝ) : EReal) := by
  rw [mean, word_width, Ideal.div_coe (by norm_num), coe_sum_rows, ← EReal.coe_mul, mul_one_div]

theorem div_width (x : ℝ) : Ideal.div (x : EReal) (Ideal.ofBits .f32 0x44800000#32) = ((x / 1024 : ℝ) : EReal) := by
  rw [word_width, Ideal.div_coe (by norm_num), ← EReal.coe_mul, mul_one_div]

/-- A real row less its mean is real, and sums to zero. -/
theorem centred_coe (f : Fin 1024 → ℝ) : ∃ c : Fin 1024 → ℝ, ∑ k, c k = 0 ∧ centred (fun k => (f k : EReal)) = fun k => (c k : EReal) := by
  refine ⟨fun k => f k - (∑ k, f k) / 1024, ?_, ?_⟩
  · rw [Finset.sum_sub_distrib, Finset.sum_const, Finset.card_univ, Fintype.card_fin, nsmul_eq_mul]
    push_cast
    ring
  · funext k
    rw [centred, mean_coe, EReal.coe_sub]

/-- Of a real row, the variance and the small constant are a positive number, and the scale its reciprocal root. -/
theorem scale_coe (f c : Fin 1024 → ℝ) (h : centred (fun k => (f k : EReal)) = fun k => (c k : EReal)) :
    ∃ u : ℝ, 0 < u ∧ spread (fun k => (f k : EReal)) = (u : EReal) ∧ scale (fun k => (f k : EReal)) = (((Real.sqrt u)⁻¹ : ℝ) : EReal) := by
  obtain ⟨e, he, hw⟩ := word_small
  have hu : 0 < (∑ k, c k * c k) / 1024 + e := by
    have : 0 ≤ ∑ k, c k * c k := Finset.sum_nonneg fun k _ => mul_self_nonneg _
    positivity
  have hs : spread (fun k => (f k : EReal)) = (((∑ k, c k * c k) / 1024 + e : ℝ) : EReal) := by
    rw [spread, h, hw, EReal.coe_add, ← mean_coe]
    simp only [EReal.coe_mul]
  refine ⟨_, hu, hs, ?_⟩
  rw [scale, hs, Ideal.rsqrt_coe, if_neg (not_lt.2 hu.le), if_neg hu.ne']

/-- Of real rows, the two gradients are one. -/
theorem back_eq (f y : Fin 1024 → ℝ) (q : Fin 1024) : backRef (fun k => (f k : EReal)) (fun k => (y k : EReal)) q = back (fun k => (f k : EReal)) (fun k => (y k : EReal)) q := by
  obtain ⟨c, hz, hc⟩ := centred_coe f
  obtain ⟨u, hu, hs, hr⟩ := scale_coe f c hc
  have hq : Ideal.div (((Real.sqrt u)⁻¹ : ℝ) : EReal) (u : EReal) = (((Real.sqrt u)⁻¹ / u : ℝ) : EReal) := by
    rw [Ideal.div_coe hu.ne', ← EReal.coe_mul, mul_one_div]
  have hx : (fun k => (y k : EReal) * ((c k : EReal) * (((Real.sqrt u)⁻¹ : ℝ) : EReal))) = fun k => ((y k * (c k * (Real.sqrt u)⁻¹) : ℝ) : EReal) := by
    funext k
    simp only [EReal.coe_mul]
  unfold backRef back slope unitRow
  rw [hc, hs, hr]
  dsimp only
  rw [hx, mean_coe, mean_coe, hq, word_half, word_two]
  simp only [← EReal.coe_mul, ← EReal.coe_neg, coe_sum_rows, div_width, ← EReal.coe_add, ← EReal.coe_sub]
  rw [EReal.coe_eq_coe_iff]
  have hsq : (Real.sqrt u)⁻¹ / u = (Real.sqrt u)⁻¹ * ((Real.sqrt u)⁻¹ * (Real.sqrt u)⁻¹) := by
    rw [← mul_inv, Real.mul_self_sqrt hu.le, div_eq_mul_inv]
  rw [hsq]
  generalize (Real.sqrt u)⁻¹ = s
  have e1 : ∑ k, y k * (c k * s) = (∑ k, c k * y k) * s := by
    rw [Finset.sum_mul]
    exact Finset.sum_congr rfl fun k _ => by ring
  have e2 (p : ℝ) : ∑ k, -(p * (2 * c k)) = 0 := by
    rw [show (fun k => -(p * (2 * c k))) = fun k => (-2 * p) * c k from funext fun k => by ring, ← Finset.mul_sum, hz, mul_zero]
  have e3 : ∑ k, -(y k * s) = -((∑ k, y k) * s) := by
    rw [Finset.sum_neg_distrib, Finset.sum_mul]
  rw [e1, e2, e3]
  ring

/-- A number that is real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sum {n : ℕ} {f : Fin n → EReal} (h : ∀ k, IsReal (f k)) : IsReal (∑ k, f k) := by
  choose g hg using h
  exact ⟨∑ k, g k, by rw [← coe_sum_rows]; exact Finset.sum_congr rfl fun k _ => hg k⟩

theorem real_of_add {x y : EReal} : IsReal (x + y) → IsReal x ∧ IsReal y := by
  induction x using EReal.rec <;> induction y using EReal.rec <;> rintro ⟨r, h⟩ <;> first | exact ⟨⟨_, rfl⟩, ⟨_, rfl⟩⟩ | simp at h

theorem real_of_sum {n : ℕ} {f : Fin n → EReal} (h : IsReal (∑ k, f k)) (k : Fin n) : IsReal (f k) := by
  rw [← Finset.add_sum_erase Finset.univ f (Finset.mem_univ k)] at h
  exact (real_of_add h).1

theorem square_top {x : EReal} (h : ¬IsReal x) : x * x = ⊤ := by
  induction x using EReal.rec with
  | bot => exact EReal.bot_mul_bot
  | coe r => exact absurd ⟨r, rfl⟩ h
  | top => exact EReal.top_mul_top

theorem div_top : Ideal.div ⊤ (Ideal.ofBits .f32 0x44800000#32) = ⊤ := by
  rw [word_width, Ideal.div_coe (by norm_num)]
  exact EReal.top_mul_coe_of_pos (by norm_num)

/-- A row with an entry that is not real has no real mean. -/
theorem mean_not_real {f : Fin 1024 → EReal} {k : Fin 1024} (h : ¬IsReal (f k)) : ¬IsReal (mean f) := by
  have hs : ¬IsReal (∑ k, f k) := fun e => h (real_of_sum e k)
  rw [mean, word_width, Ideal.div_coe (by norm_num)]
  generalize ∑ k, f k = s at hs
  induction s using EReal.rec with
  | bot => rw [EReal.bot_mul_coe_of_pos (by norm_num)]; exact hs
  | coe r => exact absurd ⟨r, rfl⟩ hs
  | top => rw [EReal.top_mul_coe_of_pos (by norm_num)]; exact hs

/-- Its variance is infinite. -/
theorem spread_top {f : Fin 1024 → EReal} {k : Fin 1024} (h : ¬IsReal (f k)) : spread f = ⊤ := by
  have hc (q : Fin 1024) : centred f q * centred f q = ⊤ := square_top fun e => by
    rw [centred, sub_eq_add_neg] at e
    obtain ⟨r, hr⟩ := (real_of_add e).2
    exact mean_not_real h ⟨-r, by rw [EReal.coe_neg, ← hr, neg_neg]⟩
  have hs : ∑ _q : Fin 1024, (⊤ : EReal) = ⊤ := by
    rw [Finset.sum_const, Finset.card_univ, Fintype.card_fin]
    exact EReal.nsmul_eq_mul 1024 ⊤ ▸ EReal.coe_mul_top_of_pos (x := 1024) (by norm_num)
  obtain ⟨e, _, he⟩ := word_small
  rw [spread, mean]
  simp only [hc]
  rw [hs, div_top, he]
  rfl

/-- Its gradients are zero, since its scale is. -/
theorem back_eq_zero {f : Fin 1024 → EReal} {k : Fin 1024} (h : ¬IsReal (f k)) (y : Fin 1024 → EReal) (q : Fin 1024) : backRef f y q = back f y q := by
  have hs : scale f = 0 := by rw [scale, spread_top h]; rfl
  have hz : Ideal.div 0 (Ideal.ofBits .f32 0x44800000#32) = 0 := by rw [word_width, Ideal.div_coe (by norm_num), zero_mul]
  have ht : Ideal.div 0 (⊤ : EReal) = 0 := by rw [Ideal.div, if_neg EReal.top_ne_zero, zero_mul]
  have hl : slope f y = 0 := by rw [slope, hs, spread_top h, ht, mul_zero, mul_zero, hz]
  unfold backRef back
  simp only [hs, hl, mul_zero, zero_mul, neg_zero, Finset.sum_const_zero, add_zero, hz]

/-- The two gradients are one where the gradient that reaches them is real. -/
theorem back_eq_of_real {f y : Fin 1024 → EReal} (hy : ∀ k, IsReal (y k)) (q : Fin 1024) : backRef f y q = back f y q := by
  by_cases hf : ∀ k, IsReal (f k)
  · choose f' hf' using hf
    choose y' hy' using hy
    rw [show f = fun k => (f' k : EReal) from funext hf', show y = fun k => (y' k : EReal) from funext hy']
    exact back_eq f' y' q
  · obtain ⟨k, hk⟩ := not_forall.1 hf
    exact back_eq_zero hk y q

/-! The gradients over the arrays: of the rows `z`, of the norm's scale and of its shift, from the gradient `y` that reaches the norm's result. -/

def unitRows (z : Arr 4096 1024) : Arr 4096 1024 := fun i => unitRow (fun k => z (ix2 (i 0) k)) (i 1)

def backRows (z y : Arr 4096 1024) (g : Arr 1 1024) : Arr 4096 1024 :=
  fun i => back (fun k => z (ix2 (i 0) k)) (fun k => y (ix2 (i 0) k) * g (ix2 0 k)) (i 1)

def timesUnit (z y : Arr 4096 1024) : Arr 4096 1024 := fun i => y i * unitRows z i

def columnSums (y : Arr 4096 1024) : Arr 1 1024 := fun i => ∑ r : Fin 4096, y (ix2 r (i 1))

/-- A column's sum over the first rows. -/
def firstRows (y : Arr 4096 1024) (n q : ℕ) : EReal := ∑ r ∈ Finset.range n, Products.at2 y r q

theorem firstRows_all (y : Arr 4096 1024) (q : Fin 1024) : firstRows y 4096 q.val = columnSums y (ix2 0 q) := by
  unfold firstRows
  rw [Finset.sum_range (n := 4096)]
  exact Finset.sum_congr rfl fun r _ => Products.at2_of_lt y r.isLt q.isLt

/-- A block's rows added to those above it. -/
theorem firstRows_block (y : Arr 4096 1024) (n : ℕ) (hn : n + 512 ≤ 4096) (q : Fin 1024) (d : Fin 512 → EReal)
    (hd : ∀ r : Fin 512, d r = y (ix2 ⟨n + r.val, by omega⟩ q)) : firstRows y n q.val + ∑ r, d r = firstRows y (n + 512) q.val := by
  unfold firstRows
  rw [Finset.sum_range_add, Finset.sum_range (n := 512)]
  congr 1
  exact Finset.sum_congr rfl fun r _ => (hd r).trans (Products.at2_of_lt y (show n + r.val < 4096 by omega) q.isLt).symm

theorem pair (i : (⟨2, ![4096, 1024]⟩ : Shape).Idx) : ∃ (r : Fin 4096) (q : Fin 1024), i = ix2 r q := ⟨i 0, i 1, funext fun a => match a with
  | ⟨0, _⟩ => rfl
  | ⟨1, _⟩ => rfl⟩

theorem single (i : (⟨2, ![1, 1024]⟩ : Shape).Idx) : ∃ q : Fin 1024, i = ix2 0 q := ⟨i 1, funext fun a => match a with
  | ⟨0, _⟩ => Subsingleton.elim (α := Fin 1) _ _
  | ⟨1, _⟩ => rfl⟩

end Cert.Layers
-- ==== Proof.Layers.UpGrad.lean ====
/-
  The gradient that reaches a layer norm's row through the feed-forward up product: the scaled gradient of the residual and two products by the halves of the weight, then the gradient of the norm, a block of rows at a time; the gradients of the norm's scale and shift are summed over the blocks.
-/
module

public import proofs.«01_k».proof.Proof.Layers.NormBack
public import proofs.«01_k».proof.Proof.Gen.UpGradIdeal.Value

@[expose] public section

set_option maxRecDepth 16384

noncomputable section

namespace Cert.Layers

open Idealize.ShloMosaic

/-- The scaled gradient of the residual and the two products by the halves of the weight. -/
def reachUp (a b : Arr 4096 2816) (w : Arr 1024 5632) (d : Arr 4096 1024) : Arr 4096 1024 :=
  fun i => Ideal.ofBits .f32 0x3FB504F3#32 * d i + (∑ k : Fin 2816, a (ix2 (i 0) k) * w (ix2 (i 1) ⟨k.val, by omega⟩))
    + ∑ k : Fin 2816, b (ix2 (i 0) k) * w (ix2 (i 1) ⟨2816 + k.val, by omega⟩)

end Cert.Layers

namespace Cert.UpGradIdeal.Sums

open Idealize.ShloMosaic Idealize.ShloMosaic.TcCoe
open Cert.UpGradIdeal Cert.UpGradIdeal.Gen Cert.Layers Cert.Products

theorem origin : (![0, 0] : Fin 2 → Nat) = fun _ => 0 := funext fun a => by fin_cases a <;> rfl

section
variable (x0 : Vec Ideal S512x2816 .bf16) (x1 : Vec Ideal S1024x2816 .bf16) (x2 : Vec Ideal S512x2816 .bf16) (x3 : Vec Ideal S1024x2816 .bf16)
  (x4 x5 : Vec Ideal S512x1024 .f32) (x6 : Vec Ideal S1x1024 .f32)

/-- The gradient that reaches the norm's result. -/
abbrev reaching : FVec Ideal S512x1024 .f32 := k0_pay7 x4 x0 x1 x2 x3

theorem reaching_apply (r : Fin 512) (q : Fin 1024) : reaching x0 x1 x2 x3 x4 (ix2 r q)
    = (Ideal.ofBits .f32 0x3FB504F3#32 : EReal) * x4 (ix2 r q) + (∑ k : Fin 2816, x0 (ix2 r k) * x1 (ix2 q k)) + ∑ k : Fin 2816, x2 (ix2 r k) * x3 (ix2 q k) := by
  pointwise [k0_pay7]

theorem pay8_apply (r : Fin 512) (q : Fin 1024) : (k0_pay8 x5 : FVec Ideal S512x1024 .f32) (ix2 r q) = centred (fun k => x5 (ix2 r k)) q := by
  pointwise [k0_pay8]
  rfl

theorem pay9_apply (r : Fin 512) : (k0_pay9 x5 : FVec Ideal S512x1 .f32) (ix2 r 0) = scale (fun k => x5 (ix2 r k)) := by
  unfold scale spread
  simp only [← pay8_apply]
  unfold k0_pay9
  generalize (k0_pay8 x5 : FVec Ideal S512x1024 .f32) = y
  pointwise
  rfl

/-- The normalised rows. -/
abbrev unitBlock : FVec Ideal S512x1024 .f32 := k0_pay10 x5

theorem unit_apply (r : Fin 512) (q : Fin 1024) : unitBlock x5 (ix2 r q) = unitRow (fun k => x5 (ix2 r k)) q := by
  unfold unitRow unitBlock
  rw [← pay8_apply, ← pay9_apply]
  unfold k0_pay10
  generalize (k0_pay8 x5 : FVec Ideal S512x1024 .f32) = y
  generalize (k0_pay9 x5 : FVec Ideal S512x1 .f32) = s
  pointwise

theorem pay11_apply (r : Fin 512) (q : Fin 1024) : (k0_pay11 x4 x0 x1 x2 x3 x6 : FVec Ideal S512x1024 .f32) (ix2 r q)
    = reaching x0 x1 x2 x3 x4 (ix2 r q) * x6 (ix2 0 q) := by
  unfold k0_pay11 reaching
  generalize (k0_pay7 x4 x0 x1 x2 x3 : FVec Ideal S512x1024 .f32) = d
  pointwise

theorem pay12_apply (r : Fin 512) : (k0_pay12 x4 x0 x1 x2 x3 x6 : FVec Ideal S512x1 .f32) (ix2 r 0)
    = mean fun k => (k0_pay11 x4 x0 x1 x2 x3 x6 : FVec Ideal S512x1024 .f32) (ix2 r k) := by
  unfold k0_pay12
  generalize (k0_pay11 x4 x0 x1 x2 x3 x6 : FVec Ideal S512x1024 .f32) = d
  pointwise
  rfl

theorem pay1_apply (s : FVec Ideal S512x1 .f32) (u y : FVec Ideal S512x1024 .f32) (n : FVec Ideal S512x1 .f32) (r : Fin 512) (q : Fin 1024) :
    (k0_pay1 s u y n : FVec Ideal S512x1024 .f32) (ix2 r q)
      = s (ix2 r 0) * (y (ix2 r q) - n (ix2 r 0) - u (ix2 r q) * mean fun k => y (ix2 r k) * u (ix2 r k)) := by
  pointwise [k0_pay1]
  rfl

/-- The gradient of the norm's row. -/
abbrev first : FVec Ideal S512x1024 .f32 := k0_pay1 (k0_pay9 x5) (k0_pay10 x5) (k0_pay11 x4 x0 x1 x2 x3 x6) (k0_pay12 x4 x0 x1 x2 x3 x6)

theorem first_apply (r : Fin 512) (q : Fin 1024) : first x0 x1 x2 x3 x4 x5 x6 (ix2 r q)
    = back (fun k => x5 (ix2 r k)) (fun k => reaching x0 x1 x2 x3 x4 (ix2 r k) * x6 (ix2 0 k)) q := by
  unfold first back
  rw [pay1_apply, pay9_apply, pay12_apply]
  simp only [unit_apply, pay11_apply]

theorem pay2_apply (s : FVec Ideal S512x1 .f32) (u y : FVec Ideal S512x1024 .f32) (n : FVec Ideal S512x1 .f32) (r : Fin 512) (q : Fin 1024) :
    (k0_pay2 s u y n : FVec Ideal S512x1024 .bf16) (ix2 r q) = (k0_pay1 s u y n : FVec Ideal S512x1024 .f32) (ix2 r q) := by
  pointwise [k0_pay2]

theorem pay3_apply (d u : FVec Ideal S512x1024 .f32) (q : Fin 1024) : (k0_pay3 d u : FVec Ideal S1x1024 .f32) (ix2 0 q) = ∑ r : Fin 512, d (ix2 r q) * u (ix2 r q) := by
  pointwise [k0_pay3]

theorem pay4_apply (d : FVec Ideal S512x1024 .f32) (q : Fin 1024) : (k0_pay4 d : FVec Ideal S1x1024 .f32) (ix2 0 q) = ∑ r : Fin 512, d (ix2 r q) := by
  pointwise [k0_pay4]

theorem pay5_apply (d u : FVec Ideal S512x1024 .f32) (o : Vec Ideal S1x1024 .f32) (q : Fin 1024) :
    (k0_pay5 d u o : FVec Ideal S1x1024 .f32) (ix2 0 q) = o (ix2 0 q) + ∑ r : Fin 512, d (ix2 r q) * u (ix2 r q) := by
  rw [← pay3_apply]
  unfold k0_pay5
  generalize (k0_pay3 d u : FVec Ideal S1x1024 .f32) = e
  pointwise

theorem pay6_apply (d : FVec Ideal S512x1024 .f32) (o : Vec Ideal S1x1024 .f32) (q : Fin 1024) :
    (k0_pay6 d o : FVec Ideal S1x1024 .f32) (ix2 0 q) = o (ix2 0 q) + ∑ r : Fin 512, d (ix2 r q) := by
  rw [← pay4_apply]
  unfold k0_pay6
  generalize (k0_pay4 d : FVec Ideal S1x1024 .f32) = e
  pointwise

variable (c : Dev nD) (i : grid0.Coords) (a1 : Memref sig .tc .vmem S512x2816 .bf16) (h1 : a1.IsWhole) (a2 : Memref sig .tc .vmem S1024x2816 .bf16) (h2 : a2.IsWhole)
  (a3 : Memref sig .tc .vmem S512x2816 .bf16) (h3 : a3.IsWhole) (a4 : Memref sig .tc .vmem S1024x2816 .bf16) (h4 : a4.IsWhole)
  (a5 : Memref sig .tc .vmem S512x1024 .f32) (h5 : a5.IsWhole) (a6 : Memref sig .tc .vmem S512x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S512x1024 .bf16) (h9 : a9.IsWhole) (a10 : Memref sig .tc .vmem S1x1024 .f32) (h10 : a10.IsWhole)
  (a11 : Memref sig .tc .vmem S1x1024 .f32) (h11 : a11.IsWhole) (o9 o10 : Vec Ideal S1x1024 .f32)

/-! What a point leaves: at the first point the sums begin, at the others they go on. -/

theorem leftA (e0 : cond0_0 i) (e1 : ¬cond0_1 i) :
    out0_A_7 c i a1 h1 a2 h2 a3 h3 a4 h4 a5 h5 a6 h6 a7 h7 a8 h8 a9 h9 a10 h10 a11 h11 e0 e1 x0 x1 x2 x3 x4 x5 x6 = first x0 x1 x2 x3 x4 x5 x6
    ∧ out0_A_8 c i a1 h1 a2 h2 a3 h3 a4 h4 a5 h5 a6 h6 a7 h7 a8 h8 a9 h9 a10 h10 a11 h11 e0 e1 x0 x1 x2 x3 x4 x5 x6 = k0_pay2 (k0_pay9 x5) (k0_pay10 x5) (k0_pay11 x4 x0 x1 x2 x3 x6) (k0_pay12 x4 x0 x1 x2 x3 x6)
    ∧ out0_A_9 c i a1 h1 a2 h2 a3 h3 a4 h4 a5 h5 a6 h6 a7 h7 a8 h8 a9 h9 a10 h10 a11 h11 e0 e1 x0 x1 x2 x3 x4 x5 x6 = k0_pay3 (reaching x0 x1 x2 x3 x4) (unitBlock x5)
    ∧ out0_A_10 c i a1 h1 a2 h2 a3 h3 a4 h4 a5 h5 a6 h6 a7 h7 a8 h8 a9 h9 a10 h10 a11 h11 e0 e1 x0 x1 x2 x3 x4 x5 x6 = k0_pay4 (reaching x0 x1 x2 x3 x4) := by
  refine ⟨?_, ?_, ?_, ?_⟩
  rw [out0_A_7, View.read_writes_eq_canon _ _ _ fun _ => cover0_A_7 ..]
  unfold kernelRun0_A
  dsimp only
  rw [View.canon_unit_zero origin]
  unfold kernelRun0_A.sl.r_1 kernelRun0_A.sl.r_2 kernelRun0_A.sl.r_3 kernelRun0_A.sl.r_4
  rotate_left
  rw [out0_A_8, View.read_writes_eq_canon _ _ _ fun _ => cover0_A_8 ..]
  unfold kernelRun0_A
  dsimp only
  rw [View.canon_unit_zero origin]
  unfold kernelRun0_A.sl.r_1 kernelRun0_A.sl.r_2 kernelRun0_A.sl.r_3 kernelRun0_A.sl.r_4
  rotate_left
  rw [out0_A_9, View.read_writes_eq_canon _ _ _ fun _ => cover0_A_9 ..]
  unfold kernelRun0_A
  dsimp only
  rw [View.canon_unit_zero origin]
  unfold kernelRun0_A.sl.r kernelRun0_A.sl.r_2
  rotate_left
  rw [out0_A_10, View.read_writes_eq_canon _ _ _ fun _ => cover0_A_10 ..]
  unfold kernelRun0_A
  dsimp only
  rw [View.canon_unit_zero origin]
  unfold kernelRun0_A.sl.r
  rotate_left
  all_goals
    simp only [View.readAt_eq_ld, h1.read_unread, h2.read_unread, h3.read_unread, h4.read_unread, h5.read_unread, h6.read_unread, h7.read_unread, View.ld_unit_zero (S := S512x2816) origin, View.ld_unit_zero (S := S1024x2816) origin, View.ld_unit_zero (S := S512x1024) origin, View.ld_unit_zero (S := S1x1024) origin]

theorem leftB (e0 : ¬cond0_0 i) (e1 : cond0_1 i) :
    out0_B_7 c i a1 h1 a2 h2 a3 h3 a4 h4 a5 h5 a6 h6 a7 h7 a8 h8 a9 h9 a10 h10 a11 h11 e0 e1 x0 x1 x2 x3 x4 x5 x6 o9 o10 = first x0 x1 x2 x3 x4 x5 x6
    ∧ out0_B_8 c i a1 h1 a2 h2 a3 h3 a4 h4 a5 h5 a6 h6 a7 h7 a8 h8 a9 h9 a10 h10 a11 h11 e0 e1 x0 x1 x2 x3 x4 x5 x6 o9 o10 = k0_pay2 (k0_pay9 x5) (k0_pay10 x5) (k0_pay11 x4 x0 x1 x2 x3 x6) (k0_pay12 x4 x0 x1 x2 x3 x6)
    ∧ out0_B_9 c i a1 h1 a2 h2 a3 h3 a4 h4 a5 h5 a6 h6 a7 h7 a8 h8 a9 h9 a10 h10 a11 h11 e0 e1 x0 x1 x2 x3 x4 x5 x6 o9 o10 = k0_pay5 (reaching x0 x1 x2 x3 x4) (unitBlock x5) o9
    ∧ out0_B_10 c i a1 h1 a2 h2 a3 h3 a4 h4 a5 h5 a6 h6 a7 h7 a8 h8 a9 h9 a10 h10 a11 h11 e0 e1 x0 x1 x2 x3 x4 x5 x6 o9 o10 = k0_pay6 (reaching x0 x1 x2 x3 x4) o10 := by
  refine ⟨?_, ?_, ?_, ?_⟩
  rw [out0_B_7, View.read_writes_eq_canon _ _ _ fun _ => cover0_B_7 ..]
  unfold kernelRun0_B
  dsimp only
  rw [View.canon_unit_zero origin]
  unfold kernelRun0_B.sl.r_1 kernelRun0_B.sl.r_2 kernelRun0_B.sl.r_3 kernelRun0_B.sl.r_4
  rotate_left
  rw [out0_B_8, View.read_writes_eq_canon _ _ _ fun _ => cover0_B_8 ..]
  unfold kernelRun0_B
  dsimp only
  rw [View.canon_unit_zero origin]
  unfold kernelRun0_B.sl.r_1 kernelRun0_B.sl.r_2 kernelRun0_B.sl.r_3 kernelRun0_B.sl.r_4
  rotate_left
  rw [out0_B_9, View.read_writes_eq_canon _ _ _ fun _ => cover0_B_9 ..]
  unfold kernelRun0_B
  dsimp only
  rw [View.canon_unit_zero origin]
  unfold kernelRun0_B.sl.r kernelRun0_B.sl.r_2
  rotate_left
  rw [out0_B_10, View.read_writes_eq_canon _ _ _ fun _ => cover0_B_10 ..]
  unfold kernelRun0_B
  dsimp only
  rw [View.canon_unit_zero origin]
  unfold kernelRun0_B.sl.r
  rotate_left
  all_goals
    simp only [View.readAt_eq_ld, h1.read_unread, h2.read_unread, h3.read_unread, h4.read_unread, h5.read_unread, h6.read_unread, h7.read_unread, h10.read_unread, h11.read_unread, View.ld_unit_zero (S := S512x2816) origin, View.ld_unit_zero (S := S1024x2816) origin, View.ld_unit_zero (S := S512x1024) origin, View.ld_unit_zero (S := S1x1024) origin]

theorem second_apply (r : Fin 512) (q : Fin 1024) : (k0_pay2 (k0_pay9 x5) (k0_pay10 x5) (k0_pay11 x4 x0 x1 x2 x3 x6) (k0_pay12 x4 x0 x1 x2 x3 x6) : FVec Ideal S512x1024 .bf16) (ix2 r q) = first x0 x1 x2 x3 x4 x5 x6 (ix2 r q) := pay2_apply _ _ _ _ r q

end

variable (m : (ℓ : Loc nD τ sig) → Buf (Elt Ideal) ℓ) (c : Dev nD)

/-! The arrays. -/

abbrev gateSide (c : Dev nD) : Arr 4096 2816 := m ((c : Thread nD τ).loc main_arg0)
abbrev weight (c : Dev nD) : Arr 1024 5632 := m ((c : Thread nD τ).loc main_arg1)
abbrev valueSide (c : Dev nD) : Arr 4096 2816 := m ((c : Thread nD τ).loc main_arg2)
abbrev resid (c : Dev nD) : Arr 4096 1024 := m ((c : Thread nD τ).loc main_arg3)
abbrev saved (c : Dev nD) : Arr 4096 1024 := m ((c : Thread nD τ).loc main_arg4)
abbrev gain (c : Dev nD) : Arr 1 1024 := m ((c : Thread nD τ).loc main_arg5)

/-- The gradient that reaches the norm's result, of all rows. -/
abbrev reached (c : Dev nD) : Arr 4096 1024 := reachUp (gateSide m c) (valueSide m c) (weight m c) (resid m c)

/-! The results: the gradients of the rows, of the scale and of the shift. -/

abbrev rowsGrad (c : Dev nD) : Arr 4096 1024 := backRows (saved m c) (reached m c) (gain m c)
abbrev scaleGrad (c : Dev nD) : Arr 1 1024 := columnSums (timesUnit (saved m c) (reached m c))
abbrev shiftGrad (c : Dev nD) : Arr 1 1024 := columnSums (reached m c)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 1 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel

/-- A block of rows of the gate side. -/
theorem iblk0 (t : Fin cfg0.N) (r : Fin 512) (k : Fin 2816) (h0 : 512 * t.val + r.val < 4096) : (iblk m c 0 t : Vec Ideal S512x2816 .bf16) (ix2 r k) = gateSide m c (ix2 ⟨512 * t.val + r.val, h0⟩ k) := by
  unfold iblk
  rw [View.read_apply]
  show V m c main_arg0 _ = _
  rw [V_main_arg0]
  congr 1
  exact ext2 (by show win0_0.index t 0 * 512 + 1 * r.val = 512 * t.val + r.val; rw [(index0 t).1]; omega) (by show win0_0.index t 1 * 2816 + 1 * k.val = k.val; rw [(index0 t).2]; omega)

/-- The first half of the weight. -/
theorem iblk1 (t : Fin cfg0.N) (r : Fin 1024) (k : Fin 2816)  : (iblk m c 1 t : Vec Ideal S1024x2816 .bf16) (ix2 r k) = weight m c (ix2 r ⟨k.val, by omega⟩) := by
  unfold iblk
  rw [View.read_apply]
  show V m c main_arg1 _ = _
  rw [V_main_arg1]
  congr 1
  exact ext2 (by show win0_1.index t 0 * 1024 + 1 * r.val = r.val; rw [(index1 t).1]; omega) (by show win0_1.index t 1 * 2816 + 1 * k.val = k.val; rw [(index1 t).2]; omega)

/-- A block of rows of the other side. -/
theorem iblk2 (t : Fin cfg0.N) (r : Fin 512) (k : Fin 2816) (h0 : 512 * t.val + r.val < 4096) : (iblk m c 2 t : Vec Ideal S512x2816 .bf16) (ix2 r k) = valueSide m c (ix2 ⟨512 * t.val + r.val, h0⟩ k) := by
  unfold iblk
  rw [View.read_apply]
  show V m c main_arg2 _ = _
  rw [V_main_arg2]
  congr 1
  exact ext2 (by show win0_2.index t 0 * 512 + 1 * r.val = 512 * t.val + r.val; rw [(index2 t).1]; omega) (by show win0_2.index t 1 * 2816 + 1 * k.val = k.val; rw [(index2 t).2]; omega)

/-- The second half of the weight. -/
theorem iblk3 (t : Fin cfg0.N) (r : Fin 1024) (k : Fin 2816)  : (iblk m c 3 t : Vec Ideal S1024x2816 .bf16) (ix2 r k) = weight m c (ix2 r ⟨2816 + k.val, by omega⟩) := by
  unfold iblk
  rw [View.read_apply]
  show V m c main_arg1 _ = _
  rw [V_main_arg1]
  congr 1
  exact ext2 (by show win0_3.index t 0 * 1024 + 1 * r.val = r.val; rw [(index3 t).1]; omega) (by show win0_3.index t 1 * 2816 + 1 * k.val = 2816 + k.val; rw [(index3 t).2]; omega)

/-- A block of rows of the residual's gradient. -/
theorem iblk4 (t : Fin cfg0.N) (r : Fin 512) (k : Fin 1024) (h0 : 512 * t.val + r.val < 4096) : (iblk m c 4 t : Vec Ideal S512x1024 .f32) (ix2 r k) = resid m c (ix2 ⟨512 * t.val + r.val, h0⟩ k) := by
  unfold iblk
  rw [View.read_apply]
  show V m c main_arg3 _ = _
  rw [V_main_arg3]
  congr 1
  exact ext2 (by show win0_4.index t 0 * 512 + 1 * r.val = 512 * t.val + r.val; rw [(index4 t).1]; omega) (by show win0_4.index t 1 * 1024 + 1 * k.val = k.val; rw [(index4 t).2]; omega)

/-- A block of the rows normalised. -/
theorem iblk5 (t : Fin cfg0.N) (r : Fin 512) (k : Fin 1024) (h0 : 512 * t.val + r.val < 4096) : (iblk m c 5 t : Vec Ideal S512x1024 .f32) (ix2 r k) = saved m c (ix2 ⟨512 * t.val + r.val, h0⟩ k) := by
  unfold iblk
  rw [View.read_apply]
  show V m c main_arg4 _ = _
  rw [V_main_arg4]
  congr 1
  exact ext2 (by show win0_5.index t 0 * 512 + 1 * r.val = 512 * t.val + r.val; rw [(index5 t).1]; omega) (by show win0_5.index t 1 * 1024 + 1 * k.val = k.val; rw [(index5 t).2]; omega)

/-- The scale. -/
theorem iblk6 (t : Fin cfg0.N) (r : Fin 1) (k : Fin 1024)  : (iblk m c 6 t : Vec Ideal S1x1024 .f32) (ix2 r k) = gain m c (ix2 r k) := by
  unfold iblk
  rw [View.read_apply]
  show V m c main_arg5 _ = _
  rw [V_main_arg5]
  congr 1
  exact ext2 (by show win0_6.index t 0 * 1 + 1 * r.val = r.val; rw [(index6 t).1]; omega) (by show win0_6.index t 1 * 1024 + 1 * k.val = k.val; rw [(index6 t).2]; omega)

theorem reaching_block (t : Fin cfg0.N) (r : Fin 512) (q : Fin 1024) (h0 : 512 * t.val + r.val < 4096) :
    reaching (iblk m c 0 t) (iblk m c 1 t) (iblk m c 2 t) (iblk m c 3 t) (iblk m c 4 t) (ix2 r q) = reached m c (ix2 ⟨512 * t.val + r.val, h0⟩ q) := by
  rw [reaching_apply]
  simp only [iblk0 m c t _ _ h0, iblk1, iblk2 m c t _ _ h0, iblk3, iblk4 m c t _ _ h0]
  rfl

theorem unit_block (t : Fin cfg0.N) (r : Fin 512) (q : Fin 1024) (h0 : 512 * t.val + r.val < 4096) :
    unitBlock (iblk m c 5 t) (ix2 r q) = unitRows (saved m c) (ix2 ⟨512 * t.val + r.val, h0⟩ q) := by
  rw [unit_apply]
  simp only [iblk5 m c t _ _ h0]
  rfl

theorem first_block (t : Fin cfg0.N) (r : Fin 512) (q : Fin 1024) (h0 : 512 * t.val + r.val < 4096) :
    first (iblk m c 0 t) (iblk m c 1 t) (iblk m c 2 t) (iblk m c 3 t) (iblk m c 4 t) (iblk m c 5 t) (iblk m c 6 t) (ix2 r q) = rowsGrad m c (ix2 ⟨512 * t.val + r.val, h0⟩ q) := by
  rw [first_apply]
  simp only [reaching_block m c t _ _ h0, iblk5 m c t _ _ h0, iblk6]
  rfl

theorem written7 (t : Fin cfg0.N) (r : Fin 512) (q : Fin 1024) (h0 : 512 * t.val + r.val < 4096) :
    (outsAt0 m c t.val t.isLt).1 (ix2 r q) = rowsGrad m c (ix2 ⟨512 * t.val + r.val, h0⟩ q) := by
  have hN : t.val < 8 := lt_of_lt_of_eq t.isLt N_0
  refine Eq.trans ?_ (first_block m c t r q h0)
  by_cases hz : t.val = 0
  · rw [outsAt0_A m c t (by omega) (by omega)]
    dsimp only
    rw [(leftA ..).1]
  · rw [outsAt0_B m c t (by omega) (by omega)]
    dsimp only
    rw [(leftB ..).1]

theorem written8 (t : Fin cfg0.N) (r : Fin 512) (q : Fin 1024) (h0 : 512 * t.val + r.val < 4096) :
    (outsAt0 m c t.val t.isLt).2.1 (ix2 r q) = rowsGrad m c (ix2 ⟨512 * t.val + r.val, h0⟩ q) := by
  have hN : t.val < 8 := lt_of_lt_of_eq t.isLt N_0
  refine Eq.trans ?_ (first_block m c t r q h0)
  by_cases hz : t.val = 0
  · rw [outsAt0_A m c t (by omega) (by omega)]
    dsimp only
    rw [(leftA ..).2.1, second_apply]
  · rw [outsAt0_B m c t (by omega) (by omega)]
    dsimp only
    rw [(leftB ..).2.1, second_apply]

/-- After a point, the sum over the rows up to its block's end. -/
theorem sums9 : ∀ (n : ℕ) (h : n < cfg0.N) (q : Fin 1024),
    (outsAt0 m c n h).2.2.1 (ix2 0 q) = firstRows (timesUnit (saved m c) (reached m c)) (512 * (n + 1)) q.val
  | 0, h, q => by
    rw [show outsAt0 m c 0 h = _ from outsAt0_A m c ⟨0, h⟩ (Nat.zero_mod 8) (Nat.not_succ_le_zero 0)]
    dsimp only
    rw [(leftA ..).2.2.1, pay3_apply]
    refine (zero_add _).symm.trans ?_
    exact firstRows_block _ 0 (by omega) q _ fun r => by
      rw [reaching_block m c ⟨0, h⟩ r q (by simp only [Nat.mul_zero]; omega), unit_block m c ⟨0, h⟩ r q (by simp only [Nat.mul_zero]; omega)]
      rfl
  | n + 1, h, q => by
    have hN : n + 1 < 8 := lt_of_lt_of_eq h N_0
    have e := outsAt0_B m c ⟨n + 1, h⟩ (by dsimp only; omega) (by dsimp only; omega)
    rw [show outsAt0 m c (n + 1) h = _ from e]
    dsimp only
    rw [(leftB ..).2.2.1, pay5_apply]
    refine (congrArg (· + _) (sums9 n (by omega) q)).trans ?_
    exact firstRows_block _ (512 * (n + 1)) (by omega) q _ fun r => by
      rw [reaching_block m c ⟨n + 1, h⟩ r q (by dsimp only; omega), unit_block m c ⟨n + 1, h⟩ r q (by dsimp only; omega)]
      rfl

theorem sums10 : ∀ (n : ℕ) (h : n < cfg0.N) (q : Fin 1024),
    (outsAt0 m c n h).2.2.2 (ix2 0 q) = firstRows (reached m c) (512 * (n + 1)) q.val
  | 0, h, q => by
    rw [show outsAt0 m c 0 h = _ from outsAt0_A m c ⟨0, h⟩ (Nat.zero_mod 8) (Nat.not_succ_le_zero 0)]
    dsimp only
    rw [(leftA ..).2.2.2, pay4_apply]
    refine (zero_add _).symm.trans ?_
    exact firstRows_block _ 0 (by omega) q _ fun r => by
      rw [reaching_block m c ⟨0, h⟩ r q (by simp only [Nat.mul_zero]; omega)]
      rfl
  | n + 1, h, q => by
    have hN : n + 1 < 8 := lt_of_lt_of_eq h N_0
    have e := outsAt0_B m c ⟨n + 1, h⟩ (by dsimp only; omega) (by dsimp only; omega)
    rw [show outsAt0 m c (n + 1) h = _ from e]
    dsimp only
    rw [(leftB ..).2.2.2, pay6_apply]
    refine (congrArg (· + _) (sums10 n (by omega) q)).trans ?_
    exact firstRows_block _ (512 * (n + 1)) (by omega) q _ fun r => by
      rw [reaching_block m c ⟨n + 1, h⟩ r q (by dsimp only; omega)]

/-- The gradient of the rows. -/
theorem result7 : (dats m 0 c).arrAt 7 cfg0.N = rowsGrad m c :=
  (dats m 0 c).arrAt_eq_of_cover 7 (rowsGrad m c) (fun t hf => by
    have hN : t.val < 8 := lt_of_lt_of_eq t.isLt N_0
    rw [Value.flushed7]
    funext y
    obtain ⟨r, q, rfl⟩ : ∃ (r : Fin 512) (q : Fin 1024), y = ix2 r q := pairs y
    refine Eq.trans (show _ = (outsAt0 m c t.val t.isLt).1 (ix2 r q) from rfl) ?_
    rw [written7 m c t r q (by omega), View.read_apply]
    show rowsGrad m c (ix2 ⟨512 * t.val + r.val, by omega⟩ q) = rowsGrad m c _
    congr 1
    exact ext2 (by show 512 * t.val + r.val = win0_7.index t 0 * 512 + 1 * r.val; rw [(index7 t).1]; omega) (by show q.val = win0_7.index t 1 * 1024 + 1 * q.val; rw [(index7 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_7 t, ?_⟩
    show i ∈ ((View.whole main_v0_0).slice (win0_7.rect t)).set
    rw [View.set_slice_whole, Rect.mem_set_unit]
    intro a
    match a with
    | ⟨0, _⟩ =>
      show win0_7.index t 0 * 512 ≤ (i 0).val ∧ (i 0).val < win0_7.index t 0 * 512 + 512
      rw [(index7 t).1]; omega
    | ⟨1, _⟩ =>
      show win0_7.index t 1 * 1024 ≤ (i 1).val ∧ (i 1).val < win0_7.index t 1 * 1024 + 1024
      rw [(index7 t).2]; omega

/-- The same in the narrower format. -/
theorem result8 : (dats m 0 c).arrAt 8 cfg0.N = rowsGrad m c :=
  (dats m 0 c).arrAt_eq_of_cover 8 (rowsGrad m c) (fun t hf => by
    have hN : t.val < 8 := lt_of_lt_of_eq t.isLt N_0
    rw [Value.flushed8]
    funext y
    obtain ⟨r, q, rfl⟩ : ∃ (r : Fin 512) (q : Fin 1024), y = ix2 r q := pairs y
    refine Eq.trans (show _ = (outsAt0 m c t.val t.isLt).2.1 (ix2 r q) from rfl) ?_
    rw [written8 m c t r q (by omega), View.read_apply]
    show rowsGrad m c (ix2 ⟨512 * t.val + r.val, by omega⟩ q) = rowsGrad m c _
    congr 1
    exact ext2 (by show 512 * t.val + r.val = win0_8.index t 0 * 512 + 1 * r.val; rw [(index8 t).1]; omega) (by show q.val = win0_8.index t 1 * 1024 + 1 * q.val; rw [(index8 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_8 t, ?_⟩
    show i ∈ ((View.whole main_v0_1).slice (win0_8.rect t)).set
    rw [View.set_slice_whole, Rect.mem_set_unit]
    intro a
    match a with
    | ⟨0, _⟩ =>
      show win0_8.index t 0 * 512 ≤ (i 0).val ∧ (i 0).val < win0_8.index t 0 * 512 + 512
      rw [(index8 t).1]; omega
    | ⟨1, _⟩ =>
      show win0_8.index t 1 * 1024 ≤ (i 1).val ∧ (i 1).val < win0_8.index t 1 * 1024 + 1024
      rw [(index8 t).2]; omega

/-- The gradient of the scale. -/
theorem result9 : (dats m 0 c).arrAt 9 cfg0.N = scaleGrad m c :=
  (dats m 0 c).arrAt_eq_of_cover 9 (scaleGrad m c) (fun t hf => by
    have hN : t.val < 8 := lt_of_lt_of_eq t.isLt N_0
    have h7 : t.val = 7 := by have := (flush0_9 t).mp hf; omega
    rw [Value.flushed9]
    funext y
    obtain ⟨r, q, rfl⟩ : ∃ (r : Fin 1) (q : Fin 1024), y = ix2 r q := pairs y
    obtain rfl : r = 0 := Subsingleton.elim _ _
    refine Eq.trans (show _ = (outsAt0 m c t.val t.isLt).2.2.1 (ix2 0 q) from rfl) ?_
    rw [sums9 m c t.val t.isLt q, show 512 * (t.val + 1) = 4096 by omega, firstRows_all, View.read_apply]
    show scaleGrad m c (ix2 0 q) = scaleGrad m c _
    congr 1
    exact ext2 (by show 0 = win0_9.index t 0 * 1 + 1 * 0; rw [(index9 t).1]) (by show q.val = win0_9.index t 1 * 1024 + 1 * q.val; rw [(index9 t).2]; omega)) fun i => by
    have h0 : (i 0).val < 1 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_9 t).mpr (by omega), ?_⟩
    show i ∈ ((View.whole main_v0_2).slice (win0_9.rect t)).set
    rw [View.set_slice_whole, Rect.mem_set_unit]
    intro a
    match a with
    | ⟨0, _⟩ =>
      show win0_9.index t 0 * 1 ≤ (i 0).val ∧ (i 0).val < win0_9.index t 0 * 1 + 1
      rw [(index9 t).1]; omega
    | ⟨1, _⟩ =>
      show win0_9.index t 1 * 1024 ≤ (i 1).val ∧ (i 1).val < win0_9.index t 1 * 1024 + 1024
      rw [(index9 t).2]; omega

/-- The gradient of the shift. -/
theorem result10 : (dats m 0 c).arrAt 10 cfg0.N = shiftGrad m c :=
  (dats m 0 c).arrAt_eq_of_cover 10 (shiftGrad m c) (fun t hf => by
    have hN : t.val < 8 := lt_of_lt_of_eq t.isLt N_0
    have h7 : t.val = 7 := by have := (flush0_10 t).mp hf; omega
    rw [Value.flushed10]
    funext y
    obtain ⟨r, q, rfl⟩ : ∃ (r : Fin 1) (q : Fin 1024), y = ix2 r q := pairs y
    obtain rfl : r = 0 := Subsingleton.elim _ _
    refine Eq.trans (show _ = (outsAt0 m c t.val t.isLt).2.2.2 (ix2 0 q) from rfl) ?_
    rw [sums10 m c t.val t.isLt q, show 512 * (t.val + 1) = 4096 by omega, firstRows_all, View.read_apply]
    show shiftGrad m c (ix2 0 q) = shiftGrad m c _
    congr 1
    exact ext2 (by show 0 = win0_10.index t 0 * 1 + 1 * 0; rw [(index10 t).1]) (by show q.val = win0_10.index t 1 * 1024 + 1 * q.val; rw [(index10 t).2]; omega)) fun i => by
    have h0 : (i 0).val < 1 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_10 t).mpr (by omega), ?_⟩
    show i ∈ ((View.whole main_v0_3).slice (win0_10.rect t)).set
    rw [View.set_slice_whole, Rect.mem_set_unit]
    intro a
    match a with
    | ⟨0, _⟩ =>
      show win0_10.index t 0 * 1 ≤ (i 0).val ∧ (i 0).val < win0_10.index t 0 * 1 + 1
      rw [(index10 t).1]; omega
    | ⟨1, _⟩ =>
      show win0_10.index t 1 * 1024 ≤ (i 1).val ∧ (i 1).val < win0_10.index t 1 * 1024 + 1024
      rw [(index10 t).2]; omega

end Cert.UpGradIdeal.Sums
-- ==== Proof.Layers.UpGradReference.lean ====
/-
  The reference's results are those the kernel computes, where the gradients and the weight are finite.
-/
module

public import proofs.«01_k».proof.Defs
public import proofs.«01_k».proof.Proof.Swa.Finite
public import proofs.«01_k».proof.Proof.Layers.UpGrad
public import proofs.«01_k».proof.Proof.Gen.UpGradIdeal
public import proofs.«01_k».proof.Proof.Gen.UpGradRefIdeal
public import proofs.«01_k».proof.Proof.Gen.UpGradRefIdeal.Run
public import proofs.«01_k».proof.Proof.Gen.UpGradRefIdeal.Read
public import proofs.«01_k».proof.Proof.Gen.Pre_finite_up
public import Idealize.ShloMosaic.Adequacy

@[expose] public section

set_option maxRecDepth 16384

noncomputable section

namespace Cert.UpGradRefIdeal.Sums

open Idealize.ShloMosaic Idealize.SL.Sem Cert.Layers Cert.UpGradIdeal.Sums Read

/-- The two sides beside each other. -/
def beside (x y : Arr 4096 2816) : Arr 4096 5632 :=
  fun i => if h : (i 1).val < 2816 then x (ix2 (i 0) ⟨(i 1).val, h⟩)
    else y (ix2 (i 0) ⟨(i 1).val - 2816, by have h : (i 1).val < 5632 := (i 1).isLt; omega⟩)

section
variable (x0 : Arr 4096 2816) (x1 : Arr 1024 5632) (x2 : Arr 4096 2816) (x3 : Arr 4096 1024) (x4 : Arr 4096 1024) (x5 : Arr 1 1024)
  (r : Fin 4096) (q : Fin 1024)

theorem beside_left (k : Fin 2816) (h : k.val < 5632) : beside x0 x2 (ix2 r ⟨k.val, h⟩) = x0 (ix2 r k) := dif_pos k.isLt

theorem beside_right (k : Fin 2816) (h : 2816 + k.val < 5632) : beside x0 x2 (ix2 r ⟨2816 + k.val, h⟩) = x2 (ix2 r k) :=
  (dif_neg (show ¬2816 + k.val < 2816 by omega)).trans (congrArg (fun j => x2 (ix2 r j)) (Fin.ext (show 2816 + k.val - 2816 = k.val by omega)))

theorem beside_value : val_main_v2 (F := Ideal) x0 x2 = beside x0 x2 := by
  funext i
  obtain ⟨r, q, rfl⟩ : ∃ (r : Fin 4096) (q : Fin 5632), i = ix2 r q := pairs i
  pointwise [val_main_v2, val_main_v1]
  rfl

theorem dy_apply : val_main_v40 (F := Ideal) x0 x1 x2 x3 (ix2 r q)
    = (∑ k : Fin 5632, val_main_v2 (F := Ideal) x0 x2 (ix2 r k) * x1 (ix2 q k)) + (Ideal.ofBits .f32 0x3FB504F3#32 : EReal) * x3 (ix2 r q) := by
  unfold val_main_v40 val_main_v37
  generalize val_main_v2 (F := Ideal) x0 x2 = y
  pointwise [val_main_v39, val_main_v38, val_main_v0, val_main_cst_8]

/-- The gradient that reaches the norm's result. -/
theorem dy_value : val_main_v40 (F := Ideal) x0 x1 x2 x3 = reachUp x0 x2 x1 x3 := by
  funext i
  obtain ⟨r, q, rfl⟩ := pair i
  rw [dy_apply, beside_value, Fin.sum_univ_add (a := 2816) (b := 2816) fun k => beside x0 x2 (ix2 r k) * x1 (ix2 q k), add_comm, ← add_assoc]
  refine congr (congrArg _ (congrArg _ (Finset.sum_congr rfl fun k _ => ?_))) (Finset.sum_congr rfl fun k _ => ?_)
  · exact congrArg (· * _) (beside_left x0 x2 r k _)
  · exact congrArg (· * _) (beside_right x0 x2 r k _)

theorem centred_apply : val_main_v10 (F := Ideal) x4 (ix2 r q) = centred (fun k => x4 (ix2 r k)) q := by
  pointwise [val_main_v10, val_main_v9, val_main_v8, val_main_v7, val_main_v6, val_main_v5, val_main_cst_0, val_main_cst_1]
  rfl

theorem centred'_apply : val_main_v19 (F := Ideal) x4 (ix2 r q) = centred (fun k => x4 (ix2 r k)) q := by
  rw [← centred_apply]
  pointwise [val_main_v19, val_main_v18, val_main_v10, val_main_v9]

theorem spread_apply : val_main_v21 (F := Ideal) x4 (ix2 r 0) = spread (fun k => x4 (ix2 r k)) := by
  unfold spread
  simp only [← centred_apply]
  unfold val_main_v21 val_main_v17 val_main_v15 val_main_v14 val_main_v11
  generalize val_main_v10 (F := Ideal) x4 = y
  pointwise [val_main_v20, val_main_cst_5, val_main_v16, val_main_cst_4, val_main_cst_3]
  rfl

theorem scale_apply : val_main_v22 (F := Ideal) x4 (ix2 r 0) = scale (fun k => x4 (ix2 r k)) := by
  unfold scale
  rw [← spread_apply]
  unfold val_main_v22
  generalize val_main_v21 (F := Ideal) x4 = y
  pointwise

theorem unit_apply : val_main_v27 (F := Ideal) x4 (ix2 r q) = unitRow (fun k => x4 (ix2 r k)) q := by
  unfold unitRow
  rw [← centred'_apply, ← scale_apply]
  unfold val_main_v27 val_main_v26
  generalize val_main_v19 (F := Ideal) x4 = y
  generalize val_main_v22 (F := Ideal) x4 = s
  pointwise

theorem dyg_apply : val_main_v48 (F := Ideal) x0 x1 x2 x3 x5 (ix2 r q) = val_main_v40 (F := Ideal) x0 x1 x2 x3 (ix2 r q) * x5 (ix2 0 q) := by
  unfold val_main_v48
  generalize val_main_v40 (F := Ideal) x0 x1 x2 x3 = y
  pointwise [val_main_v47, val_main_v28, val_main_v3]

theorem slope_apply : val_main_v60 (F := Ideal) x0 x1 x2 x3 x4 x5 (ix2 r 0) = Layers.slope (fun k => x4 (ix2 r k)) (fun k => val_main_v48 (F := Ideal) x0 x1 x2 x3 x5 (ix2 r k)) := by
  unfold Layers.slope
  simp only [← centred'_apply, ← scale_apply, ← spread_apply]
  unfold val_main_v60 val_main_v55 val_main_v52 val_main_v51 val_main_v50 val_main_v25 val_main_v23
  generalize val_main_v48 (F := Ideal) x0 x1 x2 x3 x5 = y
  generalize val_main_v19 (F := Ideal) x4 = f
  generalize val_main_v22 (F := Ideal) x4 = s
  generalize val_main_v21 (F := Ideal) x4 = v
  pointwise [val_main_v59, val_main_cst_15, val_main_cst_13, val_main_v24, val_main_cst_6]

theorem rows_apply : val_main_v73 (F := Ideal) x0 x1 x2 x3 x4 x5 (ix2 r q) = backRef (fun k => x4 (ix2 r k)) (fun k => val_main_v48 (F := Ideal) x0 x1 x2 x3 x5 (ix2 r k)) q := by
  unfold backRef
  simp only [← centred_apply, ← scale_apply, ← slope_apply]
  unfold val_main_v73 val_main_v72 val_main_v71 val_main_v70 val_main_v68 val_main_v67 val_main_v66 val_main_v65 val_main_v64 val_main_v63 val_main_v62 val_main_v61 val_main_v58 val_main_v57 val_main_v56 val_main_v54 val_main_v53 val_main_v13
  generalize val_main_v60 (F := Ideal) x0 x1 x2 x3 x4 x5 = l
  generalize val_main_v48 (F := Ideal) x0 x1 x2 x3 x5 = y
  generalize val_main_v10 (F := Ideal) x4 = f
  generalize val_main_v22 (F := Ideal) x4 = s
  pointwise [val_main_v12, val_main_cst_2, val_main_cst_16, val_main_cst_14, val_main_cst_17, val_main_v69, val_main_cst_18, val_main_cst_19]
  simp only [Fin.sum_univ_one]

theorem narrow_apply : val_main_v74 (F := Ideal) x0 x1 x2 x3 x4 x5 (ix2 r q) = val_main_v73 (F := Ideal) x0 x1 x2 x3 x4 x5 (ix2 r q) := by
  unfold val_main_v74
  generalize val_main_v73 (F := Ideal) x0 x1 x2 x3 x4 x5 = y
  pointwise

/-- The gradient of the scale. -/
theorem scale_value : val_main_v75 (F := Ideal) x0 x1 x2 x3 x4 = columnSums (timesUnit x4 (reachUp x0 x2 x1 x3)) := by
  funext i
  obtain ⟨q, rfl⟩ := single i
  unfold columnSums timesUnit unitRows
  rw [← dy_value]
  refine Eq.trans ?_ (Finset.sum_congr rfl fun r _ => (mul_comm _ _).trans (congrArg (_ * ·) (unit_apply x4 r q)))
  unfold val_main_v75 val_main_v49 val_main_v46 val_main_v45 val_main_v44
  generalize val_main_v40 (F := Ideal) x0 x1 x2 x3 = y
  generalize val_main_v27 (F := Ideal) x4 = u
  pointwise [val_main_cst_11, val_main_cst_12]
  simp only [Fin.sum_univ_one]

/-- The gradient of the shift. -/
theorem shift_value : val_main_v76 (F := Ideal) x0 x1 x2 x3 = columnSums (reachUp x0 x2 x1 x3) := by
  funext i
  obtain ⟨q, rfl⟩ := single i
  unfold columnSums
  rw [← dy_value]
  unfold val_main_v76 val_main_v43 val_main_v42 val_main_v41
  generalize val_main_v40 (F := Ideal) x0 x1 x2 x3 = y
  pointwise [val_main_cst_9, val_main_cst_10]
  simp only [Fin.sum_univ_one]

/-- Of real numbers the gradient that reaches the norm's result is real. -/
theorem reach_real (h0 : ∀ i, IsReal (x0 i)) (h1 : ∀ i, IsReal (x1 i)) (h2 : ∀ i, IsReal (x2 i)) (h3 : ∀ i, IsReal (x3 i)) (i : (⟨2, ![4096, 1024]⟩ : Shape).Idx) :
    IsReal (reachUp x0 x2 x1 x3 i) :=
  ((IsReal.mul word_scale (h3 _)).add (IsReal.sum fun _ => (h0 _).mul (h1 _))).add (IsReal.sum fun _ => (h2 _).mul (h1 _))

/-- The gradient of the rows. -/
theorem rows_value (h0 : ∀ i, IsReal (x0 i)) (h1 : ∀ i, IsReal (x1 i)) (h2 : ∀ i, IsReal (x2 i)) (h3 : ∀ i, IsReal (x3 i)) (h5 : ∀ i, IsReal (x5 i)) : val_main_v73 (F := Ideal) x0 x1 x2 x3 x4 x5 = backRows x4 (reachUp x0 x2 x1 x3) x5 := by
  funext i
  obtain ⟨r, q, rfl⟩ := pair i
  rw [rows_apply, back_eq_of_real fun k => by rw [dyg_apply, dy_value]; exact (reach_real _ _ _ _ h0 h1 h2 h3 _).mul (h5 _)]
  simp only [dyg_apply, dy_value]
  rfl

/-- The same in the narrower format. -/
theorem narrow_value (h0 : ∀ i, IsReal (x0 i)) (h1 : ∀ i, IsReal (x1 i)) (h2 : ∀ i, IsReal (x2 i)) (h3 : ∀ i, IsReal (x3 i)) (h5 : ∀ i, IsReal (x5 i)) : val_main_v74 (F := Ideal) x0 x1 x2 x3 x4 x5 = backRows x4 (reachUp x0 x2 x1 x3) x5 := by
  rw [← rows_value _ _ _ _ _ _ h0 h1 h2 h3 h5]
  funext i
  obtain ⟨r, q, rfl⟩ := pair i
  exact narrow_apply _ _ _ _ _ _ _ _

/-- Finite arrays hold real numbers. -/
theorem reals [Cert.Pre_finite_up.Facts]
    (h0 : (Cert.Pre_finite_up.fn (F := Ideal) x0 x1 x2 x3 x4 x5).1 = fun _ => 1#1)
    (h1 : (Cert.Pre_finite_up.fn (F := Ideal) x0 x1 x2 x3 x4 x5).2.1 = fun _ => 1#1)
    (h2 : (Cert.Pre_finite_up.fn (F := Ideal) x0 x1 x2 x3 x4 x5).2.2.1 = fun _ => 1#1)
    (h3 : (Cert.Pre_finite_up.fn (F := Ideal) x0 x1 x2 x3 x4 x5).2.2.2.1 = fun _ => 1#1)
    (h5 : (Cert.Pre_finite_up.fn (F := Ideal) x0 x1 x2 x3 x4 x5).2.2.2.2 = fun _ => 1#1) :
    (∀ i, IsReal (x0 i)) ∧ (∀ i, IsReal (x1 i)) ∧ (∀ i, IsReal (x2 i)) ∧ (∀ i, IsReal (x3 i)) ∧ ∀ i, IsReal (x5 i) :=
  ⟨fun i => ⟨_, Cert.Swa.real_of_lt _ (congrFun h0 i)⟩, fun i => ⟨_, Cert.Swa.real_of_lt _ (congrFun h1 i)⟩, fun i => ⟨_, Cert.Swa.real_of_lt _ (congrFun h2 i)⟩, fun i => ⟨_, Cert.Swa.real_of_lt _ (congrFun h3 i)⟩, fun i => ⟨_, Cert.Swa.real_of_lt _ (congrFun h5 i)⟩⟩

/-- From arrays that agree, the results are one. -/
theorem agreeing (b0 : Arr 4096 2816) (b1 : Arr 1024 5632) (b2 : Arr 4096 2816) (b3 : Arr 4096 1024) (b4 : Arr 4096 1024) (b5 : Arr 1 1024)
    (e : b0 = x0 ∧ b1 = x1 ∧ b2 = x2 ∧ b3 = x3 ∧ b4 = x4 ∧ b5 = x5)
    (h : (∀ i, IsReal (x0 i)) ∧ (∀ i, IsReal (x1 i)) ∧ (∀ i, IsReal (x2 i)) ∧ (∀ i, IsReal (x3 i)) ∧ ∀ i, IsReal (x5 i)) :
    val_main_v73 (F := Ideal) b0 b1 b2 b3 b4 b5 = backRows x4 (reachUp x0 x2 x1 x3) x5 ∧ val_main_v74 (F := Ideal) b0 b1 b2 b3 b4 b5 = backRows x4 (reachUp x0 x2 x1 x3) x5
      ∧ val_main_v75 (F := Ideal) b0 b1 b2 b3 b4 = columnSums (timesUnit x4 (reachUp x0 x2 x1 x3)) ∧ val_main_v76 (F := Ideal) b0 b1 b2 b3 = columnSums (reachUp x0 x2 x1 x3) := by
  obtain ⟨e0, e1, e2, e3, e4, e5⟩ := e
  obtain ⟨h0, h1, h2, h3, h5⟩ := h
  subst e0 e1 e2 e3 e4 e5
  exact ⟨rows_value _ _ _ _ _ _ h0 h1 h2 h3 h5, narrow_value _ _ _ _ _ _ h0 h1 h2 h3 h5, scale_value _ _ _ _ _, shift_value _ _ _ _⟩

end

/-- The reference ends with its arguments unchanged and, having no semaphore, with every counter at zero. -/
theorem frame : Cert.quiescent_UpGradRefIdeal (hUpGradRefIdeal := Gen.facts) := fun m ρ _ =>
  (θ_run Cert.UpGradRefIdeal.defs _ _).mono (fun r h => ⟨fun c => (h c).2.2.2.2, sem_eq_zero_of_no_sems (by decide) r.2⟩) (Value.run m ρ)

theorem frame_finite : Cert.quiescent_UpGradRefIdeal_pre_finite_up (hUpGradRefIdeal := Gen.facts) (hPre_finite_up := Cert.Pre_finite_up.Gen.facts) := fun m ρ _ =>
  frame m ρ trivial

/-- The kernel's results are the reference's, where the gradients and the weight are finite. -/
theorem equation : Cert.algebraic_UpGradIdeal_UpGradRefIdeal_pre_finite_up (hUpGradIdeal := Cert.UpGradIdeal.Gen.facts) (hUpGradRefIdeal := Gen.facts)
    (hPre_finite_up := Cert.Pre_finite_up.Gen.facts) := by
  intro m ρ m' ρ' pre agree
  letI := Cert.Pre_finite_up.Gen.facts
  refine ⟨fun c => (Cert.UpGradIdeal.Gen.dats m 0 c).arrAt 7 Cert.UpGradIdeal.cfg0.N, fun c => (Cert.UpGradIdeal.Gen.dats m 0 c).arrAt 8 Cert.UpGradIdeal.cfg0.N, fun c => (Cert.UpGradIdeal.Gen.dats m 0 c).arrAt 9 Cert.UpGradIdeal.cfg0.N, fun c => (Cert.UpGradIdeal.Gen.dats m 0 c).arrAt 10 Cert.UpGradIdeal.cfg0.N,
    Cert.UpGradIdeal.Value.run_blocks m ρ, ?_⟩
  refine (θ_run Cert.UpGradRefIdeal.defs _ _).mono (fun r h c => ?_) (Value.run m' ρ')
  have e := agreeing _ _ _ _ _ _ _ _ _ _ _ _ (agree c) (reals _ _ _ _ _ _ (pre c).1 (pre c).2.1 (pre c).2.2.1 (pre c).2.2.2.1 (pre c).2.2.2.2)
  obtain ⟨h0, h1, h2, h3, hargs⟩ := h c
  exact ⟨((h0.trans (val_main_v73_eq m' c)).trans e.1).trans (Cert.UpGradIdeal.Sums.result7 m c).symm,
    ((h1.trans (val_main_v74_eq m' c)).trans e.2.1).trans (Cert.UpGradIdeal.Sums.result8 m c).symm,
    ((h2.trans (val_main_v75_eq _ _ _ _ _)).trans e.2.2.1).trans (Cert.UpGradIdeal.Sums.result9 m c).symm,
    ((h3.trans (val_main_v76_eq _ _ _ _)).trans e.2.2.2).trans (Cert.UpGradIdeal.Sums.result10 m c).symm, hargs⟩

end Cert.UpGradRefIdeal.Sums
-- ==== Proof.Layers.QueryGrad.lean ====
/-
  The gradient that reaches a layer norm's row through the cross attention's query product: the scaled gradient of the residual and the product by the weight, then the gradient of the norm, a block of rows at a time; the gradients of the norm's scale and shift are summed over the blocks.
-/
module

public import proofs.«01_k».proof.Proof.Layers.NormBack
public import proofs.«01_k».proof.Proof.Gen.QueryGradIdeal.Value

@[expose] public section

set_option maxRecDepth 16384

noncomputable section

namespace Cert.Layers

open Idealize.ShloMosaic

/-- The scaled gradient of the residual and the product by the weight. -/
def reachQuery (a : Arr 4096 1024) (w : Arr 1024 1024) (d : Arr 4096 1024) : Arr 4096 1024 :=
  fun i => Ideal.ofBits .f32 0x3FB504F3#32 * d i + ∑ k : Fin 1024, a (ix2 (i 0) k) * w (ix2 (i 1) k)

end Cert.Layers

namespace Cert.QueryGradIdeal.Sums

open Idealize.ShloMosaic Idealize.ShloMosaic.TcCoe
open Cert.QueryGradIdeal Cert.QueryGradIdeal.Gen Cert.Layers Cert.Products

theorem origin : (![0, 0] : Fin 2 → Nat) = fun _ => 0 := funext fun a => by fin_cases a <;> rfl

section
variable (x0 : Vec Ideal S512x1024 .bf16) (x1 : Vec Ideal S1024x1024 .bf16) (x2 x3 : Vec Ideal S512x1024 .f32) (x4 : Vec Ideal S1x1024 .f32)

/-- The gradient that reaches the norm's result. -/
abbrev reaching : FVec Ideal S512x1024 .f32 := k0_pay7 x2 x0 x1

theorem reaching_apply (r : Fin 512) (q : Fin 1024) : reaching x0 x1 x2 (ix2 r q)
    = (Ideal.ofBits .f32 0x3FB504F3#32 : EReal) * x2 (ix2 r q) + ∑ k : Fin 1024, x0 (ix2 r k) * x1 (ix2 q k) := by
  pointwise [k0_pay7]

theorem pay8_apply (r : Fin 512) (q : Fin 1024) : (k0_pay8 x3 : FVec Ideal S512x1024 .f32) (ix2 r q) = centred (fun k => x3 (ix2 r k)) q := by
  pointwise [k0_pay8]
  rfl

theorem pay9_apply (r : Fin 512) : (k0_pay9 x3 : FVec Ideal S512x1 .f32) (ix2 r 0) = scale (fun k => x3 (ix2 r k)) := by
  unfold scale spread
  simp only [← pay8_apply]
  unfold k0_pay9
  generalize (k0_pay8 x3 : FVec Ideal S512x1024 .f32) = y
  pointwise
  rfl

/-- The normalised rows. -/
abbrev unitBlock : FVec Ideal S512x1024 .f32 := k0_pay10 x3

theorem unit_apply (r : Fin 512) (q : Fin 1024) : unitBlock x3 (ix2 r q) = unitRow (fun k => x3 (ix2 r k)) q := by
  unfold unitRow unitBlock
  rw [← pay8_apply, ← pay9_apply]
  unfold k0_pay10
  generalize (k0_pay8 x3 : FVec Ideal S512x1024 .f32) = y
  generalize (k0_pay9 x3 : FVec Ideal S512x1 .f32) = s
  pointwise

theorem pay11_apply (r : Fin 512) (q : Fin 1024) : (k0_pay11 x2 x0 x1 x4 : FVec Ideal S512x1024 .f32) (ix2 r q)
    = reaching x0 x1 x2 (ix2 r q) * x4 (ix2 0 q) := by
  unfold k0_pay11 reaching
  generalize (k0_pay7 x2 x0 x1 : FVec Ideal S512x1024 .f32) = d
  pointwise

theorem pay12_apply (r : Fin 512) : (k0_pay12 x2 x0 x1 x3 x4 : FVec Ideal S512x1 .f32) (ix2 r 0)
    = mean fun k => (k0_pay11 x2 x0 x1 x4 : FVec Ideal S512x1024 .f32) (ix2 r k) * unitBlock x3 (ix2 r k) := by
  unfold k0_pay12 unitBlock
  generalize (k0_pay11 x2 x0 x1 x4 : FVec Ideal S512x1024 .f32) = d
  generalize (k0_pay10 x3 : FVec Ideal S512x1024 .f32) = u
  pointwise
  rfl

theorem pay13_apply (r : Fin 512) (q : Fin 1024) : (k0_pay13 x2 x0 x1 x4 : FVec Ideal S512x1024 .f32) (ix2 r q)
    = (k0_pay11 x2 x0 x1 x4 : FVec Ideal S512x1024 .f32) (ix2 r q) - mean fun k => (k0_pay11 x2 x0 x1 x4 : FVec Ideal S512x1024 .f32) (ix2 r k) := by
  unfold k0_pay13
  generalize (k0_pay11 x2 x0 x1 x4 : FVec Ideal S512x1024 .f32) = d
  pointwise
  rfl

theorem pay1_apply (s n : FVec Ideal S512x1 .f32) (u y : FVec Ideal S512x1024 .f32) (r : Fin 512) (q : Fin 1024) :
    (k0_pay1 s u n y : FVec Ideal S512x1024 .f32) (ix2 r q) = s (ix2 r 0) * (y (ix2 r q) - u (ix2 r q) * n (ix2 r 0)) := by
  pointwise [k0_pay1]

/-- The gradient of the norm's row. -/
abbrev first : FVec Ideal S512x1024 .f32 := k0_pay1 (k0_pay9 x3) (k0_pay10 x3) (k0_pay12 x2 x0 x1 x3 x4) (k0_pay13 x2 x0 x1 x4)

theorem first_apply (r : Fin 512) (q : Fin 1024) : first x0 x1 x2 x3 x4 (ix2 r q)
    = back (fun k => x3 (ix2 r k)) (fun k => reaching x0 x1 x2 (ix2 r k) * x4 (ix2 0 k)) q := by
  unfold first back
  rw [pay1_apply, pay9_apply, pay12_apply, pay13_apply]
  simp only [unit_apply, pay11_apply]

theorem pay2_apply (s n : FVec Ideal S512x1 .f32) (u y : FVec Ideal S512x1024 .f32) (r : Fin 512) (q : Fin 1024) :
    (k0_pay2 s u n y : FVec Ideal S512x1024 .bf16) (ix2 r q) = (k0_pay1 s u n y : FVec Ideal S512x1024 .f32) (ix2 r q) := by
  pointwise [k0_pay2]

theorem pay3_apply (d u : FVec Ideal S512x1024 .f32) (q : Fin 1024) : (k0_pay3 d u : FVec Ideal S1x1024 .f32) (ix2 0 q) = ∑ r : Fin 512, d (ix2 r q) * u (ix2 r q) := by
  pointwise [k0_pay3]

theorem pay4_apply (d : FVec Ideal S512x1024 .f32) (q : Fin 1024) : (k0_pay4 d : FVec Ideal S1x1024 .f32) (ix2 0 q) = ∑ r : Fin 512, d (ix2 r q) := by
  pointwise [k0_pay4]

theorem pay5_apply (d u : FVec Ideal S512x1024 .f32) (o : Vec Ideal S1x1024 .f32) (q : Fin 1024) :
    (k0_pay5 d u o : FVec Ideal S1x1024 .f32) (ix2 0 q) = o (ix2 0 q) + ∑ r : Fin 512, d (ix2 r q) * u (ix2 r q) := by
  rw [← pay3_apply]
  unfold k0_pay5
  generalize (k0_pay3 d u : FVec Ideal S1x1024 .f32) = e
  pointwise

theorem pay6_apply (d : FVec Ideal S512x1024 .f32) (o : Vec Ideal S1x1024 .f32) (q : Fin 1024) :
    (k0_pay6 d o : FVec Ideal S1x1024 .f32) (ix2 0 q) = o (ix2 0 q) + ∑ r : Fin 512, d (ix2 r q) := by
  rw [← pay4_apply]
  unfold k0_pay6
  generalize (k0_pay4 d : FVec Ideal S1x1024 .f32) = e
  pointwise

variable (c : Dev nD) (i : grid0.Coords) (a1 : Memref sig .tc .vmem S512x1024 .bf16) (h1 : a1.IsWhole) (a2 : Memref sig .tc .vmem S1024x1024 .bf16) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S1x1024 .f32) (h8 : a8.IsWhole)
  (a9 : Memref sig .tc .vmem S1x1024 .f32) (h9 : a9.IsWhole) (o7 o8 : Vec Ideal S1x1024 .f32)

/-! What a point leaves: at the first point the sums begin, at the others they go on. -/

theorem leftA (e0 : cond0_0 i) (e1 : ¬cond0_1 i) :
    out0_A_5 c i a1 h1 a2 h2 a3 h3 a4 h4 a5 h5 a6 h6 a7 h7 a8 h8 a9 h9 e0 e1 x0 x1 x2 x3 x4 = first x0 x1 x2 x3 x4
    ∧ out0_A_6 c i a1 h1 a2 h2 a3 h3 a4 h4 a5 h5 a6 h6 a7 h7 a8 h8 a9 h9 e0 e1 x0 x1 x2 x3 x4 = k0_pay2 (k0_pay9 x3) (k0_pay10 x3) (k0_pay12 x2 x0 x1 x3 x4) (k0_pay13 x2 x0 x1 x4)
    ∧ out0_A_7 c i a1 h1 a2 h2 a3 h3 a4 h4 a5 h5 a6 h6 a7 h7 a8 h8 a9 h9 e0 e1 x0 x1 x2 x3 x4 = k0_pay3 (reaching x0 x1 x2) (unitBlock x3)
    ∧ out0_A_8 c i a1 h1 a2 h2 a3 h3 a4 h4 a5 h5 a6 h6 a7 h7 a8 h8 a9 h9 e0 e1 x0 x1 x2 x3 x4 = k0_pay4 (reaching x0 x1 x2) := by
  refine ⟨?_, ?_, ?_, ?_⟩
  rw [out0_A_5, View.read_writes_eq_canon _ _ _ fun _ => cover0_A_5 ..]
  unfold kernelRun0_A
  dsimp only
  rw [View.canon_unit_zero origin]
  unfold kernelRun0_A.sl.r_1 kernelRun0_A.sl.r_2 kernelRun0_A.sl.r_3 kernelRun0_A.sl.r_4
  rotate_left
  rw [out0_A_6, View.read_writes_eq_canon _ _ _ fun _ => cover0_A_6 ..]
  unfold kernelRun0_A
  dsimp only
  rw [View.canon_unit_zero origin]
  unfold kernelRun0_A.sl.r_1 kernelRun0_A.sl.r_2 kernelRun0_A.sl.r_3 kernelRun0_A.sl.r_4
  rotate_left
  rw [out0_A_7, View.read_writes_eq_canon _ _ _ fun _ => cover0_A_7 ..]
  unfold kernelRun0_A
  dsimp only
  rw [View.canon_unit_zero origin]
  unfold kernelRun0_A.sl.r kernelRun0_A.sl.r_2
  rotate_left
  rw [out0_A_8, View.read_writes_eq_canon _ _ _ fun _ => cover0_A_8 ..]
  unfold kernelRun0_A
  dsimp only
  rw [View.canon_unit_zero origin]
  unfold kernelRun0_A.sl.r
  rotate_left
  all_goals
    simp only [View.readAt_eq_ld, h1.read_unread, h2.read_unread, h3.read_unread, h4.read_unread, h5.read_unread, View.ld_unit_zero (S := S1024x1024) origin, View.ld_unit_zero (S := S512x1024) origin, View.ld_unit_zero (S := S1x1024) origin]

theorem leftB (e0 : ¬cond0_0 i) (e1 : cond0_1 i) :
    out0_B_5 c i a1 h1 a2 h2 a3 h3 a4 h4 a5 h5 a6 h6 a7 h7 a8 h8 a9 h9 e0 e1 x0 x1 x2 x3 x4 o7 o8 = first x0 x1 x2 x3 x4
    ∧ out0_B_6 c i a1 h1 a2 h2 a3 h3 a4 h4 a5 h5 a6 h6 a7 h7 a8 h8 a9 h9 e0 e1 x0 x1 x2 x3 x4 o7 o8 = k0_pay2 (k0_pay9 x3) (k0_pay10 x3) (k0_pay12 x2 x0 x1 x3 x4) (k0_pay13 x2 x0 x1 x4)
    ∧ out0_B_7 c i a1 h1 a2 h2 a3 h3 a4 h4 a5 h5 a6 h6 a7 h7 a8 h8 a9 h9 e0 e1 x0 x1 x2 x3 x4 o7 o8 = k0_pay5 (reaching x0 x1 x2) (unitBlock x3) o7
    ∧ out0_B_8 c i a1 h1 a2 h2 a3 h3 a4 h4 a5 h5 a6 h6 a7 h7 a8 h8 a9 h9 e0 e1 x0 x1 x2 x3 x4 o7 o8 = k0_pay6 (reaching x0 x1 x2) o8 := by
  refine ⟨?_, ?_, ?_, ?_⟩
  rw [out0_B_5, View.read_writes_eq_canon _ _ _ fun _ => cover0_B_5 ..]
  unfold kernelRun0_B
  dsimp only
  rw [View.canon_unit_zero origin]
  unfold kernelRun0_B.sl.r_1 kernelRun0_B.sl.r_2 kernelRun0_B.sl.r_3 kernelRun0_B.sl.r_4
  rotate_left
  rw [out0_B_6, View.read_writes_eq_canon _ _ _ fun _ => cover0_B_6 ..]
  unfold kernelRun0_B
  dsimp only
  rw [View.canon_unit_zero origin]
  unfold kernelRun0_B.sl.r_1 kernelRun0_B.sl.r_2 kernelRun0_B.sl.r_3 kernelRun0_B.sl.r_4
  rotate_left
  rw [out0_B_7, View.read_writes_eq_canon _ _ _ fun _ => cover0_B_7 ..]
  unfold kernelRun0_B
  dsimp only
  rw [View.canon_unit_zero origin]
  unfold kernelRun0_B.sl.r kernelRun0_B.sl.r_2
  rotate_left
  rw [out0_B_8, View.read_writes_eq_canon _ _ _ fun _ => cover0_B_8 ..]
  unfold kernelRun0_B
  dsimp only
  rw [View.canon_unit_zero origin]
  unfold kernelRun0_B.sl.r
  rotate_left
  all_goals
    simp only [View.readAt_eq_ld, h1.read_unread, h2.read_unread, h3.read_unread, h4.read_unread, h5.read_unread, h8.read_unread, h9.read_unread, View.ld_unit_zero (S := S1024x1024) origin, View.ld_unit_zero (S := S512x1024) origin, View.ld_unit_zero (S := S1x1024) origin]

theorem second_apply (r : Fin 512) (q : Fin 1024) : (k0_pay2 (k0_pay9 x3) (k0_pay10 x3) (k0_pay12 x2 x0 x1 x3 x4) (k0_pay13 x2 x0 x1 x4) : FVec Ideal S512x1024 .bf16) (ix2 r q) = first x0 x1 x2 x3 x4 (ix2 r q) := pay2_apply _ _ _ _ r q

end

variable (m : (ℓ : Loc nD τ sig) → Buf (Elt Ideal) ℓ) (c : Dev nD)

/-! The arrays. -/

abbrev dq (c : Dev nD) : Arr 4096 1024 := m ((c : Thread nD τ).loc main_arg0)
abbrev weight (c : Dev nD) : Arr 1024 1024 := m ((c : Thread nD τ).loc main_arg1)
abbrev resid (c : Dev nD) : Arr 4096 1024 := m ((c : Thread nD τ).loc main_arg2)
abbrev saved (c : Dev nD) : Arr 4096 1024 := m ((c : Thread nD τ).loc main_arg3)
abbrev gain (c : Dev nD) : Arr 1 1024 := m ((c : Thread nD τ).loc main_arg4)

/-- The gradient that reaches the norm's result, of all rows. -/
abbrev reached (c : Dev nD) : Arr 4096 1024 := reachQuery (dq m c) (weight m c) (resid m c)

/-! The results: the gradients of the rows, of the scale and of the shift. -/

abbrev rowsGrad (c : Dev nD) : Arr 4096 1024 := backRows (saved m c) (reached m c) (gain m c)
abbrev scaleGrad (c : Dev nD) : Arr 1 1024 := columnSums (timesUnit (saved m c) (reached m c))
abbrev shiftGrad (c : Dev nD) : Arr 1 1024 := columnSums (reached m c)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel

/-- A block of rows of the queries' gradient. -/
theorem iblk0 (t : Fin cfg0.N) (r : Fin 512) (k : Fin 1024) (h0 : 512 * t.val + r.val < 4096) : (iblk m c 0 t : Vec Ideal S512x1024 .bf16) (ix2 r k) = dq m c (ix2 ⟨512 * t.val + r.val, h0⟩ k) := by
  unfold iblk
  rw [View.read_apply]
  show V m c main_arg0 _ = _
  rw [V_main_arg0]
  congr 1
  exact ext2 (by show win0_0.index t 0 * 512 + 1 * r.val = 512 * t.val + r.val; rw [(index0 t).1]; omega) (by show win0_0.index t 1 * 1024 + 1 * k.val = k.val; rw [(index0 t).2]; omega)

/-- The weight. -/
theorem iblk1 (t : Fin cfg0.N) (r : Fin 1024) (k : Fin 1024)  : (iblk m c 1 t : Vec Ideal S1024x1024 .bf16) (ix2 r k) = weight m c (ix2 r k) := by
  unfold iblk
  rw [View.read_apply]
  show V m c main_arg1 _ = _
  rw [V_main_arg1]
  congr 1
  exact ext2 (by show win0_1.index t 0 * 1024 + 1 * r.val = r.val; rw [(index1 t).1]; omega) (by show win0_1.index t 1 * 1024 + 1 * k.val = k.val; rw [(index1 t).2]; omega)

/-- A block of rows of the residual's gradient. -/
theorem iblk2 (t : Fin cfg0.N) (r : Fin 512) (k : Fin 1024) (h0 : 512 * t.val + r.val < 4096) : (iblk m c 2 t : Vec Ideal S512x1024 .f32) (ix2 r k) = resid m c (ix2 ⟨512 * t.val + r.val, h0⟩ k) := by
  unfold iblk
  rw [View.read_apply]
  show V m c main_arg2 _ = _
  rw [V_main_arg2]
  congr 1
  exact ext2 (by show win0_2.index t 0 * 512 + 1 * r.val = 512 * t.val + r.val; rw [(index2 t).1]; omega) (by show win0_2.index t 1 * 1024 + 1 * k.val = k.val; rw [(index2 t).2]; omega)

/-- A block of the rows normalised. -/
theorem iblk3 (t : Fin cfg0.N) (r : Fin 512) (k : Fin 1024) (h0 : 512 * t.val + r.val < 4096) : (iblk m c 3 t : Vec Ideal S512x1024 .f32) (ix2 r k) = saved m c (ix2 ⟨512 * t.val + r.val, h0⟩ k) := by
  unfold iblk
  rw [View.read_apply]
  show V m c main_arg3 _ = _
  rw [V_main_arg3]
  congr 1
  exact ext2 (by show win0_3.index t 0 * 512 + 1 * r.val = 512 * t.val + r.val; rw [(index3 t).1]; omega) (by show win0_3.index t 1 * 1024 + 1 * k.val = k.val; rw [(index3 t).2]; omega)

/-- The scale. -/
theorem iblk4 (t : Fin cfg0.N) (r : Fin 1) (k : Fin 1024)  : (iblk m c 4 t : Vec Ideal S1x1024 .f32) (ix2 r k) = gain m c (ix2 r k) := by
  unfold iblk
  rw [View.read_apply]
  show V m c main_arg4 _ = _
  rw [V_main_arg4]
  congr 1
  exact ext2 (by show win0_4.index t 0 * 1 + 1 * r.val = r.val; rw [(index4 t).1]; omega) (by show win0_4.index t 1 * 1024 + 1 * k.val = k.val; rw [(index4 t).2]; omega)

theorem reaching_block (t : Fin cfg0.N) (r : Fin 512) (q : Fin 1024) (h0 : 512 * t.val + r.val < 4096) :
    reaching (iblk m c 0 t) (iblk m c 1 t) (iblk m c 2 t) (ix2 r q) = reached m c (ix2 ⟨512 * t.val + r.val, h0⟩ q) := by
  rw [reaching_apply]
  simp only [iblk0 m c t _ _ h0, iblk1, iblk2 m c t _ _ h0]
  rfl

theorem unit_block (t : Fin cfg0.N) (r : Fin 512) (q : Fin 1024) (h0 : 512 * t.val + r.val < 4096) :
    unitBlock (iblk m c 3 t) (ix2 r q) = unitRows (saved m c) (ix2 ⟨512 * t.val + r.val, h0⟩ q) := by
  rw [unit_apply]
  simp only [iblk3 m c t _ _ h0]
  rfl

theorem first_block (t : Fin cfg0.N) (r : Fin 512) (q : Fin 1024) (h0 : 512 * t.val + r.val < 4096) :
    first (iblk m c 0 t) (iblk m c 1 t) (iblk m c 2 t) (iblk m c 3 t) (iblk m c 4 t) (ix2 r q) = rowsGrad m c (ix2 ⟨512 * t.val + r.val, h0⟩ q) := by
  rw [first_apply]
  simp only [reaching_block m c t _ _ h0, iblk3 m c t _ _ h0, iblk4]
  rfl

theorem written5 (t : Fin cfg0.N) (r : Fin 512) (q : Fin 1024) (h0 : 512 * t.val + r.val < 4096) :
    (outsAt0 m c t.val t.isLt).1 (ix2 r q) = rowsGrad m c (ix2 ⟨512 * t.val + r.val, h0⟩ q) := by
  have hN : t.val < 8 := lt_of_lt_of_eq t.isLt N_0
  refine Eq.trans ?_ (first_block m c t r q h0)
  by_cases hz : t.val = 0
  · rw [outsAt0_A m c t (by omega) (by omega)]
    dsimp only
    rw [(leftA ..).1]
  · rw [outsAt0_B m c t (by omega) (by omega)]
    dsimp only
    rw [(leftB ..).1]

theorem written6 (t : Fin cfg0.N) (r : Fin 512) (q : Fin 1024) (h0 : 512 * t.val + r.val < 4096) :
    (outsAt0 m c t.val t.isLt).2.1 (ix2 r q) = rowsGrad m c (ix2 ⟨512 * t.val + r.val, h0⟩ q) := by
  have hN : t.val < 8 := lt_of_lt_of_eq t.isLt N_0
  refine Eq.trans ?_ (first_block m c t r q h0)
  by_cases hz : t.val = 0
  · rw [outsAt0_A m c t (by omega) (by omega)]
    dsimp only
    rw [(leftA ..).2.1, second_apply]
  · rw [outsAt0_B m c t (by omega) (by omega)]
    dsimp only
    rw [(leftB ..).2.1, second_apply]

/-- After a point, the sum over the rows up to its block's end. -/
theorem sums7 : ∀ (n : ℕ) (h : n < cfg0.N) (q : Fin 1024),
    (outsAt0 m c n h).2.2.1 (ix2 0 q) = firstRows (timesUnit (saved m c) (reached m c)) (512 * (n + 1)) q.val
  | 0, h, q => by
    rw [show outsAt0 m c 0 h = _ from outsAt0_A m c ⟨0, h⟩ (Nat.zero_mod 8) (Nat.not_succ_le_zero 0)]
    dsimp only
    rw [(leftA ..).2.2.1, pay3_apply]
    refine (zero_add _).symm.trans ?_
    exact firstRows_block _ 0 (by omega) q _ fun r => by
      rw [reaching_block m c ⟨0, h⟩ r q (by simp only [Nat.mul_zero]; omega), unit_block m c ⟨0, h⟩ r q (by simp only [Nat.mul_zero]; omega)]
      rfl
  | n + 1, h, q => by
    have hN : n + 1 < 8 := lt_of_lt_of_eq h N_0
    have e := outsAt0_B m c ⟨n + 1, h⟩ (by dsimp only; omega) (by dsimp only; omega)
    rw [show outsAt0 m c (n + 1) h = _ from e]
    dsimp only
    rw [(leftB ..).2.2.1, pay5_apply]
    refine (congrArg (· + _) (sums7 n (by omega) q)).trans ?_
    exact firstRows_block _ (512 * (n + 1)) (by omega) q _ fun r => by
      rw [reaching_block m c ⟨n + 1, h⟩ r q (by dsimp only; omega), unit_block m c ⟨n + 1, h⟩ r q (by dsimp only; omega)]
      rfl

theorem sums8 : ∀ (n : ℕ) (h : n < cfg0.N) (q : Fin 1024),
    (outsAt0 m c n h).2.2.2 (ix2 0 q) = firstRows (reached m c) (512 * (n + 1)) q.val
  | 0, h, q => by
    rw [show outsAt0 m c 0 h = _ from outsAt0_A m c ⟨0, h⟩ (Nat.zero_mod 8) (Nat.not_succ_le_zero 0)]
    dsimp only
    rw [(leftA ..).2.2.2, pay4_apply]
    refine (zero_add _).symm.trans ?_
    exact firstRows_block _ 0 (by omega) q _ fun r => by
      rw [reaching_block m c ⟨0, h⟩ r q (by simp only [Nat.mul_zero]; omega)]
      rfl
  | n + 1, h, q => by
    have hN : n + 1 < 8 := lt_of_lt_of_eq h N_0
    have e := outsAt0_B m c ⟨n + 1, h⟩ (by dsimp only; omega) (by dsimp only; omega)
    rw [show outsAt0 m c (n + 1) h = _ from e]
    dsimp only
    rw [(leftB ..).2.2.2, pay6_apply]
    refine (congrArg (· + _) (sums8 n (by omega) q)).trans ?_
    exact firstRows_block _ (512 * (n + 1)) (by omega) q _ fun r => by
      rw [reaching_block m c ⟨n + 1, h⟩ r q (by dsimp only; omega)]

/-- The gradient of the rows. -/
theorem result5 : (dats m 0 c).arrAt 5 cfg0.N = rowsGrad m c :=
  (dats m 0 c).arrAt_eq_of_cover 5 (rowsGrad m c) (fun t hf => by
    have hN : t.val < 8 := lt_of_lt_of_eq t.isLt N_0
    rw [Value.flushed5]
    funext y
    obtain ⟨r, q, rfl⟩ : ∃ (r : Fin 512) (q : Fin 1024), y = ix2 r q := pairs y
    refine Eq.trans (show _ = (outsAt0 m c t.val t.isLt).1 (ix2 r q) from rfl) ?_
    rw [written5 m c t r q (by omega), View.read_apply]
    show rowsGrad m c (ix2 ⟨512 * t.val + r.val, by omega⟩ q) = rowsGrad m c _
    congr 1
    exact ext2 (by show 512 * t.val + r.val = win0_5.index t 0 * 512 + 1 * r.val; rw [(index5 t).1]; omega) (by show q.val = win0_5.index t 1 * 1024 + 1 * q.val; rw [(index5 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_5 t, ?_⟩
    show i ∈ ((View.whole main_v0_0).slice (win0_5.rect t)).set
    rw [View.set_slice_whole, Rect.mem_set_unit]
    intro a
    match a with
    | ⟨0, _⟩ =>
      show win0_5.index t 0 * 512 ≤ (i 0).val ∧ (i 0).val < win0_5.index t 0 * 512 + 512
      rw [(index5 t).1]; omega
    | ⟨1, _⟩ =>
      show win0_5.index t 1 * 1024 ≤ (i 1).val ∧ (i 1).val < win0_5.index t 1 * 1024 + 1024
      rw [(index5 t).2]; omega

/-- The same in the narrower format. -/
theorem result6 : (dats m 0 c).arrAt 6 cfg0.N = rowsGrad m c :=
  (dats m 0 c).arrAt_eq_of_cover 6 (rowsGrad m c) (fun t hf => by
    have hN : t.val < 8 := lt_of_lt_of_eq t.isLt N_0
    rw [Value.flushed6]
    funext y
    obtain ⟨r, q, rfl⟩ : ∃ (r : Fin 512) (q : Fin 1024), y = ix2 r q := pairs y
    refine Eq.trans (show _ = (outsAt0 m c t.val t.isLt).2.1 (ix2 r q) from rfl) ?_
    rw [written6 m c t r q (by omega), View.read_apply]
    show rowsGrad m c (ix2 ⟨512 * t.val + r.val, by omega⟩ q) = rowsGrad m c _
    congr 1
    exact ext2 (by show 512 * t.val + r.val = win0_6.index t 0 * 512 + 1 * r.val; rw [(index6 t).1]; omega) (by show q.val = win0_6.index t 1 * 1024 + 1 * q.val; rw [(index6 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_6 t, ?_⟩
    show i ∈ ((View.whole main_v0_1).slice (win0_6.rect t)).set
    rw [View.set_slice_whole, Rect.mem_set_unit]
    intro a
    match a with
    | ⟨0, _⟩ =>
      show win0_6.index t 0 * 512 ≤ (i 0).val ∧ (i 0).val < win0_6.index t 0 * 512 + 512
      rw [(index6 t).1]; omega
    | ⟨1, _⟩ =>
      show win0_6.index t 1 * 1024 ≤ (i 1).val ∧ (i 1).val < win0_6.index t 1 * 1024 + 1024
      rw [(index6 t).2]; omega

/-- The gradient of the scale. -/
theorem result7 : (dats m 0 c).arrAt 7 cfg0.N = scaleGrad m c :=
  (dats m 0 c).arrAt_eq_of_cover 7 (scaleGrad m c) (fun t hf => by
    have hN : t.val < 8 := lt_of_lt_of_eq t.isLt N_0
    have h7 : t.val = 7 := by have := (flush0_7 t).mp hf; omega
    rw [Value.flushed7]
    funext y
    obtain ⟨r, q, rfl⟩ : ∃ (r : Fin 1) (q : Fin 1024), y = ix2 r q := pairs y
    obtain rfl : r = 0 := Subsingleton.elim _ _
    refine Eq.trans (show _ = (outsAt0 m c t.val t.isLt).2.2.1 (ix2 0 q) from rfl) ?_
    rw [sums7 m c t.val t.isLt q, show 512 * (t.val + 1) = 4096 by omega, firstRows_all, View.read_apply]
    show scaleGrad m c (ix2 0 q) = scaleGrad m c _
    congr 1
    exact ext2 (by show 0 = win0_7.index t 0 * 1 + 1 * 0; rw [(index7 t).1]) (by show q.val = win0_7.index t 1 * 1024 + 1 * q.val; rw [(index7 t).2]; omega)) fun i => by
    have h0 : (i 0).val < 1 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_7 t).mpr (by omega), ?_⟩
    show i ∈ ((View.whole main_v0_2).slice (win0_7.rect t)).set
    rw [View.set_slice_whole, Rect.mem_set_unit]
    intro a
    match a with
    | ⟨0, _⟩ =>
      show win0_7.index t 0 * 1 ≤ (i 0).val ∧ (i 0).val < win0_7.index t 0 * 1 + 1
      rw [(index7 t).1]; omega
    | ⟨1, _⟩ =>
      show win0_7.index t 1 * 1024 ≤ (i 1).val ∧ (i 1).val < win0_7.index t 1 * 1024 + 1024
      rw [(index7 t).2]; omega

/-- The gradient of the shift. -/
theorem result8 : (dats m 0 c).arrAt 8 cfg0.N = shiftGrad m c :=
  (dats m 0 c).arrAt_eq_of_cover 8 (shiftGrad m c) (fun t hf => by
    have hN : t.val < 8 := lt_of_lt_of_eq t.isLt N_0
    have h7 : t.val = 7 := by have := (flush0_8 t).mp hf; omega
    rw [Value.flushed8]
    funext y
    obtain ⟨r, q, rfl⟩ : ∃ (r : Fin 1) (q : Fin 1024), y = ix2 r q := pairs y
    obtain rfl : r = 0 := Subsingleton.elim _ _
    refine Eq.trans (show _ = (outsAt0 m c t.val t.isLt).2.2.2 (ix2 0 q) from rfl) ?_
    rw [sums8 m c t.val t.isLt q, show 512 * (t.val + 1) = 4096 by omega, firstRows_all, View.read_apply]
    show shiftGrad m c (ix2 0 q) = shiftGrad m c _
    congr 1
    exact ext2 (by show 0 = win0_8.index t 0 * 1 + 1 * 0; rw [(index8 t).1]) (by show q.val = win0_8.index t 1 * 1024 + 1 * q.val; rw [(index8 t).2]; omega)) fun i => by
    have h0 : (i 0).val < 1 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_8 t).mpr (by omega), ?_⟩
    show i ∈ ((View.whole main_v0_3).slice (win0_8.rect t)).set
    rw [View.set_slice_whole, Rect.mem_set_unit]
    intro a
    match a with
    | ⟨0, _⟩ =>
      show win0_8.index t 0 * 1 ≤ (i 0).val ∧ (i 0).val < win0_8.index t 0 * 1 + 1
      rw [(index8 t).1]; omega
    | ⟨1, _⟩ =>
      show win0_8.index t 1 * 1024 ≤ (i 1).val ∧ (i 1).val < win0_8.index t 1 * 1024 + 1024
      rw [(index8 t).2]; omega

end Cert.QueryGradIdeal.Sums
-- ==== Proof.Layers.QueryGradReference.lean ====
/-
  The reference's results are those the kernel computes, where the gradients and the weight are finite.
-/
module

public import proofs.«01_k».proof.Defs
public import proofs.«01_k».proof.Proof.Swa.Finite
public import proofs.«01_k».proof.Proof.Layers.QueryGrad
public import proofs.«01_k».proof.Proof.Gen.QueryGradIdeal
public import proofs.«01_k».proof.Proof.Gen.QueryGradRefIdeal
public import proofs.«01_k».proof.Proof.Gen.QueryGradRefIdeal.Run
public import proofs.«01_k».proof.Proof.Gen.QueryGradRefIdeal.Read
public import proofs.«01_k».proof.Proof.Gen.Pre_finite_query
public import Idealize.ShloMosaic.Adequacy

@[expose] public section

set_option maxRecDepth 16384

noncomputable section

namespace Cert.QueryGradRefIdeal.Sums

open Idealize.ShloMosaic Idealize.SL.Sem Cert.Layers Cert.QueryGradIdeal.Sums Read

section
variable (x0 : Arr 4096 1024) (x1 : Arr 1024 1024) (x2 : Arr 4096 1024) (x3 : Arr 4096 1024) (x4 : Arr 1 1024)
  (r : Fin 4096) (q : Fin 1024)

/-- The gradient that reaches the norm's result. -/
theorem dy_value : val_main_v39 (F := Ideal) x0 x1 x2 = reachQuery x0 x1 x2 := by
  funext i
  obtain ⟨r, q, rfl⟩ := pair i
  refine Eq.trans ?_ (add_comm _ _)
  pointwise [val_main_v39, val_main_v38, val_main_v37, val_main_v36, val_main_v35, val_main_v0, val_main_cst_8]

theorem centred_apply : val_main_v8 (F := Ideal) x3 (ix2 r q) = centred (fun k => x3 (ix2 r k)) q := by
  pointwise [val_main_v8, val_main_v7, val_main_v6, val_main_v5, val_main_v4, val_main_v3, val_main_cst_0, val_main_cst_1]
  rfl

theorem centred'_apply : val_main_v17 (F := Ideal) x3 (ix2 r q) = centred (fun k => x3 (ix2 r k)) q := by
  rw [← centred_apply]
  pointwise [val_main_v17, val_main_v16, val_main_v8, val_main_v7]

theorem spread_apply : val_main_v19 (F := Ideal) x3 (ix2 r 0) = spread (fun k => x3 (ix2 r k)) := by
  unfold spread
  simp only [← centred_apply]
  unfold val_main_v19 val_main_v15 val_main_v13 val_main_v12 val_main_v9
  generalize val_main_v8 (F := Ideal) x3 = y
  pointwise [val_main_v18, val_main_cst_5, val_main_v14, val_main_cst_4, val_main_cst_3]
  rfl

theorem scale_apply : val_main_v20 (F := Ideal) x3 (ix2 r 0) = scale (fun k => x3 (ix2 r k)) := by
  unfold scale
  rw [← spread_apply]
  unfold val_main_v20
  generalize val_main_v19 (F := Ideal) x3 = y
  pointwise

theorem unit_apply : val_main_v25 (F := Ideal) x3 (ix2 r q) = unitRow (fun k => x3 (ix2 r k)) q := by
  unfold unitRow
  rw [← centred'_apply, ← scale_apply]
  unfold val_main_v25 val_main_v24
  generalize val_main_v17 (F := Ideal) x3 = y
  generalize val_main_v20 (F := Ideal) x3 = s
  pointwise

theorem dyg_apply : val_main_v47 (F := Ideal) x0 x1 x2 x4 (ix2 r q) = val_main_v39 (F := Ideal) x0 x1 x2 (ix2 r q) * x4 (ix2 0 q) := by
  unfold val_main_v47
  generalize val_main_v39 (F := Ideal) x0 x1 x2 = y
  pointwise [val_main_v46, val_main_v26, val_main_v1]

theorem slope_apply : val_main_v59 (F := Ideal) x0 x1 x2 x3 x4 (ix2 r 0) = Layers.slope (fun k => x3 (ix2 r k)) (fun k => val_main_v47 (F := Ideal) x0 x1 x2 x4 (ix2 r k)) := by
  unfold Layers.slope
  simp only [← centred'_apply, ← scale_apply, ← spread_apply]
  unfold val_main_v59 val_main_v54 val_main_v51 val_main_v50 val_main_v49 val_main_v23 val_main_v21
  generalize val_main_v47 (F := Ideal) x0 x1 x2 x4 = y
  generalize val_main_v17 (F := Ideal) x3 = f
  generalize val_main_v20 (F := Ideal) x3 = s
  generalize val_main_v19 (F := Ideal) x3 = v
  pointwise [val_main_v58, val_main_cst_15, val_main_cst_13, val_main_v22, val_main_cst_6]

theorem rows_apply : val_main_v72 (F := Ideal) x0 x1 x2 x3 x4 (ix2 r q) = backRef (fun k => x3 (ix2 r k)) (fun k => val_main_v47 (F := Ideal) x0 x1 x2 x4 (ix2 r k)) q := by
  unfold backRef
  simp only [← centred_apply, ← scale_apply, ← slope_apply]
  unfold val_main_v72 val_main_v71 val_main_v70 val_main_v69 val_main_v67 val_main_v66 val_main_v65 val_main_v64 val_main_v63 val_main_v62 val_main_v61 val_main_v60 val_main_v57 val_main_v56 val_main_v55 val_main_v53 val_main_v52 val_main_v11
  generalize val_main_v59 (F := Ideal) x0 x1 x2 x3 x4 = l
  generalize val_main_v47 (F := Ideal) x0 x1 x2 x4 = y
  generalize val_main_v8 (F := Ideal) x3 = f
  generalize val_main_v20 (F := Ideal) x3 = s
  pointwise [val_main_v10, val_main_cst_2, val_main_cst_16, val_main_cst_14, val_main_cst_17, val_main_v68, val_main_cst_18, val_main_cst_19]
  simp only [Fin.sum_univ_one]

theorem narrow_apply : val_main_v73 (F := Ideal) x0 x1 x2 x3 x4 (ix2 r q) = val_main_v72 (F := Ideal) x0 x1 x2 x3 x4 (ix2 r q) := by
  unfold val_main_v73
  generalize val_main_v72 (F := Ideal) x0 x1 x2 x3 x4 = y
  pointwise

/-- The gradient of the scale. -/
theorem scale_value : val_main_v74 (F := Ideal) x0 x1 x2 x3 = columnSums (timesUnit x3 (reachQuery x0 x1 x2)) := by
  funext i
  obtain ⟨q, rfl⟩ := single i
  unfold columnSums timesUnit unitRows
  rw [← dy_value]
  refine Eq.trans ?_ (Finset.sum_congr rfl fun r _ => (mul_comm _ _).trans (congrArg (_ * ·) (unit_apply x3 r q)))
  unfold val_main_v74 val_main_v48 val_main_v45 val_main_v44 val_main_v43
  generalize val_main_v39 (F := Ideal) x0 x1 x2 = y
  generalize val_main_v25 (F := Ideal) x3 = u
  pointwise [val_main_cst_11, val_main_cst_12]
  simp only [Fin.sum_univ_one]

/-- The gradient of the shift. -/
theorem shift_value : val_main_v75 (F := Ideal) x0 x1 x2 = columnSums (reachQuery x0 x1 x2) := by
  funext i
  obtain ⟨q, rfl⟩ := single i
  unfold columnSums
  rw [← dy_value]
  unfold val_main_v75 val_main_v42 val_main_v41 val_main_v40
  generalize val_main_v39 (F := Ideal) x0 x1 x2 = y
  pointwise [val_main_cst_9, val_main_cst_10]
  simp only [Fin.sum_univ_one]

/-- Of real numbers the gradient that reaches the norm's result is real. -/
theorem reach_real (h0 : ∀ i, IsReal (x0 i)) (h1 : ∀ i, IsReal (x1 i)) (h2 : ∀ i, IsReal (x2 i)) (i : (⟨2, ![4096, 1024]⟩ : Shape).Idx) :
    IsReal (reachQuery x0 x1 x2 i) :=
  (IsReal.mul word_scale (h2 _)).add (IsReal.sum fun _ => (h0 _).mul (h1 _))

/-- The gradient of the rows. -/
theorem rows_value (h0 : ∀ i, IsReal (x0 i)) (h1 : ∀ i, IsReal (x1 i)) (h2 : ∀ i, IsReal (x2 i)) (h4 : ∀ i, IsReal (x4 i)) : val_main_v72 (F := Ideal) x0 x1 x2 x3 x4 = backRows x3 (reachQuery x0 x1 x2) x4 := by
  funext i
  obtain ⟨r, q, rfl⟩ := pair i
  rw [rows_apply, back_eq_of_real fun k => by rw [dyg_apply, dy_value]; exact (reach_real _ _ _ h0 h1 h2 _).mul (h4 _)]
  simp only [dyg_apply, dy_value]
  rfl

/-- The same in the narrower format. -/
theorem narrow_value (h0 : ∀ i, IsReal (x0 i)) (h1 : ∀ i, IsReal (x1 i)) (h2 : ∀ i, IsReal (x2 i)) (h4 : ∀ i, IsReal (x4 i)) : val_main_v73 (F := Ideal) x0 x1 x2 x3 x4 = backRows x3 (reachQuery x0 x1 x2) x4 := by
  rw [← rows_value _ _ _ _ _ h0 h1 h2 h4]
  funext i
  obtain ⟨r, q, rfl⟩ := pair i
  exact narrow_apply _ _ _ _ _ _ _

/-- Finite arrays hold real numbers. -/
theorem reals [Cert.Pre_finite_query.Facts]
    (h0 : (Cert.Pre_finite_query.fn (F := Ideal) x0 x1 x2 x3 x4).1 = fun _ => 1#1)
    (h1 : (Cert.Pre_finite_query.fn (F := Ideal) x0 x1 x2 x3 x4).2.1 = fun _ => 1#1)
    (h2 : (Cert.Pre_finite_query.fn (F := Ideal) x0 x1 x2 x3 x4).2.2.1 = fun _ => 1#1)
    (h4 : (Cert.Pre_finite_query.fn (F := Ideal) x0 x1 x2 x3 x4).2.2.2 = fun _ => 1#1) :
    (∀ i, IsReal (x0 i)) ∧ (∀ i, IsReal (x1 i)) ∧ (∀ i, IsReal (x2 i)) ∧ ∀ i, IsReal (x4 i) :=
  ⟨fun i => ⟨_, Cert.Swa.real_of_lt _ (congrFun h0 i)⟩, fun i => ⟨_, Cert.Swa.real_of_lt _ (congrFun h1 i)⟩, fun i => ⟨_, Cert.Swa.real_of_lt _ (congrFun h2 i)⟩, fun i => ⟨_, Cert.Swa.real_of_lt _ (congrFun h4 i)⟩⟩

/-- From arrays that agree, the results are one. -/
theorem agreeing (b0 : Arr 4096 1024) (b1 : Arr 1024 1024) (b2 : Arr 4096 1024) (b3 : Arr 4096 1024) (b4 : Arr 1 1024)
    (e : b0 = x0 ∧ b1 = x1 ∧ b2 = x2 ∧ b3 = x3 ∧ b4 = x4)
    (h : (∀ i, IsReal (x0 i)) ∧ (∀ i, IsReal (x1 i)) ∧ (∀ i, IsReal (x2 i)) ∧ ∀ i, IsReal (x4 i)) :
    val_main_v72 (F := Ideal) b0 b1 b2 b3 b4 = backRows x3 (reachQuery x0 x1 x2) x4 ∧ val_main_v73 (F := Ideal) b0 b1 b2 b3 b4 = backRows x3 (reachQuery x0 x1 x2) x4
      ∧ val_main_v74 (F := Ideal) b0 b1 b2 b3 = columnSums (timesUnit x3 (reachQuery x0 x1 x2)) ∧ val_main_v75 (F := Ideal) b0 b1 b2 = columnSums (reachQuery x0 x1 x2) := by
  obtain ⟨e0, e1, e2, e3, e4⟩ := e
  obtain ⟨h0, h1, h2, h4⟩ := h
  subst e0 e1 e2 e3 e4
  exact ⟨rows_value _ _ _ _ _ h0 h1 h2 h4, narrow_value _ _ _ _ _ h0 h1 h2 h4, scale_value _ _ _ _, shift_value _ _ _⟩

end

/-- The reference ends with its arguments unchanged and, having no semaphore, with every counter at zero. -/
theorem frame : Cert.quiescent_QueryGradRefIdeal (hQueryGradRefIdeal := Gen.facts) := fun m ρ _ =>
  (θ_run Cert.QueryGradRefIdeal.defs _ _).mono (fun r h => ⟨fun c => (h c).2.2.2.2, sem_eq_zero_of_no_sems (by decide) r.2⟩) (Value.run m ρ)

theorem frame_finite : Cert.quiescent_QueryGradRefIdeal_pre_finite_query (hQueryGradRefIdeal := Gen.facts) (hPre_finite_query := Cert.Pre_finite_query.Gen.facts) := fun m ρ _ =>
  frame m ρ trivial

/-- The kernel's results are the reference's, where the gradients and the weight are finite. -/
theorem equation : Cert.algebraic_QueryGradIdeal_QueryGradRefIdeal_pre_finite_query (hQueryGradIdeal := Cert.QueryGradIdeal.Gen.facts) (hQueryGradRefIdeal := Gen.facts)
    (hPre_finite_query := Cert.Pre_finite_query.Gen.facts) := by
  intro m ρ m' ρ' pre agree
  letI := Cert.Pre_finite_query.Gen.facts
  refine ⟨fun c => (Cert.QueryGradIdeal.Gen.dats m 0 c).arrAt 5 Cert.QueryGradIdeal.cfg0.N, fun c => (Cert.QueryGradIdeal.Gen.dats m 0 c).arrAt 6 Cert.QueryGradIdeal.cfg0.N, fun c => (Cert.QueryGradIdeal.Gen.dats m 0 c).arrAt 7 Cert.QueryGradIdeal.cfg0.N, fun c => (Cert.QueryGradIdeal.Gen.dats m 0 c).arrAt 8 Cert.QueryGradIdeal.cfg0.N,
    Cert.QueryGradIdeal.Value.run_blocks m ρ, ?_⟩
  refine (θ_run Cert.QueryGradRefIdeal.defs _ _).mono (fun r h c => ?_) (Value.run m' ρ')
  have e := agreeing _ _ _ _ _ _ _ _ _ _ (agree c) (reals _ _ _ _ _ (pre c).1 (pre c).2.1 (pre c).2.2.1 (pre c).2.2.2)
  obtain ⟨h0, h1, h2, h3, hargs⟩ := h c
  exact ⟨((h0.trans (val_main_v72_eq m' c)).trans e.1).trans (Cert.QueryGradIdeal.Sums.result5 m c).symm,
    ((h1.trans (val_main_v73_eq m' c)).trans e.2.1).trans (Cert.QueryGradIdeal.Sums.result6 m c).symm,
    ((h2.trans (val_main_v74_eq _ _ _ _)).trans e.2.2.1).trans (Cert.QueryGradIdeal.Sums.result7 m c).symm,
    ((h3.trans (val_main_v75_eq _ _ _)).trans e.2.2.2).trans (Cert.QueryGradIdeal.Sums.result8 m c).symm, hargs⟩

end Cert.QueryGradRefIdeal.Sums
-- ==== Proof.Layers.LayerGrad.lean ====
/-
  The gradient that reaches a layer norm's row through the input projection of the next layer: the scaled gradient of the residual and the products of three parts by their columns of the weight, then the gradient of the norm, a block of rows at a time; the gradients of the norm's scale and shift are summed over the blocks.
-/
module

public import proofs.«01_k».proof.Proof.Layers.NormBack
public import proofs.«01_k».proof.Proof.Products.Input
public import proofs.«01_k».proof.Proof.Gen.LayerGradIdeal.Value

@[expose] public section

set_option maxRecDepth 16384

noncomputable section

namespace Cert.Layers

open Idealize.ShloMosaic

/-- The scaled gradient of the residual and the product over the weight's columns. -/
abbrev reachLayer (x0 : Arr 4096 1024) (x1 : Arr 4096 1152) (x2 : Arr 4096 768) (x3 : Arr 1024 2824) (x4 : Arr 4096 1024) : Arr 4096 1024 :=
  fun i => (Ideal.ofBits .f32 0x3FB504F3#32 : EReal) * x4 i + ∑ k ∈ Finset.range 2824, Cert.InGradIdeal.Sums.joined x0 x1 x2 (i 0).val k * Products.at2 x3 (i 1).val k

end Cert.Layers

namespace Cert.LayerGradIdeal.Sums

open Idealize.ShloMosaic Idealize.ShloMosaic.TcCoe
open Cert.LayerGradIdeal Cert.LayerGradIdeal.Gen Cert.Layers Cert.Products
open Cert.InGradIdeal.Sums (padded padded_apply middle middle_apply ending end_apply)

theorem origin : (![0, 0] : Fin 2 → Nat) = fun _ => 0 := funext fun a => by fin_cases a <;> rfl

section
variable (x0 : Vec Ideal S512x1024 .bf16) (x1 : Vec Ideal S1024x1024 .bf16) (x2 : Vec Ideal S512x1152 .bf16) (x3 : Vec Ideal S1024x1152 .bf16)
  (x4 : Vec Ideal S512x768 .bf16) (x5 : Vec Ideal S1024x768 .bf16) (x6 x7 : Vec Ideal S512x1024 .f32) (x8 : Vec Ideal S1x1024 .f32)

/-- The gradient that reaches the norm's result. -/
abbrev reaching : FVec Ideal S512x1024 .f32 := k0_pay8 x6 x0 x1 x2 x3 x4 x5

theorem reaching_apply (r : Fin 512) (q : Fin 1024) : reaching x0 x1 x2 x3 x4 x5 x6 (ix2 r q)
    = (Ideal.ofBits .f32 0x3FB504F3#32 : EReal) * x6 (ix2 r q) + (∑ k : Fin 1024, x0 (ix2 r k) * x1 (ix2 q k)) + (∑ k : Fin 1152, x2 (ix2 r k) * x3 (ix2 q k))
      + ∑ k : Fin 768, x4 (ix2 r k) * x5 (ix2 q k) := by
  pointwise [k0_pay8]

theorem pay9_apply (r : Fin 512) (q : Fin 1024) : (k0_pay9 x7 : FVec Ideal S512x1024 .f32) (ix2 r q) = centred (fun k => x7 (ix2 r k)) q := by
  pointwise [k0_pay9]
  rfl

theorem pay10_apply (r : Fin 512) : (k0_pay10 x7 : FVec Ideal S512x1 .f32) (ix2 r 0) = scale (fun k => x7 (ix2 r k)) := by
  unfold scale spread
  simp only [← pay9_apply]
  unfold k0_pay10
  generalize (k0_pay9 x7 : FVec Ideal S512x1024 .f32) = y
  pointwise
  rfl

theorem pay11_apply (r : Fin 512) (q : Fin 1024) : (k0_pay11 x7 : FVec Ideal S512x1024 .f32) (ix2 r q) = scale (fun k => x7 (ix2 r k)) := by
  rw [← pay10_apply]
  unfold k0_pay11
  generalize (k0_pay10 x7 : FVec Ideal S512x1 .f32) = y
  pointwise

/-- The normalised rows. -/
abbrev unitBlock : FVec Ideal S512x1024 .f32 := k0_pay1 (k0_pay9 x7) (k0_pay11 x7)

theorem unit_apply (r : Fin 512) (q : Fin 1024) : unitBlock x7 (ix2 r q) = unitRow (fun k => x7 (ix2 r k)) q := by
  unfold unitRow unitBlock
  rw [← pay9_apply, ← pay11_apply x7 r q]
  generalize (k0_pay9 x7 : FVec Ideal S512x1024 .f32) = y
  generalize (k0_pay11 x7 : FVec Ideal S512x1024 .f32) = s
  pointwise [k0_pay1]

theorem pay2_apply (d e u : FVec Ideal S512x1024 .f32) (s : FVec Ideal S512x1 .f32) (r : Fin 512) (q : Fin 1024) :
    (k0_pay2 d e s u x8 : FVec Ideal S512x1024 .f32) (ix2 r q)
      = s (ix2 r 0) * (d (ix2 r q) * x8 (ix2 0 q) - mean (fun k => d (ix2 r k) * x8 (ix2 0 k))
        - (k0_pay1 e u : FVec Ideal S512x1024 .f32) (ix2 r q) * mean fun k => d (ix2 r k) * x8 (ix2 0 k) * (k0_pay1 e u : FVec Ideal S512x1024 .f32) (ix2 r k)) := by
  unfold k0_pay2
  generalize (k0_pay1 e u : FVec Ideal S512x1024 .f32) = v
  pointwise
  rfl

/-- The gradient of the norm's row. -/
abbrev first : FVec Ideal S512x1024 .f32 := k0_pay2 (reaching x0 x1 x2 x3 x4 x5 x6) (k0_pay9 x7) (k0_pay10 x7) (k0_pay11 x7) x8

theorem first_apply (r : Fin 512) (q : Fin 1024) : first x0 x1 x2 x3 x4 x5 x6 x7 x8 (ix2 r q)
    = back (fun k => x7 (ix2 r k)) (fun k => reaching x0 x1 x2 x3 x4 x5 x6 (ix2 r k) * x8 (ix2 0 k)) q := by
  unfold first back
  rw [pay2_apply, pay10_apply]
  simp only [unit_apply]

/-- The same in the narrower format. -/
abbrev second : FVec Ideal S512x1024 .bf16 := k0_pay3 (reaching x0 x1 x2 x3 x4 x5 x6) (k0_pay9 x7) (k0_pay10 x7) (k0_pay11 x7) x8

theorem second_apply (r : Fin 512) (q : Fin 1024) : second x0 x1 x2 x3 x4 x5 x6 x7 x8 (ix2 r q) = first x0 x1 x2 x3 x4 x5 x6 x7 x8 (ix2 r q) := by
  unfold second first k0_pay3
  generalize (k0_pay2 (reaching x0 x1 x2 x3 x4 x5 x6) (k0_pay9 x7) (k0_pay10 x7) (k0_pay11 x7) x8 : FVec Ideal S512x1024 .f32) = y
  pointwise

theorem pay4_apply (d : FVec Ideal S512x1024 .f32) (q : Fin 1024) : (k0_pay4 d (k0_pay9 x7) (k0_pay11 x7) : FVec Ideal S1x1024 .f32) (ix2 0 q)
    = ∑ r : Fin 512, d (ix2 r q) * unitBlock x7 (ix2 r q) := by
  unfold k0_pay4 unitBlock
  generalize (k0_pay1 (k0_pay9 x7) (k0_pay11 x7) : FVec Ideal S512x1024 .f32) = v
  pointwise

theorem pay5_apply (d : FVec Ideal S512x1024 .f32) (q : Fin 1024) : (k0_pay5 d : FVec Ideal S1x1024 .f32) (ix2 0 q) = ∑ r : Fin 512, d (ix2 r q) := by
  pointwise [k0_pay5]

theorem pay6_apply (d : FVec Ideal S512x1024 .f32) (o : Vec Ideal S1x1024 .f32) (q : Fin 1024) :
    (k0_pay6 d (k0_pay9 x7) (k0_pay11 x7) o : FVec Ideal S1x1024 .f32) (ix2 0 q) = o (ix2 0 q) + ∑ r : Fin 512, d (ix2 r q) * unitBlock x7 (ix2 r q) := by
  rw [← pay4_apply]
  unfold k0_pay6
  generalize (k0_pay4 d (k0_pay9 x7) (k0_pay11 x7) : FVec Ideal S1x1024 .f32) = e
  pointwise

theorem pay7_apply (d : FVec Ideal S512x1024 .f32) (o : Vec Ideal S1x1024 .f32) (q : Fin 1024) :
    (k0_pay7 d o : FVec Ideal S1x1024 .f32) (ix2 0 q) = o (ix2 0 q) + ∑ r : Fin 512, d (ix2 r q) := by
  rw [← pay5_apply]
  unfold k0_pay7
  generalize (k0_pay5 d : FVec Ideal S1x1024 .f32) = e
  pointwise

variable (c : Dev nD) (i : grid0.Coords) (a1 : Memref sig .tc .vmem S512x1024 .bf16) (h1 : a1.IsWhole) (a2 : Memref sig .tc .vmem S1024x1024 .bf16) (h2 : a2.IsWhole)
  (a3 : Memref sig .tc .vmem S512x1152 .bf16) (h3 : a3.IsWhole) (a4 : Memref sig .tc .vmem S1024x1152 .bf16) (h4 : a4.IsWhole) (a5 : Memref sig .tc .vmem S512x768 .bf16) (h5 : a5.IsWhole)
  (a6 : Memref sig .tc .vmem S1024x768 .bf16) (h6 : a6.IsWhole) (a7 : Memref sig .tc .vmem S512x1024 .f32) (h7 : a7.IsWhole) (a8 : Memref sig .tc .vmem S512x1024 .f32) (h8 : a8.IsWhole)
  (a9 : Memref sig .tc .vmem S1x1024 .f32) (h9 : a9.IsWhole) (a10 : Memref sig .tc .vmem S512x1024 .f32) (h10 : a10.IsWhole) (a11 : Memref sig .tc .vmem S512x1024 .bf16) (h11 : a11.IsWhole)
  (a12 : Memref sig .tc .vmem S1x1024 .f32) (h12 : a12.IsWhole) (a13 : Memref sig .tc .vmem S1x1024 .f32) (h13 : a13.IsWhole) (o11 o12 : Vec Ideal S1x1024 .f32)

/-! What a point leaves: at the first point the sums begin, at the others they go on. -/

theorem leftA (e0 : cond0_0 i) (e1 : ¬cond0_1 i) :
    out0_A_9 c i a1 h1 a2 h2 a3 h3 a4 h4 a5 h5 a6 h6 a7 h7 a8 h8 a9 h9 a10 h10 a11 h11 a12 h12 a13 h13 e0 e1 x0 x1 x2 x3 x4 x5 x6 x7 x8 = first x0 x1 x2 x3 x4 x5 x6 x7 x8
    ∧ out0_A_10 c i a1 h1 a2 h2 a3 h3 a4 h4 a5 h5 a6 h6 a7 h7 a8 h8 a9 h9 a10 h10 a11 h11 a12 h12 a13 h13 e0 e1 x0 x1 x2 x3 x4 x5 x6 x7 x8 = second x0 x1 x2 x3 x4 x5 x6 x7 x8
    ∧ out0_A_11 c i a1 h1 a2 h2 a3 h3 a4 h4 a5 h5 a6 h6 a7 h7 a8 h8 a9 h9 a10 h10 a11 h11 a12 h12 a13 h13 e0 e1 x0 x1 x2 x3 x4 x5 x6 x7 x8 = k0_pay4 (reaching x0 x1 x2 x3 x4 x5 x6) (k0_pay9 x7) (k0_pay11 x7)
    ∧ out0_A_12 c i a1 h1 a2 h2 a3 h3 a4 h4 a5 h5 a6 h6 a7 h7 a8 h8 a9 h9 a10 h10 a11 h11 a12 h12 a13 h13 e0 e1 x0 x1 x2 x3 x4 x5 x6 x7 x8 = k0_pay5 (reaching x0 x1 x2 x3 x4 x5 x6) := by
  refine ⟨?_, ?_, ?_, ?_⟩
  rw [out0_A_9, View.read_writes_eq_canon _ _ _ fun _ => cover0_A_9 ..]
  unfold kernelRun0_A
  dsimp only
  rw [View.canon_unit_zero origin]
  unfold kernelRun0_A.sl.r kernelRun0_A.sl.r_1 kernelRun0_A.sl.r_2 kernelRun0_A.sl.r_3
  rotate_left
  rw [out0_A_10, View.read_writes_eq_canon _ _ _ fun _ => cover0_A_10 ..]
  unfold kernelRun0_A
  dsimp only
  rw [View.canon_unit_zero origin]
  unfold kernelRun0_A.sl.r kernelRun0_A.sl.r_1 kernelRun0_A.sl.r_2 kernelRun0_A.sl.r_3
  rotate_left
  rw [out0_A_11, View.read_writes_eq_canon _ _ _ fun _ => cover0_A_11 ..]
  unfold kernelRun0_A
  dsimp only
  rw [View.canon_unit_zero origin]
  unfold kernelRun0_A.sl.r kernelRun0_A.sl.r_1 kernelRun0_A.sl.r_3
  rotate_left
  rw [out0_A_12, View.read_writes_eq_canon _ _ _ fun _ => cover0_A_12 ..]
  unfold kernelRun0_A
  dsimp only
  rw [View.canon_unit_zero origin]
  unfold kernelRun0_A.sl.r
  rotate_left
  all_goals
    simp only [View.readAt_eq_ld, h1.read_unread, h2.read_unread, h3.read_unread, h4.read_unread, h5.read_unread, h6.read_unread, h7.read_unread, h8.read_unread, h9.read_unread, View.ld_unit_zero (S := S1024x1024) origin, View.ld_unit_zero (S := S512x1152) origin, View.ld_unit_zero (S := S1024x1152) origin, View.ld_unit_zero (S := S512x768) origin, View.ld_unit_zero (S := S1024x768) origin, View.ld_unit_zero (S := S512x1024) origin, View.ld_unit_zero (S := S1x1024) origin]

theorem leftB (e0 : ¬cond0_0 i) (e1 : cond0_1 i) :
    out0_B_9 c i a1 h1 a2 h2 a3 h3 a4 h4 a5 h5 a6 h6 a7 h7 a8 h8 a9 h9 a10 h10 a11 h11 a12 h12 a13 h13 e0 e1 x0 x1 x2 x3 x4 x5 x6 x7 x8 o11 o12 = first x0 x1 x2 x3 x4 x5 x6 x7 x8
    ∧ out0_B_10 c i a1 h1 a2 h2 a3 h3 a4 h4 a5 h5 a6 h6 a7 h7 a8 h8 a9 h9 a10 h10 a11 h11 a12 h12 a13 h13 e0 e1 x0 x1 x2 x3 x4 x5 x6 x7 x8 o11 o12 = second x0 x1 x2 x3 x4 x5 x6 x7 x8
    ∧ out0_B_11 c i a1 h1 a2 h2 a3 h3 a4 h4 a5 h5 a6 h6 a7 h7 a8 h8 a9 h9 a10 h10 a11 h11 a12 h12 a13 h13 e0 e1 x0 x1 x2 x3 x4 x5 x6 x7 x8 o11 o12 = k0_pay6 (reaching x0 x1 x2 x3 x4 x5 x6) (k0_pay9 x7) (k0_pay11 x7) o11
    ∧ out0_B_12 c i a1 h1 a2 h2 a3 h3 a4 h4 a5 h5 a6 h6 a7 h7 a8 h8 a9 h9 a10 h10 a11 h11 a12 h12 a13 h13 e0 e1 x0 x1 x2 x3 x4 x5 x6 x7 x8 o11 o12 = k0_pay7 (reaching x0 x1 x2 x3 x4 x5 x6) o12 := by
  refine ⟨?_, ?_, ?_, ?_⟩
  rw [out0_B_9, View.read_writes_eq_canon _ _ _ fun _ => cover0_B_9 ..]
  unfold kernelRun0_B
  dsimp only
  rw [View.canon_unit_zero origin]
  unfold kernelRun0_B.sl.r kernelRun0_B.sl.r_1 kernelRun0_B.sl.r_2 kernelRun0_B.sl.r_3
  rotate_left
  rw [out0_B_10, View.read_writes_eq_canon _ _ _ fun _ => cover0_B_10 ..]
  unfold kernelRun0_B
  dsimp only
  rw [View.canon_unit_zero origin]
  unfold kernelRun0_B.sl.r kernelRun0_B.sl.r_1 kernelRun0_B.sl.r_2 kernelRun0_B.sl.r_3
  rotate_left
  rw [out0_B_11, View.read_writes_eq_canon _ _ _ fun _ => cover0_B_11 ..]
  unfold kernelRun0_B
  dsimp only
  rw [View.canon_unit_zero origin]
  unfold kernelRun0_B.sl.r kernelRun0_B.sl.r_1 kernelRun0_B.sl.r_3
  rotate_left
  rw [out0_B_12, View.read_writes_eq_canon _ _ _ fun _ => cover0_B_12 ..]
  unfold kernelRun0_B
  dsimp only
  rw [View.canon_unit_zero origin]
  unfold kernelRun0_B.sl.r
  rotate_left
  all_goals
    simp only [View.readAt_eq_ld, h1.read_unread, h2.read_unread, h3.read_unread, h4.read_unread, h5.read_unread, h6.read_unread, h7.read_unread, h8.read_unread, h9.read_unread, h12.read_unread, h13.read_unread, View.ld_unit_zero (S := S1024x1024) origin, View.ld_unit_zero (S := S512x1152) origin, View.ld_unit_zero (S := S1024x1152) origin, View.ld_unit_zero (S := S512x768) origin, View.ld_unit_zero (S := S1024x768) origin, View.ld_unit_zero (S := S512x1024) origin, View.ld_unit_zero (S := S1x1024) origin]

end

variable (m : (ℓ : Loc nD τ sig) → Buf (Elt Ideal) ℓ) (c : Dev nD)

/-! The arrays. -/

abbrev dqk (c : Dev nD) : Arr 4096 1024 := m ((c : Thread nD τ).loc main_arg0)
abbrev dml (c : Dev nD) : Arr 4096 1152 := m ((c : Thread nD τ).loc main_arg1)
abbrev dsw (c : Dev nD) : Arr 4096 768 := m ((c : Thread nD τ).loc main_arg2)
abbrev weight (c : Dev nD) : Arr 1024 2824 := m ((c : Thread nD τ).loc main_arg3)
abbrev resid (c : Dev nD) : Arr 4096 1024 := m ((c : Thread nD τ).loc main_arg4)
abbrev saved (c : Dev nD) : Arr 4096 1024 := m ((c : Thread nD τ).loc main_arg5)
abbrev gain (c : Dev nD) : Arr 1 1024 := m ((c : Thread nD τ).loc main_arg6)

/-- The gradient that reaches the norm's result, of all rows. -/
abbrev reached (c : Dev nD) : Arr 4096 1024 := reachLayer (dqk m c) (dml m c) (dsw m c) (weight m c) (resid m c)

/-! The results: the gradients of the rows, of the scale and of the shift. -/

abbrev rowsGrad (c : Dev nD) : Arr 4096 1024 := backRows (saved m c) (reached m c) (gain m c)
abbrev scaleGrad (c : Dev nD) : Arr 1 1024 := columnSums (timesUnit (saved m c) (reached m c))
abbrev shiftGrad (c : Dev nD) : Arr 1 1024 := columnSums (reached m c)

theorem index0 : ∀ t : Fin cfg0.N, win0_0.index t 0 = t.val ∧ win0_0.index t 1 = 0 := by decide +kernel
theorem index2 : ∀ t : Fin cfg0.N, win0_2.index t 0 = t.val ∧ win0_2.index t 1 = 0 := by decide +kernel
theorem index4 : ∀ t : Fin cfg0.N, win0_4.index t 0 = t.val ∧ win0_4.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = 0 ∧ win0_8.index t 1 = 0 := by decide +kernel
theorem index1 : ∀ t : Fin cfg0.N, win0_1.index t 0 = 0 ∧ win0_1.index t 1 = 0 := by decide +kernel
theorem index3 : ∀ t : Fin cfg0.N, win0_3.index t 0 = 0 ∧ win0_3.index t 1 = 0 := by decide +kernel
theorem index5 : ∀ t : Fin cfg0.N, win0_5.index t 0 = 0 ∧ win0_5.index t 1 = 0 := by decide +kernel
theorem index9 : ∀ t : Fin cfg0.N, win0_9.index t 0 = t.val ∧ win0_9.index t 1 = 0 := by decide +kernel
theorem index10 : ∀ t : Fin cfg0.N, win0_10.index t 0 = t.val ∧ win0_10.index t 1 = 0 := by decide +kernel
theorem index11 : ∀ t : Fin cfg0.N, win0_11.index t 0 = 0 ∧ win0_11.index t 1 = 0 := by decide +kernel
theorem index12 : ∀ t : Fin cfg0.N, win0_12.index t 0 = 0 ∧ win0_12.index t 1 = 0 := by decide +kernel

/-- A block of rows of the first part. -/
theorem iblk0 (t : Fin cfg0.N) (r : Fin 512) (k : Fin 1024) (h0 : 512 * t.val + r.val < 4096) : (iblk m c 0 t : Vec Ideal S512x1024 .bf16) (ix2 r k) = dqk m c (ix2 ⟨512 * t.val + r.val, h0⟩ k) := by
  unfold iblk
  rw [View.read_apply]
  show V m c main_arg0 _ = _
  rw [V_main_arg0]
  congr 1
  exact ext2 (by show win0_0.index t 0 * 512 + 1 * r.val = 512 * t.val + r.val; rw [(index0 t).1]; omega) (by show win0_0.index t 1 * 1024 + 1 * k.val = k.val; rw [(index0 t).2]; omega)

/-- Of the second. -/
theorem iblk2 (t : Fin cfg0.N) (r : Fin 512) (k : Fin 1152) (h0 : 512 * t.val + r.val < 4096) : (iblk m c 2 t : Vec Ideal S512x1152 .bf16) (ix2 r k) = dml m c (ix2 ⟨512 * t.val + r.val, h0⟩ k) := by
  unfold iblk
  rw [View.read_apply]
  show V m c main_arg1 _ = _
  rw [V_main_arg1]
  congr 1
  exact ext2 (by show win0_2.index t 0 * 512 + 1 * r.val = 512 * t.val + r.val; rw [(index2 t).1]; omega) (by show win0_2.index t 1 * 1152 + 1 * k.val = k.val; rw [(index2 t).2]; omega)

/-- Of the third. -/
theorem iblk4 (t : Fin cfg0.N) (r : Fin 512) (k : Fin 768) (h0 : 512 * t.val + r.val < 4096) : (iblk m c 4 t : Vec Ideal S512x768 .bf16) (ix2 r k) = dsw m c (ix2 ⟨512 * t.val + r.val, h0⟩ k) := by
  unfold iblk
  rw [View.read_apply]
  show V m c main_arg2 _ = _
  rw [V_main_arg2]
  congr 1
  exact ext2 (by show win0_4.index t 0 * 512 + 1 * r.val = 512 * t.val + r.val; rw [(index4 t).1]; omega) (by show win0_4.index t 1 * 768 + 1 * k.val = k.val; rw [(index4 t).2]; omega)

/-- A block of rows of the residual's gradient. -/
theorem iblk6 (t : Fin cfg0.N) (r : Fin 512) (k : Fin 1024) (h0 : 512 * t.val + r.val < 4096) : (iblk m c 6 t : Vec Ideal S512x1024 .f32) (ix2 r k) = resid m c (ix2 ⟨512 * t.val + r.val, h0⟩ k) := by
  unfold iblk
  rw [View.read_apply]
  show V m c main_arg4 _ = _
  rw [V_main_arg4]
  congr 1
  exact ext2 (by show win0_6.index t 0 * 512 + 1 * r.val = 512 * t.val + r.val; rw [(index6 t).1]; omega) (by show win0_6.index t 1 * 1024 + 1 * k.val = k.val; rw [(index6 t).2]; omega)

/-- A block of the rows normalised. -/
theorem iblk7 (t : Fin cfg0.N) (r : Fin 512) (k : Fin 1024) (h0 : 512 * t.val + r.val < 4096) : (iblk m c 7 t : Vec Ideal S512x1024 .f32) (ix2 r k) = saved m c (ix2 ⟨512 * t.val + r.val, h0⟩ k) := by
  unfold iblk
  rw [View.read_apply]
  show V m c main_arg5 _ = _
  rw [V_main_arg5]
  congr 1
  exact ext2 (by show win0_7.index t 0 * 512 + 1 * r.val = 512 * t.val + r.val; rw [(index7 t).1]; omega) (by show win0_7.index t 1 * 1024 + 1 * k.val = k.val; rw [(index7 t).2]; omega)

/-- The scale. -/
theorem iblk8 (t : Fin cfg0.N) (r : Fin 1) (k : Fin 1024)  : (iblk m c 8 t : Vec Ideal S1x1024 .f32) (ix2 r k) = gain m c (ix2 r k) := by
  unfold iblk
  rw [View.read_apply]
  show V m c main_arg6 _ = _
  rw [V_main_arg6]
  congr 1
  exact ext2 (by show win0_8.index t 0 * 1 + 1 * r.val = r.val; rw [(index8 t).1]; omega) (by show win0_8.index t 1 * 1024 + 1 * k.val = k.val; rw [(index8 t).2]; omega)

theorem V_v4 : V m c main_v4 = padded (weight m c) := by
  show StableHlo.after hostOps0 _ (Proc.devRef .tc main_v4) = _
  simp only [hostOps0]
  after_results
  rfl

theorem V_v7 : V m c main_v7 = middle (weight m c) := by
  show StableHlo.after hostOps0 _ (Proc.devRef .tc main_v7) = _
  simp only [hostOps0]
  after_results
  rfl

theorem V_v8 : V m c main_v8 = ending (weight m c) := by
  show StableHlo.after hostOps0 _ (Proc.devRef .tc main_v8) = _
  simp only [hostOps0]
  after_results
  rfl

/-- The columns of the weight a part multiplies. -/
theorem iblk1 (t : Fin cfg0.N) (q : Fin 1024) (k : Fin 1024) :
    (iblk m c 1 t : Vec Ideal S1024x1024 .bf16) (ix2 q k) = padded (weight m c) (ix2 q (⟨k.val, by omega⟩ : Fin 3072)) := by
  unfold iblk
  rw [View.read_apply]
  show V m c main_v4 _ = _
  rw [V_v4]
  congr 1
  exact ext2 (by show win0_1.index t 0 * 1024 + 1 * q.val = _; rw [(index1 t).1]; show _ = q.val; omega) (by show win0_1.index t 1 * 1024 + 1 * k.val = _; rw [(index1 t).2]; show _ = k.val; omega)

/-- The columns of the weight a part multiplies. -/
theorem iblk3 (t : Fin cfg0.N) (q : Fin 1024) (k : Fin 1152) :
    (iblk m c 3 t : Vec Ideal S1024x1152 .bf16) (ix2 q k) = middle (weight m c) (ix2 q k) := by
  unfold iblk
  rw [View.read_apply]
  show V m c main_v7 _ = _
  rw [V_v7]
  congr 1
  exact ext2 (by show win0_3.index t 0 * 1024 + 1 * q.val = _; rw [(index3 t).1]; show _ = q.val; omega) (by show win0_3.index t 1 * 1152 + 1 * k.val = _; rw [(index3 t).2]; show _ = k.val; omega)

/-- The columns of the weight a part multiplies. -/
theorem iblk5 (t : Fin cfg0.N) (q : Fin 1024) (k : Fin 768) :
    (iblk m c 5 t : Vec Ideal S1024x768 .bf16) (ix2 q k) = ending (weight m c) (ix2 q k) := by
  unfold iblk
  rw [View.read_apply]
  show V m c main_v8 _ = _
  rw [V_v8]
  congr 1
  exact ext2 (by show win0_5.index t 0 * 1024 + 1 * q.val = _; rw [(index5 t).1]; show _ = q.val; omega) (by show win0_5.index t 1 * 768 + 1 * k.val = _; rw [(index5 t).2]; show _ = k.val; omega)

theorem reaching_block (t : Fin cfg0.N) (r : Fin 512) (q : Fin 1024) (h0 : 512 * t.val + r.val < 4096) :
    reaching (iblk m c 0 t) (iblk m c 1 t) (iblk m c 2 t) (iblk m c 3 t) (iblk m c 4 t) (iblk m c 5 t) (iblk m c 6 t) (ix2 r q) = reached m c (ix2 ⟨512 * t.val + r.val, h0⟩ q) := by
  rw [reaching_apply]
  refine Eq.trans ?_ (Cert.InGradIdeal.Sums.parts (dqk m c) (dml m c) (dsw m c) (weight m c) _ (512 * t.val + r.val) q.val)
  rw [iblk6 m c t r q h0]
  simp only [Finset.sum_range]
  refine congr (congrArg HAdd.hAdd (congr (congrArg HAdd.hAdd (congrArg (_ + ·) (Finset.sum_congr rfl fun k _ => ?_))) (Finset.sum_congr rfl fun k _ => ?_)))
    (Finset.sum_congr rfl fun k _ => ?_)
  · rw [iblk0 m c t r k h0, iblk1, padded_apply, if_pos (by dsimp only; omega), at2_of_lt (dqk m c) h0 k.isLt]
  · rw [iblk2 m c t r k h0, iblk3, middle_apply, at2_of_lt (dml m c) h0 k.isLt]
  · rw [iblk4 m c t r k h0, iblk5, end_apply, at2_of_lt (dsw m c) h0 k.isLt]

theorem unit_block (t : Fin cfg0.N) (r : Fin 512) (q : Fin 1024) (h0 : 512 * t.val + r.val < 4096) :
    unitBlock (iblk m c 7 t) (ix2 r q) = unitRows (saved m c) (ix2 ⟨512 * t.val + r.val, h0⟩ q) := by
  rw [unit_apply]
  simp only [iblk7 m c t _ _ h0]
  rfl

theorem first_block (t : Fin cfg0.N) (r : Fin 512) (q : Fin 1024) (h0 : 512 * t.val + r.val < 4096) :
    first (iblk m c 0 t) (iblk m c 1 t) (iblk m c 2 t) (iblk m c 3 t) (iblk m c 4 t) (iblk m c 5 t) (iblk m c 6 t) (iblk m c 7 t) (iblk m c 8 t) (ix2 r q) = rowsGrad m c (ix2 ⟨512 * t.val + r.val, h0⟩ q) := by
  rw [first_apply]
  simp only [reaching_block m c t _ _ h0, iblk7 m c t _ _ h0, iblk8]
  rfl

theorem written9 (t : Fin cfg0.N) (r : Fin 512) (q : Fin 1024) (h0 : 512 * t.val + r.val < 4096) :
    (outsAt0 m c t.val t.isLt).1 (ix2 r q) = rowsGrad m c (ix2 ⟨512 * t.val + r.val, h0⟩ q) := by
  have hN : t.val < 8 := lt_of_lt_of_eq t.isLt N_0
  refine Eq.trans ?_ (first_block m c t r q h0)
  by_cases hz : t.val = 0
  · rw [outsAt0_A m c t (by omega) (by omega)]
    dsimp only
    rw [(leftA ..).1]
  · rw [outsAt0_B m c t (by omega) (by omega)]
    dsimp only
    rw [(leftB ..).1]

theorem written10 (t : Fin cfg0.N) (r : Fin 512) (q : Fin 1024) (h0 : 512 * t.val + r.val < 4096) :
    (outsAt0 m c t.val t.isLt).2.1 (ix2 r q) = rowsGrad m c (ix2 ⟨512 * t.val + r.val, h0⟩ q) := by
  have hN : t.val < 8 := lt_of_lt_of_eq t.isLt N_0
  refine Eq.trans ?_ (first_block m c t r q h0)
  by_cases hz : t.val = 0
  · rw [outsAt0_A m c t (by omega) (by omega)]
    dsimp only
    rw [(leftA ..).2.1, second_apply]
  · rw [outsAt0_B m c t (by omega) (by omega)]
    dsimp only
    rw [(leftB ..).2.1, second_apply]

/-- After a point, the sum over the rows up to its block's end. -/
theorem sums11 : ∀ (n : ℕ) (h : n < cfg0.N) (q : Fin 1024),
    (outsAt0 m c n h).2.2.1 (ix2 0 q) = firstRows (timesUnit (saved m c) (reached m c)) (512 * (n + 1)) q.val
  | 0, h, q => by
    rw [show outsAt0 m c 0 h = _ from outsAt0_A m c ⟨0, h⟩ (Nat.zero_mod 8) (Nat.not_succ_le_zero 0)]
    dsimp only
    rw [(leftA ..).2.2.1, pay4_apply]
    refine (zero_add _).symm.trans ?_
    exact firstRows_block _ 0 (by omega) q _ fun r => by
      rw [reaching_block m c ⟨0, h⟩ r q (by simp only [Nat.mul_zero]; omega), unit_block m c ⟨0, h⟩ r q (by simp only [Nat.mul_zero]; omega)]
      rfl
  | n + 1, h, q => by
    have hN : n + 1 < 8 := lt_of_lt_of_eq h N_0
    have e := outsAt0_B m c ⟨n + 1, h⟩ (by dsimp only; omega) (by dsimp only; omega)
    rw [show outsAt0 m c (n + 1) h = _ from e]
    dsimp only
    rw [(leftB ..).2.2.1, pay6_apply]
    refine (congrArg (· + _) (sums11 n (by omega) q)).trans ?_
    exact firstRows_block _ (512 * (n + 1)) (by omega) q _ fun r => by
      rw [reaching_block m c ⟨n + 1, h⟩ r q (by dsimp only; omega), unit_block m c ⟨n + 1, h⟩ r q (by dsimp only; omega)]
      rfl

theorem sums12 : ∀ (n : ℕ) (h : n < cfg0.N) (q : Fin 1024),
    (outsAt0 m c n h).2.2.2 (ix2 0 q) = firstRows (reached m c) (512 * (n + 1)) q.val
  | 0, h, q => by
    rw [show outsAt0 m c 0 h = _ from outsAt0_A m c ⟨0, h⟩ (Nat.zero_mod 8) (Nat.not_succ_le_zero 0)]
    dsimp only
    rw [(leftA ..).2.2.2, pay5_apply]
    refine (zero_add _).symm.trans ?_
    exact firstRows_block _ 0 (by omega) q _ fun r => by
      rw [reaching_block m c ⟨0, h⟩ r q (by simp only [Nat.mul_zero]; omega)]
      rfl
  | n + 1, h, q => by
    have hN : n + 1 < 8 := lt_of_lt_of_eq h N_0
    have e := outsAt0_B m c ⟨n + 1, h⟩ (by dsimp only; omega) (by dsimp only; omega)
    rw [show outsAt0 m c (n + 1) h = _ from e]
    dsimp only
    rw [(leftB ..).2.2.2, pay7_apply]
    refine (congrArg (· + _) (sums12 n (by omega) q)).trans ?_
    exact firstRows_block _ (512 * (n + 1)) (by omega) q _ fun r => by
      rw [reaching_block m c ⟨n + 1, h⟩ r q (by dsimp only; omega)]

/-- The gradient of the rows. -/
theorem result9 : (dats m 0 c).arrAt 9 cfg0.N = rowsGrad m c :=
  (dats m 0 c).arrAt_eq_of_cover 9 (rowsGrad m c) (fun t hf => by
    have hN : t.val < 8 := lt_of_lt_of_eq t.isLt N_0
    rw [Value.flushed9]
    funext y
    obtain ⟨r, q, rfl⟩ : ∃ (r : Fin 512) (q : Fin 1024), y = ix2 r q := pairs y
    refine Eq.trans (show _ = (outsAt0 m c t.val t.isLt).1 (ix2 r q) from rfl) ?_
    rw [written9 m c t r q (by omega), View.read_apply]
    show rowsGrad m c (ix2 ⟨512 * t.val + r.val, by omega⟩ q) = rowsGrad m c _
    congr 1
    exact ext2 (by show 512 * t.val + r.val = win0_9.index t 0 * 512 + 1 * r.val; rw [(index9 t).1]; omega) (by show q.val = win0_9.index t 1 * 1024 + 1 * q.val; rw [(index9 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_9 t, ?_⟩
    show i ∈ ((View.whole main_v9_0).slice (win0_9.rect t)).set
    rw [View.set_slice_whole, Rect.mem_set_unit]
    intro a
    match a with
    | ⟨0, _⟩ =>
      show win0_9.index t 0 * 512 ≤ (i 0).val ∧ (i 0).val < win0_9.index t 0 * 512 + 512
      rw [(index9 t).1]; omega
    | ⟨1, _⟩ =>
      show win0_9.index t 1 * 1024 ≤ (i 1).val ∧ (i 1).val < win0_9.index t 1 * 1024 + 1024
      rw [(index9 t).2]; omega

/-- The same in the narrower format. -/
theorem result10 : (dats m 0 c).arrAt 10 cfg0.N = rowsGrad m c :=
  (dats m 0 c).arrAt_eq_of_cover 10 (rowsGrad m c) (fun t hf => by
    have hN : t.val < 8 := lt_of_lt_of_eq t.isLt N_0
    rw [Value.flushed10]
    funext y
    obtain ⟨r, q, rfl⟩ : ∃ (r : Fin 512) (q : Fin 1024), y = ix2 r q := pairs y
    refine Eq.trans (show _ = (outsAt0 m c t.val t.isLt).2.1 (ix2 r q) from rfl) ?_
    rw [written10 m c t r q (by omega), View.read_apply]
    show rowsGrad m c (ix2 ⟨512 * t.val + r.val, by omega⟩ q) = rowsGrad m c _
    congr 1
    exact ext2 (by show 512 * t.val + r.val = win0_10.index t 0 * 512 + 1 * r.val; rw [(index10 t).1]; omega) (by show q.val = win0_10.index t 1 * 1024 + 1 * q.val; rw [(index10 t).2]; omega)) fun i => by
    have h0 : (i 0).val < 4096 := (i 0).isLt
    have h1 : (i 1).val < 1024 := (i 1).isLt
    have ht : (i 0).val / 512 < cfg0.N := by rw [show cfg0.N = 8 from N_0]; omega
    obtain ⟨t, e⟩ : ∃ t : Fin cfg0.N, t.val = (i 0).val / 512 := ⟨⟨_, ht⟩, rfl⟩
    refine ⟨t, flush0_10 t, ?_⟩
    show i ∈ ((View.whole main_v9_1).slice (win0_10.rect t)).set
    rw [View.set_slice_whole, Rect.mem_set_unit]
    intro a
    match a with
    | ⟨0, _⟩ =>
      show win0_10.index t 0 * 512 ≤ (i 0).val ∧ (i 0).val < win0_10.index t 0 * 512 + 512
      rw [(index10 t).1]; omega
    | ⟨1, _⟩ =>
      show win0_10.index t 1 * 1024 ≤ (i 1).val ∧ (i 1).val < win0_10.index t 1 * 1024 + 1024
      rw [(index10 t).2]; omega

/-- The gradient of the scale. -/
theorem result11 : (dats m 0 c).arrAt 11 cfg0.N = scaleGrad m c :=
  (dats m 0 c).arrAt_eq_of_cover 11 (scaleGrad m c) (fun t hf => by
    have hN : t.val < 8 := lt_of_lt_of_eq t.isLt N_0
    have h7 : t.val = 7 := by have := (flush0_11 t).mp hf; omega
    rw [Value.flushed11]
    funext y
    obtain ⟨r, q, rfl⟩ : ∃ (r : Fin 1) (q : Fin 1024), y = ix2 r q := pairs y
    obtain rfl : r = 0 := Subsingleton.elim _ _
    refine Eq.trans (show _ = (outsAt0 m c t.val t.isLt).2.2.1 (ix2 0 q) from rfl) ?_
    rw [sums11 m c t.val t.isLt q, show 512 * (t.val + 1) = 4096 by omega, firstRows_all, View.read_apply]
    show scaleGrad m c (ix2 0 q) = scaleGrad m c _
    congr 1
    exact ext2 (by show 0 = win0_11.index t 0 * 1 + 1 * 0; rw [(index11 t).1]) (by show q.val = win0_11.index t 1 * 1024 + 1 * q.val; rw [(index11 t).2]; omega)) fun i => by
    have h0 : (i 0).val < 1 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_11 t).mpr (by omega), ?_⟩
    show i ∈ ((View.whole main_v9_2).slice (win0_11.rect t)).set
    rw [View.set_slice_whole, Rect.mem_set_unit]
    intro a
    match a with
    | ⟨0, _⟩ =>
      show win0_11.index t 0 * 1 ≤ (i 0).val ∧ (i 0).val < win0_11.index t 0 * 1 + 1
      rw [(index11 t).1]; omega
    | ⟨1, _⟩ =>
      show win0_11.index t 1 * 1024 ≤ (i 1).val ∧ (i 1).val < win0_11.index t 1 * 1024 + 1024
      rw [(index11 t).2]; omega

/-- The gradient of the shift. -/
theorem result12 : (dats m 0 c).arrAt 12 cfg0.N = shiftGrad m c :=
  (dats m 0 c).arrAt_eq_of_cover 12 (shiftGrad m c) (fun t hf => by
    have hN : t.val < 8 := lt_of_lt_of_eq t.isLt N_0
    have h7 : t.val = 7 := by have := (flush0_12 t).mp hf; omega
    rw [Value.flushed12]
    funext y
    obtain ⟨r, q, rfl⟩ : ∃ (r : Fin 1) (q : Fin 1024), y = ix2 r q := pairs y
    obtain rfl : r = 0 := Subsingleton.elim _ _
    refine Eq.trans (show _ = (outsAt0 m c t.val t.isLt).2.2.2 (ix2 0 q) from rfl) ?_
    rw [sums12 m c t.val t.isLt q, show 512 * (t.val + 1) = 4096 by omega, firstRows_all, View.read_apply]
    show shiftGrad m c (ix2 0 q) = shiftGrad m c _
    congr 1
    exact ext2 (by show 0 = win0_12.index t 0 * 1 + 1 * 0; rw [(index12 t).1]) (by show q.val = win0_12.index t 1 * 1024 + 1 * q.val; rw [(index12 t).2]; omega)) fun i => by
    have h0 : (i 0).val < 1 := (i 0).isLt
    have h1 : (i 1).val < 1024 := (i 1).isLt
    have ht : 7 < cfg0.N := by rw [show cfg0.N = 8 from N_0]; omega
    obtain ⟨t, e⟩ : ∃ t : Fin cfg0.N, t.val = 7 := ⟨⟨_, ht⟩, rfl⟩
    refine ⟨t, (flush0_12 t).mpr (by omega), ?_⟩
    show i ∈ ((View.whole main_v9_3).slice (win0_12.rect t)).set
    rw [View.set_slice_whole, Rect.mem_set_unit]
    intro a
    match a with
    | ⟨0, _⟩ =>
      show win0_12.index t 0 * 1 ≤ (i 0).val ∧ (i 0).val < win0_12.index t 0 * 1 + 1
      rw [(index12 t).1]; omega
    | ⟨1, _⟩ =>
      show win0_12.index t 1 * 1024 ≤ (i 1).val ∧ (i 1).val < win0_12.index t 1 * 1024 + 1024
      rw [(index12 t).2]; omega

end Cert.LayerGradIdeal.Sums
-- ==== Proof.Layers.LayerGradReference.lean ====
/-
  The reference's results are those the kernel computes, where the gradients and the weight are finite.
-/
module

public import proofs.«01_k».proof.Defs
public import proofs.«01_k».proof.Proof.Swa.Finite
public import proofs.«01_k».proof.Proof.Layers.LayerGrad
public import proofs.«01_k».proof.Proof.Gen.LayerGradIdeal
public import proofs.«01_k».proof.Proof.Gen.LayerGradRefIdeal
public import proofs.«01_k».proof.Proof.Gen.LayerGradRefIdeal.Run
public import proofs.«01_k».proof.Proof.Gen.LayerGradRefIdeal.Read
public import proofs.«01_k».proof.Proof.Gen.Pre_finite_layer
public import Idealize.ShloMosaic.Adequacy

@[expose] public section

set_option maxRecDepth 16384

noncomputable section

namespace Cert.LayerGradRefIdeal.Sums

open Idealize.ShloMosaic Idealize.SL.Sem Cert.Layers Cert.LayerGradIdeal.Sums Read

section
variable (x0 : Arr 4096 1024) (x1 : Arr 4096 1152) (x2 : Arr 4096 768) (x3 : Arr 1024 2824) (x4 : Arr 4096 1024) (x5 : Arr 4096 1024) (x6 : Arr 1 1024)
  (r : Fin 4096) (q : Fin 1024)

/-- The three parts side by side. -/
theorem joined_apply (k : Fin 2824) : val_main_v3 (F := Ideal) x0 x1 x2 (ix2 r k) = Cert.InGradIdeal.Sums.joined x0 x1 x2 r.val k.val := by
  have hk := k.isLt
  pointwise [val_main_v3, val_main_v2, val_main_v1]
  unfold Cert.InGradIdeal.Sums.joined
  by_cases h1 : k.val < 1024
  · rw [dif_pos h1, if_pos h1, Products.at2_of_lt _ r.isLt (by omega)]
  rw [dif_neg h1, if_neg h1]
  by_cases h2 : k.val < 2056
  · rw [dif_pos (by show k.val - 1024 < 1032; omega), if_pos h2, Products.at2_of_lt _ r.isLt (by omega)]
  rw [dif_neg (by show ¬k.val - 1024 < 1032; omega), if_neg h2, Products.at2_of_lt _ r.isLt (by omega)]
  exact congrArg (fun j => x2 (ix2 r j)) (Fin.ext (by show k.val - 1024 - 1032 = k.val - 2056; omega))

theorem dy_apply : val_main_v41 (F := Ideal) x0 x1 x2 x3 x4 (ix2 r q)
    = (∑ k : Fin 2824, val_main_v3 (F := Ideal) x0 x1 x2 (ix2 r k) * x3 (ix2 q k)) + (Ideal.ofBits .f32 0x3FB504F3#32 : EReal) * x4 (ix2 r q) := by
  unfold val_main_v41 val_main_v38
  generalize val_main_v3 (F := Ideal) x0 x1 x2 = y
  pointwise [val_main_v40, val_main_v39, val_main_v0, val_main_cst_8]

/-- The gradient that reaches the norm's result. -/
theorem dy_value : val_main_v41 (F := Ideal) x0 x1 x2 x3 x4 = reachLayer x0 x1 x2 x3 x4 := by
  funext i
  obtain ⟨r, q, rfl⟩ := pair i
  rw [dy_apply, add_comm]
  refine congrArg (fun s : EReal => (Ideal.ofBits .f32 0x3FB504F3#32 : EReal) * x4 (ix2 r q) + s) ?_
  rw [Finset.sum_range]
  exact Finset.sum_congr rfl fun k _ => congr (congrArg _ (joined_apply x0 x1 x2 r k)) (Products.at2_of_lt x3 q.isLt k.isLt).symm

theorem centred_apply : val_main_v11 (F := Ideal) x5 (ix2 r q) = centred (fun k => x5 (ix2 r k)) q := by
  pointwise [val_main_v11, val_main_v10, val_main_v9, val_main_v8, val_main_v7, val_main_v6, val_main_cst_0, val_main_cst_1]
  rfl

theorem centred'_apply : val_main_v20 (F := Ideal) x5 (ix2 r q) = centred (fun k => x5 (ix2 r k)) q := by
  rw [← centred_apply]
  pointwise [val_main_v20, val_main_v19, val_main_v11, val_main_v10]

theorem spread_apply : val_main_v22 (F := Ideal) x5 (ix2 r 0) = spread (fun k => x5 (ix2 r k)) := by
  unfold spread
  simp only [← centred_apply]
  unfold val_main_v22 val_main_v18 val_main_v16 val_main_v15 val_main_v12
  generalize val_main_v11 (F := Ideal) x5 = y
  pointwise [val_main_v21, val_main_cst_5, val_main_v17, val_main_cst_4, val_main_cst_3]
  rfl

theorem scale_apply : val_main_v23 (F := Ideal) x5 (ix2 r 0) = scale (fun k => x5 (ix2 r k)) := by
  unfold scale
  rw [← spread_apply]
  unfold val_main_v23
  generalize val_main_v22 (F := Ideal) x5 = y
  pointwise

theorem unit_apply : val_main_v28 (F := Ideal) x5 (ix2 r q) = unitRow (fun k => x5 (ix2 r k)) q := by
  unfold unitRow
  rw [← centred'_apply, ← scale_apply]
  unfold val_main_v28 val_main_v27
  generalize val_main_v20 (F := Ideal) x5 = y
  generalize val_main_v23 (F := Ideal) x5 = s
  pointwise

theorem dyg_apply : val_main_v49 (F := Ideal) x0 x1 x2 x3 x4 x6 (ix2 r q) = val_main_v41 (F := Ideal) x0 x1 x2 x3 x4 (ix2 r q) * x6 (ix2 0 q) := by
  unfold val_main_v49
  generalize val_main_v41 (F := Ideal) x0 x1 x2 x3 x4 = y
  pointwise [val_main_v48, val_main_v29, val_main_v4]

theorem slope_apply : val_main_v61 (F := Ideal) x0 x1 x2 x3 x4 x5 x6 (ix2 r 0) = Layers.slope (fun k => x5 (ix2 r k)) (fun k => val_main_v49 (F := Ideal) x0 x1 x2 x3 x4 x6 (ix2 r k)) := by
  unfold Layers.slope
  simp only [← centred'_apply, ← scale_apply, ← spread_apply]
  unfold val_main_v61 val_main_v56 val_main_v53 val_main_v52 val_main_v51 val_main_v26 val_main_v24
  generalize val_main_v49 (F := Ideal) x0 x1 x2 x3 x4 x6 = y
  generalize val_main_v20 (F := Ideal) x5 = f
  generalize val_main_v23 (F := Ideal) x5 = s
  generalize val_main_v22 (F := Ideal) x5 = v
  pointwise [val_main_v60, val_main_cst_15, val_main_cst_13, val_main_v25, val_main_cst_6]

theorem rows_apply : val_main_v74 (F := Ideal) x0 x1 x2 x3 x4 x5 x6 (ix2 r q) = backRef (fun k => x5 (ix2 r k)) (fun k => val_main_v49 (F := Ideal) x0 x1 x2 x3 x4 x6 (ix2 r k)) q := by
  unfold backRef
  simp only [← centred_apply, ← scale_apply, ← slope_apply]
  unfold val_main_v74 val_main_v73 val_main_v72 val_main_v71 val_main_v69 val_main_v68 val_main_v67 val_main_v66 val_main_v65 val_main_v64 val_main_v63 val_main_v62 val_main_v59 val_main_v58 val_main_v57 val_main_v55 val_main_v54 val_main_v14
  generalize val_main_v61 (F := Ideal) x0 x1 x2 x3 x4 x5 x6 = l
  generalize val_main_v49 (F := Ideal) x0 x1 x2 x3 x4 x6 = y
  generalize val_main_v11 (F := Ideal) x5 = f
  generalize val_main_v23 (F := Ideal) x5 = s
  pointwise [val_main_v13, val_main_cst_2, val_main_cst_16, val_main_cst_14, val_main_cst_17, val_main_v70, val_main_cst_18, val_main_cst_19]
  simp only [Fin.sum_univ_one]

theorem narrow_apply : val_main_v75 (F := Ideal) x0 x1 x2 x3 x4 x5 x6 (ix2 r q) = val_main_v74 (F := Ideal) x0 x1 x2 x3 x4 x5 x6 (ix2 r q) := by
  unfold val_main_v75
  generalize val_main_v74 (F := Ideal) x0 x1 x2 x3 x4 x5 x6 = y
  pointwise

/-- The gradient of the scale. -/
theorem scale_value : val_main_v76 (F := Ideal) x0 x1 x2 x3 x4 x5 = columnSums (timesUnit x5 (reachLayer x0 x1 x2 x3 x4)) := by
  funext i
  obtain ⟨q, rfl⟩ := single i
  unfold columnSums timesUnit unitRows
  rw [← dy_value]
  refine Eq.trans ?_ (Finset.sum_congr rfl fun r _ => (mul_comm _ _).trans (congrArg (_ * ·) (unit_apply x5 r q)))
  unfold val_main_v76 val_main_v50 val_main_v47 val_main_v46 val_main_v45
  generalize val_main_v41 (F := Ideal) x0 x1 x2 x3 x4 = y
  generalize val_main_v28 (F := Ideal) x5 = u
  pointwise [val_main_cst_11, val_main_cst_12]
  simp only [Fin.sum_univ_one]

/-- The gradient of the shift. -/
theorem shift_value : val_main_v77 (F := Ideal) x0 x1 x2 x3 x4 = columnSums (reachLayer x0 x1 x2 x3 x4) := by
  funext i
  obtain ⟨q, rfl⟩ := single i
  unfold columnSums
  rw [← dy_value]
  unfold val_main_v77 val_main_v44 val_main_v43 val_main_v42
  generalize val_main_v41 (F := Ideal) x0 x1 x2 x3 x4 = y
  pointwise [val_main_cst_9, val_main_cst_10]
  simp only [Fin.sum_univ_one]

theorem at2_real {a b : ℕ} {x : Arr a b} (h : ∀ i, IsReal (x i)) (r k : ℕ) : IsReal (Products.at2 x r k) := by
  unfold Products.at2
  split_ifs
  · exact h _
  · exact ⟨0, rfl⟩

/-- Of real numbers the gradient that reaches the norm's result is real. -/
theorem reach_real (h0 : ∀ i, IsReal (x0 i)) (h1 : ∀ i, IsReal (x1 i)) (h2 : ∀ i, IsReal (x2 i)) (h3 : ∀ i, IsReal (x3 i)) (h4 : ∀ i, IsReal (x4 i)) (i : (⟨2, ![4096, 1024]⟩ : Shape).Idx) :
    IsReal (reachLayer x0 x1 x2 x3 x4 i) := by
  refine (IsReal.mul word_scale (h4 _)).add ?_
  rw [Finset.sum_range]
  refine IsReal.sum fun k => IsReal.mul ?_ (at2_real h3 _ _)
  unfold Cert.InGradIdeal.Sums.joined
  split_ifs
  · exact at2_real h0 _ _
  · exact at2_real h1 _ _
  · exact at2_real h2 _ _

/-- The gradient of the rows. -/
theorem rows_value (h0 : ∀ i, IsReal (x0 i)) (h1 : ∀ i, IsReal (x1 i)) (h2 : ∀ i, IsReal (x2 i)) (h3 : ∀ i, IsReal (x3 i)) (h4 : ∀ i, IsReal (x4 i)) (h6 : ∀ i, IsReal (x6 i)) : val_main_v74 (F := Ideal) x0 x1 x2 x3 x4 x5 x6 = backRows x5 (reachLayer x0 x1 x2 x3 x4) x6 := by
  funext i
  obtain ⟨r, q, rfl⟩ := pair i
  rw [rows_apply, back_eq_of_real fun k => by rw [dyg_apply, dy_value]; exact (reach_real _ _ _ _ _ h0 h1 h2 h3 h4 _).mul (h6 _)]
  simp only [dyg_apply, dy_value]
  rfl

/-- The same in the narrower format. -/
theorem narrow_value (h0 : ∀ i, IsReal (x0 i)) (h1 : ∀ i, IsReal (x1 i)) (h2 : ∀ i, IsReal (x2 i)) (h3 : ∀ i, IsReal (x3 i)) (h4 : ∀ i, IsReal (x4 i)) (h6 : ∀ i, IsReal (x6 i)) : val_main_v75 (F := Ideal) x0 x1 x2 x3 x4 x5 x6 = backRows x5 (reachLayer x0 x1 x2 x3 x4) x6 := by
  rw [← rows_value _ _ _ _ _ _ _ h0 h1 h2 h3 h4 h6]
  funext i
  obtain ⟨r, q, rfl⟩ := pair i
  exact narrow_apply _ _ _ _ _ _ _ _ _

/-- Finite arrays hold real numbers. -/
theorem reals [Cert.Pre_finite_layer.Facts]
    (h0 : (Cert.Pre_finite_layer.fn (F := Ideal) x0 x1 x2 x3 x4 x5 x6).1 = fun _ => 1#1)
    (h1 : (Cert.Pre_finite_layer.fn (F := Ideal) x0 x1 x2 x3 x4 x5 x6).2.1 = fun _ => 1#1)
    (h2 : (Cert.Pre_finite_layer.fn (F := Ideal) x0 x1 x2 x3 x4 x5 x6).2.2.1 = fun _ => 1#1)
    (h3 : (Cert.Pre_finite_layer.fn (F := Ideal) x0 x1 x2 x3 x4 x5 x6).2.2.2.1 = fun _ => 1#1)
    (h4 : (Cert.Pre_finite_layer.fn (F := Ideal) x0 x1 x2 x3 x4 x5 x6).2.2.2.2.1 = fun _ => 1#1)
    (h6 : (Cert.Pre_finite_layer.fn (F := Ideal) x0 x1 x2 x3 x4 x5 x6).2.2.2.2.2 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x6 i) :=
  ⟨fun i => ⟨_, Cert.Swa.real_of_lt _ (congrFun h0 i)⟩, fun i => ⟨_, Cert.Swa.real_of_lt _ (congrFun h1 i)⟩, fun i => ⟨_, Cert.Swa.real_of_lt _ (congrFun h2 i)⟩, fun i => ⟨_, Cert.Swa.real_of_lt _ (congrFun h3 i)⟩, fun i => ⟨_, Cert.Swa.real_of_lt _ (congrFun h4 i)⟩, fun i => ⟨_, Cert.Swa.real_of_lt _ (congrFun h6 i)⟩⟩

/-- From arrays that agree, the results are one. -/
theorem agreeing (b0 : Arr 4096 1024) (b1 : Arr 4096 1152) (b2 : Arr 4096 768) (b3 : Arr 1024 2824) (b4 : Arr 4096 1024) (b5 : Arr 4096 1024) (b6 : Arr 1 1024)
    (e : b0 = x0 ∧ b1 = x1 ∧ b2 = x2 ∧ b3 = x3 ∧ b4 = x4 ∧ b5 = x5 ∧ b6 = x6)
    (h : (∀ i, IsReal (x0 i)) ∧ (∀ i, IsReal (x1 i)) ∧ (∀ i, IsReal (x2 i)) ∧ (∀ i, IsReal (x3 i)) ∧ (∀ i, IsReal (x4 i)) ∧ ∀ i, IsReal (x6 i)) :
    val_main_v74 (F := Ideal) b0 b1 b2 b3 b4 b5 b6 = backRows x5 (reachLayer x0 x1 x2 x3 x4) x6 ∧ val_main_v75 (F := Ideal) b0 b1 b2 b3 b4 b5 b6 = backRows x5 (reachLayer x0 x1 x2 x3 x4) x6
      ∧ val_main_v76 (F := Ideal) b0 b1 b2 b3 b4 b5 = columnSums (timesUnit x5 (reachLayer x0 x1 x2 x3 x4)) ∧ val_main_v77 (F := Ideal) b0 b1 b2 b3 b4 = columnSums (reachLayer x0 x1 x2 x3 x4) := by
  obtain ⟨e0, e1, e2, e3, e4, e5, e6⟩ := e
  obtain ⟨h0, h1, h2, h3, h4, h6⟩ := h
  subst e0 e1 e2 e3 e4 e5 e6
  exact ⟨rows_value _ _ _ _ _ _ _ h0 h1 h2 h3 h4 h6, narrow_value _ _ _ _ _ _ _ h0 h1 h2 h3 h4 h6, scale_value _ _ _ _ _ _, shift_value _ _ _ _ _⟩

end

/-- The reference ends with its arguments unchanged and, having no semaphore, with every counter at zero. -/
theorem frame : Cert.quiescent_LayerGradRefIdeal (hLayerGradRefIdeal := Gen.facts) := fun m ρ _ =>
  (θ_run Cert.LayerGradRefIdeal.defs _ _).mono (fun r h => ⟨fun c => (h c).2.2.2.2, sem_eq_zero_of_no_sems (by decide) r.2⟩) (Value.run m ρ)

theorem frame_finite : Cert.quiescent_LayerGradRefIdeal_pre_finite_layer (hLayerGradRefIdeal := Gen.facts) (hPre_finite_layer := Cert.Pre_finite_layer.Gen.facts) := fun m ρ _ =>
  frame m ρ trivial

/-- The kernel's results are the reference's, where the gradients and the weight are finite. -/
theorem equation : Cert.algebraic_LayerGradIdeal_LayerGradRefIdeal_pre_finite_layer (hLayerGradIdeal := Cert.LayerGradIdeal.Gen.facts) (hLayerGradRefIdeal := Gen.facts)
    (hPre_finite_layer := Cert.Pre_finite_layer.Gen.facts) := by
  intro m ρ m' ρ' pre agree
  letI := Cert.Pre_finite_layer.Gen.facts
  refine ⟨fun c => (Cert.LayerGradIdeal.Gen.dats m 0 c).arrAt 9 Cert.LayerGradIdeal.cfg0.N, fun c => (Cert.LayerGradIdeal.Gen.dats m 0 c).arrAt 10 Cert.LayerGradIdeal.cfg0.N, fun c => (Cert.LayerGradIdeal.Gen.dats m 0 c).arrAt 11 Cert.LayerGradIdeal.cfg0.N, fun c => (Cert.LayerGradIdeal.Gen.dats m 0 c).arrAt 12 Cert.LayerGradIdeal.cfg0.N,
    Cert.LayerGradIdeal.Value.run_blocks m ρ, ?_⟩
  refine (θ_run Cert.LayerGradRefIdeal.defs _ _).mono (fun r h c => ?_) (Value.run m' ρ')
  have e := agreeing _ _ _ _ _ _ _ _ _ _ _ _ _ _ (agree c) (reals _ _ _ _ _ _ _ (pre c).1 (pre c).2.1 (pre c).2.2.1 (pre c).2.2.2.1 (pre c).2.2.2.2.1 (pre c).2.2.2.2.2)
  obtain ⟨h0, h1, h2, h3, hargs⟩ := h c
  exact ⟨((h0.trans (val_main_v74_eq m' c)).trans e.1).trans (Cert.LayerGradIdeal.Sums.result9 m c).symm,
    ((h1.trans (val_main_v75_eq m' c)).trans e.2.1).trans (Cert.LayerGradIdeal.Sums.result10 m c).symm,
    ((h2.trans (val_main_v76_eq _ _ _ _ _ _)).trans e.2.2.1).trans (Cert.LayerGradIdeal.Sums.result11 m c).symm,
    ((h3.trans (val_main_v77_eq _ _ _ _ _)).trans e.2.2.2).trans (Cert.LayerGradIdeal.Sums.result12 m c).symm, hargs⟩

end Cert.LayerGradRefIdeal.Sums
-- ==== Proof.lean ====
/-
  The certificate: the frames of each call, of its reading over the extended reals and of its reference, and the equation of the
  call's results with the reference's. The window attention's equation is proved below on finite arrays; the equations of the
  other calls, products and layers, are proved in the modules imported.
-/
module

public import proofs.«01_k».proof.Defs
public import proofs.«01_k».proof.Proof.Gen.SwaBwd
public import proofs.«01_k».proof.Proof.Gen.SwaBwd.Skeleton
public import proofs.«01_k».proof.Proof.Gen.SwaBwd.Launch
public import proofs.«01_k».proof.Proof.Gen.SwaBwd.Points
public import proofs.«01_k».proof.Proof.Gen.SwaBwd.Frame
public import proofs.«01_k».proof.Proof.Gen.SwaBwdIdeal
public import proofs.«01_k».proof.Proof.Gen.SwaBwdIdeal.Skeleton
public import proofs.«01_k».proof.Proof.Gen.SwaBwdIdeal.Launch
public import proofs.«01_k».proof.Proof.Gen.SwaBwdIdeal.Points
public import proofs.«01_k».proof.Proof.Gen.SwaBwdIdeal.Frame
public import proofs.«01_k».proof.Proof.Gen.SwaRefIdeal
public import proofs.«01_k».proof.Proof.Gen.Pre_finite
public import proofs.«01_k».proof.Proof.Gen.SwaBwdIdeal.Value
public import proofs.«01_k».proof.Proof.Gen.SwaRefIdeal.Run
public import proofs.«01_k».proof.Proof.Gen.SwaRefIdeal.Read
public import proofs.«01_k».proof.Proof.Gen.WUp
public import proofs.«01_k».proof.Proof.Gen.WUp.Skeleton
public import proofs.«01_k».proof.Proof.Gen.WUp.Launch
public import proofs.«01_k».proof.Proof.Gen.WUp.Points
public import proofs.«01_k».proof.Proof.Gen.WUp.Frame
public import proofs.«01_k».proof.Proof.Gen.WUpIdeal
public import proofs.«01_k».proof.Proof.Gen.WUpIdeal.Skeleton
public import proofs.«01_k».proof.Proof.Gen.WUpIdeal.Launch
public import proofs.«01_k».proof.Proof.Gen.WUpIdeal.Points
public import proofs.«01_k».proof.Proof.Gen.WUpIdeal.Frame
public import proofs.«01_k».proof.Proof.Gen.WUpIdeal.Value
public import proofs.«01_k».proof.Proof.Gen.WUpRefIdeal
public import proofs.«01_k».proof.Proof.Gen.WUpRefIdeal.Run
public import proofs.«01_k».proof.Proof.Gen.WUpRefIdeal.Read
public import proofs.«01_k».proof.Proof.Gen.WDown
public import proofs.«01_k».proof.Proof.Gen.WDown.Skeleton
public import proofs.«01_k».proof.Proof.Gen.WDown.Launch
public import proofs.«01_k».proof.Proof.Gen.WDown.Points
public import proofs.«01_k».proof.Proof.Gen.WDown.Frame
public import proofs.«01_k».proof.Proof.Gen.WDownIdeal
public import proofs.«01_k».proof.Proof.Gen.WDownIdeal.Skeleton
public import proofs.«01_k».proof.Proof.Gen.WDownIdeal.Launch
public import proofs.«01_k».proof.Proof.Gen.WDownIdeal.Points
public import proofs.«01_k».proof.Proof.Gen.WDownIdeal.Frame
public import proofs.«01_k».proof.Proof.Gen.WDownIdeal.Value
public import proofs.«01_k».proof.Proof.Gen.WDownRefIdeal
public import proofs.«01_k».proof.Proof.Gen.WDownRefIdeal.Run
public import proofs.«01_k».proof.Proof.Gen.WDownRefIdeal.Read
public import proofs.«01_k».proof.Proof.Gen.WQ
public import proofs.«01_k».proof.Proof.Gen.WQ.Skeleton
public import proofs.«01_k».proof.Proof.Gen.WQ.Launch
public import proofs.«01_k».proof.Proof.Gen.WQ.Points
public import proofs.«01_k».proof.Proof.Gen.WQ.Frame
public import proofs.«01_k».proof.Proof.Gen.WQIdeal
public import proofs.«01_k».proof.Proof.Gen.WQIdeal.Skeleton
public import proofs.«01_k».proof.Proof.Gen.WQIdeal.Launch
public import proofs.«01_k».proof.Proof.Gen.WQIdeal.Points
public import proofs.«01_k».proof.Proof.Gen.WQIdeal.Frame
public import proofs.«01_k».proof.Proof.Gen.WQIdeal.Value
public import proofs.«01_k».proof.Proof.Gen.WQRefIdeal
public import proofs.«01_k».proof.Proof.Gen.WQRefIdeal.Run
public import proofs.«01_k».proof.Proof.Gen.WQRefIdeal.Read
public import proofs.«01_k».proof.Proof.Gen.WMl
public import proofs.«01_k».proof.Proof.Gen.WMl.Skeleton
public import proofs.«01_k».proof.Proof.Gen.WMl.Launch
public import proofs.«01_k».proof.Proof.Gen.WMl.Points
public import proofs.«01_k».proof.Proof.Gen.WMl.Frame
public import proofs.«01_k».proof.Proof.Gen.WMlIdeal
public import proofs.«01_k».proof.Proof.Gen.WMlIdeal.Skeleton
public import proofs.«01_k».proof.Proof.Gen.WMlIdeal.Launch
public import proofs.«01_k».proof.Proof.Gen.WMlIdeal.Points
public import proofs.«01_k».proof.Proof.Gen.WMlIdeal.Frame
public import proofs.«01_k».proof.Proof.Gen.WMlIdeal.Value
public import proofs.«01_k».proof.Proof.Gen.WMlRefIdeal
public import proofs.«01_k».proof.Proof.Gen.WMlRefIdeal.Run
public import proofs.«01_k».proof.Proof.Gen.WMlRefIdeal.Read
public import proofs.«01_k».proof.Proof.Gen.WSw
public import proofs.«01_k».proof.Proof.Gen.WSw.Skeleton
public import proofs.«01_k».proof.Proof.Gen.WSw.Launch
public import proofs.«01_k».proof.Proof.Gen.WSw.Points
public import proofs.«01_k».proof.Proof.Gen.WSw.Frame
public import proofs.«01_k».proof.Proof.Gen.WSwIdeal
public import proofs.«01_k».proof.Proof.Gen.WSwIdeal.Skeleton
public import proofs.«01_k».proof.Proof.Gen.WSwIdeal.Launch
public import proofs.«01_k».proof.Proof.Gen.WSwIdeal.Points
public import proofs.«01_k».proof.Proof.Gen.WSwIdeal.Frame
public import proofs.«01_k».proof.Proof.Gen.WSwIdeal.Value
public import proofs.«01_k».proof.Proof.Gen.WSwRefIdeal
public import proofs.«01_k».proof.Proof.Gen.WSwRefIdeal.Run
public import proofs.«01_k».proof.Proof.Gen.WSwRefIdeal.Read
public import proofs.«01_k».proof.Proof.Gen.WWo
public import proofs.«01_k».proof.Proof.Gen.WWo.Skeleton
public import proofs.«01_k».proof.Proof.Gen.WWo.Launch
public import proofs.«01_k».proof.Proof.Gen.WWo.Points
public import proofs.«01_k».proof.Proof.Gen.WWo.Frame
public import proofs.«01_k».proof.Proof.Gen.WWoIdeal
public import proofs.«01_k».proof.Proof.Gen.WWoIdeal.Skeleton
public import proofs.«01_k».proof.Proof.Gen.WWoIdeal.Launch
public import proofs.«01_k».proof.Proof.Gen.WWoIdeal.Points
public import proofs.«01_k».proof.Proof.Gen.WWoIdeal.Frame
public import proofs.«01_k».proof.Proof.Gen.WWoIdeal.Value
public import proofs.«01_k».proof.Proof.Gen.WWoRefIdeal
public import proofs.«01_k».proof.Proof.Gen.WWoRefIdeal.Run
public import proofs.«01_k».proof.Proof.Gen.WWoRefIdeal.Read
public import proofs.«01_k».proof.Proof.Gen.WHalf
public import proofs.«01_k».proof.Proof.Gen.WHalf.Skeleton
public import proofs.«01_k».proof.Proof.Gen.WHalf.Launch
public import proofs.«01_k».proof.Proof.Gen.WHalf.Points
public import proofs.«01_k».proof.Proof.Gen.WHalf.Frame
public import proofs.«01_k».proof.Proof.Gen.WHalfIdeal
public import proofs.«01_k».proof.Proof.Gen.WHalfIdeal.Skeleton
public import proofs.«01_k».proof.Proof.Gen.WHalfIdeal.Launch
public import proofs.«01_k».proof.Proof.Gen.WHalfIdeal.Points
public import proofs.«01_k».proof.Proof.Gen.WHalfIdeal.Frame
public import proofs.«01_k».proof.Proof.Gen.WHalfIdeal.Value
public import proofs.«01_k».proof.Proof.Gen.WHalfRefIdeal
public import proofs.«01_k».proof.Proof.Gen.WHalfRefIdeal.Run
public import proofs.«01_k».proof.Proof.Gen.WHalfRefIdeal.Read
public import proofs.«01_k».proof.Proof.Gen.WKv
public import proofs.«01_k».proof.Proof.Gen.WKv.Skeleton
public import proofs.«01_k».proof.Proof.Gen.WKv.Launch
public import proofs.«01_k».proof.Proof.Gen.WKv.Points
public import proofs.«01_k».proof.Proof.Gen.WKv.Frame
public import proofs.«01_k».proof.Proof.Gen.WKvIdeal
public import proofs.«01_k».proof.Proof.Gen.WKvIdeal.Skeleton
public import proofs.«01_k».proof.Proof.Gen.WKvIdeal.Launch
public import proofs.«01_k».proof.Proof.Gen.WKvIdeal.Points
public import proofs.«01_k».proof.Proof.Gen.WKvIdeal.Frame
public import proofs.«01_k».proof.Proof.Gen.WKvIdeal.Value
public import proofs.«01_k».proof.Proof.Gen.WKvRefIdeal
public import proofs.«01_k».proof.Proof.Gen.WKvRefIdeal.Run
public import proofs.«01_k».proof.Proof.Gen.WKvRefIdeal.Read
public import proofs.«01_k».proof.Proof.Gen.DHcat
public import proofs.«01_k».proof.Proof.Gen.DHcat.Skeleton
public import proofs.«01_k».proof.Proof.Gen.DHcat.Launch
public import proofs.«01_k».proof.Proof.Gen.DHcat.Points
public import proofs.«01_k».proof.Proof.Gen.DHcat.Frame
public import proofs.«01_k».proof.Proof.Gen.DHcatIdeal
public import proofs.«01_k».proof.Proof.Gen.DHcatIdeal.Skeleton
public import proofs.«01_k».proof.Proof.Gen.DHcatIdeal.Launch
public import proofs.«01_k».proof.Proof.Gen.DHcatIdeal.Points
public import proofs.«01_k».proof.Proof.Gen.DHcatIdeal.Frame
public import proofs.«01_k».proof.Proof.Gen.DHcatIdeal.Value
public import proofs.«01_k».proof.Proof.Gen.DHcatRefIdeal
public import proofs.«01_k».proof.Proof.Gen.DHcatRefIdeal.Run
public import proofs.«01_k».proof.Proof.Gen.DHcatRefIdeal.Read
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.InGradRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.XaOut
public import proofs.«01_k».proof.Proof.Gen.XaOut.Skeleton
public import proofs.«01_k».proof.Proof.Gen.XaOut.Launch
public import proofs.«01_k».proof.Proof.Gen.XaOut.Points
public import proofs.«01_k».proof.Proof.Gen.XaOut.Frame
public import proofs.«01_k».proof.Proof.Gen.XaOutIdeal
public import proofs.«01_k».proof.Proof.Gen.XaOutIdeal.Skeleton
public import proofs.«01_k».proof.Proof.Gen.XaOutIdeal.Launch
public import proofs.«01_k».proof.Proof.Gen.XaOutIdeal.Points
public import proofs.«01_k».proof.Proof.Gen.XaOutIdeal.Frame
public import proofs.«01_k».proof.Proof.Gen.XaOutIdeal.Value
public import proofs.«01_k».proof.Proof.Gen.XaOutRefIdeal
public import proofs.«01_k».proof.Proof.Gen.XaOutRefIdeal.Run
public import proofs.«01_k».proof.Proof.Gen.XaOutRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendIdeal.Value
public import proofs.«01_k».proof.Proof.Gen.AttendRefIdeal
public import proofs.«01_k».proof.Proof.Gen.AttendRefIdeal.Run
public import proofs.«01_k».proof.Proof.Gen.AttendRefIdeal.Read
public import proofs.«01_k».proof.Proof.Gen.UpGrad
public import proofs.«01_k».proof.Proof.Gen.UpGrad.Skeleton
public import proofs.«01_k».proof.Proof.Gen.UpGrad.Launch
public import proofs.«01_k».proof.Proof.Gen.UpGrad.Points
public import proofs.«01_k».proof.Proof.Gen.UpGrad.Frame
public import proofs.«01_k».proof.Proof.Gen.UpGradIdeal
public import proofs.«01_k».proof.Proof.Gen.UpGradIdeal.Skeleton
public import proofs.«01_k».proof.Proof.Gen.UpGradIdeal.Launch
public import proofs.«01_k».proof.Proof.Gen.UpGradIdeal.Points
public import proofs.«01_k».proof.Proof.Gen.UpGradIdeal.Frame
public import proofs.«01_k».proof.Proof.Gen.UpGradIdeal.Value
public import proofs.«01_k».proof.Proof.Gen.UpGradRefIdeal
public import proofs.«01_k».proof.Proof.Gen.UpGradRefIdeal.Run
public import proofs.«01_k».proof.Proof.Gen.UpGradRefIdeal.Read
public import proofs.«01_k».proof.Proof.Gen.Pre_finite_up
public import proofs.«01_k».proof.Proof.Gen.QueryGrad
public import proofs.«01_k».proof.Proof.Gen.QueryGrad.Skeleton
public import proofs.«01_k».proof.Proof.Gen.QueryGrad.Launch
public import proofs.«01_k».proof.Proof.Gen.QueryGrad.Points
public import proofs.«01_k».proof.Proof.Gen.QueryGrad.Frame
public import proofs.«01_k».proof.Proof.Gen.QueryGradIdeal
public import proofs.«01_k».proof.Proof.Gen.QueryGradIdeal.Skeleton
public import proofs.«01_k».proof.Proof.Gen.QueryGradIdeal.Launch
public import proofs.«01_k».proof.Proof.Gen.QueryGradIdeal.Points
public import proofs.«01_k».proof.Proof.Gen.QueryGradIdeal.Frame
public import proofs.«01_k».proof.Proof.Gen.QueryGradIdeal.Value
public import proofs.«01_k».proof.Proof.Gen.QueryGradRefIdeal
public import proofs.«01_k».proof.Proof.Gen.QueryGradRefIdeal.Run
public import proofs.«01_k».proof.Proof.Gen.QueryGradRefIdeal.Read
public import proofs.«01_k».proof.Proof.Gen.Pre_finite_query
public import proofs.«01_k».proof.Proof.Gen.LayerGrad
public import proofs.«01_k».proof.Proof.Gen.LayerGrad.Skeleton
public import proofs.«01_k».proof.Proof.Gen.LayerGrad.Launch
public import proofs.«01_k».proof.Proof.Gen.LayerGrad.Points
public import proofs.«01_k».proof.Proof.Gen.LayerGrad.Frame
public import proofs.«01_k».proof.Proof.Gen.LayerGradIdeal
public import proofs.«01_k».proof.Proof.Gen.LayerGradIdeal.Skeleton
public import proofs.«01_k».proof.Proof.Gen.LayerGradIdeal.Launch
public import proofs.«01_k».proof.Proof.Gen.LayerGradIdeal.Points
public import proofs.«01_k».proof.Proof.Gen.LayerGradIdeal.Frame
public import proofs.«01_k».proof.Proof.Gen.LayerGradIdeal.Value
public import proofs.«01_k».proof.Proof.Gen.LayerGradRefIdeal
public import proofs.«01_k».proof.Proof.Gen.LayerGradRefIdeal.Run
public import proofs.«01_k».proof.Proof.Gen.LayerGradRefIdeal.Read
public import proofs.«01_k».proof.Proof.Gen.Pre_finite_layer
public import proofs.«01_k».proof.Proof.Swa.Final
public import proofs.«01_k».proof.Proof.Swa.Reference
public import proofs.«01_k».proof.Proof.Swa.Finite
public import proofs.«01_k».proof.Proof.Products.UpReference
public import proofs.«01_k».proof.Proof.Products.DownReference
public import proofs.«01_k».proof.Proof.Products.QueryReference
public import proofs.«01_k».proof.Proof.Products.RecurrenceReference
public import proofs.«01_k».proof.Proof.Products.WindowReference
public import proofs.«01_k».proof.Proof.Products.OutReference
public import proofs.«01_k».proof.Proof.Products.HalfReference
public import proofs.«01_k».proof.Proof.Products.MemoryReference
public import proofs.«01_k».proof.Proof.Products.HeadsReference
public import proofs.«01_k».proof.Proof.Products.InputReference
public import proofs.«01_k».proof.Proof.Layers.ProjReference
public import proofs.«01_k».proof.Proof.Layers.MemKvReference
public import proofs.«01_k».proof.Proof.Layers.MixOutReference
public import proofs.«01_k».proof.Proof.Layers.XaOutReference
public import proofs.«01_k».proof.Proof.Layers.FfnOutReference
public import proofs.«01_k».proof.Proof.Layers.GateReference
public import proofs.«01_k».proof.Proof.Layers.AttendReference
public import proofs.«01_k».proof.Proof.Layers.UpGradReference
public import proofs.«01_k».proof.Proof.Layers.QueryGradReference
public import proofs.«01_k».proof.Proof.Layers.LayerGradReference
public import Idealize.ShloMosaic.Adequacy
public import Idealize.ShloMosaic.Init

@[expose] public section

set_option maxRecDepth 16384

noncomputable section

namespace Cert.Proof

open Idealize.ShloMosaic Idealize.SL.Sem Cert.Swa

/-- The reference ends with its arguments unchanged and, having no semaphore, with every counter at zero. -/
theorem frame_reference (m : (ℓ : Loc Cert.SwaRefIdeal.nD Cert.SwaRefIdeal.τ Cert.SwaRefIdeal.sig) → Buf (Elt Ideal) ℓ)
    (ρ : Dev Cert.SwaRefIdeal.nD → PrngReg) :
    θ_run (Cert.SwaRefIdeal.defs (F := Ideal)) (onTc (τ := Cert.SwaRefIdeal.τ) (Cert.SwaRefIdeal.main (F := Ideal))) ⟨m, fun _ => 0, ρ⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0) :=
  (θ_run Cert.SwaRefIdeal.defs _ _).mono (fun r h => ⟨fun c => (h c).2.2.2, sem_eq_zero_of_no_sems (by decide) r.2⟩)
    (Cert.SwaRefIdeal.Value.run m ρ)

/-- From arrays that agree, results that are the blocks' cotangents are the reference's results. -/
theorem reference_eq {A : Arrays} {o0 : (⟨2, ![4096, 768]⟩ : Shape).Idx → EReal} {o1 : (⟨3, ![8, 128, 256]⟩ : Shape).Idx → EReal}
    {o2 : (⟨2, ![1, 128]⟩ : Shape).Idx → EReal} {a0 b0 : (⟨2, ![4096, 1024]⟩ : Shape).Idx → EReal}
    {a1 b1 : (⟨2, ![4096, 3072]⟩ : Shape).Idx → EReal} {a2 b2 : (⟨3, ![8, 128, 256]⟩ : Shape).Idx → EReal} {a3 b3 : (⟨1, ![8]⟩ : Shape).Idx → EReal}
    (H : A.Are a0 a1 a2 a3) (K : A.Results o0 o1 o2) (e0 : b0 = a0) (e1 : b1 = a1) (e2 : b2 = a2) (e3 : b3 = a3) :
    Cert.SwaRefIdeal.Read.val_main_v168 (F := Ideal) b0 b1 b2 b3 = o0 ∧ Cert.SwaRefIdeal.Read.val_main_v144 (F := Ideal) b0 b1 b2 b3 = o1
      ∧ Cert.SwaRefIdeal.Read.val_main_v170 (F := Ideal) b0 b1 b2 b3 = o2 := by
  subst e0 e1 e2 e3
  exact (Cert.SwaRefIdeal.Chain.results H).unique K

/-- On finite arrays the kernel's results are the reference's. -/
theorem equation : Cert.algebraic_SwaBwdIdeal_SwaRefIdeal_pre_finite (hSwaBwdIdeal := Cert.SwaBwdIdeal.Gen.facts)
    (hSwaRefIdeal := Cert.SwaRefIdeal.Gen.facts) (hPre_finite := Cert.Pre_finite.Gen.facts) := by
  intro m ρ m' ρ' pre agree
  letI := Cert.Pre_finite.Gen.facts
  refine ⟨fun c => (Cert.SwaBwdIdeal.Gen.dats m 0 c).arrAt 8 Cert.SwaBwdIdeal.cfg0.N,
    fun c => (Cert.SwaBwdIdeal.Gen.dats m 0 c).arrAt 9 Cert.SwaBwdIdeal.cfg0.N,
    fun c => (Cert.SwaBwdIdeal.Gen.dats m 0 c).arrAt 10 Cert.SwaBwdIdeal.cfg0.N, Cert.SwaBwdIdeal.Value.run_blocks m ρ, ?_⟩
  refine (θ_run Cert.SwaRefIdeal.defs _ _).mono (fun r h c => ?_) (Cert.SwaRefIdeal.Value.run m' ρ')
  have H := Arrays.of_are _ _ _ _ (pre c).1 (pre c).2.1 (pre c).2.2.1 (pre c).2.2.2
  have k := reference_eq H (Cert.SwaBwdIdeal.Block.results (m := m) (c := c) H) (agree c).1 (agree c).2.1 (agree c).2.2.1 (agree c).2.2.2
  exact ⟨((h c).1.trans (Cert.SwaRefIdeal.Read.val_main_v168_eq (StableHlo.launchContents m' c))).trans k.1,
    ((h c).2.1.trans (Cert.SwaRefIdeal.Read.val_main_v144_eq (StableHlo.launchContents m' c))).trans k.2.1,
    ((h c).2.2.1.trans (Cert.SwaRefIdeal.Read.val_main_v170_eq (StableHlo.launchContents m' c))).trans k.2.2, (h c).2.2.2⟩

theorem claim : Cert.Claim :=
  ⟨Cert.SwaBwd.Gen.facts, Cert.SwaBwdIdeal.Gen.facts, Cert.SwaRefIdeal.Gen.facts,
    Cert.WUp.Gen.facts, Cert.WUpIdeal.Gen.facts, Cert.WUpRefIdeal.Gen.facts,
    Cert.WDown.Gen.facts, Cert.WDownIdeal.Gen.facts, Cert.WDownRefIdeal.Gen.facts,
    Cert.WQ.Gen.facts, Cert.WQIdeal.Gen.facts, Cert.WQRefIdeal.Gen.facts,
    Cert.WMl.Gen.facts, Cert.WMlIdeal.Gen.facts, Cert.WMlRefIdeal.Gen.facts,
    Cert.WSw.Gen.facts, Cert.WSwIdeal.Gen.facts, Cert.WSwRefIdeal.Gen.facts,
    Cert.WWo.Gen.facts, Cert.WWoIdeal.Gen.facts, Cert.WWoRefIdeal.Gen.facts,
    Cert.WHalf.Gen.facts, Cert.WHalfIdeal.Gen.facts, Cert.WHalfRefIdeal.Gen.facts,
    Cert.WKv.Gen.facts, Cert.WKvIdeal.Gen.facts, Cert.WKvRefIdeal.Gen.facts,
    Cert.DHcat.Gen.facts, Cert.DHcatIdeal.Gen.facts, Cert.DHcatRefIdeal.Gen.facts,
    Cert.InGrad.Gen.facts, Cert.InGradIdeal.Gen.facts, Cert.InGradRefIdeal.Gen.facts,
    Cert.Proj.Gen.facts, Cert.ProjIdeal.Gen.facts, Cert.ProjRefIdeal.Gen.facts,
    Cert.MemKv.Gen.facts, Cert.MemKvIdeal.Gen.facts, Cert.MemKvRefIdeal.Gen.facts,
    Cert.MixOut.Gen.facts, Cert.MixOutIdeal.Gen.facts, Cert.MixOutRefIdeal.Gen.facts,
    Cert.XaOut.Gen.facts, Cert.XaOutIdeal.Gen.facts, Cert.XaOutRefIdeal.Gen.facts,
    Cert.FfnOut.Gen.facts, Cert.FfnOutIdeal.Gen.facts, Cert.FfnOutRefIdeal.Gen.facts,
    Cert.Gate.Gen.facts, Cert.GateIdeal.Gen.facts, Cert.GateRefIdeal.Gen.facts,
    Cert.Attend.Gen.facts, Cert.AttendIdeal.Gen.facts, Cert.AttendRefIdeal.Gen.facts,
    Cert.UpGrad.Gen.facts, Cert.UpGradIdeal.Gen.facts, Cert.UpGradRefIdeal.Gen.facts,
    Cert.QueryGrad.Gen.facts, Cert.QueryGradIdeal.Gen.facts, Cert.QueryGradRefIdeal.Gen.facts,
    Cert.LayerGrad.Gen.facts, Cert.LayerGradIdeal.Gen.facts, Cert.LayerGradRefIdeal.Gen.facts,
    Cert.Pre_finite.Gen.facts, Cert.Pre_finite_up.Gen.facts, Cert.Pre_finite_query.Gen.facts, Cert.Pre_finite_layer.Gen.facts,
    fun m ρ _ => Cert.SwaBwd.Gen.frame m ρ, fun m ρ _ => Cert.SwaBwdIdeal.Gen.frame m ρ, fun m ρ _ => Cert.SwaBwdIdeal.Gen.frame m ρ,
    fun m ρ _ => frame_reference m ρ, fun m ρ _ => frame_reference m ρ,
    fun m ρ _ => Cert.WUp.Gen.frame m ρ, fun m ρ _ => Cert.WUpIdeal.Gen.frame m ρ, Cert.WUpRefIdeal.Sums.frame,
    fun m ρ _ => Cert.WDown.Gen.frame m ρ, fun m ρ _ => Cert.WDownIdeal.Gen.frame m ρ, Cert.WDownRefIdeal.Sums.frame,
    fun m ρ _ => Cert.WQ.Gen.frame m ρ, fun m ρ _ => Cert.WQIdeal.Gen.frame m ρ, Cert.WQRefIdeal.Sums.frame,
    fun m ρ _ => Cert.WMl.Gen.frame m ρ, fun m ρ _ => Cert.WMlIdeal.Gen.frame m ρ, Cert.WMlRefIdeal.Sums.frame,
    fun m ρ _ => Cert.WSw.Gen.frame m ρ, fun m ρ _ => Cert.WSwIdeal.Gen.frame m ρ, Cert.WSwRefIdeal.Sums.frame,
    fun m ρ _ => Cert.WWo.Gen.frame m ρ, fun m ρ _ => Cert.WWoIdeal.Gen.frame m ρ, Cert.WWoRefIdeal.Sums.frame,
    fun m ρ _ => Cert.WHalf.Gen.frame m ρ, fun m ρ _ => Cert.WHalfIdeal.Gen.frame m ρ, Cert.WHalfRefIdeal.Sums.frame,
    fun m ρ _ => Cert.WKv.Gen.frame m ρ, fun m ρ _ => Cert.WKvIdeal.Gen.frame m ρ, Cert.WKvRefIdeal.Sums.frame,
    fun m ρ _ => Cert.DHcat.Gen.frame m ρ, fun m ρ _ => Cert.DHcatIdeal.Gen.frame m ρ, Cert.DHcatRefIdeal.Sums.frame,
    fun m ρ _ => Cert.InGrad.Gen.frame m ρ, fun m ρ _ => Cert.InGradIdeal.Gen.frame m ρ, Cert.InGradRefIdeal.Sums.frame,
    fun m ρ _ => Cert.Proj.Gen.frame m ρ, fun m ρ _ => Cert.ProjIdeal.Gen.frame m ρ, Cert.ProjRefIdeal.Sums.frame,
    fun m ρ _ => Cert.MemKv.Gen.frame m ρ, fun m ρ _ => Cert.MemKvIdeal.Gen.frame m ρ, Cert.MemKvRefIdeal.Sums.frame,
    fun m ρ _ => Cert.MixOut.Gen.frame m ρ, fun m ρ _ => Cert.MixOutIdeal.Gen.frame m ρ, Cert.MixOutRefIdeal.Sums.frame,
    fun m ρ _ => Cert.XaOut.Gen.frame m ρ, fun m ρ _ => Cert.XaOutIdeal.Gen.frame m ρ, Cert.XaOutRefIdeal.Sums.frame,
    fun m ρ _ => Cert.FfnOut.Gen.frame m ρ, fun m ρ _ => Cert.FfnOutIdeal.Gen.frame m ρ, Cert.FfnOutRefIdeal.Sums.frame,
    fun m ρ _ => Cert.Gate.Gen.frame m ρ, fun m ρ _ => Cert.GateIdeal.Gen.frame m ρ, Cert.GateRefIdeal.Sums.frame,
    fun m ρ _ => Cert.Attend.Gen.frame m ρ, fun m ρ _ => Cert.AttendIdeal.Gen.frame m ρ, Cert.AttendRefIdeal.Sums.frame,
    fun m ρ _ => Cert.UpGrad.Gen.frame m ρ, fun m ρ _ => Cert.UpGradIdeal.Gen.frame m ρ, fun m ρ _ => Cert.UpGradIdeal.Gen.frame m ρ, Cert.UpGradRefIdeal.Sums.frame, Cert.UpGradRefIdeal.Sums.frame_finite,
    fun m ρ _ => Cert.QueryGrad.Gen.frame m ρ, fun m ρ _ => Cert.QueryGradIdeal.Gen.frame m ρ, fun m ρ _ => Cert.QueryGradIdeal.Gen.frame m ρ, Cert.QueryGradRefIdeal.Sums.frame, Cert.QueryGradRefIdeal.Sums.frame_finite,
    fun m ρ _ => Cert.LayerGrad.Gen.frame m ρ, fun m ρ _ => Cert.LayerGradIdeal.Gen.frame m ρ, fun m ρ _ => Cert.LayerGradIdeal.Gen.frame m ρ, Cert.LayerGradRefIdeal.Sums.frame, Cert.LayerGradRefIdeal.Sums.frame_finite,
    trivial, equation,
    trivial, Cert.WUpRefIdeal.Sums.equation,
    trivial, Cert.WDownRefIdeal.Sums.equation,
    trivial, Cert.WQRefIdeal.Sums.equation,
    trivial, Cert.WMlRefIdeal.Sums.equation,
    trivial, Cert.WSwRefIdeal.Sums.equation,
    trivial, Cert.WWoRefIdeal.Sums.equation,
    trivial, Cert.WHalfRefIdeal.Sums.equation,
    trivial, Cert.WKvRefIdeal.Sums.equation,
    trivial, Cert.DHcatRefIdeal.Sums.equation,
    trivial, Cert.InGradRefIdeal.Sums.equation,
    trivial, Cert.ProjRefIdeal.Sums.equation,
    trivial, Cert.MemKvRefIdeal.Sums.equation,
    trivial, Cert.MixOutRefIdeal.Sums.equation,
    trivial, Cert.XaOutRefIdeal.Sums.equation,
    trivial, Cert.FfnOutRefIdeal.Sums.equation,
    trivial, Cert.GateRefIdeal.Sums.equation,
    trivial, Cert.AttendRefIdeal.Sums.equation,
    trivial, Cert.UpGradRefIdeal.Sums.equation,
    trivial, Cert.QueryGradRefIdeal.Sums.equation,
    trivial, Cert.LayerGradRefIdeal.Sums.equation⟩

end Cert.Proof

end
